-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2.2 = (fun _ => 1#1)

def Pre_MlaBwd (m : (ℓ : Loc Cert.MlaBwd.nD Cert.MlaBwd.τ Cert.MlaBwd.sig) → Buf (Elt Bits) ℓ) : Prop :=
  True

def Pre_MlaBwdIdeal (m : (ℓ : Loc Cert.MlaBwdIdeal.nD Cert.MlaBwdIdeal.τ Cert.MlaBwdIdeal.sig) → Buf (Elt Ideal) ℓ) : Prop :=
  True

def Pre_MlaBwdIdeal_mla_finite [hPre_mla_finite : Cert.Pre_mla_finite.Facts] (m : (ℓ : Loc Cert.MlaBwdIdeal.nD Cert.MlaBwdIdeal.τ Cert.MlaBwdIdeal.sig) → Buf (Elt Ideal) ℓ) : Prop :=
  ∀ c : Dev Cert.MlaBwdIdeal.nD,
    (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4))).1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4))).2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4))).2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4))).2.2.2.1 = (fun _ => 1#1)
    ∧ (Cert.Pre_mla_finite.fn (F := Ideal) (m ((c.tc : Thread Cert.MlaBwdIdeal.nD Cert.MlaBwdIdeal.τ).loc Cert.MlaBwdIdeal.main_arg0)) (m ((c.tc : Thread Cert.MlaBwdIdeal.nD Cert.MlaBwdIdeal.τ).loc Cert.MlaBwdIdeal.main_arg1)) (m ((c.tc : Thread Cert.MlaBwdIdeal.nD Cert.MlaBwdIdeal.τ).loc Cert.MlaBwdIdeal.main_arg2)) (m ((c.tc : Thread Cert.MlaBwdIdeal.nD Cert.MlaBwdIdeal.τ).loc Cert.MlaBwdIdeal.main_arg3)) (m ((c.tc : Thread Cert.MlaBwdIdeal.nD Cert.MlaBwdIdeal.τ).loc Cert.MlaBwdIdeal.main_arg4))).2.2.2.2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.2.1 = (fun _ => 1#1)
    ∧ (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))).2.2.2.2 = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_finite [hPre_ctx_finite : Cert.Pre_ctx_finite.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.2.2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.2.2.2.1 = (fun _ => 1#1)
    ∧ (Cert.Pre_ctx_finite.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))).2.2.2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_finite [hPre_ctx_finite : Cert.Pre_ctx_finite.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.2.2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.2.2.2.1 = (fun _ => 1#1)
    ∧ (Cert.Pre_ctx_finite.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5))).2.2.2.2.2 = (fun _ => 1#1)

def Pre_Norm2 (m : (ℓ : Loc Cert.Norm2.nD Cert.Norm2.τ Cert.Norm2.sig) → Buf (Elt Bits) ℓ) : Prop :=
  True

def Pre_Norm2Ideal (m : (ℓ : Loc Cert.Norm2Ideal.nD Cert.Norm2Ideal.τ Cert.Norm2Ideal.sig) → Buf (Elt Ideal) ℓ) : Prop :=
  True

def Pre_Norm2Ideal_norm2_finite [hPre_norm2_finite : Cert.Pre_norm2_finite.Facts] (m : (ℓ : Loc Cert.Norm2Ideal.nD Cert.Norm2Ideal.τ Cert.Norm2Ideal.sig) → Buf (Elt Ideal) ℓ) : Prop :=
  ∀ c : Dev Cert.Norm2Ideal.nD,
    (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.2.2.1 = (fun _ => 1#1)
    ∧ (Cert.Pre_norm2_finite.fn (F := Ideal) (m ((c.tc : Thread Cert.Norm2Ideal.nD Cert.Norm2Ideal.τ).loc Cert.Norm2Ideal.main_arg0)) (m ((c.tc : Thread Cert.Norm2Ideal.nD Cert.Norm2Ideal.τ).loc Cert.Norm2Ideal.main_arg1)) (m ((c.tc : Thread Cert.Norm2Ideal.nD Cert.Norm2Ideal.τ).loc Cert.Norm2Ideal.main_arg2)) (m ((c.tc : Thread Cert.Norm2Ideal.nD Cert.Norm2Ideal.τ).loc Cert.Norm2Ideal.main_arg3)) (m ((c.tc : Thread Cert.Norm2Ideal.nD Cert.Norm2Ideal.τ).loc Cert.Norm2Ideal.main_arg4)) (m ((c.tc : Thread Cert.Norm2Ideal.nD Cert.Norm2Ideal.τ).loc Cert.Norm2Ideal.main_arg5))).2.2.2.2.2 = (fun _ => 1#1)

def Pre_Norm2RefIdeal (m : (ℓ : Loc Cert.Norm2RefIdeal.nD Cert.Norm2RefIdeal.τ Cert.Norm2RefIdeal.sig) → Buf (Elt Ideal) ℓ) : Prop :=
  True

def Pre_Norm2RefIdeal_norm2_finite [hPre_norm2_finite : Cert.Pre_norm2_finite.Facts] (m : (ℓ : Loc Cert.Norm2RefIdeal.nD Cert.Norm2RefIdeal.τ Cert.Norm2RefIdeal.sig) → Buf (Elt Ideal) ℓ) : Prop :=
  ∀ c : Dev Cert.Norm2RefIdeal.nD,
    (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.2.2.1 = (fun _ => 1#1)
    ∧ (Cert.Pre_norm2_finite.fn (F := Ideal) (m ((c.tc : Thread Cert.Norm2RefIdeal.nD Cert.Norm2RefIdeal.τ).loc Cert.Norm2RefIdeal.main_arg0)) (m ((c.tc : Thread Cert.Norm2RefIdeal.nD Cert.Norm2RefIdeal.τ).loc Cert.Norm2RefIdeal.main_arg1)) (m ((c.tc : Thread Cert.Norm2RefIdeal.nD Cert.Norm2RefIdeal.τ).loc Cert.Norm2RefIdeal.main_arg2)) (m ((c.tc : Thread Cert.Norm2RefIdeal.nD Cert.Norm2RefIdeal.τ).loc Cert.Norm2RefIdeal.main_arg3)) (m ((c.tc : Thread Cert.Norm2RefIdeal.nD Cert.Norm2RefIdeal.τ).loc Cert.Norm2RefIdeal.main_arg4)) (m ((c.tc : Thread Cert.Norm2RefIdeal.nD Cert.Norm2RefIdeal.τ).loc Cert.Norm2RefIdeal.main_arg5))).2.2.2.2.2 = (fun _ => 1#1)

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentIdeal_latent_finite [hPre_latent_finite : Cert.Pre_latent_finite.Facts] (m : (ℓ : Loc Cert.LatentIdeal.nD Cert.LatentIdeal.τ Cert.LatentIdeal.sig) → Buf (Elt Ideal) ℓ) : Prop :=
  ∀ c : Dev Cert.LatentIdeal.nD,
    (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).1 = (fun _ => 1#1)
    ∧ (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).2.1 = (fun _ => 1#1)
    ∧ (Cert.Pre_latent_finite.fn (F := Ideal) (m ((c.tc : Thread Cert.LatentIdeal.nD Cert.LatentIdeal.τ).loc Cert.LatentIdeal.main_arg0)) (m ((c.tc : Thread Cert.LatentIdeal.nD Cert.LatentIdeal.τ).loc Cert.LatentIdeal.main_arg1)) (m ((c.tc : Thread Cert.LatentIdeal.nD Cert.LatentIdeal.τ).loc Cert.LatentIdeal.main_arg2))).2.2 = (fun _ => 1#1)

def Pre_LatentRefIdeal (m : (ℓ : Loc Cert.LatentRefIdeal.nD Cert.LatentRefIdeal.τ Cert.LatentRefIdeal.sig) → Buf (Elt Ideal) ℓ) : Prop :=
  True

def Pre_LatentRefIdeal_latent_finite [hPre_latent_finite : Cert.Pre_latent_finite.Facts] (m : (ℓ : Loc Cert.LatentRefIdeal.nD Cert.LatentRefIdeal.τ Cert.LatentRefIdeal.sig) → Buf (Elt Ideal) ℓ) : Prop :=
  ∀ c : Dev Cert.LatentRefIdeal.nD,
    (Cert.Pre_latent_finite.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).1 = (fun _ => 1#1)
    ∧ (Cert.Pre_latent_finite.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).2.1 = (fun _ => 1#1)
    ∧ (Cert.Pre_latent_finite.fn (F := Ideal) (m ((c.tc : Thread Cert.LatentRefIdeal.nD Cert.LatentRefIdeal.τ).loc Cert.LatentRefIdeal.main_arg0)) (m ((c.tc : Thread Cert.LatentRefIdeal.nD Cert.LatentRefIdeal.τ).loc Cert.LatentRefIdeal.main_arg1)) (m ((c.tc : Thread Cert.LatentRefIdeal.nD Cert.LatentRefIdeal.τ).loc Cert.LatentRefIdeal.main_arg2))).2.2 = (fun _ => 1#1)

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_RopeKRefIdeal (m : (ℓ : Loc Cert.RopeKRefIdeal.nD Cert.RopeKRefIdeal.τ Cert.RopeKRefIdeal.sig) → Buf (Elt Ideal) ℓ) : Prop :=
  True

def Pre_RopeQX (m : (ℓ : Loc Cert.RopeQX.nD Cert.RopeQX.τ Cert.RopeQX.sig) → Buf (Elt Bits) ℓ) : Prop :=
  True

def Pre_RopeQXIdeal (m : (ℓ : Loc Cert.RopeQXIdeal.nD Cert.RopeQXIdeal.τ Cert.RopeQXIdeal.sig) → Buf (Elt Ideal) ℓ) : Prop :=
  True

def Pre_RopeQXIdeal_ropeq_finite [hPre_ropeq_finite : Cert.Pre_ropeq_finite.Facts] (m : (ℓ : Loc Cert.RopeQXIdeal.nD Cert.RopeQXIdeal.τ Cert.RopeQXIdeal.sig) → Buf (Elt Ideal) ℓ) : Prop :=
  ∀ c : Dev Cert.RopeQXIdeal.nD,
    (Cert.Pre_ropeq_finite.fn (F := Ideal) (m ((c.tc : Thread Cert.RopeQXIdeal.nD Cert.RopeQXIdeal.τ).loc Cert.RopeQXIdeal.main_arg0)) (m ((c.tc : Thread Cert.RopeQXIdeal.nD Cert.RopeQXIdeal.τ).loc Cert.RopeQXIdeal.main_arg1)) (m ((c.tc : Thread Cert.RopeQXIdeal.nD Cert.RopeQXIdeal.τ).loc Cert.RopeQXIdeal.main_arg2)) (m ((c.tc : Thread Cert.RopeQXIdeal.nD Cert.RopeQXIdeal.τ).loc Cert.RopeQXIdeal.main_arg3)) (m ((c.tc : Thread Cert.RopeQXIdeal.nD Cert.RopeQXIdeal.τ).loc Cert.RopeQXIdeal.main_arg4))).1 = (fun _ => 1#1)
    ∧ (Cert.Pre_ropeq_finite.fn (F := Ideal) (m ((c.tc : Thread Cert.RopeQXIdeal.nD Cert.RopeQXIdeal.τ).loc Cert.RopeQXIdeal.main_arg0)) (m ((c.tc : Thread Cert.RopeQXIdeal.nD Cert.RopeQXIdeal.τ).loc Cert.RopeQXIdeal.main_arg1)) (m ((c.tc : Thread Cert.RopeQXIdeal.nD Cert.RopeQXIdeal.τ).loc Cert.RopeQXIdeal.main_arg2)) (m ((c.tc : Thread Cert.RopeQXIdeal.nD Cert.RopeQXIdeal.τ).loc Cert.RopeQXIdeal.main_arg3)) (m ((c.tc : Thread Cert.RopeQXIdeal.nD Cert.RopeQXIdeal.τ).loc Cert.RopeQXIdeal.main_arg4))).2.1 = (fun _ => 1#1)
    ∧ (Cert.Pre_ropeq_finite.fn (F := Ideal) (m ((c.tc : Thread Cert.RopeQXIdeal.nD Cert.RopeQXIdeal.τ).loc Cert.RopeQXIdeal.main_arg0)) (m ((c.tc : Thread Cert.RopeQXIdeal.nD Cert.RopeQXIdeal.τ).loc Cert.RopeQXIdeal.main_arg1)) (m ((c.tc : Thread Cert.RopeQXIdeal.nD Cert.RopeQXIdeal.τ).loc Cert.RopeQXIdeal.main_arg2)) (m ((c.tc : Thread Cert.RopeQXIdeal.nD Cert.RopeQXIdeal.τ).loc Cert.RopeQXIdeal.main_arg3)) (m ((c.tc : Thread Cert.RopeQXIdeal.nD Cert.RopeQXIdeal.τ).loc Cert.RopeQXIdeal.main_arg4))).2.2.1 = (fun _ => 1#1)
    ∧ (Cert.Pre_ropeq_finite.fn (F := Ideal) (m ((c.tc : Thread Cert.RopeQXIdeal.nD Cert.RopeQXIdeal.τ).loc Cert.RopeQXIdeal.main_arg0)) (m ((c.tc : Thread Cert.RopeQXIdeal.nD Cert.RopeQXIdeal.τ).loc Cert.RopeQXIdeal.main_arg1)) (m ((c.tc : Thread Cert.RopeQXIdeal.nD Cert.RopeQXIdeal.τ).loc Cert.RopeQXIdeal.main_arg2)) (m ((c.tc : Thread Cert.RopeQXIdeal.nD Cert.RopeQXIdeal.τ).loc Cert.RopeQXIdeal.main_arg3)) (m ((c.tc : Thread Cert.RopeQXIdeal.nD Cert.RopeQXIdeal.τ).loc Cert.RopeQXIdeal.main_arg4))).2.2.2.1 = (fun _ => 1#1)
    ∧ (Cert.Pre_ropeq_finite.fn (F := Ideal) (m ((c.tc : Thread Cert.RopeQXIdeal.nD Cert.RopeQXIdeal.τ).loc Cert.RopeQXIdeal.main_arg0)) (m ((c.tc : Thread Cert.RopeQXIdeal.nD Cert.RopeQXIdeal.τ).loc Cert.RopeQXIdeal.main_arg1)) (m ((c.tc : Thread Cert.RopeQXIdeal.nD Cert.RopeQXIdeal.τ).loc Cert.RopeQXIdeal.main_arg2)) (m ((c.tc : Thread Cert.RopeQXIdeal.nD Cert.RopeQXIdeal.τ).loc Cert.RopeQXIdeal.main_arg3)) (m ((c.tc : Thread Cert.RopeQXIdeal.nD Cert.RopeQXIdeal.τ).loc Cert.RopeQXIdeal.main_arg4))).2.2.2.2 = (fun _ => 1#1)

def Pre_RopeQXRefIdeal (m : (ℓ : Loc Cert.RopeQXRefIdeal.nD Cert.RopeQXRefIdeal.τ Cert.RopeQXRefIdeal.sig) → Buf (Elt Ideal) ℓ) : Prop :=
  True

def Pre_RopeQXRefIdeal_ropeq_finite [hPre_ropeq_finite : Cert.Pre_ropeq_finite.Facts] (m : (ℓ : Loc Cert.RopeQXRefIdeal.nD Cert.RopeQXRefIdeal.τ Cert.RopeQXRefIdeal.sig) → Buf (Elt Ideal) ℓ) : Prop :=
  ∀ c : Dev Cert.RopeQXRefIdeal.nD,
    (Cert.Pre_ropeq_finite.fn (F := Ideal) (m ((c.tc : Thread Cert.RopeQXRefIdeal.nD Cert.RopeQXRefIdeal.τ).loc Cert.RopeQXRefIdeal.main_arg0)) (m ((c.tc : Thread Cert.RopeQXRefIdeal.nD Cert.RopeQXRefIdeal.τ).loc Cert.RopeQXRefIdeal.main_arg1)) (m ((c.tc : Thread Cert.RopeQXRefIdeal.nD Cert.RopeQXRefIdeal.τ).loc Cert.RopeQXRefIdeal.main_arg2)) (m ((c.tc : Thread Cert.RopeQXRefIdeal.nD Cert.RopeQXRefIdeal.τ).loc Cert.RopeQXRefIdeal.main_arg3)) (m ((c.tc : Thread Cert.RopeQXRefIdeal.nD Cert.RopeQXRefIdeal.τ).loc Cert.RopeQXRefIdeal.main_arg4))).1 = (fun _ => 1#1)
    ∧ (Cert.Pre_ropeq_finite.fn (F := Ideal) (m ((c.tc : Thread Cert.RopeQXRefIdeal.nD Cert.RopeQXRefIdeal.τ).loc Cert.RopeQXRefIdeal.main_arg0)) (m ((c.tc : Thread Cert.RopeQXRefIdeal.nD Cert.RopeQXRefIdeal.τ).loc Cert.RopeQXRefIdeal.main_arg1)) (m ((c.tc : Thread Cert.RopeQXRefIdeal.nD Cert.RopeQXRefIdeal.τ).loc Cert.RopeQXRefIdeal.main_arg2)) (m ((c.tc : Thread Cert.RopeQXRefIdeal.nD Cert.RopeQXRefIdeal.τ).loc Cert.RopeQXRefIdeal.main_arg3)) (m ((c.tc : Thread Cert.RopeQXRefIdeal.nD Cert.RopeQXRefIdeal.τ).loc Cert.RopeQXRefIdeal.main_arg4))).2.1 = (fun _ => 1#1)
    ∧ (Cert.Pre_ropeq_finite.fn (F := Ideal) (m ((c.tc : Thread Cert.RopeQXRefIdeal.nD Cert.RopeQXRefIdeal.τ).loc Cert.RopeQXRefIdeal.main_arg0)) (m ((c.tc : Thread Cert.RopeQXRefIdeal.nD Cert.RopeQXRefIdeal.τ).loc Cert.RopeQXRefIdeal.main_arg1)) (m ((c.tc : Thread Cert.RopeQXRefIdeal.nD Cert.RopeQXRefIdeal.τ).loc Cert.RopeQXRefIdeal.main_arg2)) (m ((c.tc : Thread Cert.RopeQXRefIdeal.nD Cert.RopeQXRefIdeal.τ).loc Cert.RopeQXRefIdeal.main_arg3)) (m ((c.tc : Thread Cert.RopeQXRefIdeal.nD Cert.RopeQXRefIdeal.τ).loc Cert.RopeQXRefIdeal.main_arg4))).2.2.1 = (fun _ => 1#1)
    ∧ (Cert.Pre_ropeq_finite.fn (F := Ideal) (m ((c.tc : Thread Cert.RopeQXRefIdeal.nD Cert.RopeQXRefIdeal.τ).loc Cert.RopeQXRefIdeal.main_arg0)) (m ((c.tc : Thread Cert.RopeQXRefIdeal.nD Cert.RopeQXRefIdeal.τ).loc Cert.RopeQXRefIdeal.main_arg1)) (m ((c.tc : Thread Cert.RopeQXRefIdeal.nD Cert.RopeQXRefIdeal.τ).loc Cert.RopeQXRefIdeal.main_arg2)) (m ((c.tc : Thread Cert.RopeQXRefIdeal.nD Cert.RopeQXRefIdeal.τ).loc Cert.RopeQXRefIdeal.main_arg3)) (m ((c.tc : Thread Cert.RopeQXRefIdeal.nD Cert.RopeQXRefIdeal.τ).loc Cert.RopeQXRefIdeal.main_arg4))).2.2.2.1 = (fun _ => 1#1)
    ∧ (Cert.Pre_ropeq_finite.fn (F := Ideal) (m ((c.tc : Thread Cert.RopeQXRefIdeal.nD Cert.RopeQXRefIdeal.τ).loc Cert.RopeQXRefIdeal.main_arg0)) (m ((c.tc : Thread Cert.RopeQXRefIdeal.nD Cert.RopeQXRefIdeal.τ).loc Cert.RopeQXRefIdeal.main_arg1)) (m ((c.tc : Thread Cert.RopeQXRefIdeal.nD Cert.RopeQXRefIdeal.τ).loc Cert.RopeQXRefIdeal.main_arg2)) (m ((c.tc : Thread Cert.RopeQXRefIdeal.nD Cert.RopeQXRefIdeal.τ).loc Cert.RopeQXRefIdeal.main_arg3)) (m ((c.tc : Thread Cert.RopeQXRefIdeal.nD Cert.RopeQXRefIdeal.τ).loc Cert.RopeQXRefIdeal.main_arg4))).2.2.2.2 = (fun _ => 1#1)

def Pre_RopeQW (m : (ℓ : Loc Cert.RopeQW.nD Cert.RopeQW.τ Cert.RopeQW.sig) → Buf (Elt Bits) ℓ) : Prop :=
  True

def Pre_RopeQWIdeal (m : (ℓ : Loc Cert.RopeQWIdeal.nD Cert.RopeQWIdeal.τ Cert.RopeQWIdeal.sig) → Buf (Elt Ideal) ℓ) : Prop :=
  True

def Pre_RopeQWIdeal_ropeq_finite [hPre_ropeq_finite : Cert.Pre_ropeq_finite.Facts] (m : (ℓ : Loc Cert.RopeQWIdeal.nD Cert.RopeQWIdeal.τ Cert.RopeQWIdeal.sig) → Buf (Elt Ideal) ℓ) : Prop :=
  ∀ c : Dev Cert.RopeQWIdeal.nD,
    (Cert.Pre_ropeq_finite.fn (F := Ideal) (m ((c.tc : Thread Cert.RopeQWIdeal.nD Cert.RopeQWIdeal.τ).loc Cert.RopeQWIdeal.main_arg0)) (m ((c.tc : Thread Cert.RopeQWIdeal.nD Cert.RopeQWIdeal.τ).loc Cert.RopeQWIdeal.main_arg1)) (m ((c.tc : Thread Cert.RopeQWIdeal.nD Cert.RopeQWIdeal.τ).loc Cert.RopeQWIdeal.main_arg2)) (m ((c.tc : Thread Cert.RopeQWIdeal.nD Cert.RopeQWIdeal.τ).loc Cert.RopeQWIdeal.main_arg3)) (m ((c.tc : Thread Cert.RopeQWIdeal.nD Cert.RopeQWIdeal.τ).loc Cert.RopeQWIdeal.main_arg4))).1 = (fun _ => 1#1)
    ∧ (Cert.Pre_ropeq_finite.fn (F := Ideal) (m ((c.tc : Thread Cert.RopeQWIdeal.nD Cert.RopeQWIdeal.τ).loc Cert.RopeQWIdeal.main_arg0)) (m ((c.tc : Thread Cert.RopeQWIdeal.nD Cert.RopeQWIdeal.τ).loc Cert.RopeQWIdeal.main_arg1)) (m ((c.tc : Thread Cert.RopeQWIdeal.nD Cert.RopeQWIdeal.τ).loc Cert.RopeQWIdeal.main_arg2)) (m ((c.tc : Thread Cert.RopeQWIdeal.nD Cert.RopeQWIdeal.τ).loc Cert.RopeQWIdeal.main_arg3)) (m ((c.tc : Thread Cert.RopeQWIdeal.nD Cert.RopeQWIdeal.τ).loc Cert.RopeQWIdeal.main_arg4))).2.1 = (fun _ => 1#1)
    ∧ (Cert.Pre_ropeq_finite.fn (F := Ideal) (m ((c.tc : Thread Cert.RopeQWIdeal.nD Cert.RopeQWIdeal.τ).loc Cert.RopeQWIdeal.main_arg0)) (m ((c.tc : Thread Cert.RopeQWIdeal.nD Cert.RopeQWIdeal.τ).loc Cert.RopeQWIdeal.main_arg1)) (m ((c.tc : Thread Cert.RopeQWIdeal.nD Cert.RopeQWIdeal.τ).loc Cert.RopeQWIdeal.main_arg2)) (m ((c.tc : Thread Cert.RopeQWIdeal.nD Cert.RopeQWIdeal.τ).loc Cert.RopeQWIdeal.main_arg3)) (m ((c.tc : Thread Cert.RopeQWIdeal.nD Cert.RopeQWIdeal.τ).loc Cert.RopeQWIdeal.main_arg4))).2.2.1 = (fun _ => 1#1)
    ∧ (Cert.Pre_ropeq_finite.fn (F := Ideal) (m ((c.tc : Thread Cert.RopeQWIdeal.nD Cert.RopeQWIdeal.τ).loc Cert.RopeQWIdeal.main_arg0)) (m ((c.tc : Thread Cert.RopeQWIdeal.nD Cert.RopeQWIdeal.τ).loc Cert.RopeQWIdeal.main_arg1)) (m ((c.tc : Thread Cert.RopeQWIdeal.nD Cert.RopeQWIdeal.τ).loc Cert.RopeQWIdeal.main_arg2)) (m ((c.tc : Thread Cert.RopeQWIdeal.nD Cert.RopeQWIdeal.τ).loc Cert.RopeQWIdeal.main_arg3)) (m ((c.tc : Thread Cert.RopeQWIdeal.nD Cert.RopeQWIdeal.τ).loc Cert.RopeQWIdeal.main_arg4))).2.2.2.1 = (fun _ => 1#1)
    ∧ (Cert.Pre_ropeq_finite.fn (F := Ideal) (m ((c.tc : Thread Cert.RopeQWIdeal.nD Cert.RopeQWIdeal.τ).loc Cert.RopeQWIdeal.main_arg0)) (m ((c.tc : Thread Cert.RopeQWIdeal.nD Cert.RopeQWIdeal.τ).loc Cert.RopeQWIdeal.main_arg1)) (m ((c.tc : Thread Cert.RopeQWIdeal.nD Cert.RopeQWIdeal.τ).loc Cert.RopeQWIdeal.main_arg2)) (m ((c.tc : Thread Cert.RopeQWIdeal.nD Cert.RopeQWIdeal.τ).loc Cert.RopeQWIdeal.main_arg3)) (m ((c.tc : Thread Cert.RopeQWIdeal.nD Cert.RopeQWIdeal.τ).loc Cert.RopeQWIdeal.main_arg4))).2.2.2.2 = (fun _ => 1#1)

def Pre_RopeQWRefIdeal (m : (ℓ : Loc Cert.RopeQWRefIdeal.nD Cert.RopeQWRefIdeal.τ Cert.RopeQWRefIdeal.sig) → Buf (Elt Ideal) ℓ) : Prop :=
  True

def Pre_RopeQWRefIdeal_ropeq_finite [hPre_ropeq_finite : Cert.Pre_ropeq_finite.Facts] (m : (ℓ : Loc Cert.RopeQWRefIdeal.nD Cert.RopeQWRefIdeal.τ Cert.RopeQWRefIdeal.sig) → Buf (Elt Ideal) ℓ) : Prop :=
  ∀ c : Dev Cert.RopeQWRefIdeal.nD,
    (Cert.Pre_ropeq_finite.fn (F := Ideal) (m ((c.tc : Thread Cert.RopeQWRefIdeal.nD Cert.RopeQWRefIdeal.τ).loc Cert.RopeQWRefIdeal.main_arg0)) (m ((c.tc : Thread Cert.RopeQWRefIdeal.nD Cert.RopeQWRefIdeal.τ).loc Cert.RopeQWRefIdeal.main_arg1)) (m ((c.tc : Thread Cert.RopeQWRefIdeal.nD Cert.RopeQWRefIdeal.τ).loc Cert.RopeQWRefIdeal.main_arg2)) (m ((c.tc : Thread Cert.RopeQWRefIdeal.nD Cert.RopeQWRefIdeal.τ).loc Cert.RopeQWRefIdeal.main_arg3)) (m ((c.tc : Thread Cert.RopeQWRefIdeal.nD Cert.RopeQWRefIdeal.τ).loc Cert.RopeQWRefIdeal.main_arg4))).1 = (fun _ => 1#1)
    ∧ (Cert.Pre_ropeq_finite.fn (F := Ideal) (m ((c.tc : Thread Cert.RopeQWRefIdeal.nD Cert.RopeQWRefIdeal.τ).loc Cert.RopeQWRefIdeal.main_arg0)) (m ((c.tc : Thread Cert.RopeQWRefIdeal.nD Cert.RopeQWRefIdeal.τ).loc Cert.RopeQWRefIdeal.main_arg1)) (m ((c.tc : Thread Cert.RopeQWRefIdeal.nD Cert.RopeQWRefIdeal.τ).loc Cert.RopeQWRefIdeal.main_arg2)) (m ((c.tc : Thread Cert.RopeQWRefIdeal.nD Cert.RopeQWRefIdeal.τ).loc Cert.RopeQWRefIdeal.main_arg3)) (m ((c.tc : Thread Cert.RopeQWRefIdeal.nD Cert.RopeQWRefIdeal.τ).loc Cert.RopeQWRefIdeal.main_arg4))).2.1 = (fun _ => 1#1)
    ∧ (Cert.Pre_ropeq_finite.fn (F := Ideal) (m ((c.tc : Thread Cert.RopeQWRefIdeal.nD Cert.RopeQWRefIdeal.τ).loc Cert.RopeQWRefIdeal.main_arg0)) (m ((c.tc : Thread Cert.RopeQWRefIdeal.nD Cert.RopeQWRefIdeal.τ).loc Cert.RopeQWRefIdeal.main_arg1)) (m ((c.tc : Thread Cert.RopeQWRefIdeal.nD Cert.RopeQWRefIdeal.τ).loc Cert.RopeQWRefIdeal.main_arg2)) (m ((c.tc : Thread Cert.RopeQWRefIdeal.nD Cert.RopeQWRefIdeal.τ).loc Cert.RopeQWRefIdeal.main_arg3)) (m ((c.tc : Thread Cert.RopeQWRefIdeal.nD Cert.RopeQWRefIdeal.τ).loc Cert.RopeQWRefIdeal.main_arg4))).2.2.1 = (fun _ => 1#1)
    ∧ (Cert.Pre_ropeq_finite.fn (F := Ideal) (m ((c.tc : Thread Cert.RopeQWRefIdeal.nD Cert.RopeQWRefIdeal.τ).loc Cert.RopeQWRefIdeal.main_arg0)) (m ((c.tc : Thread Cert.RopeQWRefIdeal.nD Cert.RopeQWRefIdeal.τ).loc Cert.RopeQWRefIdeal.main_arg1)) (m ((c.tc : Thread Cert.RopeQWRefIdeal.nD Cert.RopeQWRefIdeal.τ).loc Cert.RopeQWRefIdeal.main_arg2)) (m ((c.tc : Thread Cert.RopeQWRefIdeal.nD Cert.RopeQWRefIdeal.τ).loc Cert.RopeQWRefIdeal.main_arg3)) (m ((c.tc : Thread Cert.RopeQWRefIdeal.nD Cert.RopeQWRefIdeal.τ).loc Cert.RopeQWRefIdeal.main_arg4))).2.2.2.1 = (fun _ => 1#1)
    ∧ (Cert.Pre_ropeq_finite.fn (F := Ideal) (m ((c.tc : Thread Cert.RopeQWRefIdeal.nD Cert.RopeQWRefIdeal.τ).loc Cert.RopeQWRefIdeal.main_arg0)) (m ((c.tc : Thread Cert.RopeQWRefIdeal.nD Cert.RopeQWRefIdeal.τ).loc Cert.RopeQWRefIdeal.main_arg1)) (m ((c.tc : Thread Cert.RopeQWRefIdeal.nD Cert.RopeQWRefIdeal.τ).loc Cert.RopeQWRefIdeal.main_arg2)) (m ((c.tc : Thread Cert.RopeQWRefIdeal.nD Cert.RopeQWRefIdeal.τ).loc Cert.RopeQWRefIdeal.main_arg3)) (m ((c.tc : Thread Cert.RopeQWRefIdeal.nD Cert.RopeQWRefIdeal.τ).loc Cert.RopeQWRefIdeal.main_arg4))).2.2.2.2 = (fun _ => 1#1)

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQIdeal_normq_finite [hPre_normq_finite : Cert.Pre_normq_finite.Facts] (m : (ℓ : Loc Cert.NormQIdeal.nD Cert.NormQIdeal.τ Cert.NormQIdeal.sig) → Buf (Elt Ideal) ℓ) : Prop :=
  ∀ c : Dev Cert.NormQIdeal.nD,
    (Cert.Pre_normq_finite.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2))).1 = (fun _ => 1#1)
    ∧ (Cert.Pre_normq_finite.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2))).2.1 = (fun _ => 1#1)
    ∧ (Cert.Pre_normq_finite.fn (F := Ideal) (m ((c.tc : Thread Cert.NormQIdeal.nD Cert.NormQIdeal.τ).loc Cert.NormQIdeal.main_arg0)) (m ((c.tc : Thread Cert.NormQIdeal.nD Cert.NormQIdeal.τ).loc Cert.NormQIdeal.main_arg1)) (m ((c.tc : Thread Cert.NormQIdeal.nD Cert.NormQIdeal.τ).loc Cert.NormQIdeal.main_arg2))).2.2 = (fun _ => 1#1)

def Pre_NormQRefIdeal (m : (ℓ : Loc Cert.NormQRefIdeal.nD Cert.NormQRefIdeal.τ Cert.NormQRefIdeal.sig) → Buf (Elt Ideal) ℓ) : Prop :=
  True

def Pre_NormQRefIdeal_normq_finite [hPre_normq_finite : Cert.Pre_normq_finite.Facts] (m : (ℓ : Loc Cert.NormQRefIdeal.nD Cert.NormQRefIdeal.τ Cert.NormQRefIdeal.sig) → Buf (Elt Ideal) ℓ) : Prop :=
  ∀ c : Dev Cert.NormQRefIdeal.nD,
    (Cert.Pre_normq_finite.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2))).1 = (fun _ => 1#1)
    ∧ (Cert.Pre_normq_finite.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2))).2.1 = (fun _ => 1#1)
    ∧ (Cert.Pre_normq_finite.fn (F := Ideal) (m ((c.tc : Thread Cert.NormQRefIdeal.nD Cert.NormQRefIdeal.τ).loc Cert.NormQRefIdeal.main_arg0)) (m ((c.tc : Thread Cert.NormQRefIdeal.nD Cert.NormQRefIdeal.τ).loc Cert.NormQRefIdeal.main_arg1)) (m ((c.tc : Thread Cert.NormQRefIdeal.nD Cert.NormQRefIdeal.τ).loc Cert.NormQRefIdeal.main_arg2))).2.2 = (fun _ => 1#1)

def Pre_FoxCtx (m : (ℓ : Loc Cert.FoxCtx.nD Cert.FoxCtx.τ Cert.FoxCtx.sig) → Buf (Elt Bits) ℓ) : Prop :=
  True

def Pre_FoxCtxIdeal (m : (ℓ : Loc Cert.FoxCtxIdeal.nD Cert.FoxCtxIdeal.τ Cert.FoxCtxIdeal.sig) → Buf (Elt Ideal) ℓ) : Prop :=
  True

def Pre_FoxCtxIdeal_foxctx_finite [hPre_foxctx_finite : Cert.Pre_foxctx_finite.Facts] (m : (ℓ : Loc Cert.FoxCtxIdeal.nD Cert.FoxCtxIdeal.τ Cert.FoxCtxIdeal.sig) → Buf (Elt Ideal) ℓ) : Prop :=
  ∀ c : Dev Cert.FoxCtxIdeal.nD,
    (Cert.Pre_foxctx_finite.fn (F := Ideal) (m ((c.tc : Thread Cert.FoxCtxIdeal.nD Cert.FoxCtxIdeal.τ).loc Cert.FoxCtxIdeal.main_arg0)) (m ((c.tc : Thread Cert.FoxCtxIdeal.nD Cert.FoxCtxIdeal.τ).loc Cert.FoxCtxIdeal.main_arg1)) (m ((c.tc : Thread Cert.FoxCtxIdeal.nD Cert.FoxCtxIdeal.τ).loc Cert.FoxCtxIdeal.main_arg2)) (m ((c.tc : Thread Cert.FoxCtxIdeal.nD Cert.FoxCtxIdeal.τ).loc Cert.FoxCtxIdeal.main_arg3)) (m ((c.tc : Thread Cert.FoxCtxIdeal.nD Cert.FoxCtxIdeal.τ).loc Cert.FoxCtxIdeal.main_arg4)) (m ((c.tc : Thread Cert.FoxCtxIdeal.nD Cert.FoxCtxIdeal.τ).loc Cert.FoxCtxIdeal.main_arg5))).1 = (fun _ => 1#1)
    ∧ (Cert.Pre_foxctx_finite.fn (F := Ideal) (m ((c.tc : Thread Cert.FoxCtxIdeal.nD Cert.FoxCtxIdeal.τ).loc Cert.FoxCtxIdeal.main_arg0)) (m ((c.tc : Thread Cert.FoxCtxIdeal.nD Cert.FoxCtxIdeal.τ).loc Cert.FoxCtxIdeal.main_arg1)) (m ((c.tc : Thread Cert.FoxCtxIdeal.nD Cert.FoxCtxIdeal.τ).loc Cert.FoxCtxIdeal.main_arg2)) (m ((c.tc : Thread Cert.FoxCtxIdeal.nD Cert.FoxCtxIdeal.τ).loc Cert.FoxCtxIdeal.main_arg3)) (m ((c.tc : Thread Cert.FoxCtxIdeal.nD Cert.FoxCtxIdeal.τ).loc Cert.FoxCtxIdeal.main_arg4)) (m ((c.tc : Thread Cert.FoxCtxIdeal.nD Cert.FoxCtxIdeal.τ).loc Cert.FoxCtxIdeal.main_arg5))).2.1 = (fun _ => 1#1)
    ∧ (Cert.Pre_foxctx_finite.fn (F := Ideal) (m ((c.tc : Thread Cert.FoxCtxIdeal.nD Cert.FoxCtxIdeal.τ).loc Cert.FoxCtxIdeal.main_arg0)) (m ((c.tc : Thread Cert.FoxCtxIdeal.nD Cert.FoxCtxIdeal.τ).loc Cert.FoxCtxIdeal.main_arg1)) (m ((c.tc : Thread Cert.FoxCtxIdeal.nD Cert.FoxCtxIdeal.τ).loc Cert.FoxCtxIdeal.main_arg2)) (m ((c.tc : Thread Cert.FoxCtxIdeal.nD Cert.FoxCtxIdeal.τ).loc Cert.FoxCtxIdeal.main_arg3)) (m ((c.tc : Thread Cert.FoxCtxIdeal.nD Cert.FoxCtxIdeal.τ).loc Cert.FoxCtxIdeal.main_arg4)) (m ((c.tc : Thread Cert.FoxCtxIdeal.nD Cert.FoxCtxIdeal.τ).loc Cert.FoxCtxIdeal.main_arg5))).2.2.1 = (fun _ => 1#1)
    ∧ (Cert.Pre_foxctx_finite.fn (F := Ideal) (m ((c.tc : Thread Cert.FoxCtxIdeal.nD Cert.FoxCtxIdeal.τ).loc Cert.FoxCtxIdeal.main_arg0)) (m ((c.tc : Thread Cert.FoxCtxIdeal.nD Cert.FoxCtxIdeal.τ).loc Cert.FoxCtxIdeal.main_arg1)) (m ((c.tc : Thread Cert.FoxCtxIdeal.nD Cert.FoxCtxIdeal.τ).loc Cert.FoxCtxIdeal.main_arg2)) (m ((c.tc : Thread Cert.FoxCtxIdeal.nD Cert.FoxCtxIdeal.τ).loc Cert.FoxCtxIdeal.main_arg3)) (m ((c.tc : Thread Cert.FoxCtxIdeal.nD Cert.FoxCtxIdeal.τ).loc Cert.FoxCtxIdeal.main_arg4)) (m ((c.tc : Thread Cert.FoxCtxIdeal.nD Cert.FoxCtxIdeal.τ).loc Cert.FoxCtxIdeal.main_arg5))).2.2.2.1 = (fun _ => 1#1)
    ∧ (Cert.Pre_foxctx_finite.fn (F := Ideal) (m ((c.tc : Thread Cert.FoxCtxIdeal.nD Cert.FoxCtxIdeal.τ).loc Cert.FoxCtxIdeal.main_arg0)) (m ((c.tc : Thread Cert.FoxCtxIdeal.nD Cert.FoxCtxIdeal.τ).loc Cert.FoxCtxIdeal.main_arg1)) (m ((c.tc : Thread Cert.FoxCtxIdeal.nD Cert.FoxCtxIdeal.τ).loc Cert.FoxCtxIdeal.main_arg2)) (m ((c.tc : Thread Cert.FoxCtxIdeal.nD Cert.FoxCtxIdeal.τ).loc Cert.FoxCtxIdeal.main_arg3)) (m ((c.tc : Thread Cert.FoxCtxIdeal.nD Cert.FoxCtxIdeal.τ).loc Cert.FoxCtxIdeal.main_arg4)) (m ((c.tc : Thread Cert.FoxCtxIdeal.nD Cert.FoxCtxIdeal.τ).loc Cert.FoxCtxIdeal.main_arg5))).2.2.2.2.1 = (fun _ => 1#1)
    ∧ (Cert.Pre_foxctx_finite.fn (F := Ideal) (m ((c.tc : Thread Cert.FoxCtxIdeal.nD Cert.FoxCtxIdeal.τ).loc Cert.FoxCtxIdeal.main_arg0)) (m ((c.tc : Thread Cert.FoxCtxIdeal.nD Cert.FoxCtxIdeal.τ).loc Cert.FoxCtxIdeal.main_arg1)) (m ((c.tc : Thread Cert.FoxCtxIdeal.nD Cert.FoxCtxIdeal.τ).loc Cert.FoxCtxIdeal.main_arg2)) (m ((c.tc : Thread Cert.FoxCtxIdeal.nD Cert.FoxCtxIdeal.τ).loc Cert.FoxCtxIdeal.main_arg3)) (m ((c.tc : Thread Cert.FoxCtxIdeal.nD Cert.FoxCtxIdeal.τ).loc Cert.FoxCtxIdeal.main_arg4)) (m ((c.tc : Thread Cert.FoxCtxIdeal.nD Cert.FoxCtxIdeal.τ).loc Cert.FoxCtxIdeal.main_arg5))).2.2.2.2.2 = (fun _ => 1#1)

def Pre_FoxCtxRefIdeal (m : (ℓ : Loc Cert.FoxCtxRefIdeal.nD Cert.FoxCtxRefIdeal.τ Cert.FoxCtxRefIdeal.sig) → Buf (Elt Ideal) ℓ) : Prop :=
  True

def Pre_FoxCtxRefIdeal_foxctx_finite [hPre_foxctx_finite : Cert.Pre_foxctx_finite.Facts] (m : (ℓ : Loc Cert.FoxCtxRefIdeal.nD Cert.FoxCtxRefIdeal.τ Cert.FoxCtxRefIdeal.sig) → Buf (Elt Ideal) ℓ) : Prop :=
  ∀ c : Dev Cert.FoxCtxRefIdeal.nD,
    (Cert.Pre_foxctx_finite.fn (F := Ideal) (m ((c.tc : Thread Cert.FoxCtxRefIdeal.nD Cert.FoxCtxRefIdeal.τ).loc Cert.FoxCtxRefIdeal.main_arg0)) (m ((c.tc : Thread Cert.FoxCtxRefIdeal.nD Cert.FoxCtxRefIdeal.τ).loc Cert.FoxCtxRefIdeal.main_arg1)) (m ((c.tc : Thread Cert.FoxCtxRefIdeal.nD Cert.FoxCtxRefIdeal.τ).loc Cert.FoxCtxRefIdeal.main_arg2)) (m ((c.tc : Thread Cert.FoxCtxRefIdeal.nD Cert.FoxCtxRefIdeal.τ).loc Cert.FoxCtxRefIdeal.main_arg3)) (m ((c.tc : Thread Cert.FoxCtxRefIdeal.nD Cert.FoxCtxRefIdeal.τ).loc Cert.FoxCtxRefIdeal.main_arg4)) (m ((c.tc : Thread Cert.FoxCtxRefIdeal.nD Cert.FoxCtxRefIdeal.τ).loc Cert.FoxCtxRefIdeal.main_arg5))).1 = (fun _ => 1#1)
    ∧ (Cert.Pre_foxctx_finite.fn (F := Ideal) (m ((c.tc : Thread Cert.FoxCtxRefIdeal.nD Cert.FoxCtxRefIdeal.τ).loc Cert.FoxCtxRefIdeal.main_arg0)) (m ((c.tc : Thread Cert.FoxCtxRefIdeal.nD Cert.FoxCtxRefIdeal.τ).loc Cert.FoxCtxRefIdeal.main_arg1)) (m ((c.tc : Thread Cert.FoxCtxRefIdeal.nD Cert.FoxCtxRefIdeal.τ).loc Cert.FoxCtxRefIdeal.main_arg2)) (m ((c.tc : Thread Cert.FoxCtxRefIdeal.nD Cert.FoxCtxRefIdeal.τ).loc Cert.FoxCtxRefIdeal.main_arg3)) (m ((c.tc : Thread Cert.FoxCtxRefIdeal.nD Cert.FoxCtxRefIdeal.τ).loc Cert.FoxCtxRefIdeal.main_arg4)) (m ((c.tc : Thread Cert.FoxCtxRefIdeal.nD Cert.FoxCtxRefIdeal.τ).loc Cert.FoxCtxRefIdeal.main_arg5))).2.1 = (fun _ => 1#1)
    ∧ (Cert.Pre_foxctx_finite.fn (F := Ideal) (m ((c.tc : Thread Cert.FoxCtxRefIdeal.nD Cert.FoxCtxRefIdeal.τ).loc Cert.FoxCtxRefIdeal.main_arg0)) (m ((c.tc : Thread Cert.FoxCtxRefIdeal.nD Cert.FoxCtxRefIdeal.τ).loc Cert.FoxCtxRefIdeal.main_arg1)) (m ((c.tc : Thread Cert.FoxCtxRefIdeal.nD Cert.FoxCtxRefIdeal.τ).loc Cert.FoxCtxRefIdeal.main_arg2)) (m ((c.tc : Thread Cert.FoxCtxRefIdeal.nD Cert.FoxCtxRefIdeal.τ).loc Cert.FoxCtxRefIdeal.main_arg3)) (m ((c.tc : Thread Cert.FoxCtxRefIdeal.nD Cert.FoxCtxRefIdeal.τ).loc Cert.FoxCtxRefIdeal.main_arg4)) (m ((c.tc : Thread Cert.FoxCtxRefIdeal.nD Cert.FoxCtxRefIdeal.τ).loc Cert.FoxCtxRefIdeal.main_arg5))).2.2.1 = (fun _ => 1#1)
    ∧ (Cert.Pre_foxctx_finite.fn (F := Ideal) (m ((c.tc : Thread Cert.FoxCtxRefIdeal.nD Cert.FoxCtxRefIdeal.τ).loc Cert.FoxCtxRefIdeal.main_arg0)) (m ((c.tc : Thread Cert.FoxCtxRefIdeal.nD Cert.FoxCtxRefIdeal.τ).loc Cert.FoxCtxRefIdeal.main_arg1)) (m ((c.tc : Thread Cert.FoxCtxRefIdeal.nD Cert.FoxCtxRefIdeal.τ).loc Cert.FoxCtxRefIdeal.main_arg2)) (m ((c.tc : Thread Cert.FoxCtxRefIdeal.nD Cert.FoxCtxRefIdeal.τ).loc Cert.FoxCtxRefIdeal.main_arg3)) (m ((c.tc : Thread Cert.FoxCtxRefIdeal.nD Cert.FoxCtxRefIdeal.τ).loc Cert.FoxCtxRefIdeal.main_arg4)) (m ((c.tc : Thread Cert.FoxCtxRefIdeal.nD Cert.FoxCtxRefIdeal.τ).loc Cert.FoxCtxRefIdeal.main_arg5))).2.2.2.1 = (fun _ => 1#1)
    ∧ (Cert.Pre_foxctx_finite.fn (F := Ideal) (m ((c.tc : Thread Cert.FoxCtxRefIdeal.nD Cert.FoxCtxRefIdeal.τ).loc Cert.FoxCtxRefIdeal.main_arg0)) (m ((c.tc : Thread Cert.FoxCtxRefIdeal.nD Cert.FoxCtxRefIdeal.τ).loc Cert.FoxCtxRefIdeal.main_arg1)) (m ((c.tc : Thread Cert.FoxCtxRefIdeal.nD Cert.FoxCtxRefIdeal.τ).loc Cert.FoxCtxRefIdeal.main_arg2)) (m ((c.tc : Thread Cert.FoxCtxRefIdeal.nD Cert.FoxCtxRefIdeal.τ).loc Cert.FoxCtxRefIdeal.main_arg3)) (m ((c.tc : Thread Cert.FoxCtxRefIdeal.nD Cert.FoxCtxRefIdeal.τ).loc Cert.FoxCtxRefIdeal.main_arg4)) (m ((c.tc : Thread Cert.FoxCtxRefIdeal.nD Cert.FoxCtxRefIdeal.τ).loc Cert.FoxCtxRefIdeal.main_arg5))).2.2.2.2.1 = (fun _ => 1#1)
    ∧ (Cert.Pre_foxctx_finite.fn (F := Ideal) (m ((c.tc : Thread Cert.FoxCtxRefIdeal.nD Cert.FoxCtxRefIdeal.τ).loc Cert.FoxCtxRefIdeal.main_arg0)) (m ((c.tc : Thread Cert.FoxCtxRefIdeal.nD Cert.FoxCtxRefIdeal.τ).loc Cert.FoxCtxRefIdeal.main_arg1)) (m ((c.tc : Thread Cert.FoxCtxRefIdeal.nD Cert.FoxCtxRefIdeal.τ).loc Cert.FoxCtxRefIdeal.main_arg2)) (m ((c.tc : Thread Cert.FoxCtxRefIdeal.nD Cert.FoxCtxRefIdeal.τ).loc Cert.FoxCtxRefIdeal.main_arg3)) (m ((c.tc : Thread Cert.FoxCtxRefIdeal.nD Cert.FoxCtxRefIdeal.τ).loc Cert.FoxCtxRefIdeal.main_arg4)) (m ((c.tc : Thread Cert.FoxCtxRefIdeal.nD Cert.FoxCtxRefIdeal.τ).loc Cert.FoxCtxRefIdeal.main_arg5))).2.2.2.2.2 = (fun _ => 1#1)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_MlaBwd [hMlaBwd : Cert.MlaBwd.Facts] : Prop :=
  ∀ (m : (ℓ : Loc Cert.MlaBwd.nD Cert.MlaBwd.τ Cert.MlaBwd.sig) → Buf (Elt Bits) ℓ) (g : Dev Cert.MlaBwd.nD → PrngReg), Pre_MlaBwd m →
    θ_run (Cert.MlaBwd.defs (F := Bits)) (onTc (τ := Cert.MlaBwd.τ) (Cert.MlaBwd.main (F := Bits))) ⟨m, fun _ => 0, g⟩ (fun r => (∀ c : Dev Cert.MlaBwd.nD,
      r.2.mem ((c.tc : Thread Cert.MlaBwd.nD Cert.MlaBwd.τ).loc Cert.MlaBwd.main_arg0) = m ((c.tc : Thread Cert.MlaBwd.nD Cert.MlaBwd.τ).loc Cert.MlaBwd.main_arg0)
      ∧ r.2.mem ((c.tc : Thread Cert.MlaBwd.nD Cert.MlaBwd.τ).loc Cert.MlaBwd.main_arg1) = m ((c.tc : Thread Cert.MlaBwd.nD Cert.MlaBwd.τ).loc Cert.MlaBwd.main_arg1)
      ∧ r.2.mem ((c.tc : Thread Cert.MlaBwd.nD Cert.MlaBwd.τ).loc Cert.MlaBwd.main_arg2) = m ((c.tc : Thread Cert.MlaBwd.nD Cert.MlaBwd.τ).loc Cert.MlaBwd.main_arg2)
      ∧ r.2.mem ((c.tc : Thread Cert.MlaBwd.nD Cert.MlaBwd.τ).loc Cert.MlaBwd.main_arg3) = m ((c.tc : Thread Cert.MlaBwd.nD Cert.MlaBwd.τ).loc Cert.MlaBwd.main_arg3)
      ∧ r.2.mem ((c.tc : Thread Cert.MlaBwd.nD Cert.MlaBwd.τ).loc Cert.MlaBwd.main_arg4) = m ((c.tc : Thread Cert.MlaBwd.nD Cert.MlaBwd.τ).loc Cert.MlaBwd.main_arg4))
      ∧ r.2.sem = fun _ => 0)

def quiescent_MlaBwdIdeal [hMlaBwdIdeal : Cert.MlaBwdIdeal.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4))
      ∧ r.2.sem = fun _ => 0)

def quiescent_MlaBwdIdeal_pre_mla_finite [hMlaBwdIdeal : Cert.MlaBwdIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg), Pre_MlaBwdIdeal_mla_finite m →
    θ_run (Cert.MlaBwdIdeal.defs (F := Ideal)) (onTc (τ := Cert.MlaBwdIdeal.τ) (Cert.MlaBwdIdeal.main (F := Ideal))) ⟨m, fun _ => 0, g⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_CtxIdeal_pre_ctx_finite [hCtxIdeal : Cert.CtxIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_finite m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5))
      ∧ r.2.sem = fun _ => 0)

def quiescent_CtxRefIdeal_pre_ctx_finite [hCtxRefIdeal : Cert.CtxRefIdeal.Facts] [hPre_ctx_finite : Cert.Pre_ctx_finite.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_finite m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5))
      ∧ r.2.sem = fun _ => 0)

def quiescent_Norm2 [hNorm2 : Cert.Norm2.Facts] : Prop :=
  ∀ (m : (ℓ : Loc Cert.Norm2.nD Cert.Norm2.τ Cert.Norm2.sig) → Buf (Elt Bits) ℓ) (g : Dev Cert.Norm2.nD → PrngReg), Pre_Norm2 m →
    θ_run (Cert.Norm2.defs (F := Bits)) (onTc (τ := Cert.Norm2.τ) (Cert.Norm2.main (F := Bits))) ⟨m, fun _ => 0, g⟩ (fun r => (∀ c : Dev Cert.Norm2.nD,
      r.2.mem ((c.tc : Thread Cert.Norm2.nD Cert.Norm2.τ).loc Cert.Norm2.main_arg0) = m ((c.tc : Thread Cert.Norm2.nD Cert.Norm2.τ).loc Cert.Norm2.main_arg0)
      ∧ r.2.mem ((c.tc : Thread Cert.Norm2.nD Cert.Norm2.τ).loc Cert.Norm2.main_arg1) = m ((c.tc : Thread Cert.Norm2.nD Cert.Norm2.τ).loc Cert.Norm2.main_arg1)
      ∧ r.2.mem ((c.tc : Thread Cert.Norm2.nD Cert.Norm2.τ).loc Cert.Norm2.main_arg2) = m ((c.tc : Thread Cert.Norm2.nD Cert.Norm2.τ).loc Cert.Norm2.main_arg2)
      ∧ r.2.mem ((c.tc : Thread Cert.Norm2.nD Cert.Norm2.τ).loc Cert.Norm2.main_arg3) = m ((c.tc : Thread Cert.Norm2.nD Cert.Norm2.τ).loc Cert.Norm2.main_arg3)
      ∧ r.2.mem ((c.tc : Thread Cert.Norm2.nD Cert.Norm2.τ).loc Cert.Norm2.main_arg4) = m ((c.tc : Thread Cert.Norm2.nD Cert.Norm2.τ).loc Cert.Norm2.main_arg4)
      ∧ r.2.mem ((c.tc : Thread Cert.Norm2.nD Cert.Norm2.τ).loc Cert.Norm2.main_arg5) = m ((c.tc : Thread Cert.Norm2.nD Cert.Norm2.τ).loc Cert.Norm2.main_arg5))
      ∧ r.2.sem = fun _ => 0)

def quiescent_Norm2Ideal [hNorm2Ideal : Cert.Norm2Ideal.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2Ideal_pre_norm2_finite [hNorm2Ideal : Cert.Norm2Ideal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg), Pre_Norm2Ideal_norm2_finite m →
    θ_run (Cert.Norm2Ideal.defs (F := Ideal)) (onTc (τ := Cert.Norm2Ideal.τ) (Cert.Norm2Ideal.main (F := Ideal))) ⟨m, fun _ => 0, g⟩ (fun r => (∀ c : Dev Cert.Norm2Ideal.nD,
      r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
      ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
      ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
      ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
      ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
      ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ r.2.sem = fun _ => 0)

def quiescent_Norm2RefIdeal [hNorm2RefIdeal : Cert.Norm2RefIdeal.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Norm2RefIdeal_pre_norm2_finite [hNorm2RefIdeal : Cert.Norm2RefIdeal.Facts] [hPre_norm2_finite : Cert.Pre_norm2_finite.Facts] : Prop :=
  ∀ (m : (ℓ : Loc Cert.Norm2RefIdeal.nD Cert.Norm2RefIdeal.τ Cert.Norm2RefIdeal.sig) → Buf (Elt Ideal) ℓ) (g : Dev Cert.Norm2RefIdeal.nD → PrngReg), Pre_Norm2RefIdeal_norm2_finite m →
    θ_run (Cert.Norm2RefIdeal.defs (F := Ideal)) (onTc (τ := Cert.Norm2RefIdeal.τ) (Cert.Norm2RefIdeal.main (F := Ideal))) ⟨m, fun _ => 0, g⟩ (fun r => (∀ c : Dev Cert.Norm2RefIdeal.nD,
      r.2.mem ((c.tc : Thread Cert.Norm2RefIdeal.nD Cert.Norm2RefIdeal.τ).loc Cert.Norm2RefIdeal.main_arg0) = m ((c.tc : Thread Cert.Norm2RefIdeal.nD Cert.Norm2RefIdeal.τ).loc Cert.Norm2RefIdeal.main_arg0)
      ∧ r.2.mem ((c.tc : Thread Cert.Norm2RefIdeal.nD Cert.Norm2RefIdeal.τ).loc Cert.Norm2RefIdeal.main_arg1) = m ((c.tc : Thread Cert.Norm2RefIdeal.nD Cert.Norm2RefIdeal.τ).loc Cert.Norm2RefIdeal.main_arg1)
      ∧ r.2.mem ((c.tc : Thread Cert.Norm2RefIdeal.nD Cert.Norm2RefIdeal.τ).loc Cert.Norm2RefIdeal.main_arg2) = m ((c.tc : Thread Cert.Norm2RefIdeal.nD Cert.Norm2RefIdeal.τ).loc Cert.Norm2RefIdeal.main_arg2)
      ∧ r.2.mem ((c.tc : Thread Cert.Norm2RefIdeal.nD Cert.Norm2RefIdeal.τ).loc Cert.Norm2RefIdeal.main_arg3) = m ((c.tc : Thread Cert.Norm2RefIdeal.nD Cert.Norm2RefIdeal.τ).loc Cert.Norm2RefIdeal.main_arg3)
      ∧ r.2.mem ((c.tc : Thread Cert.Norm2RefIdeal.nD Cert.Norm2RefIdeal.τ).loc Cert.Norm2RefIdeal.main_arg4) = m ((c.tc : Thread Cert.Norm2RefIdeal.nD Cert.Norm2RefIdeal.τ).loc Cert.Norm2RefIdeal.main_arg4)
      ∧ r.2.mem ((c.tc : Thread Cert.Norm2RefIdeal.nD Cert.Norm2RefIdeal.τ).loc Cert.Norm2RefIdeal.main_arg5) = m ((c.tc : Thread Cert.Norm2RefIdeal.nD Cert.Norm2RefIdeal.τ).loc Cert.Norm2RefIdeal.main_arg5))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentIdeal_pre_latent_finite [hLatentIdeal : Cert.LatentIdeal.Facts] [hPre_latent_finite : Cert.Pre_latent_finite.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal_latent_finite m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_LatentRefIdeal_pre_latent_finite [hLatentRefIdeal : Cert.LatentRefIdeal.Facts] [hPre_latent_finite : Cert.Pre_latent_finite.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal_latent_finite m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0)
      ∧ r.2.mem ((c.tc : Thread Cert.RopeK.nD Cert.RopeK.τ).loc Cert.RopeK.main_arg1) = m ((c.tc : Thread Cert.RopeK.nD Cert.RopeK.τ).loc Cert.RopeK.main_arg1)
      ∧ r.2.mem ((c.tc : Thread Cert.RopeK.nD Cert.RopeK.τ).loc Cert.RopeK.main_arg2) = m ((c.tc : Thread Cert.RopeK.nD Cert.RopeK.τ).loc Cert.RopeK.main_arg2))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2))
      ∧ r.2.sem = fun _ => 0)

def quiescent_RopeKRefIdeal [hRopeKRefIdeal : Cert.RopeKRefIdeal.Facts] : Prop :=
  ∀ (m : (ℓ : Loc Cert.RopeKRefIdeal.nD Cert.RopeKRefIdeal.τ Cert.RopeKRefIdeal.sig) → Buf (Elt Ideal) ℓ) (g : Dev Cert.RopeKRefIdeal.nD → PrngReg), Pre_RopeKRefIdeal m →
    θ_run (Cert.RopeKRefIdeal.defs (F := Ideal)) (onTc (τ := Cert.RopeKRefIdeal.τ) (Cert.RopeKRefIdeal.main (F := Ideal))) ⟨m, fun _ => 0, g⟩ (fun r => (∀ c : Dev Cert.RopeKRefIdeal.nD,
      r.2.mem ((c.tc : Thread Cert.RopeKRefIdeal.nD Cert.RopeKRefIdeal.τ).loc Cert.RopeKRefIdeal.main_arg0) = m ((c.tc : Thread Cert.RopeKRefIdeal.nD Cert.RopeKRefIdeal.τ).loc Cert.RopeKRefIdeal.main_arg0)
      ∧ r.2.mem ((c.tc : Thread Cert.RopeKRefIdeal.nD Cert.RopeKRefIdeal.τ).loc Cert.RopeKRefIdeal.main_arg1) = m ((c.tc : Thread Cert.RopeKRefIdeal.nD Cert.RopeKRefIdeal.τ).loc Cert.RopeKRefIdeal.main_arg1)
      ∧ r.2.mem ((c.tc : Thread Cert.RopeKRefIdeal.nD Cert.RopeKRefIdeal.τ).loc Cert.RopeKRefIdeal.main_arg2) = m ((c.tc : Thread Cert.RopeKRefIdeal.nD Cert.RopeKRefIdeal.τ).loc Cert.RopeKRefIdeal.main_arg2))
      ∧ r.2.sem = fun _ => 0)

def quiescent_RopeQX [hRopeQX : Cert.RopeQX.Facts] : Prop :=
  ∀ (m : (ℓ : Loc Cert.RopeQX.nD Cert.RopeQX.τ Cert.RopeQX.sig) → Buf (Elt Bits) ℓ) (g : Dev Cert.RopeQX.nD → PrngReg), Pre_RopeQX m →
    θ_run (Cert.RopeQX.defs (F := Bits)) (onTc (τ := Cert.RopeQX.τ) (Cert.RopeQX.main (F := Bits))) ⟨m, fun _ => 0, g⟩ (fun r => (∀ c : Dev Cert.RopeQX.nD,
      r.2.mem ((c.tc : Thread Cert.RopeQX.nD Cert.RopeQX.τ).loc Cert.RopeQX.main_arg0) = m ((c.tc : Thread Cert.RopeQX.nD Cert.RopeQX.τ).loc Cert.RopeQX.main_arg0)
      ∧ r.2.mem ((c.tc : Thread Cert.RopeQX.nD Cert.RopeQX.τ).loc Cert.RopeQX.main_arg1) = m ((c.tc : Thread Cert.RopeQX.nD Cert.RopeQX.τ).loc Cert.RopeQX.main_arg1)
      ∧ r.2.mem ((c.tc : Thread Cert.RopeQX.nD Cert.RopeQX.τ).loc Cert.RopeQX.main_arg2) = m ((c.tc : Thread Cert.RopeQX.nD Cert.RopeQX.τ).loc Cert.RopeQX.main_arg2)
      ∧ r.2.mem ((c.tc : Thread Cert.RopeQX.nD Cert.RopeQX.τ).loc Cert.RopeQX.main_arg3) = m ((c.tc : Thread Cert.RopeQX.nD Cert.RopeQX.τ).loc Cert.RopeQX.main_arg3)
      ∧ r.2.mem ((c.tc : Thread Cert.RopeQX.nD Cert.RopeQX.τ).loc Cert.RopeQX.main_arg4) = m ((c.tc : Thread Cert.RopeQX.nD Cert.RopeQX.τ).loc Cert.RopeQX.main_arg4))
      ∧ r.2.sem = fun _ => 0)

def quiescent_RopeQXIdeal [hRopeQXIdeal : Cert.RopeQXIdeal.Facts] : Prop :=
  ∀ (m : (ℓ : Loc Cert.RopeQXIdeal.nD Cert.RopeQXIdeal.τ Cert.RopeQXIdeal.sig) → Buf (Elt Ideal) ℓ) (g : Dev Cert.RopeQXIdeal.nD → PrngReg), Pre_RopeQXIdeal m →
    θ_run (Cert.RopeQXIdeal.defs (F := Ideal)) (onTc (τ := Cert.RopeQXIdeal.τ) (Cert.RopeQXIdeal.main (F := Ideal))) ⟨m, fun _ => 0, g⟩ (fun r => (∀ c : Dev Cert.RopeQXIdeal.nD,
      r.2.mem ((c.tc : Thread Cert.RopeQXIdeal.nD Cert.RopeQXIdeal.τ).loc Cert.RopeQXIdeal.main_arg0) = m ((c.tc : Thread Cert.RopeQXIdeal.nD Cert.RopeQXIdeal.τ).loc Cert.RopeQXIdeal.main_arg0)
      ∧ r.2.mem ((c.tc : Thread Cert.RopeQXIdeal.nD Cert.RopeQXIdeal.τ).loc Cert.RopeQXIdeal.main_arg1) = m ((c.tc : Thread Cert.RopeQXIdeal.nD Cert.RopeQXIdeal.τ).loc Cert.RopeQXIdeal.main_arg1)
      ∧ r.2.mem ((c.tc : Thread Cert.RopeQXIdeal.nD Cert.RopeQXIdeal.τ).loc Cert.RopeQXIdeal.main_arg2) = m ((c.tc : Thread Cert.RopeQXIdeal.nD Cert.RopeQXIdeal.τ).loc Cert.RopeQXIdeal.main_arg2)
      ∧ r.2.mem ((c.tc : Thread Cert.RopeQXIdeal.nD Cert.RopeQXIdeal.τ).loc Cert.RopeQXIdeal.main_arg3) = m ((c.tc : Thread Cert.RopeQXIdeal.nD Cert.RopeQXIdeal.τ).loc Cert.RopeQXIdeal.main_arg3)
      ∧ r.2.mem ((c.tc : Thread Cert.RopeQXIdeal.nD Cert.RopeQXIdeal.τ).loc Cert.RopeQXIdeal.main_arg4) = m ((c.tc : Thread Cert.RopeQXIdeal.nD Cert.RopeQXIdeal.τ).loc Cert.RopeQXIdeal.main_arg4))
      ∧ r.2.sem = fun _ => 0)

def quiescent_RopeQXIdeal_pre_ropeq_finite [hRopeQXIdeal : Cert.RopeQXIdeal.Facts] [hPre_ropeq_finite : Cert.Pre_ropeq_finite.Facts] : Prop :=
  ∀ (m : (ℓ : Loc Cert.RopeQXIdeal.nD Cert.RopeQXIdeal.τ Cert.RopeQXIdeal.sig) → Buf (Elt Ideal) ℓ) (g : Dev Cert.RopeQXIdeal.nD → PrngReg), Pre_RopeQXIdeal_ropeq_finite m →
    θ_run (Cert.RopeQXIdeal.defs (F := Ideal)) (onTc (τ := Cert.RopeQXIdeal.τ) (Cert.RopeQXIdeal.main (F := Ideal))) ⟨m, fun _ => 0, g⟩ (fun r => (∀ c : Dev Cert.RopeQXIdeal.nD,
      r.2.mem ((c.tc : Thread Cert.RopeQXIdeal.nD Cert.RopeQXIdeal.τ).loc Cert.RopeQXIdeal.main_arg0) = m ((c.tc : Thread Cert.RopeQXIdeal.nD Cert.RopeQXIdeal.τ).loc Cert.RopeQXIdeal.main_arg0)
      ∧ r.2.mem ((c.tc : Thread Cert.RopeQXIdeal.nD Cert.RopeQXIdeal.τ).loc Cert.RopeQXIdeal.main_arg1) = m ((c.tc : Thread Cert.RopeQXIdeal.nD Cert.RopeQXIdeal.τ).loc Cert.RopeQXIdeal.main_arg1)
      ∧ r.2.mem ((c.tc : Thread Cert.RopeQXIdeal.nD Cert.RopeQXIdeal.τ).loc Cert.RopeQXIdeal.main_arg2) = m ((c.tc : Thread Cert.RopeQXIdeal.nD Cert.RopeQXIdeal.τ).loc Cert.RopeQXIdeal.main_arg2)
      ∧ r.2.mem ((c.tc : Thread Cert.RopeQXIdeal.nD Cert.RopeQXIdeal.τ).loc Cert.RopeQXIdeal.main_arg3) = m ((c.tc : Thread Cert.RopeQXIdeal.nD Cert.RopeQXIdeal.τ).loc Cert.RopeQXIdeal.main_arg3)
      ∧ r.2.mem ((c.tc : Thread Cert.RopeQXIdeal.nD Cert.RopeQXIdeal.τ).loc Cert.RopeQXIdeal.main_arg4) = m ((c.tc : Thread Cert.RopeQXIdeal.nD Cert.RopeQXIdeal.τ).loc Cert.RopeQXIdeal.main_arg4))
      ∧ r.2.sem = fun _ => 0)

def quiescent_RopeQXRefIdeal [hRopeQXRefIdeal : Cert.RopeQXRefIdeal.Facts] : Prop :=
  ∀ (m : (ℓ : Loc Cert.RopeQXRefIdeal.nD Cert.RopeQXRefIdeal.τ Cert.RopeQXRefIdeal.sig) → Buf (Elt Ideal) ℓ) (g : Dev Cert.RopeQXRefIdeal.nD → PrngReg), Pre_RopeQXRefIdeal m →
    θ_run (Cert.RopeQXRefIdeal.defs (F := Ideal)) (onTc (τ := Cert.RopeQXRefIdeal.τ) (Cert.RopeQXRefIdeal.main (F := Ideal))) ⟨m, fun _ => 0, g⟩ (fun r => (∀ c : Dev Cert.RopeQXRefIdeal.nD,
      r.2.mem ((c.tc : Thread Cert.RopeQXRefIdeal.nD Cert.RopeQXRefIdeal.τ).loc Cert.RopeQXRefIdeal.main_arg0) = m ((c.tc : Thread Cert.RopeQXRefIdeal.nD Cert.RopeQXRefIdeal.τ).loc Cert.RopeQXRefIdeal.main_arg0)
      ∧ r.2.mem ((c.tc : Thread Cert.RopeQXRefIdeal.nD Cert.RopeQXRefIdeal.τ).loc Cert.RopeQXRefIdeal.main_arg1) = m ((c.tc : Thread Cert.RopeQXRefIdeal.nD Cert.RopeQXRefIdeal.τ).loc Cert.RopeQXRefIdeal.main_arg1)
      ∧ r.2.mem ((c.tc : Thread Cert.RopeQXRefIdeal.nD Cert.RopeQXRefIdeal.τ).loc Cert.RopeQXRefIdeal.main_arg2) = m ((c.tc : Thread Cert.RopeQXRefIdeal.nD Cert.RopeQXRefIdeal.τ).loc Cert.RopeQXRefIdeal.main_arg2)
      ∧ r.2.mem ((c.tc : Thread Cert.RopeQXRefIdeal.nD Cert.RopeQXRefIdeal.τ).loc Cert.RopeQXRefIdeal.main_arg3) = m ((c.tc : Thread Cert.RopeQXRefIdeal.nD Cert.RopeQXRefIdeal.τ).loc Cert.RopeQXRefIdeal.main_arg3)
      ∧ r.2.mem ((c.tc : Thread Cert.RopeQXRefIdeal.nD Cert.RopeQXRefIdeal.τ).loc Cert.RopeQXRefIdeal.main_arg4) = m ((c.tc : Thread Cert.RopeQXRefIdeal.nD Cert.RopeQXRefIdeal.τ).loc Cert.RopeQXRefIdeal.main_arg4))
      ∧ r.2.sem = fun _ => 0)

def quiescent_RopeQXRefIdeal_pre_ropeq_finite [hRopeQXRefIdeal : Cert.RopeQXRefIdeal.Facts] [hPre_ropeq_finite : Cert.Pre_ropeq_finite.Facts] : Prop :=
  ∀ (m : (ℓ : Loc Cert.RopeQXRefIdeal.nD Cert.RopeQXRefIdeal.τ Cert.RopeQXRefIdeal.sig) → Buf (Elt Ideal) ℓ) (g : Dev Cert.RopeQXRefIdeal.nD → PrngReg), Pre_RopeQXRefIdeal_ropeq_finite m →
    θ_run (Cert.RopeQXRefIdeal.defs (F := Ideal)) (onTc (τ := Cert.RopeQXRefIdeal.τ) (Cert.RopeQXRefIdeal.main (F := Ideal))) ⟨m, fun _ => 0, g⟩ (fun r => (∀ c : Dev Cert.RopeQXRefIdeal.nD,
      r.2.mem ((c.tc : Thread Cert.RopeQXRefIdeal.nD Cert.RopeQXRefIdeal.τ).loc Cert.RopeQXRefIdeal.main_arg0) = m ((c.tc : Thread Cert.RopeQXRefIdeal.nD Cert.RopeQXRefIdeal.τ).loc Cert.RopeQXRefIdeal.main_arg0)
      ∧ r.2.mem ((c.tc : Thread Cert.RopeQXRefIdeal.nD Cert.RopeQXRefIdeal.τ).loc Cert.RopeQXRefIdeal.main_arg1) = m ((c.tc : Thread Cert.RopeQXRefIdeal.nD Cert.RopeQXRefIdeal.τ).loc Cert.RopeQXRefIdeal.main_arg1)
      ∧ r.2.mem ((c.tc : Thread Cert.RopeQXRefIdeal.nD Cert.RopeQXRefIdeal.τ).loc Cert.RopeQXRefIdeal.main_arg2) = m ((c.tc : Thread Cert.RopeQXRefIdeal.nD Cert.RopeQXRefIdeal.τ).loc Cert.RopeQXRefIdeal.main_arg2)
      ∧ r.2.mem ((c.tc : Thread Cert.RopeQXRefIdeal.nD Cert.RopeQXRefIdeal.τ).loc Cert.RopeQXRefIdeal.main_arg3) = m ((c.tc : Thread Cert.RopeQXRefIdeal.nD Cert.RopeQXRefIdeal.τ).loc Cert.RopeQXRefIdeal.main_arg3)
      ∧ r.2.mem ((c.tc : Thread Cert.RopeQXRefIdeal.nD Cert.RopeQXRefIdeal.τ).loc Cert.RopeQXRefIdeal.main_arg4) = m ((c.tc : Thread Cert.RopeQXRefIdeal.nD Cert.RopeQXRefIdeal.τ).loc Cert.RopeQXRefIdeal.main_arg4))
      ∧ r.2.sem = fun _ => 0)

def quiescent_RopeQW [hRopeQW : Cert.RopeQW.Facts] : Prop :=
  ∀ (m : (ℓ : Loc Cert.RopeQW.nD Cert.RopeQW.τ Cert.RopeQW.sig) → Buf (Elt Bits) ℓ) (g : Dev Cert.RopeQW.nD → PrngReg), Pre_RopeQW m →
    θ_run (Cert.RopeQW.defs (F := Bits)) (onTc (τ := Cert.RopeQW.τ) (Cert.RopeQW.main (F := Bits))) ⟨m, fun _ => 0, g⟩ (fun r => (∀ c : Dev Cert.RopeQW.nD,
      r.2.mem ((c.tc : Thread Cert.RopeQW.nD Cert.RopeQW.τ).loc Cert.RopeQW.main_arg0) = m ((c.tc : Thread Cert.RopeQW.nD Cert.RopeQW.τ).loc Cert.RopeQW.main_arg0)
      ∧ r.2.mem ((c.tc : Thread Cert.RopeQW.nD Cert.RopeQW.τ).loc Cert.RopeQW.main_arg1) = m ((c.tc : Thread Cert.RopeQW.nD Cert.RopeQW.τ).loc Cert.RopeQW.main_arg1)
      ∧ r.2.mem ((c.tc : Thread Cert.RopeQW.nD Cert.RopeQW.τ).loc Cert.RopeQW.main_arg2) = m ((c.tc : Thread Cert.RopeQW.nD Cert.RopeQW.τ).loc Cert.RopeQW.main_arg2)
      ∧ r.2.mem ((c.tc : Thread Cert.RopeQW.nD Cert.RopeQW.τ).loc Cert.RopeQW.main_arg3) = m ((c.tc : Thread Cert.RopeQW.nD Cert.RopeQW.τ).loc Cert.RopeQW.main_arg3)
      ∧ r.2.mem ((c.tc : Thread Cert.RopeQW.nD Cert.RopeQW.τ).loc Cert.RopeQW.main_arg4) = m ((c.tc : Thread Cert.RopeQW.nD Cert.RopeQW.τ).loc Cert.RopeQW.main_arg4))
      ∧ r.2.sem = fun _ => 0)

def quiescent_RopeQWIdeal [hRopeQWIdeal : Cert.RopeQWIdeal.Facts] : Prop :=
  ∀ (m : (ℓ : Loc Cert.RopeQWIdeal.nD Cert.RopeQWIdeal.τ Cert.RopeQWIdeal.sig) → Buf (Elt Ideal) ℓ) (g : Dev Cert.RopeQWIdeal.nD → PrngReg), Pre_RopeQWIdeal m →
    θ_run (Cert.RopeQWIdeal.defs (F := Ideal)) (onTc (τ := Cert.RopeQWIdeal.τ) (Cert.RopeQWIdeal.main (F := Ideal))) ⟨m, fun _ => 0, g⟩ (fun r => (∀ c : Dev Cert.RopeQWIdeal.nD,
      r.2.mem ((c.tc : Thread Cert.RopeQWIdeal.nD Cert.RopeQWIdeal.τ).loc Cert.RopeQWIdeal.main_arg0) = m ((c.tc : Thread Cert.RopeQWIdeal.nD Cert.RopeQWIdeal.τ).loc Cert.RopeQWIdeal.main_arg0)
      ∧ r.2.mem ((c.tc : Thread Cert.RopeQWIdeal.nD Cert.RopeQWIdeal.τ).loc Cert.RopeQWIdeal.main_arg1) = m ((c.tc : Thread Cert.RopeQWIdeal.nD Cert.RopeQWIdeal.τ).loc Cert.RopeQWIdeal.main_arg1)
      ∧ r.2.mem ((c.tc : Thread Cert.RopeQWIdeal.nD Cert.RopeQWIdeal.τ).loc Cert.RopeQWIdeal.main_arg2) = m ((c.tc : Thread Cert.RopeQWIdeal.nD Cert.RopeQWIdeal.τ).loc Cert.RopeQWIdeal.main_arg2)
      ∧ r.2.mem ((c.tc : Thread Cert.RopeQWIdeal.nD Cert.RopeQWIdeal.τ).loc Cert.RopeQWIdeal.main_arg3) = m ((c.tc : Thread Cert.RopeQWIdeal.nD Cert.RopeQWIdeal.τ).loc Cert.RopeQWIdeal.main_arg3)
      ∧ r.2.mem ((c.tc : Thread Cert.RopeQWIdeal.nD Cert.RopeQWIdeal.τ).loc Cert.RopeQWIdeal.main_arg4) = m ((c.tc : Thread Cert.RopeQWIdeal.nD Cert.RopeQWIdeal.τ).loc Cert.RopeQWIdeal.main_arg4))
      ∧ r.2.sem = fun _ => 0)

def quiescent_RopeQWIdeal_pre_ropeq_finite [hRopeQWIdeal : Cert.RopeQWIdeal.Facts] [hPre_ropeq_finite : Cert.Pre_ropeq_finite.Facts] : Prop :=
  ∀ (m : (ℓ : Loc Cert.RopeQWIdeal.nD Cert.RopeQWIdeal.τ Cert.RopeQWIdeal.sig) → Buf (Elt Ideal) ℓ) (g : Dev Cert.RopeQWIdeal.nD → PrngReg), Pre_RopeQWIdeal_ropeq_finite m →
    θ_run (Cert.RopeQWIdeal.defs (F := Ideal)) (onTc (τ := Cert.RopeQWIdeal.τ) (Cert.RopeQWIdeal.main (F := Ideal))) ⟨m, fun _ => 0, g⟩ (fun r => (∀ c : Dev Cert.RopeQWIdeal.nD,
      r.2.mem ((c.tc : Thread Cert.RopeQWIdeal.nD Cert.RopeQWIdeal.τ).loc Cert.RopeQWIdeal.main_arg0) = m ((c.tc : Thread Cert.RopeQWIdeal.nD Cert.RopeQWIdeal.τ).loc Cert.RopeQWIdeal.main_arg0)
      ∧ r.2.mem ((c.tc : Thread Cert.RopeQWIdeal.nD Cert.RopeQWIdeal.τ).loc Cert.RopeQWIdeal.main_arg1) = m ((c.tc : Thread Cert.RopeQWIdeal.nD Cert.RopeQWIdeal.τ).loc Cert.RopeQWIdeal.main_arg1)
      ∧ r.2.mem ((c.tc : Thread Cert.RopeQWIdeal.nD Cert.RopeQWIdeal.τ).loc Cert.RopeQWIdeal.main_arg2) = m ((c.tc : Thread Cert.RopeQWIdeal.nD Cert.RopeQWIdeal.τ).loc Cert.RopeQWIdeal.main_arg2)
      ∧ r.2.mem ((c.tc : Thread Cert.RopeQWIdeal.nD Cert.RopeQWIdeal.τ).loc Cert.RopeQWIdeal.main_arg3) = m ((c.tc : Thread Cert.RopeQWIdeal.nD Cert.RopeQWIdeal.τ).loc Cert.RopeQWIdeal.main_arg3)
      ∧ r.2.mem ((c.tc : Thread Cert.RopeQWIdeal.nD Cert.RopeQWIdeal.τ).loc Cert.RopeQWIdeal.main_arg4) = m ((c.tc : Thread Cert.RopeQWIdeal.nD Cert.RopeQWIdeal.τ).loc Cert.RopeQWIdeal.main_arg4))
      ∧ r.2.sem = fun _ => 0)

def quiescent_RopeQWRefIdeal [hRopeQWRefIdeal : Cert.RopeQWRefIdeal.Facts] : Prop :=
  ∀ (m : (ℓ : Loc Cert.RopeQWRefIdeal.nD Cert.RopeQWRefIdeal.τ Cert.RopeQWRefIdeal.sig) → Buf (Elt Ideal) ℓ) (g : Dev Cert.RopeQWRefIdeal.nD → PrngReg), Pre_RopeQWRefIdeal m →
    θ_run (Cert.RopeQWRefIdeal.defs (F := Ideal)) (onTc (τ := Cert.RopeQWRefIdeal.τ) (Cert.RopeQWRefIdeal.main (F := Ideal))) ⟨m, fun _ => 0, g⟩ (fun r => (∀ c : Dev Cert.RopeQWRefIdeal.nD,
      r.2.mem ((c.tc : Thread Cert.RopeQWRefIdeal.nD Cert.RopeQWRefIdeal.τ).loc Cert.RopeQWRefIdeal.main_arg0) = m ((c.tc : Thread Cert.RopeQWRefIdeal.nD Cert.RopeQWRefIdeal.τ).loc Cert.RopeQWRefIdeal.main_arg0)
      ∧ r.2.mem ((c.tc : Thread Cert.RopeQWRefIdeal.nD Cert.RopeQWRefIdeal.τ).loc Cert.RopeQWRefIdeal.main_arg1) = m ((c.tc : Thread Cert.RopeQWRefIdeal.nD Cert.RopeQWRefIdeal.τ).loc Cert.RopeQWRefIdeal.main_arg1)
      ∧ r.2.mem ((c.tc : Thread Cert.RopeQWRefIdeal.nD Cert.RopeQWRefIdeal.τ).loc Cert.RopeQWRefIdeal.main_arg2) = m ((c.tc : Thread Cert.RopeQWRefIdeal.nD Cert.RopeQWRefIdeal.τ).loc Cert.RopeQWRefIdeal.main_arg2)
      ∧ r.2.mem ((c.tc : Thread Cert.RopeQWRefIdeal.nD Cert.RopeQWRefIdeal.τ).loc Cert.RopeQWRefIdeal.main_arg3) = m ((c.tc : Thread Cert.RopeQWRefIdeal.nD Cert.RopeQWRefIdeal.τ).loc Cert.RopeQWRefIdeal.main_arg3)
      ∧ r.2.mem ((c.tc : Thread Cert.RopeQWRefIdeal.nD Cert.RopeQWRefIdeal.τ).loc Cert.RopeQWRefIdeal.main_arg4) = m ((c.tc : Thread Cert.RopeQWRefIdeal.nD Cert.RopeQWRefIdeal.τ).loc Cert.RopeQWRefIdeal.main_arg4))
      ∧ r.2.sem = fun _ => 0)

def quiescent_RopeQWRefIdeal_pre_ropeq_finite [hRopeQWRefIdeal : Cert.RopeQWRefIdeal.Facts] [hPre_ropeq_finite : Cert.Pre_ropeq_finite.Facts] : Prop :=
  ∀ (m : (ℓ : Loc Cert.RopeQWRefIdeal.nD Cert.RopeQWRefIdeal.τ Cert.RopeQWRefIdeal.sig) → Buf (Elt Ideal) ℓ) (g : Dev Cert.RopeQWRefIdeal.nD → PrngReg), Pre_RopeQWRefIdeal_ropeq_finite m →
    θ_run (Cert.RopeQWRefIdeal.defs (F := Ideal)) (onTc (τ := Cert.RopeQWRefIdeal.τ) (Cert.RopeQWRefIdeal.main (F := Ideal))) ⟨m, fun _ => 0, g⟩ (fun r => (∀ c : Dev Cert.RopeQWRefIdeal.nD,
      r.2.mem ((c.tc : Thread Cert.RopeQWRefIdeal.nD Cert.RopeQWRefIdeal.τ).loc Cert.RopeQWRefIdeal.main_arg0) = m ((c.tc : Thread Cert.RopeQWRefIdeal.nD Cert.RopeQWRefIdeal.τ).loc Cert.RopeQWRefIdeal.main_arg0)
      ∧ r.2.mem ((c.tc : Thread Cert.RopeQWRefIdeal.nD Cert.RopeQWRefIdeal.τ).loc Cert.RopeQWRefIdeal.main_arg1) = m ((c.tc : Thread Cert.RopeQWRefIdeal.nD Cert.RopeQWRefIdeal.τ).loc Cert.RopeQWRefIdeal.main_arg1)
      ∧ r.2.mem ((c.tc : Thread Cert.RopeQWRefIdeal.nD Cert.RopeQWRefIdeal.τ).loc Cert.RopeQWRefIdeal.main_arg2) = m ((c.tc : Thread Cert.RopeQWRefIdeal.nD Cert.RopeQWRefIdeal.τ).loc Cert.RopeQWRefIdeal.main_arg2)
      ∧ r.2.mem ((c.tc : Thread Cert.RopeQWRefIdeal.nD Cert.RopeQWRefIdeal.τ).loc Cert.RopeQWRefIdeal.main_arg3) = m ((c.tc : Thread Cert.RopeQWRefIdeal.nD Cert.RopeQWRefIdeal.τ).loc Cert.RopeQWRefIdeal.main_arg3)
      ∧ r.2.mem ((c.tc : Thread Cert.RopeQWRefIdeal.nD Cert.RopeQWRefIdeal.τ).loc Cert.RopeQWRefIdeal.main_arg4) = m ((c.tc : Thread Cert.RopeQWRefIdeal.nD Cert.RopeQWRefIdeal.τ).loc Cert.RopeQWRefIdeal.main_arg4))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1)
      ∧ r.2.mem ((c.tc : Thread Cert.NormQ.nD Cert.NormQ.τ).loc Cert.NormQ.main_arg2) = m ((c.tc : Thread Cert.NormQ.nD Cert.NormQ.τ).loc Cert.NormQ.main_arg2))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQIdeal_pre_normq_finite [hNormQIdeal : Cert.NormQIdeal.Facts] [hPre_normq_finite : Cert.Pre_normq_finite.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal_normq_finite m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
      ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ r.2.sem = fun _ => 0)

def quiescent_NormQRefIdeal [hNormQRefIdeal : Cert.NormQRefIdeal.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2))
      ∧ r.2.sem = fun _ => 0)

def quiescent_NormQRefIdeal_pre_normq_finite [hNormQRefIdeal : Cert.NormQRefIdeal.Facts] [hPre_normq_finite : Cert.Pre_normq_finite.Facts] : Prop :=
  ∀ (m : (ℓ : Loc Cert.NormQRefIdeal.nD Cert.NormQRefIdeal.τ Cert.NormQRefIdeal.sig) → Buf (Elt Ideal) ℓ) (g : Dev Cert.NormQRefIdeal.nD → PrngReg), Pre_NormQRefIdeal_normq_finite m →
    θ_run (Cert.NormQRefIdeal.defs (F := Ideal)) (onTc (τ := Cert.NormQRefIdeal.τ) (Cert.NormQRefIdeal.main (F := Ideal))) ⟨m, fun _ => 0, g⟩ (fun r => (∀ c : Dev Cert.NormQRefIdeal.nD,
      r.2.mem ((c.tc : Thread Cert.NormQRefIdeal.nD Cert.NormQRefIdeal.τ).loc Cert.NormQRefIdeal.main_arg0) = m ((c.tc : Thread Cert.NormQRefIdeal.nD Cert.NormQRefIdeal.τ).loc Cert.NormQRefIdeal.main_arg0)
      ∧ r.2.mem ((c.tc : Thread Cert.NormQRefIdeal.nD Cert.NormQRefIdeal.τ).loc Cert.NormQRefIdeal.main_arg1) = m ((c.tc : Thread Cert.NormQRefIdeal.nD Cert.NormQRefIdeal.τ).loc Cert.NormQRefIdeal.main_arg1)
      ∧ r.2.mem ((c.tc : Thread Cert.NormQRefIdeal.nD Cert.NormQRefIdeal.τ).loc Cert.NormQRefIdeal.main_arg2) = m ((c.tc : Thread Cert.NormQRefIdeal.nD Cert.NormQRefIdeal.τ).loc Cert.NormQRefIdeal.main_arg2))
      ∧ r.2.sem = fun _ => 0)

def quiescent_FoxCtx [hFoxCtx : Cert.FoxCtx.Facts] : Prop :=
  ∀ (m : (ℓ : Loc Cert.FoxCtx.nD Cert.FoxCtx.τ Cert.FoxCtx.sig) → Buf (Elt Bits) ℓ) (g : Dev Cert.FoxCtx.nD → PrngReg), Pre_FoxCtx m →
    θ_run (Cert.FoxCtx.defs (F := Bits)) (onTc (τ := Cert.FoxCtx.τ) (Cert.FoxCtx.main (F := Bits))) ⟨m, fun _ => 0, g⟩ (fun r => (∀ c : Dev Cert.FoxCtx.nD,
      r.2.mem ((c.tc : Thread Cert.FoxCtx.nD Cert.FoxCtx.τ).loc Cert.FoxCtx.main_arg0) = m ((c.tc : Thread Cert.FoxCtx.nD Cert.FoxCtx.τ).loc Cert.FoxCtx.main_arg0)
      ∧ r.2.mem ((c.tc : Thread Cert.FoxCtx.nD Cert.FoxCtx.τ).loc Cert.FoxCtx.main_arg1) = m ((c.tc : Thread Cert.FoxCtx.nD Cert.FoxCtx.τ).loc Cert.FoxCtx.main_arg1)
      ∧ r.2.mem ((c.tc : Thread Cert.FoxCtx.nD Cert.FoxCtx.τ).loc Cert.FoxCtx.main_arg2) = m ((c.tc : Thread Cert.FoxCtx.nD Cert.FoxCtx.τ).loc Cert.FoxCtx.main_arg2)
      ∧ r.2.mem ((c.tc : Thread Cert.FoxCtx.nD Cert.FoxCtx.τ).loc Cert.FoxCtx.main_arg3) = m ((c.tc : Thread Cert.FoxCtx.nD Cert.FoxCtx.τ).loc Cert.FoxCtx.main_arg3)
      ∧ r.2.mem ((c.tc : Thread Cert.FoxCtx.nD Cert.FoxCtx.τ).loc Cert.FoxCtx.main_arg4) = m ((c.tc : Thread Cert.FoxCtx.nD Cert.FoxCtx.τ).loc Cert.FoxCtx.main_arg4)
      ∧ r.2.mem ((c.tc : Thread Cert.FoxCtx.nD Cert.FoxCtx.τ).loc Cert.FoxCtx.main_arg5) = m ((c.tc : Thread Cert.FoxCtx.nD Cert.FoxCtx.τ).loc Cert.FoxCtx.main_arg5))
      ∧ r.2.sem = fun _ => 0)

def quiescent_FoxCtxIdeal [hFoxCtxIdeal : Cert.FoxCtxIdeal.Facts] : Prop :=
  ∀ (m : (ℓ : Loc Cert.FoxCtxIdeal.nD Cert.FoxCtxIdeal.τ Cert.FoxCtxIdeal.sig) → Buf (Elt Ideal) ℓ) (g : Dev Cert.FoxCtxIdeal.nD → PrngReg), Pre_FoxCtxIdeal m →
    θ_run (Cert.FoxCtxIdeal.defs (F := Ideal)) (onTc (τ := Cert.FoxCtxIdeal.τ) (Cert.FoxCtxIdeal.main (F := Ideal))) ⟨m, fun _ => 0, g⟩ (fun r => (∀ c : Dev Cert.FoxCtxIdeal.nD,
      r.2.mem ((c.tc : Thread Cert.FoxCtxIdeal.nD Cert.FoxCtxIdeal.τ).loc Cert.FoxCtxIdeal.main_arg0) = m ((c.tc : Thread Cert.FoxCtxIdeal.nD Cert.FoxCtxIdeal.τ).loc Cert.FoxCtxIdeal.main_arg0)
      ∧ r.2.mem ((c.tc : Thread Cert.FoxCtxIdeal.nD Cert.FoxCtxIdeal.τ).loc Cert.FoxCtxIdeal.main_arg1) = m ((c.tc : Thread Cert.FoxCtxIdeal.nD Cert.FoxCtxIdeal.τ).loc Cert.FoxCtxIdeal.main_arg1)
      ∧ r.2.mem ((c.tc : Thread Cert.FoxCtxIdeal.nD Cert.FoxCtxIdeal.τ).loc Cert.FoxCtxIdeal.main_arg2) = m ((c.tc : Thread Cert.FoxCtxIdeal.nD Cert.FoxCtxIdeal.τ).loc Cert.FoxCtxIdeal.main_arg2)
      ∧ r.2.mem ((c.tc : Thread Cert.FoxCtxIdeal.nD Cert.FoxCtxIdeal.τ).loc Cert.FoxCtxIdeal.main_arg3) = m ((c.tc : Thread Cert.FoxCtxIdeal.nD Cert.FoxCtxIdeal.τ).loc Cert.FoxCtxIdeal.main_arg3)
      ∧ r.2.mem ((c.tc : Thread Cert.FoxCtxIdeal.nD Cert.FoxCtxIdeal.τ).loc Cert.FoxCtxIdeal.main_arg4) = m ((c.tc : Thread Cert.FoxCtxIdeal.nD Cert.FoxCtxIdeal.τ).loc Cert.FoxCtxIdeal.main_arg4)
      ∧ r.2.mem ((c.tc : Thread Cert.FoxCtxIdeal.nD Cert.FoxCtxIdeal.τ).loc Cert.FoxCtxIdeal.main_arg5) = m ((c.tc : Thread Cert.FoxCtxIdeal.nD Cert.FoxCtxIdeal.τ).loc Cert.FoxCtxIdeal.main_arg5))
      ∧ r.2.sem = fun _ => 0)

def quiescent_FoxCtxIdeal_pre_foxctx_finite [hFoxCtxIdeal : Cert.FoxCtxIdeal.Facts] [hPre_foxctx_finite : Cert.Pre_foxctx_finite.Facts] : Prop :=
  ∀ (m : (ℓ : Loc Cert.FoxCtxIdeal.nD Cert.FoxCtxIdeal.τ Cert.FoxCtxIdeal.sig) → Buf (Elt Ideal) ℓ) (g : Dev Cert.FoxCtxIdeal.nD → PrngReg), Pre_FoxCtxIdeal_foxctx_finite m →
    θ_run (Cert.FoxCtxIdeal.defs (F := Ideal)) (onTc (τ := Cert.FoxCtxIdeal.τ) (Cert.FoxCtxIdeal.main (F := Ideal))) ⟨m, fun _ => 0, g⟩ (fun r => (∀ c : Dev Cert.FoxCtxIdeal.nD,
      r.2.mem ((c.tc : Thread Cert.FoxCtxIdeal.nD Cert.FoxCtxIdeal.τ).loc Cert.FoxCtxIdeal.main_arg0) = m ((c.tc : Thread Cert.FoxCtxIdeal.nD Cert.FoxCtxIdeal.τ).loc Cert.FoxCtxIdeal.main_arg0)
      ∧ r.2.mem ((c.tc : Thread Cert.FoxCtxIdeal.nD Cert.FoxCtxIdeal.τ).loc Cert.FoxCtxIdeal.main_arg1) = m ((c.tc : Thread Cert.FoxCtxIdeal.nD Cert.FoxCtxIdeal.τ).loc Cert.FoxCtxIdeal.main_arg1)
      ∧ r.2.mem ((c.tc : Thread Cert.FoxCtxIdeal.nD Cert.FoxCtxIdeal.τ).loc Cert.FoxCtxIdeal.main_arg2) = m ((c.tc : Thread Cert.FoxCtxIdeal.nD Cert.FoxCtxIdeal.τ).loc Cert.FoxCtxIdeal.main_arg2)
      ∧ r.2.mem ((c.tc : Thread Cert.FoxCtxIdeal.nD Cert.FoxCtxIdeal.τ).loc Cert.FoxCtxIdeal.main_arg3) = m ((c.tc : Thread Cert.FoxCtxIdeal.nD Cert.FoxCtxIdeal.τ).loc Cert.FoxCtxIdeal.main_arg3)
      ∧ r.2.mem ((c.tc : Thread Cert.FoxCtxIdeal.nD Cert.FoxCtxIdeal.τ).loc Cert.FoxCtxIdeal.main_arg4) = m ((c.tc : Thread Cert.FoxCtxIdeal.nD Cert.FoxCtxIdeal.τ).loc Cert.FoxCtxIdeal.main_arg4)
      ∧ r.2.mem ((c.tc : Thread Cert.FoxCtxIdeal.nD Cert.FoxCtxIdeal.τ).loc Cert.FoxCtxIdeal.main_arg5) = m ((c.tc : Thread Cert.FoxCtxIdeal.nD Cert.FoxCtxIdeal.τ).loc Cert.FoxCtxIdeal.main_arg5))
      ∧ r.2.sem = fun _ => 0)

def quiescent_FoxCtxRefIdeal [hFoxCtxRefIdeal : Cert.FoxCtxRefIdeal.Facts] : Prop :=
  ∀ (m : (ℓ : Loc Cert.FoxCtxRefIdeal.nD Cert.FoxCtxRefIdeal.τ Cert.FoxCtxRefIdeal.sig) → Buf (Elt Ideal) ℓ) (g : Dev Cert.FoxCtxRefIdeal.nD → PrngReg), Pre_FoxCtxRefIdeal m →
    θ_run (Cert.FoxCtxRefIdeal.defs (F := Ideal)) (onTc (τ := Cert.FoxCtxRefIdeal.τ) (Cert.FoxCtxRefIdeal.main (F := Ideal))) ⟨m, fun _ => 0, g⟩ (fun r => (∀ c : Dev Cert.FoxCtxRefIdeal.nD,
      r.2.mem ((c.tc : Thread Cert.FoxCtxRefIdeal.nD Cert.FoxCtxRefIdeal.τ).loc Cert.FoxCtxRefIdeal.main_arg0) = m ((c.tc : Thread Cert.FoxCtxRefIdeal.nD Cert.FoxCtxRefIdeal.τ).loc Cert.FoxCtxRefIdeal.main_arg0)
      ∧ r.2.mem ((c.tc : Thread Cert.FoxCtxRefIdeal.nD Cert.FoxCtxRefIdeal.τ).loc Cert.FoxCtxRefIdeal.main_arg1) = m ((c.tc : Thread Cert.FoxCtxRefIdeal.nD Cert.FoxCtxRefIdeal.τ).loc Cert.FoxCtxRefIdeal.main_arg1)
      ∧ r.2.mem ((c.tc : Thread Cert.FoxCtxRefIdeal.nD Cert.FoxCtxRefIdeal.τ).loc Cert.FoxCtxRefIdeal.main_arg2) = m ((c.tc : Thread Cert.FoxCtxRefIdeal.nD Cert.FoxCtxRefIdeal.τ).loc Cert.FoxCtxRefIdeal.main_arg2)
      ∧ r.2.mem ((c.tc : Thread Cert.FoxCtxRefIdeal.nD Cert.FoxCtxRefIdeal.τ).loc Cert.FoxCtxRefIdeal.main_arg3) = m ((c.tc : Thread Cert.FoxCtxRefIdeal.nD Cert.FoxCtxRefIdeal.τ).loc Cert.FoxCtxRefIdeal.main_arg3)
      ∧ r.2.mem ((c.tc : Thread Cert.FoxCtxRefIdeal.nD Cert.FoxCtxRefIdeal.τ).loc Cert.FoxCtxRefIdeal.main_arg4) = m ((c.tc : Thread Cert.FoxCtxRefIdeal.nD Cert.FoxCtxRefIdeal.τ).loc Cert.FoxCtxRefIdeal.main_arg4)
      ∧ r.2.mem ((c.tc : Thread Cert.FoxCtxRefIdeal.nD Cert.FoxCtxRefIdeal.τ).loc Cert.FoxCtxRefIdeal.main_arg5) = m ((c.tc : Thread Cert.FoxCtxRefIdeal.nD Cert.FoxCtxRefIdeal.τ).loc Cert.FoxCtxRefIdeal.main_arg5))
      ∧ r.2.sem = fun _ => 0)

def quiescent_FoxCtxRefIdeal_pre_foxctx_finite [hFoxCtxRefIdeal : Cert.FoxCtxRefIdeal.Facts] [hPre_foxctx_finite : Cert.Pre_foxctx_finite.Facts] : Prop :=
  ∀ (m : (ℓ : Loc Cert.FoxCtxRefIdeal.nD Cert.FoxCtxRefIdeal.τ Cert.FoxCtxRefIdeal.sig) → Buf (Elt Ideal) ℓ) (g : Dev Cert.FoxCtxRefIdeal.nD → PrngReg), Pre_FoxCtxRefIdeal_foxctx_finite m →
    θ_run (Cert.FoxCtxRefIdeal.defs (F := Ideal)) (onTc (τ := Cert.FoxCtxRefIdeal.τ) (Cert.FoxCtxRefIdeal.main (F := Ideal))) ⟨m, fun _ => 0, g⟩ (fun r => (∀ c : Dev Cert.FoxCtxRefIdeal.nD,
      r.2.mem ((c.tc : Thread Cert.FoxCtxRefIdeal.nD Cert.FoxCtxRefIdeal.τ).loc Cert.FoxCtxRefIdeal.main_arg0) = m ((c.tc : Thread Cert.FoxCtxRefIdeal.nD Cert.FoxCtxRefIdeal.τ).loc Cert.FoxCtxRefIdeal.main_arg0)
      ∧ r.2.mem ((c.tc : Thread Cert.FoxCtxRefIdeal.nD Cert.FoxCtxRefIdeal.τ).loc Cert.FoxCtxRefIdeal.main_arg1) = m ((c.tc : Thread Cert.FoxCtxRefIdeal.nD Cert.FoxCtxRefIdeal.τ).loc Cert.FoxCtxRefIdeal.main_arg1)
      ∧ r.2.mem ((c.tc : Thread Cert.FoxCtxRefIdeal.nD Cert.FoxCtxRefIdeal.τ).loc Cert.FoxCtxRefIdeal.main_arg2) = m ((c.tc : Thread Cert.FoxCtxRefIdeal.nD Cert.FoxCtxRefIdeal.τ).loc Cert.FoxCtxRefIdeal.main_arg2)
      ∧ r.2.mem ((c.tc : Thread Cert.FoxCtxRefIdeal.nD Cert.FoxCtxRefIdeal.τ).loc Cert.FoxCtxRefIdeal.main_arg3) = m ((c.tc : Thread Cert.FoxCtxRefIdeal.nD Cert.FoxCtxRefIdeal.τ).loc Cert.FoxCtxRefIdeal.main_arg3)
      ∧ r.2.mem ((c.tc : Thread Cert.FoxCtxRefIdeal.nD Cert.FoxCtxRefIdeal.τ).loc Cert.FoxCtxRefIdeal.main_arg4) = m ((c.tc : Thread Cert.FoxCtxRefIdeal.nD Cert.FoxCtxRefIdeal.τ).loc Cert.FoxCtxRefIdeal.main_arg4)
      ∧ r.2.mem ((c.tc : Thread Cert.FoxCtxRefIdeal.nD Cert.FoxCtxRefIdeal.τ).loc Cert.FoxCtxRefIdeal.main_arg5) = m ((c.tc : Thread Cert.FoxCtxRefIdeal.nD Cert.FoxCtxRefIdeal.τ).loc Cert.FoxCtxRefIdeal.main_arg5))
      ∧ r.2.sem = fun _ => 0)

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v38) = v1 c
          ∧ r.2.mem ((c.tc : Thread Cert.NormRefIdeal.nD Cert.NormRefIdeal.τ).loc Cert.NormRefIdeal.main_v39) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_MlaBwd_MlaBwdIdeal : Prop :=
  IdealRules.named_const.Statement Cert.MlaBwdIdeal.κ "mask" .f32 0xF149F2CA#32 ⊥

def algebraic_MlaBwdIdeal_MlaRefIdeal_pre_mla_finite [hMlaBwdIdeal : Cert.MlaBwdIdeal.Facts] [hMlaRefIdeal : Cert.MlaRefIdeal.Facts] [hPre_mla_finite : Cert.Pre_mla_finite.Facts] : Prop :=
  ∀ (m : (ℓ : Loc Cert.MlaBwdIdeal.nD Cert.MlaBwdIdeal.τ Cert.MlaBwdIdeal.sig) → Buf (Elt Ideal) ℓ) (g : Dev Cert.MlaBwdIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaBwdIdeal_mla_finite m →
    (∀ c : Dev Cert.MlaBwdIdeal.nD,
      m' ((c.tc : Thread Cert.MlaRefIdeal.nD Cert.MlaRefIdeal.τ).loc Cert.MlaRefIdeal.main_arg0) = m ((c.tc : Thread Cert.MlaBwdIdeal.nD Cert.MlaBwdIdeal.τ).loc Cert.MlaBwdIdeal.main_arg0)
      ∧ m' ((c.tc : Thread Cert.MlaRefIdeal.nD Cert.MlaRefIdeal.τ).loc Cert.MlaRefIdeal.main_arg1) = m ((c.tc : Thread Cert.MlaBwdIdeal.nD Cert.MlaBwdIdeal.τ).loc Cert.MlaBwdIdeal.main_arg1)
      ∧ m' ((c.tc : Thread Cert.MlaRefIdeal.nD Cert.MlaRefIdeal.τ).loc Cert.MlaRefIdeal.main_arg2) = m ((c.tc : Thread Cert.MlaBwdIdeal.nD Cert.MlaBwdIdeal.τ).loc Cert.MlaBwdIdeal.main_arg2)
      ∧ m' ((c.tc : Thread Cert.MlaRefIdeal.nD Cert.MlaRefIdeal.τ).loc Cert.MlaRefIdeal.main_arg3) = m ((c.tc : Thread Cert.MlaBwdIdeal.nD Cert.MlaBwdIdeal.τ).loc Cert.MlaBwdIdeal.main_arg3)
      ∧ m' ((c.tc : Thread Cert.MlaRefIdeal.nD Cert.MlaRefIdeal.τ).loc Cert.MlaRefIdeal.main_arg4) = m ((c.tc : Thread Cert.MlaBwdIdeal.nD Cert.MlaBwdIdeal.τ).loc Cert.MlaBwdIdeal.main_arg4)) →
    ∃ (v0 : (c : Dev Cert.MlaBwdIdeal.nD) → Buf (Elt Ideal) ((c.tc : Thread Cert.MlaBwdIdeal.nD Cert.MlaBwdIdeal.τ).loc Cert.MlaBwdIdeal.main_v88)) (v1 : (c : Dev Cert.MlaBwdIdeal.nD) → Buf (Elt Ideal) ((c.tc : Thread Cert.MlaBwdIdeal.nD Cert.MlaBwdIdeal.τ).loc Cert.MlaBwdIdeal.main_v89)) (v2 : (c : Dev Cert.MlaBwdIdeal.nD) → Buf (Elt Ideal) ((c.tc : Thread Cert.MlaBwdIdeal.nD Cert.MlaBwdIdeal.τ).loc Cert.MlaBwdIdeal.main_v90)),
      θ_run (Cert.MlaBwdIdeal.defs (F := Ideal)) (onTc (τ := Cert.MlaBwdIdeal.τ) (Cert.MlaBwdIdeal.main (F := Ideal))) ⟨m, fun _ => 0, g⟩ (fun r => ∀ c : Dev Cert.MlaBwdIdeal.nD,
          r.2.mem ((c.tc : Thread Cert.MlaBwdIdeal.nD Cert.MlaBwdIdeal.τ).loc Cert.MlaBwdIdeal.main_v88) = v0 c
          ∧ r.2.mem ((c.tc : Thread Cert.MlaBwdIdeal.nD Cert.MlaBwdIdeal.τ).loc Cert.MlaBwdIdeal.main_v89) = v1 c
          ∧ r.2.mem ((c.tc : Thread Cert.MlaBwdIdeal.nD Cert.MlaBwdIdeal.τ).loc Cert.MlaBwdIdeal.main_v90) = v2 c
          ∧ r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
          ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
          ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
          ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
          ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v75) = v0 c
          ∧ r.2.mem ((c.tc : Thread Cert.MlaRefIdeal.nD Cert.MlaRefIdeal.τ).loc Cert.MlaRefIdeal.main_v77) = v1 c
          ∧ r.2.mem ((c.tc : Thread Cert.MlaRefIdeal.nD Cert.MlaRefIdeal.τ).loc Cert.MlaRefIdeal.main_v78) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_FoxBwd_FoxBwdIdeal : Prop :=
  IdealRules.named_const.Statement Cert.FoxBwdIdeal.κ "mask" .f32 0xF149F2CA#32 ⊥

def algebraic_FoxBwdIdeal_FoxRefIdeal_pre_fox_finite [hFoxBwdIdeal : Cert.FoxBwdIdeal.Facts] [hFoxRefIdeal : Cert.FoxRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxBwdIdeal_fox_finite m →
    (∀ c : Dev Cert.FoxBwdIdeal.nD,
      m' ((c.tc : Thread Cert.FoxRefIdeal.nD Cert.FoxRefIdeal.τ).loc Cert.FoxRefIdeal.main_arg0) = m ((c.tc : Thread Cert.FoxBwdIdeal.nD Cert.FoxBwdIdeal.τ).loc Cert.FoxBwdIdeal.main_arg0)
      ∧ m' ((c.tc : Thread Cert.FoxRefIdeal.nD Cert.FoxRefIdeal.τ).loc Cert.FoxRefIdeal.main_arg1) = m ((c.tc : Thread Cert.FoxBwdIdeal.nD Cert.FoxBwdIdeal.τ).loc Cert.FoxBwdIdeal.main_arg1)
      ∧ m' ((c.tc : Thread Cert.FoxRefIdeal.nD Cert.FoxRefIdeal.τ).loc Cert.FoxRefIdeal.main_arg2) = m ((c.tc : Thread Cert.FoxBwdIdeal.nD Cert.FoxBwdIdeal.τ).loc Cert.FoxBwdIdeal.main_arg2)
      ∧ m' ((c.tc : Thread Cert.FoxRefIdeal.nD Cert.FoxRefIdeal.τ).loc Cert.FoxRefIdeal.main_arg3) = m ((c.tc : Thread Cert.FoxBwdIdeal.nD Cert.FoxBwdIdeal.τ).loc Cert.FoxBwdIdeal.main_arg3)
      ∧ m' ((c.tc : Thread Cert.FoxRefIdeal.nD Cert.FoxRefIdeal.τ).loc Cert.FoxRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v107)) (v1 : (c : Dev Cert.FoxBwdIdeal.nD) → Buf (Elt Ideal) ((c.tc : Thread Cert.FoxBwdIdeal.nD Cert.FoxBwdIdeal.τ).loc Cert.FoxBwdIdeal.main_v100)) (v2 : (c : Dev Cert.FoxBwdIdeal.nD) → Buf (Elt Ideal) ((c.tc : Thread Cert.FoxBwdIdeal.nD Cert.FoxBwdIdeal.τ).loc Cert.FoxBwdIdeal.main_v102)) (v3 : (c : Dev Cert.FoxBwdIdeal.nD) → Buf (Elt Ideal) ((c.tc : Thread Cert.FoxBwdIdeal.nD Cert.FoxBwdIdeal.τ).loc Cert.FoxBwdIdeal.main_v105)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v107) = v0 c
          ∧ r.2.mem ((c.tc : Thread Cert.FoxBwdIdeal.nD Cert.FoxBwdIdeal.τ).loc Cert.FoxBwdIdeal.main_v100) = v1 c
          ∧ r.2.mem ((c.tc : Thread Cert.FoxBwdIdeal.nD Cert.FoxBwdIdeal.τ).loc Cert.FoxBwdIdeal.main_v102) = v2 c
          ∧ r.2.mem ((c.tc : Thread Cert.FoxBwdIdeal.nD Cert.FoxBwdIdeal.τ).loc Cert.FoxBwdIdeal.main_v105) = v3 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v78) = v0 c
          ∧ r.2.mem ((c.tc : Thread Cert.FoxRefIdeal.nD Cert.FoxRefIdeal.τ).loc Cert.FoxRefIdeal.main_v81) = v1 c
          ∧ r.2.mem ((c.tc : Thread Cert.FoxRefIdeal.nD Cert.FoxRefIdeal.τ).loc Cert.FoxRefIdeal.main_v82) = v2 c
          ∧ r.2.mem ((c.tc : Thread Cert.FoxRefIdeal.nD Cert.FoxRefIdeal.τ).loc Cert.FoxRefIdeal.main_v80) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_3)) (v3 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_3) = v2 c
          ∧ r.2.mem ((c.tc : Thread Cert.LossIdeal.nD Cert.LossIdeal.τ).loc Cert.LossIdeal.main_v1_2) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v51) = v2 c
          ∧ r.2.mem ((c.tc : Thread Cert.LossRefIdeal.nD Cert.LossRefIdeal.τ).loc Cert.LossRefIdeal.main_v52) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v2_1)) (v1 : (c : Dev Cert.ActIdeal.nD) → Buf (Elt Ideal) ((c.tc : Thread Cert.ActIdeal.nD Cert.ActIdeal.τ).loc Cert.ActIdeal.main_v5)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v2_1) = v0 c
          ∧ r.2.mem ((c.tc : Thread Cert.ActIdeal.nD Cert.ActIdeal.τ).loc Cert.ActIdeal.main_v5) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v15) = v0 c
          ∧ r.2.mem ((c.tc : Thread Cert.ActRefIdeal.nD Cert.ActRefIdeal.τ).loc Cert.ActRefIdeal.main_v16) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Ctx_CtxIdeal : Prop :=
  True

def algebraic_CtxIdeal_CtxRefIdeal_pre_ctx_finite [hCtxIdeal : Cert.CtxIdeal.Facts] [hCtxRefIdeal : Cert.CtxRefIdeal.Facts] [hPre_ctx_finite : Cert.Pre_ctx_finite.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_ctx_finite m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)) →
    ∃ (v0 : (c : Dev Cert.CtxIdeal.nD) → Buf (Elt Ideal) ((c.tc : Thread Cert.CtxIdeal.nD Cert.CtxIdeal.τ).loc Cert.CtxIdeal.main_v41)) (v1 : (c : Dev Cert.CtxIdeal.nD) → Buf (Elt Ideal) ((c.tc : Thread Cert.CtxIdeal.nD Cert.CtxIdeal.τ).loc Cert.CtxIdeal.main_v44)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v41) = v0 c
          ∧ r.2.mem ((c.tc : Thread Cert.CtxIdeal.nD Cert.CtxIdeal.τ).loc Cert.CtxIdeal.main_v44) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v33) = v0 c
          ∧ r.2.mem ((c.tc : Thread Cert.CtxRefIdeal.nD Cert.CtxRefIdeal.τ).loc Cert.CtxRefIdeal.main_v35) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5))

def preserves_Norm2_Norm2Ideal : Prop :=
  True

def algebraic_Norm2Ideal_Norm2RefIdeal_pre_norm2_finite [hNorm2Ideal : Cert.Norm2Ideal.Facts] [hNorm2RefIdeal : Cert.Norm2RefIdeal.Facts] [hPre_norm2_finite : Cert.Pre_norm2_finite.Facts] : Prop :=
  ∀ (m : (ℓ : Loc Cert.Norm2Ideal.nD Cert.Norm2Ideal.τ Cert.Norm2Ideal.sig) → Buf (Elt Ideal) ℓ) (g : Dev Cert.Norm2Ideal.nD → PrngReg)
    (m' : (ℓ : Loc Cert.Norm2RefIdeal.nD Cert.Norm2RefIdeal.τ Cert.Norm2RefIdeal.sig) → Buf (Elt Ideal) ℓ) (g' : Dev Cert.Norm2RefIdeal.nD → PrngReg), Pre_Norm2Ideal_norm2_finite m →
    (∀ c : Dev Cert.Norm2Ideal.nD,
      m' ((c.tc : Thread Cert.Norm2RefIdeal.nD Cert.Norm2RefIdeal.τ).loc Cert.Norm2RefIdeal.main_arg0) = m ((c.tc : Thread Cert.Norm2Ideal.nD Cert.Norm2Ideal.τ).loc Cert.Norm2Ideal.main_arg0)
      ∧ m' ((c.tc : Thread Cert.Norm2RefIdeal.nD Cert.Norm2RefIdeal.τ).loc Cert.Norm2RefIdeal.main_arg1) = m ((c.tc : Thread Cert.Norm2Ideal.nD Cert.Norm2Ideal.τ).loc Cert.Norm2Ideal.main_arg1)
      ∧ m' ((c.tc : Thread Cert.Norm2RefIdeal.nD Cert.Norm2RefIdeal.τ).loc Cert.Norm2RefIdeal.main_arg2) = m ((c.tc : Thread Cert.Norm2Ideal.nD Cert.Norm2Ideal.τ).loc Cert.Norm2Ideal.main_arg2)
      ∧ m' ((c.tc : Thread Cert.Norm2RefIdeal.nD Cert.Norm2RefIdeal.τ).loc Cert.Norm2RefIdeal.main_arg3) = m ((c.tc : Thread Cert.Norm2Ideal.nD Cert.Norm2Ideal.τ).loc Cert.Norm2Ideal.main_arg3)
      ∧ m' ((c.tc : Thread Cert.Norm2RefIdeal.nD Cert.Norm2RefIdeal.τ).loc Cert.Norm2RefIdeal.main_arg4) = m ((c.tc : Thread Cert.Norm2Ideal.nD Cert.Norm2Ideal.τ).loc Cert.Norm2Ideal.main_arg4)
      ∧ m' ((c.tc : Thread Cert.Norm2RefIdeal.nD Cert.Norm2RefIdeal.τ).loc Cert.Norm2RefIdeal.main_arg5) = m ((c.tc : Thread Cert.Norm2Ideal.nD Cert.Norm2Ideal.τ).loc Cert.Norm2Ideal.main_arg5)) →
    ∃ (v0 : (c : Dev Cert.Norm2Ideal.nD) → Buf (Elt Ideal) ((c.tc : Thread Cert.Norm2Ideal.nD Cert.Norm2Ideal.τ).loc Cert.Norm2Ideal.main_v2_0)) (v1 : (c : Dev Cert.Norm2Ideal.nD) → Buf (Elt Ideal) ((c.tc : Thread Cert.Norm2Ideal.nD Cert.Norm2Ideal.τ).loc Cert.Norm2Ideal.main_v2_1)) (v2 : (c : Dev Cert.Norm2Ideal.nD) → Buf (Elt Ideal) ((c.tc : Thread Cert.Norm2Ideal.nD Cert.Norm2Ideal.τ).loc Cert.Norm2Ideal.main_v2_2)) (v3 : (c : Dev Cert.Norm2Ideal.nD) → Buf (Elt Ideal) ((c.tc : Thread Cert.Norm2Ideal.nD Cert.Norm2Ideal.τ).loc Cert.Norm2Ideal.main_v2_3)),
      θ_run (Cert.Norm2Ideal.defs (F := Ideal)) (onTc (τ := Cert.Norm2Ideal.τ) (Cert.Norm2Ideal.main (F := Ideal))) ⟨m, fun _ => 0, g⟩ (fun r => ∀ c : Dev Cert.Norm2Ideal.nD,
          r.2.mem ((c.tc : Thread Cert.Norm2Ideal.nD Cert.Norm2Ideal.τ).loc Cert.Norm2Ideal.main_v2_0) = v0 c
          ∧ r.2.mem ((c.tc : Thread Cert.Norm2Ideal.nD Cert.Norm2Ideal.τ).loc Cert.Norm2Ideal.main_v2_1) = v1 c
          ∧ r.2.mem ((c.tc : Thread Cert.Norm2Ideal.nD Cert.Norm2Ideal.τ).loc Cert.Norm2Ideal.main_v2_2) = v2 c
          ∧ r.2.mem ((c.tc : Thread Cert.Norm2Ideal.nD Cert.Norm2Ideal.τ).loc Cert.Norm2Ideal.main_v2_3) = v3 c
          ∧ r.2.mem ((c.tc : Thread Cert.Norm2Ideal.nD Cert.Norm2Ideal.τ).loc Cert.Norm2Ideal.main_arg0) = m ((c.tc : Thread Cert.Norm2Ideal.nD Cert.Norm2Ideal.τ).loc Cert.Norm2Ideal.main_arg0)
          ∧ r.2.mem ((c.tc : Thread Cert.Norm2Ideal.nD Cert.Norm2Ideal.τ).loc Cert.Norm2Ideal.main_arg1) = m ((c.tc : Thread Cert.Norm2Ideal.nD Cert.Norm2Ideal.τ).loc Cert.Norm2Ideal.main_arg1)
          ∧ r.2.mem ((c.tc : Thread Cert.Norm2Ideal.nD Cert.Norm2Ideal.τ).loc Cert.Norm2Ideal.main_arg2) = m ((c.tc : Thread Cert.Norm2Ideal.nD Cert.Norm2Ideal.τ).loc Cert.Norm2Ideal.main_arg2)
          ∧ r.2.mem ((c.tc : Thread Cert.Norm2Ideal.nD Cert.Norm2Ideal.τ).loc Cert.Norm2Ideal.main_arg3) = m ((c.tc : Thread Cert.Norm2Ideal.nD Cert.Norm2Ideal.τ).loc Cert.Norm2Ideal.main_arg3)
          ∧ r.2.mem ((c.tc : Thread Cert.Norm2Ideal.nD Cert.Norm2Ideal.τ).loc Cert.Norm2Ideal.main_arg4) = m ((c.tc : Thread Cert.Norm2Ideal.nD Cert.Norm2Ideal.τ).loc Cert.Norm2Ideal.main_arg4)
          ∧ r.2.mem ((c.tc : Thread Cert.Norm2Ideal.nD Cert.Norm2Ideal.τ).loc Cert.Norm2Ideal.main_arg5) = m ((c.tc : Thread Cert.Norm2Ideal.nD Cert.Norm2Ideal.τ).loc Cert.Norm2Ideal.main_arg5))
      ∧ θ_run (Cert.Norm2RefIdeal.defs (F := Ideal)) (onTc (τ := Cert.Norm2RefIdeal.τ) (Cert.Norm2RefIdeal.main (F := Ideal))) ⟨m', fun _ => 0, g'⟩ (fun r => ∀ c : Dev Cert.Norm2RefIdeal.nD,
          r.2.mem ((c.tc : Thread Cert.Norm2RefIdeal.nD Cert.Norm2RefIdeal.τ).loc Cert.Norm2RefIdeal.main_v73) = v0 c
          ∧ r.2.mem ((c.tc : Thread Cert.Norm2RefIdeal.nD Cert.Norm2RefIdeal.τ).loc Cert.Norm2RefIdeal.main_v75) = v1 c
          ∧ r.2.mem ((c.tc : Thread Cert.Norm2RefIdeal.nD Cert.Norm2RefIdeal.τ).loc Cert.Norm2RefIdeal.main_v76) = v2 c
          ∧ r.2.mem ((c.tc : Thread Cert.Norm2RefIdeal.nD Cert.Norm2RefIdeal.τ).loc Cert.Norm2RefIdeal.main_v77) = v3 c
          ∧ r.2.mem ((c.tc : Thread Cert.Norm2RefIdeal.nD Cert.Norm2RefIdeal.τ).loc Cert.Norm2RefIdeal.main_arg0) = m' ((c.tc : Thread Cert.Norm2RefIdeal.nD Cert.Norm2RefIdeal.τ).loc Cert.Norm2RefIdeal.main_arg0)
          ∧ r.2.mem ((c.tc : Thread Cert.Norm2RefIdeal.nD Cert.Norm2RefIdeal.τ).loc Cert.Norm2RefIdeal.main_arg1) = m' ((c.tc : Thread Cert.Norm2RefIdeal.nD Cert.Norm2RefIdeal.τ).loc Cert.Norm2RefIdeal.main_arg1)
          ∧ r.2.mem ((c.tc : Thread Cert.Norm2RefIdeal.nD Cert.Norm2RefIdeal.τ).loc Cert.Norm2RefIdeal.main_arg2) = m' ((c.tc : Thread Cert.Norm2RefIdeal.nD Cert.Norm2RefIdeal.τ).loc Cert.Norm2RefIdeal.main_arg2)
          ∧ r.2.mem ((c.tc : Thread Cert.Norm2RefIdeal.nD Cert.Norm2RefIdeal.τ).loc Cert.Norm2RefIdeal.main_arg3) = m' ((c.tc : Thread Cert.Norm2RefIdeal.nD Cert.Norm2RefIdeal.τ).loc Cert.Norm2RefIdeal.main_arg3)
          ∧ r.2.mem ((c.tc : Thread Cert.Norm2RefIdeal.nD Cert.Norm2RefIdeal.τ).loc Cert.Norm2RefIdeal.main_arg4) = m' ((c.tc : Thread Cert.Norm2RefIdeal.nD Cert.Norm2RefIdeal.τ).loc Cert.Norm2RefIdeal.main_arg4)
          ∧ r.2.mem ((c.tc : Thread Cert.Norm2RefIdeal.nD Cert.Norm2RefIdeal.τ).loc Cert.Norm2RefIdeal.main_arg5) = m' ((c.tc : Thread Cert.Norm2RefIdeal.nD Cert.Norm2RefIdeal.τ).loc Cert.Norm2RefIdeal.main_arg5))

def preserves_Latent_LatentIdeal : Prop :=
  True

def algebraic_LatentIdeal_LatentRefIdeal_pre_latent_finite [hLatentIdeal : Cert.LatentIdeal.Facts] [hLatentRefIdeal : Cert.LatentRefIdeal.Facts] [hPre_latent_finite : Cert.Pre_latent_finite.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal_latent_finite m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v1_0)) (v1 : (c : Dev Cert.LatentIdeal.nD) → Buf (Elt Ideal) ((c.tc : Thread Cert.LatentIdeal.nD Cert.LatentIdeal.τ).loc Cert.LatentIdeal.main_v1_1)) (v2 : (c : Dev Cert.LatentIdeal.nD) → Buf (Elt Ideal) ((c.tc : Thread Cert.LatentIdeal.nD Cert.LatentIdeal.τ).loc Cert.LatentIdeal.main_v1_2)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v1_0) = v0 c
          ∧ r.2.mem ((c.tc : Thread Cert.LatentIdeal.nD Cert.LatentIdeal.τ).loc Cert.LatentIdeal.main_v1_1) = v1 c
          ∧ r.2.mem ((c.tc : Thread Cert.LatentIdeal.nD Cert.LatentIdeal.τ).loc Cert.LatentIdeal.main_v1_2) = v2 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v38) = v0 c
          ∧ r.2.mem ((c.tc : Thread Cert.LatentRefIdeal.nD Cert.LatentRefIdeal.τ).loc Cert.LatentRefIdeal.main_v40) = v1 c
          ∧ r.2.mem ((c.tc : Thread Cert.LatentRefIdeal.nD Cert.LatentRefIdeal.τ).loc Cert.LatentRefIdeal.main_v41) = v2 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def preserves_RopeK_RopeKIdeal : Prop :=
  True

def algebraic_RopeKIdeal_RopeKRefIdeal [hRopeKIdeal : Cert.RopeKIdeal.Facts] [hRopeKRefIdeal : Cert.RopeKRefIdeal.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.RopeKRefIdeal.nD Cert.RopeKRefIdeal.τ Cert.RopeKRefIdeal.sig) → Buf (Elt Ideal) ℓ) (g' : Dev Cert.RopeKRefIdeal.nD → PrngReg), Pre_RopeKIdeal m →
    (∀ c : Dev Cert.RopeKIdeal.nD,
      m' ((c.tc : Thread Cert.RopeKRefIdeal.nD Cert.RopeKRefIdeal.τ).loc Cert.RopeKRefIdeal.main_arg0) = m ((c.tc : Thread Cert.RopeKIdeal.nD Cert.RopeKIdeal.τ).loc Cert.RopeKIdeal.main_arg0)
      ∧ m' ((c.tc : Thread Cert.RopeKRefIdeal.nD Cert.RopeKRefIdeal.τ).loc Cert.RopeKRefIdeal.main_arg1) = m ((c.tc : Thread Cert.RopeKIdeal.nD Cert.RopeKIdeal.τ).loc Cert.RopeKIdeal.main_arg1)
      ∧ m' ((c.tc : Thread Cert.RopeKRefIdeal.nD Cert.RopeKRefIdeal.τ).loc Cert.RopeKRefIdeal.main_arg2) = m ((c.tc : Thread Cert.RopeKIdeal.nD Cert.RopeKIdeal.τ).loc Cert.RopeKIdeal.main_arg2)) →
    ∃ (v0 : (c : Dev Cert.RopeKIdeal.nD) → Buf (Elt Ideal) ((c.tc : Thread Cert.RopeKIdeal.nD Cert.RopeKIdeal.τ).loc Cert.RopeKIdeal.main_v10)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v10) = v0 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
          ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
          ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2))
      ∧ θ_run (Cert.RopeKRefIdeal.defs (F := Ideal)) (onTc (τ := Cert.RopeKRefIdeal.τ) (Cert.RopeKRefIdeal.main (F := Ideal))) ⟨m', fun _ => 0, g'⟩ (fun r => ∀ c : Dev Cert.RopeKRefIdeal.nD,
          r.2.mem ((c.tc : Thread Cert.RopeKRefIdeal.nD Cert.RopeKRefIdeal.τ).loc Cert.RopeKRefIdeal.main_v27) = v0 c
          ∧ r.2.mem ((c.tc : Thread Cert.RopeKRefIdeal.nD Cert.RopeKRefIdeal.τ).loc Cert.RopeKRefIdeal.main_arg0) = m' ((c.tc : Thread Cert.RopeKRefIdeal.nD Cert.RopeKRefIdeal.τ).loc Cert.RopeKRefIdeal.main_arg0)
          ∧ r.2.mem ((c.tc : Thread Cert.RopeKRefIdeal.nD Cert.RopeKRefIdeal.τ).loc Cert.RopeKRefIdeal.main_arg1) = m' ((c.tc : Thread Cert.RopeKRefIdeal.nD Cert.RopeKRefIdeal.τ).loc Cert.RopeKRefIdeal.main_arg1)
          ∧ r.2.mem ((c.tc : Thread Cert.RopeKRefIdeal.nD Cert.RopeKRefIdeal.τ).loc Cert.RopeKRefIdeal.main_arg2) = m' ((c.tc : Thread Cert.RopeKRefIdeal.nD Cert.RopeKRefIdeal.τ).loc Cert.RopeKRefIdeal.main_arg2))

def preserves_RopeQX_RopeQXIdeal : Prop :=
  True

def algebraic_RopeQXIdeal_RopeQXRefIdeal_pre_ropeq_finite [hRopeQXIdeal : Cert.RopeQXIdeal.Facts] [hRopeQXRefIdeal : Cert.RopeQXRefIdeal.Facts] [hPre_ropeq_finite : Cert.Pre_ropeq_finite.Facts] : Prop :=
  ∀ (m : (ℓ : Loc Cert.RopeQXIdeal.nD Cert.RopeQXIdeal.τ Cert.RopeQXIdeal.sig) → Buf (Elt Ideal) ℓ) (g : Dev Cert.RopeQXIdeal.nD → PrngReg)
    (m' : (ℓ : Loc Cert.RopeQXRefIdeal.nD Cert.RopeQXRefIdeal.τ Cert.RopeQXRefIdeal.sig) → Buf (Elt Ideal) ℓ) (g' : Dev Cert.RopeQXRefIdeal.nD → PrngReg), Pre_RopeQXIdeal_ropeq_finite m →
    (∀ c : Dev Cert.RopeQXIdeal.nD,
      m' ((c.tc : Thread Cert.RopeQXRefIdeal.nD Cert.RopeQXRefIdeal.τ).loc Cert.RopeQXRefIdeal.main_arg0) = m ((c.tc : Thread Cert.RopeQXIdeal.nD Cert.RopeQXIdeal.τ).loc Cert.RopeQXIdeal.main_arg0)
      ∧ m' ((c.tc : Thread Cert.RopeQXRefIdeal.nD Cert.RopeQXRefIdeal.τ).loc Cert.RopeQXRefIdeal.main_arg1) = m ((c.tc : Thread Cert.RopeQXIdeal.nD Cert.RopeQXIdeal.τ).loc Cert.RopeQXIdeal.main_arg1)
      ∧ m' ((c.tc : Thread Cert.RopeQXRefIdeal.nD Cert.RopeQXRefIdeal.τ).loc Cert.RopeQXRefIdeal.main_arg2) = m ((c.tc : Thread Cert.RopeQXIdeal.nD Cert.RopeQXIdeal.τ).loc Cert.RopeQXIdeal.main_arg2)
      ∧ m' ((c.tc : Thread Cert.RopeQXRefIdeal.nD Cert.RopeQXRefIdeal.τ).loc Cert.RopeQXRefIdeal.main_arg3) = m ((c.tc : Thread Cert.RopeQXIdeal.nD Cert.RopeQXIdeal.τ).loc Cert.RopeQXIdeal.main_arg3)
      ∧ m' ((c.tc : Thread Cert.RopeQXRefIdeal.nD Cert.RopeQXRefIdeal.τ).loc Cert.RopeQXRefIdeal.main_arg4) = m ((c.tc : Thread Cert.RopeQXIdeal.nD Cert.RopeQXIdeal.τ).loc Cert.RopeQXIdeal.main_arg4)) →
    ∃ (v0 : (c : Dev Cert.RopeQXIdeal.nD) → Buf (Elt Ideal) ((c.tc : Thread Cert.RopeQXIdeal.nD Cert.RopeQXIdeal.τ).loc Cert.RopeQXIdeal.main_v31)),
      θ_run (Cert.RopeQXIdeal.defs (F := Ideal)) (onTc (τ := Cert.RopeQXIdeal.τ) (Cert.RopeQXIdeal.main (F := Ideal))) ⟨m, fun _ => 0, g⟩ (fun r => ∀ c : Dev Cert.RopeQXIdeal.nD,
          r.2.mem ((c.tc : Thread Cert.RopeQXIdeal.nD Cert.RopeQXIdeal.τ).loc Cert.RopeQXIdeal.main_v31) = v0 c
          ∧ r.2.mem ((c.tc : Thread Cert.RopeQXIdeal.nD Cert.RopeQXIdeal.τ).loc Cert.RopeQXIdeal.main_arg0) = m ((c.tc : Thread Cert.RopeQXIdeal.nD Cert.RopeQXIdeal.τ).loc Cert.RopeQXIdeal.main_arg0)
          ∧ r.2.mem ((c.tc : Thread Cert.RopeQXIdeal.nD Cert.RopeQXIdeal.τ).loc Cert.RopeQXIdeal.main_arg1) = m ((c.tc : Thread Cert.RopeQXIdeal.nD Cert.RopeQXIdeal.τ).loc Cert.RopeQXIdeal.main_arg1)
          ∧ r.2.mem ((c.tc : Thread Cert.RopeQXIdeal.nD Cert.RopeQXIdeal.τ).loc Cert.RopeQXIdeal.main_arg2) = m ((c.tc : Thread Cert.RopeQXIdeal.nD Cert.RopeQXIdeal.τ).loc Cert.RopeQXIdeal.main_arg2)
          ∧ r.2.mem ((c.tc : Thread Cert.RopeQXIdeal.nD Cert.RopeQXIdeal.τ).loc Cert.RopeQXIdeal.main_arg3) = m ((c.tc : Thread Cert.RopeQXIdeal.nD Cert.RopeQXIdeal.τ).loc Cert.RopeQXIdeal.main_arg3)
          ∧ r.2.mem ((c.tc : Thread Cert.RopeQXIdeal.nD Cert.RopeQXIdeal.τ).loc Cert.RopeQXIdeal.main_arg4) = m ((c.tc : Thread Cert.RopeQXIdeal.nD Cert.RopeQXIdeal.τ).loc Cert.RopeQXIdeal.main_arg4))
      ∧ θ_run (Cert.RopeQXRefIdeal.defs (F := Ideal)) (onTc (τ := Cert.RopeQXRefIdeal.τ) (Cert.RopeQXRefIdeal.main (F := Ideal))) ⟨m', fun _ => 0, g'⟩ (fun r => ∀ c : Dev Cert.RopeQXRefIdeal.nD,
          r.2.mem ((c.tc : Thread Cert.RopeQXRefIdeal.nD Cert.RopeQXRefIdeal.τ).loc Cert.RopeQXRefIdeal.main_v46) = v0 c
          ∧ r.2.mem ((c.tc : Thread Cert.RopeQXRefIdeal.nD Cert.RopeQXRefIdeal.τ).loc Cert.RopeQXRefIdeal.main_arg0) = m' ((c.tc : Thread Cert.RopeQXRefIdeal.nD Cert.RopeQXRefIdeal.τ).loc Cert.RopeQXRefIdeal.main_arg0)
          ∧ r.2.mem ((c.tc : Thread Cert.RopeQXRefIdeal.nD Cert.RopeQXRefIdeal.τ).loc Cert.RopeQXRefIdeal.main_arg1) = m' ((c.tc : Thread Cert.RopeQXRefIdeal.nD Cert.RopeQXRefIdeal.τ).loc Cert.RopeQXRefIdeal.main_arg1)
          ∧ r.2.mem ((c.tc : Thread Cert.RopeQXRefIdeal.nD Cert.RopeQXRefIdeal.τ).loc Cert.RopeQXRefIdeal.main_arg2) = m' ((c.tc : Thread Cert.RopeQXRefIdeal.nD Cert.RopeQXRefIdeal.τ).loc Cert.RopeQXRefIdeal.main_arg2)
          ∧ r.2.mem ((c.tc : Thread Cert.RopeQXRefIdeal.nD Cert.RopeQXRefIdeal.τ).loc Cert.RopeQXRefIdeal.main_arg3) = m' ((c.tc : Thread Cert.RopeQXRefIdeal.nD Cert.RopeQXRefIdeal.τ).loc Cert.RopeQXRefIdeal.main_arg3)
          ∧ r.2.mem ((c.tc : Thread Cert.RopeQXRefIdeal.nD Cert.RopeQXRefIdeal.τ).loc Cert.RopeQXRefIdeal.main_arg4) = m' ((c.tc : Thread Cert.RopeQXRefIdeal.nD Cert.RopeQXRefIdeal.τ).loc Cert.RopeQXRefIdeal.main_arg4))

def preserves_RopeQW_RopeQWIdeal : Prop :=
  True

def algebraic_RopeQWIdeal_RopeQWRefIdeal_pre_ropeq_finite [hRopeQWIdeal : Cert.RopeQWIdeal.Facts] [hRopeQWRefIdeal : Cert.RopeQWRefIdeal.Facts] [hPre_ropeq_finite : Cert.Pre_ropeq_finite.Facts] : Prop :=
  ∀ (m : (ℓ : Loc Cert.RopeQWIdeal.nD Cert.RopeQWIdeal.τ Cert.RopeQWIdeal.sig) → Buf (Elt Ideal) ℓ) (g : Dev Cert.RopeQWIdeal.nD → PrngReg)
    (m' : (ℓ : Loc Cert.RopeQWRefIdeal.nD Cert.RopeQWRefIdeal.τ Cert.RopeQWRefIdeal.sig) → Buf (Elt Ideal) ℓ) (g' : Dev Cert.RopeQWRefIdeal.nD → PrngReg), Pre_RopeQWIdeal_ropeq_finite m →
    (∀ c : Dev Cert.RopeQWIdeal.nD,
      m' ((c.tc : Thread Cert.RopeQWRefIdeal.nD Cert.RopeQWRefIdeal.τ).loc Cert.RopeQWRefIdeal.main_arg0) = m ((c.tc : Thread Cert.RopeQWIdeal.nD Cert.RopeQWIdeal.τ).loc Cert.RopeQWIdeal.main_arg0)
      ∧ m' ((c.tc : Thread Cert.RopeQWRefIdeal.nD Cert.RopeQWRefIdeal.τ).loc Cert.RopeQWRefIdeal.main_arg1) = m ((c.tc : Thread Cert.RopeQWIdeal.nD Cert.RopeQWIdeal.τ).loc Cert.RopeQWIdeal.main_arg1)
      ∧ m' ((c.tc : Thread Cert.RopeQWRefIdeal.nD Cert.RopeQWRefIdeal.τ).loc Cert.RopeQWRefIdeal.main_arg2) = m ((c.tc : Thread Cert.RopeQWIdeal.nD Cert.RopeQWIdeal.τ).loc Cert.RopeQWIdeal.main_arg2)
      ∧ m' ((c.tc : Thread Cert.RopeQWRefIdeal.nD Cert.RopeQWRefIdeal.τ).loc Cert.RopeQWRefIdeal.main_arg3) = m ((c.tc : Thread Cert.RopeQWIdeal.nD Cert.RopeQWIdeal.τ).loc Cert.RopeQWIdeal.main_arg3)
      ∧ m' ((c.tc : Thread Cert.RopeQWRefIdeal.nD Cert.RopeQWRefIdeal.τ).loc Cert.RopeQWRefIdeal.main_arg4) = m ((c.tc : Thread Cert.RopeQWIdeal.nD Cert.RopeQWIdeal.τ).loc Cert.RopeQWIdeal.main_arg4)) →
    ∃ (v0 : (c : Dev Cert.RopeQWIdeal.nD) → Buf (Elt Ideal) ((c.tc : Thread Cert.RopeQWIdeal.nD Cert.RopeQWIdeal.τ).loc Cert.RopeQWIdeal.main_v32)),
      θ_run (Cert.RopeQWIdeal.defs (F := Ideal)) (onTc (τ := Cert.RopeQWIdeal.τ) (Cert.RopeQWIdeal.main (F := Ideal))) ⟨m, fun _ => 0, g⟩ (fun r => ∀ c : Dev Cert.RopeQWIdeal.nD,
          r.2.mem ((c.tc : Thread Cert.RopeQWIdeal.nD Cert.RopeQWIdeal.τ).loc Cert.RopeQWIdeal.main_v32) = v0 c
          ∧ r.2.mem ((c.tc : Thread Cert.RopeQWIdeal.nD Cert.RopeQWIdeal.τ).loc Cert.RopeQWIdeal.main_arg0) = m ((c.tc : Thread Cert.RopeQWIdeal.nD Cert.RopeQWIdeal.τ).loc Cert.RopeQWIdeal.main_arg0)
          ∧ r.2.mem ((c.tc : Thread Cert.RopeQWIdeal.nD Cert.RopeQWIdeal.τ).loc Cert.RopeQWIdeal.main_arg1) = m ((c.tc : Thread Cert.RopeQWIdeal.nD Cert.RopeQWIdeal.τ).loc Cert.RopeQWIdeal.main_arg1)
          ∧ r.2.mem ((c.tc : Thread Cert.RopeQWIdeal.nD Cert.RopeQWIdeal.τ).loc Cert.RopeQWIdeal.main_arg2) = m ((c.tc : Thread Cert.RopeQWIdeal.nD Cert.RopeQWIdeal.τ).loc Cert.RopeQWIdeal.main_arg2)
          ∧ r.2.mem ((c.tc : Thread Cert.RopeQWIdeal.nD Cert.RopeQWIdeal.τ).loc Cert.RopeQWIdeal.main_arg3) = m ((c.tc : Thread Cert.RopeQWIdeal.nD Cert.RopeQWIdeal.τ).loc Cert.RopeQWIdeal.main_arg3)
          ∧ r.2.mem ((c.tc : Thread Cert.RopeQWIdeal.nD Cert.RopeQWIdeal.τ).loc Cert.RopeQWIdeal.main_arg4) = m ((c.tc : Thread Cert.RopeQWIdeal.nD Cert.RopeQWIdeal.τ).loc Cert.RopeQWIdeal.main_arg4))
      ∧ θ_run (Cert.RopeQWRefIdeal.defs (F := Ideal)) (onTc (τ := Cert.RopeQWRefIdeal.τ) (Cert.RopeQWRefIdeal.main (F := Ideal))) ⟨m', fun _ => 0, g'⟩ (fun r => ∀ c : Dev Cert.RopeQWRefIdeal.nD,
          r.2.mem ((c.tc : Thread Cert.RopeQWRefIdeal.nD Cert.RopeQWRefIdeal.τ).loc Cert.RopeQWRefIdeal.main_v48) = v0 c
          ∧ r.2.mem ((c.tc : Thread Cert.RopeQWRefIdeal.nD Cert.RopeQWRefIdeal.τ).loc Cert.RopeQWRefIdeal.main_arg0) = m' ((c.tc : Thread Cert.RopeQWRefIdeal.nD Cert.RopeQWRefIdeal.τ).loc Cert.RopeQWRefIdeal.main_arg0)
          ∧ r.2.mem ((c.tc : Thread Cert.RopeQWRefIdeal.nD Cert.RopeQWRefIdeal.τ).loc Cert.RopeQWRefIdeal.main_arg1) = m' ((c.tc : Thread Cert.RopeQWRefIdeal.nD Cert.RopeQWRefIdeal.τ).loc Cert.RopeQWRefIdeal.main_arg1)
          ∧ r.2.mem ((c.tc : Thread Cert.RopeQWRefIdeal.nD Cert.RopeQWRefIdeal.τ).loc Cert.RopeQWRefIdeal.main_arg2) = m' ((c.tc : Thread Cert.RopeQWRefIdeal.nD Cert.RopeQWRefIdeal.τ).loc Cert.RopeQWRefIdeal.main_arg2)
          ∧ r.2.mem ((c.tc : Thread Cert.RopeQWRefIdeal.nD Cert.RopeQWRefIdeal.τ).loc Cert.RopeQWRefIdeal.main_arg3) = m' ((c.tc : Thread Cert.RopeQWRefIdeal.nD Cert.RopeQWRefIdeal.τ).loc Cert.RopeQWRefIdeal.main_arg3)
          ∧ r.2.mem ((c.tc : Thread Cert.RopeQWRefIdeal.nD Cert.RopeQWRefIdeal.τ).loc Cert.RopeQWRefIdeal.main_arg4) = m' ((c.tc : Thread Cert.RopeQWRefIdeal.nD Cert.RopeQWRefIdeal.τ).loc Cert.RopeQWRefIdeal.main_arg4))

def preserves_NormQ_NormQIdeal : Prop :=
  True

def algebraic_NormQIdeal_NormQRefIdeal_pre_normq_finite [hNormQIdeal : Cert.NormQIdeal.Facts] [hNormQRefIdeal : Cert.NormQRefIdeal.Facts] [hPre_normq_finite : Cert.Pre_normq_finite.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQRefIdeal.nD Cert.NormQRefIdeal.τ Cert.NormQRefIdeal.sig) → Buf (Elt Ideal) ℓ) (g' : Dev Cert.NormQRefIdeal.nD → PrngReg), Pre_NormQIdeal_normq_finite m →
    (∀ c : Dev Cert.NormQIdeal.nD,
      m' ((c.tc : Thread Cert.NormQRefIdeal.nD Cert.NormQRefIdeal.τ).loc Cert.NormQRefIdeal.main_arg0) = m ((c.tc : Thread Cert.NormQIdeal.nD Cert.NormQIdeal.τ).loc Cert.NormQIdeal.main_arg0)
      ∧ m' ((c.tc : Thread Cert.NormQRefIdeal.nD Cert.NormQRefIdeal.τ).loc Cert.NormQRefIdeal.main_arg1) = m ((c.tc : Thread Cert.NormQIdeal.nD Cert.NormQIdeal.τ).loc Cert.NormQIdeal.main_arg1)
      ∧ m' ((c.tc : Thread Cert.NormQRefIdeal.nD Cert.NormQRefIdeal.τ).loc Cert.NormQRefIdeal.main_arg2) = m ((c.tc : Thread Cert.NormQIdeal.nD Cert.NormQIdeal.τ).loc Cert.NormQIdeal.main_arg2)) →
    ∃ (v0 : (c : Dev Cert.NormQIdeal.nD) → Buf (Elt Ideal) ((c.tc : Thread Cert.NormQIdeal.nD Cert.NormQIdeal.τ).loc Cert.NormQIdeal.main_v1_0)) (v1 : (c : Dev Cert.NormQIdeal.nD) → Buf (Elt Ideal) ((c.tc : Thread Cert.NormQIdeal.nD Cert.NormQIdeal.τ).loc Cert.NormQIdeal.main_v1_1)) (v2 : (c : Dev Cert.NormQIdeal.nD) → Buf (Elt Ideal) ((c.tc : Thread Cert.NormQIdeal.nD Cert.NormQIdeal.τ).loc Cert.NormQIdeal.main_v1_2)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v1_0) = v0 c
          ∧ r.2.mem ((c.tc : Thread Cert.NormQIdeal.nD Cert.NormQIdeal.τ).loc Cert.NormQIdeal.main_v1_1) = v1 c
          ∧ r.2.mem ((c.tc : Thread Cert.NormQIdeal.nD Cert.NormQIdeal.τ).loc Cert.NormQIdeal.main_v1_2) = v2 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1)
          ∧ r.2.mem ((c.tc : Thread Cert.NormQIdeal.nD Cert.NormQIdeal.τ).loc Cert.NormQIdeal.main_arg2) = m ((c.tc : Thread Cert.NormQIdeal.nD Cert.NormQIdeal.τ).loc Cert.NormQIdeal.main_arg2))
      ∧ θ_run (Cert.NormQRefIdeal.defs (F := Ideal)) (onTc (τ := Cert.NormQRefIdeal.τ) (Cert.NormQRefIdeal.main (F := Ideal))) ⟨m', fun _ => 0, g'⟩ (fun r => ∀ c : Dev Cert.NormQRefIdeal.nD,
          r.2.mem ((c.tc : Thread Cert.NormQRefIdeal.nD Cert.NormQRefIdeal.τ).loc Cert.NormQRefIdeal.main_v35) = v0 c
          ∧ r.2.mem ((c.tc : Thread Cert.NormQRefIdeal.nD Cert.NormQRefIdeal.τ).loc Cert.NormQRefIdeal.main_v36) = v1 c
          ∧ r.2.mem ((c.tc : Thread Cert.NormQRefIdeal.nD Cert.NormQRefIdeal.τ).loc Cert.NormQRefIdeal.main_v37) = v2 c
          ∧ r.2.mem ((c.tc : Thread Cert.NormQRefIdeal.nD Cert.NormQRefIdeal.τ).loc Cert.NormQRefIdeal.main_arg0) = m' ((c.tc : Thread Cert.NormQRefIdeal.nD Cert.NormQRefIdeal.τ).loc Cert.NormQRefIdeal.main_arg0)
          ∧ r.2.mem ((c.tc : Thread Cert.NormQRefIdeal.nD Cert.NormQRefIdeal.τ).loc Cert.NormQRefIdeal.main_arg1) = m' ((c.tc : Thread Cert.NormQRefIdeal.nD Cert.NormQRefIdeal.τ).loc Cert.NormQRefIdeal.main_arg1)
          ∧ r.2.mem ((c.tc : Thread Cert.NormQRefIdeal.nD Cert.NormQRefIdeal.τ).loc Cert.NormQRefIdeal.main_arg2) = m' ((c.tc : Thread Cert.NormQRefIdeal.nD Cert.NormQRefIdeal.τ).loc Cert.NormQRefIdeal.main_arg2))

def preserves_FoxCtx_FoxCtxIdeal : Prop :=
  True

def algebraic_FoxCtxIdeal_FoxCtxRefIdeal_pre_foxctx_finite [hFoxCtxIdeal : Cert.FoxCtxIdeal.Facts] [hFoxCtxRefIdeal : Cert.FoxCtxRefIdeal.Facts] [hPre_foxctx_finite : Cert.Pre_foxctx_finite.Facts] : Prop :=
  ∀ (m : (ℓ : Loc Cert.FoxCtxIdeal.nD Cert.FoxCtxIdeal.τ Cert.FoxCtxIdeal.sig) → Buf (Elt Ideal) ℓ) (g : Dev Cert.FoxCtxIdeal.nD → PrngReg)
    (m' : (ℓ : Loc Cert.FoxCtxRefIdeal.nD Cert.FoxCtxRefIdeal.τ Cert.FoxCtxRefIdeal.sig) → Buf (Elt Ideal) ℓ) (g' : Dev Cert.FoxCtxRefIdeal.nD → PrngReg), Pre_FoxCtxIdeal_foxctx_finite m →
    (∀ c : Dev Cert.FoxCtxIdeal.nD,
      m' ((c.tc : Thread Cert.FoxCtxRefIdeal.nD Cert.FoxCtxRefIdeal.τ).loc Cert.FoxCtxRefIdeal.main_arg0) = m ((c.tc : Thread Cert.FoxCtxIdeal.nD Cert.FoxCtxIdeal.τ).loc Cert.FoxCtxIdeal.main_arg0)
      ∧ m' ((c.tc : Thread Cert.FoxCtxRefIdeal.nD Cert.FoxCtxRefIdeal.τ).loc Cert.FoxCtxRefIdeal.main_arg1) = m ((c.tc : Thread Cert.FoxCtxIdeal.nD Cert.FoxCtxIdeal.τ).loc Cert.FoxCtxIdeal.main_arg1)
      ∧ m' ((c.tc : Thread Cert.FoxCtxRefIdeal.nD Cert.FoxCtxRefIdeal.τ).loc Cert.FoxCtxRefIdeal.main_arg2) = m ((c.tc : Thread Cert.FoxCtxIdeal.nD Cert.FoxCtxIdeal.τ).loc Cert.FoxCtxIdeal.main_arg2)
      ∧ m' ((c.tc : Thread Cert.FoxCtxRefIdeal.nD Cert.FoxCtxRefIdeal.τ).loc Cert.FoxCtxRefIdeal.main_arg3) = m ((c.tc : Thread Cert.FoxCtxIdeal.nD Cert.FoxCtxIdeal.τ).loc Cert.FoxCtxIdeal.main_arg3)
      ∧ m' ((c.tc : Thread Cert.FoxCtxRefIdeal.nD Cert.FoxCtxRefIdeal.τ).loc Cert.FoxCtxRefIdeal.main_arg4) = m ((c.tc : Thread Cert.FoxCtxIdeal.nD Cert.FoxCtxIdeal.τ).loc Cert.FoxCtxIdeal.main_arg4)
      ∧ m' ((c.tc : Thread Cert.FoxCtxRefIdeal.nD Cert.FoxCtxRefIdeal.τ).loc Cert.FoxCtxRefIdeal.main_arg5) = m ((c.tc : Thread Cert.FoxCtxIdeal.nD Cert.FoxCtxIdeal.τ).loc Cert.FoxCtxIdeal.main_arg5)) →
    ∃ (v0 : (c : Dev Cert.FoxCtxIdeal.nD) → Buf (Elt Ideal) ((c.tc : Thread Cert.FoxCtxIdeal.nD Cert.FoxCtxIdeal.τ).loc Cert.FoxCtxIdeal.main_v43)) (v1 : (c : Dev Cert.FoxCtxIdeal.nD) → Buf (Elt Ideal) ((c.tc : Thread Cert.FoxCtxIdeal.nD Cert.FoxCtxIdeal.τ).loc Cert.FoxCtxIdeal.main_v46)),
      θ_run (Cert.FoxCtxIdeal.defs (F := Ideal)) (onTc (τ := Cert.FoxCtxIdeal.τ) (Cert.FoxCtxIdeal.main (F := Ideal))) ⟨m, fun _ => 0, g⟩ (fun r => ∀ c : Dev Cert.FoxCtxIdeal.nD,
          r.2.mem ((c.tc : Thread Cert.FoxCtxIdeal.nD Cert.FoxCtxIdeal.τ).loc Cert.FoxCtxIdeal.main_v43) = v0 c
          ∧ r.2.mem ((c.tc : Thread Cert.FoxCtxIdeal.nD Cert.FoxCtxIdeal.τ).loc Cert.FoxCtxIdeal.main_v46) = v1 c
          ∧ r.2.mem ((c.tc : Thread Cert.FoxCtxIdeal.nD Cert.FoxCtxIdeal.τ).loc Cert.FoxCtxIdeal.main_arg0) = m ((c.tc : Thread Cert.FoxCtxIdeal.nD Cert.FoxCtxIdeal.τ).loc Cert.FoxCtxIdeal.main_arg0)
          ∧ r.2.mem ((c.tc : Thread Cert.FoxCtxIdeal.nD Cert.FoxCtxIdeal.τ).loc Cert.FoxCtxIdeal.main_arg1) = m ((c.tc : Thread Cert.FoxCtxIdeal.nD Cert.FoxCtxIdeal.τ).loc Cert.FoxCtxIdeal.main_arg1)
          ∧ r.2.mem ((c.tc : Thread Cert.FoxCtxIdeal.nD Cert.FoxCtxIdeal.τ).loc Cert.FoxCtxIdeal.main_arg2) = m ((c.tc : Thread Cert.FoxCtxIdeal.nD Cert.FoxCtxIdeal.τ).loc Cert.FoxCtxIdeal.main_arg2)
          ∧ r.2.mem ((c.tc : Thread Cert.FoxCtxIdeal.nD Cert.FoxCtxIdeal.τ).loc Cert.FoxCtxIdeal.main_arg3) = m ((c.tc : Thread Cert.FoxCtxIdeal.nD Cert.FoxCtxIdeal.τ).loc Cert.FoxCtxIdeal.main_arg3)
          ∧ r.2.mem ((c.tc : Thread Cert.FoxCtxIdeal.nD Cert.FoxCtxIdeal.τ).loc Cert.FoxCtxIdeal.main_arg4) = m ((c.tc : Thread Cert.FoxCtxIdeal.nD Cert.FoxCtxIdeal.τ).loc Cert.FoxCtxIdeal.main_arg4)
          ∧ r.2.mem ((c.tc : Thread Cert.FoxCtxIdeal.nD Cert.FoxCtxIdeal.τ).loc Cert.FoxCtxIdeal.main_arg5) = m ((c.tc : Thread Cert.FoxCtxIdeal.nD Cert.FoxCtxIdeal.τ).loc Cert.FoxCtxIdeal.main_arg5))
      ∧ θ_run (Cert.FoxCtxRefIdeal.defs (F := Ideal)) (onTc (τ := Cert.FoxCtxRefIdeal.τ) (Cert.FoxCtxRefIdeal.main (F := Ideal))) ⟨m', fun _ => 0, g'⟩ (fun r => ∀ c : Dev Cert.FoxCtxRefIdeal.nD,
          r.2.mem ((c.tc : Thread Cert.FoxCtxRefIdeal.nD Cert.FoxCtxRefIdeal.τ).loc Cert.FoxCtxRefIdeal.main_v35) = v0 c
          ∧ r.2.mem ((c.tc : Thread Cert.FoxCtxRefIdeal.nD Cert.FoxCtxRefIdeal.τ).loc Cert.FoxCtxRefIdeal.main_v37) = v1 c
          ∧ r.2.mem ((c.tc : Thread Cert.FoxCtxRefIdeal.nD Cert.FoxCtxRefIdeal.τ).loc Cert.FoxCtxRefIdeal.main_arg0) = m' ((c.tc : Thread Cert.FoxCtxRefIdeal.nD Cert.FoxCtxRefIdeal.τ).loc Cert.FoxCtxRefIdeal.main_arg0)
          ∧ r.2.mem ((c.tc : Thread Cert.FoxCtxRefIdeal.nD Cert.FoxCtxRefIdeal.τ).loc Cert.FoxCtxRefIdeal.main_arg1) = m' ((c.tc : Thread Cert.FoxCtxRefIdeal.nD Cert.FoxCtxRefIdeal.τ).loc Cert.FoxCtxRefIdeal.main_arg1)
          ∧ r.2.mem ((c.tc : Thread Cert.FoxCtxRefIdeal.nD Cert.FoxCtxRefIdeal.τ).loc Cert.FoxCtxRefIdeal.main_arg2) = m' ((c.tc : Thread Cert.FoxCtxRefIdeal.nD Cert.FoxCtxRefIdeal.τ).loc Cert.FoxCtxRefIdeal.main_arg2)
          ∧ r.2.mem ((c.tc : Thread Cert.FoxCtxRefIdeal.nD Cert.FoxCtxRefIdeal.τ).loc Cert.FoxCtxRefIdeal.main_arg3) = m' ((c.tc : Thread Cert.FoxCtxRefIdeal.nD Cert.FoxCtxRefIdeal.τ).loc Cert.FoxCtxRefIdeal.main_arg3)
          ∧ r.2.mem ((c.tc : Thread Cert.FoxCtxRefIdeal.nD Cert.FoxCtxRefIdeal.τ).loc Cert.FoxCtxRefIdeal.main_arg4) = m' ((c.tc : Thread Cert.FoxCtxRefIdeal.nD Cert.FoxCtxRefIdeal.τ).loc Cert.FoxCtxRefIdeal.main_arg4)
          ∧ r.2.mem ((c.tc : Thread Cert.FoxCtxRefIdeal.nD Cert.FoxCtxRefIdeal.τ).loc Cert.FoxCtxRefIdeal.main_arg5) = m' ((c.tc : Thread Cert.FoxCtxRefIdeal.nD Cert.FoxCtxRefIdeal.τ).loc Cert.FoxCtxRefIdeal.main_arg5))

def Claim : Prop :=
  ∃ (hNorm : Cert.Norm.Facts) (hNormIdeal : Cert.NormIdeal.Facts) (hNormRefIdeal : Cert.NormRefIdeal.Facts) (hMlaBwd : Cert.MlaBwd.Facts) (hMlaBwdIdeal : Cert.MlaBwdIdeal.Facts) (hMlaRefIdeal : Cert.MlaRefIdeal.Facts) (hFoxBwd : Cert.FoxBwd.Facts) (hFoxBwdIdeal : Cert.FoxBwdIdeal.Facts) (hFoxRefIdeal : Cert.FoxRefIdeal.Facts) (hLoss : Cert.Loss.Facts) (hLossIdeal : Cert.LossIdeal.Facts) (hLossRefIdeal : Cert.LossRefIdeal.Facts) (hAct : Cert.Act.Facts) (hActIdeal : Cert.ActIdeal.Facts) (hActRefIdeal : Cert.ActRefIdeal.Facts) (hCtx : Cert.Ctx.Facts) (hCtxIdeal : Cert.CtxIdeal.Facts) (hCtxRefIdeal : Cert.CtxRefIdeal.Facts) (hNorm2 : Cert.Norm2.Facts) (hNorm2Ideal : Cert.Norm2Ideal.Facts) (hNorm2RefIdeal : Cert.Norm2RefIdeal.Facts) (hLatent : Cert.Latent.Facts) (hLatentIdeal : Cert.LatentIdeal.Facts) (hLatentRefIdeal : Cert.LatentRefIdeal.Facts) (hRopeK : Cert.RopeK.Facts) (hRopeKIdeal : Cert.RopeKIdeal.Facts) (hRopeKRefIdeal : Cert.RopeKRefIdeal.Facts) (hRopeQX : Cert.RopeQX.Facts) (hRopeQXIdeal : Cert.RopeQXIdeal.Facts) (hRopeQXRefIdeal : Cert.RopeQXRefIdeal.Facts) (hRopeQW : Cert.RopeQW.Facts) (hRopeQWIdeal : Cert.RopeQWIdeal.Facts) (hRopeQWRefIdeal : Cert.RopeQWRefIdeal.Facts) (hNormQ : Cert.NormQ.Facts) (hNormQIdeal : Cert.NormQIdeal.Facts) (hNormQRefIdeal : Cert.NormQRefIdeal.Facts) (hFoxCtx : Cert.FoxCtx.Facts) (hFoxCtxIdeal : Cert.FoxCtxIdeal.Facts) (hFoxCtxRefIdeal : Cert.FoxCtxRefIdeal.Facts) (hPre_norm_finite : Cert.Pre_norm_finite.Facts) (hPre_mla_finite : Cert.Pre_mla_finite.Facts) (hPre_fox_finite : Cert.Pre_fox_finite.Facts) (hPre_loss_finite : Cert.Pre_loss_finite.Facts) (hPre_ctx_finite : Cert.Pre_ctx_finite.Facts) (hPre_norm2_finite : Cert.Pre_norm2_finite.Facts) (hPre_latent_finite : Cert.Pre_latent_finite.Facts) (hPre_ropeq_finite : Cert.Pre_ropeq_finite.Facts) (hPre_normq_finite : Cert.Pre_normq_finite.Facts) (hPre_foxctx_finite : Cert.Pre_foxctx_finite.Facts),
    quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_MlaBwd (hMlaBwd := hMlaBwd)
    ∧ quiescent_MlaBwdIdeal (hMlaBwdIdeal := hMlaBwdIdeal)
    ∧ quiescent_MlaBwdIdeal_pre_mla_finite (hMlaBwdIdeal := hMlaBwdIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Act (hAct := hAct)
    ∧ quiescent_ActIdeal (hActIdeal := hActIdeal)
    ∧ quiescent_ActRefIdeal (hActRefIdeal := hActRefIdeal)
    ∧ quiescent_Ctx (hCtx := hCtx)
    ∧ quiescent_CtxIdeal (hCtxIdeal := hCtxIdeal)
    ∧ quiescent_CtxIdeal_pre_ctx_finite (hCtxIdeal := hCtxIdeal) (hPre_ctx_finite := hPre_ctx_finite)
    ∧ quiescent_CtxRefIdeal (hCtxRefIdeal := hCtxRefIdeal)
    ∧ quiescent_CtxRefIdeal_pre_ctx_finite (hCtxRefIdeal := hCtxRefIdeal) (hPre_ctx_finite := hPre_ctx_finite)
    ∧ quiescent_Norm2 (hNorm2 := hNorm2)
    ∧ quiescent_Norm2Ideal (hNorm2Ideal := hNorm2Ideal)
    ∧ quiescent_Norm2Ideal_pre_norm2_finite (hNorm2Ideal := hNorm2Ideal) (hPre_norm2_finite := hPre_norm2_finite)
    ∧ quiescent_Norm2RefIdeal (hNorm2RefIdeal := hNorm2RefIdeal)
    ∧ quiescent_Norm2RefIdeal_pre_norm2_finite (hNorm2RefIdeal := hNorm2RefIdeal) (hPre_norm2_finite := hPre_norm2_finite)
    ∧ quiescent_Latent (hLatent := hLatent)
    ∧ quiescent_LatentIdeal (hLatentIdeal := hLatentIdeal)
    ∧ quiescent_LatentIdeal_pre_latent_finite (hLatentIdeal := hLatentIdeal) (hPre_latent_finite := hPre_latent_finite)
    ∧ quiescent_LatentRefIdeal (hLatentRefIdeal := hLatentRefIdeal)
    ∧ quiescent_LatentRefIdeal_pre_latent_finite (hLatentRefIdeal := hLatentRefIdeal) (hPre_latent_finite := hPre_latent_finite)
    ∧ quiescent_RopeK (hRopeK := hRopeK)
    ∧ quiescent_RopeKIdeal (hRopeKIdeal := hRopeKIdeal)
    ∧ quiescent_RopeKRefIdeal (hRopeKRefIdeal := hRopeKRefIdeal)
    ∧ quiescent_RopeQX (hRopeQX := hRopeQX)
    ∧ quiescent_RopeQXIdeal (hRopeQXIdeal := hRopeQXIdeal)
    ∧ quiescent_RopeQXIdeal_pre_ropeq_finite (hRopeQXIdeal := hRopeQXIdeal) (hPre_ropeq_finite := hPre_ropeq_finite)
    ∧ quiescent_RopeQXRefIdeal (hRopeQXRefIdeal := hRopeQXRefIdeal)
    ∧ quiescent_RopeQXRefIdeal_pre_ropeq_finite (hRopeQXRefIdeal := hRopeQXRefIdeal) (hPre_ropeq_finite := hPre_ropeq_finite)
    ∧ quiescent_RopeQW (hRopeQW := hRopeQW)
    ∧ quiescent_RopeQWIdeal (hRopeQWIdeal := hRopeQWIdeal)
    ∧ quiescent_RopeQWIdeal_pre_ropeq_finite (hRopeQWIdeal := hRopeQWIdeal) (hPre_ropeq_finite := hPre_ropeq_finite)
    ∧ quiescent_RopeQWRefIdeal (hRopeQWRefIdeal := hRopeQWRefIdeal)
    ∧ quiescent_RopeQWRefIdeal_pre_ropeq_finite (hRopeQWRefIdeal := hRopeQWRefIdeal) (hPre_ropeq_finite := hPre_ropeq_finite)
    ∧ quiescent_NormQ (hNormQ := hNormQ)
    ∧ quiescent_NormQIdeal (hNormQIdeal := hNormQIdeal)
    ∧ quiescent_NormQIdeal_pre_normq_finite (hNormQIdeal := hNormQIdeal) (hPre_normq_finite := hPre_normq_finite)
    ∧ quiescent_NormQRefIdeal (hNormQRefIdeal := hNormQRefIdeal)
    ∧ quiescent_NormQRefIdeal_pre_normq_finite (hNormQRefIdeal := hNormQRefIdeal) (hPre_normq_finite := hPre_normq_finite)
    ∧ quiescent_FoxCtx (hFoxCtx := hFoxCtx)
    ∧ quiescent_FoxCtxIdeal (hFoxCtxIdeal := hFoxCtxIdeal)
    ∧ quiescent_FoxCtxIdeal_pre_foxctx_finite (hFoxCtxIdeal := hFoxCtxIdeal) (hPre_foxctx_finite := hPre_foxctx_finite)
    ∧ quiescent_FoxCtxRefIdeal (hFoxCtxRefIdeal := hFoxCtxRefIdeal)
    ∧ quiescent_FoxCtxRefIdeal_pre_foxctx_finite (hFoxCtxRefIdeal := hFoxCtxRefIdeal) (hPre_foxctx_finite := hPre_foxctx_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_MlaBwd_MlaBwdIdeal
    ∧ algebraic_MlaBwdIdeal_MlaRefIdeal_pre_mla_finite (hMlaBwdIdeal := hMlaBwdIdeal) (hMlaRefIdeal := hMlaRefIdeal) (hPre_mla_finite := hPre_mla_finite)
    ∧ preserves_FoxBwd_FoxBwdIdeal
    ∧ algebraic_FoxBwdIdeal_FoxRefIdeal_pre_fox_finite (hFoxBwdIdeal := hFoxBwdIdeal) (hFoxRefIdeal := hFoxRefIdeal) (hPre_fox_finite := hPre_fox_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Act_ActIdeal
    ∧ algebraic_ActIdeal_ActRefIdeal (hActIdeal := hActIdeal) (hActRefIdeal := hActRefIdeal)
    ∧ preserves_Ctx_CtxIdeal
    ∧ algebraic_CtxIdeal_CtxRefIdeal_pre_ctx_finite (hCtxIdeal := hCtxIdeal) (hCtxRefIdeal := hCtxRefIdeal) (hPre_ctx_finite := hPre_ctx_finite)
    ∧ preserves_Norm2_Norm2Ideal
    ∧ algebraic_Norm2Ideal_Norm2RefIdeal_pre_norm2_finite (hNorm2Ideal := hNorm2Ideal) (hNorm2RefIdeal := hNorm2RefIdeal) (hPre_norm2_finite := hPre_norm2_finite)
    ∧ preserves_Latent_LatentIdeal
    ∧ algebraic_LatentIdeal_LatentRefIdeal_pre_latent_finite (hLatentIdeal := hLatentIdeal) (hLatentRefIdeal := hLatentRefIdeal) (hPre_latent_finite := hPre_latent_finite)
    ∧ preserves_RopeK_RopeKIdeal
    ∧ algebraic_RopeKIdeal_RopeKRefIdeal (hRopeKIdeal := hRopeKIdeal) (hRopeKRefIdeal := hRopeKRefIdeal)
    ∧ preserves_RopeQX_RopeQXIdeal
    ∧ algebraic_RopeQXIdeal_RopeQXRefIdeal_pre_ropeq_finite (hRopeQXIdeal := hRopeQXIdeal) (hRopeQXRefIdeal := hRopeQXRefIdeal) (hPre_ropeq_finite := hPre_ropeq_finite)
    ∧ preserves_RopeQW_RopeQWIdeal
    ∧ algebraic_RopeQWIdeal_RopeQWRefIdeal_pre_ropeq_finite (hRopeQWIdeal := hRopeQWIdeal) (hRopeQWRefIdeal := hRopeQWRefIdeal) (hPre_ropeq_finite := hPre_ropeq_finite)
    ∧ preserves_NormQ_NormQIdeal
    ∧ algebraic_NormQIdeal_NormQRefIdeal_pre_normq_finite (hNormQIdeal := hNormQIdeal) (hNormQRefIdeal := hNormQRefIdeal) (hPre_normq_finite := hPre_normq_finite)
    ∧ preserves_FoxCtx_FoxCtxIdeal
    ∧ algebraic_FoxCtxIdeal_FoxCtxRefIdeal_pre_foxctx_finite (hFoxCtxIdeal := hFoxCtxIdeal) (hFoxCtxRefIdeal := hFoxCtxRefIdeal) (hPre_foxctx_finite := hPre_foxctx_finite)
-- ==== Pre_ctx_finite.lean ====
abbrev S8192x8x192 : Shape := ⟨3, ![8192, 8, 192]⟩
abbrev S8192x8x128 : Shape := ⟨3, ![8192, 8, 128]⟩
abbrev S8192x64 : Shape := ⟨2, ![8192, 64]⟩
abbrev S1024x1024 : Shape := ⟨2, ![1024, 1024]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x64 : S_.BroadcastsInDim S8192x64 (![] : Fin 0 → Fin S8192x64.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x8x192 .f32) (main_arg1 : FVec F S8192x8x128 .f32) (main_arg2 : FVec F S8192x64 .f32) (main_arg3 : FVec F S8192x8x128 .f32) (main_arg4 : FVec F S1024x1024 .f32) (main_arg5 : FVec F S8192x1024 .f32) : IVec S8192x8x192 1 × IVec S8192x8x128 1 × IVec S8192x64 1 × IVec S8192x8x128 1 × IVec S1024x1024 1 × IVec S8192x1024 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x128 .f32 := Host.absf main_arg1
  let main_cst_0 : FVec F S_ .f32 := constant S_ .f32 0x7F800000#32
  let main_v4 : FVec F S8192x8x128 .f32 := broadcastInDim S8192x8x128 ![] bcast_S_S8192x8x128 main_cst_0
  let main_v5 : IVec S8192x8x128 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  let main_v9 : FVec F S8192x8x128 .f32 := Host.absf main_arg3
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_fox_finite.lean ====
abbrev S8192x16x64 : Shape := ⟨3, ![8192, 16, 64]⟩
abbrev S8192x16 : Shape := ⟨2, ![8192, 16]⟩
abbrev S_ : Shape := ⟨0, ![]⟩

class Facts : Prop where
  bcast_S_S8192x16x64 : S_.BroadcastsInDim S8192x16x64 (![] : Fin 0 → Fin S8192x16x64.rank)
  bcast_S_S8192x16 : S_.BroadcastsInDim S8192x16 (![] : Fin 0 → Fin S8192x16.rank)

variable [Facts]

def fn {F : FTy → Type} [FloatOps F] (main_arg0 : FVec F S8192x16x64 .f32) (main_arg1 : FVec F S8192x16x64 .f32) (main_arg2 : FVec F S8192x16x64 .f32) (main_arg3 : FVec F S8192x16 .f32) (main_arg4 : FVec F S8192x16x64 .f32) : IVec S8192x16x64 1 × IVec S8192x16x64 1 × IVec S8192x16x64 1 × IVec S8192x16 1 × IVec S8192x16x64 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x64 .f32 := Host.absf main_arg2
  let main_cst_1 : FVec F S_ .f32 := constant S_ .f32 0x7F800000#32
  let main_v7 : FVec F S8192x16x64 .f32 := broadcastInDim S8192x16x64 ![] bcast_S_S8192x16x64 main_cst_1
  let main_v8 : IVec S8192x16x64 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S8192x16x64 .f32 := Host.absf main_arg4
  let main_cst_3 : FVec F S_ .f32 := constant S_ .f32 0x7F800000#32
  let main_v13 : FVec F S8192x16x64 .f32 := broadcastInDim S8192x16x64 ![] bcast_S_S8192x16x64 main_cst_3
  let main_v14 : IVec S8192x16x64 1 := cmpf .olt main_v12 main_v13
  (main_v2, main_v5, main_v8, main_v11, main_v14)
-- ==== Pre_foxctx_finite.lean ====
abbrev S8192x16x64 : Shape := ⟨3, ![8192, 16, 64]⟩
abbrev S8192x16 : Shape := ⟨2, ![8192, 16]⟩
abbrev S1024x1024 : Shape := ⟨2, ![1024, 1024]⟩
abbrev S8192x1024 : Shape := ⟨2, ![8192, 1024]⟩
abbrev S_ : Shape := ⟨0, ![]⟩

class Facts : Prop where
  bcast_S_S8192x16x64 : S_.BroadcastsInDim S8192x16x64 (![] : Fin 0 → Fin S8192x16x64.rank)
  bcast_S_S8192x16 : S_.BroadcastsInDim S8192x16 (![] : Fin 0 → Fin S8192x16.rank)
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn {F : FTy → Type} [FloatOps F] (main_arg0 : FVec F S8192x16x64 .f32) (main_arg1 : FVec F S8192x16x64 .f32) (main_arg2 : FVec F S8192x16x64 .f32) (main_arg3 : FVec F S8192x16 .f32) (main_arg4 : FVec F S1024x1024 .f32) (main_arg5 : FVec F S8192x1024 .f32) : IVec S8192x16x64 1 × IVec S8192x16x64 1 × IVec S8192x16x64 1 × IVec S8192x16 1 × IVec S1024x1024 1 × IVec S8192x1024 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_v3 : FVec F S8192x16x64 .f32 := Host.absf main_arg1
  let main_cst_0 : FVec F S_ .f32 := constant S_ .f32 0x7F800000#32
  let main_v4 : FVec F S8192x16x64 .f32 := broadcastInDim S8192x16x64 ![] bcast_S_S8192x16x64 main_cst_0
  let main_v5 : IVec S8192x16x64 1 := cmpf .olt main_v3 main_v4
  let main_v6 : FVec F S8192x16x64 .f32 := Host.absf main_arg2
  let main_cst_1 : FVec F S_ .f32 := constant S_ .f32 0x7F800000#32
  let main_v7 : FVec F S8192x16x64 .f32 := broadcastInDim S8192x16x64 ![] bcast_S_S8192x16x64 main_cst_1
  let main_v8 : IVec S8192x16x64 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_latent_finite.lean ====
abbrev S8192x320 : Shape := ⟨2, ![8192, 320]⟩
abbrev S256 : Shape := ⟨1, ![256]⟩
abbrev S8192x256 : Shape := ⟨2, ![8192, 256]⟩
abbrev S_ : Shape := ⟨0, ![]⟩

class Facts : Prop where
  bcast_S_S8192x320 : S_.BroadcastsInDim S8192x320 (![] : Fin 0 → Fin S8192x320.rank)
  bcast_S_S256 : S_.BroadcastsInDim S256 (![] : Fin 0 → Fin S256.rank)
  bcast_S_S8192x256 : S_.BroadcastsInDim S8192x256 (![] : Fin 0 → Fin S8192x256.rank)

variable [Facts]

def fn {F : FTy → Type} [FloatOps F] (main_arg0 : FVec F S8192x320 .f32) (main_arg1 : FVec F S256 .f32) (main_arg2 : FVec F S8192x256 .f32) : IVec S8192x320 1 × IVec S256 1 × IVec S8192x256 1 :=
  let main_v0 : FVec F S8192x320 .f32 := Host.absf main_arg0
  let main_cst : FVec F S_ .f32 := constant S_ .f32 0x7F800000#32
  let main_v1 : FVec F S8192x320 .f32 := broadcastInDim S8192x320 ![] bcast_S_S8192x320 main_cst
  let main_v2 : IVec S8192x320 1 := cmpf .olt main_v0 main_v1
  let main_v3 : FVec F S256 .f32 := Host.absf main_arg1
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  (main_v2, main_v5, main_v8)
-- ==== Pre_loss_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_mla_finite.lean ====
abbrev S8192x8x192 : Shape := ⟨3, ![8192, 8, 192]⟩
abbrev S8192x8x128 : Shape := ⟨3, ![8192, 8, 128]⟩
abbrev S8192x64 : Shape := ⟨2, ![8192, 64]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  bcast_S_S8192x64 : S_.BroadcastsInDim S8192x64 (![] : Fin 0 → Fin S8192x64.rank)

variable [Facts]

def fn {F : FTy → Type} [FloatOps F] (main_arg0 : FVec F S8192x8x192 .f32) (main_arg1 : FVec F S8192x8x128 .f32) (main_arg2 : FVec F S8192x64 .f32) (main_arg3 : FVec F S8192x8x128 .f32) (main_arg4 : FVec F S8192x8x128 .f32) : IVec S8192x8x192 1 × IVec S8192x8x128 1 × IVec S8192x64 1 × IVec S8192x8x128 1 × IVec S8192x8x128 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x128 .f32 := Host.absf main_arg1
  let main_cst_0 : FVec F S_ .f32 := constant S_ .f32 0x7F800000#32
  let main_v4 : FVec F S8192x8x128 .f32 := broadcastInDim S8192x8x128 ![] bcast_S_S8192x8x128 main_cst_0
  let main_v5 : IVec S8192x8x128 1 := cmpf .olt main_v3 main_v4
  let main_v6 : FVec F S8192x64 .f32 := Host.absf main_arg2
  let main_cst_1 : FVec F S_ .f32 := constant S_ .f32 0x7F800000#32
  let main_v7 : FVec F S8192x64 .f32 := broadcastInDim S8192x64 ![] bcast_S_S8192x64 main_cst_1
  let main_v8 : IVec S8192x64 1 := cmpf .olt main_v6 main_v7
  let main_v9 : FVec F S8192x8x128 .f32 := Host.absf main_arg3
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  let main_v12 : FVec F S8192x8x128 .f32 := Host.absf main_arg4
  let main_cst_3 : FVec F S_ .f32 := constant S_ .f32 0x7F800000#32
  let main_v13 : FVec F S8192x8x128 .f32 := broadcastInDim S8192x8x128 ![] bcast_S_S8192x8x128 main_cst_3
  let main_v14 : IVec S8192x8x128 1 := cmpf .olt main_v12 main_v13
  (main_v2, main_v5, main_v8, main_v11, main_v14)
-- ==== Pre_norm2_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S1024 .f32) (main_arg3 : FVec F S8192x1024 .f32) (main_arg4 : FVec F S8192x1024 .f32) (main_arg5 : FVec F S8192x1024 .f32) : IVec S8192x1024 1 × IVec S1024 1 × IVec S1024 1 × IVec S8192x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_norm_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) (main_arg3 : FVec F S8192x1024 .f32) : IVec S8192x1024 1 × IVec S1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_normq_finite.lean ====
abbrev S8192x384 : Shape := ⟨2, ![8192, 384]⟩
abbrev S384 : Shape := ⟨1, ![384]⟩
abbrev S_ : Shape := ⟨0, ![]⟩

class Facts : Prop where
  bcast_S_S8192x384 : S_.BroadcastsInDim S8192x384 (![] : Fin 0 → Fin S8192x384.rank)
  bcast_S_S384 : S_.BroadcastsInDim S384 (![] : Fin 0 → Fin S384.rank)

variable [Facts]

def fn {F : FTy → Type} [FloatOps F] (main_arg0 : FVec F S8192x384 .f32) (main_arg1 : FVec F S384 .f32) (main_arg2 : FVec F S8192x384 .f32) : IVec S8192x384 1 × IVec S384 1 × IVec S8192x384 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S384 .f32 := Host.absf main_arg1
  let main_cst_0 : FVec F S_ .f32 := constant S_ .f32 0x7F800000#32
  let main_v4 : FVec F S384 .f32 := broadcastInDim S384 ![] bcast_S_S384 main_cst_0
  let main_v5 : IVec S384 1 := cmpf .olt main_v3 main_v4
  let main_v6 : FVec F S8192x384 .f32 := Host.absf main_arg2
  let main_cst_1 : FVec F S_ .f32 := constant S_ .f32 0x7F800000#32
  let main_v7 : FVec F S8192x384 .f32 := broadcastInDim S8192x384 ![] bcast_S_S8192x384 main_cst_1
  let main_v8 : IVec S8192x384 1 := cmpf .olt main_v6 main_v7
  (main_v2, main_v5, main_v8)
-- ==== Pre_ropeq_finite.lean ====
abbrev S8192x384 : Shape := ⟨2, ![8192, 384]⟩
abbrev S384x1536 : Shape := ⟨2, ![384, 1536]⟩
abbrev S8192x32 : Shape := ⟨2, ![8192, 32]⟩
abbrev S8192x8x192 : Shape := ⟨3, ![8192, 8, 192]⟩
abbrev S_ : Shape := ⟨0, ![]⟩

class Facts : Prop where
  bcast_S_S8192x384 : S_.BroadcastsInDim S8192x384 (![] : Fin 0 → Fin S8192x384.rank)
  bcast_S_S384x1536 : S_.BroadcastsInDim S384x1536 (![] : Fin 0 → Fin S384x1536.rank)
  bcast_S_S8192x32 : S_.BroadcastsInDim S8192x32 (![] : Fin 0 → Fin S8192x32.rank)
  bcast_S_S8192x8x192 : S_.BroadcastsInDim S8192x8x192 (![] : Fin 0 → Fin S8192x8x192.rank)

variable [Facts]

def fn {F : FTy → Type} [FloatOps F] (main_arg0 : FVec F S8192x384 .f32) (main_arg1 : FVec F S384x1536 .f32) (main_arg2 : FVec F S8192x32 .f32) (main_arg3 : FVec F S8192x32 .f32) (main_arg4 : FVec F S8192x8x192 .f32) : IVec S8192x384 1 × IVec S384x1536 1 × IVec S8192x32 1 × IVec S8192x32 1 × IVec S8192x8x192 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_v3 : FVec F S384x1536 .f32 := Host.absf main_arg1
  let main_cst_0 : FVec F S_ .f32 := constant S_ .f32 0x7F800000#32
  let main_v4 : FVec F S384x1536 .f32 := broadcastInDim S384x1536 ![] bcast_S_S384x1536 main_cst_0
  let main_v5 : IVec S384x1536 1 := cmpf .olt main_v3 main_v4
  let main_v6 : FVec F S8192x32 .f32 := Host.absf main_arg2
  let main_cst_1 : FVec F S_ .f32 := constant S_ .f32 0x7F800000#32
  let main_v7 : FVec F S8192x32 .f32 := broadcastInDim S8192x32 ![] bcast_S_S8192x32 main_cst_1
  let main_v8 : IVec S8192x32 1 := cmpf .olt main_v6 main_v7
  let main_v9 : FVec F S8192x32 .f32 := Host.absf main_arg3
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_v12 : FVec F S8192x8x192 .f32 := Host.absf main_arg4
  let main_cst_3 : FVec F S_ .f32 := constant S_ .f32 0x7F800000#32
  let main_v13 : FVec F S8192x8x192 .f32 := broadcastInDim S8192x8x192 ![] bcast_S_S8192x8x192 main_cst_3
  let main_v14 : IVec S8192x8x192 1 := cmpf .olt main_v12 main_v13
  (main_v2, main_v5, main_v8, main_v11, main_v14)
-- ==== Norm.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MlaBwd.lean ====
abbrev S8192x8x192 : Shape := ⟨3, ![8192, 8, 192]⟩
abbrev S8192x8x128 : Shape := ⟨3, ![8192, 8, 128]⟩
abbrev S8192x64 : Shape := ⟨2, ![8192, 64]⟩
abbrev S5x36 : Shape := ⟨2, ![5, 36]⟩
abbrev S8192x1x64 : Shape := ⟨3, ![8192, 1, 64]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8192x8 : Shape := ⟨2, ![8192, 8]⟩
abbrev S8192x8x1 : Shape := ⟨3, ![8192, 8, 1]⟩
abbrev S8x128x8192 : Shape := ⟨3, ![8, 128, 8192]⟩
abbrev S8192x8x61 : Shape := ⟨3, ![8192, 8, 61]⟩
abbrev S8192x8x256 : Shape := ⟨3, ![8192, 8, 256]⟩
abbrev S8192x2048 : Shape := ⟨2, ![8192, 2048]⟩
abbrev S8192x8x3 : Shape := ⟨3, ![8192, 8, 3]⟩
abbrev S8192x8x124 : Shape := ⟨3, ![8192, 8, 124]⟩
abbrev S8192x8x125 : Shape := ⟨3, ![8192, 8, 125]⟩
abbrev S1024x512 : Shape := ⟨2, ![1024, 512]⟩
abbrev S1x1 : Shape := ⟨2, ![1, 1]⟩
abbrev S8192x512 : Shape := ⟨2, ![8192, 512]⟩
abbrev S1024x256 : Shape := ⟨2, ![1024, 256]⟩
abbrev S256x256 : Shape := ⟨2, ![256, 256]⟩
abbrev S256x1024 : Shape := ⟨2, ![256, 1024]⟩
abbrev S768x256 : Shape := ⟨2, ![768, 256]⟩
abbrev S256x768 : Shape := ⟨2, ![256, 768]⟩
abbrev S512x256 : Shape := ⟨2, ![512, 256]⟩
abbrev S256x512 : Shape := ⟨2, ![256, 512]⟩

abbrev nBuf : Space → Nat
  | .hbm => 115
  | .vmem => 15
  | .smem => 1
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x64, .f32⟩
  | .hbm, ⟨3, _⟩ => ⟨S8192x8x128, .f32⟩
  | .hbm, ⟨4, _⟩ => ⟨S8192x8x128, .f32⟩
  | .hbm, ⟨5, _⟩ => ⟨S8192x1x64, .f32⟩
  | .hbm, ⟨6, _⟩ => ⟨S8192x8x64, .f32⟩
  | .hbm, ⟨7, _⟩ => ⟨S8192x8x128, .f32⟩
  | .hbm, ⟨8, _⟩ => ⟨S8192x8x64, .f32⟩
  | .hbm, ⟨9, _⟩ => ⟨S8x8192x8192, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S8x8192, .f32⟩
  | .hbm, ⟨38, _⟩ => ⟨S8192x8, .f32⟩
  | .hbm, ⟨39, _⟩ => ⟨S8192x8x1, .f32⟩
  | .hbm, ⟨40, _⟩ => ⟨S8x8192x8192, .f32⟩
  | .hbm, ⟨41, _⟩ => ⟨S8x8192x8192, .f32⟩
  | .hbm, ⟨42, _⟩ => ⟨S8x128x8192, .f32⟩
  | .hbm, ⟨43, _⟩ => ⟨S8192x8x128, .f32⟩
  | .hbm, ⟨44, _⟩ => ⟨S8192x8x128, .bf16⟩
  | .hbm, ⟨45, _⟩ => ⟨S8192x8x128, .f32⟩
  | .hbm, ⟨46, _⟩ => ⟨S8192x8x128, .bf16⟩
  | .hbm, ⟨47, _⟩ => ⟨S8192x8x128, .f32⟩
  | .hbm, ⟨48, _⟩ => ⟨S8192x8x128, .f32⟩
  | .hbm, ⟨49, _⟩ => ⟨S_, .f32⟩
  | .hbm, ⟨50, _⟩ => ⟨S8192x8, .f32⟩
  | .hbm, ⟨51, _⟩ => ⟨S8192x8x1, .f32⟩
  | .hbm, ⟨52, _⟩ => ⟨S_, .f32⟩
  | .hbm, ⟨53, _⟩ => ⟨S8192x8x192, .f32⟩
  | .hbm, ⟨54, _⟩ => ⟨S8192x8x192, .f32⟩
  | .hbm, ⟨55, _⟩ => ⟨S8192x8x1, .bf16⟩
  | .hbm, ⟨56, _⟩ => ⟨S8192x8x1, .f32⟩
  | .hbm, ⟨57, _⟩ => ⟨S8192x8x1, .f32⟩
  | .hbm, ⟨58, _⟩ => ⟨S8192x8x1, .bf16⟩
  | .hbm, ⟨59, _⟩ => ⟨S8192x8x1, .f32⟩
  | .hbm, ⟨60, _⟩ => ⟨S8192x8x1, .f32⟩
  | .hbm, ⟨61, _⟩ => ⟨S8192x8x1, .bf16⟩
  | .hbm, ⟨62, _⟩ => ⟨S8192x8x1, .f32⟩
  | .hbm, ⟨63, _⟩ => ⟨S8192x8x1, .f32⟩
  | .hbm, ⟨64, _⟩ => ⟨S8192x8x1, .f32⟩
  | .hbm, ⟨65, _⟩ => ⟨S8192x8x1, .f32⟩
  | .hbm, ⟨66, _⟩ => ⟨S_, .f32⟩
  | .hbm, ⟨67, _⟩ => ⟨S8192x8x61, .f32⟩
  | .hbm, ⟨68, _⟩ => ⟨S8192x8x256, .f32⟩
  | .hbm, ⟨69, _⟩ => ⟨S8192x2048, .f32⟩
  | .hbm, ⟨70, _⟩ => ⟨S8192x2048, .bf16⟩
  | .hbm, ⟨71, _⟩ => ⟨S8192x1x64, .f32⟩
  | .hbm, ⟨72, _⟩ => ⟨S8192x8x64, .f32⟩
  | .hbm, ⟨73, _⟩ => ⟨S_, .f32⟩
  | .hbm, ⟨74, _⟩ => ⟨S8192x8x3, .f32⟩
  | .hbm, ⟨75, _⟩ => ⟨S_, .f32⟩
  | .hbm, ⟨76, _⟩ => ⟨S8192x8x61, .f32⟩
  | .hbm, ⟨77, _⟩ => ⟨S8192x8x256, .f32⟩
  | .hbm, ⟨78, _⟩ => ⟨S8192x2048, .f32⟩
  | .hbm, ⟨79, _⟩ => ⟨S8192x2048, .bf16⟩
  | .hbm, ⟨80, _⟩ => ⟨S_, .f32⟩
  | .hbm, ⟨81, _⟩ => ⟨S8192x8x3, .f32⟩
  | .hbm, ⟨82, _⟩ => ⟨S_, .f32⟩
  | .hbm, ⟨83, _⟩ => ⟨S8192x8x1, .f32⟩
  | .hbm, ⟨84, _⟩ => ⟨S_, .f32⟩
  | .hbm, ⟨85, _⟩ => ⟨S8192x8x124, .f32⟩
  | .hbm, ⟨86, _⟩ => ⟨S8192x8x256, .f32⟩
  | .hbm, ⟨87, _⟩ => ⟨S8192x2048, .f32⟩
  | .hbm, ⟨88, _⟩ => ⟨S8192x2048, .bf16⟩
  | .hbm, ⟨89, _⟩ => ⟨S8192x8x128, .f32⟩
  | .hbm, ⟨90, _⟩ => ⟨S8192x8x1, .bf16⟩
  | .hbm, ⟨91, _⟩ => ⟨S8192x8x1, .f32⟩
  | .hbm, ⟨92, _⟩ => ⟨S8192x8x1, .f32⟩
  | .hbm, ⟨93, _⟩ => ⟨S8192x8x1, .bf16⟩
  | .hbm, ⟨94, _⟩ => ⟨S8192x8x1, .f32⟩
  | .hbm, ⟨95, _⟩ => ⟨S8192x8x1, .f32⟩
  | .hbm, ⟨96, _⟩ => ⟨S8192x8x1, .bf16⟩
  | .hbm, ⟨97, _⟩ => ⟨S8192x8x1, .f32⟩
  | .hbm, ⟨98, _⟩ => ⟨S_, .f32⟩
  | .hbm, ⟨99, _⟩ => ⟨S8192x8x125, .f32⟩
  | .hbm, ⟨100, _⟩ => ⟨S8192x8x256, .f32⟩
  | .hbm, ⟨101, _⟩ => ⟨S8192x2048, .f32⟩
  | .hbm, ⟨102, _⟩ => ⟨S8192x2048, .bf16⟩
  | .hbm, ⟨103, _⟩ => ⟨S8192x2048, .f32⟩
  | .hbm, ⟨104, _⟩ => ⟨S8192x2048, .bf16⟩
  | .hbm, ⟨105, _⟩ => ⟨S8192x2048, .bf16⟩
  | .hbm, ⟨106, _⟩ => ⟨S8192x8x256, .f32⟩
  | .hbm, ⟨107, _⟩ => ⟨S8192x8x256, .bf16⟩
  | .hbm, ⟨108, _⟩ => ⟨S8192x8x256, .bf16⟩
  | .hbm, ⟨109, _⟩ => ⟨S8192x8x192, .f32⟩
  | .hbm, ⟨110, _⟩ => ⟨S_, .f32⟩
  | .hbm, ⟨111, _⟩ => ⟨S8192x8x192, .f32⟩
  | .hbm, ⟨112, _⟩ => ⟨S8192x8x192, .f32⟩
  | .hbm, ⟨113, _⟩ => ⟨S8192x8x192, .bf16⟩
  | .hbm, ⟨114, _⟩ => ⟨S8192x8x128, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S8192x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .f32⟩
  | .local _ .vmem, ⟨14, _⟩ => ⟨S1024x512, .f32⟩
  | .local _ .smem, ⟨0, _⟩ => ⟨S5x36, .i32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82_0 : Ref sig .tc := ⟨.hbm, 103, rfl⟩
abbrev main_v82_1 : Ref sig .tc := ⟨.hbm, 104, rfl⟩
abbrev main_v82_2 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 36], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c3 : Index := 3#32
  let arg1 : BitVec 32 := BitVec.ofNat 32 (i 1).val
  let v7 : Index := Scalar.indexCast arg1
  ![3, v7.toNat]
def k0_off4 (i : grid0.Coords) : Fin 2 → Nat :=
  let c2 : Index := 2#32
  let arg1 : BitVec 32 := BitVec.ofNat 32 (i 1).val
  let v12 : Index := Scalar.indexCast arg1
  ![2, v12.toNat]
def k0_mult1 (v1 : BitVec 32) : BitVec 32 :=
  let c1024_i32_32 : BitVec 32 := 1024#32
  let v66 : BitVec 32 := Scalar.muli v1 c1024_i32_32
  let c0_i32_33 : BitVec 32 := 0#32
  let v67 : BitVec 32 := Scalar.addi v66 c0_i32_33
  v67
def k0_cond3 (v13 : BitVec 32) : BitVec 1 :=
  let c1_i32_2 : BitVec 32 := 1#32
  let v14 : BitVec 1 := Scalar.cmpi .eq v13 c1_i32_2
  let v15 : BitVec 32 := Scalar.extui v14
  let c0_i32_3 : BitVec 32 := 0#32
  let v16 : BitVec 1 := Scalar.cmpi .ne v15 c0_i32_3
  v16

def k0_off5 (v1 : BitVec 32) : Fin 2 → Nat :=
  let c1024_i32_32 : BitVec 32 := 1024#32
  let v66 : BitVec 32 := Scalar.muli v1 c1024_i32_32
  let c0_i32_33 : BitVec 32 := 0#32
  let v67 : BitVec 32 := Scalar.addi v66 c0_i32_33
  let v68 : BitVec 32 := v67
  let v69 : Index := Scalar.indexCast v68
  let c0_34 : Index := 0#32
  ![v69.toNat, 0]
def k0_mult2 (v1 : BitVec 32) : BitVec 32 :=
  let c1024_i32_60 : BitVec 32 := 1024#32
  let v115 : BitVec 32 := Scalar.muli v1 c1024_i32_60
  let c256_i32_61 : BitVec 32 := 256#32
  let v116 : BitVec 32 := Scalar.addi v115 c256_i32_61
  v116
def k0_off6 (v1 : BitVec 32) : Fin 2 → Nat :=
  let c1024_i32_60 : BitVec 32 := 1024#32
  let v115 : BitVec 32 := Scalar.muli v1 c1024_i32_60
  let c256_i32_61 : BitVec 32 := 256#32
  let v116 : BitVec 32 := Scalar.addi v115 c256_i32_61
  let v117 : BitVec 32 := v116
  let v118 : Index := Scalar.indexCast v117
  let c0_62 : Index := 0#32
  ![v118.toNat, 0]
def k0_mult3 (v1 : BitVec 32) : BitVec 32 :=
  let c1024_i32_88 : BitVec 32 := 1024#32
  let v164 : BitVec 32 := Scalar.muli v1 c1024_i32_88
  let c512_i32_89 : BitVec 32 := 512#32
  let v165 : BitVec 32 := Scalar.addi v164 c512_i32_89
  v165
def k0_off7 (v1 : BitVec 32) : Fin 2 → Nat :=
  let c1024_i32_88 : BitVec 32 := 1024#32
  let v164 : BitVec 32 := Scalar.muli v1 c1024_i32_88
  let c512_i32_89 : BitVec 32 := 512#32
  let v165 : BitVec 32 := Scalar.addi v164 c512_i32_89
  let v166 : BitVec 32 := v165
  let v167 : Index := Scalar.indexCast v166
  let c0_90 : Index := 0#32
  ![v167.toNat, 0]
def k0_mult4 (v1 : BitVec 32) : BitVec 32 :=
  let c1024_i32_116 : BitVec 32 := 1024#32
  let v213 : BitVec 32 := Scalar.muli v1 c1024_i32_116
  let c768_i32_117 : BitVec 32 := 768#32
  let v214 : BitVec 32 := Scalar.addi v213 c768_i32_117
  v214
def k0_off8 (v1 : BitVec 32) : Fin 2 → Nat :=
  let c1024_i32_116 : BitVec 32 := 1024#32
  let v213 : BitVec 32 := Scalar.muli v1 c1024_i32_116
  let c768_i32_117 : BitVec 32 := 768#32
  let v214 : BitVec 32 := Scalar.addi v213 c768_i32_117
  let v215 : BitVec 32 := v214
  let v216 : Index := Scalar.indexCast v215
  let c0_118 : Index := 0#32
  ![v216.toNat, 0]
def k0_mult5 (v1 : BitVec 32) : BitVec 32 :=
  let c1024_i32_146 : BitVec 32 := 1024#32
  let v262 : BitVec 32 := Scalar.muli v1 c1024_i32_146
  let c0_i32_147 : BitVec 32 := 0#32
  let v263 : BitVec 32 := Scalar.addi v262 c0_i32_147
  v263
def k0_off9 (v1 : BitVec 32) : Fin 2 → Nat :=
  let c1024_i32_146 : BitVec 32 := 1024#32
  let v262 : BitVec 32 := Scalar.muli v1 c1024_i32_146
  let c0_i32_147 : BitVec 32 := 0#32
  let v263 : BitVec 32 := Scalar.addi v262 c0_i32_147
  let v264 : BitVec 32 := v263
  let v265 : Index := Scalar.indexCast v264
  let c256_148 : Index := 256#32
  ![v265.toNat, 256]
def k0_mult6 (v1 : BitVec 32) : BitVec 32 :=
  let c1024_i32_176 : BitVec 32 := 1024#32
  let v311 : BitVec 32 := Scalar.muli v1 c1024_i32_176
  let c256_i32_177 : BitVec 32 := 256#32
  let v312 : BitVec 32 := Scalar.addi v311 c256_i32_177
  v312
def k0_off10 (v1 : BitVec 32) : Fin 2 → Nat :=
  let c1024_i32_176 : BitVec 32 := 1024#32
  let v311 : BitVec 32 := Scalar.muli v1 c1024_i32_176
  let c256_i32_177 : BitVec 32 := 256#32
  let v312 : BitVec 32 := Scalar.addi v311 c256_i32_177
  let v313 : BitVec 32 := v312
  let v314 : Index := Scalar.indexCast v313
  let c256_178 : Index := 256#32
  ![v314.toNat, 256]
def k0_mult7 (v1 : BitVec 32) : BitVec 32 :=
  let c1024_i32_206 : BitVec 32 := 1024#32
  let v360 : BitVec 32 := Scalar.muli v1 c1024_i32_206
  let c512_i32_207 : BitVec 32 := 512#32
  let v361 : BitVec 32 := Scalar.addi v360 c512_i32_207
  v361
def k0_off11 (v1 : BitVec 32) : Fin 2 → Nat :=
  let c1024_i32_206 : BitVec 32 := 1024#32
  let v360 : BitVec 32 := Scalar.muli v1 c1024_i32_206
  let c512_i32_207 : BitVec 32 := 512#32
  let v361 : BitVec 32 := Scalar.addi v360 c512_i32_207
  let v362 : BitVec 32 := v361
  let v363 : Index := Scalar.indexCast v362
  let c256_208 : Index := 256#32
  ![v363.toNat, 256]
def k0_mult8 (v1 : BitVec 32) : BitVec 32 :=
  let c1024_i32_236 : BitVec 32 := 1024#32
  let v409 : BitVec 32 := Scalar.muli v1 c1024_i32_236
  let c768_i32_237 : BitVec 32 := 768#32
  let v410 : BitVec 32 := Scalar.addi v409 c768_i32_237
  v410
def k0_off12 (v1 : BitVec 32) : Fin 2 → Nat :=
  let c1024_i32_236 : BitVec 32 := 1024#32
  let v409 : BitVec 32 := Scalar.muli v1 c1024_i32_236
  let c768_i32_237 : BitVec 32 := 768#32
  let v410 : BitVec 32 := Scalar.addi v409 c768_i32_237
  let v411 : BitVec 32 := v410
  let v412 : Index := Scalar.indexCast v411
  let c256_238 : Index := 256#32
  ![v412.toNat, 256]

def k0_chk1 (v1 : BitVec 32) (v13 : BitVec 32) : Prop :=
  (∀ (k0_h3 : k0_cond3 v13 = 1#1), 256 ∣ (k0_mult1 v1).toNat) ∧
  (∀ (k0_h3 : k0_cond3 v13 = 1#1), ∀ a, (k0_off5 v1) a + S1024x256.size a ≤ S8192x512.size a) ∧
  (∀ (k0_h3 : k0_cond3 v13 = 1#1), 256 ∣ (k0_mult2 v1).toNat) ∧
  (∀ (k0_h3 : k0_cond3 v13 = 1#1), ∀ a, (k0_off6 v1) a + S768x256.size a ≤ S8192x512.size a) ∧
  (∀ (k0_h3 : k0_cond3 v13 = 1#1), 256 ∣ (k0_mult3 v1).toNat) ∧
  (∀ (k0_h3 : k0_cond3 v13 = 1#1), ∀ a, (k0_off7 v1) a + S512x256.size a ≤ S8192x512.size a) ∧
  (∀ (k0_h3 : k0_cond3 v13 = 1#1), 256 ∣ (k0_mult4 v1).toNat) ∧
  (∀ (k0_h3 : k0_cond3 v13 = 1#1), ∀ a, (k0_off8 v1) a + S256x256.size a ≤ S8192x512.size a) ∧
  (∀ (k0_h3 : k0_cond3 v13 = 1#1), 256 ∣ (k0_mult5 v1).toNat) ∧
  (∀ (k0_h3 : k0_cond3 v13 = 1#1), ∀ a, (k0_off9 v1) a + S1024x256.size a ≤ S8192x512.size a) ∧
  (∀ (k0_h3 : k0_cond3 v13 = 1#1), 256 ∣ (k0_mult6 v1).toNat) ∧
  (∀ (k0_h3 : k0_cond3 v13 = 1#1), ∀ a, (k0_off10 v1) a + S768x256.size a ≤ S8192x512.size a) ∧
  (∀ (k0_h3 : k0_cond3 v13 = 1#1), 256 ∣ (k0_mult7 v1).toNat) ∧
  (∀ (k0_h3 : k0_cond3 v13 = 1#1), ∀ a, (k0_off11 v1) a + S512x256.size a ≤ S8192x512.size a) ∧
  (∀ (k0_h3 : k0_cond3 v13 = 1#1), 256 ∣ (k0_mult8 v1).toNat) ∧
  (∀ (k0_h3 : k0_cond3 v13 = 1#1), ∀ a, (k0_off12 v1) a + S256x256.size a ≤ S8192x512.size a)
theorem k0_mult1_dvd : ∀ (v1 : BitVec 32) (v13 : BitVec 32) (k0_hw1 : k0_chk1 v1 v13), ∀ (k0_h3 : k0_cond3 v13 = 1#1), 256 ∣ (k0_mult1 v1).toNat := fun v1 v13 k0_hw1 k0_h3 => k0_hw1.1 k0_h3
theorem k0_off5_inb : ∀ (v1 : BitVec 32) (v13 : BitVec 32) (k0_hw1 : k0_chk1 v1 v13), ∀ (k0_h3 : k0_cond3 v13 = 1#1), ∀ a, (k0_off5 v1) a + S1024x256.size a ≤ S8192x512.size a := fun v1 v13 k0_hw1 k0_h3 => k0_hw1.2.1 k0_h3
theorem k0_mult2_dvd : ∀ (v1 : BitVec 32) (v13 : BitVec 32) (k0_hw1 : k0_chk1 v1 v13), ∀ (k0_h3 : k0_cond3 v13 = 1#1), 256 ∣ (k0_mult2 v1).toNat := fun v1 v13 k0_hw1 k0_h3 => k0_hw1.2.2.1 k0_h3
theorem k0_off6_inb : ∀ (v1 : BitVec 32) (v13 : BitVec 32) (k0_hw1 : k0_chk1 v1 v13), ∀ (k0_h3 : k0_cond3 v13 = 1#1), ∀ a, (k0_off6 v1) a + S768x256.size a ≤ S8192x512.size a := fun v1 v13 k0_hw1 k0_h3 => k0_hw1.2.2.2.1 k0_h3
theorem k0_mult3_dvd : ∀ (v1 : BitVec 32) (v13 : BitVec 32) (k0_hw1 : k0_chk1 v1 v13), ∀ (k0_h3 : k0_cond3 v13 = 1#1), 256 ∣ (k0_mult3 v1).toNat := fun v1 v13 k0_hw1 k0_h3 => k0_hw1.2.2.2.2.1 k0_h3
theorem k0_off7_inb : ∀ (v1 : BitVec 32) (v13 : BitVec 32) (k0_hw1 : k0_chk1 v1 v13), ∀ (k0_h3 : k0_cond3 v13 = 1#1), ∀ a, (k0_off7 v1) a + S512x256.size a ≤ S8192x512.size a := fun v1 v13 k0_hw1 k0_h3 => k0_hw1.2.2.2.2.2.1 k0_h3
theorem k0_mult4_dvd : ∀ (v1 : BitVec 32) (v13 : BitVec 32) (k0_hw1 : k0_chk1 v1 v13), ∀ (k0_h3 : k0_cond3 v13 = 1#1), 256 ∣ (k0_mult4 v1).toNat := fun v1 v13 k0_hw1 k0_h3 => k0_hw1.2.2.2.2.2.2.1 k0_h3
theorem k0_off8_inb : ∀ (v1 : BitVec 32) (v13 : BitVec 32) (k0_hw1 : k0_chk1 v1 v13), ∀ (k0_h3 : k0_cond3 v13 = 1#1), ∀ a, (k0_off8 v1) a + S256x256.size a ≤ S8192x512.size a := fun v1 v13 k0_hw1 k0_h3 => k0_hw1.2.2.2.2.2.2.2.1 k0_h3
theorem k0_mult5_dvd : ∀ (v1 : BitVec 32) (v13 : BitVec 32) (k0_hw1 : k0_chk1 v1 v13), ∀ (k0_h3 : k0_cond3 v13 = 1#1), 256 ∣ (k0_mult5 v1).toNat := fun v1 v13 k0_hw1 k0_h3 => k0_hw1.2.2.2.2.2.2.2.2.1 k0_h3
theorem k0_off9_inb : ∀ (v1 : BitVec 32) (v13 : BitVec 32) (k0_hw1 : k0_chk1 v1 v13), ∀ (k0_h3 : k0_cond3 v13 = 1#1), ∀ a, (k0_off9 v1) a + S1024x256.size a ≤ S8192x512.size a := fun v1 v13 k0_hw1 k0_h3 => k0_hw1.2.2.2.2.2.2.2.2.2.1 k0_h3
theorem k0_mult6_dvd : ∀ (v1 : BitVec 32) (v13 : BitVec 32) (k0_hw1 : k0_chk1 v1 v13), ∀ (k0_h3 : k0_cond3 v13 = 1#1), 256 ∣ (k0_mult6 v1).toNat := fun v1 v13 k0_hw1 k0_h3 => k0_hw1.2.2.2.2.2.2.2.2.2.2.1 k0_h3
theorem k0_off10_inb : ∀ (v1 : BitVec 32) (v13 : BitVec 32) (k0_hw1 : k0_chk1 v1 v13), ∀ (k0_h3 : k0_cond3 v13 = 1#1), ∀ a, (k0_off10 v1) a + S768x256.size a ≤ S8192x512.size a := fun v1 v13 k0_hw1 k0_h3 => k0_hw1.2.2.2.2.2.2.2.2.2.2.2.1 k0_h3
theorem k0_mult7_dvd : ∀ (v1 : BitVec 32) (v13 : BitVec 32) (k0_hw1 : k0_chk1 v1 v13), ∀ (k0_h3 : k0_cond3 v13 = 1#1), 256 ∣ (k0_mult7 v1).toNat := fun v1 v13 k0_hw1 k0_h3 => k0_hw1.2.2.2.2.2.2.2.2.2.2.2.2.1 k0_h3
theorem k0_off11_inb : ∀ (v1 : BitVec 32) (v13 : BitVec 32) (k0_hw1 : k0_chk1 v1 v13), ∀ (k0_h3 : k0_cond3 v13 = 1#1), ∀ a, (k0_off11 v1) a + S512x256.size a ≤ S8192x512.size a := fun v1 v13 k0_hw1 k0_h3 => k0_hw1.2.2.2.2.2.2.2.2.2.2.2.2.2.1 k0_h3
theorem k0_mult8_dvd : ∀ (v1 : BitVec 32) (v13 : BitVec 32) (k0_hw1 : k0_chk1 v1 v13), ∀ (k0_h3 : k0_cond3 v13 = 1#1), 256 ∣ (k0_mult8 v1).toNat := fun v1 v13 k0_hw1 k0_h3 => k0_hw1.2.2.2.2.2.2.2.2.2.2.2.2.2.2.1 k0_h3
theorem k0_off12_inb : ∀ (v1 : BitVec 32) (v13 : BitVec 32) (k0_hw1 : k0_chk1 v1 v13), ∀ (k0_h3 : k0_cond3 v13 = 1#1), ∀ a, (k0_off12 v1) a + S256x256.size a ≤ S8192x512.size a := fun v1 v13 k0_hw1 k0_h3 => k0_hw1.2.2.2.2.2.2.2.2.2.2.2.2.2.2.2 k0_h3

def k0_off13 (i : grid0.Coords) : Fin 2 → Nat :=
  let c2_4 : Index := 2#32
  let arg1 : BitVec 32 := BitVec.ofNat 32 (i 1).val
  let v17 : Index := Scalar.indexCast arg1
  ![2, v17.toNat]
def k0_mult9 (v1 : BitVec 32) : BitVec 32 :=
  let c1024_i32 : BitVec 32 := 1024#32
  let v53 : BitVec 32 := Scalar.muli v1 c1024_i32
  let c0_i32_28 : BitVec 32 := 0#32
  let v54 : BitVec 32 := Scalar.addi v53 c0_i32_28
  v54
def k0_cond4 (v18 : BitVec 32) : BitVec 1 :=
  let c0_i32_5 : BitVec 32 := 0#32
  let v19 : BitVec 1 := Scalar.cmpi .eq v18 c0_i32_5
  let v20 : BitVec 32 := Scalar.extui v19
  let c0_i32_6 : BitVec 32 := 0#32
  let v21 : BitVec 1 := Scalar.cmpi .ne v20 c0_i32_6
  v21

def k0_off14 (v1 : BitVec 32) : Fin 2 → Nat :=
  let c1024_i32 : BitVec 32 := 1024#32
  let v53 : BitVec 32 := Scalar.muli v1 c1024_i32
  let c0_i32_28 : BitVec 32 := 0#32
  let v54 : BitVec 32 := Scalar.addi v53 c0_i32_28
  let v55 : BitVec 32 := v54
  let v56 : Index := Scalar.indexCast v55
  let c0_29 : Index := 0#32
  ![v56.toNat, 0]
def k0_mult10 (v1 : BitVec 32) : BitVec 32 :=
  let c1024_i32_51 : BitVec 32 := 1024#32
  let v89 : BitVec 32 := Scalar.muli v1 c1024_i32_51
  let c0_i32_52 : BitVec 32 := 0#32
  let v90 : BitVec 32 := Scalar.addi v89 c0_i32_52
  v90
def k0_mult11 (v1 : BitVec 32) : BitVec 32 :=
  let c1024_i32_75 : BitVec 32 := 1024#32
  let v125 : BitVec 32 := Scalar.muli v1 c1024_i32_75
  let c0_i32_76 : BitVec 32 := 0#32
  let v126 : BitVec 32 := Scalar.addi v125 c0_i32_76
  v126
def k0_mult12 (v1 : BitVec 32) : BitVec 32 :=
  let c1024_i32_99 : BitVec 32 := 1024#32
  let v161 : BitVec 32 := Scalar.muli v1 c1024_i32_99
  let c0_i32_100 : BitVec 32 := 0#32
  let v162 : BitVec 32 := Scalar.addi v161 c0_i32_100
  v162
def k0_mult13 (v1 : BitVec 32) : BitVec 32 :=
  let c1024_i32_124 : BitVec 32 := 1024#32
  let v197 : BitVec 32 := Scalar.muli v1 c1024_i32_124
  let c0_i32_125 : BitVec 32 := 0#32
  let v198 : BitVec 32 := Scalar.addi v197 c0_i32_125
  v198
def k0_off15 (v1 : BitVec 32) : Fin 2 → Nat :=
  let c1024_i32_124 : BitVec 32 := 1024#32
  let v197 : BitVec 32 := Scalar.muli v1 c1024_i32_124
  let c0_i32_125 : BitVec 32 := 0#32
  let v198 : BitVec 32 := Scalar.addi v197 c0_i32_125
  let v199 : BitVec 32 := v198
  let v200 : Index := Scalar.indexCast v199
  let c256_126 : Index := 256#32
  ![v200.toNat, 256]
def k0_mult14 (v1 : BitVec 32) : BitVec 32 :=
  let c1024_i32_149 : BitVec 32 := 1024#32
  let v233 : BitVec 32 := Scalar.muli v1 c1024_i32_149
  let c0_i32_150 : BitVec 32 := 0#32
  let v234 : BitVec 32 := Scalar.addi v233 c0_i32_150
  v234
def k0_mult15 (v1 : BitVec 32) : BitVec 32 :=
  let c1024_i32_174 : BitVec 32 := 1024#32
  let v269 : BitVec 32 := Scalar.muli v1 c1024_i32_174
  let c0_i32_175 : BitVec 32 := 0#32
  let v270 : BitVec 32 := Scalar.addi v269 c0_i32_175
  v270
def k0_mult16 (v1 : BitVec 32) : BitVec 32 :=
  let c1024_i32_199 : BitVec 32 := 1024#32
  let v305 : BitVec 32 := Scalar.muli v1 c1024_i32_199
  let c0_i32_200 : BitVec 32 := 0#32
  let v306 : BitVec 32 := Scalar.addi v305 c0_i32_200
  v306

def k0_chk2 (v1 : BitVec 32) (v18 : BitVec 32) : Prop :=
  (∀ (k0_h4 : k0_cond4 v18 = 1#1), 256 ∣ (k0_mult9 v1).toNat) ∧
  (∀ (k0_h4 : k0_cond4 v18 = 1#1), ∀ a, (k0_off14 v1) a + S1024x256.size a ≤ S8192x512.size a) ∧
  (∀ (k0_h4 : k0_cond4 v18 = 1#1), 256 ∣ (k0_mult10 v1).toNat) ∧
  (∀ (k0_h4 : k0_cond4 v18 = 1#1), 256 ∣ (k0_mult11 v1).toNat) ∧
  (∀ (k0_h4 : k0_cond4 v18 = 1#1), 256 ∣ (k0_mult12 v1).toNat) ∧
  (∀ (k0_h4 : k0_cond4 v18 = 1#1), 256 ∣ (k0_mult13 v1).toNat) ∧
  (∀ (k0_h4 : k0_cond4 v18 = 1#1), ∀ a, (k0_off15 v1) a + S1024x256.size a ≤ S8192x512.size a) ∧
  (∀ (k0_h4 : k0_cond4 v18 = 1#1), 256 ∣ (k0_mult14 v1).toNat) ∧
  (∀ (k0_h4 : k0_cond4 v18 = 1#1), 256 ∣ (k0_mult15 v1).toNat) ∧
  (∀ (k0_h4 : k0_cond4 v18 = 1#1), 256 ∣ (k0_mult16 v1).toNat)
theorem k0_mult9_dvd : ∀ (v1 : BitVec 32) (v18 : BitVec 32) (k0_hw2 : k0_chk2 v1 v18), ∀ (k0_h4 : k0_cond4 v18 = 1#1), 256 ∣ (k0_mult9 v1).toNat := fun v1 v18 k0_hw2 k0_h4 => k0_hw2.1 k0_h4
theorem k0_off14_inb : ∀ (v1 : BitVec 32) (v18 : BitVec 32) (k0_hw2 : k0_chk2 v1 v18), ∀ (k0_h4 : k0_cond4 v18 = 1#1), ∀ a, (k0_off14 v1) a + S1024x256.size a ≤ S8192x512.size a := fun v1 v18 k0_hw2 k0_h4 => k0_hw2.2.1 k0_h4
theorem k0_mult10_dvd : ∀ (v1 : BitVec 32) (v18 : BitVec 32) (k0_hw2 : k0_chk2 v1 v18), ∀ (k0_h4 : k0_cond4 v18 = 1#1), 256 ∣ (k0_mult10 v1).toNat := fun v1 v18 k0_hw2 k0_h4 => k0_hw2.2.2.1 k0_h4
theorem k0_mult11_dvd : ∀ (v1 : BitVec 32) (v18 : BitVec 32) (k0_hw2 : k0_chk2 v1 v18), ∀ (k0_h4 : k0_cond4 v18 = 1#1), 256 ∣ (k0_mult11 v1).toNat := fun v1 v18 k0_hw2 k0_h4 => k0_hw2.2.2.2.1 k0_h4
theorem k0_mult12_dvd : ∀ (v1 : BitVec 32) (v18 : BitVec 32) (k0_hw2 : k0_chk2 v1 v18), ∀ (k0_h4 : k0_cond4 v18 = 1#1), 256 ∣ (k0_mult12 v1).toNat := fun v1 v18 k0_hw2 k0_h4 => k0_hw2.2.2.2.2.1 k0_h4
theorem k0_mult13_dvd : ∀ (v1 : BitVec 32) (v18 : BitVec 32) (k0_hw2 : k0_chk2 v1 v18), ∀ (k0_h4 : k0_cond4 v18 = 1#1), 256 ∣ (k0_mult13 v1).toNat := fun v1 v18 k0_hw2 k0_h4 => k0_hw2.2.2.2.2.2.1 k0_h4
theorem k0_off15_inb : ∀ (v1 : BitVec 32) (v18 : BitVec 32) (k0_hw2 : k0_chk2 v1 v18), ∀ (k0_h4 : k0_cond4 v18 = 1#1), ∀ a, (k0_off15 v1) a + S1024x256.size a ≤ S8192x512.size a := fun v1 v18 k0_hw2 k0_h4 => k0_hw2.2.2.2.2.2.2.1 k0_h4
theorem k0_mult14_dvd : ∀ (v1 : BitVec 32) (v18 : BitVec 32) (k0_hw2 : k0_chk2 v1 v18), ∀ (k0_h4 : k0_cond4 v18 = 1#1), 256 ∣ (k0_mult14 v1).toNat := fun v1 v18 k0_hw2 k0_h4 => k0_hw2.2.2.2.2.2.2.2.1 k0_h4
theorem k0_mult15_dvd : ∀ (v1 : BitVec 32) (v18 : BitVec 32) (k0_hw2 : k0_chk2 v1 v18), ∀ (k0_h4 : k0_cond4 v18 = 1#1), 256 ∣ (k0_mult15 v1).toNat := fun v1 v18 k0_hw2 k0_h4 => k0_hw2.2.2.2.2.2.2.2.2.1 k0_h4
theorem k0_mult16_dvd : ∀ (v1 : BitVec 32) (v18 : BitVec 32) (k0_hw2 : k0_chk2 v1 v18), ∀ (k0_h4 : k0_cond4 v18 = 1#1), 256 ∣ (k0_mult16 v1).toNat := fun v1 v18 k0_hw2 k0_h4 => k0_hw2.2.2.2.2.2.2.2.2.2 k0_h4

def k0_off16 (i : grid0.Coords) : Fin 2 → Nat :=
  let c4 : Index := 4#32
  let arg1 : BitVec 32 := BitVec.ofNat 32 (i 1).val
  let v22 : Index := Scalar.indexCast arg1
  ![4, v22.toNat]
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond5 (v23 : BitVec 32) : BitVec 1 :=
  let c1_i32_7 : BitVec 32 := 1#32
  let v24 : BitVec 1 := Scalar.cmpi .eq v23 c1_i32_7
  let v25 : BitVec 32 := Scalar.extui v24
  let c0_i32_8 : BitVec 32 := 0#32
  let v26 : BitVec 1 := Scalar.cmpi .ne v25 c0_i32_8
  v26

def cc0_transform_0 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_1 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_2 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_3 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_6 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8192x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MlaBwdIdeal.lean ====
variable {F : FTy → Type} [FloatOps F] [Named F]
def κ : String → Option EReal := fun
  | "mask" => some ⊥
  | _ => none
-- ==== MlaRefIdeal.lean ====
abbrev S8192x8x192 : Shape := ⟨3, ![8192, 8, 192]⟩
abbrev S8192x8x128 : Shape := ⟨3, ![8192, 8, 128]⟩
abbrev S8192x64 : Shape := ⟨2, ![8192, 64]⟩
abbrev S8192x1x64 : Shape := ⟨3, ![8192, 1, 64]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x64 : Shape := ⟨3, ![8, 8192, 64]⟩
abbrev S8x8192x128 : Shape := ⟨3, ![8, 8192, 128]⟩

abbrev nBuf : Space → Nat
  | .hbm => 108
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x64, .f32⟩
  | .hbm, ⟨3, _⟩ => ⟨S8192x8x128, .f32⟩
  | .hbm, ⟨4, _⟩ => ⟨S8192x8x128, .f32⟩
  | .hbm, ⟨5, _⟩ => ⟨S8192x1x64, .f32⟩
  | .hbm, ⟨6, _⟩ => ⟨S8192x8x64, .f32⟩
  | .hbm, ⟨7, _⟩ => ⟨S8192x8x128, .f32⟩
  | .hbm, ⟨8, _⟩ => ⟨S8192x8x64, .f32⟩
  | .hbm, ⟨9, _⟩ => ⟨S8x8192x8192, .f32⟩
  | .hbm, ⟨10, _⟩ => ⟨S8x8192x8192, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .i1⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S8x8192, .i1⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x128x8192, .f32⟩
  | .hbm, ⟨67, _⟩ => ⟨S8192x8x128, .f32⟩
  | .hbm, ⟨68, _⟩ => ⟨S8x128x8192, .f32⟩
  | .hbm, ⟨69, _⟩ => ⟨S8x8192x8192, .f32⟩
  | .hbm, ⟨70, _⟩ => ⟨S8x128x8192, .f32⟩
  | .hbm, ⟨71, _⟩ => ⟨S8192x8x128, .f32⟩
  | .hbm, ⟨72, _⟩ => ⟨S8x8192x8192, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x1, .f32⟩
  | .hbm, ⟨78, _⟩ => ⟨S8x8192x1, .f32⟩
  | .hbm, ⟨79, _⟩ => ⟨S8x8192x8192, .f32⟩
  | .hbm, ⟨80, _⟩ => ⟨S8x8192x8192, .f32⟩
  | .hbm, ⟨81, _⟩ => ⟨S_, .f32⟩
  | .hbm, ⟨82, _⟩ => ⟨S8x8192, .f32⟩
  | .hbm, ⟨83, _⟩ => ⟨S8x8192x8192, .f32⟩
  | .hbm, ⟨84, _⟩ => ⟨S8x8192x8192, .f32⟩
  | .hbm, ⟨85, _⟩ => ⟨S8x8192x8192, .f32⟩
  | .hbm, ⟨86, _⟩ => ⟨S_, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192x8192, .f32⟩
  | .hbm, ⟨91, _⟩ => ⟨S8x8192x8192, .f32⟩
  | .hbm, ⟨92, _⟩ => ⟨S8x8192x64, .f32⟩
  | .hbm, ⟨93, _⟩ => ⟨S8192x8x64, .f32⟩
  | .hbm, ⟨94, _⟩ => ⟨S8x8192x64, .f32⟩
  | .hbm, ⟨95, _⟩ => ⟨S8192x8x64, .f32⟩
  | .hbm, ⟨96, _⟩ => ⟨S8x8192x128, .f32⟩
  | .hbm, ⟨97, _⟩ => ⟨S8192x8x128, .f32⟩
  | .hbm, ⟨98, _⟩ => ⟨S8x8192x128, .f32⟩
  | .hbm, ⟨99, _⟩ => ⟨S8192x8x128, .f32⟩
  | .hbm, ⟨100, _⟩ => ⟨S_, .f32⟩
  | .hbm, ⟨101, _⟩ => ⟨S8192x8x192, .f32⟩
  | .hbm, ⟨102, _⟩ => ⟨S_, .f32⟩
  | .hbm, ⟨103, _⟩ => ⟨S8192x8x192, .f32⟩
  | .hbm, ⟨104, _⟩ => ⟨S8192x8x192, .f32⟩
  | .hbm, ⟨105, _⟩ => ⟨S8192x8x192, .f32⟩
  | .hbm, ⟨106, _⟩ => ⟨S8192x8x192, .bf16⟩
  | .hbm, ⟨107, _⟩ => ⟨S8192x8x128, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== FoxBwd.lean ====
abbrev S8192x16x64 : Shape := ⟨3, ![8192, 16, 64]⟩
abbrev S8192x16 : Shape := ⟨2, ![8192, 16]⟩
abbrev S5x36 : Shape := ⟨2, ![5, 36]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x16x1 : Shape := ⟨3, ![8192, 16, 1]⟩
abbrev S16x64x8192 : Shape := ⟨3, ![16, 64, 8192]⟩
abbrev S8192x16x3 : Shape := ⟨3, ![8192, 16, 3]⟩
abbrev S8192x16x55 : Shape := ⟨3, ![8192, 16, 55]⟩
abbrev S8192x16x128 : Shape := ⟨3, ![8192, 16, 128]⟩
abbrev S8192x2048 : Shape := ⟨2, ![8192, 2048]⟩
abbrev S8192x16x60 : Shape := ⟨3, ![8192, 16, 60]⟩
abbrev S8192x16x61 : Shape := ⟨3, ![8192, 16, 61]⟩
abbrev S4x8192x4 : Shape := ⟨3, ![4, 8192, 4]⟩
abbrev S1024x512 : Shape := ⟨2, ![1024, 512]⟩
abbrev S1x1 : Shape := ⟨2, ![1, 1]⟩
abbrev S8192x512 : Shape := ⟨2, ![8192, 512]⟩
abbrev S1x8192x4 : Shape := ⟨3, ![1, 8192, 4]⟩
abbrev S1x1024x4 : Shape := ⟨3, ![1, 1024, 4]⟩
abbrev S1024x128 : Shape := ⟨2, ![1024, 128]⟩
abbrev S256x128 : Shape := ⟨2, ![256, 128]⟩
abbrev S256x1024 : Shape := ⟨2, ![256, 1024]⟩
abbrev S768x128 : Shape := ⟨2, ![768, 128]⟩
abbrev S256x768 : Shape := ⟨2, ![256, 768]⟩
abbrev S512x128 : Shape := ⟨2, ![512, 128]⟩
abbrev S256x512 : Shape := ⟨2, ![256, 512]⟩
abbrev S256x256 : Shape := ⟨2, ![256, 256]⟩
abbrev S1024x4 : Shape := ⟨2, ![1024, 4]⟩
abbrev S1024 : Shape := ⟨1, ![1024]⟩
abbrev S1024x1 : Shape := ⟨2, ![1024, 1]⟩
abbrev S8192x4 : Shape := ⟨2, ![8192, 4]⟩
abbrev S8192x128 : Shape := ⟨2, ![8192, 128]⟩
abbrev S8192x4x4 : Shape := ⟨3, ![8192, 4, 4]⟩

abbrev nBuf : Space → Nat
  | .hbm => 136
  | .vmem => 18
  | .smem => 1
  | _ => 0

abbrev hbmTy0_0 (i : Nat) : BufTy := match i % 128 with
  | 0 => ⟨S8192x16x64, .f32⟩
  | 1 => ⟨S8192x16x64, .f32⟩
  | 2 => ⟨S8192x16x64, .f32⟩
  | 3 => ⟨S8192x16, .f32⟩
  | 4 => ⟨S8192x16x64, .f32⟩
  | 5 => ⟨S16x8192, .f32⟩
  | 6 => ⟨S16x8192x8192, .f32⟩
  | 7 => ⟨S_, .f32⟩
  | 8 => ⟨S16x8192x8192, .f32⟩
  | 9 => ⟨S16x8192x8192, .f32⟩
  | 10 => ⟨S16x8192, .f32⟩
  | 11 => ⟨S16x8192x1, .f32⟩
  | 12 => ⟨S16x8192x8192, .f32⟩
  | 13 => ⟨S16x8192x8192, .f32⟩
  | 14 => ⟨S16x1x8192, .f32⟩
  | 15 => ⟨S16x8192x8192, .f32⟩
  | 16 => ⟨S16x8192x8192, .f32⟩
  | 17 => ⟨S8192, .i32⟩
  | 18 => ⟨S1x8192, .i32⟩
  | 19 => ⟨S8192x1, .i32⟩
  | 20 => ⟨S8192x8192, .i32⟩
  | 21 => ⟨S8192x8192, .i32⟩
  | 22 => ⟨S8192x8192, .i1⟩
  | 23 => ⟨S_, .f32⟩
  | 24 => ⟨S_, .f32⟩
  | 25 => ⟨S16x8192x8192, .i1⟩
  | 26 => ⟨S16x8192x8192, .f32⟩
  | 27 => ⟨S16x8192x8192, .f32⟩
  | 28 => ⟨S_, .f32⟩
  | 29 => ⟨S16x8192, .f32⟩
  | 30 => ⟨S16x8192x1, .f32⟩
  | 31 => ⟨S16x8192x8192, .f32⟩
  | 32 => ⟨S16x8192x8192, .f32⟩
  | 33 => ⟨S16x8192x8192, .f32⟩
  | 34 => ⟨S_, .f32⟩
  | 35 => ⟨S16x8192, .f32⟩
  | 36 => ⟨S16x8192x1, .f32⟩
  | 37 => ⟨S16x8192x1, .f32⟩
  | 38 => ⟨S16x8192x1, .f32⟩
  | 39 => ⟨S16x8192, .f32⟩
  | 40 => ⟨S8192x16, .f32⟩
  | 41 => ⟨S8192x16x1, .f32⟩
  | 42 => ⟨S16x8192x8192, .f32⟩
  | 43 => ⟨S16x8192x8192, .f32⟩
  | 44 => ⟨S16x64x8192, .f32⟩
  | 45 => ⟨S8192x16x64, .f32⟩
  | 46 => ⟨S8192x16x64, .bf16⟩
  | 47 => ⟨S8192x16x64, .f32⟩
  | 48 => ⟨S8192x16x64, .bf16⟩
  | 49 => ⟨S8192x16x64, .f32⟩
  | 50 => ⟨S8192x16x64, .f32⟩
  | 51 => ⟨S_, .f32⟩
  | 52 => ⟨S8192x16, .f32⟩
  | 53 => ⟨S8192x16x1, .f32⟩
  | 54 => ⟨S8192x16x1, .f32⟩
  | 55 => ⟨S8192x16x1, .bf16⟩
  | 56 => ⟨S8192x16x1, .f32⟩
  | 57 => ⟨S8192x16x1, .f32⟩
  | 58 => ⟨S8192x16x1, .bf16⟩
  | 59 => ⟨S8192x16x1, .f32⟩
  | 60 => ⟨S8192x16x1, .f32⟩
  | 61 => ⟨S8192x16x1, .bf16⟩
  | 62 => ⟨S8192x16x1, .f32⟩
  | 63 => ⟨S_, .f32⟩
  | 64 => ⟨S8192x16x64, .f32⟩
  | 65 => ⟨S8192x16x64, .f32⟩
  | 66 => ⟨S_, .f32⟩
  | 67 => ⟨S8192x16x3, .f32⟩
  | 68 => ⟨S8192x16x1, .bf16⟩
  | 69 => ⟨S8192x16x1, .f32⟩
  | 70 => ⟨S8192x16x1, .f32⟩
  | 71 => ⟨S8192x16x1, .bf16⟩
  | 72 => ⟨S8192x16x1, .f32⟩
  | 73 => ⟨S8192x16x1, .f32⟩
  | 74 => ⟨S8192x16x1, .bf16⟩
  | 75 => ⟨S8192x16x1, .f32⟩
  | 76 => ⟨S8192x16x1, .f32⟩
  | 77 => ⟨S8192x16x1, .f32⟩
  | 78 => ⟨S8192x16x1, .f32⟩
  | 79 => ⟨S_, .f32⟩
  | 80 => ⟨S8192x16x55, .f32⟩
  | 81 => ⟨S8192x16x128, .f32⟩
  | 82 => ⟨S8192x2048, .f32⟩
  | 83 => ⟨S8192x2048, .bf16⟩
  | 84 => ⟨S_, .f32⟩
  | 85 => ⟨S8192x16x3, .f32⟩
  | 86 => ⟨S8192x16x1, .f32⟩
  | 87 => ⟨S8192x16x1, .f32⟩
  | 88 => ⟨S8192x16x1, .f32⟩
  | 89 => ⟨S_, .f32⟩
  | 90 => ⟨S8192x16x3, .f32⟩
  | 91 => ⟨S_, .f32⟩
  | 92 => ⟨S8192x16x55, .f32⟩
  | 93 => ⟨S8192x16x128, .f32⟩
  | 94 => ⟨S8192x2048, .f32⟩
  | 95 => ⟨S8192x2048, .bf16⟩
  | 96 => ⟨S_, .f32⟩
  | 97 => ⟨S8192x16x3, .f32⟩
  | 98 => ⟨S_, .f32⟩
  | 99 => ⟨S8192x16x1, .f32⟩
  | 100 => ⟨S_, .f32⟩
  | 101 => ⟨S8192x16x60, .f32⟩
  | 102 => ⟨S8192x16x128, .f32⟩
  | 103 => ⟨S8192x2048, .f32⟩
  | 104 => ⟨S8192x2048, .bf16⟩
  | 105 => ⟨S8192x16x64, .f32⟩
  | 106 => ⟨S8192x16x1, .bf16⟩
  | 107 => ⟨S8192x16x1, .f32⟩
  | 108 => ⟨S8192x16x1, .f32⟩
  | 109 => ⟨S8192x16x1, .bf16⟩
  | 110 => ⟨S8192x16x1, .f32⟩
  | 111 => ⟨S8192x16x1, .f32⟩
  | 112 => ⟨S8192x16x1, .bf16⟩
  | 113 => ⟨S8192x16x1, .f32⟩
  | 114 => ⟨S_, .f32⟩
  | 115 => ⟨S8192x16x61, .f32⟩
  | 116 => ⟨S8192x16x128, .f32⟩
  | 117 => ⟨S8192x2048, .f32⟩
  | 118 => ⟨S8192x2048, .bf16⟩
  | 119 => ⟨S8192x2048, .bf16⟩
  | 120 => ⟨S8192x2048, .f32⟩
  | 121 => ⟨S8192x2048, .bf16⟩
  | 122 => ⟨S4x8192x4, .f32⟩
  | 123 => ⟨S4x8192x4, .f32⟩
  | 124 => ⟨S8192x16x128, .f32⟩
  | 125 => ⟨S8192x16x64, .f32⟩
  | 126 => ⟨S8192x16x128, .bf16⟩
  | 127 => ⟨S8192x16x64, .bf16⟩
  | _ => ⟨S8192x16x64, .f32⟩

abbrev hbmTy0_1 (i : Nat) : BufTy := match i % 128 with
  | 0 => ⟨S8192x16x128, .bf16⟩
  | 1 => ⟨S8192x16x64, .bf16⟩
  | 2 => ⟨S4x8192x4, .f32⟩
  | 3 => ⟨S8192x4x4, .f32⟩
  | 4 => ⟨S8192x16, .f32⟩
  | 5 => ⟨S_, .f32⟩
  | 6 => ⟨S8192x16x64, .f32⟩
  | 7 => ⟨S8192x16x64, .f32⟩
  | _ => ⟨S8192x16x64, .f32⟩

abbrev hbmTy (i : Nat) : BufTy := match i / 128 with
  | 0 => hbmTy0_0 i
  | 1 => hbmTy0_1 i
  | _ => ⟨S8192x16x64, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8192x512, .f32⟩
  | .local _ .vmem, ⟨11, _⟩ => ⟨S1024x512, .bf16⟩
  | .local _ .vmem, ⟨12, _⟩ => ⟨S1024x512, .bf16⟩
  | .local _ .vmem, ⟨13, _⟩ => ⟨S1x8192x4, .f32⟩
  | .local _ .vmem, ⟨14, _⟩ => ⟨S1x1024x4, .f32⟩
  | .local _ .vmem, ⟨15, _⟩ => ⟨S1x1024x4, .f32⟩
  | .local _ .vmem, ⟨16, _⟩ => ⟨S1024x512, .f32⟩
  | .local _ .vmem, ⟨17, _⟩ => ⟨S1024x512, .f32⟩
  | .local _ .smem, ⟨0, _⟩ => ⟨S5x36, .i32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_13 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96_0 : Ref sig .tc := ⟨.hbm, 119, rfl⟩
abbrev main_v96_1 : Ref sig .tc := ⟨.hbm, 120, rfl⟩
abbrev main_v96_2 : Ref sig .tc := ⟨.hbm, 121, rfl⟩
abbrev main_v96_3 : Ref sig .tc := ⟨.hbm, 122, rfl⟩
abbrev main_v96_4 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_14 : Ref sig .tc := ⟨.hbm, 133, rfl⟩
abbrev main_v106 : Ref sig .tc := ⟨.hbm, 134, rfl⟩
abbrev main_v107 : Ref sig .tc := ⟨.hbm, 135, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 36], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c3 : Index := 3#32
  let arg1 : BitVec 32 := BitVec.ofNat 32 (i 1).val
  let v7 : Index := Scalar.indexCast arg1
  ![3, v7.toNat]
def k0_off4 (i : grid0.Coords) : Fin 2 → Nat :=
  let c2 : Index := 2#32
  let arg1 : BitVec 32 := BitVec.ofNat 32 (i 1).val
  let v12 : Index := Scalar.indexCast arg1
  ![2, v12.toNat]
def k0_mult1 (v1 : BitVec 32) : BitVec 32 :=
  let c1024_i32_33 : BitVec 32 := 1024#32
  let v69 : BitVec 32 := Scalar.muli v1 c1024_i32_33
  let c0_i32_34 : BitVec 32 := 0#32
  let v70 : BitVec 32 := Scalar.addi v69 c0_i32_34
  v70
def k0_cond3 (v13 : BitVec 32) : BitVec 1 :=
  let c1_i32_2 : BitVec 32 := 1#32
  let v14 : BitVec 1 := Scalar.cmpi .eq v13 c1_i32_2
  let v15 : BitVec 32 := Scalar.extui v14
  let c0_i32_3 : BitVec 32 := 0#32
  let v16 : BitVec 1 := Scalar.cmpi .ne v15 c0_i32_3
  v16

def k0_off5 (v1 : BitVec 32) : Fin 2 → Nat :=
  let c1024_i32_33 : BitVec 32 := 1024#32
  let v69 : BitVec 32 := Scalar.muli v1 c1024_i32_33
  let c0_i32_34 : BitVec 32 := 0#32
  let v70 : BitVec 32 := Scalar.addi v69 c0_i32_34
  let v71 : BitVec 32 := v70
  let v72 : Index := Scalar.indexCast v71
  let c0_35 : Index := 0#32
  ![v72.toNat, 0]
def k0_mult2 (v1 : BitVec 32) : BitVec 32 :=
  let c1024_i32_61 : BitVec 32 := 1024#32
  let v118 : BitVec 32 := Scalar.muli v1 c1024_i32_61
  let c256_i32_62 : BitVec 32 := 256#32
  let v119 : BitVec 32 := Scalar.addi v118 c256_i32_62
  v119
def k0_off6 (v1 : BitVec 32) : Fin 2 → Nat :=
  let c1024_i32_61 : BitVec 32 := 1024#32
  let v118 : BitVec 32 := Scalar.muli v1 c1024_i32_61
  let c256_i32_62 : BitVec 32 := 256#32
  let v119 : BitVec 32 := Scalar.addi v118 c256_i32_62
  let v120 : BitVec 32 := v119
  let v121 : Index := Scalar.indexCast v120
  let c0_63 : Index := 0#32
  ![v121.toNat, 0]
def k0_mult3 (v1 : BitVec 32) : BitVec 32 :=
  let c1024_i32_89 : BitVec 32 := 1024#32
  let v167 : BitVec 32 := Scalar.muli v1 c1024_i32_89
  let c512_i32_90 : BitVec 32 := 512#32
  let v168 : BitVec 32 := Scalar.addi v167 c512_i32_90
  v168
def k0_off7 (v1 : BitVec 32) : Fin 2 → Nat :=
  let c1024_i32_89 : BitVec 32 := 1024#32
  let v167 : BitVec 32 := Scalar.muli v1 c1024_i32_89
  let c512_i32_90 : BitVec 32 := 512#32
  let v168 : BitVec 32 := Scalar.addi v167 c512_i32_90
  let v169 : BitVec 32 := v168
  let v170 : Index := Scalar.indexCast v169
  let c0_91 : Index := 0#32
  ![v170.toNat, 0]
def k0_mult4 (v1 : BitVec 32) : BitVec 32 :=
  let c1024_i32_117 : BitVec 32 := 1024#32
  let v216 : BitVec 32 := Scalar.muli v1 c1024_i32_117
  let c768_i32_118 : BitVec 32 := 768#32
  let v217 : BitVec 32 := Scalar.addi v216 c768_i32_118
  v217
def k0_off8 (v1 : BitVec 32) : Fin 2 → Nat :=
  let c1024_i32_117 : BitVec 32 := 1024#32
  let v216 : BitVec 32 := Scalar.muli v1 c1024_i32_117
  let c768_i32_118 : BitVec 32 := 768#32
  let v217 : BitVec 32 := Scalar.addi v216 c768_i32_118
  let v218 : BitVec 32 := v217
  let v219 : Index := Scalar.indexCast v218
  let c0_119 : Index := 0#32
  ![v219.toNat, 0]
def k0_mult5 (v1 : BitVec 32) : BitVec 32 :=
  let c1024_i32_146 : BitVec 32 := 1024#32
  let v265 : BitVec 32 := Scalar.muli v1 c1024_i32_146
  let c0_i32_147 : BitVec 32 := 0#32
  let v266 : BitVec 32 := Scalar.addi v265 c0_i32_147
  v266
def k0_off9 (v1 : BitVec 32) : Fin 2 → Nat :=
  let c1024_i32_146 : BitVec 32 := 1024#32
  let v265 : BitVec 32 := Scalar.muli v1 c1024_i32_146
  let c0_i32_147 : BitVec 32 := 0#32
  let v266 : BitVec 32 := Scalar.addi v265 c0_i32_147
  let v267 : BitVec 32 := v266
  let v268 : Index := Scalar.indexCast v267
  let c128_148 : Index := 128#32
  ![v268.toNat, 128]
def k0_mult6 (v1 : BitVec 32) : BitVec 32 :=
  let c1024_i32_176 : BitVec 32 := 1024#32
  let v314 : BitVec 32 := Scalar.muli v1 c1024_i32_176
  let c256_i32_177 : BitVec 32 := 256#32
  let v315 : BitVec 32 := Scalar.addi v314 c256_i32_177
  v315
def k0_off10 (v1 : BitVec 32) : Fin 2 → Nat :=
  let c1024_i32_176 : BitVec 32 := 1024#32
  let v314 : BitVec 32 := Scalar.muli v1 c1024_i32_176
  let c256_i32_177 : BitVec 32 := 256#32
  let v315 : BitVec 32 := Scalar.addi v314 c256_i32_177
  let v316 : BitVec 32 := v315
  let v317 : Index := Scalar.indexCast v316
  let c128_178 : Index := 128#32
  ![v317.toNat, 128]
def k0_mult7 (v1 : BitVec 32) : BitVec 32 :=
  let c1024_i32_206 : BitVec 32 := 1024#32
  let v363 : BitVec 32 := Scalar.muli v1 c1024_i32_206
  let c512_i32_207 : BitVec 32 := 512#32
  let v364 : BitVec 32 := Scalar.addi v363 c512_i32_207
  v364
def k0_off11 (v1 : BitVec 32) : Fin 2 → Nat :=
  let c1024_i32_206 : BitVec 32 := 1024#32
  let v363 : BitVec 32 := Scalar.muli v1 c1024_i32_206
  let c512_i32_207 : BitVec 32 := 512#32
  let v364 : BitVec 32 := Scalar.addi v363 c512_i32_207
  let v365 : BitVec 32 := v364
  let v366 : Index := Scalar.indexCast v365
  let c128_208 : Index := 128#32
  ![v366.toNat, 128]
def k0_mult8 (v1 : BitVec 32) : BitVec 32 :=
  let c1024_i32_236 : BitVec 32 := 1024#32
  let v412 : BitVec 32 := Scalar.muli v1 c1024_i32_236
  let c768_i32_237 : BitVec 32 := 768#32
  let v413 : BitVec 32 := Scalar.addi v412 c768_i32_237
  v413
def k0_off12 (v1 : BitVec 32) : Fin 2 → Nat :=
  let c1024_i32_236 : BitVec 32 := 1024#32
  let v412 : BitVec 32 := Scalar.muli v1 c1024_i32_236
  let c768_i32_237 : BitVec 32 := 768#32
  let v413 : BitVec 32 := Scalar.addi v412 c768_i32_237
  let v414 : BitVec 32 := v413
  let v415 : Index := Scalar.indexCast v414
  let c128_238 : Index := 128#32
  ![v415.toNat, 128]
def k0_mult9 (v1 : BitVec 32) : BitVec 32 :=
  let c1024_i32_266 : BitVec 32 := 1024#32
  let v461 : BitVec 32 := Scalar.muli v1 c1024_i32_266
  let c0_i32_267 : BitVec 32 := 0#32
  let v462 : BitVec 32 := Scalar.addi v461 c0_i32_267
  v462
def k0_off13 (v1 : BitVec 32) : Fin 2 → Nat :=
  let c1024_i32_266 : BitVec 32 := 1024#32
  let v461 : BitVec 32 := Scalar.muli v1 c1024_i32_266
  let c0_i32_267 : BitVec 32 := 0#32
  let v462 : BitVec 32 := Scalar.addi v461 c0_i32_267
  let v463 : BitVec 32 := v462
  let v464 : Index := Scalar.indexCast v463
  let c256_268 : Index := 256#32
  ![v464.toNat, 256]
def k0_mult10 (v1 : BitVec 32) : BitVec 32 :=
  let c1024_i32_296 : BitVec 32 := 1024#32
  let v510 : BitVec 32 := Scalar.muli v1 c1024_i32_296
  let c256_i32_297 : BitVec 32 := 256#32
  let v511 : BitVec 32 := Scalar.addi v510 c256_i32_297
  v511
def k0_off14 (v1 : BitVec 32) : Fin 2 → Nat :=
  let c1024_i32_296 : BitVec 32 := 1024#32
  let v510 : BitVec 32 := Scalar.muli v1 c1024_i32_296
  let c256_i32_297 : BitVec 32 := 256#32
  let v511 : BitVec 32 := Scalar.addi v510 c256_i32_297
  let v512 : BitVec 32 := v511
  let v513 : Index := Scalar.indexCast v512
  let c256_298 : Index := 256#32
  ![v513.toNat, 256]
def k0_mult11 (v1 : BitVec 32) : BitVec 32 :=
  let c1024_i32_326 : BitVec 32 := 1024#32
  let v559 : BitVec 32 := Scalar.muli v1 c1024_i32_326
  let c512_i32_327 : BitVec 32 := 512#32
  let v560 : BitVec 32 := Scalar.addi v559 c512_i32_327
  v560
def k0_off15 (v1 : BitVec 32) : Fin 2 → Nat :=
  let c1024_i32_326 : BitVec 32 := 1024#32
  let v559 : BitVec 32 := Scalar.muli v1 c1024_i32_326
  let c512_i32_327 : BitVec 32 := 512#32
  let v560 : BitVec 32 := Scalar.addi v559 c512_i32_327
  let v561 : BitVec 32 := v560
  let v562 : Index := Scalar.indexCast v561
  let c256_328 : Index := 256#32
  ![v562.toNat, 256]
def k0_mult12 (v1 : BitVec 32) : BitVec 32 :=
  let c1024_i32_356 : BitVec 32 := 1024#32
  let v608 : BitVec 32 := Scalar.muli v1 c1024_i32_356
  let c768_i32_357 : BitVec 32 := 768#32
  let v609 : BitVec 32 := Scalar.addi v608 c768_i32_357
  v609
def k0_off16 (v1 : BitVec 32) : Fin 2 → Nat :=
  let c1024_i32_356 : BitVec 32 := 1024#32
  let v608 : BitVec 32 := Scalar.muli v1 c1024_i32_356
  let c768_i32_357 : BitVec 32 := 768#32
  let v609 : BitVec 32 := Scalar.addi v608 c768_i32_357
  let v610 : BitVec 32 := v609
  let v611 : Index := Scalar.indexCast v610
  let c256_358 : Index := 256#32
  ![v611.toNat, 256]
def k0_mult13 (v1 : BitVec 32) : BitVec 32 :=
  let c1024_i32_385 : BitVec 32 := 1024#32
  let v657 : BitVec 32 := Scalar.muli v1 c1024_i32_385
  let c0_i32_386 : BitVec 32 := 0#32
  let v658 : BitVec 32 := Scalar.addi v657 c0_i32_386
  v658
def k0_off17 (v1 : BitVec 32) : Fin 2 → Nat :=
  let c1024_i32_385 : BitVec 32 := 1024#32
  let v657 : BitVec 32 := Scalar.muli v1 c1024_i32_385
  let c0_i32_386 : BitVec 32 := 0#32
  let v658 : BitVec 32 := Scalar.addi v657 c0_i32_386
  let v659 : BitVec 32 := v658
  let v660 : Index := Scalar.indexCast v659
  let c384_387 : Index := 384#32
  ![v660.toNat, 384]
def k0_mult14 (v1 : BitVec 32) : BitVec 32 :=
  let c1024_i32_415 : BitVec 32 := 1024#32
  let v706 : BitVec 32 := Scalar.muli v1 c1024_i32_415
  let c256_i32_416 : BitVec 32 := 256#32
  let v707 : BitVec 32 := Scalar.addi v706 c256_i32_416
  v707
def k0_off18 (v1 : BitVec 32) : Fin 2 → Nat :=
  let c1024_i32_415 : BitVec 32 := 1024#32
  let v706 : BitVec 32 := Scalar.muli v1 c1024_i32_415
  let c256_i32_416 : BitVec 32 := 256#32
  let v707 : BitVec 32 := Scalar.addi v706 c256_i32_416
  let v708 : BitVec 32 := v707
  let v709 : Index := Scalar.indexCast v708
  let c384_417 : Index := 384#32
  ![v709.toNat, 384]
def k0_mult15 (v1 : BitVec 32) : BitVec 32 :=
  let c1024_i32_445 : BitVec 32 := 1024#32
  let v755 : BitVec 32 := Scalar.muli v1 c1024_i32_445
  let c512_i32_446 : BitVec 32 := 512#32
  let v756 : BitVec 32 := Scalar.addi v755 c512_i32_446
  v756
def k0_off19 (v1 : BitVec 32) : Fin 2 → Nat :=
  let c1024_i32_445 : BitVec 32 := 1024#32
  let v755 : BitVec 32 := Scalar.muli v1 c1024_i32_445
  let c512_i32_446 : BitVec 32 := 512#32
  let v756 : BitVec 32 := Scalar.addi v755 c512_i32_446
  let v757 : BitVec 32 := v756
  let v758 : Index := Scalar.indexCast v757
  let c384_447 : Index := 384#32
  ![v758.toNat, 384]
def k0_mult16 (v1 : BitVec 32) : BitVec 32 :=
  let c1024_i32_475 : BitVec 32 := 1024#32
  let v804 : BitVec 32 := Scalar.muli v1 c1024_i32_475
  let c768_i32_476 : BitVec 32 := 768#32
  let v805 : BitVec 32 := Scalar.addi v804 c768_i32_476
  v805
def k0_off20 (v1 : BitVec 32) : Fin 2 → Nat :=
  let c1024_i32_475 : BitVec 32 := 1024#32
  let v804 : BitVec 32 := Scalar.muli v1 c1024_i32_475
  let c768_i32_476 : BitVec 32 := 768#32
  let v805 : BitVec 32 := Scalar.addi v804 c768_i32_476
  let v806 : BitVec 32 := v805
  let v807 : Index := Scalar.indexCast v806
  let c384_477 : Index := 384#32
  ![v807.toNat, 384]

def k0_chk1 (v1 : BitVec 32) (v13 : BitVec 32) : Prop :=
  (∀ (k0_h3 : k0_cond3 v13 = 1#1), 256 ∣ (k0_mult1 v1).toNat) ∧
  (∀ (k0_h3 : k0_cond3 v13 = 1#1), ∀ a, (k0_off5 v1) a + S1024x128.size a ≤ S8192x512.size a) ∧
  (∀ (k0_h3 : k0_cond3 v13 = 1#1), 256 ∣ (k0_mult2 v1).toNat) ∧
  (∀ (k0_h3 : k0_cond3 v13 = 1#1), ∀ a, (k0_off6 v1) a + S768x128.size a ≤ S8192x512.size a) ∧
  (∀ (k0_h3 : k0_cond3 v13 = 1#1), 256 ∣ (k0_mult3 v1).toNat) ∧
  (∀ (k0_h3 : k0_cond3 v13 = 1#1), ∀ a, (k0_off7 v1) a + S512x128.size a ≤ S8192x512.size a) ∧
  (∀ (k0_h3 : k0_cond3 v13 = 1#1), 256 ∣ (k0_mult4 v1).toNat) ∧
  (∀ (k0_h3 : k0_cond3 v13 = 1#1), ∀ a, (k0_off8 v1) a + S256x128.size a ≤ S8192x512.size a) ∧
  (∀ (k0_h3 : k0_cond3 v13 = 1#1), 256 ∣ (k0_mult5 v1).toNat) ∧
  (∀ (k0_h3 : k0_cond3 v13 = 1#1), ∀ a, (k0_off9 v1) a + S1024x128.size a ≤ S8192x512.size a) ∧
  (∀ (k0_h3 : k0_cond3 v13 = 1#1), 256 ∣ (k0_mult6 v1).toNat) ∧
  (∀ (k0_h3 : k0_cond3 v13 = 1#1), ∀ a, (k0_off10 v1) a + S768x128.size a ≤ S8192x512.size a) ∧
  (∀ (k0_h3 : k0_cond3 v13 = 1#1), 256 ∣ (k0_mult7 v1).toNat) ∧
  (∀ (k0_h3 : k0_cond3 v13 = 1#1), ∀ a, (k0_off11 v1) a + S512x128.size a ≤ S8192x512.size a) ∧
  (∀ (k0_h3 : k0_cond3 v13 = 1#1), 256 ∣ (k0_mult8 v1).toNat) ∧
  (∀ (k0_h3 : k0_cond3 v13 = 1#1), ∀ a, (k0_off12 v1) a + S256x128.size a ≤ S8192x512.size a) ∧
  (∀ (k0_h3 : k0_cond3 v13 = 1#1), 256 ∣ (k0_mult9 v1).toNat) ∧
  (∀ (k0_h3 : k0_cond3 v13 = 1#1), ∀ a, (k0_off13 v1) a + S1024x128.size a ≤ S8192x512.size a) ∧
  (∀ (k0_h3 : k0_cond3 v13 = 1#1), 256 ∣ (k0_mult10 v1).toNat) ∧
  (∀ (k0_h3 : k0_cond3 v13 = 1#1), ∀ a, (k0_off14 v1) a + S768x128.size a ≤ S8192x512.size a) ∧
  (∀ (k0_h3 : k0_cond3 v13 = 1#1), 256 ∣ (k0_mult11 v1).toNat) ∧
  (∀ (k0_h3 : k0_cond3 v13 = 1#1), ∀ a, (k0_off15 v1) a + S512x128.size a ≤ S8192x512.size a) ∧
  (∀ (k0_h3 : k0_cond3 v13 = 1#1), 256 ∣ (k0_mult12 v1).toNat) ∧
  (∀ (k0_h3 : k0_cond3 v13 = 1#1), ∀ a, (k0_off16 v1) a + S256x128.size a ≤ S8192x512.size a) ∧
  (∀ (k0_h3 : k0_cond3 v13 = 1#1), 256 ∣ (k0_mult13 v1).toNat) ∧
  (∀ (k0_h3 : k0_cond3 v13 = 1#1), ∀ a, (k0_off17 v1) a + S1024x128.size a ≤ S8192x512.size a) ∧
  (∀ (k0_h3 : k0_cond3 v13 = 1#1), 256 ∣ (k0_mult14 v1).toNat) ∧
  (∀ (k0_h3 : k0_cond3 v13 = 1#1), ∀ a, (k0_off18 v1) a + S768x128.size a ≤ S8192x512.size a) ∧
  (∀ (k0_h3 : k0_cond3 v13 = 1#1), 256 ∣ (k0_mult15 v1).toNat) ∧
  (∀ (k0_h3 : k0_cond3 v13 = 1#1), ∀ a, (k0_off19 v1) a + S512x128.size a ≤ S8192x512.size a) ∧
  (∀ (k0_h3 : k0_cond3 v13 = 1#1), 256 ∣ (k0_mult16 v1).toNat) ∧
  (∀ (k0_h3 : k0_cond3 v13 = 1#1), ∀ a, (k0_off20 v1) a + S256x128.size a ≤ S8192x512.size a)
theorem k0_mult1_dvd : ∀ (v1 : BitVec 32) (v13 : BitVec 32) (k0_hw1 : k0_chk1 v1 v13), ∀ (k0_h3 : k0_cond3 v13 = 1#1), 256 ∣ (k0_mult1 v1).toNat := fun v1 v13 k0_hw1 k0_h3 => k0_hw1.1 k0_h3
theorem k0_off5_inb : ∀ (v1 : BitVec 32) (v13 : BitVec 32) (k0_hw1 : k0_chk1 v1 v13), ∀ (k0_h3 : k0_cond3 v13 = 1#1), ∀ a, (k0_off5 v1) a + S1024x128.size a ≤ S8192x512.size a := fun v1 v13 k0_hw1 k0_h3 => k0_hw1.2.1 k0_h3
theorem k0_mult2_dvd : ∀ (v1 : BitVec 32) (v13 : BitVec 32) (k0_hw1 : k0_chk1 v1 v13), ∀ (k0_h3 : k0_cond3 v13 = 1#1), 256 ∣ (k0_mult2 v1).toNat := fun v1 v13 k0_hw1 k0_h3 => k0_hw1.2.2.1 k0_h3
theorem k0_off6_inb : ∀ (v1 : BitVec 32) (v13 : BitVec 32) (k0_hw1 : k0_chk1 v1 v13), ∀ (k0_h3 : k0_cond3 v13 = 1#1), ∀ a, (k0_off6 v1) a + S768x128.size a ≤ S8192x512.size a := fun v1 v13 k0_hw1 k0_h3 => k0_hw1.2.2.2.1 k0_h3
theorem k0_mult3_dvd : ∀ (v1 : BitVec 32) (v13 : BitVec 32) (k0_hw1 : k0_chk1 v1 v13), ∀ (k0_h3 : k0_cond3 v13 = 1#1), 256 ∣ (k0_mult3 v1).toNat := fun v1 v13 k0_hw1 k0_h3 => k0_hw1.2.2.2.2.1 k0_h3
theorem k0_off7_inb : ∀ (v1 : BitVec 32) (v13 : BitVec 32) (k0_hw1 : k0_chk1 v1 v13), ∀ (k0_h3 : k0_cond3 v13 = 1#1), ∀ a, (k0_off7 v1) a + S512x128.size a ≤ S8192x512.size a := fun v1 v13 k0_hw1 k0_h3 => k0_hw1.2.2.2.2.2.1 k0_h3
theorem k0_mult4_dvd : ∀ (v1 : BitVec 32) (v13 : BitVec 32) (k0_hw1 : k0_chk1 v1 v13), ∀ (k0_h3 : k0_cond3 v13 = 1#1), 256 ∣ (k0_mult4 v1).toNat := fun v1 v13 k0_hw1 k0_h3 => k0_hw1.2.2.2.2.2.2.1 k0_h3
theorem k0_off8_inb : ∀ (v1 : BitVec 32) (v13 : BitVec 32) (k0_hw1 : k0_chk1 v1 v13), ∀ (k0_h3 : k0_cond3 v13 = 1#1), ∀ a, (k0_off8 v1) a + S256x128.size a ≤ S8192x512.size a := fun v1 v13 k0_hw1 k0_h3 => k0_hw1.2.2.2.2.2.2.2.1 k0_h3
theorem k0_mult5_dvd : ∀ (v1 : BitVec 32) (v13 : BitVec 32) (k0_hw1 : k0_chk1 v1 v13), ∀ (k0_h3 : k0_cond3 v13 = 1#1), 256 ∣ (k0_mult5 v1).toNat := fun v1 v13 k0_hw1 k0_h3 => k0_hw1.2.2.2.2.2.2.2.2.1 k0_h3
theorem k0_off9_inb : ∀ (v1 : BitVec 32) (v13 : BitVec 32) (k0_hw1 : k0_chk1 v1 v13), ∀ (k0_h3 : k0_cond3 v13 = 1#1), ∀ a, (k0_off9 v1) a + S1024x128.size a ≤ S8192x512.size a := fun v1 v13 k0_hw1 k0_h3 => k0_hw1.2.2.2.2.2.2.2.2.2.1 k0_h3
theorem k0_mult6_dvd : ∀ (v1 : BitVec 32) (v13 : BitVec 32) (k0_hw1 : k0_chk1 v1 v13), ∀ (k0_h3 : k0_cond3 v13 = 1#1), 256 ∣ (k0_mult6 v1).toNat := fun v1 v13 k0_hw1 k0_h3 => k0_hw1.2.2.2.2.2.2.2.2.2.2.1 k0_h3
theorem k0_off10_inb : ∀ (v1 : BitVec 32) (v13 : BitVec 32) (k0_hw1 : k0_chk1 v1 v13), ∀ (k0_h3 : k0_cond3 v13 = 1#1), ∀ a, (k0_off10 v1) a + S768x128.size a ≤ S8192x512.size a := fun v1 v13 k0_hw1 k0_h3 => k0_hw1.2.2.2.2.2.2.2.2.2.2.2.1 k0_h3
theorem k0_mult7_dvd : ∀ (v1 : BitVec 32) (v13 : BitVec 32) (k0_hw1 : k0_chk1 v1 v13), ∀ (k0_h3 : k0_cond3 v13 = 1#1), 256 ∣ (k0_mult7 v1).toNat := fun v1 v13 k0_hw1 k0_h3 => k0_hw1.2.2.2.2.2.2.2.2.2.2.2.2.1 k0_h3
theorem k0_off11_inb : ∀ (v1 : BitVec 32) (v13 : BitVec 32) (k0_hw1 : k0_chk1 v1 v13), ∀ (k0_h3 : k0_cond3 v13 = 1#1), ∀ a, (k0_off11 v1) a + S512x128.size a ≤ S8192x512.size a := fun v1 v13 k0_hw1 k0_h3 => k0_hw1.2.2.2.2.2.2.2.2.2.2.2.2.2.1 k0_h3
theorem k0_mult8_dvd : ∀ (v1 : BitVec 32) (v13 : BitVec 32) (k0_hw1 : k0_chk1 v1 v13), ∀ (k0_h3 : k0_cond3 v13 = 1#1), 256 ∣ (k0_mult8 v1).toNat := fun v1 v13 k0_hw1 k0_h3 => k0_hw1.2.2.2.2.2.2.2.2.2.2.2.2.2.2.1 k0_h3
theorem k0_off12_inb : ∀ (v1 : BitVec 32) (v13 : BitVec 32) (k0_hw1 : k0_chk1 v1 v13), ∀ (k0_h3 : k0_cond3 v13 = 1#1), ∀ a, (k0_off12 v1) a + S256x128.size a ≤ S8192x512.size a := fun v1 v13 k0_hw1 k0_h3 => k0_hw1.2.2.2.2.2.2.2.2.2.2.2.2.2.2.2.1 k0_h3
theorem k0_mult9_dvd : ∀ (v1 : BitVec 32) (v13 : BitVec 32) (k0_hw1 : k0_chk1 v1 v13), ∀ (k0_h3 : k0_cond3 v13 = 1#1), 256 ∣ (k0_mult9 v1).toNat := fun v1 v13 k0_hw1 k0_h3 => k0_hw1.2.2.2.2.2.2.2.2.2.2.2.2.2.2.2.2.1 k0_h3
theorem k0_off13_inb : ∀ (v1 : BitVec 32) (v13 : BitVec 32) (k0_hw1 : k0_chk1 v1 v13), ∀ (k0_h3 : k0_cond3 v13 = 1#1), ∀ a, (k0_off13 v1) a + S1024x128.size a ≤ S8192x512.size a := fun v1 v13 k0_hw1 k0_h3 => k0_hw1.2.2.2.2.2.2.2.2.2.2.2.2.2.2.2.2.2.1 k0_h3
theorem k0_mult10_dvd : ∀ (v1 : BitVec 32) (v13 : BitVec 32) (k0_hw1 : k0_chk1 v1 v13), ∀ (k0_h3 : k0_cond3 v13 = 1#1), 256 ∣ (k0_mult10 v1).toNat := fun v1 v13 k0_hw1 k0_h3 => k0_hw1.2.2.2.2.2.2.2.2.2.2.2.2.2.2.2.2.2.2.1 k0_h3
theorem k0_off14_inb : ∀ (v1 : BitVec 32) (v13 : BitVec 32) (k0_hw1 : k0_chk1 v1 v13), ∀ (k0_h3 : k0_cond3 v13 = 1#1), ∀ a, (k0_off14 v1) a + S768x128.size a ≤ S8192x512.size a := fun v1 v13 k0_hw1 k0_h3 => k0_hw1.2.2.2.2.2.2.2.2.2.2.2.2.2.2.2.2.2.2.2.1 k0_h3
theorem k0_mult11_dvd : ∀ (v1 : BitVec 32) (v13 : BitVec 32) (k0_hw1 : k0_chk1 v1 v13), ∀ (k0_h3 : k0_cond3 v13 = 1#1), 256 ∣ (k0_mult11 v1).toNat := fun v1 v13 k0_hw1 k0_h3 => k0_hw1.2.2.2.2.2.2.2.2.2.2.2.2.2.2.2.2.2.2.2.2.1 k0_h3
theorem k0_off15_inb : ∀ (v1 : BitVec 32) (v13 : BitVec 32) (k0_hw1 : k0_chk1 v1 v13), ∀ (k0_h3 : k0_cond3 v13 = 1#1), ∀ a, (k0_off15 v1) a + S512x128.size a ≤ S8192x512.size a := fun v1 v13 k0_hw1 k0_h3 => k0_hw1.2.2.2.2.2.2.2.2.2.2.2.2.2.2.2.2.2.2.2.2.2.1 k0_h3
theorem k0_mult12_dvd : ∀ (v1 : BitVec 32) (v13 : BitVec 32) (k0_hw1 : k0_chk1 v1 v13), ∀ (k0_h3 : k0_cond3 v13 = 1#1), 256 ∣ (k0_mult12 v1).toNat := fun v1 v13 k0_hw1 k0_h3 => k0_hw1.2.2.2.2.2.2.2.2.2.2.2.2.2.2.2.2.2.2.2.2.2.2.1 k0_h3
theorem k0_off16_inb : ∀ (v1 : BitVec 32) (v13 : BitVec 32) (k0_hw1 : k0_chk1 v1 v13), ∀ (k0_h3 : k0_cond3 v13 = 1#1), ∀ a, (k0_off16 v1) a + S256x128.size a ≤ S8192x512.size a := fun v1 v13 k0_hw1 k0_h3 => k0_hw1.2.2.2.2.2.2.2.2.2.2.2.2.2.2.2.2.2.2.2.2.2.2.2.1 k0_h3
theorem k0_mult13_dvd : ∀ (v1 : BitVec 32) (v13 : BitVec 32) (k0_hw1 : k0_chk1 v1 v13), ∀ (k0_h3 : k0_cond3 v13 = 1#1), 256 ∣ (k0_mult13 v1).toNat := fun v1 v13 k0_hw1 k0_h3 => k0_hw1.2.2.2.2.2.2.2.2.2.2.2.2.2.2.2.2.2.2.2.2.2.2.2.2.1 k0_h3
theorem k0_off17_inb : ∀ (v1 : BitVec 32) (v13 : BitVec 32) (k0_hw1 : k0_chk1 v1 v13), ∀ (k0_h3 : k0_cond3 v13 = 1#1), ∀ a, (k0_off17 v1) a + S1024x128.size a ≤ S8192x512.size a := fun v1 v13 k0_hw1 k0_h3 => k0_hw1.2.2.2.2.2.2.2.2.2.2.2.2.2.2.2.2.2.2.2.2.2.2.2.2.2.1 k0_h3
theorem k0_mult14_dvd : ∀ (v1 : BitVec 32) (v13 : BitVec 32) (k0_hw1 : k0_chk1 v1 v13), ∀ (k0_h3 : k0_cond3 v13 = 1#1), 256 ∣ (k0_mult14 v1).toNat := fun v1 v13 k0_hw1 k0_h3 => k0_hw1.2.2.2.2.2.2.2.2.2.2.2.2.2.2.2.2.2.2.2.2.2.2.2.2.2.2.1 k0_h3
theorem k0_off18_inb : ∀ (v1 : BitVec 32) (v13 : BitVec 32) (k0_hw1 : k0_chk1 v1 v13), ∀ (k0_h3 : k0_cond3 v13 = 1#1), ∀ a, (k0_off18 v1) a + S768x128.size a ≤ S8192x512.size a := fun v1 v13 k0_hw1 k0_h3 => k0_hw1.2.2.2.2.2.2.2.2.2.2.2.2.2.2.2.2.2.2.2.2.2.2.2.2.2.2.2.1 k0_h3
theorem k0_mult15_dvd : ∀ (v1 : BitVec 32) (v13 : BitVec 32) (k0_hw1 : k0_chk1 v1 v13), ∀ (k0_h3 : k0_cond3 v13 = 1#1), 256 ∣ (k0_mult15 v1).toNat := fun v1 v13 k0_hw1 k0_h3 => k0_hw1.2.2.2.2.2.2.2.2.2.2.2.2.2.2.2.2.2.2.2.2.2.2.2.2.2.2.2.2.1 k0_h3
theorem k0_off19_inb : ∀ (v1 : BitVec 32) (v13 : BitVec 32) (k0_hw1 : k0_chk1 v1 v13), ∀ (k0_h3 : k0_cond3 v13 = 1#1), ∀ a, (k0_off19 v1) a + S512x128.size a ≤ S8192x512.size a := fun v1 v13 k0_hw1 k0_h3 => k0_hw1.2.2.2.2.2.2.2.2.2.2.2.2.2.2.2.2.2.2.2.2.2.2.2.2.2.2.2.2.2.1 k0_h3
theorem k0_mult16_dvd : ∀ (v1 : BitVec 32) (v13 : BitVec 32) (k0_hw1 : k0_chk1 v1 v13), ∀ (k0_h3 : k0_cond3 v13 = 1#1), 256 ∣ (k0_mult16 v1).toNat := fun v1 v13 k0_hw1 k0_h3 => k0_hw1.2.2.2.2.2.2.2.2.2.2.2.2.2.2.2.2.2.2.2.2.2.2.2.2.2.2.2.2.2.2.1 k0_h3
theorem k0_off20_inb : ∀ (v1 : BitVec 32) (v13 : BitVec 32) (k0_hw1 : k0_chk1 v1 v13), ∀ (k0_h3 : k0_cond3 v13 = 1#1), ∀ a, (k0_off20 v1) a + S256x128.size a ≤ S8192x512.size a := fun v1 v13 k0_hw1 k0_h3 => k0_hw1.2.2.2.2.2.2.2.2.2.2.2.2.2.2.2.2.2.2.2.2.2.2.2.2.2.2.2.2.2.2.2 k0_h3

def k0_off21 (i : grid0.Coords) : Fin 2 → Nat :=
  let c2_4 : Index := 2#32
  let arg1 : BitVec 32 := BitVec.ofNat 32 (i 1).val
  let v17 : Index := Scalar.indexCast arg1
  ![2, v17.toNat]
def k0_mult17 (v1 : BitVec 32) : BitVec 32 :=
  let c1024_i32 : BitVec 32 := 1024#32
  let v56 : BitVec 32 := Scalar.muli v1 c1024_i32
  let c0_i32_29 : BitVec 32 := 0#32
  let v57 : BitVec 32 := Scalar.addi v56 c0_i32_29
  v57
def k0_cond4 (v18 : BitVec 32) : BitVec 1 :=
  let c0_i32_5 : BitVec 32 := 0#32
  let v19 : BitVec 1 := Scalar.cmpi .eq v18 c0_i32_5
  let v20 : BitVec 32 := Scalar.extui v19
  let c0_i32_6 : BitVec 32 := 0#32
  let v21 : BitVec 1 := Scalar.cmpi .ne v20 c0_i32_6
  v21

def k0_off22 (v1 : BitVec 32) : Fin 2 → Nat :=
  let c1024_i32 : BitVec 32 := 1024#32
  let v56 : BitVec 32 := Scalar.muli v1 c1024_i32
  let c0_i32_29 : BitVec 32 := 0#32
  let v57 : BitVec 32 := Scalar.addi v56 c0_i32_29
  let v58 : BitVec 32 := v57
  let v59 : Index := Scalar.indexCast v58
  let c0_30 : Index := 0#32
  ![v59.toNat, 0]
def k0_mult18 (v1 : BitVec 32) : BitVec 32 :=
  let c1024_i32_52 : BitVec 32 := 1024#32
  let v92 : BitVec 32 := Scalar.muli v1 c1024_i32_52
  let c0_i32_53 : BitVec 32 := 0#32
  let v93 : BitVec 32 := Scalar.addi v92 c0_i32_53
  v93
def k0_mult19 (v1 : BitVec 32) : BitVec 32 :=
  let c1024_i32_76 : BitVec 32 := 1024#32
  let v128 : BitVec 32 := Scalar.muli v1 c1024_i32_76
  let c0_i32_77 : BitVec 32 := 0#32
  let v129 : BitVec 32 := Scalar.addi v128 c0_i32_77
  v129
def k0_mult20 (v1 : BitVec 32) : BitVec 32 :=
  let c1024_i32_100 : BitVec 32 := 1024#32
  let v164 : BitVec 32 := Scalar.muli v1 c1024_i32_100
  let c0_i32_101 : BitVec 32 := 0#32
  let v165 : BitVec 32 := Scalar.addi v164 c0_i32_101
  v165
def k0_mult21 (v1 : BitVec 32) : BitVec 32 :=
  let c1024_i32_124 : BitVec 32 := 1024#32
  let v200 : BitVec 32 := Scalar.muli v1 c1024_i32_124
  let c0_i32_125 : BitVec 32 := 0#32
  let v201 : BitVec 32 := Scalar.addi v200 c0_i32_125
  v201
def k0_off23 (v1 : BitVec 32) : Fin 2 → Nat :=
  let c1024_i32_124 : BitVec 32 := 1024#32
  let v200 : BitVec 32 := Scalar.muli v1 c1024_i32_124
  let c0_i32_125 : BitVec 32 := 0#32
  let v201 : BitVec 32 := Scalar.addi v200 c0_i32_125
  let v202 : BitVec 32 := v201
  let v203 : Index := Scalar.indexCast v202
  let c128_126 : Index := 128#32
  ![v203.toNat, 128]
def k0_mult22 (v1 : BitVec 32) : BitVec 32 :=
  let c1024_i32_149 : BitVec 32 := 1024#32
  let v236 : BitVec 32 := Scalar.muli v1 c1024_i32_149
  let c0_i32_150 : BitVec 32 := 0#32
  let v237 : BitVec 32 := Scalar.addi v236 c0_i32_150
  v237
def k0_mult23 (v1 : BitVec 32) : BitVec 32 :=
  let c1024_i32_174 : BitVec 32 := 1024#32
  let v272 : BitVec 32 := Scalar.muli v1 c1024_i32_174
  let c0_i32_175 : BitVec 32 := 0#32
  let v273 : BitVec 32 := Scalar.addi v272 c0_i32_175
  v273
def k0_mult24 (v1 : BitVec 32) : BitVec 32 :=
  let c1024_i32_199 : BitVec 32 := 1024#32
  let v308 : BitVec 32 := Scalar.muli v1 c1024_i32_199
  let c0_i32_200 : BitVec 32 := 0#32
  let v309 : BitVec 32 := Scalar.addi v308 c0_i32_200
  v309
def k0_mult25 (v1 : BitVec 32) : BitVec 32 :=
  let c1024_i32_224 : BitVec 32 := 1024#32
  let v344 : BitVec 32 := Scalar.muli v1 c1024_i32_224
  let c0_i32_225 : BitVec 32 := 0#32
  let v345 : BitVec 32 := Scalar.addi v344 c0_i32_225
  v345
def k0_off24 (v1 : BitVec 32) : Fin 2 → Nat :=
  let c1024_i32_224 : BitVec 32 := 1024#32
  let v344 : BitVec 32 := Scalar.muli v1 c1024_i32_224
  let c0_i32_225 : BitVec 32 := 0#32
  let v345 : BitVec 32 := Scalar.addi v344 c0_i32_225
  let v346 : BitVec 32 := v345
  let v347 : Index := Scalar.indexCast v346
  let c256_226 : Index := 256#32
  ![v347.toNat, 256]
def k0_mult26 (v1 : BitVec 32) : BitVec 32 :=
  let c1024_i32_249 : BitVec 32 := 1024#32
  let v380 : BitVec 32 := Scalar.muli v1 c1024_i32_249
  let c0_i32_250 : BitVec 32 := 0#32
  let v381 : BitVec 32 := Scalar.addi v380 c0_i32_250
  v381
def k0_mult27 (v1 : BitVec 32) : BitVec 32 :=
  let c1024_i32_274 : BitVec 32 := 1024#32
  let v416 : BitVec 32 := Scalar.muli v1 c1024_i32_274
  let c0_i32_275 : BitVec 32 := 0#32
  let v417 : BitVec 32 := Scalar.addi v416 c0_i32_275
  v417
def k0_mult28 (v1 : BitVec 32) : BitVec 32 :=
  let c1024_i32_299 : BitVec 32 := 1024#32
  let v452 : BitVec 32 := Scalar.muli v1 c1024_i32_299
  let c0_i32_300 : BitVec 32 := 0#32
  let v453 : BitVec 32 := Scalar.addi v452 c0_i32_300
  v453
def k0_mult29 (v1 : BitVec 32) : BitVec 32 :=
  let c1024_i32_323 : BitVec 32 := 1024#32
  let v488 : BitVec 32 := Scalar.muli v1 c1024_i32_323
  let c0_i32_324 : BitVec 32 := 0#32
  let v489 : BitVec 32 := Scalar.addi v488 c0_i32_324
  v489
def k0_off25 (v1 : BitVec 32) : Fin 2 → Nat :=
  let c1024_i32_323 : BitVec 32 := 1024#32
  let v488 : BitVec 32 := Scalar.muli v1 c1024_i32_323
  let c0_i32_324 : BitVec 32 := 0#32
  let v489 : BitVec 32 := Scalar.addi v488 c0_i32_324
  let v490 : BitVec 32 := v489
  let v491 : Index := Scalar.indexCast v490
  let c384_325 : Index := 384#32
  ![v491.toNat, 384]
def k0_mult30 (v1 : BitVec 32) : BitVec 32 :=
  let c1024_i32_348 : BitVec 32 := 1024#32
  let v524 : BitVec 32 := Scalar.muli v1 c1024_i32_348
  let c0_i32_349 : BitVec 32 := 0#32
  let v525 : BitVec 32 := Scalar.addi v524 c0_i32_349
  v525
def k0_mult31 (v1 : BitVec 32) : BitVec 32 :=
  let c1024_i32_373 : BitVec 32 := 1024#32
  let v560 : BitVec 32 := Scalar.muli v1 c1024_i32_373
  let c0_i32_374 : BitVec 32 := 0#32
  let v561 : BitVec 32 := Scalar.addi v560 c0_i32_374
  v561
def k0_mult32 (v1 : BitVec 32) : BitVec 32 :=
  let c1024_i32_398 : BitVec 32 := 1024#32
  let v596 : BitVec 32 := Scalar.muli v1 c1024_i32_398
  let c0_i32_399 : BitVec 32 := 0#32
  let v597 : BitVec 32 := Scalar.addi v596 c0_i32_399
  v597

def k0_chk2 (v1 : BitVec 32) (v18 : BitVec 32) : Prop :=
  (∀ (k0_h4 : k0_cond4 v18 = 1#1), 256 ∣ (k0_mult17 v1).toNat) ∧
  (∀ (k0_h4 : k0_cond4 v18 = 1#1), ∀ a, (k0_off22 v1) a + S1024x128.size a ≤ S8192x512.size a) ∧
  (∀ (k0_h4 : k0_cond4 v18 = 1#1), 256 ∣ (k0_mult18 v1).toNat) ∧
  (∀ (k0_h4 : k0_cond4 v18 = 1#1), 256 ∣ (k0_mult19 v1).toNat) ∧
  (∀ (k0_h4 : k0_cond4 v18 = 1#1), 256 ∣ (k0_mult20 v1).toNat) ∧
  (∀ (k0_h4 : k0_cond4 v18 = 1#1), 256 ∣ (k0_mult21 v1).toNat) ∧
  (∀ (k0_h4 : k0_cond4 v18 = 1#1), ∀ a, (k0_off23 v1) a + S1024x128.size a ≤ S8192x512.size a) ∧
  (∀ (k0_h4 : k0_cond4 v18 = 1#1), 256 ∣ (k0_mult22 v1).toNat) ∧
  (∀ (k0_h4 : k0_cond4 v18 = 1#1), 256 ∣ (k0_mult23 v1).toNat) ∧
  (∀ (k0_h4 : k0_cond4 v18 = 1#1), 256 ∣ (k0_mult24 v1).toNat) ∧
  (∀ (k0_h4 : k0_cond4 v18 = 1#1), 256 ∣ (k0_mult25 v1).toNat) ∧
  (∀ (k0_h4 : k0_cond4 v18 = 1#1), ∀ a, (k0_off24 v1) a + S1024x128.size a ≤ S8192x512.size a) ∧
  (∀ (k0_h4 : k0_cond4 v18 = 1#1), 256 ∣ (k0_mult26 v1).toNat) ∧
  (∀ (k0_h4 : k0_cond4 v18 = 1#1), 256 ∣ (k0_mult27 v1).toNat) ∧
  (∀ (k0_h4 : k0_cond4 v18 = 1#1), 256 ∣ (k0_mult28 v1).toNat) ∧
  (∀ (k0_h4 : k0_cond4 v18 = 1#1), 256 ∣ (k0_mult29 v1).toNat) ∧
  (∀ (k0_h4 : k0_cond4 v18 = 1#1), ∀ a, (k0_off25 v1) a + S1024x128.size a ≤ S8192x512.size a) ∧
  (∀ (k0_h4 : k0_cond4 v18 = 1#1), 256 ∣ (k0_mult30 v1).toNat) ∧
  (∀ (k0_h4 : k0_cond4 v18 = 1#1), 256 ∣ (k0_mult31 v1).toNat) ∧
  (∀ (k0_h4 : k0_cond4 v18 = 1#1), 256 ∣ (k0_mult32 v1).toNat)
theorem k0_mult17_dvd : ∀ (v1 : BitVec 32) (v18 : BitVec 32) (k0_hw2 : k0_chk2 v1 v18), ∀ (k0_h4 : k0_cond4 v18 = 1#1), 256 ∣ (k0_mult17 v1).toNat := fun v1 v18 k0_hw2 k0_h4 => k0_hw2.1 k0_h4
theorem k0_off22_inb : ∀ (v1 : BitVec 32) (v18 : BitVec 32) (k0_hw2 : k0_chk2 v1 v18), ∀ (k0_h4 : k0_cond4 v18 = 1#1), ∀ a, (k0_off22 v1) a + S1024x128.size a ≤ S8192x512.size a := fun v1 v18 k0_hw2 k0_h4 => k0_hw2.2.1 k0_h4
theorem k0_mult18_dvd : ∀ (v1 : BitVec 32) (v18 : BitVec 32) (k0_hw2 : k0_chk2 v1 v18), ∀ (k0_h4 : k0_cond4 v18 = 1#1), 256 ∣ (k0_mult18 v1).toNat := fun v1 v18 k0_hw2 k0_h4 => k0_hw2.2.2.1 k0_h4
theorem k0_mult19_dvd : ∀ (v1 : BitVec 32) (v18 : BitVec 32) (k0_hw2 : k0_chk2 v1 v18), ∀ (k0_h4 : k0_cond4 v18 = 1#1), 256 ∣ (k0_mult19 v1).toNat := fun v1 v18 k0_hw2 k0_h4 => k0_hw2.2.2.2.1 k0_h4
theorem k0_mult20_dvd : ∀ (v1 : BitVec 32) (v18 : BitVec 32) (k0_hw2 : k0_chk2 v1 v18), ∀ (k0_h4 : k0_cond4 v18 = 1#1), 256 ∣ (k0_mult20 v1).toNat := fun v1 v18 k0_hw2 k0_h4 => k0_hw2.2.2.2.2.1 k0_h4
theorem k0_mult21_dvd : ∀ (v1 : BitVec 32) (v18 : BitVec 32) (k0_hw2 : k0_chk2 v1 v18), ∀ (k0_h4 : k0_cond4 v18 = 1#1), 256 ∣ (k0_mult21 v1).toNat := fun v1 v18 k0_hw2 k0_h4 => k0_hw2.2.2.2.2.2.1 k0_h4
theorem k0_off23_inb : ∀ (v1 : BitVec 32) (v18 : BitVec 32) (k0_hw2 : k0_chk2 v1 v18), ∀ (k0_h4 : k0_cond4 v18 = 1#1), ∀ a, (k0_off23 v1) a + S1024x128.size a ≤ S8192x512.size a := fun v1 v18 k0_hw2 k0_h4 => k0_hw2.2.2.2.2.2.2.1 k0_h4
theorem k0_mult22_dvd : ∀ (v1 : BitVec 32) (v18 : BitVec 32) (k0_hw2 : k0_chk2 v1 v18), ∀ (k0_h4 : k0_cond4 v18 = 1#1), 256 ∣ (k0_mult22 v1).toNat := fun v1 v18 k0_hw2 k0_h4 => k0_hw2.2.2.2.2.2.2.2.1 k0_h4
theorem k0_mult23_dvd : ∀ (v1 : BitVec 32) (v18 : BitVec 32) (k0_hw2 : k0_chk2 v1 v18), ∀ (k0_h4 : k0_cond4 v18 = 1#1), 256 ∣ (k0_mult23 v1).toNat := fun v1 v18 k0_hw2 k0_h4 => k0_hw2.2.2.2.2.2.2.2.2.1 k0_h4
theorem k0_mult24_dvd : ∀ (v1 : BitVec 32) (v18 : BitVec 32) (k0_hw2 : k0_chk2 v1 v18), ∀ (k0_h4 : k0_cond4 v18 = 1#1), 256 ∣ (k0_mult24 v1).toNat := fun v1 v18 k0_hw2 k0_h4 => k0_hw2.2.2.2.2.2.2.2.2.2.1 k0_h4
theorem k0_mult25_dvd : ∀ (v1 : BitVec 32) (v18 : BitVec 32) (k0_hw2 : k0_chk2 v1 v18), ∀ (k0_h4 : k0_cond4 v18 = 1#1), 256 ∣ (k0_mult25 v1).toNat := fun v1 v18 k0_hw2 k0_h4 => k0_hw2.2.2.2.2.2.2.2.2.2.2.1 k0_h4
theorem k0_off24_inb : ∀ (v1 : BitVec 32) (v18 : BitVec 32) (k0_hw2 : k0_chk2 v1 v18), ∀ (k0_h4 : k0_cond4 v18 = 1#1), ∀ a, (k0_off24 v1) a + S1024x128.size a ≤ S8192x512.size a := fun v1 v18 k0_hw2 k0_h4 => k0_hw2.2.2.2.2.2.2.2.2.2.2.2.1 k0_h4
theorem k0_mult26_dvd : ∀ (v1 : BitVec 32) (v18 : BitVec 32) (k0_hw2 : k0_chk2 v1 v18), ∀ (k0_h4 : k0_cond4 v18 = 1#1), 256 ∣ (k0_mult26 v1).toNat := fun v1 v18 k0_hw2 k0_h4 => k0_hw2.2.2.2.2.2.2.2.2.2.2.2.2.1 k0_h4
theorem k0_mult27_dvd : ∀ (v1 : BitVec 32) (v18 : BitVec 32) (k0_hw2 : k0_chk2 v1 v18), ∀ (k0_h4 : k0_cond4 v18 = 1#1), 256 ∣ (k0_mult27 v1).toNat := fun v1 v18 k0_hw2 k0_h4 => k0_hw2.2.2.2.2.2.2.2.2.2.2.2.2.2.1 k0_h4
theorem k0_mult28_dvd : ∀ (v1 : BitVec 32) (v18 : BitVec 32) (k0_hw2 : k0_chk2 v1 v18), ∀ (k0_h4 : k0_cond4 v18 = 1#1), 256 ∣ (k0_mult28 v1).toNat := fun v1 v18 k0_hw2 k0_h4 => k0_hw2.2.2.2.2.2.2.2.2.2.2.2.2.2.2.1 k0_h4
theorem k0_mult29_dvd : ∀ (v1 : BitVec 32) (v18 : BitVec 32) (k0_hw2 : k0_chk2 v1 v18), ∀ (k0_h4 : k0_cond4 v18 = 1#1), 256 ∣ (k0_mult29 v1).toNat := fun v1 v18 k0_hw2 k0_h4 => k0_hw2.2.2.2.2.2.2.2.2.2.2.2.2.2.2.2.1 k0_h4
theorem k0_off25_inb : ∀ (v1 : BitVec 32) (v18 : BitVec 32) (k0_hw2 : k0_chk2 v1 v18), ∀ (k0_h4 : k0_cond4 v18 = 1#1), ∀ a, (k0_off25 v1) a + S1024x128.size a ≤ S8192x512.size a := fun v1 v18 k0_hw2 k0_h4 => k0_hw2.2.2.2.2.2.2.2.2.2.2.2.2.2.2.2.2.1 k0_h4
theorem k0_mult30_dvd : ∀ (v1 : BitVec 32) (v18 : BitVec 32) (k0_hw2 : k0_chk2 v1 v18), ∀ (k0_h4 : k0_cond4 v18 = 1#1), 256 ∣ (k0_mult30 v1).toNat := fun v1 v18 k0_hw2 k0_h4 => k0_hw2.2.2.2.2.2.2.2.2.2.2.2.2.2.2.2.2.2.1 k0_h4
theorem k0_mult31_dvd : ∀ (v1 : BitVec 32) (v18 : BitVec 32) (k0_hw2 : k0_chk2 v1 v18), ∀ (k0_h4 : k0_cond4 v18 = 1#1), 256 ∣ (k0_mult31 v1).toNat := fun v1 v18 k0_hw2 k0_h4 => k0_hw2.2.2.2.2.2.2.2.2.2.2.2.2.2.2.2.2.2.2.1 k0_h4
theorem k0_mult32_dvd : ∀ (v1 : BitVec 32) (v18 : BitVec 32) (k0_hw2 : k0_chk2 v1 v18), ∀ (k0_h4 : k0_cond4 v18 = 1#1), 256 ∣ (k0_mult32 v1).toNat := fun v1 v18 k0_hw2 k0_h4 => k0_hw2.2.2.2.2.2.2.2.2.2.2.2.2.2.2.2.2.2.2.2 k0_h4

def k0_off26 (i : grid0.Coords) : Fin 2 → Nat :=
  let c4 : Index := 4#32
  let arg1 : BitVec 32 := BitVec.ofNat 32 (i 1).val
  let v22 : Index := Scalar.indexCast arg1
  ![4, v22.toNat]
def k0_cond5 (v23 : BitVec 32) : BitVec 1 :=
  let c1_i32_7 : BitVec 32 := 1#32
  let v24 : BitVec 1 := Scalar.cmpi .eq v23 c1_i32_7
  let v25 : BitVec 32 := Scalar.extui v24
  let c0_i32_8 : BitVec 32 := 0#32
  let v26 : BitVec 1 := Scalar.cmpi .ne v25 c0_i32_8
  v26

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond6 (i : grid0.Coords) : BitVec 1 :=
  let arg1 : BitVec 32 := BitVec.ofNat 32 (i 1).val
  let c35_i32 : BitVec 32 := 35#32
  let v27 : BitVec 1 := Scalar.cmpi .eq arg1 c35_i32
  let v28 : BitVec 32 := Scalar.extui v27
  let c0_i32_9 : BitVec 32 := 0#32
  let v29 : BitVec 1 := Scalar.cmpi .ne v28 c0_i32_9
  v29

def cc0_transform_0 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_1 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_2 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_3 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_4 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (k0_off2_inb : ∀ i : grid0.Coords, ∀ a, (k0_off2 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  let c0_i32_0 : BitVec 32 := 0#32
  ![arg0.toNat, v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8192x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x8192x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1x1024x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FoxBwdIdeal.lean ====
variable {F : FTy → Type} [FloatOps F] [Named F]
def κ : String → Option EReal := fun
  | "mask" => some ⊥
  | _ => none
-- ==== FoxRefIdeal.lean ====
abbrev S8192x16x64 : Shape := ⟨3, ![8192, 16, 64]⟩
abbrev S8192x16 : Shape := ⟨2, ![8192, 16]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 114
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S8192x16x64, .f32⟩
  | .hbm, ⟨5, _⟩ => ⟨S16x8192, .f32⟩
  | .hbm, ⟨6, _⟩ => ⟨S16x8192x8192, .f32⟩
  | .hbm, ⟨7, _⟩ => ⟨S_, .f32⟩
  | .hbm, ⟨8, _⟩ => ⟨S16x8192x8192, .f32⟩
  | .hbm, ⟨9, _⟩ => ⟨S16x8192x8192, .f32⟩
  | .hbm, ⟨10, _⟩ => ⟨S16x8192, .f32⟩
  | .hbm, ⟨11, _⟩ => ⟨S16x8192x1, .f32⟩
  | .hbm, ⟨12, _⟩ => ⟨S16x8192x8192, .f32⟩
  | .hbm, ⟨13, _⟩ => ⟨S16x8192x8192, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S8192, .i32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .i1⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S16x8192, .i1⟩
  | .hbm, ⟨44, _⟩ => ⟨S_, .f32⟩
  | .hbm, ⟨45, _⟩ => ⟨S16x8192, .f32⟩
  | .hbm, ⟨46, _⟩ => ⟨S16x8192, .i1⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S16x8192, .f32⟩
  | .hbm, ⟨54, _⟩ => ⟨S16x8192, .f32⟩
  | .hbm, ⟨55, _⟩ => ⟨S16x8192x1, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S16x8192, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S16x8192x1, .f32⟩
  | .hbm, ⟨65, _⟩ => ⟨S_, .f32⟩
  | .hbm, ⟨66, _⟩ => ⟨S16x8192x1, .f32⟩
  | .hbm, ⟨67, _⟩ => ⟨S16x8192x1, .f32⟩
  | .hbm, ⟨68, _⟩ => ⟨S16x64x8192, .f32⟩
  | .hbm, ⟨69, _⟩ => ⟨S8192x16x64, .f32⟩
  | .hbm, ⟨70, _⟩ => ⟨S16x64x8192, .f32⟩
  | .hbm, ⟨71, _⟩ => ⟨S16x8192x8192, .f32⟩
  | .hbm, ⟨72, _⟩ => ⟨S16x64x8192, .f32⟩
  | .hbm, ⟨73, _⟩ => ⟨S8192x16x64, .f32⟩
  | .hbm, ⟨74, _⟩ => ⟨S16x8192x8192, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192, .f32⟩
  | .hbm, ⟨79, _⟩ => ⟨S16x8192x1, .f32⟩
  | .hbm, ⟨80, _⟩ => ⟨S16x8192x1, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192, .f32⟩
  | .hbm, ⟨85, _⟩ => ⟨S16x8192x8192, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192, .f32⟩
  | .hbm, ⟨94, _⟩ => ⟨S16x1x8192, .f32⟩
  | .hbm, ⟨95, _⟩ => ⟨S_, .f32⟩
  | .hbm, ⟨96, _⟩ => ⟨S16x8192, .f32⟩
  | .hbm, ⟨97, _⟩ => ⟨S_, .f32⟩
  | .hbm, ⟨98, _⟩ => ⟨S16x8192, .f32⟩
  | .hbm, ⟨99, _⟩ => ⟨S16x8192x1, .f32⟩
  | .hbm, ⟨100, _⟩ => ⟨S_, .f32⟩
  | .hbm, ⟨101, _⟩ => ⟨S16x8192, .f32⟩
  | .hbm, ⟨102, _⟩ => ⟨S8192x16, .f32⟩
  | .hbm, ⟨103, _⟩ => ⟨S_, .f32⟩
  | .hbm, ⟨104, _⟩ => ⟨S16x8192x8192, .f32⟩
  | .hbm, ⟨105, _⟩ => ⟨S16x8192x8192, .f32⟩
  | .hbm, ⟨106, _⟩ => ⟨S16x8192x64, .f32⟩
  | .hbm, ⟨107, _⟩ => ⟨S8192x16x64, .f32⟩
  | .hbm, ⟨108, _⟩ => ⟨S16x8192x64, .f32⟩
  | .hbm, ⟨109, _⟩ => ⟨S8192x16x64, .f32⟩
  | .hbm, ⟨110, _⟩ => ⟨S8192x16, .f32⟩
  | .hbm, ⟨111, _⟩ => ⟨S8192x16, .f32⟩
  | .hbm, ⟨112, _⟩ => ⟨S8192x16x64, .bf16⟩
  | .hbm, ⟨113, _⟩ => ⟨S8192x16x64, .bf16⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .hbm, ⟨7, _⟩ => ⟨S8192x1024, .bf16⟩
  | .hbm, ⟨8, _⟩ => ⟨S1x1, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Act.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x1024, .bf16⟩
  | .hbm, ⟨5, _⟩ => ⟨S1024x4096, .bf16⟩
  | .hbm, ⟨6, _⟩ => ⟨S8192x4096, .bf16⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ActRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Ctx.lean ====
abbrev S8192x8x192 : Shape := ⟨3, ![8192, 8, 192]⟩
abbrev S8192x8x128 : Shape := ⟨3, ![8192, 8, 128]⟩
abbrev S8192x64 : Shape := ⟨2, ![8192, 64]⟩
abbrev S1024x1024 : Shape := ⟨2, ![1024, 1024]⟩
abbrev S8192x1024 : Shape := ⟨2, ![8192, 1024]⟩
abbrev S8192x1x64 : Shape := ⟨3, ![8192, 1, 64]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x256 : Shape := ⟨3, ![8192, 8, 256]⟩
abbrev S8192x2048 : Shape := ⟨2, ![8192, 2048]⟩
abbrev S8x128x1024 : Shape := ⟨3, ![8, 128, 1024]⟩
abbrev S8x256x1024 : Shape := ⟨3, ![8, 256, 1024]⟩
abbrev S2048x1024 : Shape := ⟨2, ![2048, 1024]⟩
abbrev S1024x2048 : Shape := ⟨2, ![1024, 2048]⟩
abbrev S1024x256 : Shape := ⟨2, ![1024, 256]⟩
abbrev S1024 : Shape := ⟨1, ![1024]⟩
abbrev S1024x1 : Shape := ⟨2, ![1024, 1]⟩
abbrev S8192x8x3 : Shape := ⟨3, ![8192, 8, 3]⟩
abbrev S8192x8 : Shape := ⟨2, ![8192, 8]⟩

abbrev nBuf : Space → Nat
  | .hbm => 64
  | .vmem => 7
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x64, .f32⟩
  | .hbm, ⟨3, _⟩ => ⟨S8192x8x128, .f32⟩
  | .hbm, ⟨4, _⟩ => ⟨S1024x1024, .f32⟩
  | .hbm, ⟨5, _⟩ => ⟨S8192x1024, .f32⟩
  | .hbm, ⟨6, _⟩ => ⟨S8192x1x64, .f32⟩
  | .hbm, ⟨7, _⟩ => ⟨S8192x8x64, .f32⟩
  | .hbm, ⟨8, _⟩ => ⟨S8192x8x128, .f32⟩
  | .hbm, ⟨9, _⟩ => ⟨S8192x8x64, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x128x8192, .f32⟩
  | .hbm, ⟨42, _⟩ => ⟨S8192x8x128, .f32⟩
  | .hbm, ⟨43, _⟩ => ⟨S8192x1024, .f32⟩
  | .hbm, ⟨44, _⟩ => ⟨S8192x1024, .bf16⟩
  | .hbm, ⟨45, _⟩ => ⟨S8192x8x128, .bf16⟩
  | .hbm, ⟨46, _⟩ => ⟨S_, .i32⟩
  | .hbm, ⟨47, _⟩ => ⟨S_, .bf16⟩
  | .hbm, ⟨48, _⟩ => ⟨S8192x8x256, .bf16⟩
  | .hbm, ⟨49, _⟩ => ⟨S8192x2048, .bf16⟩
  | .hbm, ⟨50, _⟩ => ⟨S8192x1024, .bf16⟩
  | .hbm, ⟨51, _⟩ => ⟨S1024x1024, .bf16⟩
  | .hbm, ⟨52, _⟩ => ⟨S8x128x1024, .bf16⟩
  | .hbm, ⟨53, _⟩ => ⟨S_, .i32⟩
  | .hbm, ⟨54, _⟩ => ⟨S_, .bf16⟩
  | .hbm, ⟨55, _⟩ => ⟨S8x256x1024, .bf16⟩
  | .hbm, ⟨56, _⟩ => ⟨S2048x1024, .bf16⟩
  | .hbm, ⟨57, _⟩ => ⟨S8192x2048, .bf16⟩
  | .hbm, ⟨58, _⟩ => ⟨S8192x8x256, .bf16⟩
  | .hbm, ⟨59, _⟩ => ⟨S8192x8x128, .bf16⟩
  | .hbm, ⟨60, _⟩ => ⟨S8192x8x3, .bf16⟩
  | .hbm, ⟨61, _⟩ => ⟨S8192x8x3, .f32⟩
  | .hbm, ⟨62, _⟩ => ⟨S_, .f32⟩
  | .hbm, ⟨63, _⟩ => ⟨S8192x8, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_4 : Ref sig .tc := ⟨.hbm, 53, rfl⟩
abbrev main_call2_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CtxRefIdeal.lean ====
abbrev S8192x8x192 : Shape := ⟨3, ![8192, 8, 192]⟩
abbrev S8192x8x128 : Shape := ⟨3, ![8192, 8, 128]⟩
abbrev S8192x64 : Shape := ⟨2, ![8192, 64]⟩
abbrev S1024x1024 : Shape := ⟨2, ![1024, 1024]⟩
abbrev S8192x1024 : Shape := ⟨2, ![8192, 1024]⟩
abbrev S8192x1x64 : Shape := ⟨3, ![8192, 1, 64]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩

abbrev nBuf : Space → Nat
  | .hbm => 51
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x128, .f32⟩
  | .hbm, ⟨2, _⟩ => ⟨S8192x64, .f32⟩
  | .hbm, ⟨3, _⟩ => ⟨S8192x8x128, .f32⟩
  | .hbm, ⟨4, _⟩ => ⟨S1024x1024, .f32⟩
  | .hbm, ⟨5, _⟩ => ⟨S8192x1024, .f32⟩
  | .hbm, ⟨6, _⟩ => ⟨S8192x1x64, .f32⟩
  | .hbm, ⟨7, _⟩ => ⟨S8192x8x64, .f32⟩
  | .hbm, ⟨8, _⟩ => ⟨S8192x8x128, .f32⟩
  | .hbm, ⟨9, _⟩ => ⟨S8192x8x64, .f32⟩
  | .hbm, ⟨10, _⟩ => ⟨S8x8192x8192, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x128x8192, .f32⟩
  | .hbm, ⟨42, _⟩ => ⟨S8192x8x128, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x8x128, .f32⟩
  | .hbm, ⟨47, _⟩ => ⟨S8192x8x128, .bf16⟩
  | .hbm, ⟨48, _⟩ => ⟨S8192x8x128, .f32⟩
  | .hbm, ⟨49, _⟩ => ⟨S_, .f32⟩
  | .hbm, ⟨50, _⟩ => ⟨S8192x8, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Norm2.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Norm2RefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Latent.lean ====
abbrev S8192x320 : Shape := ⟨2, ![8192, 320]⟩
abbrev S256 : Shape := ⟨1, ![256]⟩
abbrev S8192x256 : Shape := ⟨2, ![8192, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x320, .f32⟩
  | .hbm, ⟨1, _⟩ => ⟨S256, .f32⟩
  | .hbm, ⟨2, _⟩ => ⟨S8192x256, .f32⟩
  | .hbm, ⟨3, _⟩ => ⟨S1x256, .f32⟩
  | .hbm, ⟨4, _⟩ => ⟨S8192x256, .f32⟩
  | .hbm, ⟨5, _⟩ => ⟨S8192x256, .bf16⟩
  | .hbm, ⟨6, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .bf16⟩
  | .local _ .vmem, ⟨8, _⟩ => ⟨S512x256, .bf16⟩
  | .local _ .vmem, ⟨9, _⟩ => ⟨S1x256, .f32⟩
  | _, _ => ⟨S8192x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LatentRefIdeal.lean ====
abbrev S8192x320 : Shape := ⟨2, ![8192, 320]⟩
abbrev S256 : Shape := ⟨1, ![256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 55
  | .vmem => 0
  | .smem => 0
  | _ => 0

abbrev bufTy : (tb : Table) → Fin (tcTables nBuf tb) → BufTy
  | .hbm, ⟨0, _⟩ => ⟨S8192x320, .f32⟩
  | .hbm, ⟨1, _⟩ => ⟨S256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S256, .f32⟩
  | .hbm, ⟨32, _⟩ => ⟨S8192x256, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x256, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x256, .f32⟩
  | .hbm, ⟨49, _⟩ => ⟨S_, .f32⟩
  | .hbm, ⟨50, _⟩ => ⟨S8192x320, .f32⟩
  | .hbm, ⟨51, _⟩ => ⟨S8192x256, .f32⟩
  | .hbm, ⟨52, _⟩ => ⟨S8192x256, .f32⟩
  | .hbm, ⟨53, _⟩ => ⟨S8192x256, .bf16⟩
  | .hbm, ⟨54, _⟩ => ⟨S1x256, .f32⟩
  | _, _ => ⟨S8192x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== RopeK.lean ====
abbrev S8192x32 : Shape := ⟨2, ![8192, 32]⟩
abbrev S8192x8x64 : Shape := ⟨3, ![8192, 8, 64]⟩
abbrev S_ : Shape := ⟨0, ![]⟩
abbrev S8192x64 : Shape := ⟨2, ![8192, 64]⟩
abbrev S8192x128 : Shape := ⟨2, ![8192, 128]⟩
abbrev S1024x128 : Shape := ⟨2, ![1024, 128]⟩

abbrev nBuf : Space → Nat
  | .hbm => 16
  | .vmem => 10
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8x64, .f32⟩
  | .hbm, ⟨3, _⟩ => ⟨S_, .f32⟩
  | .hbm, ⟨4, _⟩ => ⟨S8192x64, .f32⟩
  | .hbm, ⟨5, _⟩ => ⟨S_, .f32⟩
  | .hbm, ⟨6, _⟩ => ⟨S8192x64, .f32⟩
  | .hbm, ⟨7, _⟩ => ⟨S8192x128, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .bf16⟩
  | .hbm, ⟨15, _⟩ => ⟨S8192x64, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeKRefIdeal.lean ====
abbrev S8192x32 : Shape := ⟨2, ![8192, 32]⟩
abbrev S8192x8x64 : Shape := ⟨3, ![8192, 8, 64]⟩
abbrev S_ : Shape := ⟨0, ![]⟩
abbrev S8192x64 : Shape := ⟨2, ![8192, 64]⟩
abbrev S8192x1x64 : Shape := ⟨3, ![8192, 1, 64]⟩

abbrev nBuf : Space → Nat
  | .hbm => 36
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x32, .f32⟩
  | .hbm, ⟨2, _⟩ => ⟨S8192x8x64, .f32⟩
  | .hbm, ⟨3, _⟩ => ⟨S_, .f32⟩
  | .hbm, ⟨4, _⟩ => ⟨S8192x64, .f32⟩
  | .hbm, ⟨5, _⟩ => ⟨S8192x32, .f32⟩
  | .hbm, ⟨6, _⟩ => ⟨S8192x32, .f32⟩
  | .hbm, ⟨7, _⟩ => ⟨S8192x32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x64, .f32⟩
  | .hbm, ⟨14, _⟩ => ⟨S8192x1x64, .f32⟩
  | .hbm, ⟨15, _⟩ => ⟨S8192x8x64, .f32⟩
  | .hbm, ⟨16, _⟩ => ⟨S_, .f32⟩
  | .hbm, ⟨17, _⟩ => ⟨S8192x64, .f32⟩
  | .hbm, ⟨18, _⟩ => ⟨S8192x1x64, .f32⟩
  | .hbm, ⟨19, _⟩ => ⟨S_, .f32⟩
  | .hbm, ⟨20, _⟩ => ⟨S8192x64, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S_, .f32⟩
  | .hbm, ⟨31, _⟩ => ⟨S8192x64, .f32⟩
  | .hbm, ⟨32, _⟩ => ⟨S_, .f32⟩
  | .hbm, ⟨33, _⟩ => ⟨S8192x64, .f32⟩
  | .hbm, ⟨34, _⟩ => ⟨S8192x64, .f32⟩
  | .hbm, ⟨35, _⟩ => ⟨S8192x64, .bf16⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== RopeQX.lean ====
abbrev S8192x384 : Shape := ⟨2, ![8192, 384]⟩
abbrev S384x1536 : Shape := ⟨2, ![384, 1536]⟩
abbrev S8192x32 : Shape := ⟨2, ![8192, 32]⟩
abbrev S8192x8x192 : Shape := ⟨3, ![8192, 8, 192]⟩
abbrev S384x8x192 : Shape := ⟨3, ![384, 8, 192]⟩
abbrev S_ : Shape := ⟨0, ![]⟩
abbrev S384x8x256 : Shape := ⟨3, ![384, 8, 256]⟩
abbrev S384x2048 : Shape := ⟨2, ![384, 2048]⟩
abbrev S384x8x128 : Shape := ⟨3, ![384, 8, 128]⟩
abbrev S384x8x32 : Shape := ⟨3, ![384, 8, 32]⟩
abbrev S8192x1536 : Shape := ⟨2, ![8192, 1536]⟩
abbrev S8192x8x256 : Shape := ⟨3, ![8192, 8, 256]⟩
abbrev S8192x2048 : Shape := ⟨2, ![8192, 2048]⟩
abbrev S8192x64 : Shape := ⟨2, ![8192, 64]⟩
abbrev S8192x128 : Shape := ⟨2, ![8192, 128]⟩
abbrev S8192x256 : Shape := ⟨2, ![8192, 256]⟩
abbrev S1x8192x1x256 : Shape := ⟨4, ![1, 8192, 1, 256]⟩
abbrev S1x8192x4x256 : Shape := ⟨4, ![1, 8192, 4, 256]⟩
abbrev S8192x1024 : Shape := ⟨2, ![8192, 1024]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 47
  | .vmem => 13
  | .smem => 0
  | _ => 0

abbrev bufTy : (tb : Table) → Fin (tcTables nBuf tb) → BufTy
  | .hbm, ⟨0, _⟩ => ⟨S8192x384, .f32⟩
  | .hbm, ⟨1, _⟩ => ⟨S384x1536, .f32⟩
  | .hbm, ⟨2, _⟩ => ⟨S8192x32, .f32⟩
  | .hbm, ⟨3, _⟩ => ⟨S8192x32, .f32⟩
  | .hbm, ⟨4, _⟩ => ⟨S8192x8x192, .f32⟩
  | .hbm, ⟨5, _⟩ => ⟨S384x1536, .bf16⟩
  | .hbm, ⟨6, _⟩ => ⟨S384x8x192, .bf16⟩
  | .hbm, ⟨7, _⟩ => ⟨S384x1536, .bf16⟩
  | .hbm, ⟨8, _⟩ => ⟨S384x8x192, .bf16⟩
  | .hbm, ⟨9, _⟩ => ⟨S_, .i32⟩
  | .hbm, ⟨10, _⟩ => ⟨S_, .bf16⟩
  | .hbm, ⟨11, _⟩ => ⟨S384x8x256, .bf16⟩
  | .hbm, ⟨12, _⟩ => ⟨S384x2048, .bf16⟩
  | .hbm, ⟨13, _⟩ => ⟨S384x8x128, .bf16⟩
  | .hbm, ⟨14, _⟩ => ⟨S_, .bf16⟩
  | .hbm, ⟨15, _⟩ => ⟨S384x8x128, .bf16⟩
  | .hbm, ⟨16, _⟩ => ⟨S384x8x32, .bf16⟩
  | .hbm, ⟨17, _⟩ => ⟨S384x8x32, .bf16⟩
  | .hbm, ⟨18, _⟩ => ⟨S384x8x32, .bf16⟩
  | .hbm, ⟨19, _⟩ => ⟨S384x8x192, .bf16⟩
  | .hbm, ⟨20, _⟩ => ⟨S384x1536, .bf16⟩
  | .hbm, ⟨21, _⟩ => ⟨S384x8x192, .bf16⟩
  | .hbm, ⟨22, _⟩ => ⟨S_, .i32⟩
  | .hbm, ⟨23, _⟩ => ⟨S_, .bf16⟩
  | .hbm, ⟨24, _⟩ => ⟨S384x8x256, .bf16⟩
  | .hbm, ⟨25, _⟩ => ⟨S384x2048, .bf16⟩
  | .hbm, ⟨26, _⟩ => ⟨S8192x1536, .f32⟩
  | .hbm, ⟨27, _⟩ => ⟨S8192x8x192, .f32⟩
  | .hbm, ⟨28, _⟩ => ⟨S_, .i32⟩
  | .hbm, ⟨29, _⟩ => ⟨S_, .f32⟩
  | .hbm, ⟨30, _⟩ => ⟨S8192x8x256, .f32⟩
  | .hbm, ⟨31, _⟩ => ⟨S8192x2048, .f32⟩
  | .hbm, ⟨32, _⟩ => ⟨S_, .f32⟩
  | .hbm, ⟨33, _⟩ => ⟨S8192x64, .f32⟩
  | .hbm, ⟨34, _⟩ => ⟨S_, .f32⟩
  | .hbm, ⟨35, _⟩ => ⟨S8192x128, .f32⟩
  | .hbm, ⟨36, _⟩ => ⟨S8192x256, .f32⟩
  | .hbm, ⟨37, _⟩ => ⟨S_, .f32⟩
  | .hbm, ⟨38, _⟩ => ⟨S8192x128, .f32⟩
  | .hbm, ⟨39, _⟩ => ⟨S8192x256, .f32⟩
  | .hbm, ⟨40, _⟩ => ⟨S1x8192x1x256, .f32⟩
  | .hbm, ⟨41, _⟩ => ⟨S1x8192x4x256, .f32⟩
  | .hbm, ⟨42, _⟩ => ⟨S8192x1024, .f32⟩
  | .hbm, ⟨43, _⟩ => ⟨S1x8192x1x256, .f32⟩
  | .hbm, ⟨44, _⟩ => ⟨S1x8192x4x256, .f32⟩
  | .hbm, ⟨45, _⟩ => ⟨S8192x1024, .f32⟩
  | .hbm, ⟨46, _⟩ => ⟨S8192x384, .f32⟩
  | .local _ .vmem, ⟨0, _⟩ => ⟨S1024x1024, .f32⟩
  | .local _ .vmem, ⟨1, _⟩ => ⟨S1024x1024, .f32⟩
  | .local _ .vmem, ⟨2, _⟩ => ⟨S384x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x384, .f32⟩
  | .local _ .vmem, ⟨11, _⟩ => ⟨S1024x384, .f32⟩
  | .local _ .vmem, ⟨12, _⟩ => ⟨S1024x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v25 : BitVec 1 := Scalar.cmpi .eq arg1 c1_i32
  let v26 : BitVec 32 := Scalar.extui v25
  let c0_i32_14 : BitVec 32 := 0#32
  let v27 : BitVec 1 := Scalar.cmpi .ne v26 c0_i32_14
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RopeQXRefIdeal.lean ====
abbrev S8192x384 : Shape := ⟨2, ![8192, 384]⟩
abbrev S384x1536 : Shape := ⟨2, ![384, 1536]⟩
abbrev S8192x32 : Shape := ⟨2, ![8192, 32]⟩
abbrev S8192x8x192 : Shape := ⟨3, ![8192, 8, 192]⟩
abbrev S8192x1536 : Shape := ⟨2, ![8192, 1536]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8192x8x128 : Shape := ⟨3, ![8192, 8, 128]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1536, .f32⟩
  | .hbm, ⟨2, _⟩ => ⟨S8192x32, .f32⟩
  | .hbm, ⟨3, _⟩ => ⟨S8192x32, .f32⟩
  | .hbm, ⟨4, _⟩ => ⟨S8192x8x192, .f32⟩
  | .hbm, ⟨5, _⟩ => ⟨S8192x1536, .f32⟩
  | .hbm, ⟨6, _⟩ => ⟨S8192x8x192, .f32⟩
  | .hbm, ⟨7, _⟩ => ⟨S8192x8x64, .f32⟩
  | .hbm, ⟨8, _⟩ => ⟨S8192x1x32, .f32⟩
  | .hbm, ⟨9, _⟩ => ⟨S8192x1x32, .f32⟩
  | .hbm, ⟨10, _⟩ => ⟨S8192x8x32, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x32, .f32⟩
  | .hbm, ⟨22, _⟩ => ⟨S8192x8x64, .f32⟩
  | .hbm, ⟨23, _⟩ => ⟨S8192x8x128, .f32⟩
  | .hbm, ⟨24, _⟩ => ⟨S8192x8x192, .f32⟩
  | .hbm, ⟨25, _⟩ => ⟨S_, .f32⟩
  | .hbm, ⟨26, _⟩ => ⟨S8192x8x192, .f32⟩
  | .hbm, ⟨27, _⟩ => ⟨S8192x8x192, .f32⟩
  | .hbm, ⟨28, _⟩ => ⟨S_, .f32⟩
  | .hbm, ⟨29, _⟩ => ⟨S8192x8x192, .f32⟩
  | .hbm, ⟨30, _⟩ => ⟨S8192x8x192, .f32⟩
  | .hbm, ⟨31, _⟩ => ⟨S8192x8x128, .f32⟩
  | .hbm, ⟨32, _⟩ => ⟨S8192x8x64, .f32⟩
  | .hbm, ⟨33, _⟩ => ⟨S_, .f32⟩
  | .hbm, ⟨34, _⟩ => ⟨S8192x8x192, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x32, .f32⟩
  | .hbm, ⟨47, _⟩ => ⟨S8192x8x32, .f32⟩
  | .hbm, ⟨48, _⟩ => ⟨S_, .f32⟩
  | .hbm, ⟨49, _⟩ => ⟨S8192x8x64, .f32⟩
  | .hbm, ⟨50, _⟩ => ⟨S_, .f32⟩
  | .hbm, ⟨51, _⟩ => ⟨S8192x8x64, .f32⟩
  | .hbm, ⟨52, _⟩ => ⟨S8192x8x64, .f32⟩
  | .hbm, ⟨53, _⟩ => ⟨S_, .f32⟩
  | .hbm, ⟨54, _⟩ => ⟨S8192x8x192, .f32⟩
  | .hbm, ⟨55, _⟩ => ⟨S8192x8x192, .f32⟩
  | .hbm, ⟨56, _⟩ => ⟨S8192x1536, .f32⟩
  | .hbm, ⟨57, _⟩ => ⟨S8192x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== RopeQW.lean ====
abbrev S8192x384 : Shape := ⟨2, ![8192, 384]⟩
abbrev S384x1536 : Shape := ⟨2, ![384, 1536]⟩
abbrev S8192x32 : Shape := ⟨2, ![8192, 32]⟩
abbrev S8192x8x192 : Shape := ⟨3, ![8192, 8, 192]⟩
abbrev S8192x1536 : Shape := ⟨2, ![8192, 1536]⟩
abbrev S_ : Shape := ⟨0, ![]⟩
abbrev S8192x8x256 : Shape := ⟨3, ![8192, 8, 256]⟩
abbrev S8192x2048 : Shape := ⟨2, ![8192, 2048]⟩
abbrev S8192x64 : Shape := ⟨2, ![8192, 64]⟩
abbrev S8192x128 : Shape := ⟨2, ![8192, 128]⟩
abbrev S8192x256 : Shape := ⟨2, ![8192, 256]⟩
abbrev S1x8192x1x256 : Shape := ⟨4, ![1, 8192, 1, 256]⟩
abbrev S1x8192x4x256 : Shape := ⟨4, ![1, 8192, 4, 256]⟩
abbrev S8192x1024 : Shape := ⟨2, ![8192, 1024]⟩
abbrev S384x2048 : Shape := ⟨2, ![384, 2048]⟩
abbrev S1024x384 : Shape := ⟨2, ![1024, 384]⟩
abbrev S1024x1024 : Shape := ⟨2, ![1024, 1024]⟩
abbrev S384x1024 : Shape := ⟨2, ![384, 1024]⟩
abbrev S384x8x256 : Shape := ⟨3, ![384, 8, 256]⟩
abbrev S384x8x192 : Shape := ⟨3, ![384, 8, 192]⟩
abbrev S384x8x128 : Shape := ⟨3, ![384, 8, 128]⟩
abbrev S384x8x32 : Shape := ⟨3, ![384, 8, 32]⟩

abbrev nBuf : Space → Nat
  | .hbm => 44
  | .vmem => 14
  | .smem => 0
  | _ => 0

abbrev bufTy : (tb : Table) → Fin (tcTables nBuf tb) → BufTy
  | .hbm, ⟨0, _⟩ => ⟨S8192x384, .f32⟩
  | .hbm, ⟨1, _⟩ => ⟨S384x1536, .f32⟩
  | .hbm, ⟨2, _⟩ => ⟨S8192x32, .f32⟩
  | .hbm, ⟨3, _⟩ => ⟨S8192x32, .f32⟩
  | .hbm, ⟨4, _⟩ => ⟨S8192x8x192, .f32⟩
  | .hbm, ⟨5, _⟩ => ⟨S8192x1536, .f32⟩
  | .hbm, ⟨6, _⟩ => ⟨S8192x8x192, .f32⟩
  | .hbm, ⟨7, _⟩ => ⟨S_, .i32⟩
  | .hbm, ⟨8, _⟩ => ⟨S_, .f32⟩
  | .hbm, ⟨9, _⟩ => ⟨S8192x8x256, .f32⟩
  | .hbm, ⟨10, _⟩ => ⟨S8192x2048, .f32⟩
  | .hbm, ⟨11, _⟩ => ⟨S8192x384, .bf16⟩
  | .hbm, ⟨12, _⟩ => ⟨S_, .f32⟩
  | .hbm, ⟨13, _⟩ => ⟨S8192x64, .f32⟩
  | .hbm, ⟨14, _⟩ => ⟨S_, .f32⟩
  | .hbm, ⟨15, _⟩ => ⟨S8192x128, .f32⟩
  | .hbm, ⟨16, _⟩ => ⟨S8192x256, .f32⟩
  | .hbm, ⟨17, _⟩ => ⟨S_, .f32⟩
  | .hbm, ⟨18, _⟩ => ⟨S8192x128, .f32⟩
  | .hbm, ⟨19, _⟩ => ⟨S8192x256, .f32⟩
  | .hbm, ⟨20, _⟩ => ⟨S1x8192x1x256, .f32⟩
  | .hbm, ⟨21, _⟩ => ⟨S1x8192x4x256, .f32⟩
  | .hbm, ⟨22, _⟩ => ⟨S8192x1024, .f32⟩
  | .hbm, ⟨23, _⟩ => ⟨S1x8192x1x256, .f32⟩
  | .hbm, ⟨24, _⟩ => ⟨S1x8192x4x256, .f32⟩
  | .hbm, ⟨25, _⟩ => ⟨S8192x1024, .f32⟩
  | .hbm, ⟨26, _⟩ => ⟨S384x2048, .f32⟩
  | .hbm, ⟨27, _⟩ => ⟨S384x2048, .f32⟩
  | .hbm, ⟨28, _⟩ => ⟨S384x8x256, .f32⟩
  | .hbm, ⟨29, _⟩ => ⟨S384x8x192, .f32⟩
  | .hbm, ⟨30, _⟩ => ⟨S384x1536, .f32⟩
  | .hbm, ⟨31, _⟩ => ⟨S384x8x192, .f32⟩
  | .hbm, ⟨32, _⟩ => ⟨S384x8x256, .f32⟩
  | .hbm, ⟨33, _⟩ => ⟨S384x8x192, .f32⟩
  | .hbm, ⟨34, _⟩ => ⟨S384x1536, .f32⟩
  | .hbm, ⟨35, _⟩ => ⟨S384x8x192, .f32⟩
  | .hbm, ⟨36, _⟩ => ⟨S384x8x128, .f32⟩
  | .hbm, ⟨37, _⟩ => ⟨S384x8x32, .f32⟩
  | .hbm, ⟨38, _⟩ => ⟨S384x8x32, .f32⟩
  | .hbm, ⟨39, _⟩ => ⟨S384x8x32, .f32⟩
  | .hbm, ⟨40, _⟩ => ⟨S384x8x32, .f32⟩
  | .hbm, ⟨41, _⟩ => ⟨S384x8x32, .f32⟩
  | .hbm, ⟨42, _⟩ => ⟨S384x8x32, .f32⟩
  | .hbm, ⟨43, _⟩ => ⟨S384x8x192, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RopeQWRefIdeal.lean ====
abbrev S8192x384 : Shape := ⟨2, ![8192, 384]⟩
abbrev S384x1536 : Shape := ⟨2, ![384, 1536]⟩
abbrev S8192x32 : Shape := ⟨2, ![8192, 32]⟩
abbrev S8192x8x192 : Shape := ⟨3, ![8192, 8, 192]⟩
abbrev S8192x1536 : Shape := ⟨2, ![8192, 1536]⟩
abbrev S8192x8x64 : Shape := ⟨3, ![8192, 8, 64]⟩
abbrev S8192x1x32 : Shape := ⟨3, ![8192, 1, 32]⟩
abbrev S8192x8x32 : Shape := ⟨3, ![8192, 8, 32]⟩
abbrev S8192x8x128 : Shape := ⟨3, ![8192, 8, 128]⟩
abbrev S_ : Shape := ⟨0, ![]⟩
abbrev S1536x384 : Shape := ⟨2, ![1536, 384]⟩
abbrev S384x8x192 : Shape := ⟨3, ![384, 8, 192]⟩

abbrev nBuf : Space → Nat
  | .hbm => 60
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384x1536, .f32⟩
  | .hbm, ⟨2, _⟩ => ⟨S8192x32, .f32⟩
  | .hbm, ⟨3, _⟩ => ⟨S8192x32, .f32⟩
  | .hbm, ⟨4, _⟩ => ⟨S8192x8x192, .f32⟩
  | .hbm, ⟨5, _⟩ => ⟨S8192x1536, .f32⟩
  | .hbm, ⟨6, _⟩ => ⟨S8192x8x192, .f32⟩
  | .hbm, ⟨7, _⟩ => ⟨S8192x8x64, .f32⟩
  | .hbm, ⟨8, _⟩ => ⟨S8192x1x32, .f32⟩
  | .hbm, ⟨9, _⟩ => ⟨S8192x1x32, .f32⟩
  | .hbm, ⟨10, _⟩ => ⟨S8192x8x32, .f32⟩
  | .hbm, ⟨11, _⟩ => ⟨S8192x8x32, .f32⟩
  | .hbm, ⟨12, _⟩ => ⟨S8192x8x32, .f32⟩
  | .hbm, ⟨13, _⟩ => ⟨S8192x8x32, .f32⟩
  | .hbm, ⟨14, _⟩ => ⟨S8192x8x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x32, .f32⟩
  | .hbm, ⟨22, _⟩ => ⟨S8192x8x64, .f32⟩
  | .hbm, ⟨23, _⟩ => ⟨S8192x8x128, .f32⟩
  | .hbm, ⟨24, _⟩ => ⟨S8192x8x192, .f32⟩
  | .hbm, ⟨25, _⟩ => ⟨S_, .f32⟩
  | .hbm, ⟨26, _⟩ => ⟨S8192x8x192, .f32⟩
  | .hbm, ⟨27, _⟩ => ⟨S8192x8x192, .f32⟩
  | .hbm, ⟨28, _⟩ => ⟨S_, .f32⟩
  | .hbm, ⟨29, _⟩ => ⟨S8192x8x192, .f32⟩
  | .hbm, ⟨30, _⟩ => ⟨S8192x8x192, .f32⟩
  | .hbm, ⟨31, _⟩ => ⟨S8192x8x128, .f32⟩
  | .hbm, ⟨32, _⟩ => ⟨S8192x8x64, .f32⟩
  | .hbm, ⟨33, _⟩ => ⟨S_, .f32⟩
  | .hbm, ⟨34, _⟩ => ⟨S8192x8x192, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x32, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x32, .f32⟩
  | .hbm, ⟨47, _⟩ => ⟨S8192x8x32, .f32⟩
  | .hbm, ⟨48, _⟩ => ⟨S_, .f32⟩
  | .hbm, ⟨49, _⟩ => ⟨S8192x8x64, .f32⟩
  | .hbm, ⟨50, _⟩ => ⟨S_, .f32⟩
  | .hbm, ⟨51, _⟩ => ⟨S8192x8x64, .f32⟩
  | .hbm, ⟨52, _⟩ => ⟨S8192x8x64, .f32⟩
  | .hbm, ⟨53, _⟩ => ⟨S_, .f32⟩
  | .hbm, ⟨54, _⟩ => ⟨S8192x8x192, .f32⟩
  | .hbm, ⟨55, _⟩ => ⟨S8192x8x192, .f32⟩
  | .hbm, ⟨56, _⟩ => ⟨S8192x1536, .f32⟩
  | .hbm, ⟨57, _⟩ => ⟨S1536x384, .f32⟩
  | .hbm, ⟨58, _⟩ => ⟨S384x1536, .f32⟩
  | .hbm, ⟨59, _⟩ => ⟨S384x8x192, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== NormQ.lean ====
abbrev S8192x384 : Shape := ⟨2, ![8192, 384]⟩
abbrev S384 : Shape := ⟨1, ![384]⟩
abbrev S1x384 : Shape := ⟨2, ![1, 384]⟩
abbrev S512x384 : Shape := ⟨2, ![512, 384]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S1x384, .f32⟩
  | .hbm, ⟨4, _⟩ => ⟨S8192x384, .f32⟩
  | .hbm, ⟨5, _⟩ => ⟨S8192x384, .bf16⟩
  | .hbm, ⟨6, _⟩ => ⟨S1x384, .f32⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .bf16⟩
  | .local _ .vmem, ⟨8, _⟩ => ⟨S512x384, .bf16⟩
  | .local _ .vmem, ⟨9, _⟩ => ⟨S1x384, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormQRefIdeal.lean ====
abbrev S8192x384 : Shape := ⟨2, ![8192, 384]⟩
abbrev S384 : Shape := ⟨1, ![384]⟩
abbrev S_ : Shape := ⟨0, ![]⟩
abbrev S8192 : Shape := ⟨1, ![8192]⟩
abbrev S8192x1 : Shape := ⟨2, ![8192, 1]⟩
abbrev S1x384 : Shape := ⟨2, ![1, 384]⟩

abbrev nBuf : Space → Nat
  | .hbm => 50
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S384, .f32⟩
  | .hbm, ⟨2, _⟩ => ⟨S8192x384, .f32⟩
  | .hbm, ⟨3, _⟩ => ⟨S8192x384, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x384, .f32⟩
  | .hbm, ⟨19, _⟩ => ⟨S8192x384, .f32⟩
  | .hbm, ⟨20, _⟩ => ⟨S1x384, .f32⟩
  | .hbm, ⟨21, _⟩ => ⟨S8192x384, .f32⟩
  | .hbm, ⟨22, _⟩ => ⟨S8192x384, .f32⟩
  | .hbm, ⟨23, _⟩ => ⟨S8192x384, .f32⟩
  | .hbm, ⟨24, _⟩ => ⟨S_, .f32⟩
  | .hbm, ⟨25, _⟩ => ⟨S384, .f32⟩
  | .hbm, ⟨26, _⟩ => ⟨S1x384, .f32⟩
  | .hbm, ⟨27, _⟩ => ⟨S8192x384, .f32⟩
  | .hbm, ⟨28, _⟩ => ⟨S8192x384, .f32⟩
  | .hbm, ⟨29, _⟩ => ⟨S_, .f32⟩
  | .hbm, ⟨30, _⟩ => ⟨S384, .f32⟩
  | .hbm, ⟨31, _⟩ => ⟨S8192x384, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x384, .f32⟩
  | .hbm, ⟨36, _⟩ => ⟨S8192x384, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x384, .f32⟩
  | .hbm, ⟨44, _⟩ => ⟨S8192x384, .f32⟩
  | .hbm, ⟨45, _⟩ => ⟨S8192x384, .f32⟩
  | .hbm, ⟨46, _⟩ => ⟨S8192x384, .f32⟩
  | .hbm, ⟨47, _⟩ => ⟨S8192x384, .f32⟩
  | .hbm, ⟨48, _⟩ => ⟨S8192x384, .bf16⟩
  | .hbm, ⟨49, _⟩ => ⟨S1x384, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== FoxCtx.lean ====
abbrev S8192x16x64 : Shape := ⟨3, ![8192, 16, 64]⟩
abbrev S8192x16 : Shape := ⟨2, ![8192, 16]⟩
abbrev S1024x1024 : Shape := ⟨2, ![1024, 1024]⟩
abbrev S8192x1024 : Shape := ⟨2, ![8192, 1024]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩
abbrev S8192x16x128 : Shape := ⟨3, ![8192, 16, 128]⟩
abbrev S8192x2048 : Shape := ⟨2, ![8192, 2048]⟩
abbrev S16x64x1024 : Shape := ⟨3, ![16, 64, 1024]⟩
abbrev S16x128x1024 : Shape := ⟨3, ![16, 128, 1024]⟩
abbrev S2048x1024 : Shape := ⟨2, ![2048, 1024]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩
abbrev S8192x16x3 : Shape := ⟨3, ![8192, 16, 3]⟩

abbrev nBuf : Space → Nat
  | .hbm => 66
  | .vmem => 7
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S1024x1024, .f32⟩
  | .hbm, ⟨5, _⟩ => ⟨S8192x1024, .f32⟩
  | .hbm, ⟨6, _⟩ => ⟨S16x8192, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S16x8192, .f32⟩
  | .hbm, ⟨12, _⟩ => ⟨S16x8192x1, .f32⟩
  | .hbm, ⟨13, _⟩ => ⟨S16x8192x8192, .f32⟩
  | .hbm, ⟨14, _⟩ => ⟨S16x8192x8192, .f32⟩
  | .hbm, ⟨15, _⟩ => ⟨S16x1x8192, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S_, .f32⟩
  | .hbm, ⟨32, _⟩ => ⟨S16x8192, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S16x8192x1, .f32⟩
  | .hbm, ⟨41, _⟩ => ⟨S16x8192x8192, .f32⟩
  | .hbm, ⟨42, _⟩ => ⟨S16x8192x8192, .f32⟩
  | .hbm, ⟨43, _⟩ => ⟨S16x64x8192, .f32⟩
  | .hbm, ⟨44, _⟩ => ⟨S8192x16x64, .f32⟩
  | .hbm, ⟨45, _⟩ => ⟨S8192x1024, .f32⟩
  | .hbm, ⟨46, _⟩ => ⟨S8192x1024, .bf16⟩
  | .hbm, ⟨47, _⟩ => ⟨S8192x16x64, .bf16⟩
  | .hbm, ⟨48, _⟩ => ⟨S_, .i32⟩
  | .hbm, ⟨49, _⟩ => ⟨S_, .bf16⟩
  | .hbm, ⟨50, _⟩ => ⟨S8192x16x128, .bf16⟩
  | .hbm, ⟨51, _⟩ => ⟨S8192x2048, .bf16⟩
  | .hbm, ⟨52, _⟩ => ⟨S8192x1024, .bf16⟩
  | .hbm, ⟨53, _⟩ => ⟨S1024x1024, .bf16⟩
  | .hbm, ⟨54, _⟩ => ⟨S16x64x1024, .bf16⟩
  | .hbm, ⟨55, _⟩ => ⟨S_, .i32⟩
  | .hbm, ⟨56, _⟩ => ⟨S_, .bf16⟩
  | .hbm, ⟨57, _⟩ => ⟨S16x128x1024, .bf16⟩
  | .hbm, ⟨58, _⟩ => ⟨S2048x1024, .bf16⟩
  | .hbm, ⟨59, _⟩ => ⟨S8192x2048, .bf16⟩
  | .hbm, ⟨60, _⟩ => ⟨S8192x16x128, .bf16⟩
  | .hbm, ⟨61, _⟩ => ⟨S8192x16x64, .bf16⟩
  | .hbm, ⟨62, _⟩ => ⟨S8192x16x3, .bf16⟩
  | .hbm, ⟨63, _⟩ => ⟨S8192x16x3, .f32⟩
  | .hbm, ⟨64, _⟩ => ⟨S_, .f32⟩
  | .hbm, ⟨65, _⟩ => ⟨S8192x16, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call1_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_call2_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FoxCtxRefIdeal.lean ====
abbrev S8192x16x64 : Shape := ⟨3, ![8192, 16, 64]⟩
abbrev S8192x16 : Shape := ⟨2, ![8192, 16]⟩
abbrev S1024x1024 : Shape := ⟨2, ![1024, 1024]⟩
abbrev S8192x1024 : Shape := ⟨2, ![8192, 1024]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S1024x1024, .f32⟩
  | .hbm, ⟨5, _⟩ => ⟨S8192x1024, .f32⟩
  | .hbm, ⟨6, _⟩ => ⟨S16x8192, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S16x8192, .f32⟩
  | .hbm, ⟨12, _⟩ => ⟨S16x8192x1, .f32⟩
  | .hbm, ⟨13, _⟩ => ⟨S16x8192x8192, .f32⟩
  | .hbm, ⟨14, _⟩ => ⟨S16x8192x8192, .f32⟩
  | .hbm, ⟨15, _⟩ => ⟨S16x1x8192, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S_, .f32⟩
  | .hbm, ⟨32, _⟩ => ⟨S16x8192, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S16x8192x1, .f32⟩
  | .hbm, ⟨41, _⟩ => ⟨S16x8192x8192, .f32⟩
  | .hbm, ⟨42, _⟩ => ⟨S16x8192x8192, .f32⟩
  | .hbm, ⟨43, _⟩ => ⟨S16x64x8192, .f32⟩
  | .hbm, ⟨44, _⟩ => ⟨S8192x16x64, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x16x64, .f32⟩
  | .hbm, ⟨49, _⟩ => ⟨S8192x16x64, .bf16⟩
  | .hbm, ⟨50, _⟩ => ⟨S8192x16x64, .f32⟩
  | .hbm, ⟨51, _⟩ => ⟨S_, .f32⟩
  | .hbm, ⟨52, _⟩ => ⟨S8192x16, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.NormBlock.lean ====
/- What a grid point of the norm's gradient leaves in its three output windows, as functions of its input blocks. -/
module

public import proofs.«01_k».proof.Proof.Gen.NormIdeal.Value
public import Idealize.ShloMosaic.Lib.Pointwise

@[expose] public section

set_option maxRecDepth 16384

noncomputable section

namespace Cert.NormBlock

open Cert.NormIdeal Cert.NormIdeal.Gen Idealize.ShloMosaic Idealize.ShloMosaic.TcCoe Idealize.SL.Sem

variable {F : FTy → Type} [FloatOps F]

theorem hz : (![0, 0] : Fin 2 → Nat) = fun _ => 0 := by decide

section
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 : Vec F S512x1024 .f32) (x1 : Vec F S1x1024 .f32) (x2 x3 : Vec F S512x1024 .f32) (x6 : Vec F S1x1024 .f32)

theorem dx_A (hc) : out0_A_4 c i a1 h1 a2 h2 a3 h3 a4 h4 a5 h5 a6 h6 a7 h7 hc x0 x1 x2 x3 = k0_pay5 x0 x3 x2 x1 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero (S := S512x1024) hz]
  simp only [View.readAt_eq_ld, h1.read_unread, h2.read_unread, h3.read_unread, h4.read_unread,
    View.ld_unit_zero (S := S512x1024) hz, View.ld_unit_zero (S := S1x1024) hz]

theorem dx_B (hc) : out0_B_4 c i a1 h1 a2 h2 a3 h3 a4 h4 a5 h5 a6 h6 a7 h7 hc x0 x1 x2 x3 x6 = k0_pay5 x0 x3 x2 x1 := by
  unfold out0_B_4
  rw [View.read_writes_eq_canon _ _ _ (cover0_B_4 c i a1 h1 a2 h2 a3 h3 a4 h4 a5 h5 a6 h6 a7 h7 hc x0 x1 x2 x3 x6)]
  unfold kernelRun0_B
  dsimp only
  sl_unfold_words
  rw [View.canon_unit_zero (S := S512x1024) hz]
  simp only [View.readAt_eq_ld, h1.read_unread, h2.read_unread, h3.read_unread, h4.read_unread,
    View.ld_unit_zero (S := S512x1024) hz, View.ld_unit_zero (S := S1x1024) hz]

theorem lo_A (hc) : out0_A_5 c i a1 h1 a2 h2 a3 h3 a4 h4 a5 h5 a6 h6 a7 h7 hc x0 x1 x2 x3 = k0_pay1 (k0_pay5 x0 x3 x2 x1) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero (S := S512x1024) hz]
  simp only [View.readAt_eq_ld, h1.read_unread, h2.read_unread, h3.read_unread, h4.read_unread,
    View.ld_unit_zero (S := S512x1024) hz, View.ld_unit_zero (S := S1x1024) hz]

theorem lo_B (hc) : out0_B_5 c i a1 h1 a2 h2 a3 h3 a4 h4 a5 h5 a6 h6 a7 h7 hc x0 x1 x2 x3 x6 = k0_pay1 (k0_pay5 x0 x3 x2 x1) := by
  unfold out0_B_5
  rw [View.read_writes_eq_canon _ _ _ (cover0_B_5 c i a1 h1 a2 h2 a3 h3 a4 h4 a5 h5 a6 h6 a7 h7 hc x0 x1 x2 x3 x6)]
  unfold kernelRun0_B
  dsimp only
  sl_unfold_words
  rw [View.canon_unit_zero (S := S512x1024) hz]
  simp only [View.readAt_eq_ld, h1.read_unread, h2.read_unread, h3.read_unread, h4.read_unread,
    View.ld_unit_zero (S := S512x1024) hz, View.ld_unit_zero (S := S1x1024) hz]

theorem dg_A (hc) : out0_A_6 c i a1 h1 a2 h2 a3 h3 a4 h4 a5 h5 a6 h6 a7 h7 hc x0 x1 x2 x3 = k0_pay6 x0 x2 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S512x1024) hz, View.ld_unit_zero (S := S1x1024) hz]

theorem dg_B (hc) : out0_B_6 c i a1 h1 a2 h2 a3 h3 a4 h4 a5 h5 a6 h6 a7 h7 hc x0 x1 x2 x3 x6 = k0_pay6 x0 x2 x6 := by
  unfold out0_B_6
  rw [View.read_writes_eq_canon _ _ _ (cover0_B_6 c i a1 h1 a2 h2 a3 h3 a4 h4 a5 h5 a6 h6 a7 h7 hc x0 x1 x2 x3 x6)]
  unfold kernelRun0_B
  dsimp only
  sl_unfold_words
  rw [View.canon_unit_zero (S := S1x1024) hz]
  simp only [View.readAt_eq_ld, h1.read_unread, h2.read_unread, h3.read_unread, h4.read_unread, h7.read_unread,
    View.ld_unit_zero (S := S512x1024) hz, View.ld_unit_zero (S := S1x1024) hz]

end

/-! ## The payloads at an index, over the extended reals -/

section
variable (x0 x2 x3 : Vec Ideal S512x1024 .f32) (x1 x6 : Vec Ideal S1x1024 .f32)

/-- The reciprocal root of a row's mean square, from the row's sum of squares. -/
def rstd (s : EReal) : EReal := Ideal.rsqrt (Ideal.div s (Ideal.ofBits .f32 0x44800000#32) + Ideal.ofBits .f32 0x358637BD#32)

/-- One entry of the input gradient, from its row `x`, the gain, the row of the cotangent and the residual's entry. -/
def dxRow (x g ct : Fin 1024 → EReal) (r : EReal) (j : Fin 1024) : EReal :=
  r + rstd (∑ k, x k * x k) * (ct j * g j - x j * rstd (∑ k, x k * x k)
    * Ideal.div (∑ k, ct k * g k * (x k * rstd (∑ k, x k * x k))) (Ideal.ofBits .f32 0x44800000#32))

theorem pay5_apply (p : Fin 512) (q : Fin 1024) : k0_pay5 x0 x3 x2 x1 (ix2 p q)
    = dxRow (fun k => x0 (ix2 p k)) (fun k => x1 (ix2 0 k)) (fun k => x2 (ix2 p k)) (x3 (ix2 p q)) q := by
  unfold k0_pay5 k0_pay4 k0_pay3
  pointwise
  rfl

theorem pay1_apply (y : FVec Ideal S512x1024 .f32) (j : S512x1024.Idx) : k0_pay1 y j = y j := rfl

theorem pay2_apply (j : S1x1024.Idx) : k0_pay2 (F := Ideal) j = 0 := by
  unfold k0_pay2
  idx_vars j
  pointwise
  try simp

theorem pay6_apply (q : Fin 1024) : k0_pay6 x0 x2 x6 (ix2 0 q)
    = x6 (ix2 0 q) + ∑ p, x2 (ix2 p q) * (x0 (ix2 p q) * rstd (∑ k, x0 (ix2 p k) * x0 (ix2 p k))) := by
  unfold k0_pay6 k0_pay4 k0_pay3
  pointwise
  rfl

end

end Cert.NormBlock

end
-- ==== Proof.NormValue.lean ====
/- The three result arrays of the norm's gradient as functions of its arguments. -/
module

public import proofs.«01_k».proof.Proof.NormBlock

@[expose] public section

set_option maxRecDepth 16384

noncomputable section

namespace Cert.NormBlock

open Cert.NormIdeal Cert.NormIdeal.Gen Idealize.ShloMosaic Idealize.ShloMosaic.TcCoe Idealize.SL.Sem

variable (m : (ℓ : Loc nD τ sig) → Buf (Elt Ideal) ℓ) (ρ : Dev nD → PrngReg)

abbrev X (c : Dev nD) : S8192x1024.Idx → EReal := m ((c : Thread nD τ).loc main_arg0)
abbrev G (c : Dev nD) : S1024.Idx → EReal := m ((c : Thread nD τ).loc main_arg1)
abbrev CT (c : Dev nD) : S8192x1024.Idx → EReal := m ((c : Thread nD τ).loc main_arg2)
abbrev R (c : Dev nD) : S8192x1024.Idx → EReal := m ((c : Thread nD τ).loc main_arg3)

theorem V_gain (c : Dev nD) (k : Fin 1024) : V m c main_v0 (ix2 0 k) = G m c (ix1 k) := by
  have h : V m c main_v0 = broadcastInDim S1x1024 ![1] bcast_S1024_S1x1024_1 (G m c) := by
    show StableHlo.after hostOps0 (fun b => m (c, b)) main_v0 = _
    after_results_simp <;> rfl
  rw [h]
  pointwise

theorem idx_row : ∀ t : Fin cfg0.N, win0_0.index t 0 = t.val ∧ win0_0.index t 1 = 0 ∧ win0_2.index t 0 = t.val ∧ win0_2.index t 1 = 0
    ∧ win0_3.index t 0 = t.val ∧ win0_3.index t 1 = 0 ∧ win0_4.index t 0 = t.val ∧ win0_4.index t 1 = 0
    ∧ win0_5.index t 0 = t.val ∧ win0_5.index t 1 = 0 ∧ win0_1.index t 0 = 0 ∧ win0_1.index t 1 = 0
    ∧ win0_6.index t 0 = 0 ∧ win0_6.index t 1 = 0 := by
  show ∀ t : Fin grid0.N, _
  decide +kernel

/-- Row `p` of block `t`. -/
def row (t : Fin cfg0.N) (p : Fin 512) : Fin 8192 := ⟨512 * t.val + p.val, by have : cfg0.N = 16 := N_0; have := t.isLt; have := p.isLt; omega⟩

theorem blk_x (c : Dev nD) (t : Fin cfg0.N) (p : Fin 512) (q : Fin 1024) :
    (iblk m c 0 t : Vec Ideal S512x1024 .f32) (ix2 p q) = X m c (ix2 (row t p) q) := by
  have h := idx_row t
  unfold iblk
  rw [View.read_apply]
  show V m c main_arg0 _ = _
  rw [V_main_arg0]
  congr 1
  funext a
  apply Fin.ext
  match a with
  | ⟨0, _⟩ => show win0_0.index t 0 * 512 + 1 * p.val = 512 * t.val + p.val; rw [h.1]; omega
  | ⟨1, _⟩ => show win0_0.index t 1 * 1024 + 1 * q.val = q.val; rw [h.2.1]; omega

theorem blk_ct (c : Dev nD) (t : Fin cfg0.N) (p : Fin 512) (q : Fin 1024) :
    (iblk m c 2 t : Vec Ideal S512x1024 .f32) (ix2 p q) = CT m c (ix2 (row t p) q) := by
  have h := idx_row t
  unfold iblk
  rw [View.read_apply]
  show V m c main_arg2 _ = _
  rw [V_main_arg2]
  congr 1
  funext a
  apply Fin.ext
  match a with
  | ⟨0, _⟩ => show win0_2.index t 0 * 512 + 1 * p.val = 512 * t.val + p.val; rw [h.2.2.1]; omega
  | ⟨1, _⟩ => show win0_2.index t 1 * 1024 + 1 * q.val = q.val; rw [h.2.2.2.1]; omega

theorem blk_r (c : Dev nD) (t : Fin cfg0.N) (p : Fin 512) (q : Fin 1024) :
    (iblk m c 3 t : Vec Ideal S512x1024 .f32) (ix2 p q) = R m c (ix2 (row t p) q) := by
  have h := idx_row t
  unfold iblk
  rw [View.read_apply]
  show V m c main_arg3 _ = _
  rw [V_main_arg3]
  congr 1
  funext a
  apply Fin.ext
  match a with
  | ⟨0, _⟩ => show win0_3.index t 0 * 512 + 1 * p.val = 512 * t.val + p.val; rw [h.2.2.2.2.1]; omega
  | ⟨1, _⟩ => show win0_3.index t 1 * 1024 + 1 * q.val = q.val; rw [h.2.2.2.2.2.1]; omega

theorem blk_g (c : Dev nD) (t : Fin cfg0.N) (k : Fin 1024) :
    (iblk m c 1 t : Vec Ideal S1x1024 .f32) (ix2 0 k) = G m c (ix1 k) := by
  have h := idx_row t
  rw [← V_gain]
  unfold iblk
  rw [View.read_apply]
  show V m c main_v0 _ = _
  congr 1
  funext a
  apply Fin.ext
  match a with
  | ⟨0, _⟩ => show win0_1.index t 0 * 1 + 1 * 0 = 0; rw [h.2.2.2.2.2.2.2.2.2.2.1]
  | ⟨1, _⟩ => show win0_1.index t 1 * 1024 + 1 * k.val = k.val; rw [h.2.2.2.2.2.2.2.2.2.2.2.1]; omega

/-- The input's gradient, added to the residual stream's. -/
def dxArr (c : Dev nD) : S8192x1024.Idx → EReal := fun i =>
  dxRow (fun k => X m c (ix2 (i 0) k)) (fun k => G m c (ix1 k)) (fun k => CT m c (ix2 (i 0) k)) (R m c i) (i 1)

/-- Row `r`'s part of the gain's gradient. -/
def dgTerm (c : Dev nD) (q : Fin 1024) (r : Fin 8192) : EReal :=
  CT m c (ix2 r q) * (X m c (ix2 r q) * rstd (∑ k, X m c (ix2 r k) * X m c (ix2 r k)))

/-- The gain's gradient. -/
def dgArr (c : Dev nD) : S1x1024.Idx → EReal := fun i => ∑ r, dgTerm m c (i 1) r

theorem outs_dx (c : Dev nD) (t : Fin cfg0.N) :
    (outsAt0 m c t.val t.isLt).1 = k0_pay5 (iblk m c 0 t) (iblk m c 3 t) (iblk m c 2 t) (iblk m c 1 t) := by
  by_cases h0 : t.val % 16 = 0
  · rw [outsAt0_A m c t h0]; dsimp only; rw [dx_A]
  · rw [outsAt0_B m c t h0]; dsimp only; rw [dx_B]

theorem outs_lo (c : Dev nD) (t : Fin cfg0.N) :
    (outsAt0 m c t.val t.isLt).2.1 = k0_pay1 (k0_pay5 (iblk m c 0 t) (iblk m c 3 t) (iblk m c 2 t) (iblk m c 1 t)) := by
  by_cases h0 : t.val % 16 = 0
  · rw [outsAt0_A m c t h0]; dsimp only; rw [lo_A]
  · rw [outsAt0_B m c t h0]; dsimp only; rw [lo_B]

theorem block_dx (c : Dev nD) (t : Fin cfg0.N) (p : Fin 512) (q : Fin 1024) :
    k0_pay5 (iblk m c 0 t) (iblk m c 3 t) (iblk m c 2 t) (iblk m c 1 t) (ix2 p q) = dxArr m c (ix2 (row t p) q) := by
  rw [pay5_apply]
  simp only [blk_x, blk_ct, blk_r, blk_g]
  rfl

theorem final_dx (c : Dev nD) : (dats m 0 c).arrAt 4 cfg0.N = dxArr m c :=
  (dats m 0 c).arrAt_eq_of_cover 4 (dxArr m c) (fun t _ => by
    rw [Value.flushed4, outs_dx]
    funext j
    obtain ⟨p, q, rfl⟩ : ∃ (p : Fin 512) (q : Fin 1024), j = ix2 p q := ⟨j 0, j 1, eq_ix2 j⟩
    have h := idx_row t
    rw [View.read_apply]
    refine (block_dx m c t p q).trans (congrArg (dxArr m c) ?_)
    funext a
    apply Fin.ext
    match a with
    | ⟨0, _⟩ => show 512 * t.val + p.val = win0_4.index t 0 * 512 + 1 * p.val; rw [h.2.2.2.2.2.2.1]; omega
    | ⟨1, _⟩ => show q.val = win0_4.index t 1 * 1024 + 1 * q.val; rw [h.2.2.2.2.2.2.2.1]; omega)
  fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    have h := idx_row t
    refine ⟨t, flush0_4 t, ?_⟩
    show i ∈ ((View.whole main_v1_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [h.2.2.2.2.2.2.1]; dsimp only [t]; omega
    | ⟨1, _⟩ => show win0_4.index t 1 * 1024 ≤ (i 1 : Nat) ∧ (i 1 : Nat) < win0_4.index t 1 * 1024 + 1024
                rw [h.2.2.2.2.2.2.2.1]; omega

theorem final_lo (c : Dev nD) : (dats m 0 c).arrAt 5 cfg0.N = dxArr m c :=
  (dats m 0 c).arrAt_eq_of_cover 5 (dxArr m c) (fun t _ => by
    rw [Value.flushed5, outs_lo]
    funext j
    obtain ⟨p, q, rfl⟩ : ∃ (p : Fin 512) (q : Fin 1024), j = ix2 p q := ⟨j 0, j 1, eq_ix2 j⟩
    have h := idx_row t
    rw [View.read_apply]
    refine (block_dx m c t p q).trans (congrArg (dxArr m c) ?_)
    funext a
    apply Fin.ext
    match a with
    | ⟨0, _⟩ => show 512 * t.val + p.val = win0_5.index t 0 * 512 + 1 * p.val; rw [h.2.2.2.2.2.2.2.2.1]; omega
    | ⟨1, _⟩ => show q.val = win0_5.index t 1 * 1024 + 1 * q.val; rw [h.2.2.2.2.2.2.2.2.2.1]; omega)
  fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    have h := idx_row t
    refine ⟨t, flush0_5 t, ?_⟩
    show i ∈ ((View.whole main_v1_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [h.2.2.2.2.2.2.2.2.1]; dsimp only [t]; omega
    | ⟨1, _⟩ => show win0_5.index t 1 * 1024 ≤ (i 1 : Nat) ∧ (i 1 : Nat) < win0_5.index t 1 * 1024 + 1024
                rw [h.2.2.2.2.2.2.2.2.2.1]; omega

/-- The rows' parts by number. -/
def dgNat (c : Dev nD) (q : Fin 1024) (r : ℕ) : EReal := if h : r < 8192 then dgTerm m c q ⟨r, h⟩ else 0

theorem block_dg (c : Dev nD) (t : Fin cfg0.N) (x6 : Vec Ideal S1x1024 .f32) (q : Fin 1024) :
    k0_pay6 (iblk m c 0 t) (iblk m c 2 t) x6 (ix2 0 q)
      = x6 (ix2 0 q) + ∑ p ∈ Finset.range 512, dgNat m c q (512 * t.val + p) := by
  rw [pay6_apply, Finset.sum_range]
  congr 1
  refine Finset.sum_congr rfl fun p _ => ?_
  have hr := (row t p).isLt
  have e : dgNat m c q (512 * t.val + p.val) = dgTerm m c q (row t p) := dif_pos hr
  rw [e]
  simp only [blk_x, blk_ct]
  rfl

/-- What the gain's window holds after point `n`: the rows so far. -/
theorem outs_dg (c : Dev nD) (q : Fin 1024) : ∀ (n : ℕ) (h : n < cfg0.N),
    (outsAt0 m c n h).2.2 (ix2 0 q) = ∑ r ∈ Finset.range (512 * (n + 1)), dgNat m c q r
  | 0, h => by
    have e := outsAt0_A m c ⟨0, h⟩ rfl
    dsimp only at e
    rw [e]
    dsimp only
    rw [dg_A, block_dg, pay2_apply, zero_add]
    simp
  | n + 1, h => by
    have hN : cfg0.N = 16 := N_0
    have hB : ¬(⟨n + 1, h⟩ : Fin cfg0.N).val % 16 = 0 := by dsimp only; omega
    have e := outsAt0_B m c ⟨n + 1, h⟩ hB
    dsimp only at e
    rw [e]
    dsimp only
    rw [dg_B, block_dg]
    have ih := outs_dg c q n (Nat.lt_of_succ_lt h)
    refine (congrArg (· + _) ih).trans ?_
    rw [show 512 * (n + 1 + 1) = 512 * (n + 1) + 512 by ring, Finset.sum_range_add]

theorem final_dg (c : Dev nD) : (dats m 0 c).arrAt 6 cfg0.N = dgArr m c :=
  (dats m 0 c).arrAt_eq_of_cover 6 (dgArr m c) (fun t hf => by
    have hN : cfg0.N = 16 := N_0
    have h15 : t.val = 15 := by have := (flush0_6 t).mp hf; have := t.isLt; omega
    rw [Value.flushed6]
    funext j
    obtain ⟨q, rfl⟩ : ∃ q : Fin 1024, j = ix2 0 q := ⟨j 1, (eq_ix2 j).trans (by congr 1; exact Subsingleton.elim _ _)⟩
    have h := idx_row t
    rw [View.read_apply]
    refine (outs_dg m c q t.val t.isLt).trans ?_
    have e : (((cfg0.win 6).blk t).view.emb (ix2 0 q)) = (ix2 0 q : S1x1024.Idx) := by
      funext a
      apply Fin.ext
      match a with
      | ⟨0, _⟩ => show win0_6.index t 0 * 1 + 1 * 0 = 0; rw [h.2.2.2.2.2.2.2.2.2.2.2.2.1]
      | ⟨1, _⟩ => show win0_6.index t 1 * 1024 + 1 * q.val = q.val; rw [h.2.2.2.2.2.2.2.2.2.2.2.2.2]; omega
    refine Eq.trans ?_ (congrArg (dgArr m c) e).symm
    rw [h15, Finset.sum_range]
    exact Finset.sum_congr rfl fun r _ => dif_pos r.isLt)
  fun i => by
    have h0 : (i 0 : Nat) < 1 := (i 0).isLt
    have h1 : (i 1 : Nat) < 1024 := (i 1).isLt
    let t : Fin cfg0.N := ⟨15, by rw [show cfg0.N = 16 from N_0]; omega⟩
    have h := idx_row t
    refine ⟨t, (flush0_6 t).mpr rfl, ?_⟩
    show i ∈ ((View.whole main_v1_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [h.2.2.2.2.2.2.2.2.2.2.2.2.1]; omega
    | ⟨1, _⟩ => show win0_6.index t 1 * 1024 ≤ (i 1 : Nat) ∧ (i 1 : Nat) < win0_6.index t 1 * 1024 + 1024
                rw [h.2.2.2.2.2.2.2.2.2.2.2.2.2]; omega

end Cert.NormBlock

end
-- ==== Proof.Reals.lean ====
/- Extended reals that are real: sums, quotients and the literals of the programs. -/
module

public import Idealize.ShloMosaic.PureOps.Ideal.Laws
public import Mathlib.Data.EReal.Inv

@[expose] public section

noncomputable section

namespace Cert.Reals

open Idealize.ShloMosaic

/-- A finite sum of reals, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul]
  congr 1
  field_simp

/-- The reciprocal root of a positive real. -/
theorem rsqrt_pos {v : ℝ} (hv : 0 < v) : Ideal.rsqrt (v : EReal) = (((Real.sqrt v)⁻¹ : ℝ) : EReal) := by
  rw [Ideal.rsqrt_coe, if_neg hv.not_gt, if_neg hv.ne']

/-- An extended real with absolute value below `⊤` is a real. -/
theorem exists_real {x : EReal} (h : max x (-x) < ⊤) : ∃ r : ℝ, x = (r : EReal) := by
  induction x with
  | bot => simp at h
  | top => simp at h
  | coe r => exact ⟨r, rfl⟩

/-- The finiteness test at an index, as the precondition prints it. -/
theorem exists_real_of_test {φ : FTy} {x : Ideal φ} {c : EReal} (hc : c = ⊤)
    (h : Ideal.cmp .olt (max (x : EReal) (-(x : EReal))) c = 1#1) : ∃ r : ℝ, x = (r : EReal) := by
  subst hc
  apply exists_real
  unfold Ideal.cmp at h
  by_contra hn
  simp [hn] at h

theorem ofBits_inf : Ideal.ofBits .f32 0x7F800000#32 = ⊤ := by simp [Ideal.ofBits, Ideal.ieee]

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The norm's `1e-6`, at its nearest f32. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- The gradient of a row over its root mean square, `(u − x̂·mean(u·x̂))·rstd`, is what the chain rule through
    `rsqrt(mean(x²) + e)` gives: `u·rstd` and, twice, `x` times the mean of the root's gradient. -/
theorem norm_row {n : ℕ} (x u : Fin n → ℝ) {N e : ℝ} (hN : 0 < N) (he : 0 < e) (j : Fin n) :
    Ideal.rsqrt (Ideal.div (∑ k, (x k : EReal) * x k) (N : EReal) + e) * ((u j : EReal)
        - x j * Ideal.rsqrt (Ideal.div (∑ k, (x k : EReal) * x k) (N : EReal) + e)
          * Ideal.div (∑ k, (u k : EReal) * (x k * Ideal.rsqrt (Ideal.div (∑ k, (x k : EReal) * x k) (N : EReal) + e))) (N : EReal))
      = u j * Ideal.rsqrt (Ideal.div (∑ k, (x k : EReal) * x k) (N : EReal) + e)
        + x j * Ideal.div ((∑ k, (x k : EReal) * u k) * (((-(1 / 2) : ℝ) : EReal)
          * Ideal.div (Ideal.rsqrt (Ideal.div (∑ k, (x k : EReal) * x k) (N : EReal) + e))
            (Ideal.div (∑ k, (x k : EReal) * x k) (N : EReal) + e))) (N : EReal)
        + Ideal.div ((∑ k, (x k : EReal) * u k) * (((-(1 / 2) : ℝ) : EReal)
          * Ideal.div (Ideal.rsqrt (Ideal.div (∑ k, (x k : EReal) * x k) (N : EReal) + e))
            (Ideal.div (∑ k, (x k : EReal) * x k) (N : EReal) + e))) (N : EReal) * x j := by
  have hv : 0 < (∑ k, x k * x k) / N + e :=
    add_pos_of_nonneg_of_pos (div_nonneg (Finset.sum_nonneg fun k _ => mul_self_nonneg _) hN.le) he
  have hN' := hN.ne'
  simp only [← EReal.coe_mul, coe_sum, div_coe_coe _ hN', ← EReal.coe_add]
  generalize hV : (∑ k, x k * x k) / N + e = V at hv
  simp only [rsqrt_pos hv, ← EReal.coe_mul, coe_sum, div_coe_coe _ hN', div_coe_coe _ hv.ne', ← EReal.coe_sub, ← EReal.coe_add]
  congr 1
  obtain ⟨s, hs, rfl⟩ : ∃ s : ℝ, 0 < s ∧ V = s * s := ⟨Real.sqrt V, Real.sqrt_pos.mpr hv, (Real.mul_self_sqrt hv.le).symm⟩
  rw [Real.sqrt_mul_self hs.le]
  have e1 : ∑ k, u k * (x k * s⁻¹) = (∑ k, x k * u k) * s⁻¹ := by
    rw [Finset.sum_mul]; exact Finset.sum_congr rfl fun k _ => by ring
  rw [e1]
  field_simp
  ring

end Cert.Reals

end
-- ==== Proof.NormRef.lean ====
/- The derivative of the norm, read at an index, is what the kernel leaves. -/
module

public import proofs.«01_k».proof.Proof.NormValue
public import proofs.«01_k».proof.Proof.Reals
public import proofs.«01_k».proof.Proof.Gen.NormRefIdeal.Read

@[expose] public section

set_option maxRecDepth 16384

noncomputable section

namespace Cert.NormBlock

open Cert.NormRefIdeal Cert.NormRefIdeal.Read Idealize.ShloMosaic

/-- The derivative's input gradient is the kernel's, where the row is finite. -/
theorem ref_dx (x : S8192x1024.Idx → EReal) (g : S1024.Idx → EReal) (ct r : S8192x1024.Idx → EReal)
    (hx : ∀ i, ∃ a : ℝ, x i = a) (hg : ∀ i, ∃ a : ℝ, g i = a) (hct : ∀ i, ∃ a : ℝ, ct i = a) (p : Fin 8192) (q : Fin 1024) :
    val_main_v36 (F := Ideal) x g ct r (ix2 p q)
      = dxRow (fun k => x (ix2 p k)) (fun k => g (ix1 k)) (fun k => ct (ix2 p k)) (r (ix2 p q)) q := by
  rw [← val_main_v36_eq]
  pointwise
  choose xr hxr using hx
  choose gr hgr using hg
  choose cr hcr using hct
  obtain ⟨e, he, hE⟩ := Reals.ofBits_eps
  unfold dxRow rstd
  rw [add_comm (r _)]
  refine congrArg (· + r (ix2 p q)) ?_
  have h := Reals.norm_row (fun k => xr (ix2 p k)) (fun k => cr (ix2 p k) * gr (ix1 k)) (N := 1024) (by norm_num) he q
  simp only [hxr, hgr, hcr, hE, Reals.ofBits_1024, Reals.ofBits_neg_half, Fintype.sum_unique]
  simp only [EReal.coe_mul] at h
  exact h.symm

theorem ref_lo (x : S8192x1024.Idx → EReal) (g : S1024.Idx → EReal) (ct r : S8192x1024.Idx → EReal) :
    val_main_v38 (F := Ideal) x g ct r = val_main_v36 (F := Ideal) x g ct r := rfl

/-- The derivative's gain gradient is the kernel's. -/
theorem ref_dg (x ct : S8192x1024.Idx → EReal) (q : Fin 1024) : val_main_v39 (F := Ideal) x ct (ix2 0 q)
    = ∑ p, ct (ix2 p q) * (x (ix2 p q) * rstd (∑ k, x (ix2 p k) * x (ix2 p k))) := by
  rw [← val_main_v39_eq]
  pointwise
  rw [Fintype.sum_unique]
  exact Finset.sum_congr rfl fun p _ => mul_comm _ _

end Cert.NormBlock

end
-- ==== Proof.NormClaims.lean ====
/- The claims about the norm's gradient. -/
module

public import proofs.«01_k».proof.Defs
public import proofs.«01_k».proof.Proof.NormRef
public import proofs.«01_k».proof.Proof.Gen.Norm.Frame
public import proofs.«01_k».proof.Proof.Gen.NormRefIdeal.Run
public import proofs.«01_k».proof.Proof.Gen.Pre_norm_finite

@[expose] public section

set_option maxRecDepth 16384

noncomputable section

namespace Cert.NormClaims

open Idealize.ShloMosaic Idealize.SL.Sem

theorem frame : Cert.quiescent_Norm := fun m ρ _ => Cert.Norm.Gen.frame m ρ

theorem frame_ideal : Cert.quiescent_NormIdeal := fun m ρ _ => Cert.NormIdeal.Gen.frame m ρ

theorem frame_ideal_pre : Cert.quiescent_NormIdeal_pre_norm_finite := fun m ρ _ => Cert.NormIdeal.Gen.frame m ρ

theorem frame_ref : Cert.quiescent_NormRefIdeal := fun m ρ _ =>
  (θ_run Cert.NormRefIdeal.defs _ _).mono (fun r h => ⟨fun c => (h c).2.2.2, sem_eq_zero_of_no_sems (by decide) r.2⟩)
    (Cert.NormRefIdeal.Value.run (F := Ideal) m ρ)

theorem frame_ref_pre : Cert.quiescent_NormRefIdeal_pre_norm_finite := fun m ρ _ =>
  (θ_run Cert.NormRefIdeal.defs _ _).mono (fun r h => ⟨fun c => (h c).2.2.2, sem_eq_zero_of_no_sems (by decide) r.2⟩)
    (Cert.NormRefIdeal.Value.run (F := Ideal) m ρ)

/-- Where the precondition's test is true everywhere the array is real. -/
theorem finite {s : Shape} (x : s.Idx → EReal) (y : s.Idx → BitVec 1)
    (hy : ∀ i, y i = Ideal.cmp .olt (max (x i) (-(x i))) (Ideal.ofBits .f32 0x7F800000#32)) (h : y = fun _ => 1#1) (i : s.Idx) :
    ∃ a : ℝ, x i = a :=
  Reals.exists_real_of_test (φ := .f32) Reals.ofBits_inf ((hy i).symm.trans (congrFun h i))

theorem value : Cert.algebraic_NormIdeal_NormRefIdeal_pre_norm_finite := by
  intro m ρ m' ρ' hpre hag
  have hx := fun c => finite (NormBlock.X m c) _ (fun _ => rfl) (hpre c).1
  have hg := fun c => finite (NormBlock.G m c) _ (fun _ => rfl) (hpre c).2.1
  have hct := fun c => finite (NormBlock.CT m c) _ (fun _ => rfl) (hpre c).2.2.1
  refine ⟨fun c => NormBlock.dxArr m c, fun c => NormBlock.dxArr m c, fun c => NormBlock.dgArr m c,
    (θ_run _ _ _).mono (fun _ h c => ⟨(h c).1.trans (NormBlock.final_dx m c), (h c).2.1.trans (NormBlock.final_lo m c),
      (h c).2.2.1.trans (NormBlock.final_dg m c), (h c).2.2.2⟩) (Cert.NormIdeal.Value.run_blocks m ρ),
    (θ_run _ _ _).mono (fun _ h c => ⟨(h c).1.trans ?_, (h c).2.1.trans ?_, (h c).2.2.1.trans ?_, (h c).2.2.2⟩)
      (Cert.NormRefIdeal.Value.run m' ρ')⟩
  · refine (Cert.NormRefIdeal.Read.val_main_v36_eq ..).trans ?_
    rw [(hag c).1, (hag c).2.1, (hag c).2.2.1, (hag c).2.2.2]
    funext i
    rw [eq_ix2 i]
    exact NormBlock.ref_dx _ _ _ _ (hx c) (hg c) (hct c) _ _
  · refine (Cert.NormRefIdeal.Read.val_main_v38_eq ..).trans ?_
    rw [NormBlock.ref_lo, (hag c).1, (hag c).2.1, (hag c).2.2.1, (hag c).2.2.2]
    funext i
    rw [eq_ix2 i]
    exact NormBlock.ref_dx _ _ _ _ (hx c) (hg c) (hct c) _ _
  · refine (Cert.NormRefIdeal.Read.val_main_v39_eq ..).trans ?_
    rw [(hag c).1, (hag c).2.2.1]
    funext i
    obtain ⟨q, rfl⟩ : ∃ q : Fin 1024, i = ix2 0 q := ⟨i 1, (eq_ix2 i).trans (by congr 1; exact Subsingleton.elim (α := Fin 1) _ _)⟩
    exact NormBlock.ref_dg _ _ _

end Cert.NormClaims

end
-- ==== Proof.MlaBlocks.lean ====
/- The body of the attention backward kernel, in blocks: its five guarded regions — the clearing of the query
   gradient, the clearing of the two accumulators, the step at a pair on the diagonal, the step at a pair below it, the
   writing of a column's key and value gradients — each as a rule that gives what the buffers hold after it. -/
module

public import proofs.«01_k».proof.Proof.Gen.MlaBwdIdeal.Skeleton
public import proofs.«01_k».proof.Proof.Gen.MlaBwdIdeal.Launch
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.Exec

@[expose] public section

set_option maxRecDepth 16384

noncomputable section

namespace Mla

open Cert.MlaBwdIdeal Cert.MlaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- `m` holds the values `x` on core `c`. -/
abbrev holds (c : Dev nD) {S : Shape} {e : EltTy} (m : Memref sig .tc .vmem S e) (x : S.Idx → Elt F e) : sProp 𝕄 :=
  m.view.loc (c : Thread nD τ) ↦[m.view.set]{fullShare} m.view.rep x

/-- A program of the body. -/
abbrev Body (F : FTy → Type) := Prog (TpuEff nD τ sig (Elt F) Λ₀ .tc) PUnit

/-- The body's weakest precondition. -/
abbrev wpB (c : Dev nD) (p : Body F) (K : PUnit → sProp 𝕄) : sProp 𝕄 :=
  wp frame (wpE (defs₀ (F := F)) Variants.none c none) Set.univ p K

variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)

/-- At a head group's first point the query gradient is cleared. -/
def zeroDq (rest : Body F) : Body F :=
  if k0_h1 : k0_cond1 i = 1#1 then do
    let v28 : Vec F S8192x512 .f32 ← Prog.lift (.load arg7 (Rect.unit (s := S8192x512) ![0, 0] S8192x512.size inb_S8192x512_S8192x512_0_0).toLoadRect (View.loadsAt_vmem h_S8192x512))
    Prog.lift (.store arg7 (Rect.unit (s := S8192x512) ![0, 0] S8192x512.size inb_S8192x512_S8192x512_0_0) (k0_pay1 (F := F)) Finset.univ (View.stores_vmem_bits_univ h_S8192x512 rfl) (.inl rfl))
    rest
  else rest

/-- At a column's first point the accumulators are cleared. -/
def zeroSc (v11 : BitVec 1) (rest : Body F) : Body F :=
  if v11 = 1#1 then do
    let v28 : Vec F S1024x512 .f32 ← Prog.lift (.load arg10 (Rect.unit (s := S1024x512) ![0, 0] S1024x512.size inb_S1024x512_S1024x512_0_0).toLoadRect (View.loadsAt_vmem h_S1024x512))
    Prog.lift (.store arg10 (Rect.unit (s := S1024x512) ![0, 0] S1024x512.size inb_S1024x512_S1024x512_0_0) (k0_pay2 (F := F)) Finset.univ (View.stores_vmem_bits_univ h_S1024x512 rfl) (.inl rfl))
    let v32 : Vec F S1024x512 .f32 ← Prog.lift (.load arg11 (Rect.unit (s := S1024x512) ![0, 0] S1024x512.size inb_S1024x512_S1024x512_0_0).toLoadRect (View.loadsAt_vmem h_S1024x512))
    Prog.lift (.store arg11 (Rect.unit (s := S1024x512) ![0, 0] S1024x512.size inb_S1024x512_S1024x512_0_0) (k0_pay3 (F := F)) Finset.univ (View.stores_vmem_bits_univ h_S1024x512 rfl) (.inl rfl))
    rest
  else rest

/-- The step at a pair on the diagonal. -/
def diagStep (v1 v3 v13 : Elt F .i32) (k0_hw1 : k0_chk1 v1 v13) (rest : Body F) : Body F :=
  if k0_h3 : k0_cond3 v13 = 1#1 then do
    let ⟨v375, v402, v411, v414, cst_239⟩ : Σ' (v375 : FVec F S256x256 .bf16) (v402 : FVec F S256x256 .bf16) (v411 : BitVec 32) (v414 : FVec F S256x256 .f32), FVec F S256x256 .f32 ← k0_part11 i arg2 harg2 arg3 harg3 arg4 harg4 arg5 harg5 arg6 harg6 arg7 harg7 arg8 harg8 arg9 harg9 arg10 harg10 arg11 harg11 v1 v3 v13 k0_hw1 k0_h3
    let v418 : Vec F S256x256 .f32 ← Prog.lift (.load arg7 (Rect.unit (s := S8192x512) (k0_off12 v1) S256x256.size (k0_off12_inb v1 v13 k0_hw1 k0_h3)).toLoadRect (View.loadsAt_vmem h_S256x256))
    Prog.lift (.store arg7 (Rect.unit (s := S8192x512) (k0_off12 v1) S256x256.size (k0_off12_inb v1 v13 k0_hw1 k0_h3)) (k0_pay4 v375 v402 v414 cst_239) Finset.univ (View.stores_vmem_bits_univ h_S256x256 rfl) (.inl rfl))
    rest
  else rest

/-- The step at a pair below the diagonal. -/
def fullStep (v1 v18 : Elt F .i32) (k0_hw2 : k0_chk2 v1 v18) (rest : Body F) : Body F :=
  if k0_h4 : k0_cond4 v18 = 1#1 then do
    let ⟨v55, v60⟩ : Σ' (v55 : BitVec 32), FVec F S1024x256 .f32 ← k0_part12 i arg2 harg2 arg3 harg3 arg4 harg4 arg5 harg5 arg6 harg6 arg7 harg7 arg8 harg8 arg9 harg9 arg10 harg10 arg11 harg11 v1 v18 k0_hw2 k0_h4
    let ⟨v68, v82, v91, v93⟩ : Σ' (v68 : FVec F S256x256 .bf16) (v82 : FVec F S256x1024 .bf16) (v91 : BitVec 32), Vec F S1024x256 .f32 ← k0_part13 i arg2 harg2 arg3 harg3 arg4 harg4 arg5 harg5 arg6 harg6 arg7 harg7 arg8 harg8 arg9 harg9 arg10 harg10 arg11 harg11 v1 v18 k0_hw2 k0_h4 v55 v60
    let ⟨v104, v118, v126⟩ : Σ' (v104 : FVec F S256x256 .bf16) (v118 : FVec F S256x1024 .bf16), BitVec 32 ← k0_part14 i arg2 harg2 arg3 harg3 arg4 harg4 arg5 harg5 arg6 harg6 arg7 harg7 arg8 harg8 arg9 harg9 arg10 harg10 arg11 harg11 v1 v18 k0_hw2 k0_h4 v68 v82 v91 v93
    let ⟨v140, v154⟩ : Σ' (v140 : FVec F S256x256 .bf16), FVec F S256x1024 .bf16 ← k0_part15 i arg2 harg2 arg3 harg3 arg4 harg4 arg5 harg5 arg6 harg6 arg7 harg7 arg8 harg8 arg9 harg9 arg10 harg10 arg11 harg11 v1 v18 k0_hw2 k0_h4 v104 v118 v126
    let ⟨v176, v190, v193⟩ : Σ' (v176 : FVec F S256x256 .bf16) (v190 : FVec F S256x1024 .bf16), FVec F S256x256 .f32 ← k0_part16 i arg2 harg2 arg3 harg3 arg4 harg4 arg5 harg5 arg6 harg6 arg7 harg7 arg8 harg8 arg9 harg9 arg10 harg10 arg11 harg11 v1 v18 k0_hw2 k0_h4 v140 v154
    let ⟨v208, v212, v226, v227, cst_146⟩ : Σ' (v208 : FVec F S1024x256 .bf16) (v212 : FVec F S256x256 .bf16) (v226 : FVec F S256x1024 .bf16) (v227 : Vec F S256x256 .f32), FVec F S256x256 .f32 ← k0_part17 i arg2 harg2 arg3 harg3 arg4 harg4 arg5 harg5 arg6 harg6 arg7 harg7 arg8 harg8 arg9 harg9 arg10 harg10 arg11 harg11 v1 v18 k0_hw2 k0_h4 v176 v190 v193
    let ⟨v244, v248, v262⟩ : Σ' (v244 : FVec F S1024x256 .bf16) (v248 : FVec F S256x256 .bf16), FVec F S256x1024 .bf16 ← k0_part18 i arg2 harg2 arg3 harg3 arg4 harg4 arg5 harg5 arg6 harg6 arg7 harg7 arg8 harg8 arg9 harg9 arg10 harg10 arg11 harg11 v1 v18 k0_hw2 k0_h4 v208 v212 v226 v227 cst_146
    let ⟨v280, v282, v284, v286, v295⟩ : Σ' (v280 : FVec F S1024x256 .bf16) (v282 : FVec F S1024x256 .bf16) (v284 : FVec F S256x256 .bf16) (v286 : FVec F S256x1024 .f32), FVec F S256x256 .bf16 ← k0_part19 i arg2 harg2 arg3 harg3 arg4 harg4 arg5 harg5 arg6 harg6 arg7 harg7 arg8 harg8 arg9 harg9 arg10 harg10 arg11 harg11 v1 v18 k0_hw2 k0_h4 v244 v248 v262
    let v299 : Vec F S256x256 .f32 ← Prog.lift (.load arg10 (Rect.unit (s := S1024x512) ![768, 256] S256x256.size inb_S1024x512_S256x256_768_256).toLoadRect (View.loadsAt_vmem h_S256x256))
    let v302 : Vec F S256x256 .f32 ← Prog.lift (.load arg10 (Rect.unit (s := S1024x512) ![768, 256] S256x256.size inb_S1024x512_S256x256_768_256).toLoadRect (View.loadsAt_vmem h_S256x256))
    Prog.lift (.store arg10 (Rect.unit (s := S1024x512) ![768, 256] S256x256.size inb_S1024x512_S256x256_768_256) (k0_pay6 v280 v282 v286 v295 v299) Finset.univ (View.stores_vmem_bits_univ h_S256x256 rfl) (.inl rfl))
    let v309 : Vec F S1024x256 .f32 ← Prog.lift (.load arg7 (Rect.unit (s := S8192x512) (k0_off15 v1) S1024x256.size (k0_off15_inb v1 v18 k0_hw2 k0_h4)).toLoadRect (View.loadsAt_vmem h_S1024x256))
    let v314 : Vec F S1024x256 .f32 ← Prog.lift (.load arg7 (Rect.unit (s := S8192x512) (k0_off15 v1) S1024x256.size (k0_off15_inb v1 v18 k0_hw2 k0_h4)).toLoadRect (View.loadsAt_vmem h_S1024x256))
    Prog.lift (.store arg7 (Rect.unit (s := S8192x512) (k0_off15 v1) S1024x256.size (k0_off15_inb v1 v18 k0_hw2 k0_h4)) (k0_pay7 v282 v284 v286 v295 v309) Finset.univ (View.stores_vmem_bits_univ h_S1024x256 rfl) (.inl rfl))
    rest
  else rest

/-- At a column's last point its gradients are written. -/
def flush (v23 : Elt F .i32) (rest : Body F) : Body F :=
  if k0_h5 : k0_cond5 v23 = 1#1 then do
    let v27 : Vec F S1024x512 .f32 ← Prog.lift (.load arg10 (Rect.unit (s := S1024x512) ![0, 0] S1024x512.size inb_S1024x512_S1024x512_0_0).toLoadRect (View.loadsAt_vmem h_S1024x512))
    let v29 : Vec F S1024x512 .bf16 ← Prog.lift (.load arg8 (Rect.unit (s := S1024x512) ![0, 0] S1024x512.size inb_S1024x512_S1024x512_0_0).toLoadRect (View.loadsAt_vmem h_S1024x512))
    Prog.lift (.store arg8 (Rect.unit (s := S1024x512) ![0, 0] S1024x512.size inb_S1024x512_S1024x512_0_0) (k0_pay8 v27) Finset.univ (View.stores_vmem h_S1024x512 (harg8.storeExact_slice rfl _ packedbf16_S1024x512_S1024x512_0_0) (fun _ => rfl)) (.inl rfl))
    let v30 : Vec F S1024x512 .f32 ← Prog.lift (.load arg11 (Rect.unit (s := S1024x512) ![0, 0] S1024x512.size inb_S1024x512_S1024x512_0_0).toLoadRect (View.loadsAt_vmem h_S1024x512))
    let v32 : Vec F S1024x512 .bf16 ← Prog.lift (.load arg9 (Rect.unit (s := S1024x512) ![0, 0] S1024x512.size inb_S1024x512_S1024x512_0_0).toLoadRect (View.loadsAt_vmem h_S1024x512))
    Prog.lift (.store arg9 (Rect.unit (s := S1024x512) ![0, 0] S1024x512.size inb_S1024x512_S1024x512_0_0) (k0_pay9 v30) Finset.univ (View.stores_vmem h_S1024x512 (harg9.storeExact_slice rfl _ packedbf16_S1024x512_S1024x512_0_0) (fun _ => rfl)) (.inl rfl))
    rest
  else rest

/-- The body is its blocks. -/
theorem body_eq : cc0_mla_attn_bwd i arg2 harg2 arg3 harg3 arg4 harg4 arg5 harg5 arg6 harg6 arg7 harg7 arg8 harg8 arg9 harg9 arg10 harg10 arg11 harg11
    = (do
        let v1 : Elt F .i32 ← smemLoad arg2 (Rect.unit (s := S5x36) (k0_off1 i) S1x1.size (k0_off1_inb i)) numel1_S1x1 rfl
        let v3 : Elt F .i32 ← smemLoad arg2 (Rect.unit (s := S5x36) (k0_off2 i) S1x1.size (k0_off2_inb i)) numel1_S1x1 rfl
        zeroDq i arg7 (do
          let v8 : Elt F .i32 ← smemLoad arg2 (Rect.unit (s := S5x36) (k0_off3 i) S1x1.size (k0_off3_inb i)) numel1_S1x1 rfl
          zeroSc arg10 arg11 (Scalar.cmpi .ne (Scalar.extui (Scalar.cmpi .eq v8 1#32) : BitVec 32) 0#32) (do
            let v13 : Elt F .i32 ← smemLoad arg2 (Rect.unit (s := S5x36) (k0_off4 i) S1x1.size (k0_off4_inb i)) numel1_S1x1 rfl
            have k0_hw1 : k0_chk1 v1 v13 := (← Prog.lift (TpuEff.assume (k0_chk1 v1 v13) (k0_chk1.dec v1 v13))).down
            diagStep i arg2 harg2 arg3 harg3 arg4 harg4 arg5 harg5 arg6 harg6 arg7 harg7 arg8 harg8 arg9 harg9 arg10 harg10 arg11 harg11 v1 v3 v13 k0_hw1 (do
              let v18 : Elt F .i32 ← smemLoad arg2 (Rect.unit (s := S5x36) (k0_off13 i) S1x1.size (k0_off13_inb i)) numel1_S1x1 rfl
              have k0_hw2 : k0_chk2 v1 v18 := (← Prog.lift (TpuEff.assume (k0_chk2 v1 v18) (k0_chk2.dec v1 v18))).down
              fullStep i arg2 harg2 arg3 harg3 arg4 harg4 arg5 harg5 arg6 harg6 arg7 harg7 arg8 harg8 arg9 harg9 arg10 harg10 arg11 harg11 v1 v18 k0_hw2 (do
                let v23 : Elt F .i32 ← smemLoad arg2 (Rect.unit (s := S5x36) (k0_off16 i) S1x1.size (k0_off16_inb i)) numel1_S1x1 rfl
                flush arg8 harg8 arg9 harg9 arg10 arg11 v23 (pure ⟨⟩)))))) := by
  rw [cc0_mla_attn_bwd_eq_skeleton]; rfl

/-! ## The blocks' rules -/

theorem zeroDq_wp (x7 : Vec F S8192x512 .f32) (rest : Body F) (K : PUnit → sProp 𝕄) :
    iprop(holds c arg7 x7 ∗ (holds c arg7 (if k0_cond1 i = 1#1 then k0_pay1 (F := F) else x7) -∗ wpB c rest K))
      ⊢ wpB c (zeroDq i arg7 rest) K := by
  unfold holds wpB zeroDq
  by_cases h : k0_cond1 i = 1#1
  · rw [dif_pos h, if_pos h]
    iintro ⟨H7, Hk⟩
    sl_exec
    iapply Hk
    iapply pointsTo_rep_of_read (c : Thread nD τ) arg7 _ fullShare k0_pay1 (View.read_writes_full _ _ _ _ _)
    iexact H7
  · rw [dif_neg h, if_neg h]
    iintro ⟨H7, Hk⟩
    iapply Hk
    iexact H7

theorem zeroSc_wp (v11 : BitVec 1) (x10 x11 : Vec F S1024x512 .f32) (rest : Body F) (K : PUnit → sProp 𝕄) :
    iprop(holds c arg10 x10 ∗ holds c arg11 x11
        ∗ (iprop(holds c arg10 (if v11 = 1#1 then k0_pay2 (F := F) else x10) ∗ holds c arg11 (if v11 = 1#1 then k0_pay3 (F := F) else x11)) -∗ wpB c rest K))
      ⊢ wpB c (zeroSc arg10 arg11 v11 rest) K := by
  unfold holds wpB zeroSc
  by_cases h : v11 = 1#1
  · rw [if_pos h, if_pos h, if_pos h]
    iintro ⟨H10, H11, Hk⟩
    sl_exec
    iapply Hk
    isplitl [H10]
    · iapply pointsTo_rep_of_read (c : Thread nD τ) arg10 _ fullShare k0_pay2 (View.read_writes_full _ _ _ _ _)
      iexact H10
    · iapply pointsTo_rep_of_read (c : Thread nD τ) arg11 _ fullShare k0_pay3 (View.read_writes_full _ _ _ _ _)
      iexact H11
  · rw [if_neg h, if_neg h, if_neg h]
    iintro ⟨H10, H11, Hk⟩
    iapply Hk
    isplitl [H10]
    · iexact H10
    · iexact H11

theorem flush_wp (v23 : Elt F .i32) (x8 x9 : Vec F S1024x512 .bf16) (x10 x11 : Vec F S1024x512 .f32) (rest : Body F) (K : PUnit → sProp 𝕄) :
    iprop(holds c arg8 x8 ∗ holds c arg9 x9 ∗ holds c arg10 x10 ∗ holds c arg11 x11
        ∗ (iprop(holds c arg8 (if k0_cond5 v23 = 1#1 then k0_pay8 x10 else x8) ∗ holds c arg9 (if k0_cond5 v23 = 1#1 then k0_pay9 x11 else x9)
            ∗ holds c arg10 x10 ∗ holds c arg11 x11) -∗ wpB c rest K))
      ⊢ wpB c (flush arg8 harg8 arg9 harg9 arg10 arg11 v23 rest) K := by
  unfold holds wpB flush
  by_cases h : k0_cond5 v23 = 1#1
  · rw [dif_pos h, if_pos h, if_pos h]
    iintro ⟨H8, H9, H10, H11, Hk⟩
    sl_exec
    iapply Hk
    rw [show k0_pay8 x10 = k0_pay8 (arg10.view.readAt (Elt F) (Rect.unit (s := S1024x512) ![0, 0] S1024x512.size inb_S1024x512_S1024x512_0_0).toLoadRect (arg10.view.rep x10)) from by
        rw [View.readAt_rep_full],
      show k0_pay9 x11 = k0_pay9 (arg11.view.readAt (Elt F) (Rect.unit (s := S1024x512) ![0, 0] S1024x512.size inb_S1024x512_S1024x512_0_0).toLoadRect (arg11.view.rep x11)) from by
        rw [View.readAt_rep_full]]
    isplitl [H8]
    · iapply pointsTo_rep_of_read (c : Thread nD τ) arg8 _ fullShare _ (View.read_writes_full _ _ _ _ _)
      iexact H8
    isplitl [H9]
    · iapply pointsTo_rep_of_read (c : Thread nD τ) arg9 _ fullShare _ (View.read_writes_full _ _ _ _ _)
      iexact H9
    isplitl [H10]
    · iexact H10
    · iexact H11
  · rw [dif_neg h, if_neg h, if_neg h]
    iintro ⟨H8, H9, H10, H11, Hk⟩
    iapply Hk
    isplitl [H8]; · iexact H8
    isplitl [H9]; · iexact H9
    isplitl [H10]; · iexact H10
    iexact H11

set_option maxHeartbeats 4000000 in
/-- At a pair on the diagonal: what the step's stores leave in the query gradient's block and in the two accumulators, and that the step runs. -/
def diagStepRun (v1 v3 v13 : Elt F .i32) (k0_hw1 : k0_chk1 v1 v13) (k0_h3 : k0_cond3 v13 = 1#1)
    (x3 x4 x5 x6 : Vec F S1024x512 .bf16) (x7 : Vec F S8192x512 .f32) (x10 x11 : Vec F S1024x512 .f32) :
    Σ' (L7 : List (View.Piece (Elt F) S8192x512 .f32)) (L10 : List (View.Piece (Elt F) S1024x512 .f32)), { L11 : List (View.Piece (Elt F) S1024x512 .f32) //
      ∀ (rest : Body F) (K : PUnit → sProp 𝕄),
        iprop(holds c arg3 x3 ∗ holds c arg4 x4 ∗ holds c arg5 x5 ∗ holds c arg6 x6 ∗ holds c arg7 x7 ∗ holds c arg10 x10 ∗ holds c arg11 x11
            ∗ (iprop(holds c arg3 x3 ∗ holds c arg4 x4 ∗ holds c arg5 x5 ∗ holds c arg6 x6 ∗ holds c arg7 (arg7.view.read (Elt F) (arg7.view.writes (Elt F) (arg7.view.rep x7) L7))
                ∗ holds c arg10 (arg10.view.read (Elt F) (arg10.view.writes (Elt F) (arg10.view.rep x10) L10))
                ∗ holds c arg11 (arg11.view.read (Elt F) (arg11.view.writes (Elt F) (arg11.view.rep x11) L11))) -∗ wpB c rest K))
          ⊢ wpB c (diagStep i arg2 harg2 arg3 harg3 arg4 harg4 arg5 harg5 arg6 harg6 arg7 harg7 arg8 harg8 arg9 harg9 arg10 harg10 arg11 harg11 v1 v3 v13 k0_hw1 rest) K } := by
  refine ⟨?_, ?_, ?_, fun rest K => ?run⟩
  case run =>
    unfold holds wpB diagStep
    rw [dif_pos k0_h3]
    iintro ⟨H3, H4, H5, H6, H7, H10, H11, Hk⟩
    sl_exec
    iapply Hk
    isplitl [H3]; · iexact H3
    isplitl [H4]; · iexact H4
    isplitl [H5]; · iexact H5
    isplitl [H6]; · iexact H6
    isplitl [H7]
    · iapply pointsTo_rep_of_read (c : Thread nD τ) arg7 (arg7.view.writes (Elt F) (arg7.view.rep x7) _) fullShare _ rfl
      iexact H7
    isplitl [H10]
    · iapply pointsTo_rep_of_read (c : Thread nD τ) arg10 (arg10.view.writes (Elt F) (arg10.view.rep x10) _) fullShare _ rfl
      iexact H10
    · iapply pointsTo_rep_of_read (c : Thread nD τ) arg11 (arg11.view.writes (Elt F) (arg11.view.rep x11) _) fullShare _ rfl
      iexact H11

set_option maxHeartbeats 4000000 in
/-- At a pair below the diagonal: what the step's stores leave in the query gradient's block and in the two accumulators, and that the step runs. -/
def fullStepRun (v1 v18 : Elt F .i32) (k0_hw2 : k0_chk2 v1 v18) (k0_h4 : k0_cond4 v18 = 1#1)
    (x3 x4 x5 x6 : Vec F S1024x512 .bf16) (x7 : Vec F S8192x512 .f32) (x10 x11 : Vec F S1024x512 .f32) :
    Σ' (L7 : List (View.Piece (Elt F) S8192x512 .f32)) (L10 : List (View.Piece (Elt F) S1024x512 .f32)), { L11 : List (View.Piece (Elt F) S1024x512 .f32) //
      ∀ (rest : Body F) (K : PUnit → sProp 𝕄),
        iprop(holds c arg3 x3 ∗ holds c arg4 x4 ∗ holds c arg5 x5 ∗ holds c arg6 x6 ∗ holds c arg7 x7 ∗ holds c arg10 x10 ∗ holds c arg11 x11
            ∗ (iprop(holds c arg3 x3 ∗ holds c arg4 x4 ∗ holds c arg5 x5 ∗ holds c arg6 x6 ∗ holds c arg7 (arg7.view.read (Elt F) (arg7.view.writes (Elt F) (arg7.view.rep x7) L7))
                ∗ holds c arg10 (arg10.view.read (Elt F) (arg10.view.writes (Elt F) (arg10.view.rep x10) L10))
                ∗ holds c arg11 (arg11.view.read (Elt F) (arg11.view.writes (Elt F) (arg11.view.rep x11) L11))) -∗ wpB c rest K))
          ⊢ wpB c (fullStep i arg2 harg2 arg3 harg3 arg4 harg4 arg5 harg5 arg6 harg6 arg7 harg7 arg8 harg8 arg9 harg9 arg10 harg10 arg11 harg11 v1 v18 k0_hw2 rest) K } := by
  refine ⟨?_, ?_, ?_, fun rest K => ?run⟩
  case run =>
    unfold holds wpB fullStep
    rw [dif_pos k0_h4]
    iintro ⟨H3, H4, H5, H6, H7, H10, H11, Hk⟩
    sl_exec
    iapply Hk
    isplitl [H3]; · iexact H3
    isplitl [H4]; · iexact H4
    isplitl [H5]; · iexact H5
    isplitl [H6]; · iexact H6
    isplitl [H7]
    · iapply pointsTo_rep_of_read (c : Thread nD τ) arg7 (arg7.view.writes (Elt F) (arg7.view.rep x7) _) fullShare _ rfl
      iexact H7
    isplitl [H10]
    · iapply pointsTo_rep_of_read (c : Thread nD τ) arg10 (arg10.view.writes (Elt F) (arg10.view.rep x10) _) fullShare _ rfl
      iexact H10
    · iapply pointsTo_rep_of_read (c : Thread nD τ) arg11 (arg11.view.writes (Elt F) (arg11.view.rep x11) _) fullShare _ rfl
      iexact H11

end Mla

end
-- ==== Proof.MlaBody.lean ====
/- The attention backward kernel's body as one rule: what the query gradient's block, the two accumulators and the
   column's gradients hold after a point, as functions of what they held before it and of the point's blocks. -/
module

public import proofs.«01_k».proof.Proof.MlaBlocks

@[expose] public section

set_option maxRecDepth 16384

noncomputable section

namespace Mla

open Cert.MlaBwdIdeal Cert.MlaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)
variable (T : Vec F S5x36 .i32) (x3 x4 x5 x6 : Vec F S1024x512 .bf16) (x7 : Vec F S8192x512 .f32) (x8 x9 : Vec F S1024x512 .bf16) (x10 x11 : Vec F S1024x512 .f32)

/-- The query gradient's block and the two accumulators. -/
abbrev State (F : FTy → Type) := Vec F S8192x512 .f32 × Vec F S1024x512 .f32 × Vec F S1024x512 .f32

/-- The table's word at a place. -/
abbrev word (off : Fin 2 → ℕ) (inb : ∀ a, off a + S1x1.size a ≤ S5x36.size a) : Elt F .i32 :=
  View.readAt (Elt F) arg2.view (Rect.unit (s := S5x36) off S1x1.size inb).toLoadRect (arg2.view.rep T) (Shape.Idx.first (numel1_S1x1.symm ▸ Nat.one_pos))

/-- The row block, the column block, whether the column begins, whether the pair is on the diagonal (twice) and whether the column ends. -/
abbrev word1 := word arg2 T (k0_off1 i) (k0_off1_inb i)
abbrev word2 := word arg2 T (k0_off2 i) (k0_off2_inb i)
abbrev word3 := word arg2 T (k0_off3 i) (k0_off3_inb i)
abbrev word4 := word arg2 T (k0_off4 i) (k0_off4_inb i)
abbrev word5 := word arg2 T (k0_off13 i) (k0_off13_inb i)
abbrev word6 := word arg2 T (k0_off16 i) (k0_off16_inb i)

/-- After the two clearings. -/
def cleared : State F :=
  (if k0_cond1 i = 1#1 then k0_pay1 (F := F) else x7,
   if Scalar.cmpi .ne (Scalar.extui (Scalar.cmpi .eq (word3 i arg2 T) 1#32) : BitVec 32) 0#32 = 1#1 then k0_pay2 (F := F) else x10,
   if Scalar.cmpi .ne (Scalar.extui (Scalar.cmpi .eq (word3 i arg2 T) 1#32) : BitVec 32) 0#32 = 1#1 then k0_pay3 (F := F) else x11)

/-- After the step on the diagonal, if its condition holds. -/
def diagStepRes (s : State F) (v1 v3 v13 : Elt F .i32) (k0_hw1 : k0_chk1 v1 v13) : State F :=
  if h : k0_cond3 v13 = 1#1 then
    (arg7.view.read (Elt F) (arg7.view.writes (Elt F) (arg7.view.rep s.1) (diagStepRun c i arg2 harg2 arg3 harg3 arg4 harg4 arg5 harg5 arg6 harg6 arg7 harg7 arg8 harg8 arg9 harg9 arg10 harg10 arg11 harg11 v1 v3 v13 k0_hw1 h x3 x4 x5 x6 s.1 s.2.1 s.2.2).1),
     arg10.view.read (Elt F) (arg10.view.writes (Elt F) (arg10.view.rep s.2.1) (diagStepRun c i arg2 harg2 arg3 harg3 arg4 harg4 arg5 harg5 arg6 harg6 arg7 harg7 arg8 harg8 arg9 harg9 arg10 harg10 arg11 harg11 v1 v3 v13 k0_hw1 h x3 x4 x5 x6 s.1 s.2.1 s.2.2).2.1),
     arg11.view.read (Elt F) (arg11.view.writes (Elt F) (arg11.view.rep s.2.2) (diagStepRun c i arg2 harg2 arg3 harg3 arg4 harg4 arg5 harg5 arg6 harg6 arg7 harg7 arg8 harg8 arg9 harg9 arg10 harg10 arg11 harg11 v1 v3 v13 k0_hw1 h x3 x4 x5 x6 s.1 s.2.1 s.2.2).2.2.1))
  else s

theorem diagStep_wp (s : State F) (v1 v3 v13 : Elt F .i32) (k0_hw1 : k0_chk1 v1 v13) (rest : Body F) (K : PUnit → sProp 𝕄) :
    iprop(holds c arg3 x3 ∗ holds c arg4 x4 ∗ holds c arg5 x5 ∗ holds c arg6 x6 ∗ holds c arg7 s.1 ∗ holds c arg10 s.2.1 ∗ holds c arg11 s.2.2
        ∗ (iprop(holds c arg3 x3 ∗ holds c arg4 x4 ∗ holds c arg5 x5 ∗ holds c arg6 x6 ∗ holds c arg7 (diagStepRes c i arg2 harg2 arg3 harg3 arg4 harg4 arg5 harg5 arg6 harg6 arg7 harg7 arg8 harg8 arg9 harg9 arg10 harg10 arg11 harg11 x3 x4 x5 x6 s v1 v3 v13 k0_hw1).1
            ∗ holds c arg10 (diagStepRes c i arg2 harg2 arg3 harg3 arg4 harg4 arg5 harg5 arg6 harg6 arg7 harg7 arg8 harg8 arg9 harg9 arg10 harg10 arg11 harg11 x3 x4 x5 x6 s v1 v3 v13 k0_hw1).2.1
            ∗ holds c arg11 (diagStepRes c i arg2 harg2 arg3 harg3 arg4 harg4 arg5 harg5 arg6 harg6 arg7 harg7 arg8 harg8 arg9 harg9 arg10 harg10 arg11 harg11 x3 x4 x5 x6 s v1 v3 v13 k0_hw1).2.2) -∗ wpB c rest K))
      ⊢ wpB c (diagStep i arg2 harg2 arg3 harg3 arg4 harg4 arg5 harg5 arg6 harg6 arg7 harg7 arg8 harg8 arg9 harg9 arg10 harg10 arg11 harg11 v1 v3 v13 k0_hw1 rest) K := by
  unfold diagStepRes
  by_cases h : k0_cond3 v13 = 1#1
  · simp only [dif_pos h]
    exact (diagStepRun c i arg2 harg2 arg3 harg3 arg4 harg4 arg5 harg5 arg6 harg6 arg7 harg7 arg8 harg8 arg9 harg9 arg10 harg10 arg11 harg11 v1 v3 v13 k0_hw1 h x3 x4 x5 x6 s.1 s.2.1 s.2.2).2.2.2 rest K
  · simp only [dif_neg h]
    unfold diagStep; rw [dif_neg h]
    iintro ⟨H3, H4, H5, H6, H7, H10, H11, Hk⟩
    iapply Hk
    isplitl [H3]; · iexact H3
    isplitl [H4]; · iexact H4
    isplitl [H5]; · iexact H5
    isplitl [H6]; · iexact H6
    isplitl [H7]; · iexact H7
    isplitl [H10]; · iexact H10
    iexact H11

/-- After the step below the diagonal, if its condition holds. -/
def fullStepRes (s : State F) (v1 v18 : Elt F .i32) (k0_hw2 : k0_chk2 v1 v18) : State F :=
  if h : k0_cond4 v18 = 1#1 then
    (arg7.view.read (Elt F) (arg7.view.writes (Elt F) (arg7.view.rep s.1) (fullStepRun c i arg2 harg2 arg3 harg3 arg4 harg4 arg5 harg5 arg6 harg6 arg7 harg7 arg8 harg8 arg9 harg9 arg10 harg10 arg11 harg11 v1 v18 k0_hw2 h x3 x4 x5 x6 s.1 s.2.1 s.2.2).1),
     arg10.view.read (Elt F) (arg10.view.writes (Elt F) (arg10.view.rep s.2.1) (fullStepRun c i arg2 harg2 arg3 harg3 arg4 harg4 arg5 harg5 arg6 harg6 arg7 harg7 arg8 harg8 arg9 harg9 arg10 harg10 arg11 harg11 v1 v18 k0_hw2 h x3 x4 x5 x6 s.1 s.2.1 s.2.2).2.1),
     arg11.view.read (Elt F) (arg11.view.writes (Elt F) (arg11.view.rep s.2.2) (fullStepRun c i arg2 harg2 arg3 harg3 arg4 harg4 arg5 harg5 arg6 harg6 arg7 harg7 arg8 harg8 arg9 harg9 arg10 harg10 arg11 harg11 v1 v18 k0_hw2 h x3 x4 x5 x6 s.1 s.2.1 s.2.2).2.2.1))
  else s

theorem fullStep_wp (s : State F) (v1 v18 : Elt F .i32) (k0_hw2 : k0_chk2 v1 v18) (rest : Body F) (K : PUnit → sProp 𝕄) :
    iprop(holds c arg3 x3 ∗ holds c arg4 x4 ∗ holds c arg5 x5 ∗ holds c arg6 x6 ∗ holds c arg7 s.1 ∗ holds c arg10 s.2.1 ∗ holds c arg11 s.2.2
        ∗ (iprop(holds c arg3 x3 ∗ holds c arg4 x4 ∗ holds c arg5 x5 ∗ holds c arg6 x6 ∗ holds c arg7 (fullStepRes c i arg2 harg2 arg3 harg3 arg4 harg4 arg5 harg5 arg6 harg6 arg7 harg7 arg8 harg8 arg9 harg9 arg10 harg10 arg11 harg11 x3 x4 x5 x6 s v1 v18 k0_hw2).1
            ∗ holds c arg10 (fullStepRes c i arg2 harg2 arg3 harg3 arg4 harg4 arg5 harg5 arg6 harg6 arg7 harg7 arg8 harg8 arg9 harg9 arg10 harg10 arg11 harg11 x3 x4 x5 x6 s v1 v18 k0_hw2).2.1
            ∗ holds c arg11 (fullStepRes c i arg2 harg2 arg3 harg3 arg4 harg4 arg5 harg5 arg6 harg6 arg7 harg7 arg8 harg8 arg9 harg9 arg10 harg10 arg11 harg11 x3 x4 x5 x6 s v1 v18 k0_hw2).2.2) -∗ wpB c rest K))
      ⊢ wpB c (fullStep i arg2 harg2 arg3 harg3 arg4 harg4 arg5 harg5 arg6 harg6 arg7 harg7 arg8 harg8 arg9 harg9 arg10 harg10 arg11 harg11 v1 v18 k0_hw2 rest) K := by
  unfold fullStepRes
  by_cases h : k0_cond4 v18 = 1#1
  · simp only [dif_pos h]
    exact (fullStepRun c i arg2 harg2 arg3 harg3 arg4 harg4 arg5 harg5 arg6 harg6 arg7 harg7 arg8 harg8 arg9 harg9 arg10 harg10 arg11 harg11 v1 v18 k0_hw2 h x3 x4 x5 x6 s.1 s.2.1 s.2.2).2.2.2 rest K
  · simp only [dif_neg h]
    unfold fullStep; rw [dif_neg h]
    iintro ⟨H3, H4, H5, H6, H7, H10, H11, Hk⟩
    iapply Hk
    isplitl [H3]; · iexact H3
    isplitl [H4]; · iexact H4
    isplitl [H5]; · iexact H5
    isplitl [H6]; · iexact H6
    isplitl [H7]; · iexact H7
    isplitl [H10]; · iexact H10
    iexact H11

variable (hw1 : k0_chk1 (word1 i arg2 T) (word4 i arg2 T)) (hw2 : k0_chk2 (word1 i arg2 T) (word5 i arg2 T))

/-- After the body. -/
def bodyRes : State F :=
  fullStepRes c i arg2 harg2 arg3 harg3 arg4 harg4 arg5 harg5 arg6 harg6 arg7 harg7 arg8 harg8 arg9 harg9 arg10 harg10 arg11 harg11 x3 x4 x5 x6 (diagStepRes c i arg2 harg2 arg3 harg3 arg4 harg4 arg5 harg5 arg6 harg6 arg7 harg7 arg8 harg8 arg9 harg9 arg10 harg10 arg11 harg11 x3 x4 x5 x6 (cleared i arg2 T x7 x10 x11) (word1 i arg2 T) (word2 i arg2 T) (word4 i arg2 T) hw1)
    (word1 i arg2 T) (word5 i arg2 T) hw2

/-- The column's gradients after the body, given the accumulators. -/
def keyOut (s : State F) : Vec F S1024x512 .bf16 := if k0_cond5 (word6 i arg2 T) = 1#1 then k0_pay8 s.2.1 else x8
def valOut (s : State F) : Vec F S1024x512 .bf16 := if k0_cond5 (word6 i arg2 T) = 1#1 then k0_pay9 s.2.2 else x9

theorem load_wp (q : PosShare TreeShare) (off : Fin 2 → ℕ) (inb : ∀ a, off a + S1x1.size a ≤ S5x36.size a) (k : Elt F .i32 → Body F) (K : PUnit → sProp 𝕄) :
    iprop((arg2.view.loc (c : Thread nD τ) ↦[arg2.view.set]{q} arg2.view.rep T)
        ∗ (iprop(arg2.view.loc (c : Thread nD τ) ↦[arg2.view.set]{q} arg2.view.rep T) -∗ wpB c (k (word arg2 T off inb)) K))
      ⊢ wpB c (do let v ← smemLoad arg2 (Rect.unit off S1x1.size inb) numel1_S1x1 rfl; k v) K := by
  unfold wpB
  iintro ⟨HT, Hk⟩
  sl_exec
  iapply Hk
  iexact HT

theorem assume_wp (P : Prop) (d : Decidable P) (h : P) (k : PLift P → Body F) (K : PUnit → sProp 𝕄) :
    wpB c (k ⟨h⟩) K ⊢ wpB c (do let w ← Prog.lift (TpuEff.assume P d); k w) K := by
  unfold wpB
  iintro H
  sl_exec (disch := exact h)
  iexact H

attribute [local irreducible] zeroDq zeroSc diagStep fullStep flush in
set_option maxHeartbeats 2000000 in
theorem body_wp (q : PosShare TreeShare) (K : PUnit → sProp 𝕄) :
    iprop((arg2.view.loc (c : Thread nD τ) ↦[arg2.view.set]{q} arg2.view.rep T) ∗ holds c arg3 x3 ∗ holds c arg4 x4 ∗ holds c arg5 x5 ∗ holds c arg6 x6
        ∗ holds c arg7 x7 ∗ holds c arg8 x8 ∗ holds c arg9 x9 ∗ holds c arg10 x10 ∗ holds c arg11 x11
        ∗ (iprop((arg2.view.loc (c : Thread nD τ) ↦[arg2.view.set]{q} arg2.view.rep T) ∗ holds c arg3 x3 ∗ holds c arg4 x4 ∗ holds c arg5 x5 ∗ holds c arg6 x6
            ∗ holds c arg7 (bodyRes c i arg2 harg2 arg3 harg3 arg4 harg4 arg5 harg5 arg6 harg6 arg7 harg7 arg8 harg8 arg9 harg9 arg10 harg10 arg11 harg11 T x3 x4 x5 x6 x7 x10 x11 hw1 hw2).1
            ∗ holds c arg8 (keyOut i arg2 T x8 (bodyRes c i arg2 harg2 arg3 harg3 arg4 harg4 arg5 harg5 arg6 harg6 arg7 harg7 arg8 harg8 arg9 harg9 arg10 harg10 arg11 harg11 T x3 x4 x5 x6 x7 x10 x11 hw1 hw2))
            ∗ holds c arg9 (valOut i arg2 T x9 (bodyRes c i arg2 harg2 arg3 harg3 arg4 harg4 arg5 harg5 arg6 harg6 arg7 harg7 arg8 harg8 arg9 harg9 arg10 harg10 arg11 harg11 T x3 x4 x5 x6 x7 x10 x11 hw1 hw2))
            ∗ holds c arg10 (bodyRes c i arg2 harg2 arg3 harg3 arg4 harg4 arg5 harg5 arg6 harg6 arg7 harg7 arg8 harg8 arg9 harg9 arg10 harg10 arg11 harg11 T x3 x4 x5 x6 x7 x10 x11 hw1 hw2).2.1
            ∗ holds c arg11 (bodyRes c i arg2 harg2 arg3 harg3 arg4 harg4 arg5 harg5 arg6 harg6 arg7 harg7 arg8 harg8 arg9 harg9 arg10 harg10 arg11 harg11 T x3 x4 x5 x6 x7 x10 x11 hw1 hw2).2.2) -∗ K ⟨⟩))
      ⊢ wpB c (cc0_mla_attn_bwd i arg2 harg2 arg3 harg3 arg4 harg4 arg5 harg5 arg6 harg6 arg7 harg7 arg8 harg8 arg9 harg9 arg10 harg10 arg11 harg11) K := by
  rw [body_eq]
  iintro ⟨HT, H3, H4, H5, H6, H7, H8, H9, H10, H11, Hk⟩
  iapply load_wp
  isplitl [HT]; · iexact HT
  iintro HT
  iapply load_wp
  isplitl [HT]; · iexact HT
  iintro HT
  iapply zeroDq_wp c i arg7 x7
  isplitl [H7]; · iexact H7
  iintro H7
  iapply load_wp
  isplitl [HT]; · iexact HT
  iintro HT
  iapply zeroSc_wp c arg10 arg11 _ x10 x11
  isplitl [H10]; · iexact H10
  isplitl [H11]; · iexact H11
  iintro ⟨H10, H11⟩
  iapply load_wp
  isplitl [HT]; · iexact HT
  iintro HT
  iapply assume_wp c _ _ hw1
  iapply diagStep_wp c i arg2 harg2 arg3 harg3 arg4 harg4 arg5 harg5 arg6 harg6 arg7 harg7 arg8 harg8 arg9 harg9 arg10 harg10 arg11 harg11 x3 x4 x5 x6 (cleared i arg2 T x7 x10 x11)
  isplitl [H3]; · iexact H3
  isplitl [H4]; · iexact H4
  isplitl [H5]; · iexact H5
  isplitl [H6]; · iexact H6
  isplitl [H7]; · iexact H7
  isplitl [H10]; · iexact H10
  isplitl [H11]; · iexact H11
  iintro ⟨H3, H4, H5, H6, H7, H10, H11⟩
  iapply load_wp
  isplitl [HT]; · iexact HT
  iintro HT
  iapply assume_wp c _ _ hw2
  iapply fullStep_wp c i arg2 harg2 arg3 harg3 arg4 harg4 arg5 harg5 arg6 harg6 arg7 harg7 arg8 harg8 arg9 harg9 arg10 harg10 arg11 harg11 x3 x4 x5 x6 (diagStepRes c i arg2 harg2 arg3 harg3 arg4 harg4 arg5 harg5 arg6 harg6 arg7 harg7 arg8 harg8 arg9 harg9 arg10 harg10 arg11 harg11 x3 x4 x5 x6 (cleared i arg2 T x7 x10 x11) (word1 i arg2 T) (word2 i arg2 T) (word4 i arg2 T) hw1)
  isplitl [H3]; · iexact H3
  isplitl [H4]; · iexact H4
  isplitl [H5]; · iexact H5
  isplitl [H6]; · iexact H6
  isplitl [H7]; · iexact H7
  isplitl [H10]; · iexact H10
  isplitl [H11]; · iexact H11
  iintro ⟨H3, H4, H5, H6, H7, H10, H11⟩
  iapply load_wp
  isplitl [HT]; · iexact HT
  iintro HT
  iapply flush_wp c arg8 harg8 arg9 harg9 arg10 arg11 _ x8 x9
  isplitl [H8]; · iexact H8
  isplitl [H9]; · iexact H9
  isplitl [H10]; · iexact H10
  isplitl [H11]; · iexact H11
  iintro ⟨H8, H9, H10, H11⟩
  unfold wpB
  sl_step
  iapply Hk
  isplitl [HT]; · iexact HT
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Mla

end
-- ==== Proof.Tiles.lean ====
/- Accumulating stores into rectangles of a matrix, read at row and column numbers, and the sums over tiles that an
   attention's gradient is made of. -/
module

public import Idealize.ShloMosaic.Lib.Pointwise
public import Idealize.ShloMosaic.Lib.WritesUnit
public import Idealize.ShloMosaic.Lib.VecWindow
public import Idealize.ShloMosaic.Lib.WordCmp

@[expose] public section

noncomputable section

namespace Cert.Tiles

open Idealize.ShloMosaic Idealize.SL

/-- A matrix read at row and column numbers, zero outside. -/
def at2 {m n : ℕ} (x : (⟨2, ![m, n]⟩ : Shape).Idx → EReal) (a b : ℕ) : EReal :=
  if h : a < m ∧ b < n then x (ix2 ⟨a, h.1⟩ ⟨b, h.2⟩) else 0

theorem at2_of_lt {m n : ℕ} (x : (⟨2, ![m, n]⟩ : Shape).Idx → EReal) {a b : ℕ} (ha : a < m) (hb : b < n) :
    at2 x a b = x (ix2 ⟨a, ha⟩ ⟨b, hb⟩) := dif_pos ⟨ha, hb⟩

theorem at2_idx {m n : ℕ} (x : (⟨2, ![m, n]⟩ : Shape).Idx → EReal) (y : (⟨2, ![m, n]⟩ : Shape).Idx) :
    at2 x (y 0).val (y 1).val = x y := by
  rw [at2_of_lt x (y 0).isLt (y 1).isLt]
  exact congrArg x (eq_ix2 y).symm

section Views
variable {sig : RefSig} {κ : Kind} {sp : Space} {m n : ℕ} (v : View sig κ sp ⟨2, ![m, n]⟩ .f32) (v' : View sig κ sp ⟨2, ![m, n]⟩ .bf16)

/-- A rectangle of the values a buffer is held at. -/
theorem ld_apply (x : (⟨2, ![m, n]⟩ : Shape).Idx → EReal) (off size : Fin 2 → ℕ) (inb : ∀ a : Fin 2, off a + size a ≤ (⟨2, ![m, n]⟩ : Shape).size a)
    (y : (Rect.unit (s := ⟨2, ![m, n]⟩) off size inb).shape.Idx) :
    v.readAt (Elt Ideal) (Rect.unit (s := ⟨2, ![m, n]⟩) off size inb).toLoadRect (v.rep (Val := Elt Ideal) x) y = at2 x (off 0 + (y 0).val) (off 1 + (y 1).val) := by
  refine (congrFun (View.readAt_rep_unit (Val := Elt Ideal) v x inb rfl inb) y).trans ((at2_idx x _).symm.trans ?_)
  show at2 x (off 0 + 1 * (y 0).val) (off 1 + 1 * (y 1).val) = _
  rw [one_mul, one_mul]

/-- The same for the narrow format. -/
theorem ld_apply' (x : (⟨2, ![m, n]⟩ : Shape).Idx → EReal) (off size : Fin 2 → ℕ) (inb : ∀ a : Fin 2, off a + size a ≤ (⟨2, ![m, n]⟩ : Shape).size a)
    (y : (Rect.unit (s := ⟨2, ![m, n]⟩) off size inb).shape.Idx) :
    v'.readAt (Elt Ideal) (Rect.unit (s := ⟨2, ![m, n]⟩) off size inb).toLoadRect (v'.rep (Val := Elt Ideal) x) y = at2 x (off 0 + (y 0).val) (off 1 + (y 1).val) := by
  refine (congrFun (View.readAt_rep_unit (Val := Elt Ideal) v' x inb rfl inb) y).trans ((at2_idx x _).symm.trans ?_)
  show at2 x (off 0 + 1 * (y 0).val) (off 1 + 1 * (y 1).val) = _
  rw [one_mul, one_mul]

/-- The same of the values that stores have left. -/
theorem ld_writes_apply (f : v.ty.Contents (Elt Ideal)) (off size : Fin 2 → ℕ) (inb : ∀ a : Fin 2, off a + size a ≤ (⟨2, ![m, n]⟩ : Shape).size a)
    (y : (Rect.unit (s := ⟨2, ![m, n]⟩) off size inb).shape.Idx) :
    v.readAt (Elt Ideal) (Rect.unit (s := ⟨2, ![m, n]⟩) off size inb).toLoadRect f y
      = at2 (v.read (Elt Ideal) f) (off 0 + (y 0).val) (off 1 + (y 1).val) := by
  rw [View.readAt_unit v f inb rfl inb]
  refine (at2_idx _ _).symm.trans ?_
  show at2 _ (off 0 + 1 * (y 0).val) (off 1 + 1 * (y 1).val) = _
  rw [one_mul, one_mul]

/-- A store that adds `T` to a rectangle's values. -/
theorem read_bump (f : v.ty.Contents (Elt Ideal)) (L : List (View.Piece (Elt Ideal) ⟨2, ![m, n]⟩ .f32)) (off size : Fin 2 → ℕ)
    (inb : ∀ a : Fin 2, off a + size a ≤ (⟨2, ![m, n]⟩ : Shape).size a)
    (w : (Rect.unit (s := ⟨2, ![m, n]⟩) off size inb).shape.Idx → EReal) (A T : ℕ → ℕ → EReal)
    (hA : ∀ R C, R < m → C < n → at2 (v.read (Elt Ideal) (v.writes (Elt Ideal) f L)) R C = A R C)
    (hw : ∀ y, w y = A (off 0 + (y 0).val) (off 1 + (y 1).val) + T (off 0 + (y 0).val) (off 1 + (y 1).val))
    (R C : ℕ) (hR : R < m) (hC : C < n) :
    at2 (v.read (Elt Ideal) (v.writes (Elt Ideal) f ((⟨Rect.unit (s := ⟨2, ![m, n]⟩) off size inb, w⟩ : View.Piece (Elt Ideal) ⟨2, ![m, n]⟩ .f32) :: L))) R C
      = A R C + if (off 0 ≤ R ∧ R < off 0 + size 0) ∧ off 1 ≤ C ∧ C < off 1 + size 1 then T R C else 0 := by
  rw [at2_of_lt _ hR hC, View.read_writes_cons_unit v f inb w L _ rfl]
  by_cases h : (off 0 ≤ R ∧ R < off 0 + size 0) ∧ off 1 ≤ C ∧ C < off 1 + size 1
  · rw [if_pos h, dif_pos (Fin.forall_fin_two.mpr ⟨h.1, h.2⟩), hw]
    have h0 : off 0 + (R - off 0) = R := by omega
    have h1 : off 1 + (C - off 1) = C := by omega
    show A (off 0 + (R - off 0)) (off 1 + (C - off 1)) + T (off 0 + (R - off 0)) (off 1 + (C - off 1)) = _
    rw [h0, h1]
  · rw [if_neg h, dif_neg fun hall => h ⟨hall 0, hall 1⟩, add_zero]
    exact (at2_of_lt _ hR hC).symm.trans (hA R C hR hC)

/-- Stores that tile the columns and rows with values `G`. -/
theorem read_tiles (f : v.ty.Contents (Elt Ideal)) (L : List (View.Piece (Elt Ideal) ⟨2, ![m, n]⟩ .f32)) (G : ℕ → ℕ → EReal)
    (hL : ∀ p ∈ L, ∀ x : p.1.shape.Idx, p.2 x = G (p.1.emb x 0).val (p.1.emb x 1).val) (R C : ℕ) (hR : R < m) (hC : C < n)
    (hcov : ∃ p ∈ L, ix2 (⟨R, hR⟩ : Fin m) (⟨C, hC⟩ : Fin n) ∈ p.1.set) :
    at2 (v.read (Elt Ideal) (v.writes (Elt Ideal) f L)) R C = G R C := by
  rw [at2_of_lt _ hR hC]
  exact View.read_writes_apply_of_pieces v f (fun y => G (y 0).val (y 1).val) L hL _ hcov

end Views

/-- A sum whose first terms are zero is the sum of the others. -/
theorem sum_tail {o k N : ℕ} (h : o + k = N) (f : ℕ → EReal) (hf : ∀ e, e < o → f e = 0) :
    ∑ e : Fin k, f (o + e.val) = ∑ e : Fin N, f e.val := by
  subst h
  rw [← Finset.sum_range (fun e => f e), Finset.sum_range_add, Finset.sum_eq_zero (fun e he => hf e (Finset.mem_range.mp he)), zero_add,
    Finset.sum_range (fun e => f (o + e))]

/-- A sum over `p * k` numbers by runs of `k`. -/
theorem sum_runs (p k : ℕ) (f : ℕ → EReal) : ∑ r : Fin p, ∑ a : Fin k, f (r.val * k + a.val) = ∑ a : Fin (p * k), f a.val := by
  induction p with
  | zero => rw [Fin.sum_univ_zero]; exact (Finset.sum_eq_zero fun a _ => absurd a.isLt (by omega)).symm
  | succ p ih =>
    rw [Fin.sum_univ_castSucc]
    simp only [Fin.val_castSucc, Fin.val_last]
    rw [ih, ← Finset.sum_range (fun a => f a), ← Finset.sum_range (fun a => f a), ← Finset.sum_range (fun a => f (p * k + a)),
      Nat.succ_mul, Finset.sum_range_add]

section Scores
variable (w : ℕ) (K Q V O : ℕ → ℕ → EReal) (h a b : ℕ)

/-- Row `a` of `K` times row `b` of `Q`, over head `h`'s `w` columns. -/
def dotRow : EReal := ∑ d : Fin w, K a (h * w + d.val) * Q b (h * w + d.val)

/-- The weight of key `a` for query `b`, none for a later key where the pair of blocks is masked. -/
def prob (m : Bool) : EReal := Ideal.exp (if m = true ∧ b < a then ⊥ else dotRow w K Q h a b)

/-- The gradient of the score of key `a` for query `b`. -/
def dscore (m : Bool) : EReal := prob w K Q h a b m * dotRow w V O h a b

theorem prob_masked (hba : b < a) : prob w K Q h a b true = 0 := by
  unfold prob; rw [if_pos ⟨rfl, hba⟩]; rfl

theorem dscore_masked (hba : b < a) : dscore w K Q V O h a b true = 0 := by
  unfold dscore; rw [prob_masked w K Q h a b hba, zero_mul]

theorem prob_unmasked : prob w K Q h a b false = Ideal.exp (dotRow w K Q h a b) := by
  unfold prob; rw [if_neg (fun h => Bool.noConfusion h.1)]

end Scores

/-- The mask of a tile of a pair on the diagonal: keys from row `o + i`, queries from row `o' + j` of the same block of `N` rows. -/
theorem mask_select (q : ℕ) (hq : q < 64) (o o' i j : ℕ) (ho : o + i < 1024) (ho' : o' + j < 1024) (x y : EReal) :
    Scalar.select (IntOp.cmpi .sle (IntOp.addi (Scalar.addi (Scalar.muli (BitVec.ofNat 32 q) 1024#32) (BitVec.ofNat 32 o)) (BitVec.ofNat 32 i))
        (IntOp.addi (Scalar.addi (Scalar.muli (BitVec.ofNat 32 q) 1024#32) (BitVec.ofNat 32 o')) (BitVec.ofNat 32 j))) x y
      = if o' + j < o + i then y else x := by
  have e : ∀ u v, IntOp.addi (Scalar.addi (Scalar.muli (BitVec.ofNat 32 q) 1024#32) (BitVec.ofNat 32 u)) (BitVec.ofNat 32 v)
      = BitVec.ofNat 32 (q * 1024 + u + v) := fun u v => by
    show (BitVec.ofNat 32 q * BitVec.ofNat 32 1024 + BitVec.ofNat 32 u) + BitVec.ofNat 32 v = _
    rw [← BitVec.ofNat_mul, ← BitVec.ofNat_add, ← BitVec.ofNat_add]
  rw [e, e, WordCmp.cmpi_sle_ofNat (by norm_num; omega) (by norm_num; omega)]
  by_cases hlt : o' + j < o + i
  · rw [if_pos hlt, decide_eq_false (by omega)]; rfl
  · rw [if_neg hlt, decide_eq_true (by omega)]; rfl

end Cert.Tiles
-- ==== Proof.MlaFull.lean ====
/- What the attention backward kernel's step leaves below the diagonal, at an index. -/
module

public import proofs.«01_k».proof.Proof.MlaBody
public import proofs.«01_k».proof.Proof.Tiles

@[expose] public section

set_option maxRecDepth 16384

noncomputable section

namespace Mla

open Cert.MlaBwdIdeal Cert.MlaBwdIdeal.Gen Cert.Tiles
open Idealize.ShloMosaic Idealize.ShloMosaic.TcCoe Idealize.ShloMosaic.Tactic
open Idealize.SL

/-! ## The step's tiles, by sub-tile of keys and head -/

theorem inb_rows (h : Fin 2) : ∀ a : Fin 2, (![0, h.val * 256] : Fin 2 → ℕ) a + S1024x256.size a ≤ S1024x512.size a := by
  revert h; decide
theorem inb_tile (r : Fin 4) (h : Fin 2) : ∀ a : Fin 2, (![r.val * 256, h.val * 256] : Fin 2 → ℕ) a + S256x256.size a ≤ S1024x512.size a := by
  revert r h; decide

variable {F : FTy → Type} [FloatOps F] [Named F]

section Pieces
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)
variable (x3 x4 x5 x6 : Vec F S1024x512 .bf16) (x7 : Vec F S8192x512 .f32) (x10 x11 : Vec F S1024x512 .f32)

/-- A head's columns of a block, a tile of it, and a tile of an accumulator. -/
abbrev rowsOf (arg : Memref sig .tc .vmem S1024x512 .bf16) (x : Vec F S1024x512 .bf16) (h : Fin 2) : Vec F S1024x256 .bf16 :=
  View.readAt (Elt F) arg.view (Rect.unit (s := S1024x512) ![0, h.val * 256] S1024x256.size (inb_rows h)).toLoadRect (arg.view.rep x)
abbrev tileOf (arg : Memref sig .tc .vmem S1024x512 .bf16) (x : Vec F S1024x512 .bf16) (r : Fin 4) (h : Fin 2) : Vec F S256x256 .bf16 :=
  View.readAt (Elt F) arg.view (Rect.unit (s := S1024x512) ![r.val * 256, h.val * 256] S256x256.size (inb_tile r h)).toLoadRect (arg.view.rep x)
abbrev accOf (arg : Memref sig .tc .vmem S1024x512 .f32) (x : Vec F S1024x512 .f32) (r : Fin 4) (h : Fin 2) : Vec F S256x256 .f32 :=
  View.readAt (Elt F) arg.view (Rect.unit (s := S1024x512) ![r.val * 256, h.val * 256] S256x256.size (inb_tile r h)).toLoadRect (arg.view.rep x)

/-- The sub-tiles, the last one first. -/
abbrev order : List (Fin 4 × Fin 2) := [(3, 1), (2, 1), (1, 1), (0, 1), (3, 0), (2, 0), (1, 0), (0, 0)]

abbrev tilePiece (r : Fin 4) (h : Fin 2) (w : FVec F S256x256 .f32) : View.Piece (Elt F) S1024x512 .f32 :=
  ⟨Rect.unit (s := S1024x512) ![r.val * 256, h.val * 256] S256x256.size (inb_tile r h), w⟩

def fullVal : List (View.Piece (Elt F) S1024x512 .f32) := order.map fun p =>
  tilePiece p.1 p.2 (k0_pay85 (rowsOf arg3 x3 p.2) (rowsOf arg6 x6 p.2) (tileOf arg4 x4 p.1 p.2) (accOf arg11 x11 p.1 p.2))

def fullKey : List (View.Piece (Elt F) S1024x512 .f32) := order.map fun p =>
  tilePiece p.1 p.2 (k0_pay6 (k0_pay81 (rowsOf arg3 x3 p.2)) (k0_pay82 (rowsOf arg6 x6 p.2)) (k0_pay84 (rowsOf arg3 x3 p.2) (tileOf arg4 x4 p.1 p.2)) (k0_pay143 (tileOf arg5 x5 p.1 p.2)) (accOf arg10 x10 p.1 p.2))

/-- The row a step's block starts at, as a word's value. -/
abbrev rowOf (v1 : Elt F .i32) (o : BitVec 32) : ℕ := (Scalar.indexCast (Scalar.addi (Scalar.muli (v1 : BitVec 32) 1024#32) o) : Index).toNat

theorem full_inb (v1 v18 : Elt F .i32) (hw : k0_chk2 v1 v18) (h4 : k0_cond4 v18 = 1#1) (h : Fin 2) :
    ∀ a : Fin 2, (![rowOf v1 0#32, h.val * 256] : Fin 2 → ℕ) a + S1024x256.size a ≤ S8192x512.size a := fun a =>
  match h with
  | 0 => k0_off14_inb v1 v18 hw h4 a
  | 1 => k0_off15_inb v1 v18 hw h4 a

variable (v1 v18 : Elt F .i32) (hw : k0_chk2 v1 v18) (h4 : k0_cond4 v18 = 1#1)

/-- Sub-tile `p` added to the query gradient's rows. -/
def fullAdd (p : Fin 4 × Fin 2) (L : List (View.Piece (Elt F) S8192x512 .f32)) : List (View.Piece (Elt F) S8192x512 .f32) :=
  ⟨Rect.unit (s := S8192x512) ![rowOf v1 0#32, p.2.val * 256] S1024x256.size (full_inb v1 v18 hw h4 p.2),
    (k0_pay88 (rowsOf arg3 x3 p.2) (rowsOf arg6 x6 p.2) (tileOf arg4 x4 p.1 p.2) (tileOf arg5 x5 p.1 p.2)
      (View.readAt (Elt F) arg7.view (Rect.unit (s := S8192x512) ![rowOf v1 0#32, p.2.val * 256] S1024x256.size (full_inb v1 v18 hw h4 p.2)).toLoadRect
        (arg7.view.writes (Elt F) (arg7.view.rep x7) L)) : FVec F S1024x256 .f32)⟩ :: L

theorem full_val : (fullStepRun c i arg2 harg2 arg3 harg3 arg4 harg4 arg5 harg5 arg6 harg6 arg7 harg7 arg8 harg8 arg9 harg9 arg10 harg10 arg11 harg11 v1 v18 hw h4 x3 x4 x5 x6 x7 x10 x11).2.2.1
    = fullVal arg3 arg4 arg6 arg11 x3 x4 x6 x11 := rfl

theorem full_key : (fullStepRun c i arg2 harg2 arg3 harg3 arg4 harg4 arg5 harg5 arg6 harg6 arg7 harg7 arg8 harg8 arg9 harg9 arg10 harg10 arg11 harg11 v1 v18 hw h4 x3 x4 x5 x6 x7 x10 x11).2.1
    = fullKey arg3 arg4 arg5 arg6 arg10 x3 x4 x5 x6 x10 := rfl

theorem full_query : (fullStepRun c i arg2 harg2 arg3 harg3 arg4 harg4 arg5 harg5 arg6 harg6 arg7 harg7 arg8 harg8 arg9 harg9 arg10 harg10 arg11 harg11 v1 v18 hw h4 x3 x4 x5 x6 x7 x10 x11).1
    = order.foldr (fullAdd arg3 arg4 arg5 arg6 arg7 x3 x4 x5 x6 x7 v1 v18 hw h4) [] := by
  show fullAdd arg3 arg4 arg5 arg6 arg7 x3 x4 x5 x6 x7 v1 v18 hw h4 (3, 1) (fullStepRun.sl.H7_7 arg3 arg4 arg5 arg6 arg7 v1 v18 hw h4 x3 x4 x5 x6 x7) = _
  refine congrArg _ ?_
  show fullAdd arg3 arg4 arg5 arg6 arg7 x3 x4 x5 x6 x7 v1 v18 hw h4 (2, 1) (fullStepRun.sl.H7_6 arg3 arg4 arg5 arg6 arg7 v1 v18 hw h4 x3 x4 x5 x6 x7) = _
  refine congrArg _ ?_
  show fullAdd arg3 arg4 arg5 arg6 arg7 x3 x4 x5 x6 x7 v1 v18 hw h4 (1, 1) (fullStepRun.sl.H7_5 arg3 arg4 arg5 arg6 arg7 v1 v18 hw h4 x3 x4 x5 x6 x7) = _
  refine congrArg _ ?_
  show fullAdd arg3 arg4 arg5 arg6 arg7 x3 x4 x5 x6 x7 v1 v18 hw h4 (0, 1) (fullStepRun.sl.H7_4 arg3 arg4 arg5 arg6 arg7 v1 v18 hw h4 x3 x4 x5 x6 x7) = _
  refine congrArg _ ?_
  show fullAdd arg3 arg4 arg5 arg6 arg7 x3 x4 x5 x6 x7 v1 v18 hw h4 (3, 0) (fullStepRun.sl.H7_3 arg3 arg4 arg5 arg6 arg7 v1 v18 hw h4 x3 x4 x5 x6 x7) = _
  refine congrArg _ ?_
  show fullAdd arg3 arg4 arg5 arg6 arg7 x3 x4 x5 x6 x7 v1 v18 hw h4 (2, 0) (fullStepRun.sl.H7_2 arg3 arg4 arg5 arg6 arg7 v1 v18 hw h4 x3 x4 x5 x6 x7) = _
  refine congrArg _ ?_
  show fullAdd arg3 arg4 arg5 arg6 arg7 x3 x4 x5 x6 x7 v1 v18 hw h4 (1, 0) (fullStepRun.sl.H7_1 arg3 arg4 arg5 arg6 arg7 v1 v18 hw h4 x3 x4 x5 x6 x7) = _
  refine congrArg _ ?_
  simp only [List.foldr, fullAdd, View.writes_nil]
  rfl

end Pieces

section Values
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)
variable (x3 x4 x5 x6 : Vec Ideal S1024x512 .bf16) (x7 : Vec Ideal S8192x512 .f32) (x10 x11 : Vec Ideal S1024x512 .f32)

theorem rowsOf_apply (arg : Memref sig .tc .vmem S1024x512 .bf16) (x : Vec Ideal S1024x512 .bf16) (h : Fin 2) (a : Fin 1024) (b : Fin 256) :
    rowsOf (F := Ideal) arg x h (ix2 a b) = at2 x a.val (h.val * 256 + b.val) := by
  refine (ld_apply' arg.view x ![0, h.val * 256] S1024x256.size (inb_rows h) (ix2 a b)).trans ?_
  show at2 x (0 + a.val) (h.val * 256 + b.val) = _
  rw [zero_add]

theorem tileOf_apply (arg : Memref sig .tc .vmem S1024x512 .bf16) (x : Vec Ideal S1024x512 .bf16) (r : Fin 4) (h : Fin 2) (a b : Fin 256) :
    tileOf (F := Ideal) arg x r h (ix2 a b) = at2 x (r.val * 256 + a.val) (h.val * 256 + b.val) :=
  ld_apply' arg.view x ![r.val * 256, h.val * 256] S256x256.size (inb_tile r h) (ix2 a b)

theorem accOf_apply (arg : Memref sig .tc .vmem S1024x512 .f32) (x : Vec Ideal S1024x512 .f32) (r : Fin 4) (h : Fin 2) (a b : Fin 256) :
    accOf (F := Ideal) arg x r h (ix2 a b) = at2 x (r.val * 256 + a.val) (h.val * 256 + b.val) :=
  ld_apply arg.view x ![r.val * 256, h.val * 256] S256x256.size (inb_tile r h) (ix2 a b)

/-- What a step adds to the value gradient's accumulator, the key gradient's, and the query gradient's rows. -/
def addVal (m : Bool) (R C : ℕ) : EReal := ∑ e : Fin 1024, prob 256 (at2 x4) (at2 x3) (C / 256) R e.val m * at2 x6 e.val C
def addKey (m : Bool) (R C : ℕ) : EReal := ∑ e : Fin 1024, dscore 256 (at2 x4) (at2 x3) (at2 x5) (at2 x6) (C / 256) R e.val m * at2 x3 e.val C
def addQuery (m : Bool) (R C : ℕ) : EReal := ∑ e : Fin 1024, dscore 256 (at2 x4) (at2 x3) (at2 x5) (at2 x6) (C / 256) e.val R m * at2 x4 e.val C

/-- The part of the query gradient's rows from the keys of sub-tile `r`. -/
def addQueryOf (m : Bool) (r R C : ℕ) : EReal :=
  ∑ e : Fin 256, dscore 256 (at2 x4) (at2 x3) (at2 x5) (at2 x6) (C / 256) (r * 256 + e.val) R m * at2 x4 (r * 256 + e.val) C

theorem addQuery_eq (m : Bool) (R C : ℕ) : addQuery x3 x4 x5 x6 m R C = ∑ r : Fin 4, addQueryOf x3 x4 x5 x6 m r.val R C :=
  (sum_runs 4 256 fun e => dscore 256 (at2 x4) (at2 x3) (at2 x5) (at2 x6) (C / 256) e R m * at2 x4 e C).symm

theorem head_col (h : Fin 2) (b : Fin 256) : (h.val * 256 + b.val) / 256 = h.val := by
  have := b.isLt; omega

theorem full_val_tile (r : Fin 4) (h : Fin 2) (a b : Fin 256) :
    k0_pay85 (rowsOf arg3 x3 h) (rowsOf arg6 x6 h) (tileOf arg4 x4 r h) (accOf arg11 x11 r h) (ix2 a b)
      = at2 x11 (r.val * 256 + a.val) (h.val * 256 + b.val) + addVal x3 x4 x6 false (r.val * 256 + a.val) (h.val * 256 + b.val) := by
  unfold k0_pay85 k0_pay84 k0_pay83 k0_pay82 k0_pay81 addVal
  pointwise
  rw [head_col]
  simp only [rowsOf_apply, tileOf_apply, accOf_apply, prob_unmasked]
  rfl

theorem full_key_tile (r : Fin 4) (h : Fin 2) (a b : Fin 256) :
    k0_pay6 (k0_pay81 (rowsOf arg3 x3 h)) (k0_pay82 (rowsOf arg6 x6 h)) (k0_pay84 (rowsOf arg3 x3 h) (tileOf arg4 x4 r h)) (k0_pay143 (tileOf arg5 x5 r h)) (accOf arg10 x10 r h) (ix2 a b)
      = at2 x10 (r.val * 256 + a.val) (h.val * 256 + b.val) + addKey x3 x4 x5 x6 false (r.val * 256 + a.val) (h.val * 256 + b.val) := by
  unfold k0_pay6 k0_pay5 k0_pay143 k0_pay84 k0_pay83 k0_pay82 k0_pay81 addKey dscore
  pointwise
  rw [head_col]
  simp only [rowsOf_apply, tileOf_apply, accOf_apply, prob_unmasked]
  rfl

theorem full_query_tile (acc : Vec Ideal S1024x256 .f32) (r : Fin 4) (h : Fin 2) (a : Fin 1024) (b : Fin 256) :
    k0_pay88 (rowsOf arg3 x3 h) (rowsOf arg6 x6 h) (tileOf arg4 x4 r h) (tileOf arg5 x5 r h) acc (ix2 a b)
      = acc (ix2 a b) + addQueryOf x3 x4 x5 x6 false r.val a.val (h.val * 256 + b.val) := by
  unfold k0_pay88 k0_pay86 k0_pay84 k0_pay83 k0_pay82 k0_pay81 addQueryOf dscore
  pointwise
  rw [head_col]
  simp only [rowsOf_apply, tileOf_apply, prob_unmasked]
  rfl

/-- Every place of an accumulator lies in a sub-tile. -/
theorem tiles_cover (w : Fin 4 × Fin 2 → FVec Ideal S256x256 .f32) (R C : ℕ) (hR : R < 1024) (hC : C < 512) :
    ∃ p ∈ order.map fun p => tilePiece (F := Ideal) p.1 p.2 (w p), ix2 (⟨R, hR⟩ : Fin 1024) (⟨C, hC⟩ : Fin 512) ∈ p.1.set := by
  have hr : R / 256 < 4 := by omega
  have hh : C / 256 < 2 := by omega
  refine ⟨_, List.mem_map.mpr ⟨(⟨R / 256, hr⟩, ⟨C / 256, hh⟩), ?_, rfl⟩, ?_⟩
  · generalize (⟨R / 256, hr⟩ : Fin 4) = r, (⟨C / 256, hh⟩ : Fin 2) = h
    revert r h; decide
  · refine (Rect.mem_set_unit (inb := inb_tile ⟨R / 256, hr⟩ ⟨C / 256, hh⟩)).mpr (Fin.forall_fin_two.mpr ⟨?_, ?_⟩)
    · show R / 256 * 256 ≤ R ∧ R < R / 256 * 256 + 256
      omega
    · show C / 256 * 256 ≤ C ∧ C < C / 256 * 256 + 256
      omega

/-- Sub-tiles whose values are `G` leave `G`. -/
theorem read_order (arg : Memref sig .tc .vmem S1024x512 .f32) (f) (w : Fin 4 × Fin 2 → FVec Ideal S256x256 .f32) (G : ℕ → ℕ → EReal)
    (hw : ∀ (r : Fin 4) (h : Fin 2) (a b : Fin 256), w (r, h) (ix2 a b) = G (r.val * 256 + a.val) (h.val * 256 + b.val)) (R C : ℕ) (hR : R < 1024) (hC : C < 512) :
    at2 (arg.view.read (Elt Ideal) (arg.view.writes (Elt Ideal) f (order.map fun p => tilePiece (F := Ideal) p.1 p.2 (w p)))) R C = G R C := by
  refine read_tiles arg.view f _ G ?_ R C hR hC (tiles_cover w R C hR hC)
  intro p hp
  obtain ⟨⟨r, h⟩, -, rfl⟩ := List.mem_map.mp hp
  intro x
  refine (congrArg (w (r, h)) (eq_ix2 (n0 := 256) (n1 := 256) x)).trans ((hw r h (x 0) (x 1)).trans ?_)
  show _ = G (r.val * 256 + 1 * (x 0).val) (h.val * 256 + 1 * (x 1).val)
  rw [one_mul, one_mul]

variable (v1 v18 : Elt Ideal .i32) (hw : k0_chk2 v1 v18) (h4 : k0_cond4 v18 = 1#1)

theorem full_val_read (R C : ℕ) (hR : R < 1024) (hC : C < 512) :
    at2 (arg11.view.read (Elt Ideal) (arg11.view.writes (Elt Ideal) (arg11.view.rep x11) (fullStepRun c i arg2 harg2 arg3 harg3 arg4 harg4 arg5 harg5 arg6 harg6 arg7 harg7 arg8 harg8 arg9 harg9 arg10 harg10 arg11 harg11 v1 v18 hw h4 x3 x4 x5 x6 x7 x10 x11).2.2.1)) R C
      = at2 x11 R C + addVal x3 x4 x6 false R C := by
  rw [full_val]
  exact read_order arg11 _ _ (fun R C => at2 x11 R C + addVal x3 x4 x6 false R C) (fun r h a b => full_val_tile arg3 arg4 arg6 arg11 x3 x4 x6 x11 r h a b) R C hR hC

theorem full_key_read (R C : ℕ) (hR : R < 1024) (hC : C < 512) :
    at2 (arg10.view.read (Elt Ideal) (arg10.view.writes (Elt Ideal) (arg10.view.rep x10) (fullStepRun c i arg2 harg2 arg3 harg3 arg4 harg4 arg5 harg5 arg6 harg6 arg7 harg7 arg8 harg8 arg9 harg9 arg10 harg10 arg11 harg11 v1 v18 hw h4 x3 x4 x5 x6 x7 x10 x11).2.1)) R C
      = at2 x10 R C + addKey x3 x4 x5 x6 false R C := by
  rw [full_key]
  exact read_order arg10 _ _ (fun R C => at2 x10 R C + addKey x3 x4 x5 x6 false R C) (fun r h a b => full_key_tile arg3 arg4 arg5 arg6 arg10 x3 x4 x5 x6 x10 r h a b) R C hR hC

theorem full_query_add (p : Fin 4 × Fin 2) (L : List (View.Piece (Elt Ideal) S8192x512 .f32)) (A : ℕ → ℕ → EReal)
    (hA : ∀ R C, R < 8192 → C < 512 → at2 (arg7.view.read (Elt Ideal) (arg7.view.writes (Elt Ideal) (arg7.view.rep x7) L)) R C = A R C) (R C : ℕ) (hR : R < 8192) (hC : C < 512) :
    at2 (arg7.view.read (Elt Ideal) (arg7.view.writes (Elt Ideal) (arg7.view.rep x7) (fullAdd arg3 arg4 arg5 arg6 arg7 x3 x4 x5 x6 x7 v1 v18 hw h4 p L))) R C
      = A R C + if (rowOf (F := Ideal) v1 0#32 ≤ R ∧ R < rowOf (F := Ideal) v1 0#32 + 1024) ∧ p.2.val * 256 ≤ C ∧ C < p.2.val * 256 + 256
          then addQueryOf x3 x4 x5 x6 false p.1.val (R - rowOf (F := Ideal) v1 0#32) C else 0 := by
  refine read_bump arg7.view (arg7.view.rep x7) L ![rowOf (F := Ideal) v1 0#32, p.2.val * 256] S1024x256.size (full_inb (F := Ideal) v1 v18 hw h4 p.2) _ A
    (fun R C => addQueryOf x3 x4 x5 x6 false p.1.val (R - rowOf (F := Ideal) v1 0#32) C) hA (fun y => ?_) R C hR hC
  refine (congrArg _ (eq_ix2 (n0 := 1024) (n1 := 256) y)).trans ((full_query_tile arg3 arg4 arg5 arg6 x3 x4 x5 x6 _ p.1 p.2 (y 0) (y 1)).trans ?_)
  refine congrArg₂ (· + ·) ?_ ?_
  · refine (ld_writes_apply arg7.view _ ![rowOf (F := Ideal) v1 0#32, p.2.val * 256] S1024x256.size (full_inb (F := Ideal) v1 v18 hw h4 p.2) (ix2 (y 0) (y 1))).trans (hA _ _ ?_ ?_)
    · have h0 := full_inb (F := Ideal) v1 v18 hw h4 p.2 0
      have h1 : (y 0).val < 1024 := (y 0).isLt
      exact Nat.lt_of_lt_of_le (Nat.add_lt_add_left h1 _) h0
    · have h0 := full_inb (F := Ideal) v1 v18 hw h4 p.2 1
      have h1 : (y 1).val < 256 := (y 1).isLt
      exact Nat.lt_of_lt_of_le (Nat.add_lt_add_left h1 _) h0
  · show _ = addQueryOf x3 x4 x5 x6 false p.1.val (rowOf (F := Ideal) v1 0#32 + (y 0).val - rowOf (F := Ideal) v1 0#32) (p.2.val * 256 + (y 1).val)
    rw [Nat.add_sub_cancel_left]

/-- Bumps at the eight sub-tiles, in their order, add up to the whole step's. -/
theorem order_sum (a : EReal) (g : Fin 4 → EReal) (P : Prop) [Decidable P] (C : ℕ) (hC : C < 512) :
    order.foldr (fun p (s : EReal) => s + if P ∧ p.2.val * 256 ≤ C ∧ C < p.2.val * 256 + 256 then g p.1 else 0) a = a + if P then ∑ r, g r else 0 := by
  by_cases hP : P
  · by_cases hC' : C < 256
    · simp [order, hP, hC', show ¬ 256 ≤ C by omega, Fin.sum_univ_four, add_assoc]
    · simp [order, hP, hC', show 256 ≤ C by omega, show C < 256 + 256 by omega, Fin.sum_univ_four, add_assoc]
  · simp [order, hP]

theorem full_query_read (R C : ℕ) (hR : R < 8192) (hC : C < 512) :
    at2 (arg7.view.read (Elt Ideal) (arg7.view.writes (Elt Ideal) (arg7.view.rep x7) (fullStepRun c i arg2 harg2 arg3 harg3 arg4 harg4 arg5 harg5 arg6 harg6 arg7 harg7 arg8 harg8 arg9 harg9 arg10 harg10 arg11 harg11 v1 v18 hw h4 x3 x4 x5 x6 x7 x10 x11).1)) R C
      = at2 x7 R C + if rowOf (F := Ideal) v1 0#32 ≤ R ∧ R < rowOf (F := Ideal) v1 0#32 + 1024
          then addQuery x3 x4 x5 x6 false (R - rowOf (F := Ideal) v1 0#32) C else 0 := by
  rw [full_query, addQuery_eq, ← order_sum (at2 x7 R C) (fun r => addQueryOf x3 x4 x5 x6 false r.val (R - rowOf (F := Ideal) v1 0#32) C) _ C hC]
  generalize order = l
  revert R C
  induction l with
  | nil =>
    intro R C hR hC
    rw [List.foldr_nil, List.foldr_nil, View.writes_nil, View.read_rep]
  | cons p l ih =>
    intro R C hR hC
    rw [List.foldr_cons, List.foldr_cons]
    exact full_query_add arg3 arg4 arg5 arg6 arg7 x3 x4 x5 x6 x7 v1 v18 hw h4 p _ (fun R C => l.foldr _ (at2 x7 R C)) (fun R C hR hC => ih R C hR hC) R C hR hC

end Values

end Mla
-- ==== Proof.MlaDiag.lean ====
/- What the attention backward kernel's step leaves on the diagonal, at an index. -/
module

public import proofs.«01_k».proof.Proof.MlaFull

@[expose] public section

set_option maxRecDepth 16384

noncomputable section

namespace Mla

open Cert.MlaBwdIdeal Cert.MlaBwdIdeal.Gen Cert.Tiles
open Idealize.ShloMosaic Idealize.ShloMosaic.TcCoe Idealize.ShloMosaic.Tactic
open Idealize.SL

/-! ## The rows of queries a sub-tile of keys meets, and what it adds, by sub-tile -/

section Tiles
variable {F : FTy → Type} [FloatOps F] [Named F]

theorem inb_from1 (h : Fin 2) : ∀ a : Fin 2, (![256, h.val * 256] : Fin 2 → ℕ) a + S768x256.size a ≤ S1024x512.size a := by
  revert h; decide
theorem inb_from2 (h : Fin 2) : ∀ a : Fin 2, (![512, h.val * 256] : Fin 2 → ℕ) a + S512x256.size a ≤ S1024x512.size a := by
  revert h; decide
theorem inb_from3 (h : Fin 2) : ∀ a : Fin 2, (![768, h.val * 256] : Fin 2 → ℕ) a + S256x256.size a ≤ S1024x512.size a := by
  revert h; decide

abbrev rowsFrom1 (arg : Memref sig .tc .vmem S1024x512 .bf16) (x : Vec F S1024x512 .bf16) (h : Fin 2) : Vec F S768x256 .bf16 :=
  View.readAt (Elt F) arg.view (Rect.unit (s := S1024x512) ![256, h.val * 256] S768x256.size (inb_from1 h)).toLoadRect (arg.view.rep x)
abbrev rowsFrom2 (arg : Memref sig .tc .vmem S1024x512 .bf16) (x : Vec F S1024x512 .bf16) (h : Fin 2) : Vec F S512x256 .bf16 :=
  View.readAt (Elt F) arg.view (Rect.unit (s := S1024x512) ![512, h.val * 256] S512x256.size (inb_from2 h)).toLoadRect (arg.view.rep x)
abbrev rowsFrom3 (arg : Memref sig .tc .vmem S1024x512 .bf16) (x : Vec F S1024x512 .bf16) (h : Fin 2) : Vec F S256x256 .bf16 :=
  View.readAt (Elt F) arg.view (Rect.unit (s := S1024x512) ![768, h.val * 256] S256x256.size (inb_from3 h)).toLoadRect (arg.view.rep x)

variable (v1 v3 : Elt F .i32) (k v : Vec F S256x256 .bf16) (acc : Vec F S256x256 .f32)

/-- The value gradient's tile, the key gradient's tile and the query gradient's rows after a sub-tile. -/
def val0 (q d : Vec F S1024x256 .bf16) : FVec F S256x256 .f32 := k0_pay14 v1 v3 q d k acc
def val1 (q d : Vec F S768x256 .bf16) : FVec F S256x256 .f32 := k0_pay24 (k0_pay20 d) acc (k0_pay23 v1 v3 q k) (constant S256x256 .f32 0x00000000#32)
def val2 (q d : Vec F S512x256 .bf16) : FVec F S256x256 .f32 := k0_pay33 v3 (k0_pay29 d) (k0_pay31 q k) (Scalar.muli v1 1024#32) acc
def val3 (q d : Vec F S256x256 .bf16) : FVec F S256x256 .f32 := k0_pay42 v1 v3 q d k acc
def key0 (q d : Vec F S1024x256 .bf16) : FVec F S256x256 .f32 := k0_pay17 (k0_pay16 v1 v3 q d k v acc)
def key1 (q d : Vec F S768x256 .bf16) : FVec F S256x256 .f32 := k0_pay26 (k0_pay19 q) (k0_pay20 d) (k0_pay22 v1 v3 q k) v acc
def key2 (q d : Vec F S512x256 .bf16) : FVec F S256x256 .f32 := k0_pay35 v3 (k0_pay28 q) (k0_pay29 d) (k0_pay31 q k) (Scalar.muli v1 1024#32) v acc
def key3 (q d : Vec F S256x256 .bf16) : FVec F S256x256 .f32 := k0_pay44 (k0_pay38 q) (k0_pay43 v1 v3 q d k v) acc
def query0 (q d : Vec F S1024x256 .bf16) (a : Vec F S1024x256 .f32) : FVec F S1024x256 .f32 := k0_pay18 (k0_pay12 k) (k0_pay15 v1 v3 q d k v) a
def query1 (q d : Vec F S768x256 .bf16) (a : Vec F S768x256 .f32) : FVec F S768x256 .f32 := k0_pay27 (k0_pay20 d) (k0_pay21 k) (k0_pay22 v1 v3 q k) v a
def query2 (q d : Vec F S512x256 .bf16) (a : Vec F S512x256 .f32) : FVec F S512x256 .f32 :=
  k0_pay37 (k0_pay30 k) (k0_pay34 v3 (k0_pay29 d) (k0_pay31 q k) (Scalar.muli v1 1024#32) v) (k0_pay36 a) (constant S512x256 .f32 0x00000000#32)
def query3 (q d : Vec F S256x256 .bf16) (a : Vec F S256x256 .f32) : FVec F S256x256 .f32 := k0_pay45 (k0_pay40 k) (k0_pay43 v1 v3 q d k v) a

end Tiles

/-! ## Over the reals: the masked pairs add nothing, so each adds the whole block's sum -/

section Sums
variable (n : ℕ) (k v : Vec Ideal S256x256 .bf16) (acc : Vec Ideal S256x256 .f32) (X : EReal) (h : Fin 2) (a b : Fin 256)
variable (x3 x4 x5 x6 : Vec Ideal S1024x512 .bf16)

/-- A sum over the queries from `o` on is the sum over all, the earlier ones being masked. -/
theorem addVal_tail {o w : ℕ} (how : o + w = 1024) (R C : ℕ) (hR : o ≤ R) :
    addVal x3 x4 x6 true R C = ∑ e : Fin w, prob 256 (at2 x4) (at2 x3) (C / 256) R (o + e.val) true * at2 x6 (o + e.val) C := by
  refine (sum_tail how (fun e => prob 256 (at2 x4) (at2 x3) (C / 256) R e true * at2 x6 e C) fun e he => ?_).symm
  show prob 256 (at2 x4) (at2 x3) (C / 256) R e true * at2 x6 e C = 0
  rw [prob_masked _ _ _ _ _ _ (by omega), zero_mul]
theorem addKey_tail {o w : ℕ} (how : o + w = 1024) (R C : ℕ) (hR : o ≤ R) :
    addKey x3 x4 x5 x6 true R C = ∑ e : Fin w, dscore 256 (at2 x4) (at2 x3) (at2 x5) (at2 x6) (C / 256) R (o + e.val) true * at2 x3 (o + e.val) C := by
  refine (sum_tail how (fun e => dscore 256 (at2 x4) (at2 x3) (at2 x5) (at2 x6) (C / 256) R e true * at2 x3 e C) fun e he => ?_).symm
  show dscore 256 (at2 x4) (at2 x3) (at2 x5) (at2 x6) (C / 256) R e true * at2 x3 e C = 0
  rw [dscore_masked _ _ _ _ _ _ _ _ (by omega), zero_mul]
theorem addQueryOf_masked (r R C : ℕ) (hR : R < r * 256) : addQueryOf x3 x4 x5 x6 true r R C = 0 := by
  refine Finset.sum_eq_zero fun e _ => ?_
  rw [dscore_masked _ _ _ _ _ _ _ _ (by omega), zero_mul]

/-- The masked weight as the step computes it. -/
theorem prob_select (hn : n < 64) (o a b : ℕ) (ho : o + a < 1024) (ho' : o + b < 1024) (K Q : ℕ → ℕ → EReal) (g : ℕ) :
    Ideal.exp (Scalar.select (IntOp.cmpi .sle (IntOp.addi (Scalar.addi (Scalar.muli (BitVec.ofNat 32 n) 1024#32) (BitVec.ofNat 32 o)) (BitVec.ofNat 32 a))
        (IntOp.addi (Scalar.addi (Scalar.muli (BitVec.ofNat 32 n) 1024#32) (BitVec.ofNat 32 o)) (BitVec.ofNat 32 b)))
        (∑ d : Fin 256, K (o + a) (g * 256 + d.val) * Q (o + b) (g * 256 + d.val)) (Named.named (F := Ideal) (φ := .f32) κ "mask" 0xF149F2CA#32))
      = prob 256 K Q g (o + a) (o + b) true := by
  rw [mask_select n hn o o a b ho ho']
  unfold prob dotRow
  simp only [true_and]
  rfl

theorem val0_apply (hn : n < 64) (q d' : Vec Ideal S1024x256 .bf16) (hq : ∀ e d, q (ix2 e d) = at2 x3 (0 + e.val) (h.val * 256 + d.val)) (hk : ∀ e d, k (ix2 e d) = at2 x4 (0 + e.val) (h.val * 256 + d.val))
    (hd : ∀ e d, d' (ix2 e d) = at2 x6 (0 + e.val) (h.val * 256 + d.val)) (hacc : acc (ix2 a b) = X) :
    val0 (F := Ideal) (BitVec.ofNat 32 n) (BitVec.ofNat 32 n) k acc q d' (ix2 a b) = X + addVal x3 x4 x6 true (0 + a.val) (h.val * 256 + b.val) := by
  rw [addVal_tail x3 x4 x6 (o := 0) (w := 1024) rfl _ _ (Nat.le_add_right _ _), head_col]
  unfold val0 k0_pay14 k0_pay13 k0_pay12 k0_pay11 k0_pay10
  pointwise
  simp only [hq, hk, hd, hacc]
  simp (disch := omega) only [prob_select n hn]
  simp only [zero_add]

theorem key0_apply (hn : n < 64) (q d' : Vec Ideal S1024x256 .bf16) (hq : ∀ e d, q (ix2 e d) = at2 x3 (0 + e.val) (h.val * 256 + d.val)) (hk : ∀ e d, k (ix2 e d) = at2 x4 (0 + e.val) (h.val * 256 + d.val))
    (hd : ∀ e d, d' (ix2 e d) = at2 x6 (0 + e.val) (h.val * 256 + d.val))
    (hv : ∀ e d, v (ix2 e d) = at2 x5 (0 + e.val) (h.val * 256 + d.val)) (hacc : acc (ix2 a b) = X) :
    key0 (F := Ideal) (BitVec.ofNat 32 n) (BitVec.ofNat 32 n) k v acc q d' (ix2 a b) = X + addKey x3 x4 x5 x6 true (0 + a.val) (h.val * 256 + b.val) := by
  rw [addKey_tail x3 x4 x5 x6 (o := 0) (w := 1024) rfl _ _ (Nat.le_add_right _ _), head_col]
  unfold key0 k0_pay17 k0_pay16 k0_pay15 k0_pay13 k0_pay12 k0_pay11 k0_pay10
  pointwise
  simp only [hq, hk, hd, hv, hacc]
  simp (disch := omega) only [prob_select n hn]
  simp only [zero_add]
  rfl

theorem query0_apply (hn : n < 64) (q d' : Vec Ideal S1024x256 .bf16) (hq : ∀ e d, q (ix2 e d) = at2 x3 (0 + e.val) (h.val * 256 + d.val)) (hk : ∀ e d, k (ix2 e d) = at2 x4 (0 + e.val) (h.val * 256 + d.val))
    (hd : ∀ e d, d' (ix2 e d) = at2 x6 (0 + e.val) (h.val * 256 + d.val))
    (hv : ∀ e d, v (ix2 e d) = at2 x5 (0 + e.val) (h.val * 256 + d.val)) (A : Vec Ideal S1024x256 .f32) (e : Fin 1024) :
    query0 (F := Ideal) (BitVec.ofNat 32 n) (BitVec.ofNat 32 n) k v q d' A (ix2 e b) = A (ix2 e b) + addQueryOf x3 x4 x5 x6 true 0 (0 + e.val) (h.val * 256 + b.val) := by
  unfold query0 k0_pay18 k0_pay15 k0_pay13 k0_pay12 k0_pay11 k0_pay10 addQueryOf
  pointwise
  rw [head_col]
  simp only [hq, hk, hd, hv]
  simp (disch := omega) only [prob_select n hn]
  simp only [zero_add]
  rfl

theorem val1_apply (hn : n < 64) (q d' : Vec Ideal S768x256 .bf16) (hq : ∀ e d, q (ix2 e d) = at2 x3 (256 + e.val) (h.val * 256 + d.val)) (hk : ∀ e d, k (ix2 e d) = at2 x4 (256 + e.val) (h.val * 256 + d.val))
    (hd : ∀ e d, d' (ix2 e d) = at2 x6 (256 + e.val) (h.val * 256 + d.val)) (hacc : acc (ix2 a b) = X) :
    val1 (F := Ideal) (BitVec.ofNat 32 n) (BitVec.ofNat 32 n) k acc q d' (ix2 a b) = X + addVal x3 x4 x6 true (256 + a.val) (h.val * 256 + b.val) := by
  rw [addVal_tail x3 x4 x6 (o := 256) (w := 768) rfl _ _ (Nat.le_add_right _ _), head_col]
  unfold val1 k0_pay24 k0_pay23 k0_pay22 k0_pay21 k0_pay20 k0_pay19
  pointwise
  simp only [hq, hk, hd, hacc]
  simp (disch := omega) only [prob_select n hn]

theorem key1_apply (hn : n < 64) (q d' : Vec Ideal S768x256 .bf16) (hq : ∀ e d, q (ix2 e d) = at2 x3 (256 + e.val) (h.val * 256 + d.val)) (hk : ∀ e d, k (ix2 e d) = at2 x4 (256 + e.val) (h.val * 256 + d.val))
    (hd : ∀ e d, d' (ix2 e d) = at2 x6 (256 + e.val) (h.val * 256 + d.val))
    (hv : ∀ e d, v (ix2 e d) = at2 x5 (256 + e.val) (h.val * 256 + d.val)) (hacc : acc (ix2 a b) = X) :
    key1 (F := Ideal) (BitVec.ofNat 32 n) (BitVec.ofNat 32 n) k v acc q d' (ix2 a b) = X + addKey x3 x4 x5 x6 true (256 + a.val) (h.val * 256 + b.val) := by
  rw [addKey_tail x3 x4 x5 x6 (o := 256) (w := 768) rfl _ _ (Nat.le_add_right _ _), head_col]
  unfold key1 k0_pay26 k0_pay25 k0_pay22 k0_pay21 k0_pay20 k0_pay19
  pointwise
  simp only [hq, hk, hd, hv, hacc]
  simp (disch := omega) only [prob_select n hn]
  rfl

theorem query1_apply (hn : n < 64) (q d' : Vec Ideal S768x256 .bf16) (hq : ∀ e d, q (ix2 e d) = at2 x3 (256 + e.val) (h.val * 256 + d.val)) (hk : ∀ e d, k (ix2 e d) = at2 x4 (256 + e.val) (h.val * 256 + d.val))
    (hd : ∀ e d, d' (ix2 e d) = at2 x6 (256 + e.val) (h.val * 256 + d.val))
    (hv : ∀ e d, v (ix2 e d) = at2 x5 (256 + e.val) (h.val * 256 + d.val)) (A : Vec Ideal S768x256 .f32) (e : Fin 768) :
    query1 (F := Ideal) (BitVec.ofNat 32 n) (BitVec.ofNat 32 n) k v q d' A (ix2 e b) = A (ix2 e b) + addQueryOf x3 x4 x5 x6 true 1 (256 + e.val) (h.val * 256 + b.val) := by
  unfold query1 k0_pay27 k0_pay25 k0_pay22 k0_pay21 k0_pay20 k0_pay19 addQueryOf
  pointwise
  rw [head_col]
  simp only [hq, hk, hd, hv]
  simp (disch := omega) only [prob_select n hn]
  rfl

theorem val2_apply (hn : n < 64) (q d' : Vec Ideal S512x256 .bf16) (hq : ∀ e d, q (ix2 e d) = at2 x3 (512 + e.val) (h.val * 256 + d.val)) (hk : ∀ e d, k (ix2 e d) = at2 x4 (512 + e.val) (h.val * 256 + d.val))
    (hd : ∀ e d, d' (ix2 e d) = at2 x6 (512 + e.val) (h.val * 256 + d.val)) (hacc : acc (ix2 a b) = X) :
    val2 (F := Ideal) (BitVec.ofNat 32 n) (BitVec.ofNat 32 n) k acc q d' (ix2 a b) = X + addVal x3 x4 x6 true (512 + a.val) (h.val * 256 + b.val) := by
  rw [addVal_tail x3 x4 x6 (o := 512) (w := 512) rfl _ _ (Nat.le_add_right _ _), head_col]
  unfold val2 k0_pay33 k0_pay32 k0_pay31 k0_pay30 k0_pay29 k0_pay28
  pointwise
  simp only [hq, hk, hd, hacc]
  simp (disch := omega) only [prob_select n hn]

theorem key2_apply (hn : n < 64) (q d' : Vec Ideal S512x256 .bf16) (hq : ∀ e d, q (ix2 e d) = at2 x3 (512 + e.val) (h.val * 256 + d.val)) (hk : ∀ e d, k (ix2 e d) = at2 x4 (512 + e.val) (h.val * 256 + d.val))
    (hd : ∀ e d, d' (ix2 e d) = at2 x6 (512 + e.val) (h.val * 256 + d.val))
    (hv : ∀ e d, v (ix2 e d) = at2 x5 (512 + e.val) (h.val * 256 + d.val)) (hacc : acc (ix2 a b) = X) :
    key2 (F := Ideal) (BitVec.ofNat 32 n) (BitVec.ofNat 32 n) k v acc q d' (ix2 a b) = X + addKey x3 x4 x5 x6 true (512 + a.val) (h.val * 256 + b.val) := by
  rw [addKey_tail x3 x4 x5 x6 (o := 512) (w := 512) rfl _ _ (Nat.le_add_right _ _), head_col]
  unfold key2 k0_pay35 k0_pay34 k0_pay32 k0_pay31 k0_pay30 k0_pay29 k0_pay28
  pointwise
  simp only [hq, hk, hd, hv, hacc]
  simp (disch := omega) only [prob_select n hn]
  rfl

theorem query2_apply (hn : n < 64) (q d' : Vec Ideal S512x256 .bf16) (hq : ∀ e d, q (ix2 e d) = at2 x3 (512 + e.val) (h.val * 256 + d.val)) (hk : ∀ e d, k (ix2 e d) = at2 x4 (512 + e.val) (h.val * 256 + d.val))
    (hd : ∀ e d, d' (ix2 e d) = at2 x6 (512 + e.val) (h.val * 256 + d.val))
    (hv : ∀ e d, v (ix2 e d) = at2 x5 (512 + e.val) (h.val * 256 + d.val)) (A : Vec Ideal S512x256 .f32) (e : Fin 512) :
    query2 (F := Ideal) (BitVec.ofNat 32 n) (BitVec.ofNat 32 n) k v q d' A (ix2 e b) = A (ix2 e b) + addQueryOf x3 x4 x5 x6 true 2 (512 + e.val) (h.val * 256 + b.val) := by
  unfold query2 k0_pay37 k0_pay36 k0_pay34 k0_pay32 k0_pay31 k0_pay30 k0_pay29 k0_pay28 addQueryOf
  pointwise
  rw [head_col]
  simp only [hq, hk, hd, hv]
  simp (disch := omega) only [prob_select n hn]
  rfl

theorem val3_apply (hn : n < 64) (q d' : Vec Ideal S256x256 .bf16) (hq : ∀ e d, q (ix2 e d) = at2 x3 (768 + e.val) (h.val * 256 + d.val)) (hk : ∀ e d, k (ix2 e d) = at2 x4 (768 + e.val) (h.val * 256 + d.val))
    (hd : ∀ e d, d' (ix2 e d) = at2 x6 (768 + e.val) (h.val * 256 + d.val)) (hacc : acc (ix2 a b) = X) :
    val3 (F := Ideal) (BitVec.ofNat 32 n) (BitVec.ofNat 32 n) k acc q d' (ix2 a b) = X + addVal x3 x4 x6 true (768 + a.val) (h.val * 256 + b.val) := by
  rw [addVal_tail x3 x4 x6 (o := 768) (w := 256) rfl _ _ (Nat.le_add_right _ _), head_col]
  unfold val3 k0_pay42 k0_pay41 k0_pay40 k0_pay39 k0_pay38
  pointwise
  simp only [hq, hk, hd, hacc]
  simp (disch := omega) only [prob_select n hn]

theorem key3_apply (hn : n < 64) (q d' : Vec Ideal S256x256 .bf16) (hq : ∀ e d, q (ix2 e d) = at2 x3 (768 + e.val) (h.val * 256 + d.val)) (hk : ∀ e d, k (ix2 e d) = at2 x4 (768 + e.val) (h.val * 256 + d.val))
    (hd : ∀ e d, d' (ix2 e d) = at2 x6 (768 + e.val) (h.val * 256 + d.val))
    (hv : ∀ e d, v (ix2 e d) = at2 x5 (768 + e.val) (h.val * 256 + d.val)) (hacc : acc (ix2 a b) = X) :
    key3 (F := Ideal) (BitVec.ofNat 32 n) (BitVec.ofNat 32 n) k v acc q d' (ix2 a b) = X + addKey x3 x4 x5 x6 true (768 + a.val) (h.val * 256 + b.val) := by
  rw [addKey_tail x3 x4 x5 x6 (o := 768) (w := 256) rfl _ _ (Nat.le_add_right _ _), head_col]
  unfold key3 k0_pay44 k0_pay43 k0_pay41 k0_pay40 k0_pay39 k0_pay38
  pointwise
  simp only [hq, hk, hd, hv, hacc]
  simp (disch := omega) only [prob_select n hn]
  rfl

theorem query3_apply (hn : n < 64) (q d' : Vec Ideal S256x256 .bf16) (hq : ∀ e d, q (ix2 e d) = at2 x3 (768 + e.val) (h.val * 256 + d.val)) (hk : ∀ e d, k (ix2 e d) = at2 x4 (768 + e.val) (h.val * 256 + d.val))
    (hd : ∀ e d, d' (ix2 e d) = at2 x6 (768 + e.val) (h.val * 256 + d.val))
    (hv : ∀ e d, v (ix2 e d) = at2 x5 (768 + e.val) (h.val * 256 + d.val)) (A : Vec Ideal S256x256 .f32) (e : Fin 256) :
    query3 (F := Ideal) (BitVec.ofNat 32 n) (BitVec.ofNat 32 n) k v q d' A (ix2 e b) = A (ix2 e b) + addQueryOf x3 x4 x5 x6 true 3 (768 + e.val) (h.val * 256 + b.val) := by
  unfold query3 k0_pay45 k0_pay43 k0_pay41 k0_pay40 k0_pay39 k0_pay38 addQueryOf
  pointwise
  rw [head_col]
  simp only [hq, hk, hd, hv]
  simp (disch := omega) only [prob_select n hn]
  rfl

end Sums

/-! ## The step's stores are these -/

section Lists
variable {F : FTy → Type} [FloatOps F] [Named F]
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)
variable (x3 x4 x5 x6 : Vec F S1024x512 .bf16) (x7 : Vec F S8192x512 .f32) (x10 x11 : Vec F S1024x512 .f32)
variable (v1 v3 v13 : Elt F .i32) (hw : k0_chk1 v1 v13) (h3 : k0_cond3 v13 = 1#1)

def diagVal : Fin 4 × Fin 2 → FVec F S256x256 .f32
  | (0, h) => val0 v1 v3 (tileOf arg4 x4 0 h) (accOf arg11 x11 0 h) (rowsOf arg3 x3 h) (rowsOf arg6 x6 h)
  | (1, h) => val1 v1 v3 (tileOf arg4 x4 1 h) (accOf arg11 x11 1 h) (rowsFrom1 arg3 x3 h) (rowsFrom1 arg6 x6 h)
  | (2, h) => val2 v1 v3 (tileOf arg4 x4 2 h) (accOf arg11 x11 2 h) (rowsFrom2 arg3 x3 h) (rowsFrom2 arg6 x6 h)
  | (3, h) => val3 v1 v3 (tileOf arg4 x4 3 h) (accOf arg11 x11 3 h) (rowsFrom3 arg3 x3 h) (rowsFrom3 arg6 x6 h)

def diagKey : Fin 4 × Fin 2 → FVec F S256x256 .f32
  | (0, h) => key0 v1 v3 (tileOf arg4 x4 0 h) (tileOf arg5 x5 0 h) (accOf arg10 x10 0 h) (rowsOf arg3 x3 h) (rowsOf arg6 x6 h)
  | (1, h) => key1 v1 v3 (tileOf arg4 x4 1 h) (tileOf arg5 x5 1 h) (accOf arg10 x10 1 h) (rowsFrom1 arg3 x3 h) (rowsFrom1 arg6 x6 h)
  | (2, h) => key2 v1 v3 (tileOf arg4 x4 2 h) (tileOf arg5 x5 2 h) (accOf arg10 x10 2 h) (rowsFrom2 arg3 x3 h) (rowsFrom2 arg6 x6 h)
  | (3, h) => key3 v1 v3 (tileOf arg4 x4 3 h) (tileOf arg5 x5 3 h) (accOf arg10 x10 3 h) (rowsFrom3 arg3 x3 h) (rowsFrom3 arg6 x6 h)

include hw h3 in
theorem diag_inb0 (h : Fin 2) : ∀ a : Fin 2, (![rowOf (F := F) v1 0#32, h.val * 256] : Fin 2 → ℕ) a + S1024x256.size a ≤ S8192x512.size a := fun a =>
  match h with
  | 0 => k0_off5_inb v1 v13 hw h3 a
  | 1 => k0_off9_inb v1 v13 hw h3 a
include hw h3 in
theorem diag_inb1 (h : Fin 2) : ∀ a : Fin 2, (![rowOf (F := F) v1 256#32, h.val * 256] : Fin 2 → ℕ) a + S768x256.size a ≤ S8192x512.size a := fun a =>
  match h with
  | 0 => k0_off6_inb v1 v13 hw h3 a
  | 1 => k0_off10_inb v1 v13 hw h3 a
include hw h3 in
theorem diag_inb2 (h : Fin 2) : ∀ a : Fin 2, (![rowOf (F := F) v1 512#32, h.val * 256] : Fin 2 → ℕ) a + S512x256.size a ≤ S8192x512.size a := fun a =>
  match h with
  | 0 => k0_off7_inb v1 v13 hw h3 a
  | 1 => k0_off11_inb v1 v13 hw h3 a
include hw h3 in
theorem diag_inb3 (h : Fin 2) : ∀ a : Fin 2, (![rowOf (F := F) v1 768#32, h.val * 256] : Fin 2 → ℕ) a + S256x256.size a ≤ S8192x512.size a := fun a =>
  match h with
  | 0 => k0_off8_inb v1 v13 hw h3 a
  | 1 => k0_off12_inb v1 v13 hw h3 a

/-- The rows of the query gradient a sub-tile of keys adds to. -/
abbrev diagRows0 (h : Fin 2) := Rect.unit (s := S8192x512) ![rowOf (F := F) v1 0#32, h.val * 256] S1024x256.size (diag_inb0 v1 v13 hw h3 h)
abbrev diagRows1 (h : Fin 2) := Rect.unit (s := S8192x512) ![rowOf (F := F) v1 256#32, h.val * 256] S768x256.size (diag_inb1 v1 v13 hw h3 h)
abbrev diagRows2 (h : Fin 2) := Rect.unit (s := S8192x512) ![rowOf (F := F) v1 512#32, h.val * 256] S512x256.size (diag_inb2 v1 v13 hw h3 h)
abbrev diagRows3 (h : Fin 2) := Rect.unit (s := S8192x512) ![rowOf (F := F) v1 768#32, h.val * 256] S256x256.size (diag_inb3 v1 v13 hw h3 h)

variable (L : List (View.Piece (Elt F) S8192x512 .f32))
def diagAdd0 (h : Fin 2) : List (View.Piece (Elt F) S8192x512 .f32) :=
  ⟨diagRows0 v1 v13 hw h3 h, (query0 v1 v3 (tileOf arg4 x4 0 h) (tileOf arg5 x5 0 h) (rowsOf arg3 x3 h) (rowsOf arg6 x6 h)
    (View.readAt (Elt F) arg7.view (diagRows0 v1 v13 hw h3 h).toLoadRect (arg7.view.writes (Elt F) (arg7.view.rep x7) L)) : FVec F S1024x256 .f32)⟩ :: L
def diagAdd1 (h : Fin 2) : List (View.Piece (Elt F) S8192x512 .f32) :=
  ⟨diagRows1 v1 v13 hw h3 h, (query1 v1 v3 (tileOf arg4 x4 1 h) (tileOf arg5 x5 1 h) (rowsFrom1 arg3 x3 h) (rowsFrom1 arg6 x6 h)
    (View.readAt (Elt F) arg7.view (diagRows1 v1 v13 hw h3 h).toLoadRect (arg7.view.writes (Elt F) (arg7.view.rep x7) L)) : FVec F S768x256 .f32)⟩ :: L
def diagAdd2 (h : Fin 2) : List (View.Piece (Elt F) S8192x512 .f32) :=
  ⟨diagRows2 v1 v13 hw h3 h, (query2 v1 v3 (tileOf arg4 x4 2 h) (tileOf arg5 x5 2 h) (rowsFrom2 arg3 x3 h) (rowsFrom2 arg6 x6 h)
    (View.readAt (Elt F) arg7.view (diagRows2 v1 v13 hw h3 h).toLoadRect (arg7.view.writes (Elt F) (arg7.view.rep x7) L)) : FVec F S512x256 .f32)⟩ :: L
def diagAdd3 (h : Fin 2) : List (View.Piece (Elt F) S8192x512 .f32) :=
  ⟨diagRows3 v1 v13 hw h3 h, (query3 v1 v3 (tileOf arg4 x4 3 h) (tileOf arg5 x5 3 h) (rowsFrom3 arg3 x3 h) (rowsFrom3 arg6 x6 h)
    (View.readAt (Elt F) arg7.view (diagRows3 v1 v13 hw h3 h).toLoadRect (arg7.view.writes (Elt F) (arg7.view.rep x7) L)) : FVec F S256x256 .f32)⟩ :: L

def diagAdd : Fin 4 × Fin 2 → List (View.Piece (Elt F) S8192x512 .f32)
  | (0, h) => diagAdd0 arg3 arg4 arg5 arg6 arg7 x3 x4 x5 x6 x7 v1 v3 v13 hw h3 L h
  | (1, h) => diagAdd1 arg3 arg4 arg5 arg6 arg7 x3 x4 x5 x6 x7 v1 v3 v13 hw h3 L h
  | (2, h) => diagAdd2 arg3 arg4 arg5 arg6 arg7 x3 x4 x5 x6 x7 v1 v3 v13 hw h3 L h
  | (3, h) => diagAdd3 arg3 arg4 arg5 arg6 arg7 x3 x4 x5 x6 x7 v1 v3 v13 hw h3 L h

theorem diag_val : (diagStepRun c i arg2 harg2 arg3 harg3 arg4 harg4 arg5 harg5 arg6 harg6 arg7 harg7 arg8 harg8 arg9 harg9 arg10 harg10 arg11 harg11 v1 v3 v13 hw h3 x3 x4 x5 x6 x7 x10 x11).2.2.1
    = order.map fun p => tilePiece p.1 p.2 (diagVal arg3 arg4 arg6 arg11 x3 x4 x6 x11 v1 v3 p) := rfl

theorem diag_key : (diagStepRun c i arg2 harg2 arg3 harg3 arg4 harg4 arg5 harg5 arg6 harg6 arg7 harg7 arg8 harg8 arg9 harg9 arg10 harg10 arg11 harg11 v1 v3 v13 hw h3 x3 x4 x5 x6 x7 x10 x11).2.1
    = order.map fun p => tilePiece p.1 p.2 (diagKey arg3 arg4 arg5 arg6 arg10 x3 x4 x5 x6 x10 v1 v3 p) := rfl

theorem diag_query : (diagStepRun c i arg2 harg2 arg3 harg3 arg4 harg4 arg5 harg5 arg6 harg6 arg7 harg7 arg8 harg8 arg9 harg9 arg10 harg10 arg11 harg11 v1 v3 v13 hw h3 x3 x4 x5 x6 x7 x10 x11).1
    = order.foldr (fun p L => diagAdd arg3 arg4 arg5 arg6 arg7 x3 x4 x5 x6 x7 v1 v3 v13 hw h3 L p) [] := by
  show diagAdd3 arg3 arg4 arg5 arg6 arg7 x3 x4 x5 x6 x7 v1 v3 v13 hw h3 (diagStepRun.sl.H7_7 arg3 arg4 arg5 arg6 arg7 v1 v3 v13 hw h3 x3 x4 x5 x6 x7) 1 = _
  refine congrArg (fun L => diagAdd3 arg3 arg4 arg5 arg6 arg7 x3 x4 x5 x6 x7 v1 v3 v13 hw h3 L 1) ?_
  show diagAdd2 arg3 arg4 arg5 arg6 arg7 x3 x4 x5 x6 x7 v1 v3 v13 hw h3 (diagStepRun.sl.H7_6 arg3 arg4 arg5 arg6 arg7 v1 v3 v13 hw h3 x3 x4 x5 x6 x7) 1 = _
  refine congrArg (fun L => diagAdd2 arg3 arg4 arg5 arg6 arg7 x3 x4 x5 x6 x7 v1 v3 v13 hw h3 L 1) ?_
  show diagAdd1 arg3 arg4 arg5 arg6 arg7 x3 x4 x5 x6 x7 v1 v3 v13 hw h3 (diagStepRun.sl.H7_5 arg3 arg4 arg5 arg6 arg7 v1 v3 v13 hw h3 x3 x4 x5 x6 x7) 1 = _
  refine congrArg (fun L => diagAdd1 arg3 arg4 arg5 arg6 arg7 x3 x4 x5 x6 x7 v1 v3 v13 hw h3 L 1) ?_
  show diagAdd0 arg3 arg4 arg5 arg6 arg7 x3 x4 x5 x6 x7 v1 v3 v13 hw h3 (diagStepRun.sl.H7_4 arg3 arg4 arg5 arg6 arg7 v1 v3 v13 hw h3 x3 x4 x5 x6 x7) 1 = _
  refine congrArg (fun L => diagAdd0 arg3 arg4 arg5 arg6 arg7 x3 x4 x5 x6 x7 v1 v3 v13 hw h3 L 1) ?_
  show diagAdd3 arg3 arg4 arg5 arg6 arg7 x3 x4 x5 x6 x7 v1 v3 v13 hw h3 (diagStepRun.sl.H7_3 arg3 arg4 arg5 arg6 arg7 v1 v3 v13 hw h3 x3 x4 x5 x6 x7) 0 = _
  refine congrArg (fun L => diagAdd3 arg3 arg4 arg5 arg6 arg7 x3 x4 x5 x6 x7 v1 v3 v13 hw h3 L 0) ?_
  show diagAdd2 arg3 arg4 arg5 arg6 arg7 x3 x4 x5 x6 x7 v1 v3 v13 hw h3 (diagStepRun.sl.H7_2 arg3 arg4 arg5 arg6 arg7 v1 v3 v13 hw h3 x3 x4 x5 x6 x7) 0 = _
  refine congrArg (fun L => diagAdd2 arg3 arg4 arg5 arg6 arg7 x3 x4 x5 x6 x7 v1 v3 v13 hw h3 L 0) ?_
  show diagAdd1 arg3 arg4 arg5 arg6 arg7 x3 x4 x5 x6 x7 v1 v3 v13 hw h3 (diagStepRun.sl.H7_1 arg3 arg4 arg5 arg6 arg7 v1 v3 v13 hw h3 x3 x4 x5 x6 x7) 0 = _
  refine congrArg (fun L => diagAdd1 arg3 arg4 arg5 arg6 arg7 x3 x4 x5 x6 x7 v1 v3 v13 hw h3 L 0) ?_
  simp only [List.foldr, diagAdd, diagAdd0, View.writes_nil]
  rfl

end Lists

/-! ## What the step leaves -/

section Reads
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)
variable (x3 x4 x5 x6 : Vec Ideal S1024x512 .bf16) (x7 : Vec Ideal S8192x512 .f32) (x10 x11 : Vec Ideal S1024x512 .f32)

theorem rowOf_ofNat (n : ℕ) (hn : n < 64) (o : ℕ) (ho : o < 1024) : rowOf (F := Ideal) (BitVec.ofNat 32 n) (BitVec.ofNat 32 o) = n * 1024 + o := by
  show (BitVec.ofNat 32 n * BitVec.ofNat 32 1024 + BitVec.ofNat 32 o).toNat = _
  rw [← BitVec.ofNat_mul, ← BitVec.ofNat_add, BitVec.toNat_ofNat]
  exact Nat.mod_eq_of_lt (by norm_num; omega)

theorem rowsFrom1_apply (arg : Memref sig .tc .vmem S1024x512 .bf16) (x : Vec Ideal S1024x512 .bf16) (h : Fin 2) (a : Fin 768) (b : Fin 256) :
    rowsFrom1 (F := Ideal) arg x h (ix2 a b) = at2 x (256 + a.val) (h.val * 256 + b.val) :=
  ld_apply' arg.view x ![256, h.val * 256] S768x256.size (inb_from1 h) (ix2 a b)
theorem rowsFrom2_apply (arg : Memref sig .tc .vmem S1024x512 .bf16) (x : Vec Ideal S1024x512 .bf16) (h : Fin 2) (a : Fin 512) (b : Fin 256) :
    rowsFrom2 (F := Ideal) arg x h (ix2 a b) = at2 x (512 + a.val) (h.val * 256 + b.val) :=
  ld_apply' arg.view x ![512, h.val * 256] S512x256.size (inb_from2 h) (ix2 a b)
theorem rowsFrom3_apply (arg : Memref sig .tc .vmem S1024x512 .bf16) (x : Vec Ideal S1024x512 .bf16) (h : Fin 2) (a : Fin 256) (b : Fin 256) :
    rowsFrom3 (F := Ideal) arg x h (ix2 a b) = at2 x (768 + a.val) (h.val * 256 + b.val) :=
  ld_apply' arg.view x ![768, h.val * 256] S256x256.size (inb_from3 h) (ix2 a b)
theorem rowsOf_apply0 (arg : Memref sig .tc .vmem S1024x512 .bf16) (x : Vec Ideal S1024x512 .bf16) (h : Fin 2) (a : Fin 1024) (b : Fin 256) :
    rowsOf (F := Ideal) arg x h (ix2 a b) = at2 x (0 + a.val) (h.val * 256 + b.val) := by rw [rowsOf_apply, zero_add]
theorem tileOf_at (arg : Memref sig .tc .vmem S1024x512 .bf16) (x : Vec Ideal S1024x512 .bf16) (r : Fin 4) (o : ℕ) (ho : r.val * 256 = o) (h : Fin 2) (a b : Fin 256) :
    tileOf (F := Ideal) arg x r h (ix2 a b) = at2 x (o + a.val) (h.val * 256 + b.val) := by rw [tileOf_apply, ho]

variable (n : ℕ) (hn : n < 8)

include hn in
theorem diag_val_tile (r : Fin 4) (h : Fin 2) (a b : Fin 256) :
    diagVal (F := Ideal) arg3 arg4 arg6 arg11 x3 x4 x6 x11 (BitVec.ofNat 32 n) (BitVec.ofNat 32 n) (r, h) (ix2 a b)
      = at2 x11 (r.val * 256 + a.val) (h.val * 256 + b.val) + addVal x3 x4 x6 true (r.val * 256 + a.val) (h.val * 256 + b.val) :=
  match r with
  | 0 => val0_apply n _ _ _ h a b x3 x4 x6 (by omega) _ _ (fun e d => rowsOf_apply0 arg3 x3 h e d) (fun e d => tileOf_at arg4 x4 0 0 rfl h e d)
      (fun e d => rowsOf_apply0 arg6 x6 h e d) (accOf_apply arg11 x11 0 h a b)
  | 1 => val1_apply n _ _ _ h a b x3 x4 x6 (by omega) _ _ (fun e d => rowsFrom1_apply arg3 x3 h e d) (fun e d => tileOf_at arg4 x4 1 256 rfl h e d)
      (fun e d => rowsFrom1_apply arg6 x6 h e d) (accOf_apply arg11 x11 1 h a b)
  | 2 => val2_apply n _ _ _ h a b x3 x4 x6 (by omega) _ _ (fun e d => rowsFrom2_apply arg3 x3 h e d) (fun e d => tileOf_at arg4 x4 2 512 rfl h e d)
      (fun e d => rowsFrom2_apply arg6 x6 h e d) (accOf_apply arg11 x11 2 h a b)
  | 3 => val3_apply n _ _ _ h a b x3 x4 x6 (by omega) _ _ (fun e d => rowsFrom3_apply arg3 x3 h e d) (fun e d => tileOf_at arg4 x4 3 768 rfl h e d)
      (fun e d => rowsFrom3_apply arg6 x6 h e d) (accOf_apply arg11 x11 3 h a b)

include hn in
theorem diag_key_tile (r : Fin 4) (h : Fin 2) (a b : Fin 256) :
    diagKey (F := Ideal) arg3 arg4 arg5 arg6 arg10 x3 x4 x5 x6 x10 (BitVec.ofNat 32 n) (BitVec.ofNat 32 n) (r, h) (ix2 a b)
      = at2 x10 (r.val * 256 + a.val) (h.val * 256 + b.val) + addKey x3 x4 x5 x6 true (r.val * 256 + a.val) (h.val * 256 + b.val) :=
  match r with
  | 0 => key0_apply n _ _ _ _ h a b x3 x4 x5 x6 (by omega) _ _ (fun e d => rowsOf_apply0 arg3 x3 h e d) (fun e d => tileOf_at arg4 x4 0 0 rfl h e d)
      (fun e d => rowsOf_apply0 arg6 x6 h e d) (fun e d => tileOf_at arg5 x5 0 0 rfl h e d) (accOf_apply arg10 x10 0 h a b)
  | 1 => key1_apply n _ _ _ _ h a b x3 x4 x5 x6 (by omega) _ _ (fun e d => rowsFrom1_apply arg3 x3 h e d) (fun e d => tileOf_at arg4 x4 1 256 rfl h e d)
      (fun e d => rowsFrom1_apply arg6 x6 h e d) (fun e d => tileOf_at arg5 x5 1 256 rfl h e d) (accOf_apply arg10 x10 1 h a b)
  | 2 => key2_apply n _ _ _ _ h a b x3 x4 x5 x6 (by omega) _ _ (fun e d => rowsFrom2_apply arg3 x3 h e d) (fun e d => tileOf_at arg4 x4 2 512 rfl h e d)
      (fun e d => rowsFrom2_apply arg6 x6 h e d) (fun e d => tileOf_at arg5 x5 2 512 rfl h e d) (accOf_apply arg10 x10 2 h a b)
  | 3 => key3_apply n _ _ _ _ h a b x3 x4 x5 x6 (by omega) _ _ (fun e d => rowsFrom3_apply arg3 x3 h e d) (fun e d => tileOf_at arg4 x4 3 768 rfl h e d)
      (fun e d => rowsFrom3_apply arg6 x6 h e d) (fun e d => tileOf_at arg5 x5 3 768 rfl h e d) (accOf_apply arg10 x10 3 h a b)

variable (v13 : Elt Ideal .i32) (hw : k0_chk1 (BitVec.ofNat 32 n) v13) (h3 : k0_cond3 v13 = 1#1)

include hn in
theorem diag_val_read (R C : ℕ) (hR : R < 1024) (hC : C < 512) :
    at2 (arg11.view.read (Elt Ideal) (arg11.view.writes (Elt Ideal) (arg11.view.rep x11) (diagStepRun c i arg2 harg2 arg3 harg3 arg4 harg4 arg5 harg5 arg6 harg6 arg7 harg7 arg8 harg8 arg9 harg9 arg10 harg10 arg11 harg11 (BitVec.ofNat 32 n) (BitVec.ofNat 32 n) v13 hw h3 x3 x4 x5 x6 x7 x10 x11).2.2.1)) R C
      = at2 x11 R C + addVal x3 x4 x6 true R C := by
  rw [diag_val]
  exact read_order arg11 _ _ (fun R C => at2 x11 R C + addVal x3 x4 x6 true R C) (fun r h a b => diag_val_tile arg3 arg4 arg6 arg11 x3 x4 x6 x11 n hn r h a b) R C hR hC

include hn in
theorem diag_key_read (R C : ℕ) (hR : R < 1024) (hC : C < 512) :
    at2 (arg10.view.read (Elt Ideal) (arg10.view.writes (Elt Ideal) (arg10.view.rep x10) (diagStepRun c i arg2 harg2 arg3 harg3 arg4 harg4 arg5 harg5 arg6 harg6 arg7 harg7 arg8 harg8 arg9 harg9 arg10 harg10 arg11 harg11 (BitVec.ofNat 32 n) (BitVec.ofNat 32 n) v13 hw h3 x3 x4 x5 x6 x7 x10 x11).2.1)) R C
      = at2 x10 R C + addKey x3 x4 x5 x6 true R C := by
  rw [diag_key]
  exact read_order arg10 _ _ (fun R C => at2 x10 R C + addKey x3 x4 x5 x6 true R C) (fun r h a b => diag_key_tile arg3 arg4 arg5 arg6 arg10 x3 x4 x5 x6 x10 n hn r h a b) R C hR hC

/-- A store that adds a sub-tile's part to the rows from `o` of a block of queries adds it to the whole block's: the earlier rows have none. -/
theorem bump_rows (L : List (View.Piece (Elt Ideal) S8192x512 .f32)) (r : Fin 4) (h : Fin 2) (size : Fin 2 → ℕ) (hs0 : size 0 + r.val * 256 = 1024) (hs1 : size 1 = 256)
    (row : ℕ) (hrow : row = n * 1024 + r.val * 256)
    (inb : ∀ a : Fin 2, (![row, h.val * 256] : Fin 2 → ℕ) a + size a ≤ S8192x512.size a)
    (w : (Rect.unit (s := S8192x512) ![row, h.val * 256] size inb).shape.Idx → EReal) (A : ℕ → ℕ → EReal)
    (hA : ∀ R C, R < 8192 → C < 512 → at2 (arg7.view.read (Elt Ideal) (arg7.view.writes (Elt Ideal) (arg7.view.rep x7) L)) R C = A R C)
    (hw : ∀ y, w y = View.readAt (Elt Ideal) arg7.view (Rect.unit (s := S8192x512) ![row, h.val * 256] size inb).toLoadRect (arg7.view.writes (Elt Ideal) (arg7.view.rep x7) L) y
      + addQueryOf x3 x4 x5 x6 true r.val (r.val * 256 + (y 0).val) (h.val * 256 + (y 1).val))
    (R C : ℕ) (hR : R < 8192) (hC : C < 512) :
    at2 (arg7.view.read (Elt Ideal) (arg7.view.writes (Elt Ideal) (arg7.view.rep x7) (⟨Rect.unit (s := S8192x512) ![row, h.val * 256] size inb, w⟩ :: L))) R C
      = A R C + if (n * 1024 ≤ R ∧ R < n * 1024 + 1024) ∧ h.val * 256 ≤ C ∧ C < h.val * 256 + 256 then addQueryOf x3 x4 x5 x6 true r.val (R - n * 1024) C else 0 := by
  subst hrow
  refine (read_bump arg7.view (arg7.view.rep x7) L _ size inb w A (fun R C => addQueryOf x3 x4 x5 x6 true r.val (R - n * 1024) C) hA (fun y => ?_) R C hR hC).trans
    (congrArg (A R C + ·) ?_)
  · refine (hw y).trans (congrArg₂ (· + ·) ?_ ?_)
    · refine (ld_writes_apply arg7.view _ _ size inb y).trans (hA _ _ ?_ ?_)
      · exact Nat.lt_of_lt_of_le (Nat.add_lt_add_left (y 0).isLt _) (inb 0)
      · exact Nat.lt_of_lt_of_le (Nat.add_lt_add_left (y 1).isLt _) (inb 1)
    · show _ = addQueryOf x3 x4 x5 x6 true r.val (n * 1024 + r.val * 256 + (y 0).val - n * 1024) (h.val * 256 + (y 1).val)
      rw [Nat.add_assoc, Nat.add_sub_cancel_left]
  · show (if (n * 1024 + r.val * 256 ≤ R ∧ R < n * 1024 + r.val * 256 + size 0) ∧ h.val * 256 ≤ C ∧ C < h.val * 256 + size 1 then _ else _) = _
    rw [hs1]
    by_cases hlow : R < n * 1024 + r.val * 256
    · rw [if_neg (by omega)]
      by_cases hin : (n * 1024 ≤ R ∧ R < n * 1024 + 1024) ∧ h.val * 256 ≤ C ∧ C < h.val * 256 + 256
      · rw [if_pos hin, addQueryOf_masked _ _ _ _ _ _ _ (by omega)]
      · rw [if_neg hin]
    · exact if_congr (by omega) rfl rfl

include hn in
theorem diag_query_add (p : Fin 4 × Fin 2) (L : List (View.Piece (Elt Ideal) S8192x512 .f32)) (A : ℕ → ℕ → EReal)
    (hA : ∀ R C, R < 8192 → C < 512 → at2 (arg7.view.read (Elt Ideal) (arg7.view.writes (Elt Ideal) (arg7.view.rep x7) L)) R C = A R C) (R C : ℕ) (hR : R < 8192) (hC : C < 512) :
    at2 (arg7.view.read (Elt Ideal) (arg7.view.writes (Elt Ideal) (arg7.view.rep x7) (diagAdd (F := Ideal) arg3 arg4 arg5 arg6 arg7 x3 x4 x5 x6 x7 (BitVec.ofNat 32 n) (BitVec.ofNat 32 n) v13 hw h3 L p))) R C
      = A R C + if (n * 1024 ≤ R ∧ R < n * 1024 + 1024) ∧ p.2.val * 256 ≤ C ∧ C < p.2.val * 256 + 256 then addQueryOf x3 x4 x5 x6 true p.1.val (R - n * 1024) C else 0 :=
  match p with
  | (0, h) => bump_rows arg7 x3 x4 x5 x6 x7 n L 0 h S1024x256.size rfl rfl _ (rowOf_ofNat n (by omega) 0 (by omega)) (diag_inb0 (F := Ideal) _ v13 hw h3 h) _ A hA
      (fun y => (congrArg _ (eq_ix2 (n0 := 1024) (n1 := 256) y)).trans ((query0_apply n _ _ h (y 1) x3 x4 x5 x6 (by omega) _ _ (fun e d => rowsOf_apply0 arg3 x3 h e d)
        (fun e d => tileOf_at arg4 x4 0 0 rfl h e d) (fun e d => rowsOf_apply0 arg6 x6 h e d) (fun e d => tileOf_at arg5 x5 0 0 rfl h e d) _ (y 0)).trans
        (congrArg (· + _) (congrArg _ (eq_ix2 (n0 := 1024) (n1 := 256) y).symm)))) R C hR hC
  | (1, h) => bump_rows arg7 x3 x4 x5 x6 x7 n L 1 h S768x256.size rfl rfl _ (rowOf_ofNat n (by omega) 256 (by omega)) (diag_inb1 (F := Ideal) _ v13 hw h3 h) _ A hA
      (fun y => (congrArg _ (eq_ix2 (n0 := 768) (n1 := 256) y)).trans ((query1_apply n _ _ h (y 1) x3 x4 x5 x6 (by omega) _ _ (fun e d => rowsFrom1_apply arg3 x3 h e d)
        (fun e d => tileOf_at arg4 x4 1 256 rfl h e d) (fun e d => rowsFrom1_apply arg6 x6 h e d) (fun e d => tileOf_at arg5 x5 1 256 rfl h e d) _ (y 0)).trans
        (congrArg (· + _) (congrArg _ (eq_ix2 (n0 := 768) (n1 := 256) y).symm)))) R C hR hC
  | (2, h) => bump_rows arg7 x3 x4 x5 x6 x7 n L 2 h S512x256.size rfl rfl _ (rowOf_ofNat n (by omega) 512 (by omega)) (diag_inb2 (F := Ideal) _ v13 hw h3 h) _ A hA
      (fun y => (congrArg _ (eq_ix2 (n0 := 512) (n1 := 256) y)).trans ((query2_apply n _ _ h (y 1) x3 x4 x5 x6 (by omega) _ _ (fun e d => rowsFrom2_apply arg3 x3 h e d)
        (fun e d => tileOf_at arg4 x4 2 512 rfl h e d) (fun e d => rowsFrom2_apply arg6 x6 h e d) (fun e d => tileOf_at arg5 x5 2 512 rfl h e d) _ (y 0)).trans
        (congrArg (· + _) (congrArg _ (eq_ix2 (n0 := 512) (n1 := 256) y).symm)))) R C hR hC
  | (3, h) => bump_rows arg7 x3 x4 x5 x6 x7 n L 3 h S256x256.size rfl rfl _ (rowOf_ofNat n (by omega) 768 (by omega)) (diag_inb3 (F := Ideal) _ v13 hw h3 h) _ A hA
      (fun y => (congrArg _ (eq_ix2 (n0 := 256) (n1 := 256) y)).trans ((query3_apply n _ _ h (y 1) x3 x4 x5 x6 (by omega) _ _ (fun e d => rowsFrom3_apply arg3 x3 h e d)
        (fun e d => tileOf_at arg4 x4 3 768 rfl h e d) (fun e d => rowsFrom3_apply arg6 x6 h e d) (fun e d => tileOf_at arg5 x5 3 768 rfl h e d) _ (y 0)).trans
        (congrArg (· + _) (congrArg _ (eq_ix2 (n0 := 256) (n1 := 256) y).symm)))) R C hR hC

include hn in
theorem diag_query_read (R C : ℕ) (hR : R < 8192) (hC : C < 512) :
    at2 (arg7.view.read (Elt Ideal) (arg7.view.writes (Elt Ideal) (arg7.view.rep x7) (diagStepRun c i arg2 harg2 arg3 harg3 arg4 harg4 arg5 harg5 arg6 harg6 arg7 harg7 arg8 harg8 arg9 harg9 arg10 harg10 arg11 harg11 (BitVec.ofNat 32 n) (BitVec.ofNat 32 n) v13 hw h3 x3 x4 x5 x6 x7 x10 x11).1)) R C
      = at2 x7 R C + if n * 1024 ≤ R ∧ R < n * 1024 + 1024 then addQuery x3 x4 x5 x6 true (R - n * 1024) C else 0 := by
  rw [diag_query, addQuery_eq, ← order_sum (at2 x7 R C) (fun r => addQueryOf x3 x4 x5 x6 true r.val (R - n * 1024) C) _ C hC]
  generalize order = l
  revert R C
  induction l with
  | nil =>
    intro R C hR hC
    rw [List.foldr_nil, List.foldr_nil, View.writes_nil, View.read_rep]
  | cons p l ih =>
    intro R C hR hC
    rw [List.foldr_cons, List.foldr_cons]
    exact diag_query_add arg3 arg4 arg5 arg6 arg7 x3 x4 x5 x6 x7 n hn v13 hw h3 p _ (fun R C => l.foldr _ (at2 x7 R C)) (fun R C hR hC => ih R C hR hC) R C hR hC

end Reads

end Mla
-- ==== Proof.MlaTable.lean ====
/- The attention backward kernel's table of block pairs, and what the pipeline does with it: the words at a point, the
   side conditions they meet, where a window is idle, written back, and holds nothing yet. -/
module

public import proofs.«01_k».proof.Proof.MlaBody
public import Idealize.ShloMosaic.Lib.Pipeline.TableIdle
public import Idealize.ShloMosaic.PureOps.BitExact

@[expose] public section

set_option maxRecDepth 16384

noncomputable section

namespace Mla

open Cert.MlaBwdIdeal Cert.MlaBwdIdeal.Gen
open Idealize.ShloMosaic Idealize.ShloMosaic.TcCoe
open Idealize.ShloMosaic.Pipeline (Dat Cfg Window)

variable {F : FTy → Type} [FloatOps F] [Named F]

/-- The table: of each of the 36 pairs the row block, the column block, whether the pair is on the diagonal, and whether it
    is its column's first and last. -/
def tab : Vec F S5x36 .i32 := fun i => lit0 (S5x36.rowMajor i)

def pf : pre0.Contents (Elt F)
  | ⟨0, _⟩ => tab
  | ⟨_ + 1, h⟩ => absurd h (Nat.not_lt.2 (Nat.le_add_left _ _))

/-- The numbers are meant to be read as bits here: only the table's integers matter. -/
local instance bitsNamed : Named Bits := ⟨fun _ _ {φ} b => FloatOps.ofBits φ b⟩

theorem ok_bits : ok0 (F := Bits) pf := by decide +kernel

theorem ok : ok0 (F := F) pf := ok_bits

def adm : (pcfg0 (F := F)).Adm := ⟨pf, ok⟩
abbrev cfgA : Cfg sig Λ₀ := cfg0 (F := F) adm

/-- The point's position among its head pair's 36 block pairs. -/
abbrev col (i : grid0.Coords) : ℕ := (i 1).val

/-- The table's word in row `r` at a point. -/
def w (r : Fin 5) (i : grid0.Coords) : BitVec 32 := lit0 (S5x36.rowMajor (fun | ⟨0, _⟩ => r | ⟨1, _⟩ => i 1))

/-- What the body reads of the table. -/
theorem word_eq (r : Fin 5) (i : grid0.Coords) (off : Fin 2 → ℕ) (inb : ∀ a, off a + S1x1.size a ≤ S5x36.size a) (h0 : off 0 = r.val) (h1 : off 1 = (i 1).val) :
    word (F := F) (Memref.whole main_c) tab off inb = w r i := by
  unfold word
  rw [View.readAt_rep_unit _ _ _ rfl inb]
  show tab (F := F) _ = _
  unfold tab w
  congr 2
  funext a
  apply Fin.ext
  match a with
  | ⟨0, _⟩ => show off 0 + 1 * 0 = r.val; omega
  | ⟨1, _⟩ => show off 1 + 1 * 0 = (i 1).val; omega

theorem atD_eq (r : Fin 5) (i : grid0.Coords) (off : Fin 2 → ℕ) (inb : ∀ a, off a + S1x1.size a ≤ S5x36.size a) (h0 : off 0 = r.val) (h1 : off 1 = (i 1).val) :
    (pf (F := F)).atD 0 off = w r i := by
  have hb : ∀ a, off a + 1 ≤ (pre0.ref 0).ty.shape.size a := fun
    | ⟨0, _⟩ => inb 0
    | ⟨1, _⟩ => inb 1
  refine (dif_pos hb).trans ?_
  show tab (F := F) _ = _
  unfold tab w
  congr 2
  funext a
  apply Fin.ext
  match a with
  | ⟨0, _⟩ => exact h0
  | ⟨1, _⟩ => exact h1

theorem offs (i : grid0.Coords) : (k0_off1 i 0 = 0 ∧ k0_off1 i 1 = (i 1).val) ∧ (k0_off2 i 0 = 1 ∧ k0_off2 i 1 = (i 1).val) ∧ (k0_off3 i 0 = 3 ∧ k0_off3 i 1 = (i 1).val)
    ∧ (k0_off4 i 0 = 2 ∧ k0_off4 i 1 = (i 1).val) ∧ (k0_off13 i 0 = 2 ∧ k0_off13 i 1 = (i 1).val) ∧ (k0_off16 i 0 = 4 ∧ k0_off16 i 1 = (i 1).val) := by
  revert i; decide +kernel

theorem word1_eq (i : grid0.Coords) : word1 (F := F) i (Memref.whole main_c) tab = w 0 i := word_eq 0 i _ _ (offs i).1.1 (offs i).1.2
theorem word2_eq (i : grid0.Coords) : word2 (F := F) i (Memref.whole main_c) tab = w 1 i := word_eq 1 i _ _ (offs i).2.1.1 (offs i).2.1.2
theorem word3_eq (i : grid0.Coords) : word3 (F := F) i (Memref.whole main_c) tab = w 3 i := word_eq 3 i _ _ (offs i).2.2.1.1 (offs i).2.2.1.2
theorem word4_eq (i : grid0.Coords) : word4 (F := F) i (Memref.whole main_c) tab = w 2 i := word_eq 2 i _ _ (offs i).2.2.2.1.1 (offs i).2.2.2.1.2
theorem word5_eq (i : grid0.Coords) : word5 (F := F) i (Memref.whole main_c) tab = w 2 i := word_eq 2 i _ _ (offs i).2.2.2.2.1.1 (offs i).2.2.2.2.1.2
theorem word6_eq (i : grid0.Coords) : word6 (F := F) i (Memref.whole main_c) tab = w 4 i := word_eq 4 i _ _ (offs i).2.2.2.2.2.1 (offs i).2.2.2.2.2.2

theorem chk1 (i : grid0.Coords) : k0_chk1 (w 0 i) (w 2 i) := by revert i; decide +kernel
theorem chk2 (i : grid0.Coords) : k0_chk2 (w 0 i) (w 2 i) := by revert i; decide +kernel

/-- Where the body writes nothing into a window. -/
theorem idle4 (i : grid0.Coords) : (cfgA (F := F)).idle (4 : Fin 7) i = false := by
  show (!(k0_cond1 i == 1#1) && !(k0_cond3 ((pf (F := F)).atD 0 (k0_off4 i)) == 1#1) && !(k0_cond4 ((pf (F := F)).atD 0 (k0_off13 i)) == 1#1)) = false
  rw [atD_eq 2 i _ (k0_off4_inb i) (offs i).2.2.2.1.1 (offs i).2.2.2.1.2, atD_eq 2 i _ (k0_off13_inb i) (offs i).2.2.2.2.1.1 (offs i).2.2.2.2.1.2]
  revert i; decide +kernel
theorem idle5 (i : grid0.Coords) : (cfgA (F := F)).idle (5 : Fin 7) i = !(k0_cond5 (w 4 i) == 1#1) := by
  show (!(k0_cond5 ((pf (F := F)).atD 0 (k0_off16 i)) == 1#1)) = _
  rw [atD_eq 4 i _ (k0_off16_inb i) (offs i).2.2.2.2.2.1 (offs i).2.2.2.2.2.2]
theorem idle6 (i : grid0.Coords) : (cfgA (F := F)).idle (6 : Fin 7) i = !(k0_cond5 (w 4 i) == 1#1) := by
  show (!(k0_cond5 ((pf (F := F)).atD 0 (k0_off16 i)) == 1#1)) = _
  rw [atD_eq 4 i _ (k0_off16_inb i) (offs i).2.2.2.2.2.1 (offs i).2.2.2.2.2.2]

/-- A column's gradients are written back where the column ends, the query's gradient where the head pair ends. -/
theorem flush_bits : ∀ t : Fin (cfgA (F := Bits)).N,
    ((cfgA (F := Bits)).win (4 : Fin 7)).flush t = (((grid0.coords t) 1).val == 35)
    ∧ ((cfgA (F := Bits)).win (5 : Fin 7)).flush t = (k0_cond5 (w 4 (grid0.coords t)) == 1#1)
    ∧ ((cfgA (F := Bits)).win (6 : Fin 7)).flush t = (k0_cond5 (w 4 (grid0.coords t)) == 1#1) := by
  show ∀ t : Fin grid0.N, _
  decide +kernel
theorem flush_eq (t : Fin (cfgA (F := F)).N) :
    ((cfgA (F := F)).win (4 : Fin 7)).flush t = (((grid0.coords t) 1).val == 35)
    ∧ ((cfgA (F := F)).win (5 : Fin 7)).flush t = (k0_cond5 (w 4 (grid0.coords t)) == 1#1)
    ∧ ((cfgA (F := F)).win (6 : Fin 7)).flush t = (k0_cond5 (w 4 (grid0.coords t)) == 1#1) := flush_bits t

end Mla

end
-- ==== Proof.MlaRun.lean ====
/- The attention backward kernel's pipeline: what the query gradient's block and the accumulators hold after every point,
   the pipeline's proof data, and the body's obligation. -/
module

public import proofs.«01_k».proof.Proof.MlaTable
public import Idealize.ShloMosaic.Lib.Pipeline.Kit
public import Idealize.ShloMosaic.Lib.Pipeline.FrameBody

@[expose] public section

set_option maxRecDepth 16384

noncomputable section

namespace Mla

open Cert.MlaBwdIdeal Cert.MlaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ)

/-- The buffers when the kernel starts. -/
def V (c : Dev nD) : Valuation τ sig (Elt F) :=
  StableHlo.after hostOps0_2 (StableHlo.after hostOps0_1 (StableHlo.after hostOps0 (fun b => m (c, b))))

variable (c : Dev nD)

/-- The window's current buffer at a point. -/
abbrev ms0 (t : Fin (cfgA (F := F)).N) : Memref sig .tc .vmem S1024x512 .bf16 := spec0_0.stage ((cfgA (F := F)).slots t (0 : Fin 7))
abbrev hs0 (t : Fin (cfgA (F := F)).N) : (ms0 (F := F) t).IsWhole := hstage0_0 (((cfgA (F := F)).slots t (0 : Fin 7)).cast nbuf0_0)
abbrev ms1 (t : Fin (cfgA (F := F)).N) : Memref sig .tc .vmem S1024x512 .bf16 := spec0_1.stage ((cfgA (F := F)).slots t (1 : Fin 7))
abbrev hs1 (t : Fin (cfgA (F := F)).N) : (ms1 (F := F) t).IsWhole := hstage0_1 (((cfgA (F := F)).slots t (1 : Fin 7)).cast nbuf0_1)
abbrev ms2 (t : Fin (cfgA (F := F)).N) : Memref sig .tc .vmem S1024x512 .bf16 := spec0_2.stage ((cfgA (F := F)).slots t (2 : Fin 7))
abbrev hs2 (t : Fin (cfgA (F := F)).N) : (ms2 (F := F) t).IsWhole := hstage0_2 (((cfgA (F := F)).slots t (2 : Fin 7)).cast nbuf0_2)
abbrev ms3 (t : Fin (cfgA (F := F)).N) : Memref sig .tc .vmem S1024x512 .bf16 := spec0_3.stage ((cfgA (F := F)).slots t (3 : Fin 7))
abbrev hs3 (t : Fin (cfgA (F := F)).N) : (ms3 (F := F) t).IsWhole := hstage0_3 (((cfgA (F := F)).slots t (3 : Fin 7)).cast nbuf0_3)
abbrev ms4 (t : Fin (cfgA (F := F)).N) : Memref sig .tc .vmem S8192x512 .f32 := spec0_4.stage ((cfgA (F := F)).slots t (4 : Fin 7))
abbrev hs4 (t : Fin (cfgA (F := F)).N) : (ms4 (F := F) t).IsWhole := hstage0_4 (((cfgA (F := F)).slots t (4 : Fin 7)).cast nbuf0_4)
abbrev ms5 (t : Fin (cfgA (F := F)).N) : Memref sig .tc .vmem S1024x512 .bf16 := spec0_5.stage ((cfgA (F := F)).slots t (5 : Fin 7))
abbrev hs5 (t : Fin (cfgA (F := F)).N) : (ms5 (F := F) t).IsWhole := hstage0_5 (((cfgA (F := F)).slots t (5 : Fin 7)).cast nbuf0_5)
abbrev ms6 (t : Fin (cfgA (F := F)).N) : Memref sig .tc .vmem S1024x512 .bf16 := spec0_6.stage ((cfgA (F := F)).slots t (6 : Fin 7))
abbrev hs6 (t : Fin (cfgA (F := F)).N) : (ms6 (F := F) t).IsWhole := hstage0_6 (((cfgA (F := F)).slots t (6 : Fin 7)).cast nbuf0_6)

/-- The body at a point. -/
abbrev bodyAt (t : Fin (cfgA (F := F)).N) : Body F :=
  cc0_mla_attn_bwd (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (Memref.whole cc0_scratch0) (Memref.isWhole_whole _) (Memref.whole cc0_scratch1) (Memref.isWhole_whole _)

/-- The window's block at a point. -/
def iblk (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Proc.devRef .tc (Pipeline.arrRef spec0 w)))

theorem hw1 (i : grid0.Coords) : k0_chk1 (word1 (F := F) i (Memref.whole main_c) tab) (word4 (F := F) i (Memref.whole main_c) tab) := by
  rw [word1_eq, word4_eq]; exact chk1 i
theorem hw2 (i : grid0.Coords) : k0_chk2 (word1 (F := F) i (Memref.whole main_c) tab) (word5 (F := F) i (Memref.whole main_c) tab) := by
  rw [word1_eq, word5_eq]; exact chk2 i

/-- The body's step from one state to the next. -/
def step (t : Fin (cfgA (F := F)).N) (s : State F) : State F :=
  bodyRes c (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (Memref.whole cc0_scratch0) (Memref.isWhole_whole _) (Memref.whole cc0_scratch1) (Memref.isWhole_whole _) tab (iblk m c (0 : Fin 7) t) (iblk m c (1 : Fin 7) t) (iblk m c (2 : Fin 7) t) (iblk m c (3 : Fin 7) t) s.1 s.2.1 s.2.2 (hw1 _) (hw2 _)

/-- The state after a point. -/
def traj : (n : ℕ) → n < (cfgA (F := F)).N → State F
  | 0, h => step m c ⟨0, h⟩ (k0_pay1, k0_pay2, k0_pay3)
  | n + 1, h => step m c ⟨n + 1, h⟩ (traj n (Nat.lt_of_succ_lt h))

/-- The state before a point. -/
def prev (n : ℕ) (hn : n ≤ (cfgA (F := F)).N) : State F :=
  if h : n = 0 then (k0_pay1, k0_pay2, k0_pay3) else traj m c (n - 1) (by omega)

theorem traj_eq (t : Fin (cfgA (F := F)).N) : traj m c t.val t.isLt = step m c t (prev m c t.val (Nat.le_of_lt t.isLt)) := by
  obtain ⟨n, hn⟩ := t
  cases n with
  | zero => rfl
  | succ n => unfold prev; simp only [Nat.add_one_ne_zero, dif_neg, not_false_eq_true]; rfl

theorem prev_succ (t : Fin (cfgA (F := F)).N) : prev m c (t.val + 1) t.isLt = traj m c t.val t.isLt := by
  unfold prev; simp only [Nat.add_one_ne_zero, ↓reduceDIte, Nat.add_one_sub_one]

/-- At a head pair's first point the state before does not matter. -/
theorem starts (i : grid0.Coords) (h : (i 1).val = 0) :
    k0_cond1 i = 1#1 ∧ Scalar.cmpi .ne (Scalar.extui (Scalar.cmpi .eq (w 3 i) 1#32) : BitVec 32) 0#32 = 1#1 := by
  revert i; decide +kernel

theorem step_start (t : Fin (cfgA (F := F)).N) (h : (grid0.coords t 1).val = 0) (s s' : State F) : step m c t s = step m c t s' := by
  unfold step bodyRes
  have e : ∀ u : State F, cleared (grid0.coords t) (Memref.whole main_c) tab u.1 u.2.1 u.2.2 = (k0_pay1, k0_pay2, k0_pay3) := fun u => by
    unfold cleared
    rw [if_pos (starts _ h).1, if_pos (by rw [word3_eq]; exact (starts _ h).2), if_pos (by rw [word3_eq]; exact (starts _ h).2)]
  rw [e s, e s']

/-! ## The pipeline's proof data -/

/-- Before a point: the accumulators at the state, once there is one, and the table. -/
def Phi (n : ℕ) (hn : n ≤ (cfgA (F := F)).N) : sProp 𝕄 :=
  iprop((∃ x10 x11, ⌜n ≠ 0 → x10 = (prev m c n hn).2.1 ∧ x11 = (prev m c n hn).2.2⌝
    ∗ holds c (Memref.whole cc0_scratch0) x10 ∗ holds c (Memref.whole cc0_scratch1) x11)
    ∗ ((Memref.whole main_c).view.loc (c : Thread nD τ) ↦[(Memref.whole main_c).view.set]{fullShare} (Memref.whole main_c).view.rep tab))

def dats (_ : Fin 1) (c : Dev nD) : Dat τ (Elt F) Unit ℕ (UR sig nD τ) ℕ (cfgA (F := F)) c where
  A w := V m c (Proc.devRef .tc (Pipeline.arrRef spec0 w))
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => (traj m c t.val t.isLt).1
    | ⟨5, _⟩ => k0_pay8 (traj m c t.val t.isLt).2.1
    | ⟨6, _⟩ => k0_pay9 (traj m c t.val t.isLt).2.2
  Φ t := Phi m c t.val (Nat.le_of_lt_succ t.isLt)
  q _ := fullShare
  owed _ := 0

theorem after0 (t : Fin (cfgA (F := F)).N) : (dats m 0 c).after (0 : Fin 7) t = iblk m c (0 : Fin 7) t := rfl
theorem after1 (t : Fin (cfgA (F := F)).N) : (dats m 0 c).after (1 : Fin 7) t = iblk m c (1 : Fin 7) t := rfl
theorem after2 (t : Fin (cfgA (F := F)).N) : (dats m 0 c).after (2 : Fin 7) t = iblk m c (2 : Fin 7) t := rfl
theorem after3 (t : Fin (cfgA (F := F)).N) : (dats m 0 c).after (3 : Fin 7) t = iblk m c (3 : Fin 7) t := rfl
theorem after4 (t : Fin (cfgA (F := F)).N) : (dats m 0 c).after (4 : Fin 7) t = (traj m c t.val t.isLt).1 := rfl
theorem after5 (t : Fin (cfgA (F := F)).N) : (dats m 0 c).after (5 : Fin 7) t = k0_pay8 (traj m c t.val t.isLt).2.1 := rfl
theorem after6 (t : Fin (cfgA (F := F)).N) : (dats m 0 c).after (6 : Fin 7) t = k0_pay9 (traj m c t.val t.isLt).2.2 := rfl

theorem before0 (t : Fin (cfgA (F := F)).N) (d) : (dats m 0 c).before (0 : Fin 7) t d = iblk m c (0 : Fin 7) t :=
  ((dats m 0 c).before_in_eq_fetched (0 : Fin 7) rfl (fun _ => rfl) (fun _ _ _ => rfl) (fun t => by rw [after0]; unfold Dat.blockOf iblk; rfl) t d).trans
    (by unfold Dat.fetched Dat.blockOf iblk; rfl)
theorem before1 (t : Fin (cfgA (F := F)).N) (d) : (dats m 0 c).before (1 : Fin 7) t d = iblk m c (1 : Fin 7) t :=
  ((dats m 0 c).before_in_eq_fetched (1 : Fin 7) rfl (fun _ => rfl) (fun _ _ _ => rfl) (fun t => by rw [after1]; unfold Dat.blockOf iblk; rfl) t d).trans
    (by unfold Dat.fetched Dat.blockOf iblk; rfl)
theorem before2 (t : Fin (cfgA (F := F)).N) (d) : (dats m 0 c).before (2 : Fin 7) t d = iblk m c (2 : Fin 7) t :=
  ((dats m 0 c).before_in_eq_fetched (2 : Fin 7) rfl (fun _ => rfl) (fun _ _ _ => rfl) (fun t => by rw [after2]; unfold Dat.blockOf iblk; rfl) t d).trans
    (by unfold Dat.fetched Dat.blockOf iblk; rfl)
theorem before3 (t : Fin (cfgA (F := F)).N) (d) : (dats m 0 c).before (3 : Fin 7) t d = iblk m c (3 : Fin 7) t :=
  ((dats m 0 c).before_in_eq_fetched (3 : Fin 7) rfl (fun _ => rfl) (fun _ _ _ => rfl) (fun t => by rw [after3]; unfold Dat.blockOf iblk; rfl) t d).trans
    (by unfold Dat.fetched Dat.blockOf iblk; rfl)

/-- Of the query gradient's window nothing is kept from one head pair to the next; -/
def fr4 (n : ℕ) : Bool := n % 36 == 0
theorem fr4_next : ∀ t : Fin grid0.N, fr4 (t.val + 1) = ((grid0.coords t 1).val == 35) := by decide +kernel
theorem fr4_step : ∀ t : Fin (cfgA (F := F)).N,
    fr4 (t.val + 1) = (((cfgA (F := F)).win (4 : Fin 7)).flush t || ((cfgA (F := F)).idle (4 : Fin 7) ((cfgA (F := F)).grid.coords t) && fr4 t.val)) := fun t => by
  rw [(flush_eq t).1, idle4, Bool.false_and, Bool.or_false]
  exact fr4_next t
theorem fresh4 (t : Fin (cfgA (F := F)).N) : (cfgA (F := F)).fresh (4 : Fin 7) t.val = fr4 t.val :=
  Pipeline.Cfg.fresh_tab (cfgA (F := F)) (4 : Fin 7) fr4 rfl fr4_step t.val (Nat.le_of_lt t.isLt)
theorem fr4_eq : ∀ t : Fin grid0.N, fr4 t.val = ((grid0.coords t 1).val == 0) := by decide +kernel

/-- of the column's nothing before they are written back. -/
theorem fresh5 (t : Fin (cfgA (F := F)).N) : (cfgA (F := F)).fresh (5 : Fin 7) t.val = true :=
  Pipeline.Cfg.fresh_tab (cfgA (F := F)) (5 : Fin 7) (fun _ => true) rfl
    (fun t => by rw [(flush_eq t).2.1, idle5]; cases (k0_cond5 (w 4 (grid0.coords t)) == 1#1) <;> rfl) t.val (Nat.le_of_lt t.isLt)
theorem fresh6 (t : Fin (cfgA (F := F)).N) : (cfgA (F := F)).fresh (6 : Fin 7) t.val = true :=
  Pipeline.Cfg.fresh_tab (cfgA (F := F)) (6 : Fin 7) (fun _ => true) rfl
    (fun t => by rw [(flush_eq t).2.2, idle6]; cases (k0_cond5 (w 4 (grid0.coords t)) == 1#1) <;> rfl) t.val (Nat.le_of_lt t.isLt)

theorem before4 (t : Fin (cfgA (F := F)).N) (d) : (dats m 0 c).before (4 : Fin 7) t d = if (grid0.coords t 1).val == 0 then d else (prev m c t.val (Nat.le_of_lt t.isLt)).1 := by
  rw [(dats m 0 c).before_out_traj (4 : Fin 7) rfl (fun _ _ => rfl) (fun t _ hi _ => by rw [idle4] at hi; exact absurd hi (by decide)) t.val t rfl d, fresh4, fr4_eq t]
  by_cases h : ((grid0.coords t 1).val == 0) = true
  · rw [if_pos h, if_pos h]
  · rw [if_neg h, if_neg h]
    have h0 : t.val ≠ 0 := fun h0 => h (by rw [← fr4_eq t, h0]; rfl)
    rw [after4]; unfold prev; rw [dif_neg h0]
theorem before5 (t : Fin (cfgA (F := F)).N) (d) : (dats m 0 c).before (5 : Fin 7) t d = d := by
  rw [(dats m 0 c).before_out_traj (5 : Fin 7) rfl (fun _ _ => rfl) (fun t _ _ hf => by rw [fresh5] at hf; exact absurd hf (by decide)) t.val t rfl d, fresh5, if_pos rfl]
theorem before6 (t : Fin (cfgA (F := F)).N) (d) : (dats m 0 c).before (6 : Fin 7) t d = d := by
  rw [(dats m 0 c).before_out_traj (6 : Fin 7) rfl (fun _ _ => rfl) (fun t _ _ hf => by rw [fresh6] at hf; exact absurd hf (by decide)) t.val t rfl d, fresh6, if_pos rfl]

theorem zero_of_first : ∀ t : Fin grid0.N, (grid0.coords t 1).val ≠ 0 → t.val ≠ 0 := by decide +kernel

end Mla

end
-- ==== Proof.MlaStep.lean ====
/- One point of the attention backward kernel's grid, over the reals. -/
module

public import proofs.«01_k».proof.Proof.MlaDiag
public import proofs.«01_k».proof.Proof.MlaRun

@[expose] public section

set_option maxRecDepth 16384

noncomputable section

namespace Mla

open Cert.MlaBwdIdeal Cert.MlaBwdIdeal.Gen Cert.Tiles
open Idealize.ShloMosaic Idealize.ShloMosaic.TcCoe Idealize.ShloMosaic.Tactic
open Idealize.SL

/-- The state `s` with a step's part added: of the block of queries `n`, masked or not. -/
structure Adds (x3 x4 x5 x6 : Vec Ideal S1024x512 .bf16) (m : Bool) (n : ℕ) (s s' : State Ideal) : Prop where
  query : ∀ R C, R < 8192 → C < 512 → at2 s'.1 R C = at2 s.1 R C + if n * 1024 ≤ R ∧ R < n * 1024 + 1024 then addQuery x3 x4 x5 x6 m (R - n * 1024) C else 0
  key : ∀ R C, R < 1024 → C < 512 → at2 s'.2.1 R C = at2 s.2.1 R C + addKey x3 x4 x5 x6 m R C
  val : ∀ R C, R < 1024 → C < 512 → at2 s'.2.2 R C = at2 s.2.2 R C + addVal x3 x4 x6 m R C

section Body
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S8192x512 .f32) (harg7 : arg7.IsWhole)
  (arg8 : Memref sig .tc .vmem S1024x512 .bf16) (harg8 : arg8.IsWhole)
  (arg9 : Memref sig .tc .vmem S1024x512 .bf16) (harg9 : arg9.IsWhole)
  (arg10 : Memref sig .tc .vmem S1024x512 .f32) (harg10 : arg10.IsWhole)
  (arg11 : Memref sig .tc .vmem S1024x512 .f32) (harg11 : arg11.IsWhole)
variable (T : Vec Ideal S5x36 .i32) (x3 x4 x5 x6 : Vec Ideal S1024x512 .bf16) (s : State Ideal)
variable (n : ℕ) (hn : n < 8)

include hn in
theorem diagRes_pos (v1 v3 v13 : Elt Ideal .i32) (hw : k0_chk1 v1 v13) (hv1 : v1 = BitVec.ofNat 32 n) (hv3 : v3 = BitVec.ofNat 32 n) (h3 : k0_cond3 v13 = 1#1) :
    Adds x3 x4 x5 x6 true n s (diagStepRes c i arg2 harg2 arg3 harg3 arg4 harg4 arg5 harg5 arg6 harg6 arg7 harg7 arg8 harg8 arg9 harg9 arg10 harg10 arg11 harg11 x3 x4 x5 x6 s v1 v3 v13 hw) := by
  subst hv1; subst hv3
  unfold diagStepRes
  rw [dif_pos h3]
  exact ⟨fun R C hR hC => diag_query_read c i arg2 harg2 arg3 harg3 arg4 harg4 arg5 harg5 arg6 harg6 arg7 harg7 arg8 harg8 arg9 harg9 arg10 harg10 arg11 harg11 x3 x4 x5 x6 s.1 s.2.1 s.2.2 n hn v13 hw h3 R C hR hC,
    fun R C hR hC => diag_key_read c i arg2 harg2 arg3 harg3 arg4 harg4 arg5 harg5 arg6 harg6 arg7 harg7 arg8 harg8 arg9 harg9 arg10 harg10 arg11 harg11 x3 x4 x5 x6 s.1 s.2.1 s.2.2 n hn v13 hw h3 R C hR hC,
    fun R C hR hC => diag_val_read c i arg2 harg2 arg3 harg3 arg4 harg4 arg5 harg5 arg6 harg6 arg7 harg7 arg8 harg8 arg9 harg9 arg10 harg10 arg11 harg11 x3 x4 x5 x6 s.1 s.2.1 s.2.2 n hn v13 hw h3 R C hR hC⟩

include hn in
theorem fullRes_pos (v1 v18 : Elt Ideal .i32) (hw : k0_chk2 v1 v18) (hv1 : v1 = BitVec.ofNat 32 n) (h4 : k0_cond4 v18 = 1#1) :
    Adds x3 x4 x5 x6 false n s (fullStepRes c i arg2 harg2 arg3 harg3 arg4 harg4 arg5 harg5 arg6 harg6 arg7 harg7 arg8 harg8 arg9 harg9 arg10 harg10 arg11 harg11 x3 x4 x5 x6 s v1 v18 hw) := by
  subst hv1
  unfold fullStepRes
  rw [dif_pos h4]
  refine ⟨fun R C hR hC => ?_,
    fun R C hR hC => full_key_read c i arg2 harg2 arg3 harg3 arg4 harg4 arg5 harg5 arg6 harg6 arg7 harg7 arg8 harg8 arg9 harg9 arg10 harg10 arg11 harg11 x3 x4 x5 x6 s.1 s.2.1 s.2.2 _ v18 hw h4 R C hR hC,
    fun R C hR hC => full_val_read c i arg2 harg2 arg3 harg3 arg4 harg4 arg5 harg5 arg6 harg6 arg7 harg7 arg8 harg8 arg9 harg9 arg10 harg10 arg11 harg11 x3 x4 x5 x6 s.1 s.2.1 s.2.2 _ v18 hw h4 R C hR hC⟩
  have e := full_query_read c i arg2 harg2 arg3 harg3 arg4 harg4 arg5 harg5 arg6 harg6 arg7 harg7 arg8 harg8 arg9 harg9 arg10 harg10 arg11 harg11 x3 x4 x5 x6 s.1 s.2.1 s.2.2 (BitVec.ofNat 32 n) v18 hw h4 R C hR hC
  rw [rowOf_ofNat n (by omega) 0 (by omega), Nat.add_zero] at e
  exact e

include hn in
/-- Exactly one of the two steps is taken, on the cleared state. -/
theorem body_adds (hw1 : k0_chk1 (word1 (F := Ideal) i arg2 T) (word4 (F := Ideal) i arg2 T)) (hw2 : k0_chk2 (word1 (F := Ideal) i arg2 T) (word5 (F := Ideal) i arg2 T)) (m : Bool)
    (h1 : word1 (F := Ideal) i arg2 T = BitVec.ofNat 32 n)
    (hd : m = true → word2 (F := Ideal) i arg2 T = BitVec.ofNat 32 n ∧ k0_cond3 (word4 (F := Ideal) i arg2 T) = 1#1 ∧ ¬ k0_cond4 (word5 (F := Ideal) i arg2 T) = 1#1)
    (hf : m = false → ¬ k0_cond3 (word4 (F := Ideal) i arg2 T) = 1#1 ∧ k0_cond4 (word5 (F := Ideal) i arg2 T) = 1#1) :
    Adds x3 x4 x5 x6 m n (cleared i arg2 T s.1 s.2.1 s.2.2)
      (bodyRes c i arg2 harg2 arg3 harg3 arg4 harg4 arg5 harg5 arg6 harg6 arg7 harg7 arg8 harg8 arg9 harg9 arg10 harg10 arg11 harg11 T x3 x4 x5 x6 s.1 s.2.1 s.2.2 hw1 hw2) := by
  unfold bodyRes
  cases m with
  | true =>
    obtain ⟨h2, h3, h4⟩ := hd rfl
    rw [show ∀ u : State Ideal, fullStepRes c i arg2 harg2 arg3 harg3 arg4 harg4 arg5 harg5 arg6 harg6 arg7 harg7 arg8 harg8 arg9 harg9 arg10 harg10 arg11 harg11 x3 x4 x5 x6 u (word1 (F := Ideal) i arg2 T) (word5 (F := Ideal) i arg2 T) hw2 = u from fun u => dif_neg h4]
    exact diagRes_pos c i arg2 harg2 arg3 harg3 arg4 harg4 arg5 harg5 arg6 harg6 arg7 harg7 arg8 harg8 arg9 harg9 arg10 harg10 arg11 harg11 x3 x4 x5 x6 _ n hn _ _ _ hw1 h1 h2 h3
  | false =>
    obtain ⟨h3, h4⟩ := hf rfl
    rw [show ∀ u : State Ideal, diagStepRes c i arg2 harg2 arg3 harg3 arg4 harg4 arg5 harg5 arg6 harg6 arg7 harg7 arg8 harg8 arg9 harg9 arg10 harg10 arg11 harg11 x3 x4 x5 x6 u (word1 (F := Ideal) i arg2 T) (word2 (F := Ideal) i arg2 T) (word4 (F := Ideal) i arg2 T) hw1 = u from fun u => dif_neg h3]
    exact fullRes_pos c i arg2 harg2 arg3 harg3 arg4 harg4 arg5 harg5 arg6 harg6 arg7 harg7 arg8 harg8 arg9 harg9 arg10 harg10 arg11 harg11 x3 x4 x5 x6 _ n hn _ _ hw2 h1 h4

end Body

/-! ## The table -/

/-- The row block and the column block of a point, and its pair of heads. -/
def qi (i : grid0.Coords) : ℕ := (w 0 i).toNat
def ki (i : grid0.Coords) : ℕ := (w 1 i).toNat

theorem table (i : grid0.Coords) : qi i < 8 ∧ ki i ≤ qi i
    ∧ (qi i = ki i → k0_cond3 (w 2 i) = 1#1 ∧ ¬ k0_cond4 (w 2 i) = 1#1 ∧ Scalar.cmpi .ne (Scalar.extui (Scalar.cmpi .eq (w 3 i) 1#32) : BitVec 32) 0#32 = 1#1)
    ∧ (qi i ≠ ki i → ¬ k0_cond3 (w 2 i) = 1#1 ∧ k0_cond4 (w 2 i) = 1#1 ∧ ¬ Scalar.cmpi .ne (Scalar.extui (Scalar.cmpi .eq (w 3 i) 1#32) : BitVec 32) 0#32 = 1#1)
    ∧ (k0_cond1 i = 1#1 ↔ (i 1).val = 0) ∧ (k0_cond5 (w 4 i) = 1#1 ↔ qi i = 7) := by
  revert i; decide +kernel

theorem w0_eq (i : grid0.Coords) : w 0 i = BitVec.ofNat 32 (qi i) := by unfold qi; simp
theorem w1_eq (i : grid0.Coords) : w 1 i = BitVec.ofNat 32 (ki i) := by unfold ki; simp

/-- From one point to the next: the next block of queries, or the next column's first, or the next pair of heads. -/
theorem table_next : ∀ t t' : Fin grid0.N, t'.val = t.val + 1 →
    ((grid0.coords t' 1).val ≠ 0 → (grid0.coords t' 0).val = (grid0.coords t 0).val
      ∧ ((qi (grid0.coords t') = qi (grid0.coords t) + 1 ∧ ki (grid0.coords t') = ki (grid0.coords t))
        ∨ (qi (grid0.coords t) = 7 ∧ ki (grid0.coords t') = ki (grid0.coords t) + 1 ∧ qi (grid0.coords t') = ki (grid0.coords t')))) := by
  have key : ∀ t : Fin grid0.N, ∀ h : t.val + 1 < grid0.N, ((grid0.coords ⟨t.val + 1, h⟩ 1).val ≠ 0 → (grid0.coords ⟨t.val + 1, h⟩ 0).val = (grid0.coords t 0).val
      ∧ ((qi (grid0.coords ⟨t.val + 1, h⟩) = qi (grid0.coords t) + 1 ∧ ki (grid0.coords ⟨t.val + 1, h⟩) = ki (grid0.coords t))
        ∨ (qi (grid0.coords t) = 7 ∧ ki (grid0.coords ⟨t.val + 1, h⟩) = ki (grid0.coords t) + 1 ∧ qi (grid0.coords ⟨t.val + 1, h⟩) = ki (grid0.coords ⟨t.val + 1, h⟩)))) := by
    decide +kernel
  intro t t' e
  obtain ⟨n', h'⟩ := t'
  obtain rfl : n' = t.val + 1 := e
  exact key t h'
theorem table_start : ∀ t : Fin grid0.N, (grid0.coords t 1).val = 0 → qi (grid0.coords t) = 0 ∧ ki (grid0.coords t) = 0 := by decide +kernel
theorem table_end : ∀ t : Fin grid0.N, (grid0.coords t 1).val = 35 → qi (grid0.coords t) = 7 ∧ ki (grid0.coords t) = 7 := by decide +kernel
theorem table_first : ∀ t : Fin grid0.N, t.val = 0 → (grid0.coords t 1).val = 0 := by decide +kernel

section Point
variable (m : (ℓ : Loc nD τ sig) → Buf (Elt Ideal) ℓ) (c : Dev nD) (t : Fin (cfgA (F := Ideal)).N) (s : State Ideal)

theorem at2_zero {a b : ℕ} (x : (⟨2, ![a, b]⟩ : Shape).Idx → EReal) (hx : ∀ i, x i = 0) (R C : ℕ) : at2 x R C = 0 := by
  unfold at2; split
  · exact hx _
  · rfl

theorem pay1_zero (i) : k0_pay1 (F := Ideal) i = 0 := by rw [eq_ix2 (n0 := 8192) (n1 := 512) i]; unfold k0_pay1; pointwise
theorem pay2_zero (i) : k0_pay2 (F := Ideal) i = 0 := by rw [eq_ix2 (n0 := 1024) (n1 := 512) i]; unfold k0_pay2; pointwise
theorem pay3_zero (i) : k0_pay3 (F := Ideal) i = 0 := by rw [eq_ix2 (n0 := 1024) (n1 := 512) i]; unfold k0_pay3; pointwise

/-- The state a point starts from. -/
def from_ (t : Fin (cfgA (F := Ideal)).N) (s : State Ideal) : State Ideal := cleared (grid0.coords t) (Memref.whole main_c) tab s.1 s.2.1 s.2.2

theorem from_query (R C : ℕ) : at2 (from_ t s).1 R C = if (grid0.coords t 1).val = 0 then 0 else at2 s.1 R C := by
  unfold from_ cleared
  dsimp only
  by_cases h : (grid0.coords t 1).val = 0
  · rw [if_pos h, if_pos ((table _).2.2.2.2.1.mpr h)]; exact at2_zero (k0_pay1 (F := Ideal)) pay1_zero R C
  · rw [if_neg h, if_neg (fun h' => h ((table _).2.2.2.2.1.mp h'))]
theorem from_key (R C : ℕ) : at2 (from_ t s).2.1 R C = if qi (grid0.coords t) = ki (grid0.coords t) then 0 else at2 s.2.1 R C := by
  unfold from_ cleared
  dsimp only
  rw [word3_eq]
  by_cases h : qi (grid0.coords t) = ki (grid0.coords t)
  · rw [if_pos h, if_pos ((table _).2.2.1 h).2.2]; exact at2_zero (k0_pay2 (F := Ideal)) pay2_zero R C
  · rw [if_neg h, if_neg ((table _).2.2.2.1 h).2.2]
theorem from_val (R C : ℕ) : at2 (from_ t s).2.2 R C = if qi (grid0.coords t) = ki (grid0.coords t) then 0 else at2 s.2.2 R C := by
  unfold from_ cleared
  dsimp only
  rw [word3_eq]
  by_cases h : qi (grid0.coords t) = ki (grid0.coords t)
  · rw [if_pos h, if_pos ((table _).2.2.1 h).2.2]; exact at2_zero (k0_pay3 (F := Ideal)) pay3_zero R C
  · rw [if_neg h, if_neg ((table _).2.2.2.1 h).2.2]

theorem step_adds : Adds (iblk m c (0 : Fin 7) t) (iblk m c (1 : Fin 7) t) (iblk m c (2 : Fin 7) t) (iblk m c (3 : Fin 7) t)
    (decide (qi (grid0.coords t) = ki (grid0.coords t))) (qi (grid0.coords t)) (from_ t s) (step m c t s) := by
  refine body_adds c (grid0.coords t) (Memref.whole main_c) _ _ _ _ _ _ _ _ _ _ _ _ _ _ _ _ _ _ _ tab _ _ _ _ s (qi (grid0.coords t)) (table _).1 (hw1 _) (hw2 _) _ ?_ ?_ ?_
  · rw [word1_eq]; exact w0_eq _
  · intro h
    have h' := of_decide_eq_true h
    rw [word2_eq, word4_eq, word5_eq]
    exact ⟨(w1_eq _).trans (congrArg _ h'.symm), ((table _).2.2.1 h').1, ((table _).2.2.1 h').2.1⟩
  · intro h
    have h' := of_decide_eq_false h
    rw [word4_eq, word5_eq]
    exact ⟨((table _).2.2.2.1 h').1, ((table _).2.2.2.1 h').2.1⟩

end Point

end Mla
-- ==== Proof.MlaTraj.lean ====
/- What the attention backward kernel's states hold, over the reals: the sums over the pairs visited so far. -/
module

public import proofs.«01_k».proof.Proof.MlaStep

@[expose] public section

set_option maxRecDepth 16384

noncomputable section

namespace Mla

open Cert.MlaBwdIdeal Cert.MlaBwdIdeal.Gen Cert.Tiles
open Idealize.ShloMosaic Idealize.ShloMosaic.TcCoe Idealize.ShloMosaic.Tactic

attribute [local instance] Mla.bitsNamed

/-- Where the blocks lie. -/
theorem index_bits : ∀ t : Fin (cfgA (F := Bits)).N,
    (((cfgA (F := Bits)).win (0 : Fin 7)).index t (0 : Fin 2) = qi (grid0.coords t) ∧ ((cfgA (F := Bits)).win (0 : Fin 7)).index t (1 : Fin 2) = (grid0.coords t 0).val)
    ∧ (((cfgA (F := Bits)).win (1 : Fin 7)).index t (0 : Fin 2) = ki (grid0.coords t) ∧ ((cfgA (F := Bits)).win (1 : Fin 7)).index t (1 : Fin 2) = (grid0.coords t 0).val)
    ∧ (((cfgA (F := Bits)).win (2 : Fin 7)).index t (0 : Fin 2) = ki (grid0.coords t) ∧ ((cfgA (F := Bits)).win (2 : Fin 7)).index t (1 : Fin 2) = (grid0.coords t 0).val)
    ∧ (((cfgA (F := Bits)).win (3 : Fin 7)).index t (0 : Fin 2) = qi (grid0.coords t) ∧ ((cfgA (F := Bits)).win (3 : Fin 7)).index t (1 : Fin 2) = (grid0.coords t 0).val)
    ∧ (((cfgA (F := Bits)).win (4 : Fin 7)).index t (0 : Fin 2) = 0 ∧ ((cfgA (F := Bits)).win (4 : Fin 7)).index t (1 : Fin 2) = (grid0.coords t 0).val)
    ∧ (((cfgA (F := Bits)).win (5 : Fin 7)).index t (0 : Fin 2) = ki (grid0.coords t) ∧ ((cfgA (F := Bits)).win (5 : Fin 7)).index t (1 : Fin 2) = (grid0.coords t 0).val)
    ∧ (((cfgA (F := Bits)).win (6 : Fin 7)).index t (0 : Fin 2) = ki (grid0.coords t) ∧ ((cfgA (F := Bits)).win (6 : Fin 7)).index t (1 : Fin 2) = (grid0.coords t 0).val) := by
  show ∀ t : Fin grid0.N, _
  decide +kernel
theorem index_eq (t : Fin (cfgA (F := Ideal)).N) :
    (((cfgA (F := Ideal)).win (0 : Fin 7)).index t (0 : Fin 2) = qi (grid0.coords t) ∧ ((cfgA (F := Ideal)).win (0 : Fin 7)).index t (1 : Fin 2) = (grid0.coords t 0).val)
    ∧ (((cfgA (F := Ideal)).win (1 : Fin 7)).index t (0 : Fin 2) = ki (grid0.coords t) ∧ ((cfgA (F := Ideal)).win (1 : Fin 7)).index t (1 : Fin 2) = (grid0.coords t 0).val)
    ∧ (((cfgA (F := Ideal)).win (2 : Fin 7)).index t (0 : Fin 2) = ki (grid0.coords t) ∧ ((cfgA (F := Ideal)).win (2 : Fin 7)).index t (1 : Fin 2) = (grid0.coords t 0).val)
    ∧ (((cfgA (F := Ideal)).win (3 : Fin 7)).index t (0 : Fin 2) = qi (grid0.coords t) ∧ ((cfgA (F := Ideal)).win (3 : Fin 7)).index t (1 : Fin 2) = (grid0.coords t 0).val)
    ∧ (((cfgA (F := Ideal)).win (4 : Fin 7)).index t (0 : Fin 2) = 0 ∧ ((cfgA (F := Ideal)).win (4 : Fin 7)).index t (1 : Fin 2) = (grid0.coords t 0).val)
    ∧ (((cfgA (F := Ideal)).win (5 : Fin 7)).index t (0 : Fin 2) = ki (grid0.coords t) ∧ ((cfgA (F := Ideal)).win (5 : Fin 7)).index t (1 : Fin 2) = (grid0.coords t 0).val)
    ∧ (((cfgA (F := Ideal)).win (6 : Fin 7)).index t (0 : Fin 2) = ki (grid0.coords t) ∧ ((cfgA (F := Ideal)).win (6 : Fin 7)).index t (1 : Fin 2) = (grid0.coords t 0).val) :=
  index_bits t

variable (m : (ℓ : Loc nD τ sig) → Buf (Elt Ideal) ℓ) (c : Dev nD) (t : Fin (cfgA (F := Ideal)).N)

/-- The packed arrays, by row and column. -/
def qa : ℕ → ℕ → EReal := at2 (m := 8192) (n := 2048) (V m c (Proc.devRef .tc main_v55))
def ka : ℕ → ℕ → EReal := at2 (m := 8192) (n := 2048) (V m c (Proc.devRef .tc main_v62))
def va : ℕ → ℕ → EReal := at2 (m := 8192) (n := 2048) (V m c (Proc.devRef .tc main_v68))
def da : ℕ → ℕ → EReal := at2 (m := 8192) (n := 2048) (V m c (Proc.devRef .tc main_v81))

theorem hp_lt (i : grid0.Coords) : (i 0).val < 4 := (i 0).isLt

/-- A block's place in its array. -/
theorem at2_block (x : Vec Ideal S1024x512 .bf16) (y : (⟨2, ![8192, 2048]⟩ : Shape).Idx → EReal) (u v : ℕ) (hu : u < 8) (hv : v < 4) (e : S1024x512.Idx → (⟨2, ![8192, 2048]⟩ : Shape).Idx)
    (hx : ∀ j, x j = y (e j)) (he : ∀ j, (e j 0).val = u * 1024 + 1 * (j 0).val ∧ (e j 1).val = v * 512 + 1 * (j 1).val) {a b : ℕ} (ha : a < 1024) (hb : b < 512) :
    at2 x a b = at2 y (u * 1024 + a) (v * 512 + b) := by
  rw [at2_of_lt (m := 1024) (n := 512) x ha hb, hx, ← at2_idx y, (he _).1, (he _).2]
  show at2 y (u * 1024 + 1 * a) (v * 512 + 1 * b) = _
  rw [one_mul, one_mul]

theorem block_q {a b : ℕ} (ha : a < 1024) (hb : b < 512) : at2 (m := 1024) (n := 512) (iblk m c (0 : Fin 7) t) a b = qa m c (qi (grid0.coords t) * 1024 + a) ((grid0.coords t 0).val * 512 + b) :=
  at2_block _ _ _ _ (table _).1 (hp_lt _) (fun j => (((cfgA (F := Ideal)).win (0 : Fin 7)).blk t).view.emb j) (fun j => by unfold iblk; rw [View.read_apply]; rfl)
    (fun j => ⟨by rw [← (index_eq t).1.1]; rfl, by rw [← (index_eq t).1.2]; rfl⟩) ha hb
theorem block_k {a b : ℕ} (ha : a < 1024) (hb : b < 512) : at2 (m := 1024) (n := 512) (iblk m c (1 : Fin 7) t) a b = ka m c (ki (grid0.coords t) * 1024 + a) ((grid0.coords t 0).val * 512 + b) :=
  at2_block _ _ _ _ (Nat.lt_of_le_of_lt (table _).2.1 (table _).1) (hp_lt _) (fun j => (((cfgA (F := Ideal)).win (1 : Fin 7)).blk t).view.emb j) (fun j => by unfold iblk; rw [View.read_apply]; rfl)
    (fun j => ⟨by rw [← (index_eq t).2.1.1]; rfl, by rw [← (index_eq t).2.1.2]; rfl⟩) ha hb
theorem block_v {a b : ℕ} (ha : a < 1024) (hb : b < 512) : at2 (m := 1024) (n := 512) (iblk m c (2 : Fin 7) t) a b = va m c (ki (grid0.coords t) * 1024 + a) ((grid0.coords t 0).val * 512 + b) :=
  at2_block _ _ _ _ (Nat.lt_of_le_of_lt (table _).2.1 (table _).1) (hp_lt _) (fun j => (((cfgA (F := Ideal)).win (2 : Fin 7)).blk t).view.emb j) (fun j => by unfold iblk; rw [View.read_apply]; rfl)
    (fun j => ⟨by rw [← (index_eq t).2.2.1.1]; rfl, by rw [← (index_eq t).2.2.1.2]; rfl⟩) ha hb
theorem block_d {a b : ℕ} (ha : a < 1024) (hb : b < 512) : at2 (m := 1024) (n := 512) (iblk m c (3 : Fin 7) t) a b = da m c (qi (grid0.coords t) * 1024 + a) ((grid0.coords t 0).val * 512 + b) :=
  at2_block _ _ _ _ (table _).1 (hp_lt _) (fun j => (((cfgA (F := Ideal)).win (3 : Fin 7)).blk t).view.emb j) (fun j => by unfold iblk; rw [View.read_apply]; rfl)
    (fun j => ⟨by rw [← (index_eq t).2.2.2.1.1]; rfl, by rw [← (index_eq t).2.2.2.1.2]; rfl⟩) ha hb

/-- The weight of key `a` for query `b` under head `h`, and its score's gradient. -/
def P (h a b : ℕ) : EReal := prob 256 (ka m c) (qa m c) h a b true
def D (h a b : ℕ) : EReal := dscore 256 (ka m c) (qa m c) (va m c) (da m c) h a b true

theorem dot_shift {K Q K' Q' : ℕ → ℕ → EReal} {h h' a b a' b' : ℕ} (hK : ∀ d : Fin 256, K a (h * 256 + d.val) = K' a' (h' * 256 + d.val)) (hQ : ∀ d : Fin 256, Q b (h * 256 + d.val) = Q' b' (h' * 256 + d.val)) :
    dotRow 256 K Q h a b = dotRow 256 K' Q' h' a' b' := by
  unfold dotRow
  exact Finset.sum_congr rfl fun d _ => by rw [hK d, hQ d]

theorem mask_iff (i : grid0.Coords) {a b : ℕ} (ha : a < 1024) (hb : b < 1024) :
    (decide (qi i = ki i) = true ∧ b < a) ↔ (true = true ∧ qi i * 1024 + b < ki i * 1024 + a) := by
  have h := (table i).2.1
  simp only [decide_eq_true_eq, true_and]
  constructor
  · rintro ⟨e, hlt⟩; omega
  · intro hlt; constructor <;> omega

/-- The block's columns of head `h`. -/
theorem head_shift (hp h d : ℕ) : hp * 512 + (h * 256 + d) = (hp * 2 + h) * 256 + d := by omega

theorem prob_block {h a b : ℕ} (hh : h < 2) (ha : a < 1024) (hb : b < 1024) :
    prob 256 (at2 (m := 1024) (n := 512) (iblk m c (1 : Fin 7) t)) (at2 (m := 1024) (n := 512) (iblk m c (0 : Fin 7) t)) h a b (decide (qi (grid0.coords t) = ki (grid0.coords t)))
      = P m c ((grid0.coords t 0).val * 2 + h) (ki (grid0.coords t) * 1024 + a) (qi (grid0.coords t) * 1024 + b) := by
  unfold P prob
  rw [if_congr (mask_iff (grid0.coords t) ha hb) rfl rfl]
  rw [dot_shift (K' := ka m c) (Q' := qa m c) (h' := (grid0.coords t 0).val * 2 + h) (a' := ki (grid0.coords t) * 1024 + a) (b' := qi (grid0.coords t) * 1024 + b)]
  · intro d; rw [block_k m c t ha (by omega), head_shift]
  · intro d; rw [block_q m c t hb (by omega), head_shift]

theorem dscore_block {h a b : ℕ} (hh : h < 2) (ha : a < 1024) (hb : b < 1024) :
    dscore 256 (at2 (m := 1024) (n := 512) (iblk m c (1 : Fin 7) t)) (at2 (m := 1024) (n := 512) (iblk m c (0 : Fin 7) t)) (at2 (m := 1024) (n := 512) (iblk m c (2 : Fin 7) t)) (at2 (m := 1024) (n := 512) (iblk m c (3 : Fin 7) t))
        h a b (decide (qi (grid0.coords t) = ki (grid0.coords t)))
      = D m c ((grid0.coords t 0).val * 2 + h) (ki (grid0.coords t) * 1024 + a) (qi (grid0.coords t) * 1024 + b) := by
  unfold dscore
  rw [prob_block m c t hh ha hb]
  unfold D dscore P
  rw [dot_shift (K' := va m c) (Q' := da m c) (h' := (grid0.coords t 0).val * 2 + h) (a' := ki (grid0.coords t) * 1024 + a) (b' := qi (grid0.coords t) * 1024 + b)]
  · intro d; rw [block_v m c t ha (by omega), head_shift]
  · intro d; rw [block_d m c t hb (by omega), head_shift]

/-! ## The sums over the first queries, or the first keys -/

def valUpTo (a col n : ℕ) : EReal := ∑ b ∈ Finset.range n, P m c (col / 256) a b * da m c b col
def keyUpTo (a col n : ℕ) : EReal := ∑ b ∈ Finset.range n, D m c (col / 256) a b * qa m c b col
def queryUpTo (b col n : ℕ) : EReal := ∑ a ∈ Finset.range n, D m c (col / 256) a b * ka m c a col

theorem range_block (f : ℕ → EReal) (u : ℕ) : ∑ x ∈ Finset.range ((u + 1) * 1024), f x = ∑ x ∈ Finset.range (u * 1024), f x + ∑ e : Fin 1024, f (u * 1024 + e.val) := by
  rw [Nat.add_mul, one_mul, Finset.sum_range_add, Finset.sum_range (fun e => f (u * 1024 + e))]

theorem P_zero {h a b : ℕ} (hba : b < a) : P m c h a b = 0 := prob_masked _ _ _ _ _ _ hba
theorem D_zero {h a b : ℕ} (hba : b < a) : D m c h a b = 0 := dscore_masked _ _ _ _ _ _ _ _ hba

theorem val_start (a col u : ℕ) (h : u * 1024 ≤ a) : valUpTo m c a col (u * 1024) = 0 :=
  Finset.sum_eq_zero fun b hb => by rw [P_zero m c (by have := Finset.mem_range.mp hb; omega), zero_mul]
theorem key_start (a col u : ℕ) (h : u * 1024 ≤ a) : keyUpTo m c a col (u * 1024) = 0 :=
  Finset.sum_eq_zero fun b hb => by rw [D_zero m c (by have := Finset.mem_range.mp hb; omega), zero_mul]
theorem query_late (b col u : ℕ) (h : b < u * 1024) : queryUpTo m c b col ((u + 1) * 1024) = queryUpTo m c b col (u * 1024) := by
  unfold queryUpTo
  rw [range_block, Finset.sum_eq_zero (s := Finset.univ) (fun e _ => by rw [D_zero m c (by omega), zero_mul]), add_zero]

theorem col_head (hp C : ℕ) : (hp * 512 + C) / 256 = hp * 2 + C / 256 := by omega

theorem addVal_block {R C : ℕ} (hR : R < 1024) (hC : C < 512) :
    addVal (iblk m c (0 : Fin 7) t) (iblk m c (1 : Fin 7) t) (iblk m c (3 : Fin 7) t) (decide (qi (grid0.coords t) = ki (grid0.coords t))) R C
        + valUpTo m c (ki (grid0.coords t) * 1024 + R) ((grid0.coords t 0).val * 512 + C) (qi (grid0.coords t) * 1024)
      = valUpTo m c (ki (grid0.coords t) * 1024 + R) ((grid0.coords t 0).val * 512 + C) ((qi (grid0.coords t) + 1) * 1024) := by
  unfold valUpTo
  rw [range_block, add_comm]
  refine congrArg _ (Finset.sum_congr rfl fun e _ => ?_)
  rw [col_head, ← prob_block m c t (by omega) hR e.isLt, ← block_d m c t e.isLt hC]
theorem addKey_block {R C : ℕ} (hR : R < 1024) (hC : C < 512) :
    addKey (iblk m c (0 : Fin 7) t) (iblk m c (1 : Fin 7) t) (iblk m c (2 : Fin 7) t) (iblk m c (3 : Fin 7) t) (decide (qi (grid0.coords t) = ki (grid0.coords t))) R C
        + keyUpTo m c (ki (grid0.coords t) * 1024 + R) ((grid0.coords t 0).val * 512 + C) (qi (grid0.coords t) * 1024)
      = keyUpTo m c (ki (grid0.coords t) * 1024 + R) ((grid0.coords t 0).val * 512 + C) ((qi (grid0.coords t) + 1) * 1024) := by
  unfold keyUpTo
  rw [range_block, add_comm]
  refine congrArg _ (Finset.sum_congr rfl fun e _ => ?_)
  rw [col_head, ← dscore_block m c t (by omega) hR e.isLt, ← block_q m c t e.isLt hC]
theorem addQuery_block {R C : ℕ} (hR : R < 1024) (hC : C < 512) :
    addQuery (iblk m c (0 : Fin 7) t) (iblk m c (1 : Fin 7) t) (iblk m c (2 : Fin 7) t) (iblk m c (3 : Fin 7) t) (decide (qi (grid0.coords t) = ki (grid0.coords t))) R C
        + queryUpTo m c (qi (grid0.coords t) * 1024 + R) ((grid0.coords t 0).val * 512 + C) (ki (grid0.coords t) * 1024)
      = queryUpTo m c (qi (grid0.coords t) * 1024 + R) ((grid0.coords t 0).val * 512 + C) ((ki (grid0.coords t) + 1) * 1024) := by
  unfold queryUpTo
  rw [range_block, add_comm]
  refine congrArg _ (Finset.sum_congr rfl fun e _ => ?_)
  rw [col_head, ← dscore_block m c t (by omega) e.isLt hR, ← block_k m c t e.isLt hC]

/-- How many blocks of keys a row of queries has met after a point. -/
def met (i : grid0.Coords) (R : ℕ) : ℕ := if R / 1024 ≤ qi i then ki i + 1 else ki i

/-- What the state after a point holds. -/
structure Holds (i : grid0.Coords) (s : State Ideal) : Prop where
  query : ∀ R C, R < 8192 → C < 512 → at2 s.1 R C = queryUpTo m c R ((i 0).val * 512 + C) (met i R * 1024)
  key : ∀ R C, R < 1024 → C < 512 → at2 s.2.1 R C = keyUpTo m c (ki i * 1024 + R) ((i 0).val * 512 + C) ((qi i + 1) * 1024)
  val : ∀ R C, R < 1024 → C < 512 → at2 s.2.2 R C = valUpTo m c (ki i * 1024 + R) ((i 0).val * 512 + C) ((qi i + 1) * 1024)

/-- What the state a point starts from holds, the clearings done. -/
structure Ready (i : grid0.Coords) (s : State Ideal) : Prop where
  query : ∀ R C, R < 8192 → C < 512 → at2 s.1 R C = queryUpTo m c R ((i 0).val * 512 + C) ((if R / 1024 < qi i ∧ qi i ≠ ki i then ki i + 1 else ki i) * 1024)
  key : ∀ R C, R < 1024 → C < 512 → at2 s.2.1 R C = keyUpTo m c (ki i * 1024 + R) ((i 0).val * 512 + C) (qi i * 1024)
  val : ∀ R C, R < 1024 → C < 512 → at2 s.2.2 R C = valUpTo m c (ki i * 1024 + R) ((i 0).val * 512 + C) (qi i * 1024)

theorem holds_of_ready (s : State Ideal) (h : Ready m c (grid0.coords t) (from_ t s)) : Holds m c (grid0.coords t) (step m c t s) := by
  have ha := step_adds m c t s
  refine ⟨fun R C hR hC => ?_, fun R C hR hC => ?_, fun R C hR hC => ?_⟩
  · rw [ha.query R C hR hC, h.query R C hR hC]
    unfold met
    have hkq := (table (grid0.coords t)).2.1
    by_cases hin : qi (grid0.coords t) * 1024 ≤ R ∧ R < qi (grid0.coords t) * 1024 + 1024
    · rw [if_pos hin, if_neg (by omega), if_pos (by omega), add_comm]
      obtain ⟨r, rfl⟩ := Nat.exists_eq_add_of_le hin.1
      rw [Nat.add_sub_cancel_left]
      exact addQuery_block m c t (by omega) hC
    · rw [if_neg hin, add_zero]
      by_cases hlt : R / 1024 < qi (grid0.coords t)
      · rw [if_pos (Nat.le_of_lt hlt)]
        by_cases hd : qi (grid0.coords t) = ki (grid0.coords t)
        · rw [if_neg (fun h' => h'.2 hd)]
          exact (query_late m c _ _ _ (by omega)).symm
        · rw [if_pos ⟨hlt, hd⟩]
      · rw [if_neg (fun h' => hlt h'.1), if_neg (by omega)]
  · rw [ha.key R C hR hC, h.key R C hR hC, add_comm]
    exact addKey_block m c t hR hC
  · rw [ha.val R C hR hC, h.val R C hR hC, add_comm]
    exact addVal_block m c t hR hC

theorem ready_start (s : State Ideal) (h0 : (grid0.coords t 1).val = 0) : Ready m c (grid0.coords t) (from_ t s) := by
  have hs := table_start t h0
  refine ⟨fun R C hR hC => ?_, fun R C hR hC => ?_, fun R C hR hC => ?_⟩
  · rw [from_query, if_pos h0, hs.1, hs.2, if_neg (fun h => h.2 rfl), Nat.zero_mul]; rfl
  · rw [from_key, if_pos (hs.1.trans hs.2.symm), hs.1, Nat.zero_mul]; rfl
  · rw [from_val, if_pos (hs.1.trans hs.2.symm), hs.1, Nat.zero_mul]; rfl

theorem ready_next (t' : Fin (cfgA (F := Ideal)).N) (ht : t'.val = t.val + 1) (s : State Ideal) (h0 : (grid0.coords t' 1).val ≠ 0) (h : Holds m c (grid0.coords t) s) :
    Ready m c (grid0.coords t') (from_ t' s) := by
  obtain ⟨hp, hn⟩ := table_next t t' ht h0
  have hq := (table (grid0.coords t')).1
  have hkq := (table (grid0.coords t)).2.1
  refine ⟨fun R C hR hC => ?_, fun R C hR hC => ?_, fun R C hR hC => ?_⟩
  · rw [from_query, if_neg h0, h.query R C hR hC, hp]
    unfold met
    rcases hn with ⟨e1, e2⟩ | ⟨e1, e2, e3⟩
    · rw [e1, e2]
      congr 2
      exact if_congr (by omega) rfl rfl
    · rw [if_pos (by omega), if_neg (fun h' => h'.2 e3), e2]
  · rw [from_key, hp]
    by_cases hd : qi (grid0.coords t') = ki (grid0.coords t')
    · rw [if_pos hd, key_start _ _ _ _ _ (by rw [hd]; omega)]
    · rw [if_neg hd, h.key R C hR hC]
      rcases hn with ⟨e1, e2⟩ | ⟨e1, e2, e3⟩
      · rw [e1, e2]
      · exact absurd e3 hd
  · rw [from_val, hp]
    by_cases hd : qi (grid0.coords t') = ki (grid0.coords t')
    · rw [if_pos hd, val_start _ _ _ _ _ (by rw [hd]; omega)]
    · rw [if_neg hd, h.val R C hR hC]
      rcases hn with ⟨e1, e2⟩ | ⟨e1, e2, e3⟩
      · rw [e1, e2]
      · exact absurd e3 hd

theorem traj_holds (n : ℕ) (hn : n < (cfgA (F := Ideal)).N) : Holds m c (grid0.coords ⟨n, hn⟩) (traj m c n hn) := by
  induction n with
  | zero => exact holds_of_ready m c ⟨0, hn⟩ _ (ready_start m c ⟨0, hn⟩ _ (table_first ⟨0, hn⟩ rfl))
  | succ n ih =>
    refine holds_of_ready m c ⟨n + 1, hn⟩ _ ?_
    by_cases h0 : (grid0.coords ⟨n + 1, hn⟩ 1).val = 0
    · exact ready_start m c ⟨n + 1, hn⟩ _ h0
    · exact ready_next m c ⟨n, Nat.lt_of_succ_lt hn⟩ ⟨n + 1, hn⟩ rfl _ h0 (ih (Nat.lt_of_succ_lt hn))

end Mla
-- ==== Proof.MlaObl.lean ====
/- The attention backward kernel's body obligation at every point. -/
module

public import proofs.«01_k».proof.Proof.MlaRun

@[expose] public section

set_option maxRecDepth 16384

noncomputable section

namespace Mla

open Cert.MlaBwdIdeal Cert.MlaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ) (c : Dev nD)

/-- The column's gradients after the body, where they are written. -/
theorem keyOut_eq (t : Fin (cfgA (F := F)).N) (x8 : Vec F S1024x512 .bf16) (s : State F) :
    keyOut (grid0.coords t) (Memref.whole main_c) tab x8 s = if k0_cond5 (w 4 (grid0.coords t)) = 1#1 then k0_pay8 s.2.1 else x8 := by
  unfold keyOut; rw [word6_eq]
theorem valOut_eq (t : Fin (cfgA (F := F)).N) (x9 : Vec F S1024x512 .bf16) (s : State F) :
    valOut (grid0.coords t) (Memref.whole main_c) tab x9 s = if k0_cond5 (w 4 (grid0.coords t)) = 1#1 then k0_pay9 s.2.2 else x9 := by
  unfold valOut; rw [word6_eq]

/-- The body at a point, entered at a state that gives the next one. -/
theorem body_at (t : Fin (cfgA (F := F)).N) (x7 : Vec F S8192x512 .f32) (x8 x9 : Vec F S1024x512 .bf16) (x10 x11 : Vec F S1024x512 .f32)
    (hs : step m c t (x7, x10, x11) = traj m c t.val t.isLt) (K : PUnit → sProp 𝕄) :
    iprop(((Memref.whole main_c).view.loc (c : Thread nD τ) ↦[(Memref.whole main_c).view.set]{fullShare} (Memref.whole main_c).view.rep tab)
        ∗ holds c (ms0 (F := F) t) (iblk m c (0 : Fin 7) t) ∗ holds c (ms1 (F := F) t) (iblk m c (1 : Fin 7) t) ∗ holds c (ms2 (F := F) t) (iblk m c (2 : Fin 7) t) ∗ holds c (ms3 (F := F) t) (iblk m c (3 : Fin 7) t)
        ∗ holds c (ms4 (F := F) t) x7 ∗ holds c (ms5 (F := F) t) x8 ∗ holds c (ms6 (F := F) t) x9 ∗ holds c (Memref.whole cc0_scratch0) x10 ∗ holds c (Memref.whole cc0_scratch1) x11
        ∗ (iprop(((Memref.whole main_c).view.loc (c : Thread nD τ) ↦[(Memref.whole main_c).view.set]{fullShare} (Memref.whole main_c).view.rep tab)
            ∗ holds c (ms0 (F := F) t) (iblk m c (0 : Fin 7) t) ∗ holds c (ms1 (F := F) t) (iblk m c (1 : Fin 7) t) ∗ holds c (ms2 (F := F) t) (iblk m c (2 : Fin 7) t) ∗ holds c (ms3 (F := F) t) (iblk m c (3 : Fin 7) t)
            ∗ holds c (ms4 (F := F) t) (traj m c t.val t.isLt).1
            ∗ holds c (ms5 (F := F) t) (if k0_cond5 (w 4 (grid0.coords t)) = 1#1 then k0_pay8 (traj m c t.val t.isLt).2.1 else x8)
            ∗ holds c (ms6 (F := F) t) (if k0_cond5 (w 4 (grid0.coords t)) = 1#1 then k0_pay9 (traj m c t.val t.isLt).2.2 else x9)
            ∗ holds c (Memref.whole cc0_scratch0) (traj m c t.val t.isLt).2.1 ∗ holds c (Memref.whole cc0_scratch1) (traj m c t.val t.isLt).2.2) -∗ K ⟨⟩))
      ⊢ wpB c (bodyAt t) K := by
  have h := body_wp c (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (Memref.whole cc0_scratch0) (Memref.isWhole_whole _) (Memref.whole cc0_scratch1) (Memref.isWhole_whole _) tab (iblk m c (0 : Fin 7) t) (iblk m c (1 : Fin 7) t) (iblk m c (2 : Fin 7) t) (iblk m c (3 : Fin 7) t) x7 x8 x9 x10 x11 (hw1 (grid0.coords t)) (hw2 (grid0.coords t)) fullShare K
  rw [show bodyRes c (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (Memref.whole cc0_scratch0) (Memref.isWhole_whole _) (Memref.whole cc0_scratch1) (Memref.isWhole_whole _) tab (iblk m c (0 : Fin 7) t) (iblk m c (1 : Fin 7) t) (iblk m c (2 : Fin 7) t) (iblk m c (3 : Fin 7) t) x7 x10 x11 (hw1 (grid0.coords t)) (hw2 (grid0.coords t)) = traj m c t.val t.isLt from hs, keyOut_eq, valOut_eq] at h
  exact h

/-- What the state before a point gives. -/
theorem step_of (t : Fin (cfgA (F := F)).N) (d : Vec F S8192x512 .f32) (x10 x11 : Vec F S1024x512 .f32)
    (h : t.val ≠ 0 → x10 = (prev m c t.val (Nat.le_of_lt t.isLt)).2.1 ∧ x11 = (prev m c t.val (Nat.le_of_lt t.isLt)).2.2) :
    step m c t (if (grid0.coords t 1).val == 0 then d else (prev m c t.val (Nat.le_of_lt t.isLt)).1, x10, x11) = traj m c t.val t.isLt := by
  rw [traj_eq]
  by_cases h0 : (grid0.coords t 1).val = 0
  · exact step_start m c t h0 _ _
  · rw [if_neg (by simpa using h0), (h (zero_of_first t h0)).1, (h (zero_of_first t h0)).2]

theorem flush5 (t : Fin (cfgA (F := F)).N) : ((cfgA (F := F)).win (5 : Fin 7)).flush t = (k0_cond5 (w 4 ((cfgA (F := F)).grid.coords t)) == 1#1) := (flush_eq t).2.1
theorem flush6 (t : Fin (cfgA (F := F)).N) : ((cfgA (F := F)).win (6 : Fin 7)).flush t = (k0_cond5 (w 4 ((cfgA (F := F)).grid.coords t)) == 1#1) := (flush_eq t).2.2

theorem post_of {f : Bool} (A B : sProp 𝕄) : f = false → (A ⊢ match f with | false => A | true => B) := by
  rintro rfl; exact .rfl

theorem sound_body (t : Fin (cfgA (F := F)).N) :
    iprop((dats m 0 c).Φ t.castSucc ∗ (dats m 0 c).owesAt () t.castSucc
        ∗ (∃ d, owns (c : Thread nD τ) (ms0 (F := F) t) fullShare ((dats m 0 c).before (0 : Fin 7) t d))
        ∗ (∃ d, owns (c : Thread nD τ) (ms1 (F := F) t) fullShare ((dats m 0 c).before (1 : Fin 7) t d))
        ∗ (∃ d, owns (c : Thread nD τ) (ms2 (F := F) t) fullShare ((dats m 0 c).before (2 : Fin 7) t d))
        ∗ (∃ d, owns (c : Thread nD τ) (ms3 (F := F) t) fullShare ((dats m 0 c).before (3 : Fin 7) t d))
        ∗ (∃ d, owns (c : Thread nD τ) (ms4 (F := F) t) fullShare ((dats m 0 c).before (4 : Fin 7) t d))
        ∗ (∃ d, owns (c : Thread nD τ) (ms5 (F := F) t) fullShare ((dats m 0 c).before (5 : Fin 7) t d))
        ∗ (∃ d, owns (c : Thread nD τ) (ms6 (F := F) t) fullShare ((dats m 0 c).before (6 : Fin 7) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  rewrite [idle4, idle5]
  simp only [before0, before1, before2, before3, before4, before5, before6, after0, after1, after2, after3, after4, after5, after6, flush5, flush6]
  rewrite [show (dats m 0 c).Φ t.succ = Phi m c (t.val + 1) t.isLt from rfl, show (dats m 0 c).Φ t.castSucc = Phi m c t.val (Nat.le_of_lt t.isLt) from Pipeline.Dat.Φ_castSucc (Phi m c) t,
    show (dats m 0 c).owesAt () t.succ = (dats m 0 c).owesAt () t.castSucc from rfl]
  unfold Phi
  rw [prev_succ]
  iintro ⟨⟨⟨%x10, %x11, %hx, H10, H11⟩, HT⟩, Ho, ⟨%d0, H0⟩, ⟨%d1, H1⟩, ⟨%d2, H2⟩, ⟨%d3, H3⟩, ⟨%d4, H4⟩, ⟨%d5, H5⟩, ⟨%d6, H6⟩⟩
  iapply body_at m c t _ d5 d6 x10 x11 (step_of m c t d4 x10 x11 hx)
  isplitl [HT]; · iexact HT
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H10]; · iexact H10
  isplitl [H11]; · iexact H11
  iintro ⟨HT, H0, H1, H2, H3, H4, H5, H6, H10, H11⟩
  isplitl [HT H10 H11]
  · isplitl [H10 H11]
    · iexists (traj m c t.val t.isLt).2.1
      iexists (traj m c t.val t.isLt).2.2
      isplitr; · ipureintro; exact fun _ => ⟨rfl, rfl⟩
      isplitl [H10]; · iexact H10
      iexact H11
    iexact HT
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  by_cases h5 : k0_cond5 (w 4 (grid0.coords t)) = 1#1
  · simp only [if_pos h5, show (k0_cond5 (w 4 (grid0.coords t)) == 1#1) = true from beq_iff_eq.mpr h5, Bool.not_true]
    isplitl [H5]; · iapply owns_of_rep; iexact H5
    iapply owns_of_rep; iexact H6
  · simp only [if_neg h5, show (k0_cond5 (w 4 (grid0.coords t)) == 1#1) = false from beq_eq_false_iff_ne.mpr h5, Bool.not_false]
    isplitl [H5]; · iapply (post_of _ _ ((flush5 t).trans (beq_eq_false_iff_ne.mpr h5))); iexists d5; iapply owns_of_rep; iexact H5
    iapply (post_of _ _ ((flush6 t).trans (beq_eq_false_iff_ne.mpr h5))); iexists d6; iapply owns_of_rep; iexact H6

/-- The body's obligation. -/
theorem body_obligation : BodyObligation (dats (F := F) m 0 c) defs₀ Variants.none () Set.univ := fun t => by
  rw [bigSep_W0]
  exact sound_body m c t

end Mla

end
-- ==== Proof.MlaFrame.lean ====
/- The run of the attention backward program: its host operations, the kernel's region and the host operations after it, over
   all its buffers; and the frame. -/
module

public import proofs.«01_k».proof.Proof.MlaObl
public import Idealize.ShloMosaic.Lib.Pipeline.Regions
public import Idealize.ShloMosaic.Lib.Pipeline.RegionArraysTS
public import Idealize.ShloMosaic.Lib.Pipeline.FrameTail
public import Idealize.ShloMosaic.Lib.Pointwise

@[expose] public section

set_option maxRecDepth 16384

noncomputable section

namespace Mla

open Cert.MlaBwdIdeal Cert.MlaBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Seg HostSeg RegionSeg BodyObligation BodyObligationLoose)

variable (m : (ℓ : Loc nD τ sig) → Buf (Elt F) ℓ)

/-- The tables' contents, the same whenever the kernel is called. -/
abbrev adms : (p : Fin 1) → (pcfgs (F := F) p).Adm := fun | 0 => adm
abbrev datsAt : (p : Fin 1) → (c : Dev nD) → Dat τ (Elt F) Unit ℕ (UR sig nD τ) ℕ (Pipeline.pin (pcfgs (F := F)) adms p) c
  | 0 => dats m 0

def levs : GSem nD τ sig → Finset Unit := fun g => if g.1.2 = .tc then {()} else ∅
def lev : GSem nD τ sig → Unit → ℕ := fun _ _ => 0

theorem share_eq (c : Dev nD) (w : Fin (cfgA (F := F)).W) : (dats m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0)) := by
  unfold Pipeline.prefHeld
  rw [show (Finset.univ : Finset (Fin 1)) = {(0 : Fin 1)} from by decide, bigSep_singleton]
  rfl

/-- The kernel starts from the accumulators' buffers and the table, -/
theorem phi_intro (c : Dev nD) :
    iprop(iprop(Pipeline.scopedRest spec0 c ∗ emp) ∗ Pipeline.prefHeld pre0 c (fun _ => fullShare) (adm (F := F)).1) ⊢ (dats m 0 c).Φ 0 := by
  rw [prefHeld_eq, scopedRest0_eq, show (dats m 0 c).Φ 0 = Phi m c 0 (Nat.zero_le _) from rfl]
  unfold Phi
  iintro ⟨⟨⟨⟨%f0, H0⟩, ⟨%f1, H1⟩⟩, -⟩, HT⟩
  isplitl [H0 H1]
  · iexists f0
    iexists f1
    isplitr; · ipureintro; exact fun h => absurd rfl h
    isplitl [H0]
    · iapply rep_of_owns
      rw [owns_whole]; iexact H0
    iapply rep_of_owns
    rw [owns_whole]; iexact H1
  iapply rep_of_owns
  rw [owns_whole]; iexact HT

theorem Phi_def (c : Dev nD) (t : Fin ((cfgA (F := F)).N + 1)) : (dats m 0 c).Φ t = Phi m c t.val (Nat.le_of_lt_succ t.isLt) := rfl

/-- and gives them back. -/
theorem phi_exit (c : Dev nD) :
    (dats m 0 c).Φ (Fin.last (cfgA (F := F)).N) ⊢ iprop(iprop(Pipeline.scopedRest spec0 c ∗ emp) ∗ Pipeline.prefHeld pre0 c (fun _ => fullShare) (adm (F := F)).1) := by
  rw [prefHeld_eq, scopedRest0_eq, Phi_def]
  unfold Phi
  iintro ⟨⟨%x10, %x11, %hx, H0, H1⟩, HT⟩
  isplitr [HT]
  · isplitr []
    · isplitl [H0]
      · iexists x10
        rw [← owns_whole]; iapply owns_of_rep; iexact H0
      iexists x11
      rw [← owns_whole]; iapply owns_of_rep; iexact H1
    iempintro
  show _ ⊢ (c : Thread nD τ).loc main_c ↦{fullShare} tab
  rw [← owns_whole]; iapply owns_of_rep

/-! ## The host operations -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The table is the program's constant. -/
theorem V_table (c : Dev nD) : V m c (Proc.devRef .tc main_c) = tab := by
  unfold V
  rw [show StableHlo.after (hostOps0_2 (F := F)) (StableHlo.after hostOps0_1 (StableHlo.after hostOps0 fun b => m (c, b))) (Proc.devRef .tc main_c) = _ from by after_results_simp <;> rfl]
  rfl

/-- The buffers after the kernel, -/
def V1 (c : Dev nD) : Valuation τ sig (Elt F) := Pipeline.afterRegion (dats m 0 c) (V m c)
/-- and at the end. -/
def Vend (c : Dev nD) : Valuation τ sig (Elt F) := StableHlo.after hostOps1 (V1 m c)

/-- What every core keeps beside the buffers. -/
def keep (c : Dev nD) : sProp 𝕄 := iprop((∃ W, owes (c : Thread nD τ) (0 : CellTallies nD τ sig Unit) W) ∗ emp ∗ emp)

def hostSeg (ops : List (HloOp τ sig (Elt F))) (hs : ops.Forall fun op => op.bufs ⊆ StableHlo.tcRefs τ sig) (hf : ops.Forall fun op => op.fresh = ∅)
    (W : Dev nD → Valuation τ sig (Elt F)) : HostSeg (Ix := Unit) (Name := ℕ) (U := UR sig nD τ) (Lvl := ℕ) (pcfgs (F := F)) defs₀ Variants.none levs lev :=
  HostSeg.ofOps _ _ _ _ _ (Pipeline.ucRefs τ sig) ops
    (fun op h => Pipeline.sub_ucRefs op ((List.forall_iff_forall_mem.mp hs) op h))
    (fun op h => (List.forall_iff_forall_mem.mp hf) op h) W keep

theorem cut : Pipeline.LevelCut (pcfgs (F := F)) adms () levs lev 0 (fun _ => 0) (fun _ => 0) :=
  ⟨fun c w s => by unfold levs; rw [if_pos rfl]; exact Finset.mem_singleton_self _, fun _ _ _ => le_refl _, fun _ _ _ h => absurd h (lt_irrefl _)⟩

theorem region_arr (c : Dev nD) (w : Fin (cfgA (F := F)).W) : (datsAt m 0 c).arrAt w 0 = V m c (Proc.devRef .tc (Pipeline.arrRef (Pipeline.pin (pcfgs (F := F)) adms 0).spec w)) := rfl
theorem region_tbl (c : Dev nD) (k : Fin 1) : (adms (F := F) 0).1 k = V m c (Proc.devRef .tc ((pcfgs (F := F) 0).pre.ref k)) := by
  fin_cases k; exact (V_table m c).symm

def region : RegionSeg (pcfgs (F := F)) adms (datsAt m) () defs₀ Variants.none levs lev 0 :=
  RegionSeg.ofHeldInT (pcfgs (F := F)) adms (datsAt m) () defs₀ Variants.none levs lev 0 (fun _ => 0) (Pipeline.ucRefs τ sig) (fun _ => iprop(emp)) (fun _ => iprop(emp))
    launch0 (fun c => (body_obligation m c).loose) (fun _ _ => rfl) (fun _ => rfl) (share_eq m) (phi_intro m) (phi_exit m) (fun _ => 0) cut (fun _ => iprop(emp))
    (V m) (region_arr m) (region_tbl m)

theorem region_pre (c : Dev nD) : iprop(StableHlo.held (c : Thread nD τ) (Pipeline.ucRefs τ sig) (V m c) ∗ keep c) ⊢ (region m).pre c :=
  RegionSeg.ofHeldInT_pre (a := adms) (pdats := datsAt m) (L := levs) (lv := lev) (D := fun _ => 0) (X := fun _ => iprop(emp)) (Y := fun _ => iprop(emp)) (R := fun _ => iprop(emp)) (W := V m) (kit := launch0) (hbody := fun c => (body_obligation m c).loose) (howed := fun _ _ => rfl) (hrec := fun _ => rfl) (hshare := share_eq m) (hin := phi_intro m) (hout := phi_exit m) (b := fun _ => 0) (hcut := cut) (hW := region_arr m) (hT := region_tbl m)
    (Pipeline.arrRefs_sub_ucRefs _ winFacts0.arr_unscoped) (Pipeline.tblRefs_sub_ucRefs _ preFacts0.unscoped) c
theorem region_post (c : Dev nD) : (region m).post c ⊢ iprop(StableHlo.held (c : Thread nD τ) (Pipeline.ucRefs τ sig) (V1 m c) ∗ keep c) :=
  RegionSeg.ofHeldInT_post (a := adms) (pdats := datsAt m) (L := levs) (lv := lev) (D := fun _ => 0) (X := fun _ => iprop(emp)) (Y := fun _ => iprop(emp)) (R := fun _ => iprop(emp)) (W := V m) (kit := launch0) (hbody := fun c => (body_obligation m c).loose) (howed := fun _ _ => rfl) (hrec := fun _ => rfl) (hshare := share_eq m) (hin := phi_intro m) (hout := phi_exit m) (b := fun _ => 0) (hcut := cut) (hW := region_arr m) (hT := region_tbl m)
    (Pipeline.arrRefs_sub_ucRefs _ winFacts0.arr_unscoped) (Pipeline.tblRefs_sub_ucRefs _ preFacts0.unscoped) c

abbrev segs (c : Dev nD) : List (Seg (pcfgs (F := F)) adms (datsAt m) () defs₀ Variants.none levs lev) :=
  [.host (hostSeg hostOps0 hostOps0_sub hostOps0_fresh fun c b => m (c, b)),
    .host (hostSeg hostOps0_1 hostOps0_1_sub hostOps0_1_fresh fun c => StableHlo.after hostOps0 fun b => m (c, b)),
    .host (hostSeg hostOps0_2 hostOps0_2_sub hostOps0_2_fresh fun c => StableHlo.after hostOps0_1 (StableHlo.after hostOps0 fun b => m (c, b))),
    .region (region m),
    .host (hostSeg hostOps1 hostOps1_sub hostOps1_fresh (V1 m))]

theorem no_unscoped : ∀ sm : SemLoc sig, sm.isScoped .tc = true := by decide

/-- The rounds library's launch element. -/
def u₀ : UR sig nD τ :=
  initOf (Pipeline.cells (Pipeline.pin (pcfgs (F := F)) adms) ((launch0 (F := F)).cellOf_inj adms))
    (Pipeline.launchToks (Pipeline.pin (pcfgs (F := F)) adms) ((launch0 (F := F)).cellOf_inj adms))

set_option backward.isDefEq.respectTransparency.types false in
set_option maxHeartbeats 2000000 in
/-- The program terminates; at the end every buffer holds what the run computes, and every counter is zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = Vend m c b) ∧ r.2.sem = fun _ => 0) := by
  refine Pipeline.θ_run_regions_kit_dev_sems (pcfgs (F := F)) adms (datsAt m) () ((launch0 (F := F)).cellOf_inj adms) emb₁ defs₀ Variants.none levs lev m ρ main
    (segs m)
    (fun c Q => by
      rewrite [main_chain c, Seg.run_eq_chain,
        show (segs m c).map Seg.prog = [
          StableHlo.seq hostOps0, StableHlo.seq hostOps0_1, StableHlo.seq hostOps0_2,
          Prog.lift (.customCall (Pipeline.entry 0) ()),
          StableHlo.seq hostOps1 ] from rfl]
      exact .rfl)
    (fun c => by simp only [segs, Seg.pipes_host, Seg.pipes_region, Seg.pipes_nil]; decide) (fun _ => 0)
    (fun g h => by unfold levs; exact if_neg h) (fun _ => iprop(emp)) (u₀ (F := F)) ?_
    (T₀ := fun c => iprop(StableHlo.held (c : Thread nD τ) (Pipeline.ucRefs τ sig) (fun b => m (c, b)) ∗ keep c))
    (Tₙ := fun c => StableHlo.held (c : Thread nD τ) (Pipeline.ucRefs τ sig) (Vend m c))
    (hch := fun c => ⟨.rfl, .rfl, .rfl, ?_, ?_, ?_⟩)
    (hinit := ?_) (QY := fun c s => ∀ b ∈ Pipeline.ucRefs τ sig, s.mem (c, b) = Vend m c b)
    (hfin := fun c s' => ?_) (hQ := fun _ h hz => ⟨h, funext fun g => hz g (.inr (no_unscoped g.2))⟩)
  · iintro Hu
    imodintro
    isplitl [Hu]
    · have h : (ownU (u₀ (F := F)) : sProp 𝕄) ⊢ BI.own (emb₁ (initOf (Pipeline.cells (Pipeline.pin (pcfgs (F := F)) adms) ((launch0 (F := F)).cellOf_inj adms))
          (Pipeline.launchToks (Pipeline.pin (pcfgs (F := F)) adms) ((launch0 (F := F)).cellOf_inj adms)))) := .rfl
      iapply h; iexact Hu
    rw [show (Finset.univ : Finset (Dev nD)) = {0} from by decide, bigSep_singleton]
    iempintro
  · exact region_pre m c
  · exact region_post m c
  · show iprop(StableHlo.held (c : Thread nD τ) (Pipeline.ucRefs τ sig) (Vend m c) ∗ keep c) ⊢ _
    unfold keep
    iintro ⟨Hh, Ho, -⟩
    isplitl [Hh]; · iexact Hh
    iexact Ho
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (fun b => m (c, b)) ∗ keep c) : sProp 𝕄) :=
      bigSep_mono fun c _ => by
        rw [show (unscopedBufs c (fun b => m ((c.tc : Thread nD τ).loc b)) : sProp 𝕄) = StableHlo.held (c : Thread nD τ) (Pipeline.ucRefs τ sig) (fun b => m (c, b)) from (Pipeline.unscopedBufs_held c fun b => m (c, b))]
        unfold keep
        show iprop(StableHlo.held (c : Thread nD τ) (Pipeline.ucRefs τ sig) (fun b => m (c, b)) ∗ unscopedSems0 c
          ∗ owes (c.tc : Thread nD τ) (0 : CellTallies nD τ sig Unit) ∅ ∗ Pipeline.launchCred (fun _ => 0) c ∗ prngReg c (ρ c) ∗ emp) ⊢ _
        iintro ⟨Hb, -, Ho, -⟩
        isplitl [Hb]; · iexact Hb
        isplitl [Ho]; · iexists ∅; iexact Ho
        isplitr <;> iempintro
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro; exact h
    · iexact HSI

/-! ## The arguments -/

theorem V_main_arg0 (c : Dev nD) : V m c (Proc.devRef .tc main_arg0) = m ((c : Thread nD τ).loc main_arg0) := by
  unfold V; after_results_simp <;> rfl
theorem not_main_arg0 : ∀ w : Fin 7, main_arg0 ≠ Pipeline.arrRef spec0 w := by decide
theorem Vend_main_arg0 (c : Dev nD) : Vend m c (Proc.devRef .tc main_arg0) = m ((c : Thread nD τ).loc main_arg0) := by
  unfold Vend; after_results_simp
  exact (Pipeline.afterRegion_of_not_arr (dats m 0 c) (V m c) (not_main_arg0)).trans (V_main_arg0 m c)
theorem V_main_arg1 (c : Dev nD) : V m c (Proc.devRef .tc main_arg1) = m ((c : Thread nD τ).loc main_arg1) := by
  unfold V; after_results_simp <;> rfl
theorem not_main_arg1 : ∀ w : Fin 7, main_arg1 ≠ Pipeline.arrRef spec0 w := by decide
theorem Vend_main_arg1 (c : Dev nD) : Vend m c (Proc.devRef .tc main_arg1) = m ((c : Thread nD τ).loc main_arg1) := by
  unfold Vend; after_results_simp
  exact (Pipeline.afterRegion_of_not_arr (dats m 0 c) (V m c) (not_main_arg1)).trans (V_main_arg1 m c)
theorem V_main_arg2 (c : Dev nD) : V m c (Proc.devRef .tc main_arg2) = m ((c : Thread nD τ).loc main_arg2) := by
  unfold V; after_results_simp <;> rfl
theorem not_main_arg2 : ∀ w : Fin 7, main_arg2 ≠ Pipeline.arrRef spec0 w := by decide
theorem Vend_main_arg2 (c : Dev nD) : Vend m c (Proc.devRef .tc main_arg2) = m ((c : Thread nD τ).loc main_arg2) := by
  unfold Vend; after_results_simp
  exact (Pipeline.afterRegion_of_not_arr (dats m 0 c) (V m c) (not_main_arg2)).trans (V_main_arg2 m c)
theorem V_main_arg3 (c : Dev nD) : V m c (Proc.devRef .tc main_arg3) = m ((c : Thread nD τ).loc main_arg3) := by
  unfold V; after_results_simp <;> rfl
theorem not_main_arg3 : ∀ w : Fin 7, main_arg3 ≠ Pipeline.arrRef spec0 w := by decide
theorem Vend_main_arg3 (c : Dev nD) : Vend m c (Proc.devRef .tc main_arg3) = m ((c : Thread nD τ).loc main_arg3) := by
  unfold Vend; after_results_simp
  exact (Pipeline.afterRegion_of_not_arr (dats m 0 c) (V m c) (not_main_arg3)).trans (V_main_arg3 m c)
theorem V_main_arg4 (c : Dev nD) : V m c (Proc.devRef .tc main_arg4) = m ((c : Thread nD τ).loc main_arg4) := by
  unfold V; after_results_simp <;> rfl
theorem not_main_arg4 : ∀ w : Fin 7, main_arg4 ≠ Pipeline.arrRef spec0 w := by decide
theorem Vend_main_arg4 (c : Dev nD) : Vend m c (Proc.devRef .tc main_arg4) = m ((c : Thread nD τ).loc main_arg4) := by
  unfold Vend; after_results_simp
  exact (Pipeline.afterRegion_of_not_arr (dats m 0 c) (V m c) (not_main_arg4)).trans (V_main_arg4 m c)

/-- A buffer of the TensorCore's outside its kernels is among those the run ends with. -/
theorem at_end {r : PUnit × MemSt nD τ sig (Elt F)} {c : Dev nD} (h : ∀ b ∈ Pipeline.ucRefs τ sig, r.2.mem (c, b) = Vend m c b) (b : Ref sig .tc)
    (hb : b.isScoped = false) : r.2.mem ((c.tc : Thread nD τ).loc b) = Vend m c (Proc.devRef .tc b) :=
  h (Proc.devRef .tc b) (Finset.mem_filter.mpr ⟨StableHlo.devRef_mem_tcRefs b, by rw [Bool.not_eq_true]; exact hb⟩)

/-- The frame. -/
theorem frame_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(at_end m (h.1 c) main_arg0 rfl).trans (Vend_main_arg0 m c), (at_end m (h.1 c) main_arg1 rfl).trans (Vend_main_arg1 m c), (at_end m (h.1 c) main_arg2 rfl).trans (Vend_main_arg2 m c), (at_end m (h.1 c) main_arg3 rfl).trans (Vend_main_arg3 m c), (at_end m (h.1 c) main_arg4 rfl).trans (Vend_main_arg4 m c)⟩, h.2⟩) (run m ρ)

end Mla

end
-- ==== Proof.MlaFinal.lean ====
/- The attention backward kernel's arrays at its end, over the reals. -/
module

public import proofs.«01_k».proof.Proof.MlaTraj
public import proofs.«01_k».proof.Proof.MlaFrame
public import Idealize.ShloMosaic.Lib.Pipeline.ValueKit.Geometry
public import Idealize.ShloMosaic.Lib.Pointwise

@[expose] public section

set_option maxRecDepth 16384

noncomputable section

namespace Mla

open Cert.MlaBwdIdeal Cert.MlaBwdIdeal.Gen Cert.Tiles
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

def dqArr : (⟨2, ![8192, 2048]⟩ : Shape).Idx → EReal := fun i => queryUpTo m c (i 0).val (i 1).val 8192
def dkArr : (⟨2, ![8192, 2048]⟩ : Shape).Idx → EReal := fun i => keyUpTo m c (i 0).val (i 1).val 8192
def dvArr : (⟨2, ![8192, 2048]⟩ : Shape).Idx → EReal := fun i => valUpTo m c (i 0).val (i 1).val 8192

theorem exists_last : ∀ p : Fin 4, ∃ t : Fin grid0.N, (grid0.coords t 1).val = 35 ∧ (grid0.coords t 0).val = p.val := by decide +kernel
theorem exists_column : ∀ (p : Fin 4) (u : Fin 8), ∃ t : Fin grid0.N, qi (grid0.coords t) = 7 ∧ (grid0.coords t 0).val = p.val ∧ ki (grid0.coords t) = u.val := by decide +kernel

theorem final_query : (dats m 0 c).arrAt (4 : Fin 7) (cfgA (F := Ideal)).N = dqArr m c := by
  refine (dats m 0 c).arrAt_eq_of_emb (4 : Fin 7) (dqArr m c) (fun t hf y => ?_) (fun i => ?_)
  · have h35 : (grid0.coords t 1).val = 35 := by
      have := hf.symm.trans (flush_eq t).1
      exact of_decide_eq_true this.symm
    have he := table_end t h35
    have hy0 : (y 0).val < 8192 := (y 0).isLt
    have hy1 : (y 1).val < 512 := (y 1).isLt
    have h := (traj_holds m c t.val t.isLt).query (y 0).val (y 1).val hy0 hy1
    refine (at2_idx (m := 8192) (n := 512) ((dats m 0 c).after (4 : Fin 7) t) y).symm.trans (h.trans ?_)
    unfold dqArr met
    rw [he.1, he.2, if_pos (by omega)]
    have e0 : ((((cfgA (F := Ideal)).win (4 : Fin 7)).blk t).view.emb y (0 : Fin 2)).val = ((cfgA (F := Ideal)).win (4 : Fin 7)).index t (0 : Fin 2) * 8192 + 1 * (y 0).val := rfl
    have e1 : ((((cfgA (F := Ideal)).win (4 : Fin 7)).blk t).view.emb y (1 : Fin 2)).val = ((cfgA (F := Ideal)).win (4 : Fin 7)).index t (1 : Fin 2) * 512 + 1 * (y 1).val := rfl
    rw [(index_eq t).2.2.2.2.1.1] at e0
    rw [(index_eq t).2.2.2.2.1.2] at e1
    rw [e0, e1, Nat.zero_mul, Nat.zero_add, one_mul, one_mul]
  · have h0 : (i 0 : Nat) < 8192 := (i 0).isLt
    have h1 : (i 1 : Nat) < 2048 := (i 1).isLt
    obtain ⟨t, ht, hp⟩ := exists_last ⟨(i 1 : Nat) / 512, by omega⟩
    refine ⟨t, by rw [(flush_eq t).1]; exact decide_eq_true ht, ?_⟩
    show i ∈ ((View.whole main_v82_0).slice (((cfgA (F := Ideal)).win (4 : Fin 7)).rect t)).set
    rw [View.set_slice_whole]
    refine Rect.mem_set_unit.mpr (Fin.forall_fin_two.mpr ⟨?_, ?_⟩)
    · show ((cfgA (F := Ideal)).win (4 : Fin 7)).index t (0 : Fin 2) * 8192 ≤ (i 0 : Nat) ∧ (i 0 : Nat) < ((cfgA (F := Ideal)).win (4 : Fin 7)).index t (0 : Fin 2) * 8192 + 8192
      rw [(index_eq t).2.2.2.2.1.1]; omega
    · show ((cfgA (F := Ideal)).win (4 : Fin 7)).index t (1 : Fin 2) * 512 ≤ (i 1 : Nat) ∧ (i 1 : Nat) < ((cfgA (F := Ideal)).win (4 : Fin 7)).index t (1 : Fin 2) * 512 + 512
      rw [(index_eq t).2.2.2.2.1.2, hp]; dsimp only; omega

theorem flush_seven (t : Fin (cfgA (F := Ideal)).N) (b : Bool) (e : b = (k0_cond5 (w 4 (grid0.coords t)) == 1#1)) : b = true ↔ qi (grid0.coords t) = 7 := by
  rw [e, beq_iff_eq]; exact (table _).2.2.2.2.2

theorem final_key : (dats m 0 c).arrAt (5 : Fin 7) (cfgA (F := Ideal)).N = dkArr m c := by
  refine (dats m 0 c).arrAt_eq_of_emb (5 : Fin 7) (dkArr m c) (fun t hf y => ?_) (fun i => ?_)
  · have h7 := (flush_seven t _ (flush_eq t).2.1).mp hf
    have hy0 : (y 0).val < 1024 := (y 0).isLt
    have hy1 : (y 1).val < 512 := (y 1).isLt
    have h := (traj_holds m c t.val t.isLt).key (y 0).val (y 1).val hy0 hy1
    refine (at2_idx (m := 1024) (n := 512) ((dats m 0 c).after (5 : Fin 7) t) y).symm.trans (h.trans ?_)
    unfold dkArr
    rw [h7]
    have e0 : ((((cfgA (F := Ideal)).win (5 : Fin 7)).blk t).view.emb y (0 : Fin 2)).val = ((cfgA (F := Ideal)).win (5 : Fin 7)).index t (0 : Fin 2) * 1024 + 1 * (y 0).val := rfl
    have e1 : ((((cfgA (F := Ideal)).win (5 : Fin 7)).blk t).view.emb y (1 : Fin 2)).val = ((cfgA (F := Ideal)).win (5 : Fin 7)).index t (1 : Fin 2) * 512 + 1 * (y 1).val := rfl
    rw [(index_eq t).2.2.2.2.2.1.1] at e0
    rw [(index_eq t).2.2.2.2.2.1.2] at e1
    rw [e0, e1, one_mul, one_mul]
  · have h0 : (i 0 : Nat) < 8192 := (i 0).isLt
    have h1 : (i 1 : Nat) < 2048 := (i 1).isLt
    obtain ⟨t, h7, hp, hk⟩ := exists_column ⟨(i 1 : Nat) / 512, by omega⟩ ⟨(i 0 : Nat) / 1024, by omega⟩
    refine ⟨t, (flush_seven t _ (flush_eq t).2.1).mpr h7, ?_⟩
    show i ∈ ((View.whole main_v82_1).slice (((cfgA (F := Ideal)).win (5 : Fin 7)).rect t)).set
    rw [View.set_slice_whole]
    refine Rect.mem_set_unit.mpr (Fin.forall_fin_two.mpr ⟨?_, ?_⟩)
    · show ((cfgA (F := Ideal)).win (5 : Fin 7)).index t (0 : Fin 2) * 1024 ≤ (i 0 : Nat) ∧ (i 0 : Nat) < ((cfgA (F := Ideal)).win (5 : Fin 7)).index t (0 : Fin 2) * 1024 + 1024
      rw [(index_eq t).2.2.2.2.2.1.1, hk]; dsimp only; omega
    · show ((cfgA (F := Ideal)).win (5 : Fin 7)).index t (1 : Fin 2) * 512 ≤ (i 1 : Nat) ∧ (i 1 : Nat) < ((cfgA (F := Ideal)).win (5 : Fin 7)).index t (1 : Fin 2) * 512 + 512
      rw [(index_eq t).2.2.2.2.2.1.2, hp]; dsimp only; omega

theorem final_val : (dats m 0 c).arrAt (6 : Fin 7) (cfgA (F := Ideal)).N = dvArr m c := by
  refine (dats m 0 c).arrAt_eq_of_emb (6 : Fin 7) (dvArr m c) (fun t hf y => ?_) (fun i => ?_)
  · have h7 := (flush_seven t _ (flush_eq t).2.2).mp hf
    have hy0 : (y 0).val < 1024 := (y 0).isLt
    have hy1 : (y 1).val < 512 := (y 1).isLt
    have h := (traj_holds m c t.val t.isLt).val (y 0).val (y 1).val hy0 hy1
    refine (at2_idx (m := 1024) (n := 512) ((dats m 0 c).after (6 : Fin 7) t) y).symm.trans (h.trans ?_)
    unfold dvArr
    rw [h7]
    have e0 : ((((cfgA (F := Ideal)).win (6 : Fin 7)).blk t).view.emb y (0 : Fin 2)).val = ((cfgA (F := Ideal)).win (6 : Fin 7)).index t (0 : Fin 2) * 1024 + 1 * (y 0).val := rfl
    have e1 : ((((cfgA (F := Ideal)).win (6 : Fin 7)).blk t).view.emb y (1 : Fin 2)).val = ((cfgA (F := Ideal)).win (6 : Fin 7)).index t (1 : Fin 2) * 512 + 1 * (y 1).val := rfl
    rw [(index_eq t).2.2.2.2.2.2.1] at e0
    rw [(index_eq t).2.2.2.2.2.2.2] at e1
    rw [e0, e1, one_mul, one_mul]
  · have h0 : (i 0 : Nat) < 8192 := (i 0).isLt
    have h1 : (i 1 : Nat) < 2048 := (i 1).isLt
    obtain ⟨t, h7, hp, hk⟩ := exists_column ⟨(i 1 : Nat) / 512, by omega⟩ ⟨(i 0 : Nat) / 1024, by omega⟩
    refine ⟨t, (flush_seven t _ (flush_eq t).2.2).mpr h7, ?_⟩
    show i ∈ ((View.whole main_v82_2).slice (((cfgA (F := Ideal)).win (6 : Fin 7)).rect t)).set
    rw [View.set_slice_whole]
    refine Rect.mem_set_unit.mpr (Fin.forall_fin_two.mpr ⟨?_, ?_⟩)
    · show ((cfgA (F := Ideal)).win (6 : Fin 7)).index t (0 : Fin 2) * 1024 ≤ (i 0 : Nat) ∧ (i 0 : Nat) < ((cfgA (F := Ideal)).win (6 : Fin 7)).index t (0 : Fin 2) * 1024 + 1024
      rw [(index_eq t).2.2.2.2.2.2.1, hk]; dsimp only; omega
    · show ((cfgA (F := Ideal)).win (6 : Fin 7)).index t (1 : Fin 2) * 512 ≤ (i 1 : Nat) ∧ (i 1 : Nat) < ((cfgA (F := Ideal)).win (6 : Fin 7)).index t (1 : Fin 2) * 512 + 512
      rw [(index_eq t).2.2.2.2.2.2.2, hp]; dsimp only; omega

/-! ## The results -/

theorem V1_dq : V1 m c (Proc.devRef .tc main_v82_0) = dqArr m c := (Pipeline.afterRegion_arr (dats m 0 c) (V m c) winFacts0.arr_inj (4 : Fin 7)).trans (final_query m c)
theorem V1_dk : V1 m c (Proc.devRef .tc main_v82_1) = dkArr m c := (Pipeline.afterRegion_arr (dats m 0 c) (V m c) winFacts0.arr_inj (5 : Fin 7)).trans (final_key m c)
theorem V1_dv : V1 m c (Proc.devRef .tc main_v82_2) = dvArr m c := (Pipeline.afterRegion_arr (dats m 0 c) (V m c) winFacts0.arr_inj (6 : Fin 7)).trans (final_val m c)

theorem Vend_dq (i : Fin 8192) (h : Fin 8) (d : Fin 192) : Vend m c (Proc.devRef .tc main_v88) (ix3 i h d)
    = queryUpTo m c i.val (h.val * 256 + d.val) 8192 * Ideal.ofBits .f32 0x3D93CD3A#32 := by
  have e : Vend m c (Proc.devRef .tc main_v88) = StableHlo.after hostOps1 (V1 m c) (Proc.devRef .tc main_v88) := rfl
  rw [e]
  after_results_simp
  rw [V1_dq]
  pointwise
  rfl

theorem Vend_dk (i : Fin 8192) (h : Fin 8) (d : Fin 192) : Vend m c (Proc.devRef .tc main_v89) (ix3 i h d) = keyUpTo m c i.val (h.val * 256 + d.val) 8192 := by
  have e : Vend m c (Proc.devRef .tc main_v89) = StableHlo.after hostOps1 (V1 m c) (Proc.devRef .tc main_v89) := rfl
  rw [e]
  after_results_simp
  rw [V1_dk]
  pointwise
  rfl

theorem Vend_dv (i : Fin 8192) (h : Fin 8) (d : Fin 128) : Vend m c (Proc.devRef .tc main_v90) (ix3 i h d) = valUpTo m c i.val (h.val * 256 + d.val) 8192 := by
  have e : Vend m c (Proc.devRef .tc main_v90) = StableHlo.after hostOps1 (V1 m c) (Proc.devRef .tc main_v90) := rfl
  rw [e]
  after_results_simp
  rw [V1_dv]
  pointwise
  rfl

end Mla
-- ==== Proof.SoftRow.lean ====
/- A row of masked logits over the reals: its greatest, its sum, and the gradient of its softmax. -/
module

public import proofs.«01_k».proof.Proof.Reals
public import Mathlib.Data.Finset.Fold

@[expose] public section

set_option maxRecDepth 16384

noncomputable section

namespace Cert.Tiles

open Idealize.ShloMosaic

/-- The greatest of a row of logits, and the sum of their exponentials below it. -/
def rowTop (s : Fin 8192 → EReal) : EReal := Finset.univ.fold max (Ideal.ofBits .f32 0xFF800000#32) s
def rowSum (s : Fin 8192 → EReal) : EReal := ∑ x, Ideal.exp (s x - rowTop s)
/-- The row's log-sum. -/
def rowLse (s : Fin 8192 → EReal) : EReal := rowTop s + Ideal.log (rowSum s)
/-- The row's cotangent times the context. -/
def rowDelta {n : ℕ} (s : Fin 8192 → EReal) (v : Fin 8192 → Fin n → EReal) (o : Fin n → EReal) : EReal :=
  ∑ d, o d * ∑ x, v x d * Ideal.div (Ideal.exp (s x - rowTop s)) (rowSum s)

theorem ofBits_bot : Ideal.ofBits .f32 0xFF800000#32 = ⊥ := by simp [Ideal.ofBits, Ideal.ieee]

theorem rowTop_real (s : Fin 8192 → EReal) (ht : ∀ x, s x ≠ ⊤) (hb : ∃ x, s x ≠ ⊥) : ∃ M : ℝ, rowTop s = M := by
  have h1 : rowTop s < ⊤ := by
    unfold rowTop
    rw [Finset.fold_max_lt, ofBits_bot]
    exact ⟨bot_lt_top, fun x _ => lt_top_iff_ne_top.mpr (ht x)⟩
  have h2 : ⊥ < rowTop s := by
    unfold rowTop
    rw [Finset.lt_fold_max]
    exact Or.inr (hb.imp fun x hx => ⟨Finset.mem_univ x, bot_lt_iff_ne_bot.mpr hx⟩)
  exact ⟨(rowTop s).toReal, (EReal.coe_toReal h1.ne h2.ne').symm⟩

/-- A row of logits `z`, the later ones masked, has weights `e`, of sum `T`, and the log-sum `L`. -/
structure Soft (i : Fin 8192) (z : Fin 8192 → ℝ) (s : Fin 8192 → EReal) (e : Fin 8192 → ℝ) (T L : ℝ) : Prop where
  pos : 0 < T
  sum : T = ∑ x, e x
  late : ∀ x, i.val < x.val → e x = 0
  exp : ∀ x, Ideal.exp (s x - rowTop s) = e x
  total : rowSum s = T
  lse : rowLse s = L
  weight : ∀ x, x.val ≤ i.val → Real.exp (z x - L) = e x / T
  top : max (Ideal.ofBits .f32 0xFF800000#32) (rowTop s) = rowTop s

theorem soft_exists (i : Fin 8192) (z : Fin 8192 → ℝ) (s : Fin 8192 → EReal) (hs : ∀ x, s x = if x.val ≤ i.val then (z x : EReal) else ⊥) :
    ∃ (e : Fin 8192 → ℝ) (T L : ℝ), Soft i z s e T L := by
  obtain ⟨M, hM⟩ := rowTop_real s
    (fun x => by rw [hs]; split; exact EReal.coe_ne_top _; exact bot_ne_top)
    ⟨i, by rw [hs, if_pos le_rfl]; exact EReal.coe_ne_bot _⟩
  have hexp : ∀ x, Ideal.exp (s x - rowTop s) = ((if x.val ≤ i.val then Real.exp (z x - M) else 0 : ℝ) : EReal) := fun x => by
    rw [hs, hM]
    split
    · rw [← EReal.coe_sub, Ideal.exp_coe]
    · rw [EReal.bot_sub, Ideal.exp_bot, EReal.coe_zero]
  have hpos : 0 < ∑ x, (if x.val ≤ i.val then Real.exp (z x - M) else 0 : ℝ) :=
    Finset.sum_pos' (fun x _ => by split; exact (Real.exp_pos _).le; exact le_rfl) ⟨i, Finset.mem_univ i, by rw [if_pos le_rfl]; exact Real.exp_pos _⟩
  have htot : rowSum s = ((∑ x, (if x.val ≤ i.val then Real.exp (z x - M) else 0 : ℝ) : ℝ) : EReal) := by
    unfold rowSum; rw [← Reals.coe_sum]; exact Finset.sum_congr rfl fun x _ => hexp x
  refine ⟨_, _, M + Real.log (∑ x, (if x.val ≤ i.val then Real.exp (z x - M) else 0 : ℝ)), hpos, rfl, fun x hx => if_neg (by omega), hexp, htot, ?_, fun x hx => ?_, ?_⟩
  · unfold rowLse
    rw [htot, hM, Ideal.log_coe, if_neg hpos.not_ge, ← EReal.coe_add]
  · rw [if_pos hx, ← sub_sub, Real.exp_sub (z x - M), Real.exp_log hpos]
  · rw [ofBits_bot]; exact max_eq_right bot_le

variable {i : Fin 8192} {z : Fin 8192 → ℝ} {s : Fin 8192 → EReal} {e : Fin 8192 → ℝ} {T L : ℝ}

/-- The row's cotangent times its context is the mean of the weights' gradients. -/
theorem Soft.delta {n : ℕ} (h : Soft i z s e T L) (v : Fin 8192 → Fin n → ℝ) (o : Fin n → ℝ) :
    rowDelta s (fun x d => v x d) (fun d => o d) = ((∑ x, e x / T * ∑ d, o d * v x d : ℝ) : EReal) := by
  unfold rowDelta
  rw [h.total]
  simp only [h.exp, Reals.div_coe_coe _ h.pos.ne', ← EReal.coe_mul, Reals.coe_sum]
  congr 1
  simp only [Finset.mul_sum]
  rw [Finset.sum_comm]
  exact Finset.sum_congr rfl fun x _ => Finset.sum_congr rfl fun d _ => by ring

/-- The softmax's gradient: through the quotient and its divisor, or through the mean of the weights' gradients. -/
theorem Soft.grad (h : Soft i z s e T L) (g : Fin 8192 → ℝ) (x : Fin 8192) :
    (Ideal.div (g x : EReal) (T : EReal) + -(∑ a, (g a : EReal) * Ideal.div 1 ((T : EReal) * T) * (e a : EReal))) * (e x : EReal)
      = ((e x / T * (g x - ∑ a, e a / T * g a) : ℝ) : EReal) := by
  have hT := h.pos.ne'
  rw [← EReal.coe_one]
  simp only [← EReal.coe_mul, Reals.div_coe_coe _ hT, Reals.div_coe_coe _ (mul_ne_zero hT hT), Reals.coe_sum, ← EReal.coe_neg, ← EReal.coe_add]
  congr 1
  have e1 : ∑ a, g a * (1 / (T * T)) * e a = (∑ a, e a / T * g a) / T := by
    rw [Finset.sum_div]; exact Finset.sum_congr rfl fun a _ => by field_simp
  rw [e1]
  field_simp
  ring

end Cert.Tiles

end
-- ==== Proof.MlaHost.lean ====
/- The attention backward kernel's packed arguments, read at an index. -/
module

public import proofs.«01_k».proof.Proof.MlaFinal
public import proofs.«01_k».proof.Proof.SoftRow

@[expose] public section

set_option maxRecDepth 16384

noncomputable section

namespace Mla

open Cert.MlaBwdIdeal Cert.MlaBwdIdeal.Gen Cert.Tiles
open Idealize.ShloMosaic Idealize.ShloMosaic.TcCoe Idealize.ShloMosaic.Tactic

variable (W : Valuation τ sig (Elt Ideal))

theorem head_of (h : Fin 8) (d : Fin 256) : (h.val * 256 + d.val) / 256 = h.val := by omega
theorem col_of (h : Fin 8) (d : Fin 256) : (h.val * 256 + d.val) % 256 = d.val := by omega

set_option maxHeartbeats 2000000

/-- Head `h`'s columns of a row of the packed keys, queries, values and cotangents. -/
def keyCol (kn : (⟨3, ![8192, 8, 128]⟩ : Shape).Idx → EReal) (kr : (⟨2, ![8192, 64]⟩ : Shape).Idx → EReal) (i : Fin 8192) (h : Fin 8) (d : Fin 256) : EReal :=
  if h0 : d.val < 128 then kn (ix3 i h ⟨d.val, h0⟩) else if h1 : d.val - 128 < 64 then kr (ix2 i ⟨d.val - 128, h1⟩)
  else if d.val - 128 - 64 < 3 then 1 else 0

def queryCol (q : (⟨3, ![8192, 8, 192]⟩ : Shape).Idx → EReal) (L : EReal) (i : Fin 8192) (h : Fin 8) (d : Fin 256) : EReal :=
  if h0 : d.val < 192 then q (ix3 i h ⟨d.val, h0⟩) * Ideal.ofBits .f32 0x3D93CD3A#32
  else if d.val - 192 < 1 then -L else if d.val - 192 - 1 < 1 then -(L - L) else if d.val - 192 - 1 - 1 < 1 then -(L - L - (L - L)) else 0

def valCol (v : (⟨3, ![8192, 8, 128]⟩ : Shape).Idx → EReal) (i : Fin 8192) (h : Fin 8) (d : Fin 256) : EReal :=
  if h0 : d.val < 128 then v (ix3 i h ⟨d.val, h0⟩) else if d.val - 128 < 3 then Ideal.ofBits .f32 0xBF800000#32
  else if d.val - 128 - 3 < 1 then 1 else 0

def ctCol (o : (⟨3, ![8192, 8, 128]⟩ : Shape).Idx → EReal) (D : EReal) (i : Fin 8192) (h : Fin 8) (d : Fin 256) : EReal :=
  if h0 : d.val < 128 then o (ix3 i h ⟨d.val, h0⟩)
  else if d.val - 128 < 1 then D else if d.val - 128 - 1 < 1 then D - D else if d.val - 128 - 1 - 1 < 1 then D - D - (D - D) else 0

/-- A row of an array of logits, and the columns of values and cotangents. -/
def logitRow (s : (⟨3, ![8, 8192, 8192]⟩ : Shape).Idx → EReal) (h : Fin 8) (i : Fin 8192) (x : Fin 8192) : EReal := s (ix3 h i x)
def valRow (v : (⟨3, ![8192, 8, 128]⟩ : Shape).Idx → EReal) (h : Fin 8) (x : Fin 8192) (e : Fin 128) : EReal := v (ix3 x h e)
def ctRow (o : (⟨3, ![8192, 8, 128]⟩ : Shape).Idx → EReal) (h : Fin 8) (i : Fin 8192) (e : Fin 128) : EReal := o (ix3 i h e)

theorem host_k (i : Fin 8192) (h : Fin 8) (d : Fin 256) (hc : h.val * 256 + d.val < 2048) :
    StableHlo.after hostOps0_2 W (Proc.devRef .tc main_v62) (ix2 i ⟨h.val * 256 + d.val, hc⟩)
      = keyCol (W (Proc.devRef .tc main_arg1)) (W (Proc.devRef .tc main_arg2)) i h d := by
  after_results_simp
  pointwise
  after_results_simp
  pointwise
  simp only [head_of, col_of]
  rfl

theorem host_top (i : Fin 8192) (h : Fin 8) :
    (StableHlo.after (hostOps0_2.take 2) W (Proc.devRef .tc main_v16) : (⟨2, ![8, 8192]⟩ : Shape).Idx → EReal) (ix2 h i)
      = rowTop (logitRow (W (Proc.devRef .tc main_v15)) h i) := by
  simp only [hostOps0_2, List.take_succ_cons, List.take_zero]
  after_results_simp
  pointwise
  rfl

theorem host_top_logits : StableHlo.after (hostOps0_2.take 2) W (Proc.devRef .tc main_v15) = W (Proc.devRef .tc main_v15) := by
  simp only [hostOps0_2, List.take_succ_cons, List.take_zero]
  after_results_simp

/-- The log-sum of a row below its greatest logit `T`. -/
def lseFrom (s : Fin 8192 → EReal) (T : EReal) : EReal := T + Ideal.log (∑ x, Ideal.exp (s x - T))
def topAt (t : (⟨2, ![8, 8192]⟩ : Shape).Idx → EReal) (h : Fin 8) (i : Fin 8192) : EReal := t (ix2 h i)

theorem host_log' (i : Fin 8192) (h : Fin 8) (y : Fin 1) :
    (StableHlo.after ((hostOps0_2.drop 2).take 9) W (Proc.devRef .tc main_v24) : (⟨3, ![8, 8192, 1]⟩ : Shape).Idx → EReal) (ix3 h i y)
      = lseFrom (logitRow (W (Proc.devRef .tc main_v15)) h i) (topAt (W (Proc.devRef .tc main_v16)) h i) := by
  simp only [hostOps0_2, List.drop_succ_cons, List.drop_zero, List.take_succ_cons, List.take_zero]
  after_results_simp
  pointwise
  rfl

theorem host_log (i : Fin 8192) (h : Fin 8) (y : Fin 1) :
    (StableHlo.after (hostOps0_2.take 11) W (Proc.devRef .tc main_v24) : (⟨3, ![8, 8192, 1]⟩ : Shape).Idx → EReal) (ix3 h i y)
      = rowLse (logitRow (W (Proc.devRef .tc main_v15)) h i) := by
  have e : StableHlo.after (hostOps0_2.take 11) W = StableHlo.after ((hostOps0_2.drop 2).take 9) (StableHlo.after (hostOps0_2.take 2) W) := by
    rw [← StableHlo.after_append]; rfl
  rw [e]
  refine (host_log' _ i h y).trans ?_
  rw [host_top_logits]
  unfold rowLse rowSum
  rw [← host_top W i h]
  rfl

theorem host_log_arg : StableHlo.after (hostOps0_2.take 11) W (Proc.devRef .tc main_arg0) = W (Proc.devRef .tc main_arg0) := by
  simp only [hostOps0_2, List.take_succ_cons, List.take_zero]
  after_results_simp

/-- A row's log-sum as it is kept. -/
def kept (x : (⟨3, ![8, 8192, 1]⟩ : Shape).Idx → EReal) (i : Fin 8192) (h : Fin 8) : EReal := x (ix3 h i 0)

theorem kept_eq (x : (⟨3, ![8, 8192, 1]⟩ : Shape).Idx → EReal) (i : Fin 8192) (h : Fin 8) (y : Fin 1) : x (ix3 h i y) = kept x i h := by
  rw [Subsingleton.elim y 0]; rfl

theorem host_q' (i : Fin 8192) (h : Fin 8) (d : Fin 256) (hc : h.val * 256 + d.val < 2048) :
    StableHlo.after (hostOps0_2.drop 11) W (Proc.devRef .tc main_v55) (ix2 i ⟨h.val * 256 + d.val, hc⟩)
      = queryCol (W (Proc.devRef .tc main_arg0)) (kept (W (Proc.devRef .tc main_v24)) i h) i h d := by
  simp only [hostOps0_2, List.drop_succ_cons, List.drop_zero]
  after_results_simp
  pointwise
  after_results_simp
  pointwise
  simp only [head_of, col_of]
  rfl

theorem host_q (i : Fin 8192) (h : Fin 8) (d : Fin 256) (hc : h.val * 256 + d.val < 2048) :
    StableHlo.after hostOps0_2 W (Proc.devRef .tc main_v55) (ix2 i ⟨h.val * 256 + d.val, hc⟩)
      = queryCol (W (Proc.devRef .tc main_arg0)) (rowLse (logitRow (W (Proc.devRef .tc main_v15)) h i)) i h d := by
  have e : StableHlo.after hostOps0_2 W = StableHlo.after (hostOps0_2.drop 11) (StableHlo.after (hostOps0_2.take 11) W) := by
    rw [← StableHlo.after_append, List.take_append_drop]
  rw [e, host_q', ← host_log W i h 0, host_log_arg]
  rfl

theorem host_v (i : Fin 8192) (h : Fin 8) (d : Fin 256) (hc : h.val * 256 + d.val < 2048) :
    StableHlo.after hostOps0_2 W (Proc.devRef .tc main_v68) (ix2 i ⟨h.val * 256 + d.val, hc⟩)
      = valCol (W (Proc.devRef .tc main_arg3)) i h d := by
  after_results_simp
  pointwise
  after_results_simp
  pointwise
  simp only [head_of, col_of]
  rfl

theorem host_d (i : Fin 8192) (h : Fin 8) (d : Fin 256) (hc : h.val * 256 + d.val < 2048) :
    StableHlo.after hostOps0_2 W (Proc.devRef .tc main_v81) (ix2 i ⟨h.val * 256 + d.val, hc⟩)
      = ctCol (W (Proc.devRef .tc main_arg4))
          (rowDelta (logitRow (W (Proc.devRef .tc main_v15)) h i) (valRow (W (Proc.devRef .tc main_arg3)) h) (ctRow (W (Proc.devRef .tc main_arg4)) h i)) i h d := by
  after_results_simp
  pointwise
  after_results_simp
  pointwise
  simp only [head_of, col_of]
  rfl

/-- Head `h`'s logit of query `i` for key `x`. -/
def logit (q : (⟨3, ![8192, 8, 192]⟩ : Shape).Idx → EReal) (kn : (⟨3, ![8192, 8, 128]⟩ : Shape).Idx → EReal) (kr : (⟨2, ![8192, 64]⟩ : Shape).Idx → EReal)
    (h : Fin 8) (i x : Fin 8192) : EReal :=
  if x.val ≤ i.val then (∑ d : Fin 128, q (ix3 i h ⟨d.val, by omega⟩) * kn (ix3 x h d) + ∑ e : Fin 64, q (ix3 i h ⟨128 + e.val, by omega⟩) * kr (ix2 x e)) * Ideal.ofBits .f32 0x3D93CD3A#32
  else Ideal.ofBits .f32 0xFF800000#32

theorem select_sle (x i : Fin 8192) (A B : EReal) :
    Scalar.select (IntOp.cmpi .sle (BitVec.ofNat 32 x.val) (BitVec.ofNat 32 i.val)) A B = if x.val ≤ i.val then A else B := by
  rw [WordCmp.cmpi_sle_ofNat (by norm_num; omega) (by norm_num; omega)]
  by_cases hx : x.val ≤ i.val
  · rw [if_pos hx, decide_eq_true hx]; rfl
  · rw [if_neg hx, decide_eq_false hx]; rfl

variable (m : (ℓ : Loc nD τ sig) → Buf (Elt Ideal) ℓ) (c : Dev nD)

theorem host_logits (h : Fin 8) (i : Fin 8192) :
    logitRow (StableHlo.after hostOps0_1 (StableHlo.after hostOps0 (fun b => m (c, b))) (Proc.devRef .tc main_v15)) h i
      = logit (m (c, Proc.devRef .tc main_arg0)) (m (c, Proc.devRef .tc main_arg1)) (m (c, Proc.devRef .tc main_arg2)) h i := by
  funext x
  unfold logitRow
  after_results_simp
  simp only [StableHlo.TRef.toBuf, StableHlo.TRef.ofBuf, cast_eq, id]
  pointwise
  exact select_sle x i _ _

theorem host_arg0 : StableHlo.after hostOps0_1 (StableHlo.after hostOps0 (fun b => m (c, b))) (Proc.devRef .tc main_arg0) = m (c, Proc.devRef .tc main_arg0) := by
  after_results_simp <;> rfl
theorem host_arg1 : StableHlo.after hostOps0_1 (StableHlo.after hostOps0 (fun b => m (c, b))) (Proc.devRef .tc main_arg1) = m (c, Proc.devRef .tc main_arg1) := by
  after_results_simp <;> rfl
theorem host_arg2 : StableHlo.after hostOps0_1 (StableHlo.after hostOps0 (fun b => m (c, b))) (Proc.devRef .tc main_arg2) = m (c, Proc.devRef .tc main_arg2) := by
  after_results_simp <;> rfl
theorem host_arg3 : StableHlo.after hostOps0_1 (StableHlo.after hostOps0 (fun b => m (c, b))) (Proc.devRef .tc main_arg3) = m (c, Proc.devRef .tc main_arg3) := by
  after_results_simp <;> rfl
theorem host_arg4 : StableHlo.after hostOps0_1 (StableHlo.after hostOps0 (fun b => m (c, b))) (Proc.devRef .tc main_arg4) = m (c, Proc.devRef .tc main_arg4) := by
  after_results_simp <;> rfl

theorem packed (x : (⟨2, ![8192, 2048]⟩ : Shape).Idx → EReal) (i : Fin 8192) (h : Fin 8) (d : Fin 256) :
    at2 x i.val (h.val * 256 + d.val) = x (ix2 i ⟨h.val * 256 + d.val, by omega⟩) := at2_of_lt x i.isLt (by omega)

theorem ka_eq (i : Fin 8192) (h : Fin 8) (d : Fin 256) : ka m c i.val (h.val * 256 + d.val)
    = keyCol (m (c, Proc.devRef .tc main_arg1)) (m (c, Proc.devRef .tc main_arg2)) i h d := by
  rw [← host_arg1 m c, ← host_arg2 m c]
  exact (packed _ i h d).trans (host_k _ i h d (by omega))

theorem va_eq (i : Fin 8192) (h : Fin 8) (d : Fin 256) : va m c i.val (h.val * 256 + d.val)
    = valCol (m (c, Proc.devRef .tc main_arg3)) i h d := by
  rw [← host_arg3 m c]
  exact (packed _ i h d).trans (host_v _ i h d (by omega))

theorem qa_eq (i : Fin 8192) (h : Fin 8) (d : Fin 256) : qa m c i.val (h.val * 256 + d.val)
    = queryCol (m (c, Proc.devRef .tc main_arg0)) (rowLse (logit (m (c, Proc.devRef .tc main_arg0)) (m (c, Proc.devRef .tc main_arg1)) (m (c, Proc.devRef .tc main_arg2)) h i)) i h d := by
  rw [← host_logits]
  nth_rewrite 1 [← host_arg0 m c]
  exact (packed _ i h d).trans (host_q _ i h d (by omega))

theorem da_eq (i : Fin 8192) (h : Fin 8) (d : Fin 256) : da m c i.val (h.val * 256 + d.val)
    = ctCol (m (c, Proc.devRef .tc main_arg4)) (rowDelta (logit (m (c, Proc.devRef .tc main_arg0)) (m (c, Proc.devRef .tc main_arg1)) (m (c, Proc.devRef .tc main_arg2)) h i)
        (valRow (m (c, Proc.devRef .tc main_arg3)) h) (ctRow (m (c, Proc.devRef .tc main_arg4)) h i)) i h d := by
  rw [← host_logits, ← host_arg3 m c, ← host_arg4 m c]
  exact (packed _ i h d).trans (host_d _ i h d (by omega))

end Mla
-- ==== Proof.MlaRef.lean ====
/- The derivative of the attention, read at an index. -/
module

public import proofs.«01_k».proof.Proof.MlaHost
public import proofs.«01_k».proof.Proof.Gen.MlaRefIdeal.Read

@[expose] public section

set_option maxRecDepth 16384

noncomputable section

namespace Mla.Ref

open Cert.MlaRefIdeal Cert.MlaRefIdeal.Read Cert.Tiles Idealize.ShloMosaic

variable (x0 : (⟨3, ![8192, 8, 192]⟩ : Shape).Idx → EReal) (x1 : (⟨3, ![8192, 8, 128]⟩ : Shape).Idx → EReal) (x2 : (⟨2, ![8192, 64]⟩ : Shape).Idx → EReal)
  (x3 x4 : (⟨3, ![8192, 8, 128]⟩ : Shape).Idx → EReal) (h : Fin 8) (i x : Fin 8192)

theorem at15 : val_main_v15_0 (F := Ideal) x0 x1 x2 (ix3 h i x) = logit x0 x1 x2 h i x := by
  unfold val_main_v15_0 val_main_v15_1 val_main_v14 val_main_v12 val_main_v13 val_main_v10 val_main_v11 val_main_v9 val_main_v8 val_main_v7 val_main_cst val_main_v6 val_main_v5 val_main_v4
    val_main_v3 val_main_v2 val_main_v1 val_main_v0 val_main_call0_v2 val_main_call0_v0 val_main_cst_0
  pointwise
  exact select_sle x i _ _

theorem row15 : logitRow (val_main_v15_0 (F := Ideal) x0 x1 x2) h i = logit x0 x1 x2 h i := funext fun x => at15 x0 x1 x2 h i x

theorem at16 : val_main_v16 (F := Ideal) x0 x1 x2 (ix2 h i) = rowTop (logit x0 x1 x2 h i) := by
  rw [← row15]
  unfold val_main_v16 val_main_cst_1
  generalize val_main_v15_0 (F := Ideal) x0 x1 x2 = S
  pointwise
  rfl

theorem at23 : val_main_v23 (F := Ideal) x0 x1 x2 (ix2 h i) = max (Ideal.ofBits .f32 0xFF800000#32) (val_main_v16 (F := Ideal) x0 x1 x2 (ix2 h i)) := by
  rw [val_main_v23_apply, Ideal.maximumf_def, val_main_v22_apply, val_main_cst_3_apply]
  rfl

theorem at36' : val_main_v36 (F := Ideal) x0 x1 x2 (ix3 h i x)
    = Ideal.exp (val_main_v15_0 (F := Ideal) x0 x1 x2 (ix3 h i x) - val_main_v23 (F := Ideal) x0 x1 x2 (ix2 h i)) := by
  unfold val_main_v36 val_main_v35 val_main_v34 val_main_v33
  generalize val_main_v15_0 (F := Ideal) x0 x1 x2 = S
  generalize val_main_v23 (F := Ideal) x0 x1 x2 = T
  pointwise

theorem at36 : val_main_v36 (F := Ideal) x0 x1 x2 (ix3 h i x)
    = Ideal.exp (logit x0 x1 x2 h i x - max (Ideal.ofBits .f32 0xFF800000#32) (rowTop (logit x0 x1 x2 h i))) := by
  rw [at36', at15, at23, at16]

theorem at37 : val_main_v37 (F := Ideal) x0 x1 x2 (ix2 h i) = ∑ x, val_main_v36 (F := Ideal) x0 x1 x2 (ix3 h i x) := by
  unfold val_main_v37 val_main_cst_9
  generalize val_main_v36 (F := Ideal) x0 x1 x2 = S
  pointwise

theorem at40 : val_main_v40 (F := Ideal) x0 x1 x2 (ix3 h i x)
    = Ideal.div (val_main_v36 (F := Ideal) x0 x1 x2 (ix3 h i x)) (val_main_v37 (F := Ideal) x0 x1 x2 (ix2 h i)) := by
  unfold val_main_v40 val_main_v39 val_main_v38
  generalize val_main_v36 (F := Ideal) x0 x1 x2 = S
  generalize val_main_v37 (F := Ideal) x0 x1 x2 = T
  pointwise

theorem at47 : val_main_v47 (F := Ideal) x3 x4 (ix3 h i x) = ∑ d : Fin 128, x4 (ix3 i h d) * x3 (ix3 x h d) := by
  unfold val_main_v47 val_main_v46
  pointwise

theorem at53 : val_main_v53 (F := Ideal) x0 x1 x2 x3 x4 (ix2 h i)
    = ∑ x, val_main_v47 (F := Ideal) x3 x4 (ix3 h i x) * Ideal.div 1 (val_main_v37 (F := Ideal) x0 x1 x2 (ix2 h i) * val_main_v37 (F := Ideal) x0 x1 x2 (ix2 h i))
        * val_main_v36 (F := Ideal) x0 x1 x2 (ix3 h i x) := by
  unfold val_main_v53 val_main_cst_11 val_main_v52 val_main_v51 val_main_v50 val_main_v43 val_main_v42 val_main_cst_10 val_main_v41 val_main_v38
  generalize val_main_v36 (F := Ideal) x0 x1 x2 = S
  generalize val_main_v37 (F := Ideal) x0 x1 x2 = T
  generalize val_main_v47 (F := Ideal) x3 x4 = U
  pointwise

theorem at64 : val_main_v64 (F := Ideal) x0 x1 x2 x3 x4 (ix3 h i x)
    = (if x.val ≤ i.val then (Ideal.div (val_main_v47 (F := Ideal) x3 x4 (ix3 h i x)) (val_main_v37 (F := Ideal) x0 x1 x2 (ix2 h i))
        + -val_main_v53 (F := Ideal) x0 x1 x2 x3 x4 (ix2 h i)) * val_main_v36 (F := Ideal) x0 x1 x2 (ix3 h i x) else 0) * Ideal.ofBits .f32 0x3D93CD3A#32 := by
  unfold val_main_v64 val_main_v63 val_main_cst_13 val_main_v62 val_main_call1_v0 val_main_call1_cst val_main_v61 val_main_v60 val_main_v59 val_main_v58 val_main_cst_12 val_main_v57
    val_main_v56 val_main_v55 val_main_v54 val_main_v38 val_main_v15_1 val_main_v14 val_main_v12 val_main_v13 val_main_v10 val_main_v11 val_main_v9
  generalize val_main_v36 (F := Ideal) x0 x1 x2 = S
  generalize val_main_v37 (F := Ideal) x0 x1 x2 = T
  generalize val_main_v47 (F := Ideal) x3 x4 = U
  generalize val_main_v53 (F := Ideal) x0 x1 x2 x3 x4 = W
  pointwise
  simp only [Fintype.sum_unique]
  refine (select_sle x i _ _).trans ?_
  rw [ite_mul, zero_mul]

/-- The gradient of a logit before the scale's last use. -/
theorem dq_at (d : Fin 192) : val_main_v75 (F := Ideal) x0 x1 x2 x3 x4 (ix3 i h d)
    = if h0 : d.val < 128 then ∑ a : Fin 8192, val_main_v64 (F := Ideal) x0 x1 x2 x3 x4 (ix3 h i a) * x1 (ix3 a h ⟨d.val, h0⟩)
      else ∑ a : Fin 8192, val_main_v64 (F := Ideal) x0 x1 x2 x3 x4 (ix3 h i a) * x2 (ix2 a ⟨d.val - 128, by omega⟩) := by
  unfold val_main_v75 val_main_v74 val_main_v73 val_main_v72 val_main_v71 val_main_v68 val_main_v67 val_main_v1 val_main_v0 val_main_cst_15 val_main_cst_14
  generalize val_main_v64 (F := Ideal) x0 x1 x2 x3 x4 = S
  pointwise
  by_cases h0 : d.val < 128
  · rw [dif_neg (by omega), dif_pos h0, dif_pos h0, zero_add]
  · rw [dif_pos (by omega), dif_neg h0, dif_neg h0, add_zero]

theorem dk_at (d : Fin 192) : val_main_v77 (F := Ideal) x0 x1 x2 x3 x4 (ix3 x h d)
    = ∑ b : Fin 8192, val_main_v64 (F := Ideal) x0 x1 x2 x3 x4 (ix3 h b x) * x0 (ix3 b h d) := by
  unfold val_main_v77 val_main_v76 val_main_v70 val_main_v69 val_main_v66 val_main_v65 val_main_v3 val_main_v2
  generalize val_main_v64 (F := Ideal) x0 x1 x2 x3 x4 = S
  pointwise
  by_cases h0 : d.val < 128
  · rw [dif_pos h0]
  · rw [dif_neg h0]
    exact Finset.sum_congr rfl fun b _ => by congr 3; exact Fin.ext (by dsimp only; omega)

theorem dv_at (d : Fin 128) : val_main_v78 (F := Ideal) x0 x1 x2 x4 (ix3 x h d)
    = ∑ b : Fin 8192, x4 (ix3 b h d) * val_main_v40 (F := Ideal) x0 x1 x2 (ix3 h b x) := by
  unfold val_main_v78 val_main_v49 val_main_v48 val_main_v46
  generalize val_main_v40 (F := Ideal) x0 x1 x2 = S
  pointwise

end Mla.Ref
-- ==== Proof.MlaValue.lean ====
/- The attention backward kernel's results are its derivative, where the arguments are finite. -/
module

public import proofs.«01_k».proof.Proof.MlaRef

@[expose] public section

set_option maxRecDepth 16384

noncomputable section

namespace Mla

open Cert Cert.Tiles Idealize.ShloMosaic

/-- A sum over the 256 columns of a head, in the runs that its packing makes. -/
theorem sum_key (f : Fin 256 → EReal) : ∑ d, f d = (∑ d : Fin 128, f ⟨d.val, by omega⟩) + ((∑ d : Fin 64, f ⟨128 + d.val, by omega⟩)
    + ((f ⟨192, by omega⟩ + f ⟨193, by omega⟩ + f ⟨194, by omega⟩) + ∑ d : Fin 61, f ⟨195 + d.val, by omega⟩)) := by
  have e : ∑ d, f d = ∑ d : Fin (128 + (64 + (3 + 61))), f d := rfl
  rw [e, Fin.sum_univ_add, Fin.sum_univ_add, Fin.sum_univ_add, Fin.sum_univ_three]
  refine congrArg₂ (· + ·) rfl (congrArg₂ (· + ·) rfl (congrArg₂ (· + ·) rfl (Finset.sum_congr rfl fun d _ => congrArg f (Fin.ext ?_))))
  show 128 + (64 + (3 + d.val)) = 195 + d.val
  omega

theorem sum_val (f : Fin 256 → EReal) : ∑ d, f d = (∑ d : Fin 128, f ⟨d.val, by omega⟩)
    + ((f ⟨128, by omega⟩ + f ⟨129, by omega⟩ + f ⟨130, by omega⟩) + ∑ d : Fin 125, f ⟨131 + d.val, by omega⟩) := by
  have e : ∑ d, f d = ∑ d : Fin (128 + (3 + 125)), f d := rfl
  rw [e, Fin.sum_univ_add, Fin.sum_univ_add, Fin.sum_univ_three]
  refine congrArg₂ (· + ·) rfl (congrArg₂ (· + ·) rfl (Finset.sum_congr rfl fun d _ => congrArg f (Fin.ext ?_)))
  show 128 + (3 + d.val) = 131 + d.val
  omega

theorem scale_real : ∃ σ : ℝ, Ideal.ofBits .f32 0x3D93CD3A#32 = (σ : EReal) := by
  refine ⟨9686330 * (2 : ℝ) ^ (-27 : ℤ), ?_⟩
  simp [Ideal.ofBits, Ideal.ieee, -EReal.coe_mul]

theorem ofBits_neg_one : Ideal.ofBits .f32 0xBF800000#32 = ((-1 : ℝ) : EReal) := by
  simp [Ideal.ofBits, Ideal.ieee, -EReal.coe_mul]; norm_num

variable (q : (⟨3, ![8192, 8, 192]⟩ : Shape).Idx → ℝ) (kn : (⟨3, ![8192, 8, 128]⟩ : Shape).Idx → ℝ) (kr : (⟨2, ![8192, 64]⟩ : Shape).Idx → ℝ)
  (v o : (⟨3, ![8192, 8, 128]⟩ : Shape).Idx → ℝ) (σ : ℝ) (h : Fin 8) (i x : Fin 8192)

/-- The real logit, and the cotangent's product with the values. -/
def score : ℝ := (∑ d : Fin 128, q (ix3 i h ⟨d.val, by omega⟩) * kn (ix3 x h d) + ∑ e : Fin 64, q (ix3 i h ⟨128 + e.val, by omega⟩) * kr (ix2 x e)) * σ
def gain : ℝ := ∑ d : Fin 128, o (ix3 i h d) * v (ix3 x h d)

theorem logit_real (hσ : Ideal.ofBits .f32 0x3D93CD3A#32 = (σ : EReal)) :
    logit (fun j => (q j : EReal)) (fun j => (kn j : EReal)) (fun j => (kr j : EReal)) h i x = if x.val ≤ i.val then (score q kn kr σ h i x : EReal) else ⊥ := by
  unfold logit score
  rw [ofBits_bot, hσ]
  simp only [← EReal.coe_mul, Reals.coe_sum, ← EReal.coe_add]

theorem dot_key (hσ : Ideal.ofBits .f32 0x3D93CD3A#32 = (σ : EReal)) (L : ℝ) :
    ∑ d : Fin 256, keyCol (fun j => (kn j : EReal)) (fun j => (kr j : EReal)) x h d * queryCol (fun j => (q j : EReal)) L i h d
      = ((score q kn kr σ h i x - L : ℝ) : EReal) := by
  have e0 : ∀ d : Fin 128, keyCol (fun j => (kn j : EReal)) (fun j => (kr j : EReal)) x h ⟨d.val, by omega⟩ = (kn (ix3 x h d) : EReal) := fun d => by
    unfold keyCol; rw [dif_pos d.isLt]
  have e1 : ∀ d : Fin 128, queryCol (fun j => (q j : EReal)) L i h ⟨d.val, by omega⟩ = ((q (ix3 i h ⟨d.val, by omega⟩) * σ : ℝ) : EReal) := fun d => by
    unfold queryCol; rw [dif_pos (show d.val < 192 by omega), hσ, ← EReal.coe_mul]
  have e2 : ∀ d : Fin 64, keyCol (fun j => (kn j : EReal)) (fun j => (kr j : EReal)) x h ⟨128 + d.val, by omega⟩ = (kr (ix2 x d) : EReal) := fun d => by
    unfold keyCol; rw [dif_neg (by dsimp only; omega), dif_pos (by dsimp only; omega)]
    exact congrArg (fun e => (kr (ix2 x e) : EReal)) (Fin.ext (by dsimp only; omega))
  have e3 : ∀ d : Fin 64, queryCol (fun j => (q j : EReal)) L i h ⟨128 + d.val, by omega⟩ = ((q (ix3 i h ⟨128 + d.val, by omega⟩) * σ : ℝ) : EReal) := fun d => by
    unfold queryCol; rw [dif_pos (by dsimp only; omega), hσ, ← EReal.coe_mul]
  have e4 : ∀ d : Fin 61, keyCol (fun j => (kn j : EReal)) (fun j => (kr j : EReal)) x h ⟨195 + d.val, by omega⟩ = 0 := fun d => by
    unfold keyCol; rw [dif_neg (by dsimp only; omega), dif_neg (by dsimp only; omega), if_neg (by dsimp only; omega)]
  have k0 : keyCol (fun j => (kn j : EReal)) (fun j => (kr j : EReal)) x h ⟨192, by omega⟩ = ((1 : ℝ) : EReal) := rfl
  have k1 : keyCol (fun j => (kn j : EReal)) (fun j => (kr j : EReal)) x h ⟨193, by omega⟩ = ((1 : ℝ) : EReal) := rfl
  have k2 : keyCol (fun j => (kn j : EReal)) (fun j => (kr j : EReal)) x h ⟨194, by omega⟩ = ((1 : ℝ) : EReal) := rfl
  have q0 : queryCol (fun j => (q j : EReal)) L i h ⟨192, by omega⟩ = -(L : EReal) := rfl
  have q1 : queryCol (fun j => (q j : EReal)) L i h ⟨193, by omega⟩ = -((L : EReal) - L) := rfl
  have q2 : queryCol (fun j => (q j : EReal)) L i h ⟨194, by omega⟩ = -((L : EReal) - L - ((L : EReal) - L)) := rfl
  rw [sum_key]
  simp only [e0, e1, e2, e3, e4, k0, k1, k2, q0, q1, q2, zero_mul, Finset.sum_const_zero, add_zero, ← EReal.coe_mul, ← EReal.coe_sub, ← EReal.coe_neg, Reals.coe_sum, ← EReal.coe_add]
  refine congrArg _ ?_
  unfold score
  rw [add_mul, Finset.sum_mul, Finset.sum_mul,
    Finset.sum_congr rfl fun (d : Fin 128) _ => show kn (ix3 x h d) * (q (ix3 i h ⟨d.val, by omega⟩) * σ) = q (ix3 i h ⟨d.val, by omega⟩) * kn (ix3 x h d) * σ by ring,
    Finset.sum_congr rfl fun (d : Fin 64) _ => show kr (ix2 x d) * (q (ix3 i h ⟨128 + d.val, by omega⟩) * σ) = q (ix3 i h ⟨128 + d.val, by omega⟩) * kr (ix2 x d) * σ by ring]
  ring

theorem dot_val (D : ℝ) :
    ∑ d : Fin 256, valCol (fun j => (v j : EReal)) x h d * ctCol (fun j => (o j : EReal)) D i h d = ((gain v o h i x - D : ℝ) : EReal) := by
  have e0 : ∀ d : Fin 128, valCol (fun j => (v j : EReal)) x h ⟨d.val, by omega⟩ = (v (ix3 x h d) : EReal) := fun d => by
    unfold valCol; rw [dif_pos d.isLt]
  have e1 : ∀ d : Fin 128, ctCol (fun j => (o j : EReal)) D i h ⟨d.val, by omega⟩ = (o (ix3 i h d) : EReal) := fun d => by
    unfold ctCol; rw [dif_pos d.isLt]
  have e2 : ∀ d : Fin 125, ctCol (fun j => (o j : EReal)) D i h ⟨131 + d.val, by omega⟩ = 0 := fun d => by
    unfold ctCol; rw [dif_neg (by dsimp only; omega), if_neg (by dsimp only; omega), if_neg (by dsimp only; omega), if_neg (by dsimp only; omega)]
  have v0 : valCol (fun j => (v j : EReal)) x h ⟨128, by omega⟩ = ((-1 : ℝ) : EReal) := ofBits_neg_one
  have v1 : valCol (fun j => (v j : EReal)) x h ⟨129, by omega⟩ = ((-1 : ℝ) : EReal) := ofBits_neg_one
  have v2 : valCol (fun j => (v j : EReal)) x h ⟨130, by omega⟩ = ((-1 : ℝ) : EReal) := ofBits_neg_one
  have o0 : ctCol (fun j => (o j : EReal)) D i h ⟨128, by omega⟩ = (D : EReal) := rfl
  have o1 : ctCol (fun j => (o j : EReal)) D i h ⟨129, by omega⟩ = (D : EReal) - D := rfl
  have o2 : ctCol (fun j => (o j : EReal)) D i h ⟨130, by omega⟩ = (D : EReal) - D - ((D : EReal) - D) := rfl
  rw [sum_val]
  simp only [e0, e1, e2, v0, v1, v2, o0, o1, o2, mul_zero, Finset.sum_const_zero, add_zero, ← EReal.coe_mul, ← EReal.coe_sub, ← EReal.coe_neg, Reals.coe_sum, ← EReal.coe_add]
  refine congrArg _ ?_
  unfold gain
  rw [Finset.sum_congr rfl fun (d : Fin 128) _ => mul_comm (v (ix3 x h d)) (o (ix3 i h d))]
  ring

/-! ## The kernel's weights and score gradients -/

/-- The arguments are the reals `q`, `kn`, `kr`, `v` and `o`. -/
structure Real (m : (ℓ : Loc MlaBwdIdeal.nD MlaBwdIdeal.τ MlaBwdIdeal.sig) → Buf (Elt Ideal) ℓ) (c : Dev MlaBwdIdeal.nD) : Prop where
  arg0 : m (c, Proc.devRef .tc MlaBwdIdeal.main_arg0) = fun j => (q j : EReal)
  arg1 : m (c, Proc.devRef .tc MlaBwdIdeal.main_arg1) = fun j => (kn j : EReal)
  arg2 : m (c, Proc.devRef .tc MlaBwdIdeal.main_arg2) = fun j => (kr j : EReal)
  arg3 : m (c, Proc.devRef .tc MlaBwdIdeal.main_arg3) = fun j => (v j : EReal)
  arg4 : m (c, Proc.devRef .tc MlaBwdIdeal.main_arg4) = fun j => (o j : EReal)

variable {q kn kr v o σ} {m : (ℓ : Loc MlaBwdIdeal.nD MlaBwdIdeal.τ MlaBwdIdeal.sig) → Buf (Elt Ideal) ℓ} {c : Dev MlaBwdIdeal.nD}
  (R : Real q kn kr v o m c) (hσ : Ideal.ofBits .f32 0x3D93CD3A#32 = (σ : EReal))
  {e : Fin 8 → Fin 8192 → Fin 8192 → ℝ} {T L : Fin 8 → Fin 8192 → ℝ}
  (S : ∀ h i, Soft i (score q kn kr σ h i) (logit (fun j => (q j : EReal)) (fun j => (kn j : EReal)) (fun j => (kr j : EReal)) h i) (e h i) (T h i) (L h i))

/-- The gradient of the logit of query `i` for key `x`. -/
def dlogit (v o : (⟨3, ![8192, 8, 128]⟩ : Shape).Idx → ℝ) (e : Fin 8 → Fin 8192 → Fin 8192 → ℝ) (T : Fin 8 → Fin 8192 → ℝ) (h : Fin 8) (i x : Fin 8192) : ℝ :=
  e h i x / T h i * (gain v o h i x - ∑ a, e h i a / T h i * gain v o h i a)

include R hσ S

theorem P_real : P m c h.val x.val i.val = ((e h i x / T h i : ℝ) : EReal) := by
  unfold P
  by_cases hlt : i.val < x.val
  · rw [prob_masked _ _ _ _ _ _ hlt, (S h i).late x hlt, zero_div, EReal.coe_zero]
  · unfold prob dotRow
    rw [if_neg (fun hh => hlt hh.2)]
    simp only [ka_eq, qa_eq, R.arg0, R.arg1, R.arg2]
    rw [(S h i).lse, dot_key q kn kr σ h i x hσ, Ideal.exp_coe, (S h i).weight x (by omega)]

theorem D_real : D m c h.val x.val i.val = (dlogit v o e T h i x : EReal) := by
  have hP := P_real h i x R hσ S
  unfold D dscore
  unfold P at hP
  rw [hP]
  unfold dotRow
  simp only [va_eq, da_eq, R.arg0, R.arg1, R.arg2, R.arg3, R.arg4]
  have hd := (S h i).delta (fun a d => v (ix3 a h d)) (fun d => o (ix3 i h d))
  unfold valRow ctRow
  rw [hd, dot_val, ← EReal.coe_mul]
  rfl

/-! ## The results -/

theorem val_real (d : Fin 128) : valUpTo m c x.val (h.val * 256 + d.val) 8192 = ((∑ i, e h i x / T h i * o (ix3 i h d) : ℝ) : EReal) := by
  unfold valUpTo
  rw [Finset.sum_range, ← Reals.coe_sum]
  refine Finset.sum_congr rfl fun i _ => ?_
  rw [show (h.val * 256 + d.val) / 256 = h.val by omega, P_real h i x R hσ S]
  refine (congrArg (_ * ·) (da_eq m c i h ⟨d.val, by omega⟩)).trans ?_
  rw [R.arg4, EReal.coe_mul]
  unfold ctCol
  rw [dif_pos d.isLt]

theorem key_real (d : Fin 192) : keyUpTo m c x.val (h.val * 256 + d.val) 8192 = ((∑ i, dlogit v o e T h i x * (q (ix3 i h d) * σ) : ℝ) : EReal) := by
  unfold keyUpTo
  rw [Finset.sum_range, ← Reals.coe_sum]
  refine Finset.sum_congr rfl fun i _ => ?_
  rw [show (h.val * 256 + d.val) / 256 = h.val by omega, D_real h i x R hσ S]
  refine (congrArg (_ * ·) (qa_eq m c i h ⟨d.val, by omega⟩)).trans ?_
  rw [R.arg0, EReal.coe_mul]
  unfold queryCol
  rw [dif_pos d.isLt, hσ, EReal.coe_mul]

/-- A row of the keys, by columns. -/
def keyAt (kn : (⟨3, ![8192, 8, 128]⟩ : Shape).Idx → ℝ) (kr : (⟨2, ![8192, 64]⟩ : Shape).Idx → ℝ) (h : Fin 8) (x : Fin 8192) (d : Fin 192) : ℝ :=
  if h0 : d.val < 128 then kn (ix3 x h ⟨d.val, h0⟩) else kr (ix2 x ⟨d.val - 128, by omega⟩)

theorem query_real (d : Fin 192) : queryUpTo m c i.val (h.val * 256 + d.val) 8192 = ((∑ x, dlogit v o e T h i x * keyAt kn kr h x d : ℝ) : EReal) := by
  unfold queryUpTo
  rw [Finset.sum_range, ← Reals.coe_sum]
  refine Finset.sum_congr rfl fun x _ => ?_
  rw [show (h.val * 256 + d.val) / 256 = h.val by omega, D_real h i x R hσ S]
  refine (congrArg (_ * ·) (ka_eq m c x h ⟨d.val, by omega⟩)).trans ?_
  rw [R.arg1, R.arg2, EReal.coe_mul]
  unfold keyCol keyAt
  by_cases h0 : d.val < 128
  · rw [dif_pos h0, dif_pos h0]
  · rw [dif_neg h0, dif_neg h0, dif_pos (show d.val - 128 < 64 by omega)]

omit R

/-! ## The derivative -/

theorem ref36 : MlaRefIdeal.Read.val_main_v36 (F := Ideal) (fun j => (q j : EReal)) (fun j => (kn j : EReal)) (fun j => (kr j : EReal)) (ix3 h i x) = (e h i x : EReal) := by
  rw [Ref.at36, (S h i).top, (S h i).exp]

theorem ref37 : MlaRefIdeal.Read.val_main_v37 (F := Ideal) (fun j => (q j : EReal)) (fun j => (kn j : EReal)) (fun j => (kr j : EReal)) (ix2 h i) = (T h i : EReal) := by
  rw [Ref.at37, (S h i).sum, ← Reals.coe_sum]
  exact Finset.sum_congr rfl fun x _ => ref36 h i x hσ S

theorem ref64 : MlaRefIdeal.Read.val_main_v64 (F := Ideal) (fun j => (q j : EReal)) (fun j => (kn j : EReal)) (fun j => (kr j : EReal)) (fun j => (v j : EReal)) (fun j => (o j : EReal)) (ix3 h i x)
    = ((dlogit v o e T h i x * σ : ℝ) : EReal) := by
  have h47 : ∀ a, MlaRefIdeal.Read.val_main_v47 (F := Ideal) (fun j => (v j : EReal)) (fun j => (o j : EReal)) (ix3 h i a) = (gain v o h i a : EReal) := fun a => by
    rw [Ref.at47]; simp only [← EReal.coe_mul, Reals.coe_sum]; rfl
  rw [Ref.at64, Ref.at53, hσ, EReal.coe_mul]
  simp only [h47, ref36 h i _ hσ S, ref37 h i hσ S]
  rw [(S h i).grad (gain v o h i) x]
  refine congrArg (· * _) ?_
  by_cases hle : x.val ≤ i.val
  · rw [if_pos hle]; rfl
  · rw [if_neg hle]; unfold dlogit; rw [(S h i).late x (by omega), zero_div, zero_mul, EReal.coe_zero]

include R

theorem dq_eq (d : Fin 192) : queryUpTo m c i.val (h.val * 256 + d.val) 8192 * Ideal.ofBits .f32 0x3D93CD3A#32
    = MlaRefIdeal.Read.val_main_v75 (F := Ideal) (fun j => (q j : EReal)) (fun j => (kn j : EReal)) (fun j => (kr j : EReal)) (fun j => (v j : EReal)) (fun j => (o j : EReal)) (ix3 i h d) := by
  rw [query_real h i R hσ S d, hσ, Ref.dq_at]
  simp only [ref64 h i _ hσ S, ← EReal.coe_mul, Reals.coe_sum]
  unfold keyAt
  by_cases h0 : d.val < 128
  · simp only [dif_pos h0]
    rw [Finset.sum_mul]
    exact congrArg _ (Finset.sum_congr rfl fun x _ => by ring)
  · simp only [dif_neg h0]
    rw [Finset.sum_mul]
    exact congrArg _ (Finset.sum_congr rfl fun x _ => by ring)

theorem dk_eq (d : Fin 192) : keyUpTo m c x.val (h.val * 256 + d.val) 8192
    = MlaRefIdeal.Read.val_main_v77 (F := Ideal) (fun j => (q j : EReal)) (fun j => (kn j : EReal)) (fun j => (kr j : EReal)) (fun j => (v j : EReal)) (fun j => (o j : EReal)) (ix3 x h d) := by
  rw [key_real h x R hσ S d, Ref.dk_at]
  simp only [ref64 h _ x hσ S, ← EReal.coe_mul, Reals.coe_sum]
  exact congrArg _ (Finset.sum_congr rfl fun i _ => by ring)

theorem dv_eq (d : Fin 128) : valUpTo m c x.val (h.val * 256 + d.val) 8192
    = MlaRefIdeal.Read.val_main_v78 (F := Ideal) (fun j => (q j : EReal)) (fun j => (kn j : EReal)) (fun j => (kr j : EReal)) (fun j => (o j : EReal)) (ix3 x h d) := by
  rw [val_real h x R hσ S d, Ref.dv_at]
  simp only [Ref.at40, ref36 h _ x hσ S, ref37 h _ hσ S, Reals.div_coe_coe _ (S h _).pos.ne', ← EReal.coe_mul, Reals.coe_sum]
  exact congrArg _ (Finset.sum_congr rfl fun i _ => mul_comm _ _)

end Mla
-- ==== Proof.MlaClaims.lean ====
/- The claims about the attention backward program. -/
module

public import proofs.«01_k».proof.Defs
public import proofs.«01_k».proof.Proof.MlaValue
public import proofs.«01_k».proof.Proof.NormClaims
public import proofs.«01_k».proof.Proof.Gen.MlaBwd
public import proofs.«01_k».proof.Proof.Gen.MlaRefIdeal.Run
public import proofs.«01_k».proof.Proof.Gen.Pre_mla_finite

@[expose] public section

set_option maxRecDepth 16384

noncomputable section

namespace MlaClaims

open Idealize.ShloMosaic Idealize.SL.Sem

theorem frame_ideal : Cert.quiescent_MlaBwdIdeal := fun m ρ _ => Mla.frame_main (F := Ideal) m ρ
theorem frame_ideal_pre : Cert.quiescent_MlaBwdIdeal_pre_mla_finite := fun m ρ _ => Mla.frame_main (F := Ideal) m ρ

section
attribute [local instance] Mla.bitsNamed

/-- The frame of the program with the mask's number as a constant, in the words of the one with the mask named. -/
def frameBits : Prop :=
  ∀ (m : (ℓ : Loc Cert.MlaBwdIdeal.nD Cert.MlaBwdIdeal.τ Cert.MlaBwdIdeal.sig) → Buf (Elt Bits) ℓ) (ρ : Dev Cert.MlaBwdIdeal.nD → PrngReg), True →
    θ_run (Cert.MlaBwdIdeal.defs (F := Bits)) (onTc (τ := Cert.MlaBwdIdeal.τ) (Cert.MlaBwdIdeal.main (F := Bits))) ⟨m, fun _ => 0, ρ⟩ (fun r => (∀ c : Dev Cert.MlaBwdIdeal.nD,
      r.2.mem ((c.tc : Thread Cert.MlaBwdIdeal.nD Cert.MlaBwdIdeal.τ).loc Cert.MlaBwdIdeal.main_arg0) = m ((c.tc : Thread Cert.MlaBwdIdeal.nD Cert.MlaBwdIdeal.τ).loc Cert.MlaBwdIdeal.main_arg0)
      ∧ r.2.mem ((c.tc : Thread Cert.MlaBwdIdeal.nD Cert.MlaBwdIdeal.τ).loc Cert.MlaBwdIdeal.main_arg1) = m ((c.tc : Thread Cert.MlaBwdIdeal.nD Cert.MlaBwdIdeal.τ).loc Cert.MlaBwdIdeal.main_arg1)
      ∧ r.2.mem ((c.tc : Thread Cert.MlaBwdIdeal.nD Cert.MlaBwdIdeal.τ).loc Cert.MlaBwdIdeal.main_arg2) = m ((c.tc : Thread Cert.MlaBwdIdeal.nD Cert.MlaBwdIdeal.τ).loc Cert.MlaBwdIdeal.main_arg2)
      ∧ r.2.mem ((c.tc : Thread Cert.MlaBwdIdeal.nD Cert.MlaBwdIdeal.τ).loc Cert.MlaBwdIdeal.main_arg3) = m ((c.tc : Thread Cert.MlaBwdIdeal.nD Cert.MlaBwdIdeal.τ).loc Cert.MlaBwdIdeal.main_arg3)
      ∧ r.2.mem ((c.tc : Thread Cert.MlaBwdIdeal.nD Cert.MlaBwdIdeal.τ).loc Cert.MlaBwdIdeal.main_arg4) = m ((c.tc : Thread Cert.MlaBwdIdeal.nD Cert.MlaBwdIdeal.τ).loc Cert.MlaBwdIdeal.main_arg4))
      ∧ r.2.sem = fun _ => 0)

theorem frame_eq : frameBits = Cert.quiescent_MlaBwd := by sl_kernel_rfl

theorem frame : Cert.quiescent_MlaBwd := frame_eq.mp fun m ρ _ => Mla.frame_main (F := Bits) m ρ
end

theorem frame_ref : Cert.quiescent_MlaRefIdeal := fun m ρ _ =>
  (θ_run Cert.MlaRefIdeal.defs _ _).mono (fun r h => ⟨fun c => (h c).2.2.2, sem_eq_zero_of_no_sems (by decide) r.2⟩)
    (Cert.MlaRefIdeal.Value.run (F := Ideal) m ρ)

theorem frame_ref_pre : Cert.quiescent_MlaRefIdeal_pre_mla_finite := fun m ρ _ =>
  (θ_run Cert.MlaRefIdeal.defs _ _).mono (fun r h => ⟨fun c => (h c).2.2.2, sem_eq_zero_of_no_sems (by decide) r.2⟩)
    (Cert.MlaRefIdeal.Value.run (F := Ideal) m ρ)

theorem preserves : Cert.preserves_MlaBwd_MlaBwdIdeal := IdealRules.named_const.statement _ _ _ _ _ rfl

open Cert.NormClaims (finite)

/-- An array whose every element is real is a real array. -/
theorem real_array {s : Shape} {x : s.Idx → EReal} (h : ∀ i, ∃ a : ℝ, x i = a) : ∃ r : s.Idx → ℝ, x = fun i => (r i : EReal) :=
  ⟨fun i => (h i).choose, funext fun i => (h i).choose_spec⟩

theorem value : Cert.algebraic_MlaBwdIdeal_MlaRefIdeal_pre_mla_finite := by
  intro m ρ m' ρ' hpre hag
  refine ⟨fun c => Mla.Vend m c (Proc.devRef .tc Cert.MlaBwdIdeal.main_v88), fun c => Mla.Vend m c (Proc.devRef .tc Cert.MlaBwdIdeal.main_v89),
    fun c => Mla.Vend m c (Proc.devRef .tc Cert.MlaBwdIdeal.main_v90),
    (θ_run _ _ _).mono (fun _ h c => ⟨Mla.at_end m (h.1 c) _ rfl, Mla.at_end m (h.1 c) _ rfl, Mla.at_end m (h.1 c) _ rfl,
      (Mla.at_end m (h.1 c) _ rfl).trans (Mla.Vend_main_arg0 m c), (Mla.at_end m (h.1 c) _ rfl).trans (Mla.Vend_main_arg1 m c),
      (Mla.at_end m (h.1 c) _ rfl).trans (Mla.Vend_main_arg2 m c), (Mla.at_end m (h.1 c) _ rfl).trans (Mla.Vend_main_arg3 m c),
      (Mla.at_end m (h.1 c) _ rfl).trans (Mla.Vend_main_arg4 m c)⟩) (Mla.run m ρ),
    (θ_run _ _ _).mono (fun _ h c => ?_) (Cert.MlaRefIdeal.Value.run m' ρ')⟩
  obtain ⟨q, hq⟩ := real_array (finite (s := ⟨3, ![8192, 8, 192]⟩) _ _ (fun _ => rfl) (hpre c).1)
  obtain ⟨kn, hkn⟩ := real_array (finite (s := ⟨3, ![8192, 8, 128]⟩) _ _ (fun _ => rfl) (hpre c).2.1)
  obtain ⟨kr, hkr⟩ := real_array (finite (s := ⟨2, ![8192, 64]⟩) _ _ (fun _ => rfl) (hpre c).2.2.1)
  obtain ⟨v, hv⟩ := real_array (finite (s := ⟨3, ![8192, 8, 128]⟩) _ _ (fun _ => rfl) (hpre c).2.2.2.1)
  obtain ⟨o, ho⟩ := real_array (finite (s := ⟨3, ![8192, 8, 128]⟩) _ _ (fun _ => rfl) (hpre c).2.2.2.2)
  obtain ⟨σ, hσ⟩ := Mla.scale_real
  have R : Mla.Real q kn kr v o m c := ⟨hq, hkn, hkr, hv, ho⟩
  choose e T L S using fun h i => Cert.Tiles.soft_exists i (Mla.score q kn kr σ h i) _ (Mla.logit_real q kn kr σ h i · hσ)
  obtain ⟨a0, a1, a2, a3, a4⟩ := hag c
  refine ⟨(h c).1.trans ?_, (h c).2.1.trans ?_, (h c).2.2.1.trans ?_, (h c).2.2.2⟩
  · refine (Cert.MlaRefIdeal.Read.val_main_v75_eq ..).trans ?_
    rw [a0, a1, a2, a3, a4]
    funext i
    rw [eq_ix3 i]
    refine Eq.trans ?_ (Mla.Vend_dq m c _ _ _).symm
    refine Eq.trans ?_ (Mla.dq_eq _ _ R hσ S _).symm
    rw [← hq, ← hkn, ← hkr, ← hv, ← ho]
  · refine (Cert.MlaRefIdeal.Read.val_main_v77_eq ..).trans ?_
    rw [a0, a1, a2, a3, a4]
    funext i
    rw [eq_ix3 i]
    refine Eq.trans ?_ (Mla.Vend_dk m c _ _ _).symm
    refine Eq.trans ?_ (Mla.dk_eq _ _ R hσ S _).symm
    rw [← hq, ← hkn, ← hkr, ← hv, ← ho]
  · refine (Cert.MlaRefIdeal.Read.val_main_v78_eq ..).trans ?_
    rw [a0, a1, a2, a4]
    funext i
    rw [eq_ix3 i]
    refine Eq.trans ?_ (Mla.Vend_dv m c _ _ _).symm
    refine Eq.trans ?_ (Mla.dv_eq _ _ R hσ S _).symm
    rw [← hq, ← hkn, ← hkr, ← ho]

end MlaClaims

end
-- ==== Proof.FoxBlocks.lean ====
/- The body of the forget-gate attention's backward kernel, in blocks: its six guarded regions — the clearing of the query
   gradient, the clearing of the two accumulators, the step at a pair on the diagonal, the step at a pair below it, the
   writing of a column's key and value gradients and of their sums, the
   writing of the query gradient's sums — each as a rule that gives what the buffers hold after it. -/
module

public import proofs.«01_k».proof.Proof.Gen.FoxBwdIdeal.Skeleton
public import proofs.«01_k».proof.Proof.Gen.FoxBwdIdeal.Launch
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.Exec

@[expose] public section

set_option maxRecDepth 16384

noncomputable section

namespace Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- `m` holds the values `x` on core `c`. -/
abbrev holds (c : Dev nD) {S : Shape} {e : EltTy} (m : Memref sig .tc .vmem S e) (x : S.Idx → Elt F e) : sProp 𝕄 :=
  m.view.loc (c : Thread nD τ) ↦[m.view.set]{fullShare} m.view.rep x

/-- A program of the body. -/
abbrev Body (F : FTy → Type) := Prog (TpuEff nD τ sig (Elt F) Λ₀ .tc) PUnit

/-- The body's weakest precondition. -/
abbrev wpB (c : Dev nD) (p : Body F) (K : PUnit → sProp 𝕄) : sProp 𝕄 :=
  wp frame (wpE (defs₀ (F := F)) Variants.none c none) Set.univ p K

variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)

/-- At a head group's first point the query gradient is cleared. -/
def zeroDq (rest : Body F) : Body F :=
  if k0_h1 : k0_cond1 i = 1#1 then do
    let v28 : Vec F S8192x512 .f32 ← Prog.lift (.load arg8 (Rect.unit (s := S8192x512) ![0, 0] S8192x512.size inb_S8192x512_S8192x512_0_0).toLoadRect (View.loadsAt_vmem h_S8192x512))
    Prog.lift (.store arg8 (Rect.unit (s := S8192x512) ![0, 0] S8192x512.size inb_S8192x512_S8192x512_0_0) (k0_pay1 (F := F)) Finset.univ (View.stores_vmem_bits_univ h_S8192x512 rfl) (.inl rfl))
    rest
  else rest

/-- At a column's first point the accumulators are cleared. -/
def zeroSc (v11 : BitVec 1) (rest : Body F) : Body F :=
  if v11 = 1#1 then do
    let v28 : Vec F S1024x512 .f32 ← Prog.lift (.load arg12 (Rect.unit (s := S1024x512) ![0, 0] S1024x512.size inb_S1024x512_S1024x512_0_0).toLoadRect (View.loadsAt_vmem h_S1024x512))
    Prog.lift (.store arg12 (Rect.unit (s := S1024x512) ![0, 0] S1024x512.size inb_S1024x512_S1024x512_0_0) (k0_pay2 (F := F)) Finset.univ (View.stores_vmem_bits_univ h_S1024x512 rfl) (.inl rfl))
    let v32 : Vec F S1024x512 .f32 ← Prog.lift (.load arg13 (Rect.unit (s := S1024x512) ![0, 0] S1024x512.size inb_S1024x512_S1024x512_0_0).toLoadRect (View.loadsAt_vmem h_S1024x512))
    Prog.lift (.store arg13 (Rect.unit (s := S1024x512) ![0, 0] S1024x512.size inb_S1024x512_S1024x512_0_0) (k0_pay3 (F := F)) Finset.univ (View.stores_vmem_bits_univ h_S1024x512 rfl) (.inl rfl))
    rest
  else rest

/-- The step at a pair on the diagonal. -/
def diagStep (v1 v3 v13 : Elt F .i32) (k0_hw1 : k0_chk1 v1 v13) (rest : Body F) : Body F :=
  if k0_h3 : k0_cond3 v13 = 1#1 then do
    let ⟨v770, v797, v804, c768_i32_476⟩ : Σ' (v770 : FVec F S256x128 .bf16) (v797 : FVec F S256x256 .bf16) (v804 : BitVec 32), BitVec 32 ← k0_part22 i arg2 harg2 arg3 harg3 arg4 harg4 arg5 harg5 arg6 harg6 arg7 harg7 arg8 harg8 arg9 harg9 arg10 harg10 arg11 harg11 arg12 harg12 arg13 harg13 v1 v3 v13 k0_hw1 k0_h3
    let v808 : Vec F S256x128 .f32 ← Prog.lift (.load arg8 (Rect.unit (s := S8192x512) (k0_off20 v1) S256x128.size (k0_off20_inb v1 v13 k0_hw1 k0_h3)).toLoadRect (View.loadsAt_vmem h_S256x128))
    let v813 : Vec F S256x128 .f32 ← Prog.lift (.load arg8 (Rect.unit (s := S8192x512) (k0_off20 v1) S256x128.size (k0_off20_inb v1 v13 k0_hw1 k0_h3)).toLoadRect (View.loadsAt_vmem h_S256x128))
    Prog.lift (.store arg8 (Rect.unit (s := S8192x512) (k0_off20 v1) S256x128.size (k0_off20_inb v1 v13 k0_hw1 k0_h3)) (k0_pay4 v770 v797 v808) Finset.univ (View.stores_vmem_bits_univ h_S256x128 rfl) (.inl rfl))
    rest
  else rest

/-- The step at a pair below the diagonal. -/
def fullStep (v1 v18 : Elt F .i32) (k0_hw2 : k0_chk2 v1 v18) (rest : Body F) : Body F :=
  if k0_h4 : k0_cond4 v18 = 1#1 then do
    let ⟨v58, v63⟩ : Σ' (v58 : BitVec 32), FVec F S1024x128 .f32 ← k0_part23 i arg2 harg2 arg3 harg3 arg4 harg4 arg5 harg5 arg6 harg6 arg7 harg7 arg8 harg8 arg9 harg9 arg10 harg10 arg11 harg11 arg12 harg12 arg13 harg13 v1 v18 k0_hw2 k0_h4
    let ⟨v71, v85, v94, v96⟩ : Σ' (v71 : FVec F S256x128 .bf16) (v85 : FVec F S256x1024 .bf16) (v94 : BitVec 32), Vec F S1024x128 .f32 ← k0_part24 i arg2 harg2 arg3 harg3 arg4 harg4 arg5 harg5 arg6 harg6 arg7 harg7 arg8 harg8 arg9 harg9 arg10 harg10 arg11 harg11 arg12 harg12 arg13 harg13 v1 v18 k0_hw2 k0_h4 v58 v63
    let ⟨v107, v121, v129⟩ : Σ' (v107 : FVec F S256x128 .bf16) (v121 : FVec F S256x1024 .bf16), BitVec 32 ← k0_part25 i arg2 harg2 arg3 harg3 arg4 harg4 arg5 harg5 arg6 harg6 arg7 harg7 arg8 harg8 arg9 harg9 arg10 harg10 arg11 harg11 arg12 harg12 arg13 harg13 v1 v18 k0_hw2 k0_h4 v71 v85 v94 v96
    let ⟨v143, v157⟩ : Σ' (v143 : FVec F S256x128 .bf16), FVec F S256x1024 .bf16 ← k0_part26 i arg2 harg2 arg3 harg3 arg4 harg4 arg5 harg5 arg6 harg6 arg7 harg7 arg8 harg8 arg9 harg9 arg10 harg10 arg11 harg11 arg12 harg12 arg13 harg13 v1 v18 k0_hw2 k0_h4 v107 v121 v129
    let ⟨v179, v193, v196⟩ : Σ' (v179 : FVec F S256x128 .bf16) (v193 : FVec F S256x1024 .bf16), FVec F S256x128 .f32 ← k0_part27 i arg2 harg2 arg3 harg3 arg4 harg4 arg5 harg5 arg6 harg6 arg7 harg7 arg8 harg8 arg9 harg9 arg10 harg10 arg11 harg11 arg12 harg12 arg13 harg13 v1 v18 k0_hw2 k0_h4 v143 v157
    let ⟨v211, v215, v229, v230, cst_146⟩ : Σ' (v211 : FVec F S1024x128 .bf16) (v215 : FVec F S256x128 .bf16) (v229 : FVec F S256x1024 .bf16) (v230 : Vec F S256x128 .f32), FVec F S256x128 .f32 ← k0_part28 i arg2 harg2 arg3 harg3 arg4 harg4 arg5 harg5 arg6 harg6 arg7 harg7 arg8 harg8 arg9 harg9 arg10 harg10 arg11 harg11 arg12 harg12 arg13 harg13 v1 v18 k0_hw2 k0_h4 v179 v193 v196
    let ⟨v247, v251, v265⟩ : Σ' (v247 : FVec F S1024x128 .bf16) (v251 : FVec F S256x128 .bf16), FVec F S256x1024 .bf16 ← k0_part29 i arg2 harg2 arg3 harg3 arg4 harg4 arg5 harg5 arg6 harg6 arg7 harg7 arg8 harg8 arg9 harg9 arg10 harg10 arg11 harg11 arg12 harg12 arg13 harg13 v1 v18 k0_hw2 k0_h4 v211 v215 v229 v230 cst_146
    let ⟨v283, v285, v287, v289, v298⟩ : Σ' (v283 : FVec F S1024x128 .bf16) (v285 : FVec F S1024x128 .bf16) (v287 : FVec F S256x128 .bf16) (v289 : FVec F S256x1024 .f32), FVec F S256x128 .bf16 ← k0_part30 i arg2 harg2 arg3 harg3 arg4 harg4 arg5 harg5 arg6 harg6 arg7 harg7 arg8 harg8 arg9 harg9 arg10 harg10 arg11 harg11 arg12 harg12 arg13 harg13 v1 v18 k0_hw2 k0_h4 v247 v251 v265
    let ⟨v319, v321, v323, v325⟩ : Σ' (v319 : FVec F S1024x128 .bf16) (v321 : FVec F S1024x128 .bf16) (v323 : FVec F S256x128 .bf16), FVec F S256x1024 .f32 ← k0_part31 i arg2 harg2 arg3 harg3 arg4 harg4 arg5 harg5 arg6 harg6 arg7 harg7 arg8 harg8 arg9 harg9 arg10 harg10 arg11 harg11 arg12 harg12 arg13 harg13 v1 v18 k0_hw2 k0_h4 v283 v285 v287 v289 v298
    let ⟨v355, v357, v359, v361, v365⟩ : Σ' (v355 : FVec F S1024x128 .bf16) (v357 : FVec F S1024x128 .bf16) (v359 : FVec F S256x128 .bf16) (v361 : FVec F S256x1024 .f32), FVec F S256x128 .f32 ← k0_part32 i arg2 harg2 arg3 harg3 arg4 harg4 arg5 harg5 arg6 harg6 arg7 harg7 arg8 harg8 arg9 harg9 arg10 harg10 arg11 harg11 arg12 harg12 arg13 harg13 v1 v18 k0_hw2 k0_h4 v319 v321 v323 v325
    let ⟨v391, v393, v395, v397, v398, v399, cst_263⟩ : Σ' (v391 : FVec F S1024x128 .bf16) (v393 : FVec F S1024x128 .bf16) (v395 : FVec F S256x128 .bf16) (v397 : FVec F S256x1024 .f32) (v398 : Vec F S256x128 .f32) (v399 : FVec F S256x1024 .bf16), FVec F S256x128 .f32 ← k0_part33 i arg2 harg2 arg3 harg3 arg4 harg4 arg5 harg5 arg6 harg6 arg7 harg7 arg8 harg8 arg9 harg9 arg10 harg10 arg11 harg11 arg12 harg12 arg13 harg13 v1 v18 k0_hw2 k0_h4 v355 v357 v359 v361 v365
    let ⟨v427, v429, v431, v433⟩ : Σ' (v427 : FVec F S1024x128 .bf16) (v429 : FVec F S1024x128 .bf16) (v431 : FVec F S256x128 .bf16), FVec F S256x1024 .f32 ← k0_part34 i arg2 harg2 arg3 harg3 arg4 harg4 arg5 harg5 arg6 harg6 arg7 harg7 arg8 harg8 arg9 harg9 arg10 harg10 arg11 harg11 arg12 harg12 arg13 harg13 v1 v18 k0_hw2 k0_h4 v391 v393 v395 v397 v398 v399 cst_263
    let ⟨v463, v465, v467⟩ : Σ' (v463 : FVec F S1024x128 .bf16) (v465 : FVec F S1024x128 .bf16), FVec F S256x128 .bf16 ← k0_part35 i arg2 harg2 arg3 harg3 arg4 harg4 arg5 harg5 arg6 harg6 arg7 harg7 arg8 harg8 arg9 harg9 arg10 harg10 arg11 harg11 arg12 harg12 arg13 harg13 v1 v18 k0_hw2 k0_h4 v427 v429 v431 v433
    let ⟨v499, v501⟩ : Σ' (v499 : FVec F S1024x128 .bf16), FVec F S1024x128 .bf16 ← k0_part36 i arg2 harg2 arg3 harg3 arg4 harg4 arg5 harg5 arg6 harg6 arg7 harg7 arg8 harg8 arg9 harg9 arg10 harg10 arg11 harg11 arg12 harg12 arg13 harg13 v1 v18 k0_hw2 k0_h4 v463 v465 v467
    let v535 : FVec F S1024x128 .bf16 ← k0_part37 i arg2 harg2 arg3 harg3 arg4 harg4 arg5 harg5 arg6 harg6 arg7 harg7 arg8 harg8 arg9 harg9 arg10 harg10 arg11 harg11 arg12 harg12 arg13 harg13 v1 v18 k0_hw2 k0_h4 v499 v501
    k0_part38 i arg2 harg2 arg3 harg3 arg4 harg4 arg5 harg5 arg6 harg6 arg7 harg7 arg8 harg8 arg9 harg9 arg10 harg10 arg11 harg11 arg12 harg12 arg13 harg13 v1 v18 k0_hw2 k0_h4 v535
    let ⟨v598, v603⟩ : Σ' (v598 : BitVec 32), FVec F S1024x128 .f32 ← k0_part39 i arg2 harg2 arg3 harg3 arg4 harg4 arg5 harg5 arg6 harg6 arg7 harg7 arg8 harg8 arg9 harg9 arg10 harg10 arg11 harg11 arg12 harg12 arg13 harg13 v1 v18 k0_hw2 k0_h4
    let v605 : Vec F S1024x128 .f32 ← Prog.lift (.load arg8 (Rect.unit (s := S8192x512) (k0_off25 v1) S1024x128.size (k0_off25_inb v1 v18 k0_hw2 k0_h4)).toLoadRect (View.loadsAt_vmem h_S1024x128))
    Prog.lift (.store arg8 (Rect.unit (s := S8192x512) (k0_off25 v1) S1024x128.size (k0_off25_inb v1 v18 k0_hw2 k0_h4)) v603 Finset.univ (View.stores_vmem_bits_univ h_S1024x128 rfl) (.inl rfl))
    rest
  else rest

/-- At a column's last point its gradients and their sums are written. -/
def flush (v23 : Elt F .i32) (rest : Body F) : Body F :=
  if k0_h5 : k0_cond5 v23 = 1#1 then do
    let ⟨v36, v38, v39, v63, v65, v66, cst_28⟩ : Σ' (v36 : Vec F S1024x512 .f32) (v38 : IVec S1024x128 32) (v39 : IVec S1024x4 32) (v63 : FVec F S1024x4 .f32) (v65 : IVec S1024x128 1) (v66 : FVec F S1024x128 .f32), F .f32 ← k0_part40 i arg2 harg2 arg3 harg3 arg4 harg4 arg5 harg5 arg6 harg6 arg7 harg7 arg8 harg8 arg9 harg9 arg10 harg10 arg11 harg11 arg12 harg12 arg13 harg13
    let v88 : Vec F S1x1024x4 .f32 ← Prog.lift (.load arg11 (Rect.unit (s := S1x1024x4) ![0, 0, 0] S1x1024x4.size inb_S1x1024x4_S1x1024x4_0_0_0).toLoadRect (View.loadsAt_vmem h_S1x1024x4))
    Prog.lift (.store arg11 (Rect.unit (s := S1x1024x4) ![0, 0, 0] S1x1024x4.size inb_S1x1024x4_S1x1024x4_0_0_0) (k0_pay5 v36 v38 v39 v63 v65 v66 cst_28) Finset.univ (View.stores_vmem_bits_univ h_S1x1024x4 rfl) (.inl rfl))
    rest
  else rest

/-- At a head group's last point the query gradient's sums are written. -/
def finish (rest : Body F) : Body F :=
  if k0_h6 : k0_cond6 i = 1#1 then do
    let ⟨v34, v70, v72, v73⟩ : Σ' (v34 : IVec S8192x4 32) (v70 : FVec F S8192x4 .f32) (v72 : IVec S8192x128 1), FVec F S8192x128 .f32 ← k0_part41 i arg2 harg2 arg3 harg3 arg4 harg4 arg5 harg5 arg6 harg6 arg7 harg7 arg8 harg8 arg9 harg9 arg10 harg10 arg11 harg11 arg12 harg12 arg13 harg13
    let v83 : Vec F S1x8192x4 .f32 ← Prog.lift (.load arg10 (Rect.unit (s := S1x8192x4) ![0, 0, 0] S1x8192x4.size inb_S1x8192x4_S1x8192x4_0_0_0).toLoadRect (View.loadsAt_vmem h_S1x8192x4))
    Prog.lift (.store arg10 (Rect.unit (s := S1x8192x4) ![0, 0, 0] S1x8192x4.size inb_S1x8192x4_S1x8192x4_0_0_0) (k0_pay6 v34 v70 v72 v73) Finset.univ (View.stores_vmem_bits_univ h_S1x8192x4 rfl) (.inl rfl))
    rest
  else rest

/-- A column of each head of an accumulator, and of the query gradient. -/
def colSums (x : Vec F S1024x512 .f32) : Vec F S1x1024x4 .f32 :=
  k0_pay5 x (iota .tc S1024x128 32 [1] iota_S1024x128_d1_w32) (iota .tc S1024x4 32 [1] iota_S1024x4_d1_w32) (k0_pay282 x) k0_pay283 (k0_pay284 x) (Scalar.ofBits .f32 0x00000000#32)
def rowSums (x : Vec F S8192x512 .f32) : Vec F S1x8192x4 .f32 :=
  k0_pay6 (iota .tc S8192x4 32 [1] iota_S8192x4_d1_w32) (k0_pay286 x) k0_pay287 (k0_pay288 x)

/-- The body is its blocks. -/
theorem body_eq : cc0_fox_attn_bwd i arg2 harg2 arg3 harg3 arg4 harg4 arg5 harg5 arg6 harg6 arg7 harg7 arg8 harg8 arg9 harg9 arg10 harg10 arg11 harg11 arg12 harg12 arg13 harg13
    = (do
        let v1 : Elt F .i32 ← smemLoad arg2 (Rect.unit (s := S5x36) (k0_off1 i) S1x1.size (k0_off1_inb i)) numel1_S1x1 rfl
        let v3 : Elt F .i32 ← smemLoad arg2 (Rect.unit (s := S5x36) (k0_off2 i) S1x1.size (k0_off2_inb i)) numel1_S1x1 rfl
        zeroDq i arg8 (do
          let v8 : Elt F .i32 ← smemLoad arg2 (Rect.unit (s := S5x36) (k0_off3 i) S1x1.size (k0_off3_inb i)) numel1_S1x1 rfl
          zeroSc arg12 arg13 (Scalar.cmpi .ne (Scalar.extui (Scalar.cmpi .eq v8 1#32) : BitVec 32) 0#32) (do
            let v13 : Elt F .i32 ← smemLoad arg2 (Rect.unit (s := S5x36) (k0_off4 i) S1x1.size (k0_off4_inb i)) numel1_S1x1 rfl
            have k0_hw1 : k0_chk1 v1 v13 := (← Prog.lift (TpuEff.assume (k0_chk1 v1 v13) (k0_chk1.dec v1 v13))).down
            diagStep i arg2 harg2 arg3 harg3 arg4 harg4 arg5 harg5 arg6 harg6 arg7 harg7 arg8 harg8 arg9 harg9 arg10 harg10 arg11 harg11 arg12 harg12 arg13 harg13 v1 v3 v13 k0_hw1 (do
              let v18 : Elt F .i32 ← smemLoad arg2 (Rect.unit (s := S5x36) (k0_off21 i) S1x1.size (k0_off21_inb i)) numel1_S1x1 rfl
              have k0_hw2 : k0_chk2 v1 v18 := (← Prog.lift (TpuEff.assume (k0_chk2 v1 v18) (k0_chk2.dec v1 v18))).down
              fullStep i arg2 harg2 arg3 harg3 arg4 harg4 arg5 harg5 arg6 harg6 arg7 harg7 arg8 harg8 arg9 harg9 arg10 harg10 arg11 harg11 arg12 harg12 arg13 harg13 v1 v18 k0_hw2 (do
                let v23 : Elt F .i32 ← smemLoad arg2 (Rect.unit (s := S5x36) (k0_off26 i) S1x1.size (k0_off26_inb i)) numel1_S1x1 rfl
                flush i arg2 harg2 arg3 harg3 arg4 harg4 arg5 harg5 arg6 harg6 arg7 harg7 arg8 harg8 arg9 harg9 arg10 harg10 arg11 harg11 arg12 harg12 arg13 harg13 v23 (finish i arg2 harg2 arg3 harg3 arg4 harg4 arg5 harg5 arg6 harg6 arg7 harg7 arg8 harg8 arg9 harg9 arg10 harg10 arg11 harg11 arg12 harg12 arg13 harg13 (pure ⟨⟩))))))) := by
  rw [cc0_fox_attn_bwd_eq_skeleton]; rfl

/-! ## The blocks' rules -/

theorem zeroDq_wp (x8 : Vec F S8192x512 .f32) (rest : Body F) (K : PUnit → sProp 𝕄) :
    iprop(holds c arg8 x8 ∗ (holds c arg8 (if k0_cond1 i = 1#1 then k0_pay1 (F := F) else x8) -∗ wpB c rest K))
      ⊢ wpB c (zeroDq i arg8 rest) K := by
  unfold holds wpB zeroDq
  by_cases h : k0_cond1 i = 1#1
  · rw [dif_pos h, if_pos h]
    iintro ⟨H8, Hk⟩
    sl_exec
    iapply Hk
    iapply pointsTo_rep_of_read (c : Thread nD τ) arg8 _ fullShare k0_pay1 (View.read_writes_full _ _ _ _ _)
    iexact H8
  · rw [dif_neg h, if_neg h]
    iintro ⟨H8, Hk⟩
    iapply Hk
    iexact H8

theorem zeroSc_wp (v11 : BitVec 1) (x12 x13 : Vec F S1024x512 .f32) (rest : Body F) (K : PUnit → sProp 𝕄) :
    iprop(holds c arg12 x12 ∗ holds c arg13 x13
        ∗ (iprop(holds c arg12 (if v11 = 1#1 then k0_pay2 (F := F) else x12) ∗ holds c arg13 (if v11 = 1#1 then k0_pay3 (F := F) else x13)) -∗ wpB c rest K))
      ⊢ wpB c (zeroSc arg12 arg13 v11 rest) K := by
  unfold holds wpB zeroSc
  by_cases h : v11 = 1#1
  · rw [if_pos h, if_pos h, if_pos h]
    iintro ⟨H12, H13, Hk⟩
    sl_exec
    iapply Hk
    isplitl [H12]
    · iapply pointsTo_rep_of_read (c : Thread nD τ) arg12 _ fullShare k0_pay2 (View.read_writes_full _ _ _ _ _)
      iexact H12
    · iapply pointsTo_rep_of_read (c : Thread nD τ) arg13 _ fullShare k0_pay3 (View.read_writes_full _ _ _ _ _)
      iexact H13
  · rw [if_neg h, if_neg h, if_neg h]
    iintro ⟨H12, H13, Hk⟩
    iapply Hk
    isplitl [H12]
    · iexact H12
    · iexact H13

set_option maxHeartbeats 4000000 in
theorem flush_wp (v23 : Elt F .i32) (x7 x9 : Vec F S1024x512 .bf16) (x11 : Vec F S1x1024x4 .f32) (x12 x13 : Vec F S1024x512 .f32) (rest : Body F) (K : PUnit → sProp 𝕄) :
    iprop(holds c arg7 x7 ∗ holds c arg9 x9 ∗ holds c arg11 x11 ∗ holds c arg12 x12 ∗ holds c arg13 x13
        ∗ (iprop(holds c arg7 (if k0_cond5 v23 = 1#1 then k0_pay280 x12 else x7) ∗ holds c arg9 (if k0_cond5 v23 = 1#1 then k0_pay281 x13 else x9)
            ∗ holds c arg11 (if k0_cond5 v23 = 1#1 then colSums x12 else x11) ∗ holds c arg12 x12 ∗ holds c arg13 x13) -∗ wpB c rest K))
      ⊢ wpB c (flush i arg2 harg2 arg3 harg3 arg4 harg4 arg5 harg5 arg6 harg6 arg7 harg7 arg8 harg8 arg9 harg9 arg10 harg10 arg11 harg11 arg12 harg12 arg13 harg13 v23 rest) K := by
  unfold holds wpB flush
  by_cases h : k0_cond5 v23 = 1#1
  · rw [dif_pos h, if_pos h, if_pos h, if_pos h]
    iintro ⟨H7, H9, H11, H12, H13, Hk⟩
    sl_exec
    iapply Hk
    have e12 : arg12.view.readAt (Elt F) (Rect.unit (s := S1024x512) ![0, 0] S1024x512.size inb_S1024x512_S1024x512_0_0).toLoadRect (arg12.view.rep x12) = x12 := by rw [View.readAt_rep_full]
    have e13 : arg13.view.readAt (Elt F) (Rect.unit (s := S1024x512) ![0, 0] S1024x512.size inb_S1024x512_S1024x512_0_0).toLoadRect (arg13.view.rep x13) = x13 := by rw [View.readAt_rep_full]
    isplitl [H7]
    · iapply pointsTo_rep_of_read (c : Thread nD τ) arg7 _ fullShare _ ((View.read_writes_full _ _ _ _ _).trans (congrArg k0_pay280 e12))
      iexact H7
    isplitl [H9]
    · iapply pointsTo_rep_of_read (c : Thread nD τ) arg9 _ fullShare _ ((View.read_writes_full _ _ _ _ _).trans (congrArg k0_pay281 e13))
      iexact H9
    isplitl [H11]
    · iapply pointsTo_rep_of_read (c : Thread nD τ) arg11 _ fullShare _ ((View.read_writes_full _ _ _ _ _).trans (congrArg colSums e12))
      iexact H11
    isplitl [H12]
    · iexact H12
    · iexact H13
  · rw [dif_neg h, if_neg h, if_neg h, if_neg h]
    iintro ⟨H7, H9, H11, H12, H13, Hk⟩
    iapply Hk
    isplitl [H7]; · iexact H7
    isplitl [H9]; · iexact H9
    isplitl [H11]; · iexact H11
    isplitl [H12]; · iexact H12
    iexact H13

set_option maxHeartbeats 4000000 in
theorem finish_wp (x8 : Vec F S8192x512 .f32) (x10 : Vec F S1x8192x4 .f32) (rest : Body F) (K : PUnit → sProp 𝕄) :
    iprop(holds c arg8 x8 ∗ holds c arg10 x10 ∗ (iprop(holds c arg8 x8 ∗ holds c arg10 (if k0_cond6 i = 1#1 then rowSums x8 else x10)) -∗ wpB c rest K))
      ⊢ wpB c (finish i arg2 harg2 arg3 harg3 arg4 harg4 arg5 harg5 arg6 harg6 arg7 harg7 arg8 harg8 arg9 harg9 arg10 harg10 arg11 harg11 arg12 harg12 arg13 harg13 rest) K := by
  unfold holds wpB finish
  by_cases h : k0_cond6 i = 1#1
  · rw [dif_pos h, if_pos h]
    iintro ⟨H8, H10, Hk⟩
    sl_exec
    iapply Hk
    have e8 : arg8.view.readAt (Elt F) (Rect.unit (s := S8192x512) ![0, 0] S8192x512.size inb_S8192x512_S8192x512_0_0).toLoadRect (arg8.view.rep x8) = x8 := by rw [View.readAt_rep_full]
    isplitl [H8]
    · iexact H8
    · iapply pointsTo_rep_of_read (c : Thread nD τ) arg10 _ fullShare _ ((View.read_writes_full _ _ _ _ _).trans (congrArg rowSums e8))
      iexact H10
  · rw [dif_neg h, if_neg h]
    iintro ⟨H8, H10, Hk⟩
    iapply Hk
    isplitl [H8]; · iexact H8
    iexact H10

set_option maxHeartbeats 4000000 in
/-- At a pair on the diagonal: what the step's stores leave in the query gradient's block and in the two accumulators, and that the step runs. -/
def diagStepRun (v1 v3 v13 : Elt F .i32) (k0_hw1 : k0_chk1 v1 v13) (k0_h3 : k0_cond3 v13 = 1#1)
    (x3 x4 x5 x6 : Vec F S1024x512 .bf16) (x8 : Vec F S8192x512 .f32) (x12 x13 : Vec F S1024x512 .f32) :
    Σ' (L8 : List (View.Piece (Elt F) S8192x512 .f32)) (L12 : List (View.Piece (Elt F) S1024x512 .f32)), { L13 : List (View.Piece (Elt F) S1024x512 .f32) //
      ∀ (rest : Body F) (K : PUnit → sProp 𝕄),
        iprop(holds c arg3 x3 ∗ holds c arg4 x4 ∗ holds c arg5 x5 ∗ holds c arg6 x6 ∗ holds c arg8 x8 ∗ holds c arg12 x12 ∗ holds c arg13 x13
            ∗ (iprop(holds c arg3 x3 ∗ holds c arg4 x4 ∗ holds c arg5 x5 ∗ holds c arg6 x6 ∗ holds c arg8 (arg8.view.read (Elt F) (arg8.view.writes (Elt F) (arg8.view.rep x8) L8))
                ∗ holds c arg12 (arg12.view.read (Elt F) (arg12.view.writes (Elt F) (arg12.view.rep x12) L12))
                ∗ holds c arg13 (arg13.view.read (Elt F) (arg13.view.writes (Elt F) (arg13.view.rep x13) L13))) -∗ wpB c rest K))
          ⊢ wpB c (diagStep i arg2 harg2 arg3 harg3 arg4 harg4 arg5 harg5 arg6 harg6 arg7 harg7 arg8 harg8 arg9 harg9 arg10 harg10 arg11 harg11 arg12 harg12 arg13 harg13 v1 v3 v13 k0_hw1 rest) K } := by
  refine ⟨?_, ?_, ?_, fun rest K => ?run⟩
  case run =>
    unfold holds wpB diagStep
    rw [dif_pos k0_h3]
    iintro ⟨H3, H4, H5, H6, H8, H12, H13, Hk⟩
    sl_exec
    iapply Hk
    isplitl [H3]; · iexact H3
    isplitl [H4]; · iexact H4
    isplitl [H5]; · iexact H5
    isplitl [H6]; · iexact H6
    isplitl [H8]
    · iapply pointsTo_rep_of_read (c : Thread nD τ) arg8 (arg8.view.writes (Elt F) (arg8.view.rep x8) _) fullShare _ rfl
      iexact H8
    isplitl [H12]
    · iapply pointsTo_rep_of_read (c : Thread nD τ) arg12 (arg12.view.writes (Elt F) (arg12.view.rep x12) _) fullShare _ rfl
      iexact H12
    · iapply pointsTo_rep_of_read (c : Thread nD τ) arg13 (arg13.view.writes (Elt F) (arg13.view.rep x13) _) fullShare _ rfl
      iexact H13

set_option maxHeartbeats 4000000 in
/-- At a pair below the diagonal: what the step's stores leave in the query gradient's block and in the two accumulators, and that the step runs. -/
def fullStepRun (v1 v18 : Elt F .i32) (k0_hw2 : k0_chk2 v1 v18) (k0_h4 : k0_cond4 v18 = 1#1)
    (x3 x4 x5 x6 : Vec F S1024x512 .bf16) (x8 : Vec F S8192x512 .f32) (x12 x13 : Vec F S1024x512 .f32) :
    Σ' (L8 : List (View.Piece (Elt F) S8192x512 .f32)) (L12 : List (View.Piece (Elt F) S1024x512 .f32)), { L13 : List (View.Piece (Elt F) S1024x512 .f32) //
      ∀ (rest : Body F) (K : PUnit → sProp 𝕄),
        iprop(holds c arg3 x3 ∗ holds c arg4 x4 ∗ holds c arg5 x5 ∗ holds c arg6 x6 ∗ holds c arg8 x8 ∗ holds c arg12 x12 ∗ holds c arg13 x13
            ∗ (iprop(holds c arg3 x3 ∗ holds c arg4 x4 ∗ holds c arg5 x5 ∗ holds c arg6 x6 ∗ holds c arg8 (arg8.view.read (Elt F) (arg8.view.writes (Elt F) (arg8.view.rep x8) L8))
                ∗ holds c arg12 (arg12.view.read (Elt F) (arg12.view.writes (Elt F) (arg12.view.rep x12) L12))
                ∗ holds c arg13 (arg13.view.read (Elt F) (arg13.view.writes (Elt F) (arg13.view.rep x13) L13))) -∗ wpB c rest K))
          ⊢ wpB c (fullStep i arg2 harg2 arg3 harg3 arg4 harg4 arg5 harg5 arg6 harg6 arg7 harg7 arg8 harg8 arg9 harg9 arg10 harg10 arg11 harg11 arg12 harg12 arg13 harg13 v1 v18 k0_hw2 rest) K } := by
  refine ⟨?_, ?_, ?_, fun rest K => ?run⟩
  case run =>
    unfold holds wpB fullStep
    rw [dif_pos k0_h4]
    iintro ⟨H3, H4, H5, H6, H8, H12, H13, Hk⟩
    sl_exec
    iapply Hk
    isplitl [H3]; · iexact H3
    isplitl [H4]; · iexact H4
    isplitl [H5]; · iexact H5
    isplitl [H6]; · iexact H6
    isplitl [H8]
    · iapply pointsTo_rep_of_read (c : Thread nD τ) arg8 (arg8.view.writes (Elt F) (arg8.view.rep x8) _) fullShare _ rfl
      iexact H8
    isplitl [H12]
    · iapply pointsTo_rep_of_read (c : Thread nD τ) arg12 (arg12.view.writes (Elt F) (arg12.view.rep x12) _) fullShare _ rfl
      iexact H12
    · iapply pointsTo_rep_of_read (c : Thread nD τ) arg13 (arg13.view.writes (Elt F) (arg13.view.rep x13) _) fullShare _ rfl
      iexact H13

end Fox

end
-- ==== Proof.FoxBody.lean ====
/- The forget-gate attention's backward kernel's body as one rule: what the query gradient's block, the two accumulators and the
   column's gradients hold after a point, as functions of what they held before it and of the point's blocks. -/
module

public import proofs.«01_k».proof.Proof.FoxBlocks

@[expose] public section

set_option maxRecDepth 16384

noncomputable section

namespace Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)
variable (T : Vec F S5x36 .i32) (x3 x4 x5 x6 : Vec F S1024x512 .bf16) (x8 : Vec F S8192x512 .f32) (x7 x9 : Vec F S1024x512 .bf16) (x10 : Vec F S1x8192x4 .f32) (x11 : Vec F S1x1024x4 .f32) (x12 x13 : Vec F S1024x512 .f32)

/-- The query gradient's block and the two accumulators. -/
abbrev State (F : FTy → Type) := Vec F S8192x512 .f32 × Vec F S1024x512 .f32 × Vec F S1024x512 .f32

/-- The table's word at a place. -/
abbrev word (off : Fin 2 → ℕ) (inb : ∀ a, off a + S1x1.size a ≤ S5x36.size a) : Elt F .i32 :=
  View.readAt (Elt F) arg2.view (Rect.unit (s := S5x36) off S1x1.size inb).toLoadRect (arg2.view.rep T) (Shape.Idx.first (numel1_S1x1.symm ▸ Nat.one_pos))

/-- The row block, the column block, whether the column begins, whether the pair is on the diagonal (twice) and whether the column ends. -/
abbrev word1 := word arg2 T (k0_off1 i) (k0_off1_inb i)
abbrev word2 := word arg2 T (k0_off2 i) (k0_off2_inb i)
abbrev word3 := word arg2 T (k0_off3 i) (k0_off3_inb i)
abbrev word4 := word arg2 T (k0_off4 i) (k0_off4_inb i)
abbrev word5 := word arg2 T (k0_off21 i) (k0_off21_inb i)
abbrev word6 := word arg2 T (k0_off26 i) (k0_off26_inb i)

/-- After the two clearings. -/
def cleared : State F :=
  (if k0_cond1 i = 1#1 then k0_pay1 (F := F) else x8,
   if Scalar.cmpi .ne (Scalar.extui (Scalar.cmpi .eq (word3 i arg2 T) 1#32) : BitVec 32) 0#32 = 1#1 then k0_pay2 (F := F) else x12,
   if Scalar.cmpi .ne (Scalar.extui (Scalar.cmpi .eq (word3 i arg2 T) 1#32) : BitVec 32) 0#32 = 1#1 then k0_pay3 (F := F) else x13)

/-- After the step on the diagonal, if its condition holds. -/
def diagStepRes (s : State F) (v1 v3 v13 : Elt F .i32) (k0_hw1 : k0_chk1 v1 v13) : State F :=
  if h : k0_cond3 v13 = 1#1 then
    (arg8.view.read (Elt F) (arg8.view.writes (Elt F) (arg8.view.rep s.1) (diagStepRun c i arg2 harg2 arg3 harg3 arg4 harg4 arg5 harg5 arg6 harg6 arg7 harg7 arg8 harg8 arg9 harg9 arg10 harg10 arg11 harg11 arg12 harg12 arg13 harg13 v1 v3 v13 k0_hw1 h x3 x4 x5 x6 s.1 s.2.1 s.2.2).1),
     arg12.view.read (Elt F) (arg12.view.writes (Elt F) (arg12.view.rep s.2.1) (diagStepRun c i arg2 harg2 arg3 harg3 arg4 harg4 arg5 harg5 arg6 harg6 arg7 harg7 arg8 harg8 arg9 harg9 arg10 harg10 arg11 harg11 arg12 harg12 arg13 harg13 v1 v3 v13 k0_hw1 h x3 x4 x5 x6 s.1 s.2.1 s.2.2).2.1),
     arg13.view.read (Elt F) (arg13.view.writes (Elt F) (arg13.view.rep s.2.2) (diagStepRun c i arg2 harg2 arg3 harg3 arg4 harg4 arg5 harg5 arg6 harg6 arg7 harg7 arg8 harg8 arg9 harg9 arg10 harg10 arg11 harg11 arg12 harg12 arg13 harg13 v1 v3 v13 k0_hw1 h x3 x4 x5 x6 s.1 s.2.1 s.2.2).2.2.1))
  else s

theorem diagStep_wp (s : State F) (v1 v3 v13 : Elt F .i32) (k0_hw1 : k0_chk1 v1 v13) (rest : Body F) (K : PUnit → sProp 𝕄) :
    iprop(holds c arg3 x3 ∗ holds c arg4 x4 ∗ holds c arg5 x5 ∗ holds c arg6 x6 ∗ holds c arg8 s.1 ∗ holds c arg12 s.2.1 ∗ holds c arg13 s.2.2
        ∗ (iprop(holds c arg3 x3 ∗ holds c arg4 x4 ∗ holds c arg5 x5 ∗ holds c arg6 x6 ∗ holds c arg8 (diagStepRes c i arg2 harg2 arg3 harg3 arg4 harg4 arg5 harg5 arg6 harg6 arg7 harg7 arg8 harg8 arg9 harg9 arg10 harg10 arg11 harg11 arg12 harg12 arg13 harg13 x3 x4 x5 x6 s v1 v3 v13 k0_hw1).1
            ∗ holds c arg12 (diagStepRes c i arg2 harg2 arg3 harg3 arg4 harg4 arg5 harg5 arg6 harg6 arg7 harg7 arg8 harg8 arg9 harg9 arg10 harg10 arg11 harg11 arg12 harg12 arg13 harg13 x3 x4 x5 x6 s v1 v3 v13 k0_hw1).2.1
            ∗ holds c arg13 (diagStepRes c i arg2 harg2 arg3 harg3 arg4 harg4 arg5 harg5 arg6 harg6 arg7 harg7 arg8 harg8 arg9 harg9 arg10 harg10 arg11 harg11 arg12 harg12 arg13 harg13 x3 x4 x5 x6 s v1 v3 v13 k0_hw1).2.2) -∗ wpB c rest K))
      ⊢ wpB c (diagStep i arg2 harg2 arg3 harg3 arg4 harg4 arg5 harg5 arg6 harg6 arg7 harg7 arg8 harg8 arg9 harg9 arg10 harg10 arg11 harg11 arg12 harg12 arg13 harg13 v1 v3 v13 k0_hw1 rest) K := by
  unfold diagStepRes
  by_cases h : k0_cond3 v13 = 1#1
  · simp only [dif_pos h]
    exact (diagStepRun c i arg2 harg2 arg3 harg3 arg4 harg4 arg5 harg5 arg6 harg6 arg7 harg7 arg8 harg8 arg9 harg9 arg10 harg10 arg11 harg11 arg12 harg12 arg13 harg13 v1 v3 v13 k0_hw1 h x3 x4 x5 x6 s.1 s.2.1 s.2.2).2.2.2 rest K
  · simp only [dif_neg h]
    unfold diagStep; rw [dif_neg h]
    iintro ⟨H3, H4, H5, H6, H8, H12, H13, Hk⟩
    iapply Hk
    isplitl [H3]; · iexact H3
    isplitl [H4]; · iexact H4
    isplitl [H5]; · iexact H5
    isplitl [H6]; · iexact H6
    isplitl [H8]; · iexact H8
    isplitl [H12]; · iexact H12
    iexact H13

/-- After the step below the diagonal, if its condition holds. -/
def fullStepRes (s : State F) (v1 v18 : Elt F .i32) (k0_hw2 : k0_chk2 v1 v18) : State F :=
  if h : k0_cond4 v18 = 1#1 then
    (arg8.view.read (Elt F) (arg8.view.writes (Elt F) (arg8.view.rep s.1) (fullStepRun c i arg2 harg2 arg3 harg3 arg4 harg4 arg5 harg5 arg6 harg6 arg7 harg7 arg8 harg8 arg9 harg9 arg10 harg10 arg11 harg11 arg12 harg12 arg13 harg13 v1 v18 k0_hw2 h x3 x4 x5 x6 s.1 s.2.1 s.2.2).1),
     arg12.view.read (Elt F) (arg12.view.writes (Elt F) (arg12.view.rep s.2.1) (fullStepRun c i arg2 harg2 arg3 harg3 arg4 harg4 arg5 harg5 arg6 harg6 arg7 harg7 arg8 harg8 arg9 harg9 arg10 harg10 arg11 harg11 arg12 harg12 arg13 harg13 v1 v18 k0_hw2 h x3 x4 x5 x6 s.1 s.2.1 s.2.2).2.1),
     arg13.view.read (Elt F) (arg13.view.writes (Elt F) (arg13.view.rep s.2.2) (fullStepRun c i arg2 harg2 arg3 harg3 arg4 harg4 arg5 harg5 arg6 harg6 arg7 harg7 arg8 harg8 arg9 harg9 arg10 harg10 arg11 harg11 arg12 harg12 arg13 harg13 v1 v18 k0_hw2 h x3 x4 x5 x6 s.1 s.2.1 s.2.2).2.2.1))
  else s

theorem fullStep_wp (s : State F) (v1 v18 : Elt F .i32) (k0_hw2 : k0_chk2 v1 v18) (rest : Body F) (K : PUnit → sProp 𝕄) :
    iprop(holds c arg3 x3 ∗ holds c arg4 x4 ∗ holds c arg5 x5 ∗ holds c arg6 x6 ∗ holds c arg8 s.1 ∗ holds c arg12 s.2.1 ∗ holds c arg13 s.2.2
        ∗ (iprop(holds c arg3 x3 ∗ holds c arg4 x4 ∗ holds c arg5 x5 ∗ holds c arg6 x6 ∗ holds c arg8 (fullStepRes c i arg2 harg2 arg3 harg3 arg4 harg4 arg5 harg5 arg6 harg6 arg7 harg7 arg8 harg8 arg9 harg9 arg10 harg10 arg11 harg11 arg12 harg12 arg13 harg13 x3 x4 x5 x6 s v1 v18 k0_hw2).1
            ∗ holds c arg12 (fullStepRes c i arg2 harg2 arg3 harg3 arg4 harg4 arg5 harg5 arg6 harg6 arg7 harg7 arg8 harg8 arg9 harg9 arg10 harg10 arg11 harg11 arg12 harg12 arg13 harg13 x3 x4 x5 x6 s v1 v18 k0_hw2).2.1
            ∗ holds c arg13 (fullStepRes c i arg2 harg2 arg3 harg3 arg4 harg4 arg5 harg5 arg6 harg6 arg7 harg7 arg8 harg8 arg9 harg9 arg10 harg10 arg11 harg11 arg12 harg12 arg13 harg13 x3 x4 x5 x6 s v1 v18 k0_hw2).2.2) -∗ wpB c rest K))
      ⊢ wpB c (fullStep i arg2 harg2 arg3 harg3 arg4 harg4 arg5 harg5 arg6 harg6 arg7 harg7 arg8 harg8 arg9 harg9 arg10 harg10 arg11 harg11 arg12 harg12 arg13 harg13 v1 v18 k0_hw2 rest) K := by
  unfold fullStepRes
  by_cases h : k0_cond4 v18 = 1#1
  · simp only [dif_pos h]
    exact (fullStepRun c i arg2 harg2 arg3 harg3 arg4 harg4 arg5 harg5 arg6 harg6 arg7 harg7 arg8 harg8 arg9 harg9 arg10 harg10 arg11 harg11 arg12 harg12 arg13 harg13 v1 v18 k0_hw2 h x3 x4 x5 x6 s.1 s.2.1 s.2.2).2.2.2 rest K
  · simp only [dif_neg h]
    unfold fullStep; rw [dif_neg h]
    iintro ⟨H3, H4, H5, H6, H8, H12, H13, Hk⟩
    iapply Hk
    isplitl [H3]; · iexact H3
    isplitl [H4]; · iexact H4
    isplitl [H5]; · iexact H5
    isplitl [H6]; · iexact H6
    isplitl [H8]; · iexact H8
    isplitl [H12]; · iexact H12
    iexact H13

variable (hw1 : k0_chk1 (word1 i arg2 T) (word4 i arg2 T)) (hw2 : k0_chk2 (word1 i arg2 T) (word5 i arg2 T))

/-- After the body. -/
def bodyRes : State F :=
  fullStepRes c i arg2 harg2 arg3 harg3 arg4 harg4 arg5 harg5 arg6 harg6 arg7 harg7 arg8 harg8 arg9 harg9 arg10 harg10 arg11 harg11 arg12 harg12 arg13 harg13 x3 x4 x5 x6 (diagStepRes c i arg2 harg2 arg3 harg3 arg4 harg4 arg5 harg5 arg6 harg6 arg7 harg7 arg8 harg8 arg9 harg9 arg10 harg10 arg11 harg11 arg12 harg12 arg13 harg13 x3 x4 x5 x6 (cleared i arg2 T x8 x12 x13) (word1 i arg2 T) (word2 i arg2 T) (word4 i arg2 T) hw1)
    (word1 i arg2 T) (word5 i arg2 T) hw2

/-- The column's gradients after the body, given the accumulators. -/
def keyOut (s : State F) : Vec F S1024x512 .bf16 := if k0_cond5 (word6 i arg2 T) = 1#1 then k0_pay280 s.2.1 else x7
def valOut (s : State F) : Vec F S1024x512 .bf16 := if k0_cond5 (word6 i arg2 T) = 1#1 then k0_pay281 s.2.2 else x9
/-- The sums of the scores' gradient, over a column's queries and over each query's keys. -/
def colOut (s : State F) : Vec F S1x1024x4 .f32 := if k0_cond5 (word6 i arg2 T) = 1#1 then colSums s.2.1 else x11
def rowOut (s : State F) : Vec F S1x8192x4 .f32 := if k0_cond6 i = 1#1 then rowSums s.1 else x10

theorem load_wp (q : PosShare TreeShare) (off : Fin 2 → ℕ) (inb : ∀ a, off a + S1x1.size a ≤ S5x36.size a) (k : Elt F .i32 → Body F) (K : PUnit → sProp 𝕄) :
    iprop((arg2.view.loc (c : Thread nD τ) ↦[arg2.view.set]{q} arg2.view.rep T)
        ∗ (iprop(arg2.view.loc (c : Thread nD τ) ↦[arg2.view.set]{q} arg2.view.rep T) -∗ wpB c (k (word arg2 T off inb)) K))
      ⊢ wpB c (do let v ← smemLoad arg2 (Rect.unit off S1x1.size inb) numel1_S1x1 rfl; k v) K := by
  unfold wpB
  iintro ⟨HT, Hk⟩
  sl_exec
  iapply Hk
  iexact HT

theorem assume_wp (P : Prop) (d : Decidable P) (h : P) (k : PLift P → Body F) (K : PUnit → sProp 𝕄) :
    wpB c (k ⟨h⟩) K ⊢ wpB c (do let w ← Prog.lift (TpuEff.assume P d); k w) K := by
  unfold wpB
  iintro H
  sl_exec (disch := exact h)
  iexact H

attribute [local irreducible] zeroDq zeroSc diagStep fullStep flush finish in
set_option maxHeartbeats 2000000 in
theorem body_wp (q : PosShare TreeShare) (K : PUnit → sProp 𝕄) :
    iprop((arg2.view.loc (c : Thread nD τ) ↦[arg2.view.set]{q} arg2.view.rep T) ∗ holds c arg3 x3 ∗ holds c arg4 x4 ∗ holds c arg5 x5 ∗ holds c arg6 x6
        ∗ holds c arg8 x8 ∗ holds c arg7 x7 ∗ holds c arg9 x9 ∗ holds c arg10 x10 ∗ holds c arg11 x11 ∗ holds c arg12 x12 ∗ holds c arg13 x13
        ∗ (iprop((arg2.view.loc (c : Thread nD τ) ↦[arg2.view.set]{q} arg2.view.rep T) ∗ holds c arg3 x3 ∗ holds c arg4 x4 ∗ holds c arg5 x5 ∗ holds c arg6 x6
            ∗ holds c arg8 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2).1
            ∗ holds c arg7 (keyOut i arg2 T x7 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2))
            ∗ holds c arg9 (valOut i arg2 T x9 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2))
            ∗ holds c arg10 (rowOut i x10 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2))
            ∗ holds c arg11 (colOut i arg2 T x11 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2))
            ∗ holds c arg12 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2).2.1
            ∗ holds c arg13 (bodyRes c i arg2 harg2 arg3 harg3 arg4 harg4 arg5 harg5 arg6 harg6 arg7 harg7 arg8 harg8 arg9 harg9 arg10 harg10 arg11 harg11 arg12 harg12 arg13 harg13 T x3 x4 x5 x6 x8 x12 x13 hw1 hw2).2.2) -∗ K ⟨⟩))
      ⊢ wpB c (cc0_fox_attn_bwd i arg2 harg2 arg3 harg3 arg4 harg4 arg5 harg5 arg6 harg6 arg7 harg7 arg8 harg8 arg9 harg9 arg10 harg10 arg11 harg11 arg12 harg12 arg13 harg13) K := by
  rw [body_eq]
  iintro ⟨HT, H3, H4, H5, H6, H8, H7, H9, H10, H11, H12, H13, Hk⟩
  iapply load_wp
  isplitl [HT]; · iexact HT
  iintro HT
  iapply load_wp
  isplitl [HT]; · iexact HT
  iintro HT
  iapply zeroDq_wp c i arg8 x8
  isplitl [H8]; · iexact H8
  iintro H8
  iapply load_wp
  isplitl [HT]; · iexact HT
  iintro HT
  iapply zeroSc_wp c arg12 arg13 _ x12 x13
  isplitl [H12]; · iexact H12
  isplitl [H13]; · iexact H13
  iintro ⟨H12, H13⟩
  iapply load_wp
  isplitl [HT]; · iexact HT
  iintro HT
  iapply assume_wp c _ _ hw1
  iapply diagStep_wp c i arg2 harg2 arg3 harg3 arg4 harg4 arg5 harg5 arg6 harg6 arg7 harg7 arg8 harg8 arg9 harg9 arg10 harg10 arg11 harg11 arg12 harg12 arg13 harg13 x3 x4 x5 x6 (cleared i arg2 T x8 x12 x13)
  isplitl [H3]; · iexact H3
  isplitl [H4]; · iexact H4
  isplitl [H5]; · iexact H5
  isplitl [H6]; · iexact H6
  isplitl [H8]; · iexact H8
  isplitl [H12]; · iexact H12
  isplitl [H13]; · iexact H13
  iintro ⟨H3, H4, H5, H6, H8, H12, H13⟩
  iapply load_wp
  isplitl [HT]; · iexact HT
  iintro HT
  iapply assume_wp c _ _ hw2
  iapply fullStep_wp c i arg2 harg2 arg3 harg3 arg4 harg4 arg5 harg5 arg6 harg6 arg7 harg7 arg8 harg8 arg9 harg9 arg10 harg10 arg11 harg11 arg12 harg12 arg13 harg13 x3 x4 x5 x6 (diagStepRes c i arg2 harg2 arg3 harg3 arg4 harg4 arg5 harg5 arg6 harg6 arg7 harg7 arg8 harg8 arg9 harg9 arg10 harg10 arg11 harg11 arg12 harg12 arg13 harg13 x3 x4 x5 x6 (cleared i arg2 T x8 x12 x13) (word1 i arg2 T) (word2 i arg2 T) (word4 i arg2 T) hw1)
  isplitl [H3]; · iexact H3
  isplitl [H4]; · iexact H4
  isplitl [H5]; · iexact H5
  isplitl [H6]; · iexact H6
  isplitl [H8]; · iexact H8
  isplitl [H12]; · iexact H12
  isplitl [H13]; · iexact H13
  iintro ⟨H3, H4, H5, H6, H8, H12, H13⟩
  iapply load_wp
  isplitl [HT]; · iexact HT
  iintro HT
  iapply flush_wp c i arg2 harg2 arg3 harg3 arg4 harg4 arg5 harg5 arg6 harg6 arg7 harg7 arg8 harg8 arg9 harg9 arg10 harg10 arg11 harg11 arg12 harg12 arg13 harg13 _ x7 x9 x11
  isplitl [H7]; · iexact H7
  isplitl [H9]; · iexact H9
  isplitl [H11]; · iexact H11
  isplitl [H12]; · iexact H12
  isplitl [H13]; · iexact H13
  iintro ⟨H7, H9, H11, H12, H13⟩
  iapply finish_wp c i arg2 harg2 arg3 harg3 arg4 harg4 arg5 harg5 arg6 harg6 arg7 harg7 arg8 harg8 arg9 harg9 arg10 harg10 arg11 harg11 arg12 harg12 arg13 harg13 _ x10
  isplitl [H8]; · iexact H8
  isplitl [H10]; · iexact H10
  iintro ⟨H8, H10⟩
  unfold wpB
  sl_step
  iapply Hk
  isplitl [HT]; · iexact HT
  isplitl [H3]; · iexact H3
  isplitl [H4]; · iexact H4
  isplitl [H5]; · iexact H5
  isplitl [H6]; · iexact H6
  isplitl [H8]; · iexact H8
  isplitl [H7]; · iexact H7
  isplitl [H9]; · iexact H9
  isplitl [H10]; · iexact H10
  isplitl [H11]; · iexact H11
  isplitl [H12]; · iexact H12
  iexact H13

end Fox

end
-- ==== Proof.FoxFull.lean ====
/- What the forget-gate attention's backward kernel's step leaves below the diagonal, at an index. -/
module

public import proofs.«01_k».proof.Proof.FoxBody
public import proofs.«01_k».proof.Proof.Tiles

@[expose] public section

set_option maxRecDepth 16384

noncomputable section

namespace Fox

open Cert.FoxBwdIdeal Cert.FoxBwdIdeal.Gen Cert.Tiles
open Idealize.ShloMosaic Idealize.ShloMosaic.TcCoe Idealize.ShloMosaic.Tactic
open Idealize.SL

/-! ## The step's tiles, by sub-tile of keys and head -/

theorem inb_rows (h : Fin 4) : ∀ a : Fin 2, (![0, h.val * 128] : Fin 2 → ℕ) a + S1024x128.size a ≤ S1024x512.size a := by
  revert h; decide
theorem inb_tile (r : Fin 4) (h : Fin 4) : ∀ a : Fin 2, (![r.val * 256, h.val * 128] : Fin 2 → ℕ) a + S256x128.size a ≤ S1024x512.size a := by
  revert r h; decide

variable {F : FTy → Type} [FloatOps F] [Named F]

section Pieces
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)
variable (x3 x4 x5 x6 : Vec F S1024x512 .bf16) (x8 : Vec F S8192x512 .f32) (x12 x13 : Vec F S1024x512 .f32)

/-- A head's columns of a block, a tile of it, and a tile of an accumulator. -/
abbrev rowsOf (arg : Memref sig .tc .vmem S1024x512 .bf16) (x : Vec F S1024x512 .bf16) (h : Fin 4) : Vec F S1024x128 .bf16 :=
  View.readAt (Elt F) arg.view (Rect.unit (s := S1024x512) ![0, h.val * 128] S1024x128.size (inb_rows h)).toLoadRect (arg.view.rep x)
abbrev tileOf (arg : Memref sig .tc .vmem S1024x512 .bf16) (x : Vec F S1024x512 .bf16) (r : Fin 4) (h : Fin 4) : Vec F S256x128 .bf16 :=
  View.readAt (Elt F) arg.view (Rect.unit (s := S1024x512) ![r.val * 256, h.val * 128] S256x128.size (inb_tile r h)).toLoadRect (arg.view.rep x)
abbrev accOf (arg : Memref sig .tc .vmem S1024x512 .f32) (x : Vec F S1024x512 .f32) (r : Fin 4) (h : Fin 4) : Vec F S256x128 .f32 :=
  View.readAt (Elt F) arg.view (Rect.unit (s := S1024x512) ![r.val * 256, h.val * 128] S256x128.size (inb_tile r h)).toLoadRect (arg.view.rep x)

/-- The sub-tiles, the last one first. -/
abbrev order : List (Fin 4 × Fin 4) :=
  [(3, 3), (2, 3), (1, 3), (0, 3), (3, 2), (2, 2), (1, 2), (0, 2), (3, 1), (2, 1), (1, 1), (0, 1), (3, 0), (2, 0), (1, 0), (0, 0)]

abbrev tilePiece (r : Fin 4) (h : Fin 4) (w : FVec F S256x128 .f32) : View.Piece (Elt F) S1024x512 .f32 :=
  ⟨Rect.unit (s := S1024x512) ![r.val * 256, h.val * 128] S256x128.size (inb_tile r h), w⟩

def fullVal : List (View.Piece (Elt F) S1024x512 .f32) := order.map fun p =>
  tilePiece p.1 p.2 (k0_pay152 (rowsOf arg3 x3 p.2) (rowsOf arg6 x6 p.2) (tileOf arg4 x4 p.1 p.2) (accOf arg13 x13 p.1 p.2))

def fullKey : List (View.Piece (Elt F) S1024x512 .f32) := order.map fun p =>
  tilePiece p.1 p.2 (k0_pay154 (rowsOf arg3 x3 p.2) (rowsOf arg6 x6 p.2) (tileOf arg4 x4 p.1 p.2) (tileOf arg5 x5 p.1 p.2) (accOf arg12 x12 p.1 p.2))

/-- The row a step's block starts at, as a word's value. -/
abbrev rowOf (v1 : Elt F .i32) (o : BitVec 32) : ℕ := (Scalar.indexCast (Scalar.addi (Scalar.muli (v1 : BitVec 32) 1024#32) o) : Index).toNat

theorem full_inb (v1 v18 : Elt F .i32) (hw : k0_chk2 v1 v18) (h4 : k0_cond4 v18 = 1#1) (h : Fin 4) :
    ∀ a : Fin 2, (![rowOf v1 0#32, h.val * 128] : Fin 2 → ℕ) a + S1024x128.size a ≤ S8192x512.size a := fun a =>
  match h with
  | 0 => k0_off22_inb v1 v18 hw h4 a
  | 1 => k0_off23_inb v1 v18 hw h4 a
  | 2 => k0_off24_inb v1 v18 hw h4 a
  | 3 => k0_off25_inb v1 v18 hw h4 a

variable (v1 v18 : Elt F .i32) (hw : k0_chk2 v1 v18) (h4 : k0_cond4 v18 = 1#1)

/-- Sub-tile `p` added to the query gradient's rows. -/
def fullAdd (p : Fin 4 × Fin 4) (L : List (View.Piece (Elt F) S8192x512 .f32)) : List (View.Piece (Elt F) S8192x512 .f32) :=
  ⟨Rect.unit (s := S8192x512) ![rowOf v1 0#32, p.2.val * 128] S1024x128.size (full_inb v1 v18 hw h4 p.2),
    (k0_pay155 (rowsOf arg3 x3 p.2) (rowsOf arg6 x6 p.2) (tileOf arg4 x4 p.1 p.2) (tileOf arg5 x5 p.1 p.2)
      (View.readAt (Elt F) arg8.view (Rect.unit (s := S8192x512) ![rowOf v1 0#32, p.2.val * 128] S1024x128.size (full_inb v1 v18 hw h4 p.2)).toLoadRect
        (arg8.view.writes (Elt F) (arg8.view.rep x8) L)) : FVec F S1024x128 .f32)⟩ :: L

theorem full_val : (fullStepRun c i arg2 harg2 arg3 harg3 arg4 harg4 arg5 harg5 arg6 harg6 arg7 harg7 arg8 harg8 arg9 harg9 arg10 harg10 arg11 harg11 arg12 harg12 arg13 harg13 v1 v18 hw h4 x3 x4 x5 x6 x8 x12 x13).2.2.1
    = fullVal arg3 arg4 arg6 arg13 x3 x4 x6 x13 := rfl

theorem full_key : (fullStepRun c i arg2 harg2 arg3 harg3 arg4 harg4 arg5 harg5 arg6 harg6 arg7 harg7 arg8 harg8 arg9 harg9 arg10 harg10 arg11 harg11 arg12 harg12 arg13 harg13 v1 v18 hw h4 x3 x4 x5 x6 x8 x12 x13).2.1
    = fullKey arg3 arg4 arg5 arg6 arg12 x3 x4 x5 x6 x12 := rfl

theorem full_query : (fullStepRun c i arg2 harg2 arg3 harg3 arg4 harg4 arg5 harg5 arg6 harg6 arg7 harg7 arg8 harg8 arg9 harg9 arg10 harg10 arg11 harg11 arg12 harg12 arg13 harg13 v1 v18 hw h4 x3 x4 x5 x6 x8 x12 x13).1
    = order.foldr (fullAdd arg3 arg4 arg5 arg6 arg8 x3 x4 x5 x6 x8 v1 v18 hw h4) [] := by
  show fullAdd arg3 arg4 arg5 arg6 arg8 x3 x4 x5 x6 x8 v1 v18 hw h4 (3, 3) (fullStepRun.sl.H8_15 arg3 arg4 arg5 arg6 arg8 v1 v18 hw h4 x3 x4 x5 x6 x8) = _
  refine congrArg _ ?_
  show fullAdd arg3 arg4 arg5 arg6 arg8 x3 x4 x5 x6 x8 v1 v18 hw h4 (2, 3) (fullStepRun.sl.H8_14 arg3 arg4 arg5 arg6 arg8 v1 v18 hw h4 x3 x4 x5 x6 x8) = _
  refine congrArg _ ?_
  show fullAdd arg3 arg4 arg5 arg6 arg8 x3 x4 x5 x6 x8 v1 v18 hw h4 (1, 3) (fullStepRun.sl.H8_13 arg3 arg4 arg5 arg6 arg8 v1 v18 hw h4 x3 x4 x5 x6 x8) = _
  refine congrArg _ ?_
  show fullAdd arg3 arg4 arg5 arg6 arg8 x3 x4 x5 x6 x8 v1 v18 hw h4 (0, 3) (fullStepRun.sl.H8_12 arg3 arg4 arg5 arg6 arg8 v1 v18 hw h4 x3 x4 x5 x6 x8) = _
  refine congrArg _ ?_
  show fullAdd arg3 arg4 arg5 arg6 arg8 x3 x4 x5 x6 x8 v1 v18 hw h4 (3, 2) (fullStepRun.sl.H8_11 arg3 arg4 arg5 arg6 arg8 v1 v18 hw h4 x3 x4 x5 x6 x8) = _
  refine congrArg _ ?_
  show fullAdd arg3 arg4 arg5 arg6 arg8 x3 x4 x5 x6 x8 v1 v18 hw h4 (2, 2) (fullStepRun.sl.H8_10 arg3 arg4 arg5 arg6 arg8 v1 v18 hw h4 x3 x4 x5 x6 x8) = _
  refine congrArg _ ?_
  show fullAdd arg3 arg4 arg5 arg6 arg8 x3 x4 x5 x6 x8 v1 v18 hw h4 (1, 2) (fullStepRun.sl.H8_9 arg3 arg4 arg5 arg6 arg8 v1 v18 hw h4 x3 x4 x5 x6 x8) = _
  refine congrArg _ ?_
  show fullAdd arg3 arg4 arg5 arg6 arg8 x3 x4 x5 x6 x8 v1 v18 hw h4 (0, 2) (fullStepRun.sl.H8_8 arg3 arg4 arg5 arg6 arg8 v1 v18 hw h4 x3 x4 x5 x6 x8) = _
  refine congrArg _ ?_
  show fullAdd arg3 arg4 arg5 arg6 arg8 x3 x4 x5 x6 x8 v1 v18 hw h4 (3, 1) (fullStepRun.sl.H8_7 arg3 arg4 arg5 arg6 arg8 v1 v18 hw h4 x3 x4 x5 x6 x8) = _
  refine congrArg _ ?_
  show fullAdd arg3 arg4 arg5 arg6 arg8 x3 x4 x5 x6 x8 v1 v18 hw h4 (2, 1) (fullStepRun.sl.H8_6 arg3 arg4 arg5 arg6 arg8 v1 v18 hw h4 x3 x4 x5 x6 x8) = _
  refine congrArg _ ?_
  show fullAdd arg3 arg4 arg5 arg6 arg8 x3 x4 x5 x6 x8 v1 v18 hw h4 (1, 1) (fullStepRun.sl.H8_5 arg3 arg4 arg5 arg6 arg8 v1 v18 hw h4 x3 x4 x5 x6 x8) = _
  refine congrArg _ ?_
  show fullAdd arg3 arg4 arg5 arg6 arg8 x3 x4 x5 x6 x8 v1 v18 hw h4 (0, 1) (fullStepRun.sl.H8_4 arg3 arg4 arg5 arg6 arg8 v1 v18 hw h4 x3 x4 x5 x6 x8) = _
  refine congrArg _ ?_
  show fullAdd arg3 arg4 arg5 arg6 arg8 x3 x4 x5 x6 x8 v1 v18 hw h4 (3, 0) (fullStepRun.sl.H8_3 arg3 arg4 arg5 arg6 arg8 v1 v18 hw h4 x3 x4 x5 x6 x8) = _
  refine congrArg _ ?_
  show fullAdd arg3 arg4 arg5 arg6 arg8 x3 x4 x5 x6 x8 v1 v18 hw h4 (2, 0) (fullStepRun.sl.H8_2 arg3 arg4 arg5 arg6 arg8 v1 v18 hw h4 x3 x4 x5 x6 x8) = _
  refine congrArg _ ?_
  show fullAdd arg3 arg4 arg5 arg6 arg8 x3 x4 x5 x6 x8 v1 v18 hw h4 (1, 0) (fullStepRun.sl.H8_1 arg3 arg4 arg5 arg6 arg8 v1 v18 hw h4 x3 x4 x5 x6 x8) = _
  refine congrArg _ ?_
  simp only [List.foldr, fullAdd, View.writes_nil]
  rfl

end Pieces

section Values
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)
variable (x3 x4 x5 x6 : Vec Ideal S1024x512 .bf16) (x8 : Vec Ideal S8192x512 .f32) (x12 x13 : Vec Ideal S1024x512 .f32)

theorem rowsOf_apply (arg : Memref sig .tc .vmem S1024x512 .bf16) (x : Vec Ideal S1024x512 .bf16) (h : Fin 4) (a : Fin 1024) (b : Fin 128) :
    rowsOf (F := Ideal) arg x h (ix2 a b) = at2 x a.val (h.val * 128 + b.val) := by
  refine (ld_apply' arg.view x ![0, h.val * 128] S1024x128.size (inb_rows h) (ix2 a b)).trans ?_
  show at2 x (0 + a.val) (h.val * 128 + b.val) = _
  rw [zero_add]

theorem tileOf_apply (arg : Memref sig .tc .vmem S1024x512 .bf16) (x : Vec Ideal S1024x512 .bf16) (r : Fin 4) (h : Fin 4) (a : Fin 256) (b : Fin 128) :
    tileOf (F := Ideal) arg x r h (ix2 a b) = at2 x (r.val * 256 + a.val) (h.val * 128 + b.val) :=
  ld_apply' arg.view x ![r.val * 256, h.val * 128] S256x128.size (inb_tile r h) (ix2 a b)

theorem accOf_apply (arg : Memref sig .tc .vmem S1024x512 .f32) (x : Vec Ideal S1024x512 .f32) (r : Fin 4) (h : Fin 4) (a : Fin 256) (b : Fin 128) :
    accOf (F := Ideal) arg x r h (ix2 a b) = at2 x (r.val * 256 + a.val) (h.val * 128 + b.val) :=
  ld_apply arg.view x ![r.val * 256, h.val * 128] S256x128.size (inb_tile r h) (ix2 a b)

/-- What a step adds to the value gradient's accumulator, the key gradient's, and the query gradient's rows. -/
def addVal (m : Bool) (R C : ℕ) : EReal := ∑ e : Fin 1024, prob 128 (at2 x4) (at2 x3) (C / 128) R e.val m * at2 x6 e.val C
def addKey (m : Bool) (R C : ℕ) : EReal := ∑ e : Fin 1024, dscore 128 (at2 x4) (at2 x3) (at2 x5) (at2 x6) (C / 128) R e.val m * at2 x3 e.val C
def addQuery (m : Bool) (R C : ℕ) : EReal := ∑ e : Fin 1024, dscore 128 (at2 x4) (at2 x3) (at2 x5) (at2 x6) (C / 128) e.val R m * at2 x4 e.val C

/-- The part of the query gradient's rows from the keys of sub-tile `r`. -/
def addQueryOf (m : Bool) (r R C : ℕ) : EReal :=
  ∑ e : Fin 256, dscore 128 (at2 x4) (at2 x3) (at2 x5) (at2 x6) (C / 128) (r * 256 + e.val) R m * at2 x4 (r * 256 + e.val) C

theorem addQuery_eq (m : Bool) (R C : ℕ) : addQuery x3 x4 x5 x6 m R C = ∑ r : Fin 4, addQueryOf x3 x4 x5 x6 m r.val R C :=
  (sum_runs 4 256 fun e => dscore 128 (at2 x4) (at2 x3) (at2 x5) (at2 x6) (C / 128) e R m * at2 x4 e C).symm

theorem head_col (h : Fin 4) (b : Fin 128) : (h.val * 128 + b.val) / 128 = h.val := by
  have := b.isLt; omega

theorem full_val_tile (r : Fin 4) (h : Fin 4) (a : Fin 256) (b : Fin 128) :
    k0_pay152 (rowsOf arg3 x3 h) (rowsOf arg6 x6 h) (tileOf arg4 x4 r h) (accOf arg13 x13 r h) (ix2 a b)
      = at2 x13 (r.val * 256 + a.val) (h.val * 128 + b.val) + addVal x3 x4 x6 false (r.val * 256 + a.val) (h.val * 128 + b.val) := by
  unfold k0_pay152 k0_pay151 k0_pay150 k0_pay149 k0_pay148 addVal
  pointwise
  rw [head_col]
  simp only [rowsOf_apply, tileOf_apply, accOf_apply, prob_unmasked]
  rfl

theorem full_key_tile (r : Fin 4) (h : Fin 4) (a : Fin 256) (b : Fin 128) :
    k0_pay154 (rowsOf arg3 x3 h) (rowsOf arg6 x6 h) (tileOf arg4 x4 r h) (tileOf arg5 x5 r h) (accOf arg12 x12 r h) (ix2 a b)
      = at2 x12 (r.val * 256 + a.val) (h.val * 128 + b.val) + addKey x3 x4 x5 x6 false (r.val * 256 + a.val) (h.val * 128 + b.val) := by
  unfold k0_pay154 k0_pay153 k0_pay151 k0_pay150 k0_pay149 k0_pay148 addKey dscore
  pointwise
  rw [head_col]
  simp only [rowsOf_apply, tileOf_apply, accOf_apply, prob_unmasked]
  rfl

theorem full_query_tile (acc : Vec Ideal S1024x128 .f32) (r : Fin 4) (h : Fin 4) (a : Fin 1024) (b : Fin 128) :
    k0_pay155 (rowsOf arg3 x3 h) (rowsOf arg6 x6 h) (tileOf arg4 x4 r h) (tileOf arg5 x5 r h) acc (ix2 a b)
      = acc (ix2 a b) + addQueryOf x3 x4 x5 x6 false r.val a.val (h.val * 128 + b.val) := by
  unfold k0_pay155 k0_pay153 k0_pay151 k0_pay150 k0_pay149 k0_pay148 addQueryOf dscore
  pointwise
  rw [head_col]
  simp only [rowsOf_apply, tileOf_apply, prob_unmasked]
  rfl

/-- Every place of an accumulator lies in a sub-tile. -/
theorem tiles_cover (w : Fin 4 × Fin 4 → FVec Ideal S256x128 .f32) (R C : ℕ) (hR : R < 1024) (hC : C < 512) :
    ∃ p ∈ order.map fun p => tilePiece (F := Ideal) p.1 p.2 (w p), ix2 (⟨R, hR⟩ : Fin 1024) (⟨C, hC⟩ : Fin 512) ∈ p.1.set := by
  have hr : R / 256 < 4 := by omega
  have hh : C / 128 < 4 := by omega
  refine ⟨_, List.mem_map.mpr ⟨(⟨R / 256, hr⟩, ⟨C / 128, hh⟩), ?_, rfl⟩, ?_⟩
  · generalize (⟨R / 256, hr⟩ : Fin 4) = r, (⟨C / 128, hh⟩ : Fin 4) = h
    revert r h; decide
  · refine (Rect.mem_set_unit (inb := inb_tile ⟨R / 256, hr⟩ ⟨C / 128, hh⟩)).mpr (Fin.forall_fin_two.mpr ⟨?_, ?_⟩)
    · show R / 256 * 256 ≤ R ∧ R < R / 256 * 256 + 256
      omega
    · show C / 128 * 128 ≤ C ∧ C < C / 128 * 128 + 128
      omega

/-- Sub-tiles whose values are `G` leave `G`. -/
theorem read_order (arg : Memref sig .tc .vmem S1024x512 .f32) (f) (w : Fin 4 × Fin 4 → FVec Ideal S256x128 .f32) (G : ℕ → ℕ → EReal)
    (hw : ∀ (r : Fin 4) (h : Fin 4) (a : Fin 256) (b : Fin 128), w (r, h) (ix2 a b) = G (r.val * 256 + a.val) (h.val * 128 + b.val)) (R C : ℕ) (hR : R < 1024) (hC : C < 512) :
    at2 (arg.view.read (Elt Ideal) (arg.view.writes (Elt Ideal) f (order.map fun p => tilePiece (F := Ideal) p.1 p.2 (w p)))) R C = G R C := by
  refine read_tiles arg.view f _ G ?_ R C hR hC (tiles_cover w R C hR hC)
  intro p hp
  obtain ⟨⟨r, h⟩, -, rfl⟩ := List.mem_map.mp hp
  intro x
  refine (congrArg (w (r, h)) (eq_ix2 (n0 := 256) (n1 := 128) x)).trans ((hw r h (x 0) (x 1)).trans ?_)
  show _ = G (r.val * 256 + 1 * (x 0).val) (h.val * 128 + 1 * (x 1).val)
  rw [one_mul, one_mul]

variable (v1 v18 : Elt Ideal .i32) (hw : k0_chk2 v1 v18) (h4 : k0_cond4 v18 = 1#1)

theorem full_val_read (R C : ℕ) (hR : R < 1024) (hC : C < 512) :
    at2 (arg13.view.read (Elt Ideal) (arg13.view.writes (Elt Ideal) (arg13.view.rep x13) (fullStepRun c i arg2 harg2 arg3 harg3 arg4 harg4 arg5 harg5 arg6 harg6 arg7 harg7 arg8 harg8 arg9 harg9 arg10 harg10 arg11 harg11 arg12 harg12 arg13 harg13 v1 v18 hw h4 x3 x4 x5 x6 x8 x12 x13).2.2.1)) R C
      = at2 x13 R C + addVal x3 x4 x6 false R C := by
  rw [full_val]
  exact read_order arg13 _ _ (fun R C => at2 x13 R C + addVal x3 x4 x6 false R C) (fun r h a b => full_val_tile arg3 arg4 arg6 arg13 x3 x4 x6 x13 r h a b) R C hR hC

theorem full_key_read (R C : ℕ) (hR : R < 1024) (hC : C < 512) :
    at2 (arg12.view.read (Elt Ideal) (arg12.view.writes (Elt Ideal) (arg12.view.rep x12) (fullStepRun c i arg2 harg2 arg3 harg3 arg4 harg4 arg5 harg5 arg6 harg6 arg7 harg7 arg8 harg8 arg9 harg9 arg10 harg10 arg11 harg11 arg12 harg12 arg13 harg13 v1 v18 hw h4 x3 x4 x5 x6 x8 x12 x13).2.1)) R C
      = at2 x12 R C + addKey x3 x4 x5 x6 false R C := by
  rw [full_key]
  exact read_order arg12 _ _ (fun R C => at2 x12 R C + addKey x3 x4 x5 x6 false R C) (fun r h a b => full_key_tile arg3 arg4 arg5 arg6 arg12 x3 x4 x5 x6 x12 r h a b) R C hR hC

theorem full_query_add (p : Fin 4 × Fin 4) (L : List (View.Piece (Elt Ideal) S8192x512 .f32)) (A : ℕ → ℕ → EReal)
    (hA : ∀ R C, R < 8192 → C < 512 → at2 (arg8.view.read (Elt Ideal) (arg8.view.writes (Elt Ideal) (arg8.view.rep x8) L)) R C = A R C) (R C : ℕ) (hR : R < 8192) (hC : C < 512) :
    at2 (arg8.view.read (Elt Ideal) (arg8.view.writes (Elt Ideal) (arg8.view.rep x8) (fullAdd arg3 arg4 arg5 arg6 arg8 x3 x4 x5 x6 x8 v1 v18 hw h4 p L))) R C
      = A R C + if (rowOf (F := Ideal) v1 0#32 ≤ R ∧ R < rowOf (F := Ideal) v1 0#32 + 1024) ∧ p.2.val * 128 ≤ C ∧ C < p.2.val * 128 + 128
          then addQueryOf x3 x4 x5 x6 false p.1.val (R - rowOf (F := Ideal) v1 0#32) C else 0 := by
  refine read_bump arg8.view (arg8.view.rep x8) L ![rowOf (F := Ideal) v1 0#32, p.2.val * 128] S1024x128.size (full_inb (F := Ideal) v1 v18 hw h4 p.2) _ A
    (fun R C => addQueryOf x3 x4 x5 x6 false p.1.val (R - rowOf (F := Ideal) v1 0#32) C) hA (fun y => ?_) R C hR hC
  refine (congrArg _ (eq_ix2 (n0 := 1024) (n1 := 128) y)).trans ((full_query_tile arg3 arg4 arg5 arg6 x3 x4 x5 x6 _ p.1 p.2 (y 0) (y 1)).trans ?_)
  refine congrArg₂ (· + ·) ?_ ?_
  · refine (ld_writes_apply arg8.view _ ![rowOf (F := Ideal) v1 0#32, p.2.val * 128] S1024x128.size (full_inb (F := Ideal) v1 v18 hw h4 p.2) (ix2 (y 0) (y 1))).trans (hA _ _ ?_ ?_)
    · have h0 := full_inb (F := Ideal) v1 v18 hw h4 p.2 0
      have h1 : (y 0).val < 1024 := (y 0).isLt
      exact Nat.lt_of_lt_of_le (Nat.add_lt_add_left h1 _) h0
    · have h0 := full_inb (F := Ideal) v1 v18 hw h4 p.2 1
      have h1 : (y 1).val < 128 := (y 1).isLt
      exact Nat.lt_of_lt_of_le (Nat.add_lt_add_left h1 _) h0
  · show _ = addQueryOf x3 x4 x5 x6 false p.1.val (rowOf (F := Ideal) v1 0#32 + (y 0).val - rowOf (F := Ideal) v1 0#32) (p.2.val * 128 + (y 1).val)
    rw [Nat.add_sub_cancel_left]

/-- Bumps at the sixteen sub-tiles, in their order, add up to the whole step's. -/
theorem order_sum (a : EReal) (g : Fin 4 → EReal) (P : Prop) [Decidable P] (C : ℕ) (hC : C < 512) :
    order.foldr (fun p (s : EReal) => s + if P ∧ p.2.val * 128 ≤ C ∧ C < p.2.val * 128 + 128 then g p.1 else 0) a = a + if P then ∑ r, g r else 0 := by
  have hh : C / 128 < 4 := by omega
  have hc : ∀ h : Fin 4, (h.val * 128 ≤ C ∧ C < h.val * 128 + 128) ↔ h = ⟨C / 128, hh⟩ := fun h => by
    rw [Fin.ext_iff]
    show _ ↔ h.val = C / 128
    omega
  simp only [hc]
  generalize (⟨C / 128, hh⟩ : Fin 4) = k
  by_cases hP : P
  · fin_cases k <;> simp [order, hP, Fin.sum_univ_four, add_assoc]
  · simp [order, hP]

theorem full_query_read (R C : ℕ) (hR : R < 8192) (hC : C < 512) :
    at2 (arg8.view.read (Elt Ideal) (arg8.view.writes (Elt Ideal) (arg8.view.rep x8) (fullStepRun c i arg2 harg2 arg3 harg3 arg4 harg4 arg5 harg5 arg6 harg6 arg7 harg7 arg8 harg8 arg9 harg9 arg10 harg10 arg11 harg11 arg12 harg12 arg13 harg13 v1 v18 hw h4 x3 x4 x5 x6 x8 x12 x13).1)) R C
      = at2 x8 R C + if rowOf (F := Ideal) v1 0#32 ≤ R ∧ R < rowOf (F := Ideal) v1 0#32 + 1024
          then addQuery x3 x4 x5 x6 false (R - rowOf (F := Ideal) v1 0#32) C else 0 := by
  rw [full_query, addQuery_eq, ← order_sum (at2 x8 R C) (fun r => addQueryOf x3 x4 x5 x6 false r.val (R - rowOf (F := Ideal) v1 0#32) C) _ C hC]
  generalize order = l
  revert R C
  induction l with
  | nil =>
    intro R C hR hC
    rw [List.foldr_nil, List.foldr_nil, View.writes_nil, View.read_rep]
  | cons p l ih =>
    intro R C hR hC
    rw [List.foldr_cons, List.foldr_cons]
    exact full_query_add arg3 arg4 arg5 arg6 arg8 x3 x4 x5 x6 x8 v1 v18 hw h4 p _ (fun R C => l.foldr _ (at2 x8 R C)) (fun R C hR hC => ih R C hR hC) R C hR hC

end Values

end Fox
-- ==== Proof.FoxDiag.lean ====
/- What the forget-gate attention's backward kernel's step leaves on the diagonal, at an index. -/
module

public import proofs.«01_k».proof.Proof.FoxFull

@[expose] public section

set_option maxRecDepth 16384

noncomputable section

namespace Fox

open Cert.FoxBwdIdeal Cert.FoxBwdIdeal.Gen Cert.Tiles
open Idealize.ShloMosaic Idealize.ShloMosaic.TcCoe Idealize.ShloMosaic.Tactic
open Idealize.SL

/-! ## The rows of queries a sub-tile of keys meets, and what it adds, by sub-tile -/

section Tiles
variable {F : FTy → Type} [FloatOps F] [Named F]

theorem inb_from1 (h : Fin 4) : ∀ a : Fin 2, (![256, h.val * 128] : Fin 2 → ℕ) a + S768x128.size a ≤ S1024x512.size a := by
  revert h; decide
theorem inb_from2 (h : Fin 4) : ∀ a : Fin 2, (![512, h.val * 128] : Fin 2 → ℕ) a + S512x128.size a ≤ S1024x512.size a := by
  revert h; decide
theorem inb_from3 (h : Fin 4) : ∀ a : Fin 2, (![768, h.val * 128] : Fin 2 → ℕ) a + S256x128.size a ≤ S1024x512.size a := by
  revert h; decide

abbrev rowsFrom1 (arg : Memref sig .tc .vmem S1024x512 .bf16) (x : Vec F S1024x512 .bf16) (h : Fin 4) : Vec F S768x128 .bf16 :=
  View.readAt (Elt F) arg.view (Rect.unit (s := S1024x512) ![256, h.val * 128] S768x128.size (inb_from1 h)).toLoadRect (arg.view.rep x)
abbrev rowsFrom2 (arg : Memref sig .tc .vmem S1024x512 .bf16) (x : Vec F S1024x512 .bf16) (h : Fin 4) : Vec F S512x128 .bf16 :=
  View.readAt (Elt F) arg.view (Rect.unit (s := S1024x512) ![512, h.val * 128] S512x128.size (inb_from2 h)).toLoadRect (arg.view.rep x)
abbrev rowsFrom3 (arg : Memref sig .tc .vmem S1024x512 .bf16) (x : Vec F S1024x512 .bf16) (h : Fin 4) : Vec F S256x128 .bf16 :=
  View.readAt (Elt F) arg.view (Rect.unit (s := S1024x512) ![768, h.val * 128] S256x128.size (inb_from3 h)).toLoadRect (arg.view.rep x)

variable (v1 v3 : Elt F .i32) (k v : Vec F S256x128 .bf16) (acc : Vec F S256x128 .f32)

/-- The value gradient's tile, the key gradient's tile and the query gradient's rows after a sub-tile. -/
def val0 (q d : Vec F S1024x128 .bf16) : FVec F S256x128 .f32 := k0_pay11 v1 v3 q d k acc
def val1 (q d : Vec F S768x128 .bf16) : FVec F S256x128 .f32 := k0_pay21 (k0_pay17 d) acc (k0_pay20 v1 v3 q k) (constant S256x128 .f32 0x00000000#32)
def val2 (q d : Vec F S512x128 .bf16) : FVec F S256x128 .f32 := k0_pay30 v3 (k0_pay26 d) (k0_pay28 q k) (Scalar.muli v1 1024#32) acc
def val3 (q d : Vec F S256x128 .bf16) : FVec F S256x128 .f32 := k0_pay39 v1 v3 q d k acc
def key0 (q d : Vec F S1024x128 .bf16) : FVec F S256x128 .f32 := k0_pay14 (k0_pay13 v1 v3 q d k v acc)
def key1 (q d : Vec F S768x128 .bf16) : FVec F S256x128 .f32 := k0_pay23 (k0_pay16 q) (k0_pay17 d) (k0_pay19 v1 v3 q k) v acc
def key2 (q d : Vec F S512x128 .bf16) : FVec F S256x128 .f32 := k0_pay32 v3 (k0_pay25 q) (k0_pay26 d) (k0_pay28 q k) (Scalar.muli v1 1024#32) v acc
def key3 (q d : Vec F S256x128 .bf16) : FVec F S256x128 .f32 := k0_pay41 (k0_pay35 q) (k0_pay40 v1 v3 q d k v) acc
def query0 (q d : Vec F S1024x128 .bf16) (a : Vec F S1024x128 .f32) : FVec F S1024x128 .f32 := k0_pay15 (k0_pay9 k) (k0_pay12 v1 v3 q d k v) a
def query1 (q d : Vec F S768x128 .bf16) (a : Vec F S768x128 .f32) : FVec F S768x128 .f32 := k0_pay24 (k0_pay17 d) (k0_pay18 k) (k0_pay19 v1 v3 q k) v a
def query2 (q d : Vec F S512x128 .bf16) (a : Vec F S512x128 .f32) : FVec F S512x128 .f32 :=
  k0_pay34 (k0_pay27 k) (k0_pay31 v3 (k0_pay26 d) (k0_pay28 q k) (Scalar.muli v1 1024#32) v) (k0_pay33 a) (constant S512x128 .f32 0x00000000#32)
def query3 (q d : Vec F S256x128 .bf16) (a : Vec F S256x128 .f32) : FVec F S256x128 .f32 := k0_pay42 (k0_pay37 k) (k0_pay40 v1 v3 q d k v) a

end Tiles

/-! ## Over the reals: the masked pairs add nothing, so each adds the whole block's sum -/

section Sums
variable (n : ℕ) (k v : Vec Ideal S256x128 .bf16) (acc : Vec Ideal S256x128 .f32) (X : EReal) (h : Fin 4) (a : Fin 256) (b : Fin 128)
variable (x3 x4 x5 x6 : Vec Ideal S1024x512 .bf16)

/-- A sum over the queries from `o` on is the sum over all, the earlier ones being masked. -/
theorem addVal_tail {o w : ℕ} (how : o + w = 1024) (R C : ℕ) (hR : o ≤ R) :
    addVal x3 x4 x6 true R C = ∑ e : Fin w, prob 128 (at2 x4) (at2 x3) (C / 128) R (o + e.val) true * at2 x6 (o + e.val) C := by
  refine (sum_tail how (fun e => prob 128 (at2 x4) (at2 x3) (C / 128) R e true * at2 x6 e C) fun e he => ?_).symm
  show prob 128 (at2 x4) (at2 x3) (C / 128) R e true * at2 x6 e C = 0
  rw [prob_masked _ _ _ _ _ _ (by omega), zero_mul]
theorem addKey_tail {o w : ℕ} (how : o + w = 1024) (R C : ℕ) (hR : o ≤ R) :
    addKey x3 x4 x5 x6 true R C = ∑ e : Fin w, dscore 128 (at2 x4) (at2 x3) (at2 x5) (at2 x6) (C / 128) R (o + e.val) true * at2 x3 (o + e.val) C := by
  refine (sum_tail how (fun e => dscore 128 (at2 x4) (at2 x3) (at2 x5) (at2 x6) (C / 128) R e true * at2 x3 e C) fun e he => ?_).symm
  show dscore 128 (at2 x4) (at2 x3) (at2 x5) (at2 x6) (C / 128) R e true * at2 x3 e C = 0
  rw [dscore_masked _ _ _ _ _ _ _ _ (by omega), zero_mul]
theorem addQueryOf_masked (r R C : ℕ) (hR : R < r * 256) : addQueryOf x3 x4 x5 x6 true r R C = 0 := by
  refine Finset.sum_eq_zero fun e _ => ?_
  rw [dscore_masked _ _ _ _ _ _ _ _ (by omega), zero_mul]

/-- The masked weight as the step computes it. -/
theorem prob_select (hn : n < 64) (o a b : ℕ) (ho : o + a < 1024) (ho' : o + b < 1024) (K Q : ℕ → ℕ → EReal) (g : ℕ) :
    Ideal.exp (Scalar.select (IntOp.cmpi .sle (IntOp.addi (Scalar.addi (Scalar.muli (BitVec.ofNat 32 n) 1024#32) (BitVec.ofNat 32 o)) (BitVec.ofNat 32 a))
        (IntOp.addi (Scalar.addi (Scalar.muli (BitVec.ofNat 32 n) 1024#32) (BitVec.ofNat 32 o)) (BitVec.ofNat 32 b)))
        (∑ d : Fin 128, K (o + a) (g * 128 + d.val) * Q (o + b) (g * 128 + d.val)) (Named.named (F := Ideal) (φ := .f32) κ "mask" 0xF149F2CA#32))
      = prob 128 K Q g (o + a) (o + b) true := by
  rw [mask_select n hn o o a b ho ho']
  unfold prob dotRow
  simp only [true_and]
  rfl

theorem val0_apply (hn : n < 64) (q d' : Vec Ideal S1024x128 .bf16) (hq : ∀ e d, q (ix2 e d) = at2 x3 (0 + e.val) (h.val * 128 + d.val)) (hk : ∀ e d, k (ix2 e d) = at2 x4 (0 + e.val) (h.val * 128 + d.val))
    (hd : ∀ e d, d' (ix2 e d) = at2 x6 (0 + e.val) (h.val * 128 + d.val)) (hacc : acc (ix2 a b) = X) :
    val0 (F := Ideal) (BitVec.ofNat 32 n) (BitVec.ofNat 32 n) k acc q d' (ix2 a b) = X + addVal x3 x4 x6 true (0 + a.val) (h.val * 128 + b.val) := by
  rw [addVal_tail x3 x4 x6 (o := 0) (w := 1024) rfl _ _ (Nat.le_add_right _ _), head_col]
  unfold val0 k0_pay11 k0_pay10 k0_pay9 k0_pay8 k0_pay7
  pointwise
  simp only [hq, hk, hd, hacc]
  simp (disch := omega) only [prob_select n hn]
  simp only [zero_add]

theorem key0_apply (hn : n < 64) (q d' : Vec Ideal S1024x128 .bf16) (hq : ∀ e d, q (ix2 e d) = at2 x3 (0 + e.val) (h.val * 128 + d.val)) (hk : ∀ e d, k (ix2 e d) = at2 x4 (0 + e.val) (h.val * 128 + d.val))
    (hd : ∀ e d, d' (ix2 e d) = at2 x6 (0 + e.val) (h.val * 128 + d.val))
    (hv : ∀ e d, v (ix2 e d) = at2 x5 (0 + e.val) (h.val * 128 + d.val)) (hacc : acc (ix2 a b) = X) :
    key0 (F := Ideal) (BitVec.ofNat 32 n) (BitVec.ofNat 32 n) k v acc q d' (ix2 a b) = X + addKey x3 x4 x5 x6 true (0 + a.val) (h.val * 128 + b.val) := by
  rw [addKey_tail x3 x4 x5 x6 (o := 0) (w := 1024) rfl _ _ (Nat.le_add_right _ _), head_col]
  unfold key0 k0_pay14 k0_pay13 k0_pay12 k0_pay10 k0_pay9 k0_pay8 k0_pay7
  pointwise
  simp only [hq, hk, hd, hv, hacc]
  simp (disch := omega) only [prob_select n hn]
  simp only [zero_add]
  rfl

theorem query0_apply (hn : n < 64) (q d' : Vec Ideal S1024x128 .bf16) (hq : ∀ e d, q (ix2 e d) = at2 x3 (0 + e.val) (h.val * 128 + d.val)) (hk : ∀ e d, k (ix2 e d) = at2 x4 (0 + e.val) (h.val * 128 + d.val))
    (hd : ∀ e d, d' (ix2 e d) = at2 x6 (0 + e.val) (h.val * 128 + d.val))
    (hv : ∀ e d, v (ix2 e d) = at2 x5 (0 + e.val) (h.val * 128 + d.val)) (A : Vec Ideal S1024x128 .f32) (e : Fin 1024) :
    query0 (F := Ideal) (BitVec.ofNat 32 n) (BitVec.ofNat 32 n) k v q d' A (ix2 e b) = A (ix2 e b) + addQueryOf x3 x4 x5 x6 true 0 (0 + e.val) (h.val * 128 + b.val) := by
  unfold query0 k0_pay15 k0_pay12 k0_pay10 k0_pay9 k0_pay8 k0_pay7 addQueryOf
  pointwise
  rw [head_col]
  simp only [hq, hk, hd, hv]
  simp (disch := omega) only [prob_select n hn]
  simp only [zero_add]
  rfl

theorem val1_apply (hn : n < 64) (q d' : Vec Ideal S768x128 .bf16) (hq : ∀ e d, q (ix2 e d) = at2 x3 (256 + e.val) (h.val * 128 + d.val)) (hk : ∀ e d, k (ix2 e d) = at2 x4 (256 + e.val) (h.val * 128 + d.val))
    (hd : ∀ e d, d' (ix2 e d) = at2 x6 (256 + e.val) (h.val * 128 + d.val)) (hacc : acc (ix2 a b) = X) :
    val1 (F := Ideal) (BitVec.ofNat 32 n) (BitVec.ofNat 32 n) k acc q d' (ix2 a b) = X + addVal x3 x4 x6 true (256 + a.val) (h.val * 128 + b.val) := by
  rw [addVal_tail x3 x4 x6 (o := 256) (w := 768) rfl _ _ (Nat.le_add_right _ _), head_col]
  unfold val1 k0_pay21 k0_pay20 k0_pay19 k0_pay18 k0_pay17 k0_pay16
  pointwise
  simp only [hq, hk, hd, hacc]
  simp (disch := omega) only [prob_select n hn]

theorem key1_apply (hn : n < 64) (q d' : Vec Ideal S768x128 .bf16) (hq : ∀ e d, q (ix2 e d) = at2 x3 (256 + e.val) (h.val * 128 + d.val)) (hk : ∀ e d, k (ix2 e d) = at2 x4 (256 + e.val) (h.val * 128 + d.val))
    (hd : ∀ e d, d' (ix2 e d) = at2 x6 (256 + e.val) (h.val * 128 + d.val))
    (hv : ∀ e d, v (ix2 e d) = at2 x5 (256 + e.val) (h.val * 128 + d.val)) (hacc : acc (ix2 a b) = X) :
    key1 (F := Ideal) (BitVec.ofNat 32 n) (BitVec.ofNat 32 n) k v acc q d' (ix2 a b) = X + addKey x3 x4 x5 x6 true (256 + a.val) (h.val * 128 + b.val) := by
  rw [addKey_tail x3 x4 x5 x6 (o := 256) (w := 768) rfl _ _ (Nat.le_add_right _ _), head_col]
  unfold key1 k0_pay23 k0_pay22 k0_pay19 k0_pay18 k0_pay17 k0_pay16
  pointwise
  simp only [hq, hk, hd, hv, hacc]
  simp (disch := omega) only [prob_select n hn]
  rfl

theorem query1_apply (hn : n < 64) (q d' : Vec Ideal S768x128 .bf16) (hq : ∀ e d, q (ix2 e d) = at2 x3 (256 + e.val) (h.val * 128 + d.val)) (hk : ∀ e d, k (ix2 e d) = at2 x4 (256 + e.val) (h.val * 128 + d.val))
    (hd : ∀ e d, d' (ix2 e d) = at2 x6 (256 + e.val) (h.val * 128 + d.val))
    (hv : ∀ e d, v (ix2 e d) = at2 x5 (256 + e.val) (h.val * 128 + d.val)) (A : Vec Ideal S768x128 .f32) (e : Fin 768) :
    query1 (F := Ideal) (BitVec.ofNat 32 n) (BitVec.ofNat 32 n) k v q d' A (ix2 e b) = A (ix2 e b) + addQueryOf x3 x4 x5 x6 true 1 (256 + e.val) (h.val * 128 + b.val) := by
  unfold query1 k0_pay24 k0_pay22 k0_pay19 k0_pay18 k0_pay17 k0_pay16 addQueryOf
  pointwise
  rw [head_col]
  simp only [hq, hk, hd, hv]
  simp (disch := omega) only [prob_select n hn]
  rfl

theorem val2_apply (hn : n < 64) (q d' : Vec Ideal S512x128 .bf16) (hq : ∀ e d, q (ix2 e d) = at2 x3 (512 + e.val) (h.val * 128 + d.val)) (hk : ∀ e d, k (ix2 e d) = at2 x4 (512 + e.val) (h.val * 128 + d.val))
    (hd : ∀ e d, d' (ix2 e d) = at2 x6 (512 + e.val) (h.val * 128 + d.val)) (hacc : acc (ix2 a b) = X) :
    val2 (F := Ideal) (BitVec.ofNat 32 n) (BitVec.ofNat 32 n) k acc q d' (ix2 a b) = X + addVal x3 x4 x6 true (512 + a.val) (h.val * 128 + b.val) := by
  rw [addVal_tail x3 x4 x6 (o := 512) (w := 512) rfl _ _ (Nat.le_add_right _ _), head_col]
  unfold val2 k0_pay30 k0_pay29 k0_pay28 k0_pay27 k0_pay26 k0_pay25
  pointwise
  simp only [hq, hk, hd, hacc]
  simp (disch := omega) only [prob_select n hn]

theorem key2_apply (hn : n < 64) (q d' : Vec Ideal S512x128 .bf16) (hq : ∀ e d, q (ix2 e d) = at2 x3 (512 + e.val) (h.val * 128 + d.val)) (hk : ∀ e d, k (ix2 e d) = at2 x4 (512 + e.val) (h.val * 128 + d.val))
    (hd : ∀ e d, d' (ix2 e d) = at2 x6 (512 + e.val) (h.val * 128 + d.val))
    (hv : ∀ e d, v (ix2 e d) = at2 x5 (512 + e.val) (h.val * 128 + d.val)) (hacc : acc (ix2 a b) = X) :
    key2 (F := Ideal) (BitVec.ofNat 32 n) (BitVec.ofNat 32 n) k v acc q d' (ix2 a b) = X + addKey x3 x4 x5 x6 true (512 + a.val) (h.val * 128 + b.val) := by
  rw [addKey_tail x3 x4 x5 x6 (o := 512) (w := 512) rfl _ _ (Nat.le_add_right _ _), head_col]
  unfold key2 k0_pay32 k0_pay31 k0_pay29 k0_pay28 k0_pay27 k0_pay26 k0_pay25
  pointwise
  simp only [hq, hk, hd, hv, hacc]
  simp (disch := omega) only [prob_select n hn]
  rfl

theorem query2_apply (hn : n < 64) (q d' : Vec Ideal S512x128 .bf16) (hq : ∀ e d, q (ix2 e d) = at2 x3 (512 + e.val) (h.val * 128 + d.val)) (hk : ∀ e d, k (ix2 e d) = at2 x4 (512 + e.val) (h.val * 128 + d.val))
    (hd : ∀ e d, d' (ix2 e d) = at2 x6 (512 + e.val) (h.val * 128 + d.val))
    (hv : ∀ e d, v (ix2 e d) = at2 x5 (512 + e.val) (h.val * 128 + d.val)) (A : Vec Ideal S512x128 .f32) (e : Fin 512) :
    query2 (F := Ideal) (BitVec.ofNat 32 n) (BitVec.ofNat 32 n) k v q d' A (ix2 e b) = A (ix2 e b) + addQueryOf x3 x4 x5 x6 true 2 (512 + e.val) (h.val * 128 + b.val) := by
  unfold query2 k0_pay34 k0_pay33 k0_pay31 k0_pay29 k0_pay28 k0_pay27 k0_pay26 k0_pay25 addQueryOf
  pointwise
  rw [head_col]
  simp only [hq, hk, hd, hv]
  simp (disch := omega) only [prob_select n hn]
  rfl

theorem val3_apply (hn : n < 64) (q d' : Vec Ideal S256x128 .bf16) (hq : ∀ e d, q (ix2 e d) = at2 x3 (768 + e.val) (h.val * 128 + d.val)) (hk : ∀ e d, k (ix2 e d) = at2 x4 (768 + e.val) (h.val * 128 + d.val))
    (hd : ∀ e d, d' (ix2 e d) = at2 x6 (768 + e.val) (h.val * 128 + d.val)) (hacc : acc (ix2 a b) = X) :
    val3 (F := Ideal) (BitVec.ofNat 32 n) (BitVec.ofNat 32 n) k acc q d' (ix2 a b) = X + addVal x3 x4 x6 true (768 + a.val) (h.val * 128 + b.val) := by
  rw [addVal_tail x3 x4 x6 (o := 768) (w := 256) rfl _ _ (Nat.le_add_right _ _), head_col]
  unfold val3 k0_pay39 k0_pay38 k0_pay37 k0_pay36 k0_pay35
  pointwise
  simp only [hq, hk, hd, hacc]
  simp (disch := omega) only [prob_select n hn]

theorem key3_apply (hn : n < 64) (q d' : Vec Ideal S256x128 .bf16) (hq : ∀ e d, q (ix2 e d) = at2 x3 (768 + e.val) (h.val * 128 + d.val)) (hk : ∀ e d, k (ix2 e d) = at2 x4 (768 + e.val) (h.val * 128 + d.val))
    (hd : ∀ e d, d' (ix2 e d) = at2 x6 (768 + e.val) (h.val * 128 + d.val))
    (hv : ∀ e d, v (ix2 e d) = at2 x5 (768 + e.val) (h.val * 128 + d.val)) (hacc : acc (ix2 a b) = X) :
    key3 (F := Ideal) (BitVec.ofNat 32 n) (BitVec.ofNat 32 n) k v acc q d' (ix2 a b) = X + addKey x3 x4 x5 x6 true (768 + a.val) (h.val * 128 + b.val) := by
  rw [addKey_tail x3 x4 x5 x6 (o := 768) (w := 256) rfl _ _ (Nat.le_add_right _ _), head_col]
  unfold key3 k0_pay41 k0_pay40 k0_pay38 k0_pay37 k0_pay36 k0_pay35
  pointwise
  simp only [hq, hk, hd, hv, hacc]
  simp (disch := omega) only [prob_select n hn]
  rfl

theorem query3_apply (hn : n < 64) (q d' : Vec Ideal S256x128 .bf16) (hq : ∀ e d, q (ix2 e d) = at2 x3 (768 + e.val) (h.val * 128 + d.val)) (hk : ∀ e d, k (ix2 e d) = at2 x4 (768 + e.val) (h.val * 128 + d.val))
    (hd : ∀ e d, d' (ix2 e d) = at2 x6 (768 + e.val) (h.val * 128 + d.val))
    (hv : ∀ e d, v (ix2 e d) = at2 x5 (768 + e.val) (h.val * 128 + d.val)) (A : Vec Ideal S256x128 .f32) (e : Fin 256) :
    query3 (F := Ideal) (BitVec.ofNat 32 n) (BitVec.ofNat 32 n) k v q d' A (ix2 e b) = A (ix2 e b) + addQueryOf x3 x4 x5 x6 true 3 (768 + e.val) (h.val * 128 + b.val) := by
  unfold query3 k0_pay42 k0_pay40 k0_pay38 k0_pay37 k0_pay36 k0_pay35 addQueryOf
  pointwise
  rw [head_col]
  simp only [hq, hk, hd, hv]
  simp (disch := omega) only [prob_select n hn]
  rfl

end Sums

/-! ## The step's stores are these -/

section Lists
variable {F : FTy → Type} [FloatOps F] [Named F]
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)
variable (x3 x4 x5 x6 : Vec F S1024x512 .bf16) (x8 : Vec F S8192x512 .f32) (x12 x13 : Vec F S1024x512 .f32)
variable (v1 v3 v13 : Elt F .i32) (hw : k0_chk1 v1 v13) (h3 : k0_cond3 v13 = 1#1)

def diagVal : Fin 4 × Fin 4 → FVec F S256x128 .f32
  | (0, h) => val0 v1 v3 (tileOf arg4 x4 0 h) (accOf arg13 x13 0 h) (rowsOf arg3 x3 h) (rowsOf arg6 x6 h)
  | (1, h) => val1 v1 v3 (tileOf arg4 x4 1 h) (accOf arg13 x13 1 h) (rowsFrom1 arg3 x3 h) (rowsFrom1 arg6 x6 h)
  | (2, h) => val2 v1 v3 (tileOf arg4 x4 2 h) (accOf arg13 x13 2 h) (rowsFrom2 arg3 x3 h) (rowsFrom2 arg6 x6 h)
  | (3, h) => val3 v1 v3 (tileOf arg4 x4 3 h) (accOf arg13 x13 3 h) (rowsFrom3 arg3 x3 h) (rowsFrom3 arg6 x6 h)

def diagKey : Fin 4 × Fin 4 → FVec F S256x128 .f32
  | (0, h) => key0 v1 v3 (tileOf arg4 x4 0 h) (tileOf arg5 x5 0 h) (accOf arg12 x12 0 h) (rowsOf arg3 x3 h) (rowsOf arg6 x6 h)
  | (1, h) => key1 v1 v3 (tileOf arg4 x4 1 h) (tileOf arg5 x5 1 h) (accOf arg12 x12 1 h) (rowsFrom1 arg3 x3 h) (rowsFrom1 arg6 x6 h)
  | (2, h) => key2 v1 v3 (tileOf arg4 x4 2 h) (tileOf arg5 x5 2 h) (accOf arg12 x12 2 h) (rowsFrom2 arg3 x3 h) (rowsFrom2 arg6 x6 h)
  | (3, h) => key3 v1 v3 (tileOf arg4 x4 3 h) (tileOf arg5 x5 3 h) (accOf arg12 x12 3 h) (rowsFrom3 arg3 x3 h) (rowsFrom3 arg6 x6 h)

include hw h3 in
theorem diag_inb0 (h : Fin 4) : ∀ a : Fin 2, (![rowOf (F := F) v1 0#32, h.val * 128] : Fin 2 → ℕ) a + S1024x128.size a ≤ S8192x512.size a := fun a =>
  match h with
  | 0 => k0_off5_inb v1 v13 hw h3 a
  | 1 => k0_off9_inb v1 v13 hw h3 a
  | 2 => k0_off13_inb v1 v13 hw h3 a
  | 3 => k0_off17_inb v1 v13 hw h3 a
include hw h3 in
theorem diag_inb1 (h : Fin 4) : ∀ a : Fin 2, (![rowOf (F := F) v1 256#32, h.val * 128] : Fin 2 → ℕ) a + S768x128.size a ≤ S8192x512.size a := fun a =>
  match h with
  | 0 => k0_off6_inb v1 v13 hw h3 a
  | 1 => k0_off10_inb v1 v13 hw h3 a
  | 2 => k0_off14_inb v1 v13 hw h3 a
  | 3 => k0_off18_inb v1 v13 hw h3 a
include hw h3 in
theorem diag_inb2 (h : Fin 4) : ∀ a : Fin 2, (![rowOf (F := F) v1 512#32, h.val * 128] : Fin 2 → ℕ) a + S512x128.size a ≤ S8192x512.size a := fun a =>
  match h with
  | 0 => k0_off7_inb v1 v13 hw h3 a
  | 1 => k0_off11_inb v1 v13 hw h3 a
  | 2 => k0_off15_inb v1 v13 hw h3 a
  | 3 => k0_off19_inb v1 v13 hw h3 a
include hw h3 in
theorem diag_inb3 (h : Fin 4) : ∀ a : Fin 2, (![rowOf (F := F) v1 768#32, h.val * 128] : Fin 2 → ℕ) a + S256x128.size a ≤ S8192x512.size a := fun a =>
  match h with
  | 0 => k0_off8_inb v1 v13 hw h3 a
  | 1 => k0_off12_inb v1 v13 hw h3 a
  | 2 => k0_off16_inb v1 v13 hw h3 a
  | 3 => k0_off20_inb v1 v13 hw h3 a

/-- The rows of the query gradient a sub-tile of keys adds to. -/
abbrev diagRows0 (h : Fin 4) := Rect.unit (s := S8192x512) ![rowOf (F := F) v1 0#32, h.val * 128] S1024x128.size (diag_inb0 v1 v13 hw h3 h)
abbrev diagRows1 (h : Fin 4) := Rect.unit (s := S8192x512) ![rowOf (F := F) v1 256#32, h.val * 128] S768x128.size (diag_inb1 v1 v13 hw h3 h)
abbrev diagRows2 (h : Fin 4) := Rect.unit (s := S8192x512) ![rowOf (F := F) v1 512#32, h.val * 128] S512x128.size (diag_inb2 v1 v13 hw h3 h)
abbrev diagRows3 (h : Fin 4) := Rect.unit (s := S8192x512) ![rowOf (F := F) v1 768#32, h.val * 128] S256x128.size (diag_inb3 v1 v13 hw h3 h)

variable (L : List (View.Piece (Elt F) S8192x512 .f32))
def diagAdd0 (h : Fin 4) : List (View.Piece (Elt F) S8192x512 .f32) :=
  ⟨diagRows0 v1 v13 hw h3 h, (query0 v1 v3 (tileOf arg4 x4 0 h) (tileOf arg5 x5 0 h) (rowsOf arg3 x3 h) (rowsOf arg6 x6 h)
    (View.readAt (Elt F) arg8.view (diagRows0 v1 v13 hw h3 h).toLoadRect (arg8.view.writes (Elt F) (arg8.view.rep x8) L)) : FVec F S1024x128 .f32)⟩ :: L
def diagAdd1 (h : Fin 4) : List (View.Piece (Elt F) S8192x512 .f32) :=
  ⟨diagRows1 v1 v13 hw h3 h, (query1 v1 v3 (tileOf arg4 x4 1 h) (tileOf arg5 x5 1 h) (rowsFrom1 arg3 x3 h) (rowsFrom1 arg6 x6 h)
    (View.readAt (Elt F) arg8.view (diagRows1 v1 v13 hw h3 h).toLoadRect (arg8.view.writes (Elt F) (arg8.view.rep x8) L)) : FVec F S768x128 .f32)⟩ :: L
def diagAdd2 (h : Fin 4) : List (View.Piece (Elt F) S8192x512 .f32) :=
  ⟨diagRows2 v1 v13 hw h3 h, (query2 v1 v3 (tileOf arg4 x4 2 h) (tileOf arg5 x5 2 h) (rowsFrom2 arg3 x3 h) (rowsFrom2 arg6 x6 h)
    (View.readAt (Elt F) arg8.view (diagRows2 v1 v13 hw h3 h).toLoadRect (arg8.view.writes (Elt F) (arg8.view.rep x8) L)) : FVec F S512x128 .f32)⟩ :: L
def diagAdd3 (h : Fin 4) : List (View.Piece (Elt F) S8192x512 .f32) :=
  ⟨diagRows3 v1 v13 hw h3 h, (query3 v1 v3 (tileOf arg4 x4 3 h) (tileOf arg5 x5 3 h) (rowsFrom3 arg3 x3 h) (rowsFrom3 arg6 x6 h)
    (View.readAt (Elt F) arg8.view (diagRows3 v1 v13 hw h3 h).toLoadRect (arg8.view.writes (Elt F) (arg8.view.rep x8) L)) : FVec F S256x128 .f32)⟩ :: L

def diagAdd : Fin 4 × Fin 4 → List (View.Piece (Elt F) S8192x512 .f32)
  | (0, h) => diagAdd0 arg3 arg4 arg5 arg6 arg8 x3 x4 x5 x6 x8 v1 v3 v13 hw h3 L h
  | (1, h) => diagAdd1 arg3 arg4 arg5 arg6 arg8 x3 x4 x5 x6 x8 v1 v3 v13 hw h3 L h
  | (2, h) => diagAdd2 arg3 arg4 arg5 arg6 arg8 x3 x4 x5 x6 x8 v1 v3 v13 hw h3 L h
  | (3, h) => diagAdd3 arg3 arg4 arg5 arg6 arg8 x3 x4 x5 x6 x8 v1 v3 v13 hw h3 L h

theorem diag_val : (diagStepRun c i arg2 harg2 arg3 harg3 arg4 harg4 arg5 harg5 arg6 harg6 arg7 harg7 arg8 harg8 arg9 harg9 arg10 harg10 arg11 harg11 arg12 harg12 arg13 harg13 v1 v3 v13 hw h3 x3 x4 x5 x6 x8 x12 x13).2.2.1
    = order.map fun p => tilePiece p.1 p.2 (diagVal arg3 arg4 arg6 arg13 x3 x4 x6 x13 v1 v3 p) := rfl

theorem diag_key : (diagStepRun c i arg2 harg2 arg3 harg3 arg4 harg4 arg5 harg5 arg6 harg6 arg7 harg7 arg8 harg8 arg9 harg9 arg10 harg10 arg11 harg11 arg12 harg12 arg13 harg13 v1 v3 v13 hw h3 x3 x4 x5 x6 x8 x12 x13).2.1
    = order.map fun p => tilePiece p.1 p.2 (diagKey arg3 arg4 arg5 arg6 arg12 x3 x4 x5 x6 x12 v1 v3 p) := rfl

theorem diag_query : (diagStepRun c i arg2 harg2 arg3 harg3 arg4 harg4 arg5 harg5 arg6 harg6 arg7 harg7 arg8 harg8 arg9 harg9 arg10 harg10 arg11 harg11 arg12 harg12 arg13 harg13 v1 v3 v13 hw h3 x3 x4 x5 x6 x8 x12 x13).1
    = order.foldr (fun p L => diagAdd arg3 arg4 arg5 arg6 arg8 x3 x4 x5 x6 x8 v1 v3 v13 hw h3 L p) [] := by
  show diagAdd3 arg3 arg4 arg5 arg6 arg8 x3 x4 x5 x6 x8 v1 v3 v13 hw h3 (diagStepRun.sl.H8_15 arg3 arg4 arg5 arg6 arg8 v1 v3 v13 hw h3 x3 x4 x5 x6 x8) 3 = _
  refine congrArg (fun L => diagAdd3 arg3 arg4 arg5 arg6 arg8 x3 x4 x5 x6 x8 v1 v3 v13 hw h3 L 3) ?_
  show diagAdd2 arg3 arg4 arg5 arg6 arg8 x3 x4 x5 x6 x8 v1 v3 v13 hw h3 (diagStepRun.sl.H8_14 arg3 arg4 arg5 arg6 arg8 v1 v3 v13 hw h3 x3 x4 x5 x6 x8) 3 = _
  refine congrArg (fun L => diagAdd2 arg3 arg4 arg5 arg6 arg8 x3 x4 x5 x6 x8 v1 v3 v13 hw h3 L 3) ?_
  show diagAdd1 arg3 arg4 arg5 arg6 arg8 x3 x4 x5 x6 x8 v1 v3 v13 hw h3 (diagStepRun.sl.H8_13 arg3 arg4 arg5 arg6 arg8 v1 v3 v13 hw h3 x3 x4 x5 x6 x8) 3 = _
  refine congrArg (fun L => diagAdd1 arg3 arg4 arg5 arg6 arg8 x3 x4 x5 x6 x8 v1 v3 v13 hw h3 L 3) ?_
  show diagAdd0 arg3 arg4 arg5 arg6 arg8 x3 x4 x5 x6 x8 v1 v3 v13 hw h3 (diagStepRun.sl.H8_12 arg3 arg4 arg5 arg6 arg8 v1 v3 v13 hw h3 x3 x4 x5 x6 x8) 3 = _
  refine congrArg (fun L => diagAdd0 arg3 arg4 arg5 arg6 arg8 x3 x4 x5 x6 x8 v1 v3 v13 hw h3 L 3) ?_
  show diagAdd3 arg3 arg4 arg5 arg6 arg8 x3 x4 x5 x6 x8 v1 v3 v13 hw h3 (diagStepRun.sl.H8_11 arg3 arg4 arg5 arg6 arg8 v1 v3 v13 hw h3 x3 x4 x5 x6 x8) 2 = _
  refine congrArg (fun L => diagAdd3 arg3 arg4 arg5 arg6 arg8 x3 x4 x5 x6 x8 v1 v3 v13 hw h3 L 2) ?_
  show diagAdd2 arg3 arg4 arg5 arg6 arg8 x3 x4 x5 x6 x8 v1 v3 v13 hw h3 (diagStepRun.sl.H8_10 arg3 arg4 arg5 arg6 arg8 v1 v3 v13 hw h3 x3 x4 x5 x6 x8) 2 = _
  refine congrArg (fun L => diagAdd2 arg3 arg4 arg5 arg6 arg8 x3 x4 x5 x6 x8 v1 v3 v13 hw h3 L 2) ?_
  show diagAdd1 arg3 arg4 arg5 arg6 arg8 x3 x4 x5 x6 x8 v1 v3 v13 hw h3 (diagStepRun.sl.H8_9 arg3 arg4 arg5 arg6 arg8 v1 v3 v13 hw h3 x3 x4 x5 x6 x8) 2 = _
  refine congrArg (fun L => diagAdd1 arg3 arg4 arg5 arg6 arg8 x3 x4 x5 x6 x8 v1 v3 v13 hw h3 L 2) ?_
  show diagAdd0 arg3 arg4 arg5 arg6 arg8 x3 x4 x5 x6 x8 v1 v3 v13 hw h3 (diagStepRun.sl.H8_8 arg3 arg4 arg5 arg6 arg8 v1 v3 v13 hw h3 x3 x4 x5 x6 x8) 2 = _
  refine congrArg (fun L => diagAdd0 arg3 arg4 arg5 arg6 arg8 x3 x4 x5 x6 x8 v1 v3 v13 hw h3 L 2) ?_
  show diagAdd3 arg3 arg4 arg5 arg6 arg8 x3 x4 x5 x6 x8 v1 v3 v13 hw h3 (diagStepRun.sl.H8_7 arg3 arg4 arg5 arg6 arg8 v1 v3 v13 hw h3 x3 x4 x5 x6 x8) 1 = _
  refine congrArg (fun L => diagAdd3 arg3 arg4 arg5 arg6 arg8 x3 x4 x5 x6 x8 v1 v3 v13 hw h3 L 1) ?_
  show diagAdd2 arg3 arg4 arg5 arg6 arg8 x3 x4 x5 x6 x8 v1 v3 v13 hw h3 (diagStepRun.sl.H8_6 arg3 arg4 arg5 arg6 arg8 v1 v3 v13 hw h3 x3 x4 x5 x6 x8) 1 = _
  refine congrArg (fun L => diagAdd2 arg3 arg4 arg5 arg6 arg8 x3 x4 x5 x6 x8 v1 v3 v13 hw h3 L 1) ?_
  show diagAdd1 arg3 arg4 arg5 arg6 arg8 x3 x4 x5 x6 x8 v1 v3 v13 hw h3 (diagStepRun.sl.H8_5 arg3 arg4 arg5 arg6 arg8 v1 v3 v13 hw h3 x3 x4 x5 x6 x8) 1 = _
  refine congrArg (fun L => diagAdd1 arg3 arg4 arg5 arg6 arg8 x3 x4 x5 x6 x8 v1 v3 v13 hw h3 L 1) ?_
  show diagAdd0 arg3 arg4 arg5 arg6 arg8 x3 x4 x5 x6 x8 v1 v3 v13 hw h3 (diagStepRun.sl.H8_4 arg3 arg4 arg5 arg6 arg8 v1 v3 v13 hw h3 x3 x4 x5 x6 x8) 1 = _
  refine congrArg (fun L => diagAdd0 arg3 arg4 arg5 arg6 arg8 x3 x4 x5 x6 x8 v1 v3 v13 hw h3 L 1) ?_
  show diagAdd3 arg3 arg4 arg5 arg6 arg8 x3 x4 x5 x6 x8 v1 v3 v13 hw h3 (diagStepRun.sl.H8_3 arg3 arg4 arg5 arg6 arg8 v1 v3 v13 hw h3 x3 x4 x5 x6 x8) 0 = _
  refine congrArg (fun L => diagAdd3 arg3 arg4 arg5 arg6 arg8 x3 x4 x5 x6 x8 v1 v3 v13 hw h3 L 0) ?_
  show diagAdd2 arg3 arg4 arg5 arg6 arg8 x3 x4 x5 x6 x8 v1 v3 v13 hw h3 (diagStepRun.sl.H8_2 arg3 arg4 arg5 arg6 arg8 v1 v3 v13 hw h3 x3 x4 x5 x6 x8) 0 = _
  refine congrArg (fun L => diagAdd2 arg3 arg4 arg5 arg6 arg8 x3 x4 x5 x6 x8 v1 v3 v13 hw h3 L 0) ?_
  show diagAdd1 arg3 arg4 arg5 arg6 arg8 x3 x4 x5 x6 x8 v1 v3 v13 hw h3 (diagStepRun.sl.H8_1 arg3 arg4 arg5 arg6 arg8 v1 v3 v13 hw h3 x3 x4 x5 x6 x8) 0 = _
  refine congrArg (fun L => diagAdd1 arg3 arg4 arg5 arg6 arg8 x3 x4 x5 x6 x8 v1 v3 v13 hw h3 L 0) ?_
  simp only [List.foldr, diagAdd, diagAdd0, View.writes_nil]
  rfl

end Lists

/-! ## What the step leaves -/

section Reads
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)
variable (x3 x4 x5 x6 : Vec Ideal S1024x512 .bf16) (x8 : Vec Ideal S8192x512 .f32) (x12 x13 : Vec Ideal S1024x512 .f32)

theorem rowOf_ofNat (n : ℕ) (hn : n < 64) (o : ℕ) (ho : o < 1024) : rowOf (F := Ideal) (BitVec.ofNat 32 n) (BitVec.ofNat 32 o) = n * 1024 + o := by
  show (BitVec.ofNat 32 n * BitVec.ofNat 32 1024 + BitVec.ofNat 32 o).toNat = _
  rw [← BitVec.ofNat_mul, ← BitVec.ofNat_add, BitVec.toNat_ofNat]
  exact Nat.mod_eq_of_lt (by norm_num; omega)

theorem rowsFrom1_apply (arg : Memref sig .tc .vmem S1024x512 .bf16) (x : Vec Ideal S1024x512 .bf16) (h : Fin 4) (a : Fin 768) (b : Fin 128) :
    rowsFrom1 (F := Ideal) arg x h (ix2 a b) = at2 x (256 + a.val) (h.val * 128 + b.val) :=
  ld_apply' arg.view x ![256, h.val * 128] S768x128.size (inb_from1 h) (ix2 a b)
theorem rowsFrom2_apply (arg : Memref sig .tc .vmem S1024x512 .bf16) (x : Vec Ideal S1024x512 .bf16) (h : Fin 4) (a : Fin 512) (b : Fin 128) :
    rowsFrom2 (F := Ideal) arg x h (ix2 a b) = at2 x (512 + a.val) (h.val * 128 + b.val) :=
  ld_apply' arg.view x ![512, h.val * 128] S512x128.size (inb_from2 h) (ix2 a b)
theorem rowsFrom3_apply (arg : Memref sig .tc .vmem S1024x512 .bf16) (x : Vec Ideal S1024x512 .bf16) (h : Fin 4) (a : Fin 256) (b : Fin 128) :
    rowsFrom3 (F := Ideal) arg x h (ix2 a b) = at2 x (768 + a.val) (h.val * 128 + b.val) :=
  ld_apply' arg.view x ![768, h.val * 128] S256x128.size (inb_from3 h) (ix2 a b)
theorem rowsOf_apply0 (arg : Memref sig .tc .vmem S1024x512 .bf16) (x : Vec Ideal S1024x512 .bf16) (h : Fin 4) (a : Fin 1024) (b : Fin 128) :
    rowsOf (F := Ideal) arg x h (ix2 a b) = at2 x (0 + a.val) (h.val * 128 + b.val) := by rw [rowsOf_apply, zero_add]
theorem tileOf_at (arg : Memref sig .tc .vmem S1024x512 .bf16) (x : Vec Ideal S1024x512 .bf16) (r : Fin 4) (o : ℕ) (ho : r.val * 256 = o) (h : Fin 4) (a : Fin 256) (b : Fin 128) :
    tileOf (F := Ideal) arg x r h (ix2 a b) = at2 x (o + a.val) (h.val * 128 + b.val) := by rw [tileOf_apply, ho]

variable (n : ℕ) (hn : n < 8)

include hn in
theorem diag_val_tile (r : Fin 4) (h : Fin 4) (a : Fin 256) (b : Fin 128) :
    diagVal (F := Ideal) arg3 arg4 arg6 arg13 x3 x4 x6 x13 (BitVec.ofNat 32 n) (BitVec.ofNat 32 n) (r, h) (ix2 a b)
      = at2 x13 (r.val * 256 + a.val) (h.val * 128 + b.val) + addVal x3 x4 x6 true (r.val * 256 + a.val) (h.val * 128 + b.val) :=
  match r with
  | 0 => val0_apply n _ _ _ h a b x3 x4 x6 (by omega) _ _ (fun e d => rowsOf_apply0 arg3 x3 h e d) (fun e d => tileOf_at arg4 x4 0 0 rfl h e d)
      (fun e d => rowsOf_apply0 arg6 x6 h e d) (accOf_apply arg13 x13 0 h a b)
  | 1 => val1_apply n _ _ _ h a b x3 x4 x6 (by omega) _ _ (fun e d => rowsFrom1_apply arg3 x3 h e d) (fun e d => tileOf_at arg4 x4 1 256 rfl h e d)
      (fun e d => rowsFrom1_apply arg6 x6 h e d) (accOf_apply arg13 x13 1 h a b)
  | 2 => val2_apply n _ _ _ h a b x3 x4 x6 (by omega) _ _ (fun e d => rowsFrom2_apply arg3 x3 h e d) (fun e d => tileOf_at arg4 x4 2 512 rfl h e d)
      (fun e d => rowsFrom2_apply arg6 x6 h e d) (accOf_apply arg13 x13 2 h a b)
  | 3 => val3_apply n _ _ _ h a b x3 x4 x6 (by omega) _ _ (fun e d => rowsFrom3_apply arg3 x3 h e d) (fun e d => tileOf_at arg4 x4 3 768 rfl h e d)
      (fun e d => rowsFrom3_apply arg6 x6 h e d) (accOf_apply arg13 x13 3 h a b)

include hn in
theorem diag_key_tile (r : Fin 4) (h : Fin 4) (a : Fin 256) (b : Fin 128) :
    diagKey (F := Ideal) arg3 arg4 arg5 arg6 arg12 x3 x4 x5 x6 x12 (BitVec.ofNat 32 n) (BitVec.ofNat 32 n) (r, h) (ix2 a b)
      = at2 x12 (r.val * 256 + a.val) (h.val * 128 + b.val) + addKey x3 x4 x5 x6 true (r.val * 256 + a.val) (h.val * 128 + b.val) :=
  match r with
  | 0 => key0_apply n _ _ _ _ h a b x3 x4 x5 x6 (by omega) _ _ (fun e d => rowsOf_apply0 arg3 x3 h e d) (fun e d => tileOf_at arg4 x4 0 0 rfl h e d)
      (fun e d => rowsOf_apply0 arg6 x6 h e d) (fun e d => tileOf_at arg5 x5 0 0 rfl h e d) (accOf_apply arg12 x12 0 h a b)
  | 1 => key1_apply n _ _ _ _ h a b x3 x4 x5 x6 (by omega) _ _ (fun e d => rowsFrom1_apply arg3 x3 h e d) (fun e d => tileOf_at arg4 x4 1 256 rfl h e d)
      (fun e d => rowsFrom1_apply arg6 x6 h e d) (fun e d => tileOf_at arg5 x5 1 256 rfl h e d) (accOf_apply arg12 x12 1 h a b)
  | 2 => key2_apply n _ _ _ _ h a b x3 x4 x5 x6 (by omega) _ _ (fun e d => rowsFrom2_apply arg3 x3 h e d) (fun e d => tileOf_at arg4 x4 2 512 rfl h e d)
      (fun e d => rowsFrom2_apply arg6 x6 h e d) (fun e d => tileOf_at arg5 x5 2 512 rfl h e d) (accOf_apply arg12 x12 2 h a b)
  | 3 => key3_apply n _ _ _ _ h a b x3 x4 x5 x6 (by omega) _ _ (fun e d => rowsFrom3_apply arg3 x3 h e d) (fun e d => tileOf_at arg4 x4 3 768 rfl h e d)
      (fun e d => rowsFrom3_apply arg6 x6 h e d) (fun e d => tileOf_at arg5 x5 3 768 rfl h e d) (accOf_apply arg12 x12 3 h a b)

variable (v13 : Elt Ideal .i32) (hw : k0_chk1 (BitVec.ofNat 32 n) v13) (h3 : k0_cond3 v13 = 1#1)

include hn in
theorem diag_val_read (R C : ℕ) (hR : R < 1024) (hC : C < 512) :
    at2 (arg13.view.read (Elt Ideal) (arg13.view.writes (Elt Ideal) (arg13.view.rep x13) (diagStepRun c i arg2 harg2 arg3 harg3 arg4 harg4 arg5 harg5 arg6 harg6 arg7 harg7 arg8 harg8 arg9 harg9 arg10 harg10 arg11 harg11 arg12 harg12 arg13 harg13 (BitVec.ofNat 32 n) (BitVec.ofNat 32 n) v13 hw h3 x3 x4 x5 x6 x8 x12 x13).2.2.1)) R C
      = at2 x13 R C + addVal x3 x4 x6 true R C := by
  rw [diag_val]
  exact read_order arg13 _ _ (fun R C => at2 x13 R C + addVal x3 x4 x6 true R C) (fun r h a b => diag_val_tile arg3 arg4 arg6 arg13 x3 x4 x6 x13 n hn r h a b) R C hR hC

include hn in
theorem diag_key_read (R C : ℕ) (hR : R < 1024) (hC : C < 512) :
    at2 (arg12.view.read (Elt Ideal) (arg12.view.writes (Elt Ideal) (arg12.view.rep x12) (diagStepRun c i arg2 harg2 arg3 harg3 arg4 harg4 arg5 harg5 arg6 harg6 arg7 harg7 arg8 harg8 arg9 harg9 arg10 harg10 arg11 harg11 arg12 harg12 arg13 harg13 (BitVec.ofNat 32 n) (BitVec.ofNat 32 n) v13 hw h3 x3 x4 x5 x6 x8 x12 x13).2.1)) R C
      = at2 x12 R C + addKey x3 x4 x5 x6 true R C := by
  rw [diag_key]
  exact read_order arg12 _ _ (fun R C => at2 x12 R C + addKey x3 x4 x5 x6 true R C) (fun r h a b => diag_key_tile arg3 arg4 arg5 arg6 arg12 x3 x4 x5 x6 x12 n hn r h a b) R C hR hC

/-- A store that adds a sub-tile's part to the rows from `o` of a block of queries adds it to the whole block's: the earlier rows have none. -/
theorem bump_rows (L : List (View.Piece (Elt Ideal) S8192x512 .f32)) (r : Fin 4) (h : Fin 4) (size : Fin 2 → ℕ) (hs0 : size 0 + r.val * 256 = 1024) (hs1 : size 1 = 128)
    (row : ℕ) (hrow : row = n * 1024 + r.val * 256)
    (inb : ∀ a : Fin 2, (![row, h.val * 128] : Fin 2 → ℕ) a + size a ≤ S8192x512.size a)
    (w : (Rect.unit (s := S8192x512) ![row, h.val * 128] size inb).shape.Idx → EReal) (A : ℕ → ℕ → EReal)
    (hA : ∀ R C, R < 8192 → C < 512 → at2 (arg8.view.read (Elt Ideal) (arg8.view.writes (Elt Ideal) (arg8.view.rep x8) L)) R C = A R C)
    (hw : ∀ y, w y = View.readAt (Elt Ideal) arg8.view (Rect.unit (s := S8192x512) ![row, h.val * 128] size inb).toLoadRect (arg8.view.writes (Elt Ideal) (arg8.view.rep x8) L) y
      + addQueryOf x3 x4 x5 x6 true r.val (r.val * 256 + (y 0).val) (h.val * 128 + (y 1).val))
    (R C : ℕ) (hR : R < 8192) (hC : C < 512) :
    at2 (arg8.view.read (Elt Ideal) (arg8.view.writes (Elt Ideal) (arg8.view.rep x8) (⟨Rect.unit (s := S8192x512) ![row, h.val * 128] size inb, w⟩ :: L))) R C
      = A R C + if (n * 1024 ≤ R ∧ R < n * 1024 + 1024) ∧ h.val * 128 ≤ C ∧ C < h.val * 128 + 128 then addQueryOf x3 x4 x5 x6 true r.val (R - n * 1024) C else 0 := by
  subst hrow
  refine (read_bump arg8.view (arg8.view.rep x8) L _ size inb w A (fun R C => addQueryOf x3 x4 x5 x6 true r.val (R - n * 1024) C) hA (fun y => ?_) R C hR hC).trans
    (congrArg (A R C + ·) ?_)
  · refine (hw y).trans (congrArg₂ (· + ·) ?_ ?_)
    · refine (ld_writes_apply arg8.view _ _ size inb y).trans (hA _ _ ?_ ?_)
      · exact Nat.lt_of_lt_of_le (Nat.add_lt_add_left (y 0).isLt _) (inb 0)
      · exact Nat.lt_of_lt_of_le (Nat.add_lt_add_left (y 1).isLt _) (inb 1)
    · show _ = addQueryOf x3 x4 x5 x6 true r.val (n * 1024 + r.val * 256 + (y 0).val - n * 1024) (h.val * 128 + (y 1).val)
      rw [Nat.add_assoc, Nat.add_sub_cancel_left]
  · show (if (n * 1024 + r.val * 256 ≤ R ∧ R < n * 1024 + r.val * 256 + size 0) ∧ h.val * 128 ≤ C ∧ C < h.val * 128 + size 1 then _ else _) = _
    rw [hs1]
    by_cases hlow : R < n * 1024 + r.val * 256
    · rw [if_neg (by omega)]
      by_cases hin : (n * 1024 ≤ R ∧ R < n * 1024 + 1024) ∧ h.val * 128 ≤ C ∧ C < h.val * 128 + 128
      · rw [if_pos hin, addQueryOf_masked _ _ _ _ _ _ _ (by omega)]
      · rw [if_neg hin]
    · exact if_congr (by omega) rfl rfl

include hn in
theorem diag_query_add (p : Fin 4 × Fin 4) (L : List (View.Piece (Elt Ideal) S8192x512 .f32)) (A : ℕ → ℕ → EReal)
    (hA : ∀ R C, R < 8192 → C < 512 → at2 (arg8.view.read (Elt Ideal) (arg8.view.writes (Elt Ideal) (arg8.view.rep x8) L)) R C = A R C) (R C : ℕ) (hR : R < 8192) (hC : C < 512) :
    at2 (arg8.view.read (Elt Ideal) (arg8.view.writes (Elt Ideal) (arg8.view.rep x8) (diagAdd (F := Ideal) arg3 arg4 arg5 arg6 arg8 x3 x4 x5 x6 x8 (BitVec.ofNat 32 n) (BitVec.ofNat 32 n) v13 hw h3 L p))) R C
      = A R C + if (n * 1024 ≤ R ∧ R < n * 1024 + 1024) ∧ p.2.val * 128 ≤ C ∧ C < p.2.val * 128 + 128 then addQueryOf x3 x4 x5 x6 true p.1.val (R - n * 1024) C else 0 :=
  match p with
  | (0, h) => bump_rows arg8 x3 x4 x5 x6 x8 n L 0 h S1024x128.size rfl rfl _ (rowOf_ofNat n (by omega) 0 (by omega)) (diag_inb0 (F := Ideal) _ v13 hw h3 h) _ A hA
      (fun y => (congrArg _ (eq_ix2 (n0 := 1024) (n1 := 128) y)).trans ((query0_apply n _ _ h (y 1) x3 x4 x5 x6 (by omega) _ _ (fun e d => rowsOf_apply0 arg3 x3 h e d)
        (fun e d => tileOf_at arg4 x4 0 0 rfl h e d) (fun e d => rowsOf_apply0 arg6 x6 h e d) (fun e d => tileOf_at arg5 x5 0 0 rfl h e d) _ (y 0)).trans
        (congrArg (· + _) (congrArg _ (eq_ix2 (n0 := 1024) (n1 := 128) y).symm)))) R C hR hC
  | (1, h) => bump_rows arg8 x3 x4 x5 x6 x8 n L 1 h S768x128.size rfl rfl _ (rowOf_ofNat n (by omega) 256 (by omega)) (diag_inb1 (F := Ideal) _ v13 hw h3 h) _ A hA
      (fun y => (congrArg _ (eq_ix2 (n0 := 768) (n1 := 128) y)).trans ((query1_apply n _ _ h (y 1) x3 x4 x5 x6 (by omega) _ _ (fun e d => rowsFrom1_apply arg3 x3 h e d)
        (fun e d => tileOf_at arg4 x4 1 256 rfl h e d) (fun e d => rowsFrom1_apply arg6 x6 h e d) (fun e d => tileOf_at arg5 x5 1 256 rfl h e d) _ (y 0)).trans
        (congrArg (· + _) (congrArg _ (eq_ix2 (n0 := 768) (n1 := 128) y).symm)))) R C hR hC
  | (2, h) => bump_rows arg8 x3 x4 x5 x6 x8 n L 2 h S512x128.size rfl rfl _ (rowOf_ofNat n (by omega) 512 (by omega)) (diag_inb2 (F := Ideal) _ v13 hw h3 h) _ A hA
      (fun y => (congrArg _ (eq_ix2 (n0 := 512) (n1 := 128) y)).trans ((query2_apply n _ _ h (y 1) x3 x4 x5 x6 (by omega) _ _ (fun e d => rowsFrom2_apply arg3 x3 h e d)
        (fun e d => tileOf_at arg4 x4 2 512 rfl h e d) (fun e d => rowsFrom2_apply arg6 x6 h e d) (fun e d => tileOf_at arg5 x5 2 512 rfl h e d) _ (y 0)).trans
        (congrArg (· + _) (congrArg _ (eq_ix2 (n0 := 512) (n1 := 128) y).symm)))) R C hR hC
  | (3, h) => bump_rows arg8 x3 x4 x5 x6 x8 n L 3 h S256x128.size rfl rfl _ (rowOf_ofNat n (by omega) 768 (by omega)) (diag_inb3 (F := Ideal) _ v13 hw h3 h) _ A hA
      (fun y => (congrArg _ (eq_ix2 (n0 := 256) (n1 := 128) y)).trans ((query3_apply n _ _ h (y 1) x3 x4 x5 x6 (by omega) _ _ (fun e d => rowsFrom3_apply arg3 x3 h e d)
        (fun e d => tileOf_at arg4 x4 3 768 rfl h e d) (fun e d => rowsFrom3_apply arg6 x6 h e d) (fun e d => tileOf_at arg5 x5 3 768 rfl h e d) _ (y 0)).trans
        (congrArg (· + _) (congrArg _ (eq_ix2 (n0 := 256) (n1 := 128) y).symm)))) R C hR hC

include hn in
theorem diag_query_read (R C : ℕ) (hR : R < 8192) (hC : C < 512) :
    at2 (arg8.view.read (Elt Ideal) (arg8.view.writes (Elt Ideal) (arg8.view.rep x8) (diagStepRun c i arg2 harg2 arg3 harg3 arg4 harg4 arg5 harg5 arg6 harg6 arg7 harg7 arg8 harg8 arg9 harg9 arg10 harg10 arg11 harg11 arg12 harg12 arg13 harg13 (BitVec.ofNat 32 n) (BitVec.ofNat 32 n) v13 hw h3 x3 x4 x5 x6 x8 x12 x13).1)) R C
      = at2 x8 R C + if n * 1024 ≤ R ∧ R < n * 1024 + 1024 then addQuery x3 x4 x5 x6 true (R - n * 1024) C else 0 := by
  rw [diag_query, addQuery_eq, ← order_sum (at2 x8 R C) (fun r => addQueryOf x3 x4 x5 x6 true r.val (R - n * 1024) C) _ C hC]
  generalize order = l
  revert R C
  induction l with
  | nil =>
    intro R C hR hC
    rw [List.foldr_nil, List.foldr_nil, View.writes_nil, View.read_rep]
  | cons p l ih =>
    intro R C hR hC
    rw [List.foldr_cons, List.foldr_cons]
    exact diag_query_add arg3 arg4 arg5 arg6 arg8 x3 x4 x5 x6 x8 n hn v13 hw h3 p _ (fun R C => l.foldr _ (at2 x8 R C)) (fun R C hR hC => ih R C hR hC) R C hR hC

end Reads

end Fox
-- ==== Proof.FoxTable.lean ====
/- The forget-gate attention's backward kernel's table of block pairs, and what the pipeline does with it: the words at a point, the
   side conditions they meet, where a window is idle, written back, and holds nothing yet. -/
module

public import proofs.«01_k».proof.Proof.FoxBody
public import Idealize.ShloMosaic.Lib.Pipeline.TableIdle
public import Idealize.ShloMosaic.PureOps.BitExact

@[expose] public section

set_option maxRecDepth 16384

noncomputable section

namespace Fox

open Cert.FoxBwdIdeal Cert.FoxBwdIdeal.Gen
open Idealize.ShloMosaic Idealize.ShloMosaic.TcCoe
open Idealize.ShloMosaic.Pipeline (Dat Cfg Window)

variable {F : FTy → Type} [FloatOps F] [Named F]

/-- The table: of each of the 36 pairs the row block, the column block, whether the pair is on the diagonal, and whether it
    is its column's first and last. -/
def tab : Vec F S5x36 .i32 := fun i => lit0 (S5x36.rowMajor i)

def pf : pre0.Contents (Elt F)
  | ⟨0, _⟩ => tab
  | ⟨_ + 1, h⟩ => absurd h (Nat.not_lt.2 (Nat.le_add_left _ _))

/-- The numbers are meant to be read as bits here: only the table's integers matter. -/
local instance bitsNamed : Named Bits := ⟨fun _ _ {φ} b => FloatOps.ofBits φ b⟩

theorem ok_bits : ok0 (F := Bits) pf := by decide +kernel

theorem ok : ok0 (F := F) pf := ok_bits

def adm : (pcfg0 (F := F)).Adm := ⟨pf, ok⟩
abbrev cfgA : Cfg sig Λ₀ := cfg0 (F := F) adm

/-- The point's position among its head group's 36 block pairs. -/
abbrev col (i : grid0.Coords) : ℕ := (i 1).val

/-- The table's word in row `r` at a point. -/
def w (r : Fin 5) (i : grid0.Coords) : BitVec 32 := lit0 (S5x36.rowMajor (fun | ⟨0, _⟩ => r | ⟨1, _⟩ => i 1))

/-- What the body reads of the table. -/
theorem word_eq (r : Fin 5) (i : grid0.Coords) (off : Fin 2 → ℕ) (inb : ∀ a, off a + S1x1.size a ≤ S5x36.size a) (h0 : off 0 = r.val) (h1 : off 1 = (i 1).val) :
    word (F := F) (Memref.whole main_c) tab off inb = w r i := by
  unfold word
  rw [View.readAt_rep_unit _ _ _ rfl inb]
  show tab (F := F) _ = _
  unfold tab w
  congr 2
  funext a
  apply Fin.ext
  match a with
  | ⟨0, _⟩ => show off 0 + 1 * 0 = r.val; omega
  | ⟨1, _⟩ => show off 1 + 1 * 0 = (i 1).val; omega

theorem atD_eq (r : Fin 5) (i : grid0.Coords) (off : Fin 2 → ℕ) (inb : ∀ a, off a + S1x1.size a ≤ S5x36.size a) (h0 : off 0 = r.val) (h1 : off 1 = (i 1).val) :
    (pf (F := F)).atD 0 off = w r i := by
  have hb : ∀ a, off a + 1 ≤ (pre0.ref 0).ty.shape.size a := fun
    | ⟨0, _⟩ => inb 0
    | ⟨1, _⟩ => inb 1
  refine (dif_pos hb).trans ?_
  show tab (F := F) _ = _
  unfold tab w
  congr 2
  funext a
  apply Fin.ext
  match a with
  | ⟨0, _⟩ => exact h0
  | ⟨1, _⟩ => exact h1

theorem offs (i : grid0.Coords) : (k0_off1 i 0 = 0 ∧ k0_off1 i 1 = (i 1).val) ∧ (k0_off2 i 0 = 1 ∧ k0_off2 i 1 = (i 1).val) ∧ (k0_off3 i 0 = 3 ∧ k0_off3 i 1 = (i 1).val)
    ∧ (k0_off4 i 0 = 2 ∧ k0_off4 i 1 = (i 1).val) ∧ (k0_off21 i 0 = 2 ∧ k0_off21 i 1 = (i 1).val) ∧ (k0_off26 i 0 = 4 ∧ k0_off26 i 1 = (i 1).val) := by
  revert i; decide +kernel

theorem word1_eq (i : grid0.Coords) : word1 (F := F) i (Memref.whole main_c) tab = w 0 i := word_eq 0 i _ _ (offs i).1.1 (offs i).1.2
theorem word2_eq (i : grid0.Coords) : word2 (F := F) i (Memref.whole main_c) tab = w 1 i := word_eq 1 i _ _ (offs i).2.1.1 (offs i).2.1.2
theorem word3_eq (i : grid0.Coords) : word3 (F := F) i (Memref.whole main_c) tab = w 3 i := word_eq 3 i _ _ (offs i).2.2.1.1 (offs i).2.2.1.2
theorem word4_eq (i : grid0.Coords) : word4 (F := F) i (Memref.whole main_c) tab = w 2 i := word_eq 2 i _ _ (offs i).2.2.2.1.1 (offs i).2.2.2.1.2
theorem word5_eq (i : grid0.Coords) : word5 (F := F) i (Memref.whole main_c) tab = w 2 i := word_eq 2 i _ _ (offs i).2.2.2.2.1.1 (offs i).2.2.2.2.1.2
theorem word6_eq (i : grid0.Coords) : word6 (F := F) i (Memref.whole main_c) tab = w 4 i := word_eq 4 i _ _ (offs i).2.2.2.2.2.1 (offs i).2.2.2.2.2.2

theorem chk1 (i : grid0.Coords) : k0_chk1 (w 0 i) (w 2 i) := by revert i; decide +kernel
theorem chk2 (i : grid0.Coords) : k0_chk2 (w 0 i) (w 2 i) := by revert i; decide +kernel

/-- Where the body writes nothing into a window: never into the query gradient's, -/
theorem idle5 (i : grid0.Coords) : (cfgA (F := F)).idle (5 : Fin 9) i = false := by
  show (!(k0_cond1 i == 1#1) && !(k0_cond3 ((pf (F := F)).atD 0 (k0_off4 i)) == 1#1) && !(k0_cond4 ((pf (F := F)).atD 0 (k0_off21 i)) == 1#1)) = false
  rw [atD_eq 2 i _ (k0_off4_inb i) (offs i).2.2.2.1.1 (offs i).2.2.2.1.2, atD_eq 2 i _ (k0_off21_inb i) (offs i).2.2.2.2.1.1 (offs i).2.2.2.2.1.2]
  revert i; decide +kernel
/-- into a column's where it does not end, -/
theorem idle4 (i : grid0.Coords) : (cfgA (F := F)).idle (4 : Fin 9) i = !(k0_cond5 (w 4 i) == 1#1) := by
  show (!(k0_cond5 ((pf (F := F)).atD 0 (k0_off26 i)) == 1#1)) = _
  rw [atD_eq 4 i _ (k0_off26_inb i) (offs i).2.2.2.2.2.1 (offs i).2.2.2.2.2.2]
theorem idle6 (i : grid0.Coords) : (cfgA (F := F)).idle (6 : Fin 9) i = !(k0_cond5 (w 4 i) == 1#1) := by
  show (!(k0_cond5 ((pf (F := F)).atD 0 (k0_off26 i)) == 1#1)) = _
  rw [atD_eq 4 i _ (k0_off26_inb i) (offs i).2.2.2.2.2.1 (offs i).2.2.2.2.2.2]
theorem idle8 (i : grid0.Coords) : (cfgA (F := F)).idle (8 : Fin 9) i = !(k0_cond5 (w 4 i) == 1#1) := by
  show (!(k0_cond5 ((pf (F := F)).atD 0 (k0_off26 i)) == 1#1)) = _
  rw [atD_eq 4 i _ (k0_off26_inb i) (offs i).2.2.2.2.2.1 (offs i).2.2.2.2.2.2]
/-- into the rows' sums where the head group does not end. -/
theorem idle7 (i : grid0.Coords) : (cfgA (F := F)).idle (7 : Fin 9) i = !(k0_cond6 i == 1#1) := rfl

/-- A column's results are written back where the column ends, the others where the head group ends. -/
theorem flush_bits : ∀ t : Fin (cfgA (F := Bits)).N,
    ((cfgA (F := Bits)).win (4 : Fin 9)).flush t = (k0_cond5 (w 4 (grid0.coords t)) == 1#1)
    ∧ ((cfgA (F := Bits)).win (5 : Fin 9)).flush t = (((grid0.coords t) 1).val == 35)
    ∧ ((cfgA (F := Bits)).win (6 : Fin 9)).flush t = (k0_cond5 (w 4 (grid0.coords t)) == 1#1)
    ∧ ((cfgA (F := Bits)).win (7 : Fin 9)).flush t = (k0_cond6 (grid0.coords t) == 1#1)
    ∧ ((cfgA (F := Bits)).win (8 : Fin 9)).flush t = (k0_cond5 (w 4 (grid0.coords t)) == 1#1) := by
  show ∀ t : Fin grid0.N, _
  decide +kernel
theorem flush_eq (t : Fin (cfgA (F := F)).N) :
    ((cfgA (F := F)).win (4 : Fin 9)).flush t = (k0_cond5 (w 4 (grid0.coords t)) == 1#1)
    ∧ ((cfgA (F := F)).win (5 : Fin 9)).flush t = (((grid0.coords t) 1).val == 35)
    ∧ ((cfgA (F := F)).win (6 : Fin 9)).flush t = (k0_cond5 (w 4 (grid0.coords t)) == 1#1)
    ∧ ((cfgA (F := F)).win (7 : Fin 9)).flush t = (k0_cond6 (grid0.coords t) == 1#1)
    ∧ ((cfgA (F := F)).win (8 : Fin 9)).flush t = (k0_cond5 (w 4 (grid0.coords t)) == 1#1) := flush_bits t

end Fox

end
-- ==== Proof.FoxRun.lean ====
/- The forget-gate attention's backward kernel's pipeline: what the query gradient's block and the accumulators hold after every point,
   the pipeline's proof data, and the body's obligation. -/
module

public import proofs.«01_k».proof.Proof.FoxTable
public import Idealize.ShloMosaic.Lib.Pipeline.Kit
public import Idealize.ShloMosaic.Lib.Pipeline.FrameBody

@[expose] public section

set_option maxRecDepth 16384

noncomputable section

namespace Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ)

/-- The buffers when the kernel starts. -/
def V (c : Dev nD) : Valuation τ sig (Elt F) :=
  StableHlo.after hostOps0_2 (StableHlo.after hostOps0_1 (StableHlo.after hostOps0 (fun b => m (c, b))))

variable (c : Dev nD)

/-- The window's current buffer at a point. -/
abbrev ms0 (t : Fin (cfgA (F := F)).N) : Memref sig .tc .vmem S1024x512 .bf16 := spec0_0.stage ((cfgA (F := F)).slots t (0 : Fin 9))
abbrev hs0 (t : Fin (cfgA (F := F)).N) : (ms0 (F := F) t).IsWhole := hstage0_0 (((cfgA (F := F)).slots t (0 : Fin 9)).cast nbuf0_0)
abbrev ms1 (t : Fin (cfgA (F := F)).N) : Memref sig .tc .vmem S1024x512 .bf16 := spec0_1.stage ((cfgA (F := F)).slots t (1 : Fin 9))
abbrev hs1 (t : Fin (cfgA (F := F)).N) : (ms1 (F := F) t).IsWhole := hstage0_1 (((cfgA (F := F)).slots t (1 : Fin 9)).cast nbuf0_1)
abbrev ms2 (t : Fin (cfgA (F := F)).N) : Memref sig .tc .vmem S1024x512 .bf16 := spec0_2.stage ((cfgA (F := F)).slots t (2 : Fin 9))
abbrev hs2 (t : Fin (cfgA (F := F)).N) : (ms2 (F := F) t).IsWhole := hstage0_2 (((cfgA (F := F)).slots t (2 : Fin 9)).cast nbuf0_2)
abbrev ms3 (t : Fin (cfgA (F := F)).N) : Memref sig .tc .vmem S1024x512 .bf16 := spec0_3.stage ((cfgA (F := F)).slots t (3 : Fin 9))
abbrev hs3 (t : Fin (cfgA (F := F)).N) : (ms3 (F := F) t).IsWhole := hstage0_3 (((cfgA (F := F)).slots t (3 : Fin 9)).cast nbuf0_3)
abbrev ms4 (t : Fin (cfgA (F := F)).N) : Memref sig .tc .vmem S1024x512 .bf16 := spec0_4.stage ((cfgA (F := F)).slots t (4 : Fin 9))
abbrev hs4 (t : Fin (cfgA (F := F)).N) : (ms4 (F := F) t).IsWhole := hstage0_4 (((cfgA (F := F)).slots t (4 : Fin 9)).cast nbuf0_4)
abbrev ms5 (t : Fin (cfgA (F := F)).N) : Memref sig .tc .vmem S8192x512 .f32 := spec0_5.stage ((cfgA (F := F)).slots t (5 : Fin 9))
abbrev hs5 (t : Fin (cfgA (F := F)).N) : (ms5 (F := F) t).IsWhole := hstage0_5 (((cfgA (F := F)).slots t (5 : Fin 9)).cast nbuf0_5)
abbrev ms6 (t : Fin (cfgA (F := F)).N) : Memref sig .tc .vmem S1024x512 .bf16 := spec0_6.stage ((cfgA (F := F)).slots t (6 : Fin 9))
abbrev hs6 (t : Fin (cfgA (F := F)).N) : (ms6 (F := F) t).IsWhole := hstage0_6 (((cfgA (F := F)).slots t (6 : Fin 9)).cast nbuf0_6)
abbrev ms7 (t : Fin (cfgA (F := F)).N) : Memref sig .tc .vmem S1x8192x4 .f32 := spec0_7.stage ((cfgA (F := F)).slots t (7 : Fin 9))
abbrev hs7 (t : Fin (cfgA (F := F)).N) : (ms7 (F := F) t).IsWhole := hstage0_7 (((cfgA (F := F)).slots t (7 : Fin 9)).cast nbuf0_7)
abbrev ms8 (t : Fin (cfgA (F := F)).N) : Memref sig .tc .vmem S1x1024x4 .f32 := spec0_8.stage ((cfgA (F := F)).slots t (8 : Fin 9))
abbrev hs8 (t : Fin (cfgA (F := F)).N) : (ms8 (F := F) t).IsWhole := hstage0_8 (((cfgA (F := F)).slots t (8 : Fin 9)).cast nbuf0_8)

/-- The body at a point. -/
abbrev bodyAt (t : Fin (cfgA (F := F)).N) : Body F :=
  cc0_fox_attn_bwd (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _)

/-- The window's block at a point. -/
def iblk (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Proc.devRef .tc (Pipeline.arrRef spec0 w)))

theorem hw1 (i : grid0.Coords) : k0_chk1 (word1 (F := F) i (Memref.whole main_c) tab) (word4 (F := F) i (Memref.whole main_c) tab) := by
  rw [word1_eq, word4_eq]; exact chk1 i
theorem hw2 (i : grid0.Coords) : k0_chk2 (word1 (F := F) i (Memref.whole main_c) tab) (word5 (F := F) i (Memref.whole main_c) tab) := by
  rw [word1_eq, word5_eq]; exact chk2 i

/-- The body's step from one state to the next. -/
def step (t : Fin (cfgA (F := F)).N) (s : State F) : State F :=
  bodyRes c (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _) tab (iblk m c (0 : Fin 9) t) (iblk m c (1 : Fin 9) t) (iblk m c (2 : Fin 9) t) (iblk m c (3 : Fin 9) t) s.1 s.2.1 s.2.2 (hw1 _) (hw2 _)

/-- The state after a point. -/
def traj : (n : ℕ) → n < (cfgA (F := F)).N → State F
  | 0, h => step m c ⟨0, h⟩ (k0_pay1, k0_pay2, k0_pay3)
  | n + 1, h => step m c ⟨n + 1, h⟩ (traj n (Nat.lt_of_succ_lt h))

/-- The state before a point. -/
def prev (n : ℕ) (hn : n ≤ (cfgA (F := F)).N) : State F :=
  if h : n = 0 then (k0_pay1, k0_pay2, k0_pay3) else traj m c (n - 1) (by omega)

theorem traj_eq (t : Fin (cfgA (F := F)).N) : traj m c t.val t.isLt = step m c t (prev m c t.val (Nat.le_of_lt t.isLt)) := by
  obtain ⟨n, hn⟩ := t
  cases n with
  | zero => rfl
  | succ n => unfold prev; simp only [Nat.add_one_ne_zero, dif_neg, not_false_eq_true]; rfl

theorem prev_succ (t : Fin (cfgA (F := F)).N) : prev m c (t.val + 1) t.isLt = traj m c t.val t.isLt := by
  unfold prev; simp only [Nat.add_one_ne_zero, ↓reduceDIte, Nat.add_one_sub_one]

/-- At a head group's first point the state before does not matter. -/
theorem starts (i : grid0.Coords) (h : (i 1).val = 0) :
    k0_cond1 i = 1#1 ∧ Scalar.cmpi .ne (Scalar.extui (Scalar.cmpi .eq (w 3 i) 1#32) : BitVec 32) 0#32 = 1#1 := by
  revert i; decide +kernel

theorem step_start (t : Fin (cfgA (F := F)).N) (h : (grid0.coords t 1).val = 0) (s s' : State F) : step m c t s = step m c t s' := by
  unfold step bodyRes
  have e : ∀ u : State F, cleared (grid0.coords t) (Memref.whole main_c) tab u.1 u.2.1 u.2.2 = (k0_pay1, k0_pay2, k0_pay3) := fun u => by
    unfold cleared
    rw [if_pos (starts _ h).1, if_pos (by rw [word3_eq]; exact (starts _ h).2), if_pos (by rw [word3_eq]; exact (starts _ h).2)]
  rw [e s, e s']

/-! ## The pipeline's proof data -/

/-- Before a point: the accumulators at the state, once there is one, and the table. -/
def Phi (n : ℕ) (hn : n ≤ (cfgA (F := F)).N) : sProp 𝕄 :=
  iprop((∃ x12 x13, ⌜n ≠ 0 → x12 = (prev m c n hn).2.1 ∧ x13 = (prev m c n hn).2.2⌝
    ∗ holds c (Memref.whole cc0_scratch0) x12 ∗ holds c (Memref.whole cc0_scratch1) x13)
    ∗ ((Memref.whole main_c).view.loc (c : Thread nD τ) ↦[(Memref.whole main_c).view.set]{fullShare} (Memref.whole main_c).view.rep tab))

def dats (_ : Fin 1) (c : Dev nD) : Dat τ (Elt F) Unit ℕ (UR sig nD τ) ℕ (cfgA (F := F)) c where
  A w := V m c (Proc.devRef .tc (Pipeline.arrRef spec0 w))
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => k0_pay280 (traj m c t.val t.isLt).2.1
    | ⟨5, _⟩ => (traj m c t.val t.isLt).1
    | ⟨6, _⟩ => k0_pay281 (traj m c t.val t.isLt).2.2
    | ⟨7, _⟩ => rowSums (traj m c t.val t.isLt).1
    | ⟨8, _⟩ => colSums (traj m c t.val t.isLt).2.1
  Φ t := Phi m c t.val (Nat.le_of_lt_succ t.isLt)
  q _ := fullShare
  owed _ := 0

theorem after0 (t : Fin (cfgA (F := F)).N) : (dats m 0 c).after (0 : Fin 9) t = iblk m c (0 : Fin 9) t := rfl
theorem after1 (t : Fin (cfgA (F := F)).N) : (dats m 0 c).after (1 : Fin 9) t = iblk m c (1 : Fin 9) t := rfl
theorem after2 (t : Fin (cfgA (F := F)).N) : (dats m 0 c).after (2 : Fin 9) t = iblk m c (2 : Fin 9) t := rfl
theorem after3 (t : Fin (cfgA (F := F)).N) : (dats m 0 c).after (3 : Fin 9) t = iblk m c (3 : Fin 9) t := rfl
theorem after4 (t : Fin (cfgA (F := F)).N) : (dats m 0 c).after (4 : Fin 9) t = k0_pay280 (traj m c t.val t.isLt).2.1 := rfl
theorem after5 (t : Fin (cfgA (F := F)).N) : (dats m 0 c).after (5 : Fin 9) t = (traj m c t.val t.isLt).1 := rfl
theorem after6 (t : Fin (cfgA (F := F)).N) : (dats m 0 c).after (6 : Fin 9) t = k0_pay281 (traj m c t.val t.isLt).2.2 := rfl
theorem after7 (t : Fin (cfgA (F := F)).N) : (dats m 0 c).after (7 : Fin 9) t = rowSums (traj m c t.val t.isLt).1 := rfl
theorem after8 (t : Fin (cfgA (F := F)).N) : (dats m 0 c).after (8 : Fin 9) t = colSums (traj m c t.val t.isLt).2.1 := rfl

theorem before0 (t : Fin (cfgA (F := F)).N) (d) : (dats m 0 c).before (0 : Fin 9) t d = iblk m c (0 : Fin 9) t :=
  ((dats m 0 c).before_in_eq_fetched (0 : Fin 9) rfl (fun _ => rfl) (fun _ _ _ => rfl) (fun t => by rw [after0]; unfold Dat.blockOf iblk; rfl) t d).trans
    (by unfold Dat.fetched Dat.blockOf iblk; rfl)
theorem before1 (t : Fin (cfgA (F := F)).N) (d) : (dats m 0 c).before (1 : Fin 9) t d = iblk m c (1 : Fin 9) t :=
  ((dats m 0 c).before_in_eq_fetched (1 : Fin 9) rfl (fun _ => rfl) (fun _ _ _ => rfl) (fun t => by rw [after1]; unfold Dat.blockOf iblk; rfl) t d).trans
    (by unfold Dat.fetched Dat.blockOf iblk; rfl)
theorem before2 (t : Fin (cfgA (F := F)).N) (d) : (dats m 0 c).before (2 : Fin 9) t d = iblk m c (2 : Fin 9) t :=
  ((dats m 0 c).before_in_eq_fetched (2 : Fin 9) rfl (fun _ => rfl) (fun _ _ _ => rfl) (fun t => by rw [after2]; unfold Dat.blockOf iblk; rfl) t d).trans
    (by unfold Dat.fetched Dat.blockOf iblk; rfl)
theorem before3 (t : Fin (cfgA (F := F)).N) (d) : (dats m 0 c).before (3 : Fin 9) t d = iblk m c (3 : Fin 9) t :=
  ((dats m 0 c).before_in_eq_fetched (3 : Fin 9) rfl (fun _ => rfl) (fun _ _ _ => rfl) (fun t => by rw [after3]; unfold Dat.blockOf iblk; rfl) t d).trans
    (by unfold Dat.fetched Dat.blockOf iblk; rfl)

/-- Of the query gradient's window nothing is kept from one head group to the next; -/
def fr5 (n : ℕ) : Bool := n % 36 == 0
theorem fr5_next : ∀ t : Fin grid0.N, fr5 (t.val + 1) = ((grid0.coords t 1).val == 35) := by decide +kernel
theorem fr5_step : ∀ t : Fin (cfgA (F := F)).N,
    fr5 (t.val + 1) = (((cfgA (F := F)).win (5 : Fin 9)).flush t || ((cfgA (F := F)).idle (5 : Fin 9) ((cfgA (F := F)).grid.coords t) && fr5 t.val)) := fun t => by
  rw [(flush_eq t).2.1, idle5, Bool.false_and, Bool.or_false]
  exact fr5_next t
theorem fresh5 (t : Fin (cfgA (F := F)).N) : (cfgA (F := F)).fresh (5 : Fin 9) t.val = fr5 t.val :=
  Pipeline.Cfg.fresh_tab (cfgA (F := F)) (5 : Fin 9) fr5 rfl fr5_step t.val (Nat.le_of_lt t.isLt)
theorem fr5_eq : ∀ t : Fin grid0.N, fr5 t.val = ((grid0.coords t 1).val == 0) := by decide +kernel

/-- of the others' nothing before they are written back. -/
theorem fresh_of (k : Fin 9) (C : Fin (cfgA (F := F)).N → Bool) (hf : ∀ t, ((cfgA (F := F)).win k).flush t = C t) (hi : ∀ t, (cfgA (F := F)).idle k ((cfgA (F := F)).grid.coords t) = !(C t))
    (t : Fin (cfgA (F := F)).N) : (cfgA (F := F)).fresh k t.val = true :=
  Pipeline.Cfg.fresh_tab (cfgA (F := F)) k (fun _ => true) rfl (fun t => by rw [hf, hi]; cases C t <;> rfl) t.val (Nat.le_of_lt t.isLt)
theorem fresh4 (t : Fin (cfgA (F := F)).N) : (cfgA (F := F)).fresh (4 : Fin 9) t.val = true := fresh_of 4 _ (fun t => (flush_eq t).1) (fun _ => idle4 _) t
theorem fresh6 (t : Fin (cfgA (F := F)).N) : (cfgA (F := F)).fresh (6 : Fin 9) t.val = true := fresh_of 6 _ (fun t => (flush_eq t).2.2.1) (fun _ => idle6 _) t
theorem fresh7 (t : Fin (cfgA (F := F)).N) : (cfgA (F := F)).fresh (7 : Fin 9) t.val = true := fresh_of 7 _ (fun t => (flush_eq t).2.2.2.1) (fun _ => idle7 _) t
theorem fresh8 (t : Fin (cfgA (F := F)).N) : (cfgA (F := F)).fresh (8 : Fin 9) t.val = true := fresh_of 8 _ (fun t => (flush_eq t).2.2.2.2) (fun _ => idle8 _) t

theorem before5 (t : Fin (cfgA (F := F)).N) (d) : (dats m 0 c).before (5 : Fin 9) t d = if (grid0.coords t 1).val == 0 then d else (prev m c t.val (Nat.le_of_lt t.isLt)).1 := by
  rw [(dats m 0 c).before_out_traj (5 : Fin 9) rfl (fun _ _ => rfl) (fun t _ hi _ => by rw [idle5] at hi; exact absurd hi (by decide)) t.val t rfl d, fresh5, fr5_eq t]
  by_cases h : ((grid0.coords t 1).val == 0) = true
  · rw [if_pos h, if_pos h]
  · rw [if_neg h, if_neg h]
    have h0 : t.val ≠ 0 := fun h0 => h (by rw [← fr5_eq t, h0]; rfl)
    rw [after5]; unfold prev; rw [dif_neg h0]
theorem before4 (t : Fin (cfgA (F := F)).N) (d) : (dats m 0 c).before (4 : Fin 9) t d = d := by
  rw [(dats m 0 c).before_out_traj (4 : Fin 9) rfl (fun _ _ => rfl) (fun t _ _ hf => by rw [fresh4] at hf; exact absurd hf (by decide)) t.val t rfl d, fresh4, if_pos rfl]
theorem before6 (t : Fin (cfgA (F := F)).N) (d) : (dats m 0 c).before (6 : Fin 9) t d = d := by
  rw [(dats m 0 c).before_out_traj (6 : Fin 9) rfl (fun _ _ => rfl) (fun t _ _ hf => by rw [fresh6] at hf; exact absurd hf (by decide)) t.val t rfl d, fresh6, if_pos rfl]
theorem before7 (t : Fin (cfgA (F := F)).N) (d) : (dats m 0 c).before (7 : Fin 9) t d = d := by
  rw [(dats m 0 c).before_out_traj (7 : Fin 9) rfl (fun _ _ => rfl) (fun t _ _ hf => by rw [fresh7] at hf; exact absurd hf (by decide)) t.val t rfl d, fresh7, if_pos rfl]
theorem before8 (t : Fin (cfgA (F := F)).N) (d) : (dats m 0 c).before (8 : Fin 9) t d = d := by
  rw [(dats m 0 c).before_out_traj (8 : Fin 9) rfl (fun _ _ => rfl) (fun t _ _ hf => by rw [fresh8] at hf; exact absurd hf (by decide)) t.val t rfl d, fresh8, if_pos rfl]

theorem zero_of_first : ∀ t : Fin grid0.N, (grid0.coords t 1).val ≠ 0 → t.val ≠ 0 := by decide +kernel

end Fox

end
-- ==== Proof.FoxStep.lean ====
/- One point of the forget-gate attention's backward kernel's grid, over the reals. -/
module

public import proofs.«01_k».proof.Proof.FoxDiag
public import proofs.«01_k».proof.Proof.FoxRun

@[expose] public section

set_option maxRecDepth 16384

noncomputable section

namespace Fox

open Cert.FoxBwdIdeal Cert.FoxBwdIdeal.Gen Cert.Tiles
open Idealize.ShloMosaic Idealize.ShloMosaic.TcCoe Idealize.ShloMosaic.Tactic
open Idealize.SL

/-- The state `s` with a step's part added: of the block of queries `n`, masked or not. -/
structure Adds (x3 x4 x5 x6 : Vec Ideal S1024x512 .bf16) (m : Bool) (n : ℕ) (s s' : State Ideal) : Prop where
  query : ∀ R C, R < 8192 → C < 512 → at2 s'.1 R C = at2 s.1 R C + if n * 1024 ≤ R ∧ R < n * 1024 + 1024 then addQuery x3 x4 x5 x6 m (R - n * 1024) C else 0
  key : ∀ R C, R < 1024 → C < 512 → at2 s'.2.1 R C = at2 s.2.1 R C + addKey x3 x4 x5 x6 m R C
  val : ∀ R C, R < 1024 → C < 512 → at2 s'.2.2 R C = at2 s.2.2 R C + addVal x3 x4 x6 m R C

section Body
variable (c : Dev nD) (i : grid0.Coords)
variable (arg2 : Memref sig .tc .smem S5x36 .i32) (harg2 : arg2.IsWhole)
  (arg3 : Memref sig .tc .vmem S1024x512 .bf16) (harg3 : arg3.IsWhole)
  (arg4 : Memref sig .tc .vmem S1024x512 .bf16) (harg4 : arg4.IsWhole)
  (arg5 : Memref sig .tc .vmem S1024x512 .bf16) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S8192x512 .f32) (harg8 : arg8.IsWhole)
  (arg9 : Memref sig .tc .vmem S1024x512 .bf16) (harg9 : arg9.IsWhole)
  (arg10 : Memref sig .tc .vmem S1x8192x4 .f32) (harg10 : arg10.IsWhole)
  (arg11 : Memref sig .tc .vmem S1x1024x4 .f32) (harg11 : arg11.IsWhole)
  (arg12 : Memref sig .tc .vmem S1024x512 .f32) (harg12 : arg12.IsWhole)
  (arg13 : Memref sig .tc .vmem S1024x512 .f32) (harg13 : arg13.IsWhole)
variable (T : Vec Ideal S5x36 .i32) (x3 x4 x5 x6 : Vec Ideal S1024x512 .bf16) (s : State Ideal)
variable (n : ℕ) (hn : n < 8)

include hn in
theorem diagRes_pos (v1 v3 v13 : Elt Ideal .i32) (hw : k0_chk1 v1 v13) (hv1 : v1 = BitVec.ofNat 32 n) (hv3 : v3 = BitVec.ofNat 32 n) (h3 : k0_cond3 v13 = 1#1) :
    Adds x3 x4 x5 x6 true n s (diagStepRes c i arg2 harg2 arg3 harg3 arg4 harg4 arg5 harg5 arg6 harg6 arg7 harg7 arg8 harg8 arg9 harg9 arg10 harg10 arg11 harg11 arg12 harg12 arg13 harg13 x3 x4 x5 x6 s v1 v3 v13 hw) := by
  subst hv1; subst hv3
  unfold diagStepRes
  rw [dif_pos h3]
  exact ⟨fun R C hR hC => diag_query_read c i arg2 harg2 arg3 harg3 arg4 harg4 arg5 harg5 arg6 harg6 arg7 harg7 arg8 harg8 arg9 harg9 arg10 harg10 arg11 harg11 arg12 harg12 arg13 harg13 x3 x4 x5 x6 s.1 s.2.1 s.2.2 n hn v13 hw h3 R C hR hC,
    fun R C hR hC => diag_key_read c i arg2 harg2 arg3 harg3 arg4 harg4 arg5 harg5 arg6 harg6 arg7 harg7 arg8 harg8 arg9 harg9 arg10 harg10 arg11 harg11 arg12 harg12 arg13 harg13 x3 x4 x5 x6 s.1 s.2.1 s.2.2 n hn v13 hw h3 R C hR hC,
    fun R C hR hC => diag_val_read c i arg2 harg2 arg3 harg3 arg4 harg4 arg5 harg5 arg6 harg6 arg7 harg7 arg8 harg8 arg9 harg9 arg10 harg10 arg11 harg11 arg12 harg12 arg13 harg13 x3 x4 x5 x6 s.1 s.2.1 s.2.2 n hn v13 hw h3 R C hR hC⟩

include hn in
theorem fullRes_pos (v1 v18 : Elt Ideal .i32) (hw : k0_chk2 v1 v18) (hv1 : v1 = BitVec.ofNat 32 n) (h4 : k0_cond4 v18 = 1#1) :
    Adds x3 x4 x5 x6 false n s (fullStepRes c i arg2 harg2 arg3 harg3 arg4 harg4 arg5 harg5 arg6 harg6 arg7 harg7 arg8 harg8 arg9 harg9 arg10 harg10 arg11 harg11 arg12 harg12 arg13 harg13 x3 x4 x5 x6 s v1 v18 hw) := by
  subst hv1
  unfold fullStepRes
  rw [dif_pos h4]
  refine ⟨fun R C hR hC => ?_,
    fun R C hR hC => full_key_read c i arg2 harg2 arg3 harg3 arg4 harg4 arg5 harg5 arg6 harg6 arg7 harg7 arg8 harg8 arg9 harg9 arg10 harg10 arg11 harg11 arg12 harg12 arg13 harg13 x3 x4 x5 x6 s.1 s.2.1 s.2.2 _ v18 hw h4 R C hR hC,
    fun R C hR hC => full_val_read c i arg2 harg2 arg3 harg3 arg4 harg4 arg5 harg5 arg6 harg6 arg7 harg7 arg8 harg8 arg9 harg9 arg10 harg10 arg11 harg11 arg12 harg12 arg13 harg13 x3 x4 x5 x6 s.1 s.2.1 s.2.2 _ v18 hw h4 R C hR hC⟩
  have e := full_query_read c i arg2 harg2 arg3 harg3 arg4 harg4 arg5 harg5 arg6 harg6 arg7 harg7 arg8 harg8 arg9 harg9 arg10 harg10 arg11 harg11 arg12 harg12 arg13 harg13 x3 x4 x5 x6 s.1 s.2.1 s.2.2 (BitVec.ofNat 32 n) v18 hw h4 R C hR hC
  rw [rowOf_ofNat n (by omega) 0 (by omega), Nat.add_zero] at e
  exact e

include hn in
/-- Exactly one of the two steps is taken, on the cleared state. -/
theorem body_adds (hw1 : k0_chk1 (word1 (F := Ideal) i arg2 T) (word4 (F := Ideal) i arg2 T)) (hw2 : k0_chk2 (word1 (F := Ideal) i arg2 T) (word5 (F := Ideal) i arg2 T)) (m : Bool)
    (h1 : word1 (F := Ideal) i arg2 T = BitVec.ofNat 32 n)
    (hd : m = true → word2 (F := Ideal) i arg2 T = BitVec.ofNat 32 n ∧ k0_cond3 (word4 (F := Ideal) i arg2 T) = 1#1 ∧ ¬ k0_cond4 (word5 (F := Ideal) i arg2 T) = 1#1)
    (hf : m = false → ¬ k0_cond3 (word4 (F := Ideal) i arg2 T) = 1#1 ∧ k0_cond4 (word5 (F := Ideal) i arg2 T) = 1#1) :
    Adds x3 x4 x5 x6 m n (cleared i arg2 T s.1 s.2.1 s.2.2)
      (bodyRes c i arg2 harg2 arg3 harg3 arg4 harg4 arg5 harg5 arg6 harg6 arg7 harg7 arg8 harg8 arg9 harg9 arg10 harg10 arg11 harg11 arg12 harg12 arg13 harg13 T x3 x4 x5 x6 s.1 s.2.1 s.2.2 hw1 hw2) := by
  unfold bodyRes
  cases m with
  | true =>
    obtain ⟨h2, h3, h4⟩ := hd rfl
    rw [show ∀ u : State Ideal, fullStepRes c i arg2 harg2 arg3 harg3 arg4 harg4 arg5 harg5 arg6 harg6 arg7 harg7 arg8 harg8 arg9 harg9 arg10 harg10 arg11 harg11 arg12 harg12 arg13 harg13 x3 x4 x5 x6 u (word1 (F := Ideal) i arg2 T) (word5 (F := Ideal) i arg2 T) hw2 = u from fun u => dif_neg h4]
    exact diagRes_pos c i arg2 harg2 arg3 harg3 arg4 harg4 arg5 harg5 arg6 harg6 arg7 harg7 arg8 harg8 arg9 harg9 arg10 harg10 arg11 harg11 arg12 harg12 arg13 harg13 x3 x4 x5 x6 _ n hn _ _ _ hw1 h1 h2 h3
  | false =>
    obtain ⟨h3, h4⟩ := hf rfl
    rw [show ∀ u : State Ideal, diagStepRes c i arg2 harg2 arg3 harg3 arg4 harg4 arg5 harg5 arg6 harg6 arg7 harg7 arg8 harg8 arg9 harg9 arg10 harg10 arg11 harg11 arg12 harg12 arg13 harg13 x3 x4 x5 x6 u (word1 (F := Ideal) i arg2 T) (word2 (F := Ideal) i arg2 T) (word4 (F := Ideal) i arg2 T) hw1 = u from fun u => dif_neg h3]
    exact fullRes_pos c i arg2 harg2 arg3 harg3 arg4 harg4 arg5 harg5 arg6 harg6 arg7 harg7 arg8 harg8 arg9 harg9 arg10 harg10 arg11 harg11 arg12 harg12 arg13 harg13 x3 x4 x5 x6 _ n hn _ _ hw2 h1 h4

end Body

/-! ## The table -/

/-- The row block and the column block of a point, and its four heads. -/
def qi (i : grid0.Coords) : ℕ := (w 0 i).toNat
def ki (i : grid0.Coords) : ℕ := (w 1 i).toNat

theorem table (i : grid0.Coords) : qi i < 8 ∧ ki i ≤ qi i
    ∧ (qi i = ki i → k0_cond3 (w 2 i) = 1#1 ∧ ¬ k0_cond4 (w 2 i) = 1#1 ∧ Scalar.cmpi .ne (Scalar.extui (Scalar.cmpi .eq (w 3 i) 1#32) : BitVec 32) 0#32 = 1#1)
    ∧ (qi i ≠ ki i → ¬ k0_cond3 (w 2 i) = 1#1 ∧ k0_cond4 (w 2 i) = 1#1 ∧ ¬ Scalar.cmpi .ne (Scalar.extui (Scalar.cmpi .eq (w 3 i) 1#32) : BitVec 32) 0#32 = 1#1)
    ∧ (k0_cond1 i = 1#1 ↔ (i 1).val = 0) ∧ (k0_cond5 (w 4 i) = 1#1 ↔ qi i = 7) ∧ (k0_cond6 i = 1#1 ↔ (i 1).val = 35) := by
  revert i; decide +kernel

theorem w0_eq (i : grid0.Coords) : w 0 i = BitVec.ofNat 32 (qi i) := by unfold qi; simp
theorem w1_eq (i : grid0.Coords) : w 1 i = BitVec.ofNat 32 (ki i) := by unfold ki; simp

/-- From one point to the next: the next block of queries, or the next column's first, or the next four heads. -/
theorem table_next : ∀ t t' : Fin grid0.N, t'.val = t.val + 1 →
    ((grid0.coords t' 1).val ≠ 0 → (grid0.coords t' 0).val = (grid0.coords t 0).val
      ∧ ((qi (grid0.coords t') = qi (grid0.coords t) + 1 ∧ ki (grid0.coords t') = ki (grid0.coords t))
        ∨ (qi (grid0.coords t) = 7 ∧ ki (grid0.coords t') = ki (grid0.coords t) + 1 ∧ qi (grid0.coords t') = ki (grid0.coords t')))) := by
  have key : ∀ t : Fin grid0.N, ∀ h : t.val + 1 < grid0.N, ((grid0.coords ⟨t.val + 1, h⟩ 1).val ≠ 0 → (grid0.coords ⟨t.val + 1, h⟩ 0).val = (grid0.coords t 0).val
      ∧ ((qi (grid0.coords ⟨t.val + 1, h⟩) = qi (grid0.coords t) + 1 ∧ ki (grid0.coords ⟨t.val + 1, h⟩) = ki (grid0.coords t))
        ∨ (qi (grid0.coords t) = 7 ∧ ki (grid0.coords ⟨t.val + 1, h⟩) = ki (grid0.coords t) + 1 ∧ qi (grid0.coords ⟨t.val + 1, h⟩) = ki (grid0.coords ⟨t.val + 1, h⟩)))) := by
    decide +kernel
  intro t t' e
  obtain ⟨n', h'⟩ := t'
  obtain rfl : n' = t.val + 1 := e
  exact key t h'
theorem table_start : ∀ t : Fin grid0.N, (grid0.coords t 1).val = 0 → qi (grid0.coords t) = 0 ∧ ki (grid0.coords t) = 0 := by decide +kernel
theorem table_end : ∀ t : Fin grid0.N, (grid0.coords t 1).val = 35 → qi (grid0.coords t) = 7 ∧ ki (grid0.coords t) = 7 := by decide +kernel
theorem table_first : ∀ t : Fin grid0.N, t.val = 0 → (grid0.coords t 1).val = 0 := by decide +kernel

section Point
variable (m : (ℓ : Loc nD τ sig) → Buf (Elt Ideal) ℓ) (c : Dev nD) (t : Fin (cfgA (F := Ideal)).N) (s : State Ideal)

theorem at2_zero {a b : ℕ} (x : (⟨2, ![a, b]⟩ : Shape).Idx → EReal) (hx : ∀ i, x i = 0) (R C : ℕ) : at2 x R C = 0 := by
  unfold at2; split
  · exact hx _
  · rfl

theorem pay1_zero (i) : k0_pay1 (F := Ideal) i = 0 := by rw [eq_ix2 (n0 := 8192) (n1 := 512) i]; unfold k0_pay1; pointwise
theorem pay2_zero (i) : k0_pay2 (F := Ideal) i = 0 := by rw [eq_ix2 (n0 := 1024) (n1 := 512) i]; unfold k0_pay2; pointwise
theorem pay3_zero (i) : k0_pay3 (F := Ideal) i = 0 := by rw [eq_ix2 (n0 := 1024) (n1 := 512) i]; unfold k0_pay3; pointwise

/-- The state a point starts from. -/
def from_ (t : Fin (cfgA (F := Ideal)).N) (s : State Ideal) : State Ideal := cleared (grid0.coords t) (Memref.whole main_c) tab s.1 s.2.1 s.2.2

theorem from_query (R C : ℕ) : at2 (from_ t s).1 R C = if (grid0.coords t 1).val = 0 then 0 else at2 s.1 R C := by
  unfold from_ cleared
  dsimp only
  by_cases h : (grid0.coords t 1).val = 0
  · rw [if_pos h, if_pos ((table _).2.2.2.2.1.mpr h)]; exact at2_zero (k0_pay1 (F := Ideal)) pay1_zero R C
  · rw [if_neg h, if_neg (fun h' => h ((table _).2.2.2.2.1.mp h'))]
theorem from_key (R C : ℕ) : at2 (from_ t s).2.1 R C = if qi (grid0.coords t) = ki (grid0.coords t) then 0 else at2 s.2.1 R C := by
  unfold from_ cleared
  dsimp only
  rw [word3_eq]
  by_cases h : qi (grid0.coords t) = ki (grid0.coords t)
  · rw [if_pos h, if_pos ((table _).2.2.1 h).2.2]; exact at2_zero (k0_pay2 (F := Ideal)) pay2_zero R C
  · rw [if_neg h, if_neg ((table _).2.2.2.1 h).2.2]
theorem from_val (R C : ℕ) : at2 (from_ t s).2.2 R C = if qi (grid0.coords t) = ki (grid0.coords t) then 0 else at2 s.2.2 R C := by
  unfold from_ cleared
  dsimp only
  rw [word3_eq]
  by_cases h : qi (grid0.coords t) = ki (grid0.coords t)
  · rw [if_pos h, if_pos ((table _).2.2.1 h).2.2]; exact at2_zero (k0_pay3 (F := Ideal)) pay3_zero R C
  · rw [if_neg h, if_neg ((table _).2.2.2.1 h).2.2]

theorem step_adds : Adds (iblk m c (0 : Fin 9) t) (iblk m c (1 : Fin 9) t) (iblk m c (2 : Fin 9) t) (iblk m c (3 : Fin 9) t)
    (decide (qi (grid0.coords t) = ki (grid0.coords t))) (qi (grid0.coords t)) (from_ t s) (step m c t s) := by
  refine body_adds c (grid0.coords t) (Memref.whole main_c) _ _ _ _ _ _ _ _ _ _ _ _ _ _ _ _ _ _ _ _ _ _ _ tab _ _ _ _ s (qi (grid0.coords t)) (table _).1 (hw1 _) (hw2 _) _ ?_ ?_ ?_
  · rw [word1_eq]; exact w0_eq _
  · intro h
    have h' := of_decide_eq_true h
    rw [word2_eq, word4_eq, word5_eq]
    exact ⟨(w1_eq _).trans (congrArg _ h'.symm), ((table _).2.2.1 h').1, ((table _).2.2.1 h').2.1⟩
  · intro h
    have h' := of_decide_eq_false h
    rw [word4_eq, word5_eq]
    exact ⟨((table _).2.2.2.1 h').1, ((table _).2.2.2.1 h').2.1⟩

end Point

end Fox
-- ==== Proof.FoxTraj.lean ====
/- What the forget-gate attention's backward kernel's states hold, over the reals: the sums over the pairs visited so far. -/
module

public import proofs.«01_k».proof.Proof.FoxStep

@[expose] public section

set_option maxRecDepth 16384

noncomputable section

namespace Fox

open Cert.FoxBwdIdeal Cert.FoxBwdIdeal.Gen Cert.Tiles
open Idealize.ShloMosaic Idealize.ShloMosaic.TcCoe Idealize.ShloMosaic.Tactic

attribute [local instance] Fox.bitsNamed

/-- Where the blocks lie. -/
theorem index_bits : ∀ t : Fin (cfgA (F := Bits)).N,
    (((cfgA (F := Bits)).win (0 : Fin 9)).index t (0 : Fin 2) = qi (grid0.coords t) ∧ ((cfgA (F := Bits)).win (0 : Fin 9)).index t (1 : Fin 2) = (grid0.coords t 0).val)
    ∧ (((cfgA (F := Bits)).win (1 : Fin 9)).index t (0 : Fin 2) = ki (grid0.coords t) ∧ ((cfgA (F := Bits)).win (1 : Fin 9)).index t (1 : Fin 2) = (grid0.coords t 0).val)
    ∧ (((cfgA (F := Bits)).win (2 : Fin 9)).index t (0 : Fin 2) = ki (grid0.coords t) ∧ ((cfgA (F := Bits)).win (2 : Fin 9)).index t (1 : Fin 2) = (grid0.coords t 0).val)
    ∧ (((cfgA (F := Bits)).win (3 : Fin 9)).index t (0 : Fin 2) = qi (grid0.coords t) ∧ ((cfgA (F := Bits)).win (3 : Fin 9)).index t (1 : Fin 2) = (grid0.coords t 0).val)
    ∧ (((cfgA (F := Bits)).win (4 : Fin 9)).index t (0 : Fin 2) = ki (grid0.coords t) ∧ ((cfgA (F := Bits)).win (4 : Fin 9)).index t (1 : Fin 2) = (grid0.coords t 0).val)
    ∧ (((cfgA (F := Bits)).win (5 : Fin 9)).index t (0 : Fin 2) = 0 ∧ ((cfgA (F := Bits)).win (5 : Fin 9)).index t (1 : Fin 2) = (grid0.coords t 0).val)
    ∧ (((cfgA (F := Bits)).win (6 : Fin 9)).index t (0 : Fin 2) = ki (grid0.coords t) ∧ ((cfgA (F := Bits)).win (6 : Fin 9)).index t (1 : Fin 2) = (grid0.coords t 0).val)
    ∧ (((cfgA (F := Bits)).win (7 : Fin 9)).index t (0 : Fin 3) = (grid0.coords t 0).val ∧ ((cfgA (F := Bits)).win (7 : Fin 9)).index t (1 : Fin 3) = 0 ∧ ((cfgA (F := Bits)).win (7 : Fin 9)).index t (2 : Fin 3) = 0)
    ∧ (((cfgA (F := Bits)).win (8 : Fin 9)).index t (0 : Fin 3) = (grid0.coords t 0).val ∧ ((cfgA (F := Bits)).win (8 : Fin 9)).index t (1 : Fin 3) = ki (grid0.coords t) ∧ ((cfgA (F := Bits)).win (8 : Fin 9)).index t (2 : Fin 3) = 0) := by
  show ∀ t : Fin grid0.N, _
  decide +kernel
theorem index_eq (t : Fin (cfgA (F := Ideal)).N) :
    (((cfgA (F := Ideal)).win (0 : Fin 9)).index t (0 : Fin 2) = qi (grid0.coords t) ∧ ((cfgA (F := Ideal)).win (0 : Fin 9)).index t (1 : Fin 2) = (grid0.coords t 0).val)
    ∧ (((cfgA (F := Ideal)).win (1 : Fin 9)).index t (0 : Fin 2) = ki (grid0.coords t) ∧ ((cfgA (F := Ideal)).win (1 : Fin 9)).index t (1 : Fin 2) = (grid0.coords t 0).val)
    ∧ (((cfgA (F := Ideal)).win (2 : Fin 9)).index t (0 : Fin 2) = ki (grid0.coords t) ∧ ((cfgA (F := Ideal)).win (2 : Fin 9)).index t (1 : Fin 2) = (grid0.coords t 0).val)
    ∧ (((cfgA (F := Ideal)).win (3 : Fin 9)).index t (0 : Fin 2) = qi (grid0.coords t) ∧ ((cfgA (F := Ideal)).win (3 : Fin 9)).index t (1 : Fin 2) = (grid0.coords t 0).val)
    ∧ (((cfgA (F := Ideal)).win (4 : Fin 9)).index t (0 : Fin 2) = ki (grid0.coords t) ∧ ((cfgA (F := Ideal)).win (4 : Fin 9)).index t (1 : Fin 2) = (grid0.coords t 0).val)
    ∧ (((cfgA (F := Ideal)).win (5 : Fin 9)).index t (0 : Fin 2) = 0 ∧ ((cfgA (F := Ideal)).win (5 : Fin 9)).index t (1 : Fin 2) = (grid0.coords t 0).val)
    ∧ (((cfgA (F := Ideal)).win (6 : Fin 9)).index t (0 : Fin 2) = ki (grid0.coords t) ∧ ((cfgA (F := Ideal)).win (6 : Fin 9)).index t (1 : Fin 2) = (grid0.coords t 0).val)
    ∧ (((cfgA (F := Ideal)).win (7 : Fin 9)).index t (0 : Fin 3) = (grid0.coords t 0).val ∧ ((cfgA (F := Ideal)).win (7 : Fin 9)).index t (1 : Fin 3) = 0 ∧ ((cfgA (F := Ideal)).win (7 : Fin 9)).index t (2 : Fin 3) = 0)
    ∧ (((cfgA (F := Ideal)).win (8 : Fin 9)).index t (0 : Fin 3) = (grid0.coords t 0).val ∧ ((cfgA (F := Ideal)).win (8 : Fin 9)).index t (1 : Fin 3) = ki (grid0.coords t) ∧ ((cfgA (F := Ideal)).win (8 : Fin 9)).index t (2 : Fin 3) = 0) :=
  index_bits t

variable (m : (ℓ : Loc nD τ sig) → Buf (Elt Ideal) ℓ) (c : Dev nD) (t : Fin (cfgA (F := Ideal)).N)

/-- The packed arrays, by row and column. -/
def qa : ℕ → ℕ → EReal := at2 (m := 8192) (n := 2048) (V m c (Proc.devRef .tc main_v67))
def ka : ℕ → ℕ → EReal := at2 (m := 8192) (n := 2048) (V m c (Proc.devRef .tc main_v76))
def va : ℕ → ℕ → EReal := at2 (m := 8192) (n := 2048) (V m c (Proc.devRef .tc main_v82))
def da : ℕ → ℕ → EReal := at2 (m := 8192) (n := 2048) (V m c (Proc.devRef .tc main_v95))

theorem hp_lt (i : grid0.Coords) : (i 0).val < 4 := (i 0).isLt

/-- A block's place in its array. -/
theorem at2_block (x : Vec Ideal S1024x512 .bf16) (y : (⟨2, ![8192, 2048]⟩ : Shape).Idx → EReal) (u v : ℕ) (hu : u < 8) (hv : v < 4) (e : S1024x512.Idx → (⟨2, ![8192, 2048]⟩ : Shape).Idx)
    (hx : ∀ j, x j = y (e j)) (he : ∀ j, (e j 0).val = u * 1024 + 1 * (j 0).val ∧ (e j 1).val = v * 512 + 1 * (j 1).val) {a b : ℕ} (ha : a < 1024) (hb : b < 512) :
    at2 x a b = at2 y (u * 1024 + a) (v * 512 + b) := by
  rw [at2_of_lt (m := 1024) (n := 512) x ha hb, hx, ← at2_idx y, (he _).1, (he _).2]
  show at2 y (u * 1024 + 1 * a) (v * 512 + 1 * b) = _
  rw [one_mul, one_mul]

theorem block_q {a b : ℕ} (ha : a < 1024) (hb : b < 512) : at2 (m := 1024) (n := 512) (iblk m c (0 : Fin 9) t) a b = qa m c (qi (grid0.coords t) * 1024 + a) ((grid0.coords t 0).val * 512 + b) :=
  at2_block _ _ _ _ (table _).1 (hp_lt _) (fun j => (((cfgA (F := Ideal)).win (0 : Fin 9)).blk t).view.emb j) (fun j => by unfold iblk; rw [View.read_apply]; rfl)
    (fun j => ⟨by rw [← (index_eq t).1.1]; rfl, by rw [← (index_eq t).1.2]; rfl⟩) ha hb
theorem block_k {a b : ℕ} (ha : a < 1024) (hb : b < 512) : at2 (m := 1024) (n := 512) (iblk m c (1 : Fin 9) t) a b = ka m c (ki (grid0.coords t) * 1024 + a) ((grid0.coords t 0).val * 512 + b) :=
  at2_block _ _ _ _ (Nat.lt_of_le_of_lt (table _).2.1 (table _).1) (hp_lt _) (fun j => (((cfgA (F := Ideal)).win (1 : Fin 9)).blk t).view.emb j) (fun j => by unfold iblk; rw [View.read_apply]; rfl)
    (fun j => ⟨by rw [← (index_eq t).2.1.1]; rfl, by rw [← (index_eq t).2.1.2]; rfl⟩) ha hb
theorem block_v {a b : ℕ} (ha : a < 1024) (hb : b < 512) : at2 (m := 1024) (n := 512) (iblk m c (2 : Fin 9) t) a b = va m c (ki (grid0.coords t) * 1024 + a) ((grid0.coords t 0).val * 512 + b) :=
  at2_block _ _ _ _ (Nat.lt_of_le_of_lt (table _).2.1 (table _).1) (hp_lt _) (fun j => (((cfgA (F := Ideal)).win (2 : Fin 9)).blk t).view.emb j) (fun j => by unfold iblk; rw [View.read_apply]; rfl)
    (fun j => ⟨by rw [← (index_eq t).2.2.1.1]; rfl, by rw [← (index_eq t).2.2.1.2]; rfl⟩) ha hb
theorem block_d {a b : ℕ} (ha : a < 1024) (hb : b < 512) : at2 (m := 1024) (n := 512) (iblk m c (3 : Fin 9) t) a b = da m c (qi (grid0.coords t) * 1024 + a) ((grid0.coords t 0).val * 512 + b) :=
  at2_block _ _ _ _ (table _).1 (hp_lt _) (fun j => (((cfgA (F := Ideal)).win (3 : Fin 9)).blk t).view.emb j) (fun j => by unfold iblk; rw [View.read_apply]; rfl)
    (fun j => ⟨by rw [← (index_eq t).2.2.2.1.1]; rfl, by rw [← (index_eq t).2.2.2.1.2]; rfl⟩) ha hb

/-- The weight of key `a` for query `b` under head `h`, and its score's gradient. -/
def P (h a b : ℕ) : EReal := prob 128 (ka m c) (qa m c) h a b true
def D (h a b : ℕ) : EReal := dscore 128 (ka m c) (qa m c) (va m c) (da m c) h a b true

theorem dot_shift {K Q K' Q' : ℕ → ℕ → EReal} {h h' a b a' b' : ℕ} (hK : ∀ d : Fin 128, K a (h * 128 + d.val) = K' a' (h' * 128 + d.val)) (hQ : ∀ d : Fin 128, Q b (h * 128 + d.val) = Q' b' (h' * 128 + d.val)) :
    dotRow 128 K Q h a b = dotRow 128 K' Q' h' a' b' := by
  unfold dotRow
  exact Finset.sum_congr rfl fun d _ => by rw [hK d, hQ d]

theorem mask_iff (i : grid0.Coords) {a b : ℕ} (ha : a < 1024) (hb : b < 1024) :
    (decide (qi i = ki i) = true ∧ b < a) ↔ (true = true ∧ qi i * 1024 + b < ki i * 1024 + a) := by
  have h := (table i).2.1
  simp only [decide_eq_true_eq, true_and]
  constructor
  · rintro ⟨e, hlt⟩; omega
  · intro hlt; constructor <;> omega

/-- The block's columns of head `h`. -/
theorem head_shift (hp h d : ℕ) : hp * 512 + (h * 128 + d) = (hp * 4 + h) * 128 + d := by omega

theorem prob_block {h a b : ℕ} (hh : h < 4) (ha : a < 1024) (hb : b < 1024) :
    prob 128 (at2 (m := 1024) (n := 512) (iblk m c (1 : Fin 9) t)) (at2 (m := 1024) (n := 512) (iblk m c (0 : Fin 9) t)) h a b (decide (qi (grid0.coords t) = ki (grid0.coords t)))
      = P m c ((grid0.coords t 0).val * 4 + h) (ki (grid0.coords t) * 1024 + a) (qi (grid0.coords t) * 1024 + b) := by
  unfold P prob
  rw [if_congr (mask_iff (grid0.coords t) ha hb) rfl rfl]
  rw [dot_shift (K' := ka m c) (Q' := qa m c) (h' := (grid0.coords t 0).val * 4 + h) (a' := ki (grid0.coords t) * 1024 + a) (b' := qi (grid0.coords t) * 1024 + b)]
  · intro d; rw [block_k m c t ha (by omega), head_shift]
  · intro d; rw [block_q m c t hb (by omega), head_shift]

theorem dscore_block {h a b : ℕ} (hh : h < 4) (ha : a < 1024) (hb : b < 1024) :
    dscore 128 (at2 (m := 1024) (n := 512) (iblk m c (1 : Fin 9) t)) (at2 (m := 1024) (n := 512) (iblk m c (0 : Fin 9) t)) (at2 (m := 1024) (n := 512) (iblk m c (2 : Fin 9) t)) (at2 (m := 1024) (n := 512) (iblk m c (3 : Fin 9) t))
        h a b (decide (qi (grid0.coords t) = ki (grid0.coords t)))
      = D m c ((grid0.coords t 0).val * 4 + h) (ki (grid0.coords t) * 1024 + a) (qi (grid0.coords t) * 1024 + b) := by
  unfold dscore
  rw [prob_block m c t hh ha hb]
  unfold D dscore P
  rw [dot_shift (K' := va m c) (Q' := da m c) (h' := (grid0.coords t 0).val * 4 + h) (a' := ki (grid0.coords t) * 1024 + a) (b' := qi (grid0.coords t) * 1024 + b)]
  · intro d; rw [block_v m c t ha (by omega), head_shift]
  · intro d; rw [block_d m c t hb (by omega), head_shift]

/-! ## The sums over the first queries, or the first keys -/

def valUpTo (a col n : ℕ) : EReal := ∑ b ∈ Finset.range n, P m c (col / 128) a b * da m c b col
def keyUpTo (a col n : ℕ) : EReal := ∑ b ∈ Finset.range n, D m c (col / 128) a b * qa m c b col
def queryUpTo (b col n : ℕ) : EReal := ∑ a ∈ Finset.range n, D m c (col / 128) a b * ka m c a col

theorem range_block (f : ℕ → EReal) (u : ℕ) : ∑ x ∈ Finset.range ((u + 1) * 1024), f x = ∑ x ∈ Finset.range (u * 1024), f x + ∑ e : Fin 1024, f (u * 1024 + e.val) := by
  rw [Nat.add_mul, one_mul, Finset.sum_range_add, Finset.sum_range (fun e => f (u * 1024 + e))]

theorem P_zero {h a b : ℕ} (hba : b < a) : P m c h a b = 0 := prob_masked _ _ _ _ _ _ hba
theorem D_zero {h a b : ℕ} (hba : b < a) : D m c h a b = 0 := dscore_masked _ _ _ _ _ _ _ _ hba

theorem val_start (a col u : ℕ) (h : u * 1024 ≤ a) : valUpTo m c a col (u * 1024) = 0 :=
  Finset.sum_eq_zero fun b hb => by rw [P_zero m c (by have := Finset.mem_range.mp hb; omega), zero_mul]
theorem key_start (a col u : ℕ) (h : u * 1024 ≤ a) : keyUpTo m c a col (u * 1024) = 0 :=
  Finset.sum_eq_zero fun b hb => by rw [D_zero m c (by have := Finset.mem_range.mp hb; omega), zero_mul]
theorem query_late (b col u : ℕ) (h : b < u * 1024) : queryUpTo m c b col ((u + 1) * 1024) = queryUpTo m c b col (u * 1024) := by
  unfold queryUpTo
  rw [range_block, Finset.sum_eq_zero (s := Finset.univ) (fun e _ => by rw [D_zero m c (by omega), zero_mul]), add_zero]

theorem col_head (hp C : ℕ) : (hp * 512 + C) / 128 = hp * 4 + C / 128 := by omega

theorem addVal_block {R C : ℕ} (hR : R < 1024) (hC : C < 512) :
    addVal (iblk m c (0 : Fin 9) t) (iblk m c (1 : Fin 9) t) (iblk m c (3 : Fin 9) t) (decide (qi (grid0.coords t) = ki (grid0.coords t))) R C
        + valUpTo m c (ki (grid0.coords t) * 1024 + R) ((grid0.coords t 0).val * 512 + C) (qi (grid0.coords t) * 1024)
      = valUpTo m c (ki (grid0.coords t) * 1024 + R) ((grid0.coords t 0).val * 512 + C) ((qi (grid0.coords t) + 1) * 1024) := by
  unfold valUpTo
  rw [range_block, add_comm]
  refine congrArg _ (Finset.sum_congr rfl fun e _ => ?_)
  rw [col_head, ← prob_block m c t (by omega) hR e.isLt, ← block_d m c t e.isLt hC]
theorem addKey_block {R C : ℕ} (hR : R < 1024) (hC : C < 512) :
    addKey (iblk m c (0 : Fin 9) t) (iblk m c (1 : Fin 9) t) (iblk m c (2 : Fin 9) t) (iblk m c (3 : Fin 9) t) (decide (qi (grid0.coords t) = ki (grid0.coords t))) R C
        + keyUpTo m c (ki (grid0.coords t) * 1024 + R) ((grid0.coords t 0).val * 512 + C) (qi (grid0.coords t) * 1024)
      = keyUpTo m c (ki (grid0.coords t) * 1024 + R) ((grid0.coords t 0).val * 512 + C) ((qi (grid0.coords t) + 1) * 1024) := by
  unfold keyUpTo
  rw [range_block, add_comm]
  refine congrArg _ (Finset.sum_congr rfl fun e _ => ?_)
  rw [col_head, ← dscore_block m c t (by omega) hR e.isLt, ← block_q m c t e.isLt hC]
theorem addQuery_block {R C : ℕ} (hR : R < 1024) (hC : C < 512) :
    addQuery (iblk m c (0 : Fin 9) t) (iblk m c (1 : Fin 9) t) (iblk m c (2 : Fin 9) t) (iblk m c (3 : Fin 9) t) (decide (qi (grid0.coords t) = ki (grid0.coords t))) R C
        + queryUpTo m c (qi (grid0.coords t) * 1024 + R) ((grid0.coords t 0).val * 512 + C) (ki (grid0.coords t) * 1024)
      = queryUpTo m c (qi (grid0.coords t) * 1024 + R) ((grid0.coords t 0).val * 512 + C) ((ki (grid0.coords t) + 1) * 1024) := by
  unfold queryUpTo
  rw [range_block, add_comm]
  refine congrArg _ (Finset.sum_congr rfl fun e _ => ?_)
  rw [col_head, ← dscore_block m c t (by omega) e.isLt hR, ← block_k m c t e.isLt hC]

/-- How many blocks of keys a row of queries has met after a point. -/
def met (i : grid0.Coords) (R : ℕ) : ℕ := if R / 1024 ≤ qi i then ki i + 1 else ki i

/-- What the state after a point holds. -/
structure Holds (i : grid0.Coords) (s : State Ideal) : Prop where
  query : ∀ R C, R < 8192 → C < 512 → at2 s.1 R C = queryUpTo m c R ((i 0).val * 512 + C) (met i R * 1024)
  key : ∀ R C, R < 1024 → C < 512 → at2 s.2.1 R C = keyUpTo m c (ki i * 1024 + R) ((i 0).val * 512 + C) ((qi i + 1) * 1024)
  val : ∀ R C, R < 1024 → C < 512 → at2 s.2.2 R C = valUpTo m c (ki i * 1024 + R) ((i 0).val * 512 + C) ((qi i + 1) * 1024)

/-- What the state a point starts from holds, the clearings done. -/
structure Ready (i : grid0.Coords) (s : State Ideal) : Prop where
  query : ∀ R C, R < 8192 → C < 512 → at2 s.1 R C = queryUpTo m c R ((i 0).val * 512 + C) ((if R / 1024 < qi i ∧ qi i ≠ ki i then ki i + 1 else ki i) * 1024)
  key : ∀ R C, R < 1024 → C < 512 → at2 s.2.1 R C = keyUpTo m c (ki i * 1024 + R) ((i 0).val * 512 + C) (qi i * 1024)
  val : ∀ R C, R < 1024 → C < 512 → at2 s.2.2 R C = valUpTo m c (ki i * 1024 + R) ((i 0).val * 512 + C) (qi i * 1024)

theorem holds_of_ready (s : State Ideal) (h : Ready m c (grid0.coords t) (from_ t s)) : Holds m c (grid0.coords t) (step m c t s) := by
  have ha := step_adds m c t s
  refine ⟨fun R C hR hC => ?_, fun R C hR hC => ?_, fun R C hR hC => ?_⟩
  · rw [ha.query R C hR hC, h.query R C hR hC]
    unfold met
    have hkq := (table (grid0.coords t)).2.1
    by_cases hin : qi (grid0.coords t) * 1024 ≤ R ∧ R < qi (grid0.coords t) * 1024 + 1024
    · rw [if_pos hin, if_neg (by omega), if_pos (by omega), add_comm]
      obtain ⟨r, rfl⟩ := Nat.exists_eq_add_of_le hin.1
      rw [Nat.add_sub_cancel_left]
      exact addQuery_block m c t (by omega) hC
    · rw [if_neg hin, add_zero]
      by_cases hlt : R / 1024 < qi (grid0.coords t)
      · rw [if_pos (Nat.le_of_lt hlt)]
        by_cases hd : qi (grid0.coords t) = ki (grid0.coords t)
        · rw [if_neg (fun h' => h'.2 hd)]
          exact (query_late m c _ _ _ (by omega)).symm
        · rw [if_pos ⟨hlt, hd⟩]
      · rw [if_neg (fun h' => hlt h'.1), if_neg (by omega)]
  · rw [ha.key R C hR hC, h.key R C hR hC, add_comm]
    exact addKey_block m c t hR hC
  · rw [ha.val R C hR hC, h.val R C hR hC, add_comm]
    exact addVal_block m c t hR hC

theorem ready_start (s : State Ideal) (h0 : (grid0.coords t 1).val = 0) : Ready m c (grid0.coords t) (from_ t s) := by
  have hs := table_start t h0
  refine ⟨fun R C hR hC => ?_, fun R C hR hC => ?_, fun R C hR hC => ?_⟩
  · rw [from_query, if_pos h0, hs.1, hs.2, if_neg (fun h => h.2 rfl), Nat.zero_mul]; rfl
  · rw [from_key, if_pos (hs.1.trans hs.2.symm), hs.1, Nat.zero_mul]; rfl
  · rw [from_val, if_pos (hs.1.trans hs.2.symm), hs.1, Nat.zero_mul]; rfl

theorem ready_next (t' : Fin (cfgA (F := Ideal)).N) (ht : t'.val = t.val + 1) (s : State Ideal) (h0 : (grid0.coords t' 1).val ≠ 0) (h : Holds m c (grid0.coords t) s) :
    Ready m c (grid0.coords t') (from_ t' s) := by
  obtain ⟨hp, hn⟩ := table_next t t' ht h0
  have hq := (table (grid0.coords t')).1
  have hkq := (table (grid0.coords t)).2.1
  refine ⟨fun R C hR hC => ?_, fun R C hR hC => ?_, fun R C hR hC => ?_⟩
  · rw [from_query, if_neg h0, h.query R C hR hC, hp]
    unfold met
    rcases hn with ⟨e1, e2⟩ | ⟨e1, e2, e3⟩
    · rw [e1, e2]
      congr 2
      exact if_congr (by omega) rfl rfl
    · rw [if_pos (by omega), if_neg (fun h' => h'.2 e3), e2]
  · rw [from_key, hp]
    by_cases hd : qi (grid0.coords t') = ki (grid0.coords t')
    · rw [if_pos hd, key_start _ _ _ _ _ (by rw [hd]; omega)]
    · rw [if_neg hd, h.key R C hR hC]
      rcases hn with ⟨e1, e2⟩ | ⟨e1, e2, e3⟩
      · rw [e1, e2]
      · exact absurd e3 hd
  · rw [from_val, hp]
    by_cases hd : qi (grid0.coords t') = ki (grid0.coords t')
    · rw [if_pos hd, val_start _ _ _ _ _ (by rw [hd]; omega)]
    · rw [if_neg hd, h.val R C hR hC]
      rcases hn with ⟨e1, e2⟩ | ⟨e1, e2, e3⟩
      · rw [e1, e2]
      · exact absurd e3 hd

theorem traj_holds (n : ℕ) (hn : n < (cfgA (F := Ideal)).N) : Holds m c (grid0.coords ⟨n, hn⟩) (traj m c n hn) := by
  induction n with
  | zero => exact holds_of_ready m c ⟨0, hn⟩ _ (ready_start m c ⟨0, hn⟩ _ (table_first ⟨0, hn⟩ rfl))
  | succ n ih =>
    refine holds_of_ready m c ⟨n + 1, hn⟩ _ ?_
    by_cases h0 : (grid0.coords ⟨n + 1, hn⟩ 1).val = 0
    · exact ready_start m c ⟨n + 1, hn⟩ _ h0
    · exact ready_next m c ⟨n, Nat.lt_of_succ_lt hn⟩ ⟨n + 1, hn⟩ rfl _ h0 (ih (Nat.lt_of_succ_lt hn))

end Fox
-- ==== Proof.FoxObl.lean ====
/- The forget-gate attention's backward kernel's body obligation at every point. -/
module

public import proofs.«01_k».proof.Proof.FoxRun

@[expose] public section

set_option maxRecDepth 16384

noncomputable section

namespace Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Cfg Window BodyObligation BodyObligationLoose)

variable (m : (ℓ : Loc nD τ sig) → Buf (Elt F) ℓ) (c : Dev nD)

/-- The column's gradients after the body, where they are written. -/
theorem keyOut_eq (t : Fin (cfgA (F := F)).N) (x7 : Vec F S1024x512 .bf16) (s : State F) :
    keyOut (grid0.coords t) (Memref.whole main_c) tab x7 s = if k0_cond5 (w 4 (grid0.coords t)) = 1#1 then k0_pay280 s.2.1 else x7 := by
  unfold keyOut; rw [word6_eq]
theorem valOut_eq (t : Fin (cfgA (F := F)).N) (x9 : Vec F S1024x512 .bf16) (s : State F) :
    valOut (grid0.coords t) (Memref.whole main_c) tab x9 s = if k0_cond5 (w 4 (grid0.coords t)) = 1#1 then k0_pay281 s.2.2 else x9 := by
  unfold valOut; rw [word6_eq]

theorem colOut_eq (t : Fin (cfgA (F := F)).N) (x11 : Vec F S1x1024x4 .f32) (s : State F) :
    colOut (grid0.coords t) (Memref.whole main_c) tab x11 s = if k0_cond5 (w 4 (grid0.coords t)) = 1#1 then colSums s.2.1 else x11 := by
  unfold colOut; rw [word6_eq]

/-- The body at a point, entered at a state that gives the next one. -/
theorem body_at (t : Fin (cfgA (F := F)).N) (x8 : Vec F S8192x512 .f32) (x7 x9 : Vec F S1024x512 .bf16) (x10 : Vec F S1x8192x4 .f32) (x11 : Vec F S1x1024x4 .f32) (x12 x13 : Vec F S1024x512 .f32)
    (hs : step m c t (x8, x12, x13) = traj m c t.val t.isLt) (K : PUnit → sProp 𝕄) :
    iprop(((Memref.whole main_c).view.loc (c : Thread nD τ) ↦[(Memref.whole main_c).view.set]{fullShare} (Memref.whole main_c).view.rep tab)
        ∗ holds c (ms0 (F := F) t) (iblk m c (0 : Fin 9) t) ∗ holds c (ms1 (F := F) t) (iblk m c (1 : Fin 9) t) ∗ holds c (ms2 (F := F) t) (iblk m c (2 : Fin 9) t) ∗ holds c (ms3 (F := F) t) (iblk m c (3 : Fin 9) t)
        ∗ holds c (ms5 (F := F) t) x8 ∗ holds c (ms4 (F := F) t) x7 ∗ holds c (ms6 (F := F) t) x9 ∗ holds c (ms7 (F := F) t) x10 ∗ holds c (ms8 (F := F) t) x11 ∗ holds c (Memref.whole cc0_scratch0) x12 ∗ holds c (Memref.whole cc0_scratch1) x13
        ∗ (iprop(((Memref.whole main_c).view.loc (c : Thread nD τ) ↦[(Memref.whole main_c).view.set]{fullShare} (Memref.whole main_c).view.rep tab)
            ∗ holds c (ms0 (F := F) t) (iblk m c (0 : Fin 9) t) ∗ holds c (ms1 (F := F) t) (iblk m c (1 : Fin 9) t) ∗ holds c (ms2 (F := F) t) (iblk m c (2 : Fin 9) t) ∗ holds c (ms3 (F := F) t) (iblk m c (3 : Fin 9) t)
            ∗ holds c (ms5 (F := F) t) (traj m c t.val t.isLt).1
            ∗ holds c (ms4 (F := F) t) (if k0_cond5 (w 4 (grid0.coords t)) = 1#1 then k0_pay280 (traj m c t.val t.isLt).2.1 else x7)
            ∗ holds c (ms6 (F := F) t) (if k0_cond5 (w 4 (grid0.coords t)) = 1#1 then k0_pay281 (traj m c t.val t.isLt).2.2 else x9)
            ∗ holds c (ms7 (F := F) t) (if k0_cond6 (grid0.coords t) = 1#1 then rowSums (traj m c t.val t.isLt).1 else x10)
            ∗ holds c (ms8 (F := F) t) (if k0_cond5 (w 4 (grid0.coords t)) = 1#1 then colSums (traj m c t.val t.isLt).2.1 else x11)
            ∗ holds c (Memref.whole cc0_scratch0) (traj m c t.val t.isLt).2.1 ∗ holds c (Memref.whole cc0_scratch1) (traj m c t.val t.isLt).2.2) -∗ K ⟨⟩))
      ⊢ wpB c (bodyAt t) K := by
  have h := body_wp c (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _) tab (iblk m c (0 : Fin 9) t) (iblk m c (1 : Fin 9) t) (iblk m c (2 : Fin 9) t) (iblk m c (3 : Fin 9) t) x8 x7 x9 x10 x11 x12 x13 (hw1 (grid0.coords t)) (hw2 (grid0.coords t)) fullShare K
  rw [show bodyRes c (grid0.coords t) (Memref.whole main_c) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) (Memref.whole cc0_scratch0) (Memref.isWhole_whole _) (Memref.whole cc0_scratch1) (Memref.isWhole_whole _) tab (iblk m c (0 : Fin 9) t) (iblk m c (1 : Fin 9) t) (iblk m c (2 : Fin 9) t) (iblk m c (3 : Fin 9) t) x8 x12 x13 (hw1 (grid0.coords t)) (hw2 (grid0.coords t)) = traj m c t.val t.isLt from hs, keyOut_eq, valOut_eq, colOut_eq] at h
  exact h

/-- What the state before a point gives. -/
theorem step_of (t : Fin (cfgA (F := F)).N) (d : Vec F S8192x512 .f32) (x12 x13 : Vec F S1024x512 .f32)
    (h : t.val ≠ 0 → x12 = (prev m c t.val (Nat.le_of_lt t.isLt)).2.1 ∧ x13 = (prev m c t.val (Nat.le_of_lt t.isLt)).2.2) :
    step m c t (if (grid0.coords t 1).val == 0 then d else (prev m c t.val (Nat.le_of_lt t.isLt)).1, x12, x13) = traj m c t.val t.isLt := by
  rw [traj_eq]
  by_cases h0 : (grid0.coords t 1).val = 0
  · exact step_start m c t h0 _ _
  · rw [if_neg (by simpa using h0), (h (zero_of_first t h0)).1, (h (zero_of_first t h0)).2]

theorem flush4 (t : Fin (cfgA (F := F)).N) : ((cfgA (F := F)).win (4 : Fin 9)).flush t = (k0_cond5 (w 4 ((cfgA (F := F)).grid.coords t)) == 1#1) := (flush_eq t).1
theorem flush6 (t : Fin (cfgA (F := F)).N) : ((cfgA (F := F)).win (6 : Fin 9)).flush t = (k0_cond5 (w 4 ((cfgA (F := F)).grid.coords t)) == 1#1) := (flush_eq t).2.2.1
theorem flush7 (t : Fin (cfgA (F := F)).N) : ((cfgA (F := F)).win (7 : Fin 9)).flush t = (k0_cond6 ((cfgA (F := F)).grid.coords t) == 1#1) := (flush_eq t).2.2.2.1
theorem flush8 (t : Fin (cfgA (F := F)).N) : ((cfgA (F := F)).win (8 : Fin 9)).flush t = (k0_cond5 (w 4 ((cfgA (F := F)).grid.coords t)) == 1#1) := (flush_eq t).2.2.2.2

theorem post_of {f : Bool} (A B : sProp 𝕄) : f = false → (A ⊢ match f with | false => A | true => B) := by
  rintro rfl; exact .rfl

theorem sound_body (t : Fin (cfgA (F := F)).N) :
    iprop((dats m 0 c).Φ t.castSucc ∗ (dats m 0 c).owesAt () t.castSucc
        ∗ (∃ d, owns (c : Thread nD τ) (ms0 (F := F) t) fullShare ((dats m 0 c).before (0 : Fin 9) t d))
        ∗ (∃ d, owns (c : Thread nD τ) (ms1 (F := F) t) fullShare ((dats m 0 c).before (1 : Fin 9) t d))
        ∗ (∃ d, owns (c : Thread nD τ) (ms2 (F := F) t) fullShare ((dats m 0 c).before (2 : Fin 9) t d))
        ∗ (∃ d, owns (c : Thread nD τ) (ms3 (F := F) t) fullShare ((dats m 0 c).before (3 : Fin 9) t d))
        ∗ (∃ d, owns (c : Thread nD τ) (ms4 (F := F) t) fullShare ((dats m 0 c).before (4 : Fin 9) t d))
        ∗ (∃ d, owns (c : Thread nD τ) (ms5 (F := F) t) fullShare ((dats m 0 c).before (5 : Fin 9) t d))
        ∗ (∃ d, owns (c : Thread nD τ) (ms6 (F := F) t) fullShare ((dats m 0 c).before (6 : Fin 9) t d))
        ∗ (∃ d, owns (c : Thread nD τ) (ms7 (F := F) t) fullShare ((dats m 0 c).before (7 : Fin 9) t d))
        ∗ (∃ d, owns (c : Thread nD τ) (ms8 (F := F) t) fullShare ((dats m 0 c).before (8 : Fin 9) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  rewrite [idle4, idle5, idle7]
  simp only [before0, before1, before2, before3, before4, before5, before6, before7, before8, after0, after1, after2, after3, after4, after5, after6, after7, after8, flush4, flush6, flush7, flush8]
  rewrite [show (dats m 0 c).Φ t.succ = Phi m c (t.val + 1) t.isLt from rfl, show (dats m 0 c).Φ t.castSucc = Phi m c t.val (Nat.le_of_lt t.isLt) from Pipeline.Dat.Φ_castSucc (Phi m c) t,
    show (dats m 0 c).owesAt () t.succ = (dats m 0 c).owesAt () t.castSucc from rfl]
  unfold Phi
  rw [prev_succ]
  iintro ⟨⟨⟨%x12, %x13, %hx, H12, H13⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply body_at m c t _ d4 d6 d7 d8 x12 x13 (step_of m c t d5 x12 x13 hx)
  isplitl [HT]; · iexact HT
  isplitl [H0]; · iapply rep_of_owns; iexact H0
  isplitl [H1]; · iapply rep_of_owns; iexact H1
  isplitl [H2]; · iapply rep_of_owns; iexact H2
  isplitl [H3]; · iapply rep_of_owns; iexact H3
  isplitl [H5]; · iapply rep_of_owns; iexact H5
  isplitl [H4]; · iapply rep_of_owns; iexact H4
  isplitl [H6]; · iapply rep_of_owns; iexact H6
  isplitl [H7]; · iapply rep_of_owns; iexact H7
  isplitl [H8]; · iapply rep_of_owns; iexact H8
  isplitl [H12]; · iexact H12
  isplitl [H13]; · iexact H13
  iintro ⟨HT, H0, H1, H2, H3, H5, H4, H6, H7, H8, H12, H13⟩
  isplitl [HT H12 H13]
  · isplitl [H12 H13]
    · iexists (traj m c t.val t.isLt).2.1
      iexists (traj m c t.val t.isLt).2.2
      isplitr; · ipureintro; exact fun _ => ⟨rfl, rfl⟩
      isplitl [H12]; · iexact H12
      iexact H13
    iexact HT
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  by_cases h5 : k0_cond5 (w 4 (grid0.coords t)) = 1#1 <;> by_cases h6 : k0_cond6 (grid0.coords t) = 1#1
  · simp only [if_pos h5, if_pos h6, show (k0_cond5 (w 4 (grid0.coords t)) == 1#1) = true from beq_iff_eq.mpr h5, show (k0_cond6 (grid0.coords t) == 1#1) = true from beq_iff_eq.mpr h6, Bool.not_true, Bool.not_false]
    isplitl [H4]; · iapply owns_of_rep; iexact H4
    isplitl [H5]; · iapply owns_of_rep; iexact H5
    isplitl [H6]; · iapply owns_of_rep; iexact H6
    isplitl [H7]; · iapply owns_of_rep; iexact H7
    iapply owns_of_rep; iexact H8
  · simp only [if_pos h5, if_neg h6, show (k0_cond5 (w 4 (grid0.coords t)) == 1#1) = true from beq_iff_eq.mpr h5, show (k0_cond6 (grid0.coords t) == 1#1) = false from beq_eq_false_iff_ne.mpr h6, Bool.not_true, Bool.not_false]
    isplitl [H4]; · iapply owns_of_rep; iexact H4
    isplitl [H5]; · iapply owns_of_rep; iexact H5
    isplitl [H6]; · iapply owns_of_rep; iexact H6
    isplitl [H7]; · iapply (post_of _ _ ((flush7 t).trans (beq_eq_false_iff_ne.mpr h6))); iexists d7; iapply owns_of_rep; iexact H7
    iapply owns_of_rep; iexact H8
  · simp only [if_neg h5, if_pos h6, show (k0_cond5 (w 4 (grid0.coords t)) == 1#1) = false from beq_eq_false_iff_ne.mpr h5, show (k0_cond6 (grid0.coords t) == 1#1) = true from beq_iff_eq.mpr h6, Bool.not_true, Bool.not_false]
    isplitl [H4]; · iapply (post_of _ _ ((flush4 t).trans (beq_eq_false_iff_ne.mpr h5))); iexists d4; iapply owns_of_rep; iexact H4
    isplitl [H5]; · iapply owns_of_rep; iexact H5
    isplitl [H6]; · iapply (post_of _ _ ((flush6 t).trans (beq_eq_false_iff_ne.mpr h5))); iexists d6; iapply owns_of_rep; iexact H6
    isplitl [H7]; · iapply owns_of_rep; iexact H7
    iapply (post_of _ _ ((flush8 t).trans (beq_eq_false_iff_ne.mpr h5))); iexists d8; iapply owns_of_rep; iexact H8
  · simp only [if_neg h5, if_neg h6, show (k0_cond5 (w 4 (grid0.coords t)) == 1#1) = false from beq_eq_false_iff_ne.mpr h5, show (k0_cond6 (grid0.coords t) == 1#1) = false from beq_eq_false_iff_ne.mpr h6, Bool.not_true, Bool.not_false]
    isplitl [H4]; · iapply (post_of _ _ ((flush4 t).trans (beq_eq_false_iff_ne.mpr h5))); iexists d4; iapply owns_of_rep; iexact H4
    isplitl [H5]; · iapply owns_of_rep; iexact H5
    isplitl [H6]; · iapply (post_of _ _ ((flush6 t).trans (beq_eq_false_iff_ne.mpr h5))); iexists d6; iapply owns_of_rep; iexact H6
    isplitl [H7]; · iapply (post_of _ _ ((flush7 t).trans (beq_eq_false_iff_ne.mpr h6))); iexists d7; iapply owns_of_rep; iexact H7
    iapply (post_of _ _ ((flush8 t).trans (beq_eq_false_iff_ne.mpr h5))); iexists d8; iapply owns_of_rep; iexact H8

/-- The body's obligation. -/
theorem body_obligation : BodyObligation (dats (F := F) m 0 c) defs₀ Variants.none () Set.univ := fun t => by
  rw [bigSep_W0]
  exact sound_body m c t

end Fox

end
-- ==== Proof.FoxFrame.lean ====
/- The run of the forget-gate attention's backward program: its host operations, the kernel's region and the host operations after it, over
   all its buffers; and the frame. -/
module

public import proofs.«01_k».proof.Proof.FoxObl
public import Idealize.ShloMosaic.Lib.Pipeline.Regions
public import Idealize.ShloMosaic.Lib.Pipeline.RegionArraysTS
public import Idealize.ShloMosaic.Lib.Pipeline.FrameTail
public import Idealize.ShloMosaic.Lib.Pointwise

@[expose] public section

set_option maxRecDepth 16384

noncomputable section

namespace Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

open Idealize.ShloMosaic.Pipeline (Dat Seg HostSeg RegionSeg BodyObligation BodyObligationLoose)

variable (m : (ℓ : Loc nD τ sig) → Buf (Elt F) ℓ)

/-- The tables' contents, the same whenever the kernel is called. -/
abbrev adms : (p : Fin 1) → (pcfgs (F := F) p).Adm := fun | 0 => adm
abbrev datsAt : (p : Fin 1) → (c : Dev nD) → Dat τ (Elt F) Unit ℕ (UR sig nD τ) ℕ (Pipeline.pin (pcfgs (F := F)) adms p) c
  | 0 => dats m 0

def levs : GSem nD τ sig → Finset Unit := fun g => if g.1.2 = .tc then {()} else ∅
def lev : GSem nD τ sig → Unit → ℕ := fun _ _ => 0

theorem share_eq (c : Dev nD) (w : Fin (cfgA (F := F)).W) : (dats m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0)) := by
  unfold Pipeline.prefHeld
  rw [show (Finset.univ : Finset (Fin 1)) = {(0 : Fin 1)} from by decide, bigSep_singleton]
  rfl

/-- The kernel starts from the accumulators' buffers and the table, -/
theorem phi_intro (c : Dev nD) :
    iprop(iprop(Pipeline.scopedRest spec0 c ∗ emp) ∗ Pipeline.prefHeld pre0 c (fun _ => fullShare) (adm (F := F)).1) ⊢ (dats m 0 c).Φ 0 := by
  rw [prefHeld_eq, scopedRest0_eq, show (dats m 0 c).Φ 0 = Phi m c 0 (Nat.zero_le _) from rfl]
  unfold Phi
  iintro ⟨⟨⟨⟨%f0, H0⟩, ⟨%f1, H1⟩⟩, -⟩, HT⟩
  isplitl [H0 H1]
  · iexists f0
    iexists f1
    isplitr; · ipureintro; exact fun h => absurd rfl h
    isplitl [H0]
    · iapply rep_of_owns
      rw [owns_whole]; iexact H0
    iapply rep_of_owns
    rw [owns_whole]; iexact H1
  iapply rep_of_owns
  rw [owns_whole]; iexact HT

theorem Phi_def (c : Dev nD) (t : Fin ((cfgA (F := F)).N + 1)) : (dats m 0 c).Φ t = Phi m c t.val (Nat.le_of_lt_succ t.isLt) := rfl

/-- and gives them back. -/
theorem phi_exit (c : Dev nD) :
    (dats m 0 c).Φ (Fin.last (cfgA (F := F)).N) ⊢ iprop(iprop(Pipeline.scopedRest spec0 c ∗ emp) ∗ Pipeline.prefHeld pre0 c (fun _ => fullShare) (adm (F := F)).1) := by
  rw [prefHeld_eq, scopedRest0_eq, Phi_def]
  unfold Phi
  iintro ⟨⟨%x12, %x13, %hx, H0, H1⟩, HT⟩
  isplitr [HT]
  · isplitr []
    · isplitl [H0]
      · iexists x12
        rw [← owns_whole]; iapply owns_of_rep; iexact H0
      iexists x13
      rw [← owns_whole]; iapply owns_of_rep; iexact H1
    iempintro
  show _ ⊢ (c : Thread nD τ).loc main_c ↦{fullShare} tab
  rw [← owns_whole]; iapply owns_of_rep

/-! ## The host operations -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The table is the program's constant. -/
theorem V_table (c : Dev nD) : V m c (Proc.devRef .tc main_c) = tab := by
  unfold V
  rw [show StableHlo.after (hostOps0_2 (F := F)) (StableHlo.after hostOps0_1 (StableHlo.after hostOps0 fun b => m (c, b))) (Proc.devRef .tc main_c) = _ from by after_results_simp <;> rfl]
  rfl

/-- The buffers after the kernel, -/
def V1 (c : Dev nD) : Valuation τ sig (Elt F) := Pipeline.afterRegion (dats m 0 c) (V m c)
/-- and at the end. -/
def Vend (c : Dev nD) : Valuation τ sig (Elt F) := StableHlo.after hostOps1 (V1 m c)

/-- What every core keeps beside the buffers. -/
def keep (c : Dev nD) : sProp 𝕄 := iprop((∃ W, owes (c : Thread nD τ) (0 : CellTallies nD τ sig Unit) W) ∗ emp ∗ emp)

def hostSeg (ops : List (HloOp τ sig (Elt F))) (hs : ops.Forall fun op => op.bufs ⊆ StableHlo.tcRefs τ sig) (hf : ops.Forall fun op => op.fresh = ∅)
    (W : Dev nD → Valuation τ sig (Elt F)) : HostSeg (Ix := Unit) (Name := ℕ) (U := UR sig nD τ) (Lvl := ℕ) (pcfgs (F := F)) defs₀ Variants.none levs lev :=
  HostSeg.ofOps _ _ _ _ _ (Pipeline.ucRefs τ sig) ops
    (fun op h => Pipeline.sub_ucRefs op ((List.forall_iff_forall_mem.mp hs) op h))
    (fun op h => (List.forall_iff_forall_mem.mp hf) op h) W keep

theorem cut : Pipeline.LevelCut (pcfgs (F := F)) adms () levs lev 0 (fun _ => 0) (fun _ => 0) :=
  ⟨fun c w s => by unfold levs; rw [if_pos rfl]; exact Finset.mem_singleton_self _, fun _ _ _ => le_refl _, fun _ _ _ h => absurd h (lt_irrefl _)⟩

theorem region_arr (c : Dev nD) (w : Fin (cfgA (F := F)).W) : (datsAt m 0 c).arrAt w 0 = V m c (Proc.devRef .tc (Pipeline.arrRef (Pipeline.pin (pcfgs (F := F)) adms 0).spec w)) := rfl
theorem region_tbl (c : Dev nD) (k : Fin 1) : (adms (F := F) 0).1 k = V m c (Proc.devRef .tc ((pcfgs (F := F) 0).pre.ref k)) := by
  fin_cases k; exact (V_table m c).symm

def region : RegionSeg (pcfgs (F := F)) adms (datsAt m) () defs₀ Variants.none levs lev 0 :=
  RegionSeg.ofHeldInT (pcfgs (F := F)) adms (datsAt m) () defs₀ Variants.none levs lev 0 (fun _ => 0) (Pipeline.ucRefs τ sig) (fun _ => iprop(emp)) (fun _ => iprop(emp))
    launch0 (fun c => (body_obligation m c).loose) (fun _ _ => rfl) (fun _ => rfl) (share_eq m) (phi_intro m) (phi_exit m) (fun _ => 0) cut (fun _ => iprop(emp))
    (V m) (region_arr m) (region_tbl m)

theorem region_pre (c : Dev nD) : iprop(StableHlo.held (c : Thread nD τ) (Pipeline.ucRefs τ sig) (V m c) ∗ keep c) ⊢ (region m).pre c :=
  RegionSeg.ofHeldInT_pre (a := adms) (pdats := datsAt m) (L := levs) (lv := lev) (D := fun _ => 0) (X := fun _ => iprop(emp)) (Y := fun _ => iprop(emp)) (R := fun _ => iprop(emp)) (W := V m) (kit := launch0) (hbody := fun c => (body_obligation m c).loose) (howed := fun _ _ => rfl) (hrec := fun _ => rfl) (hshare := share_eq m) (hin := phi_intro m) (hout := phi_exit m) (b := fun _ => 0) (hcut := cut) (hW := region_arr m) (hT := region_tbl m)
    (Pipeline.arrRefs_sub_ucRefs _ winFacts0.arr_unscoped) (Pipeline.tblRefs_sub_ucRefs _ preFacts0.unscoped) c
theorem region_post (c : Dev nD) : (region m).post c ⊢ iprop(StableHlo.held (c : Thread nD τ) (Pipeline.ucRefs τ sig) (V1 m c) ∗ keep c) :=
  RegionSeg.ofHeldInT_post (a := adms) (pdats := datsAt m) (L := levs) (lv := lev) (D := fun _ => 0) (X := fun _ => iprop(emp)) (Y := fun _ => iprop(emp)) (R := fun _ => iprop(emp)) (W := V m) (kit := launch0) (hbody := fun c => (body_obligation m c).loose) (howed := fun _ _ => rfl) (hrec := fun _ => rfl) (hshare := share_eq m) (hin := phi_intro m) (hout := phi_exit m) (b := fun _ => 0) (hcut := cut) (hW := region_arr m) (hT := region_tbl m)
    (Pipeline.arrRefs_sub_ucRefs _ winFacts0.arr_unscoped) (Pipeline.tblRefs_sub_ucRefs _ preFacts0.unscoped) c

abbrev segs (c : Dev nD) : List (Seg (pcfgs (F := F)) adms (datsAt m) () defs₀ Variants.none levs lev) :=
  [.host (hostSeg hostOps0 hostOps0_sub hostOps0_fresh fun c b => m (c, b)),
    .host (hostSeg hostOps0_1 hostOps0_1_sub hostOps0_1_fresh fun c => StableHlo.after hostOps0 fun b => m (c, b)),
    .host (hostSeg hostOps0_2 hostOps0_2_sub hostOps0_2_fresh fun c => StableHlo.after hostOps0_1 (StableHlo.after hostOps0 fun b => m (c, b))),
    .region (region m),
    .host (hostSeg hostOps1 hostOps1_sub hostOps1_fresh (V1 m))]

theorem no_unscoped : ∀ sm : SemLoc sig, sm.isScoped .tc = true := by decide

/-- The rounds library's launch element. -/
def u₀ : UR sig nD τ :=
  initOf (Pipeline.cells (Pipeline.pin (pcfgs (F := F)) adms) ((launch0 (F := F)).cellOf_inj adms))
    (Pipeline.launchToks (Pipeline.pin (pcfgs (F := F)) adms) ((launch0 (F := F)).cellOf_inj adms))

set_option backward.isDefEq.respectTransparency.types false in
set_option maxHeartbeats 2000000 in
/-- The program terminates; at the end every buffer holds what the run computes, and every counter is zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (c, b) = Vend m c b) ∧ r.2.sem = fun _ => 0) := by
  refine Pipeline.θ_run_regions_kit_dev_sems (pcfgs (F := F)) adms (datsAt m) () ((launch0 (F := F)).cellOf_inj adms) emb₁ defs₀ Variants.none levs lev m ρ main
    (segs m)
    (fun c Q => by
      rewrite [main_chain c, Seg.run_eq_chain,
        show (segs m c).map Seg.prog = [
          StableHlo.seq hostOps0, StableHlo.seq hostOps0_1, StableHlo.seq hostOps0_2,
          Prog.lift (.customCall (Pipeline.entry 0) ()),
          StableHlo.seq hostOps1 ] from rfl]
      exact .rfl)
    (fun c => by simp only [segs, Seg.pipes_host, Seg.pipes_region, Seg.pipes_nil]; decide) (fun _ => 0)
    (fun g h => by unfold levs; exact if_neg h) (fun _ => iprop(emp)) (u₀ (F := F)) ?_
    (T₀ := fun c => iprop(StableHlo.held (c : Thread nD τ) (Pipeline.ucRefs τ sig) (fun b => m (c, b)) ∗ keep c))
    (Tₙ := fun c => StableHlo.held (c : Thread nD τ) (Pipeline.ucRefs τ sig) (Vend m c))
    (hch := fun c => ⟨.rfl, .rfl, .rfl, ?_, ?_, ?_⟩)
    (hinit := ?_) (QY := fun c s => ∀ b ∈ Pipeline.ucRefs τ sig, s.mem (c, b) = Vend m c b)
    (hfin := fun c s' => ?_) (hQ := fun _ h hz => ⟨h, funext fun g => hz g (.inr (no_unscoped g.2))⟩)
  · iintro Hu
    imodintro
    isplitl [Hu]
    · have h : (ownU (u₀ (F := F)) : sProp 𝕄) ⊢ BI.own (emb₁ (initOf (Pipeline.cells (Pipeline.pin (pcfgs (F := F)) adms) ((launch0 (F := F)).cellOf_inj adms))
          (Pipeline.launchToks (Pipeline.pin (pcfgs (F := F)) adms) ((launch0 (F := F)).cellOf_inj adms)))) := .rfl
      iapply h; iexact Hu
    rw [show (Finset.univ : Finset (Dev nD)) = {0} from by decide, bigSep_singleton]
    iempintro
  · exact region_pre m c
  · exact region_post m c
  · show iprop(StableHlo.held (c : Thread nD τ) (Pipeline.ucRefs τ sig) (Vend m c) ∗ keep c) ⊢ _
    unfold keep
    iintro ⟨Hh, Ho, -⟩
    isplitl [Hh]; · iexact Hh
    iexact Ho
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (fun b => m (c, b)) ∗ keep c) : sProp 𝕄) :=
      bigSep_mono fun c _ => by
        rw [show (unscopedBufs c (fun b => m ((c.tc : Thread nD τ).loc b)) : sProp 𝕄) = StableHlo.held (c : Thread nD τ) (Pipeline.ucRefs τ sig) (fun b => m (c, b)) from (Pipeline.unscopedBufs_held c fun b => m (c, b))]
        unfold keep
        show iprop(StableHlo.held (c : Thread nD τ) (Pipeline.ucRefs τ sig) (fun b => m (c, b)) ∗ unscopedSems0 c
          ∗ owes (c.tc : Thread nD τ) (0 : CellTallies nD τ sig Unit) ∅ ∗ Pipeline.launchCred (fun _ => 0) c ∗ prngReg c (ρ c) ∗ emp) ⊢ _
        iintro ⟨Hb, -, Ho, -⟩
        isplitl [Hb]; · iexact Hb
        isplitl [Ho]; · iexists ∅; iexact Ho
        isplitr <;> iempintro
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro; exact h
    · iexact HSI

/-! ## The arguments -/

theorem V_main_arg0 (c : Dev nD) : V m c (Proc.devRef .tc main_arg0) = m ((c : Thread nD τ).loc main_arg0) := by
  unfold V; after_results_simp <;> rfl
theorem not_main_arg0 : ∀ w : Fin 9, main_arg0 ≠ Pipeline.arrRef spec0 w := by decide
theorem Vend_main_arg0 (c : Dev nD) : Vend m c (Proc.devRef .tc main_arg0) = m ((c : Thread nD τ).loc main_arg0) := by
  unfold Vend; after_results_simp
  exact (Pipeline.afterRegion_of_not_arr (dats m 0 c) (V m c) (not_main_arg0)).trans (V_main_arg0 m c)
theorem V_main_arg1 (c : Dev nD) : V m c (Proc.devRef .tc main_arg1) = m ((c : Thread nD τ).loc main_arg1) := by
  unfold V; after_results_simp <;> rfl
theorem not_main_arg1 : ∀ w : Fin 9, main_arg1 ≠ Pipeline.arrRef spec0 w := by decide
theorem Vend_main_arg1 (c : Dev nD) : Vend m c (Proc.devRef .tc main_arg1) = m ((c : Thread nD τ).loc main_arg1) := by
  unfold Vend; after_results_simp
  exact (Pipeline.afterRegion_of_not_arr (dats m 0 c) (V m c) (not_main_arg1)).trans (V_main_arg1 m c)
theorem V_main_arg2 (c : Dev nD) : V m c (Proc.devRef .tc main_arg2) = m ((c : Thread nD τ).loc main_arg2) := by
  unfold V; after_results_simp <;> rfl
theorem not_main_arg2 : ∀ w : Fin 9, main_arg2 ≠ Pipeline.arrRef spec0 w := by decide
theorem Vend_main_arg2 (c : Dev nD) : Vend m c (Proc.devRef .tc main_arg2) = m ((c : Thread nD τ).loc main_arg2) := by
  unfold Vend; after_results_simp
  exact (Pipeline.afterRegion_of_not_arr (dats m 0 c) (V m c) (not_main_arg2)).trans (V_main_arg2 m c)
theorem V_main_arg3 (c : Dev nD) : V m c (Proc.devRef .tc main_arg3) = m ((c : Thread nD τ).loc main_arg3) := by
  unfold V; after_results_simp <;> rfl
theorem not_main_arg3 : ∀ w : Fin 9, main_arg3 ≠ Pipeline.arrRef spec0 w := by decide
theorem Vend_main_arg3 (c : Dev nD) : Vend m c (Proc.devRef .tc main_arg3) = m ((c : Thread nD τ).loc main_arg3) := by
  unfold Vend; after_results_simp
  exact (Pipeline.afterRegion_of_not_arr (dats m 0 c) (V m c) (not_main_arg3)).trans (V_main_arg3 m c)
theorem V_main_arg4 (c : Dev nD) : V m c (Proc.devRef .tc main_arg4) = m ((c : Thread nD τ).loc main_arg4) := by
  unfold V; after_results_simp <;> rfl
theorem not_main_arg4 : ∀ w : Fin 9, main_arg4 ≠ Pipeline.arrRef spec0 w := by decide
theorem Vend_main_arg4 (c : Dev nD) : Vend m c (Proc.devRef .tc main_arg4) = m ((c : Thread nD τ).loc main_arg4) := by
  unfold Vend; after_results_simp
  exact (Pipeline.afterRegion_of_not_arr (dats m 0 c) (V m c) (not_main_arg4)).trans (V_main_arg4 m c)

/-- A buffer of the TensorCore's outside its kernels is among those the run ends with. -/
theorem at_end {r : PUnit × MemSt nD τ sig (Elt F)} {c : Dev nD} (h : ∀ b ∈ Pipeline.ucRefs τ sig, r.2.mem (c, b) = Vend m c b) (b : Ref sig .tc)
    (hb : b.isScoped = false) : r.2.mem ((c.tc : Thread nD τ).loc b) = Vend m c (Proc.devRef .tc b) :=
  h (Proc.devRef .tc b) (Finset.mem_filter.mpr ⟨StableHlo.devRef_mem_tcRefs b, by rw [Bool.not_eq_true]; exact hb⟩)

/-- The frame. -/
theorem frame_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(at_end m (h.1 c) main_arg0 rfl).trans (Vend_main_arg0 m c), (at_end m (h.1 c) main_arg1 rfl).trans (Vend_main_arg1 m c), (at_end m (h.1 c) main_arg2 rfl).trans (Vend_main_arg2 m c), (at_end m (h.1 c) main_arg3 rfl).trans (Vend_main_arg3 m c), (at_end m (h.1 c) main_arg4 rfl).trans (Vend_main_arg4 m c)⟩, h.2⟩) (run m ρ)

end Fox

end
-- ==== Proof.FoxFinal.lean ====
/- The forget-gate attention's backward kernel's arrays at its end, over the reals. -/
module

public import proofs.«01_k».proof.Proof.FoxTraj
public import proofs.«01_k».proof.Proof.FoxFrame
public import Idealize.ShloMosaic.Lib.Pipeline.ValueKit.Geometry
public import Idealize.ShloMosaic.Lib.Pointwise

@[expose] public section

set_option maxRecDepth 16384

noncomputable section

namespace Fox

open Cert.FoxBwdIdeal Cert.FoxBwdIdeal.Gen Cert.Tiles
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

def dqArr : (⟨2, ![8192, 2048]⟩ : Shape).Idx → EReal := fun i => queryUpTo m c (i 0).val (i 1).val 8192
def dkArr : (⟨2, ![8192, 2048]⟩ : Shape).Idx → EReal := fun i => keyUpTo m c (i 0).val (i 1).val 8192
def dvArr : (⟨2, ![8192, 2048]⟩ : Shape).Idx → EReal := fun i => valUpTo m c (i 0).val (i 1).val 8192

/-- The sums of a head's score gradients over a row and over a column, each a column of the packed gradients. -/
def rowsArr : (⟨3, ![4, 8192, 4]⟩ : Shape).Idx → EReal := fun i => queryUpTo m c (i 1).val ((i 0).val * 512 + ((i 2).val * 128 + 64)) 8192
def colsArr : (⟨3, ![4, 8192, 4]⟩ : Shape).Idx → EReal := fun i => keyUpTo m c (i 1).val ((i 0).val * 512 + ((i 2).val * 128 + 67)) 8192

theorem select_eq (a b : ℕ) (ha : a < 2 ^ 32) (hb : b < 2 ^ 32) (A B : EReal) :
    Scalar.select (IntOp.cmpi .eq (BitVec.ofNat 32 a) (BitVec.ofNat 32 b)) A B = if a = b then A else B := by
  rw [WordCmp.cmpi_eq_ofNat ha hb]
  by_cases h : a = b
  · rw [if_pos h, decide_eq_true h]; rfl
  · rw [if_neg h, decide_eq_false h]; rfl

/-- A sum over the lanes that keeps one of them. -/
theorem sum_lane (k : Fin 128) (f : Fin 128 → EReal) :
    ∑ d : Fin 128, Scalar.select (IntOp.cmpi .eq (BitVec.ofNat 32 d.val) (BitVec.ofNat 32 k.val)) (f d) 0 = f k := by
  rw [Finset.sum_congr rfl fun d _ => select_eq d.val k.val (by omega) (by omega) (f d) 0, Finset.sum_eq_single k]
  · rw [if_pos rfl]
  · intro d _ hd; rw [if_neg fun e => hd (Fin.ext e)]
  · intro hk; exact absurd (Finset.mem_univ k) hk

theorem colSums_at (x : Vec Ideal S1024x512 .f32) (r : Fin 1024) (h : Fin 4) :
    colSums x (ix3 (n0 := 1) (n1 := 1024) (n2 := 4) 0 r h) = at2 (m := 1024) (n := 512) x r.val (h.val * 128 + 67) := by
  rw [at2_of_lt (m := 1024) (n := 512) x r.isLt (by omega)]
  unfold colSums k0_pay5 k0_pay282 k0_pay283 k0_pay284
  pointwise
  have e := sum_lane ⟨67, by omega⟩
  dsimp only at e
  simp only [e, select_eq h.val 0 (by omega) (by omega), select_eq h.val 1 (by omega) (by omega), select_eq h.val 2 (by omega) (by omega), select_eq h.val 3 (by omega) (by omega)]
  fin_cases h <;> rfl

theorem rowSums_at (x : Vec Ideal S8192x512 .f32) (r : Fin 8192) (h : Fin 4) :
    rowSums x (ix3 (n0 := 1) (n1 := 8192) (n2 := 4) 0 r h) = at2 (m := 8192) (n := 512) x r.val (h.val * 128 + 64) := by
  rw [at2_of_lt (m := 8192) (n := 512) x r.isLt (by omega)]
  unfold rowSums k0_pay6 k0_pay286 k0_pay287 k0_pay288 k0_pay285
  pointwise
  have e := sum_lane ⟨64, by omega⟩
  dsimp only at e
  simp only [e, select_eq h.val 0 (by omega) (by omega), select_eq h.val 1 (by omega) (by omega), select_eq h.val 2 (by omega) (by omega), select_eq h.val 3 (by omega) (by omega)]
  fin_cases h <;> rfl

theorem exists_last : ∀ p : Fin 4, ∃ t : Fin grid0.N, (grid0.coords t 1).val = 35 ∧ (grid0.coords t 0).val = p.val := by decide +kernel
theorem exists_column : ∀ (p : Fin 4) (u : Fin 8), ∃ t : Fin grid0.N, qi (grid0.coords t) = 7 ∧ (grid0.coords t 0).val = p.val ∧ ki (grid0.coords t) = u.val := by decide +kernel

theorem final_query : (dats m 0 c).arrAt (5 : Fin 9) (cfgA (F := Ideal)).N = dqArr m c := by
  refine (dats m 0 c).arrAt_eq_of_emb (5 : Fin 9) (dqArr m c) (fun t hf y => ?_) (fun i => ?_)
  · have h35 : (grid0.coords t 1).val = 35 := by
      have := hf.symm.trans (flush_eq t).2.1
      exact of_decide_eq_true this.symm
    have he := table_end t h35
    have hy0 : (y 0).val < 8192 := (y 0).isLt
    have hy1 : (y 1).val < 512 := (y 1).isLt
    have h := (traj_holds m c t.val t.isLt).query (y 0).val (y 1).val hy0 hy1
    refine (at2_idx (m := 8192) (n := 512) ((dats m 0 c).after (5 : Fin 9) t) y).symm.trans (h.trans ?_)
    unfold dqArr met
    rw [he.1, he.2, if_pos (by omega)]
    have e0 : ((((cfgA (F := Ideal)).win (5 : Fin 9)).blk t).view.emb y (0 : Fin 2)).val = ((cfgA (F := Ideal)).win (5 : Fin 9)).index t (0 : Fin 2) * 8192 + 1 * (y 0).val := rfl
    have e1 : ((((cfgA (F := Ideal)).win (5 : Fin 9)).blk t).view.emb y (1 : Fin 2)).val = ((cfgA (F := Ideal)).win (5 : Fin 9)).index t (1 : Fin 2) * 512 + 1 * (y 1).val := rfl
    rw [(index_eq t).2.2.2.2.2.1.1] at e0
    rw [(index_eq t).2.2.2.2.2.1.2] at e1
    rw [e0, e1, Nat.zero_mul, Nat.zero_add, one_mul, one_mul]
  · have h0 : (i 0 : Nat) < 8192 := (i 0).isLt
    have h1 : (i 1 : Nat) < 2048 := (i 1).isLt
    obtain ⟨t, ht, hp⟩ := exists_last ⟨(i 1 : Nat) / 512, by omega⟩
    refine ⟨t, by rw [(flush_eq t).2.1]; exact decide_eq_true ht, ?_⟩
    show i ∈ ((View.whole main_v96_1).slice (((cfgA (F := Ideal)).win (5 : Fin 9)).rect t)).set
    rw [View.set_slice_whole]
    refine Rect.mem_set_unit.mpr (Fin.forall_fin_two.mpr ⟨?_, ?_⟩)
    · show ((cfgA (F := Ideal)).win (5 : Fin 9)).index t (0 : Fin 2) * 8192 ≤ (i 0 : Nat) ∧ (i 0 : Nat) < ((cfgA (F := Ideal)).win (5 : Fin 9)).index t (0 : Fin 2) * 8192 + 8192
      rw [(index_eq t).2.2.2.2.2.1.1]; omega
    · show ((cfgA (F := Ideal)).win (5 : Fin 9)).index t (1 : Fin 2) * 512 ≤ (i 1 : Nat) ∧ (i 1 : Nat) < ((cfgA (F := Ideal)).win (5 : Fin 9)).index t (1 : Fin 2) * 512 + 512
      rw [(index_eq t).2.2.2.2.2.1.2, hp]; dsimp only; omega

theorem flush_seven (t : Fin (cfgA (F := Ideal)).N) (b : Bool) (e : b = (k0_cond5 (w 4 (grid0.coords t)) == 1#1)) : b = true ↔ qi (grid0.coords t) = 7 := by
  rw [e, beq_iff_eq]; exact (table _).2.2.2.2.2.1

theorem final_key : (dats m 0 c).arrAt (4 : Fin 9) (cfgA (F := Ideal)).N = dkArr m c := by
  refine (dats m 0 c).arrAt_eq_of_emb (4 : Fin 9) (dkArr m c) (fun t hf y => ?_) (fun i => ?_)
  · have h7 := (flush_seven t _ (flush_eq t).1).mp hf
    have hy0 : (y 0).val < 1024 := (y 0).isLt
    have hy1 : (y 1).val < 512 := (y 1).isLt
    have h := (traj_holds m c t.val t.isLt).key (y 0).val (y 1).val hy0 hy1
    refine (at2_idx (m := 1024) (n := 512) ((dats m 0 c).after (4 : Fin 9) t) y).symm.trans (h.trans ?_)
    unfold dkArr
    rw [h7]
    have e0 : ((((cfgA (F := Ideal)).win (4 : Fin 9)).blk t).view.emb y (0 : Fin 2)).val = ((cfgA (F := Ideal)).win (4 : Fin 9)).index t (0 : Fin 2) * 1024 + 1 * (y 0).val := rfl
    have e1 : ((((cfgA (F := Ideal)).win (4 : Fin 9)).blk t).view.emb y (1 : Fin 2)).val = ((cfgA (F := Ideal)).win (4 : Fin 9)).index t (1 : Fin 2) * 512 + 1 * (y 1).val := rfl
    rw [(index_eq t).2.2.2.2.1.1] at e0
    rw [(index_eq t).2.2.2.2.1.2] at e1
    rw [e0, e1, one_mul, one_mul]
  · have h0 : (i 0 : Nat) < 8192 := (i 0).isLt
    have h1 : (i 1 : Nat) < 2048 := (i 1).isLt
    obtain ⟨t, h7, hp, hk⟩ := exists_column ⟨(i 1 : Nat) / 512, by omega⟩ ⟨(i 0 : Nat) / 1024, by omega⟩
    refine ⟨t, (flush_seven t _ (flush_eq t).1).mpr h7, ?_⟩
    show i ∈ ((View.whole main_v96_0).slice (((cfgA (F := Ideal)).win (4 : Fin 9)).rect t)).set
    rw [View.set_slice_whole]
    refine Rect.mem_set_unit.mpr (Fin.forall_fin_two.mpr ⟨?_, ?_⟩)
    · show ((cfgA (F := Ideal)).win (4 : Fin 9)).index t (0 : Fin 2) * 1024 ≤ (i 0 : Nat) ∧ (i 0 : Nat) < ((cfgA (F := Ideal)).win (4 : Fin 9)).index t (0 : Fin 2) * 1024 + 1024
      rw [(index_eq t).2.2.2.2.1.1, hk]; dsimp only; omega
    · show ((cfgA (F := Ideal)).win (4 : Fin 9)).index t (1 : Fin 2) * 512 ≤ (i 1 : Nat) ∧ (i 1 : Nat) < ((cfgA (F := Ideal)).win (4 : Fin 9)).index t (1 : Fin 2) * 512 + 512
      rw [(index_eq t).2.2.2.2.1.2, hp]; dsimp only; omega

theorem final_val : (dats m 0 c).arrAt (6 : Fin 9) (cfgA (F := Ideal)).N = dvArr m c := by
  refine (dats m 0 c).arrAt_eq_of_emb (6 : Fin 9) (dvArr m c) (fun t hf y => ?_) (fun i => ?_)
  · have h7 := (flush_seven t _ (flush_eq t).2.2.1).mp hf
    have hy0 : (y 0).val < 1024 := (y 0).isLt
    have hy1 : (y 1).val < 512 := (y 1).isLt
    have h := (traj_holds m c t.val t.isLt).val (y 0).val (y 1).val hy0 hy1
    refine (at2_idx (m := 1024) (n := 512) ((dats m 0 c).after (6 : Fin 9) t) y).symm.trans (h.trans ?_)
    unfold dvArr
    rw [h7]
    have e0 : ((((cfgA (F := Ideal)).win (6 : Fin 9)).blk t).view.emb y (0 : Fin 2)).val = ((cfgA (F := Ideal)).win (6 : Fin 9)).index t (0 : Fin 2) * 1024 + 1 * (y 0).val := rfl
    have e1 : ((((cfgA (F := Ideal)).win (6 : Fin 9)).blk t).view.emb y (1 : Fin 2)).val = ((cfgA (F := Ideal)).win (6 : Fin 9)).index t (1 : Fin 2) * 512 + 1 * (y 1).val := rfl
    rw [(index_eq t).2.2.2.2.2.2.1.1] at e0
    rw [(index_eq t).2.2.2.2.2.2.1.2] at e1
    rw [e0, e1, one_mul, one_mul]
  · have h0 : (i 0 : Nat) < 8192 := (i 0).isLt
    have h1 : (i 1 : Nat) < 2048 := (i 1).isLt
    obtain ⟨t, h7, hp, hk⟩ := exists_column ⟨(i 1 : Nat) / 512, by omega⟩ ⟨(i 0 : Nat) / 1024, by omega⟩
    refine ⟨t, (flush_seven t _ (flush_eq t).2.2.1).mpr h7, ?_⟩
    show i ∈ ((View.whole main_v96_2).slice (((cfgA (F := Ideal)).win (6 : Fin 9)).rect t)).set
    rw [View.set_slice_whole]
    refine Rect.mem_set_unit.mpr (Fin.forall_fin_two.mpr ⟨?_, ?_⟩)
    · show ((cfgA (F := Ideal)).win (6 : Fin 9)).index t (0 : Fin 2) * 1024 ≤ (i 0 : Nat) ∧ (i 0 : Nat) < ((cfgA (F := Ideal)).win (6 : Fin 9)).index t (0 : Fin 2) * 1024 + 1024
      rw [(index_eq t).2.2.2.2.2.2.1.1, hk]; dsimp only; omega
    · show ((cfgA (F := Ideal)).win (6 : Fin 9)).index t (1 : Fin 2) * 512 ≤ (i 1 : Nat) ∧ (i 1 : Nat) < ((cfgA (F := Ideal)).win (6 : Fin 9)).index t (1 : Fin 2) * 512 + 512
      rw [(index_eq t).2.2.2.2.2.2.1.2, hp]; dsimp only; omega

theorem exists_ix3 (y : (⟨3, ![1, 8192, 4]⟩ : Shape).Idx) : y = ix3 (n0 := 1) (n1 := 8192) (n2 := 4) 0 (y 1) (y 2) := by
  conv_lhs => rw [eq_ix3 (n0 := 1) (n1 := 8192) (n2 := 4) y]
  congr 1; exact Subsingleton.elim (α := Fin 1) _ _

theorem final_rows : (dats m 0 c).arrAt (7 : Fin 9) (cfgA (F := Ideal)).N = rowsArr m c := by
  refine (dats m 0 c).arrAt_eq_of_emb (7 : Fin 9) (rowsArr m c) (fun t hf y => ?_) (fun i => ?_)
  · have h35 : (grid0.coords t 1).val = 35 := by
      have := hf.symm.trans (flush_eq t).2.2.2.1
      exact (table _).2.2.2.2.2.2.mp (beq_iff_eq.mp this.symm)
    have he := table_end t h35
    have hy0 : (y 0).val < 1 := (y 0).isLt
    have hy1 : (y 1).val < 8192 := (y 1).isLt
    have hy2 : (y 2).val < 4 := (y 2).isLt
    have h := (traj_holds m c t.val t.isLt).query (y 1).val ((y 2).val * 128 + 64) hy1 (by omega)
    have hb : (dats m 0 c).after (7 : Fin 9) t y = at2 (m := 8192) (n := 512) (traj m c t.val t.isLt).1 (y 1).val ((y 2).val * 128 + 64) := by
      have e := rowSums_at (traj m c t.val t.isLt).1 (y 1) (y 2)
      exact (congrArg (rowSums (traj m c t.val t.isLt).1) (exists_ix3 y)).trans e
    refine hb.trans (h.trans ?_)
    unfold rowsArr met
    rw [he.1, he.2, if_pos (by omega)]
    have e0 : ((((cfgA (F := Ideal)).win (7 : Fin 9)).blk t).view.emb y (0 : Fin 3)).val = ((cfgA (F := Ideal)).win (7 : Fin 9)).index t (0 : Fin 3) * 1 + 1 * (y 0).val := rfl
    have e1 : ((((cfgA (F := Ideal)).win (7 : Fin 9)).blk t).view.emb y (1 : Fin 3)).val = ((cfgA (F := Ideal)).win (7 : Fin 9)).index t (1 : Fin 3) * 8192 + 1 * (y 1).val := rfl
    have e2 : ((((cfgA (F := Ideal)).win (7 : Fin 9)).blk t).view.emb y (2 : Fin 3)).val = ((cfgA (F := Ideal)).win (7 : Fin 9)).index t (2 : Fin 3) * 4 + 1 * (y 2).val := rfl
    rw [(index_eq t).2.2.2.2.2.2.2.1.1] at e0
    rw [(index_eq t).2.2.2.2.2.2.2.1.2.1] at e1
    rw [(index_eq t).2.2.2.2.2.2.2.1.2.2] at e2
    rw [e0, e1, e2, show (y 0).val = 0 by omega]
    simp only [Nat.zero_mul, Nat.zero_add, one_mul, mul_one, mul_zero, Nat.add_zero]
  · have h0 : (i 0 : Nat) < 4 := (i 0).isLt
    have h1 : (i 1 : Nat) < 8192 := (i 1).isLt
    have h2 : (i 2 : Nat) < 4 := (i 2).isLt
    obtain ⟨t, ht, hp⟩ := exists_last ⟨(i 0 : Nat), h0⟩
    refine ⟨t, by rw [(flush_eq t).2.2.2.1]; exact beq_iff_eq.mpr ((table _).2.2.2.2.2.2.mpr ht), ?_⟩
    show i ∈ ((View.whole main_v96_3).slice (((cfgA (F := Ideal)).win (7 : Fin 9)).rect t)).set
    rw [View.set_slice_whole]
    refine Rect.mem_set_unit.mpr fun a => ?_
    match a with
    | 0 =>
      show ((cfgA (F := Ideal)).win (7 : Fin 9)).index t (0 : Fin 3) * 1 ≤ (i 0 : Nat) ∧ (i 0 : Nat) < ((cfgA (F := Ideal)).win (7 : Fin 9)).index t (0 : Fin 3) * 1 + 1
      rw [(index_eq t).2.2.2.2.2.2.2.1.1, hp]; dsimp only; omega
    | 1 =>
      show ((cfgA (F := Ideal)).win (7 : Fin 9)).index t (1 : Fin 3) * 8192 ≤ (i 1 : Nat) ∧ (i 1 : Nat) < ((cfgA (F := Ideal)).win (7 : Fin 9)).index t (1 : Fin 3) * 8192 + 8192
      rw [(index_eq t).2.2.2.2.2.2.2.1.2.1]; omega
    | 2 =>
      show ((cfgA (F := Ideal)).win (7 : Fin 9)).index t (2 : Fin 3) * 4 ≤ (i 2 : Nat) ∧ (i 2 : Nat) < ((cfgA (F := Ideal)).win (7 : Fin 9)).index t (2 : Fin 3) * 4 + 4
      rw [(index_eq t).2.2.2.2.2.2.2.1.2.2]; omega

theorem block_ix3 (y : (⟨3, ![1, 1024, 4]⟩ : Shape).Idx) : y = ix3 (n0 := 1) (n1 := 1024) (n2 := 4) 0 (y 1) (y 2) := by
  conv_lhs => rw [eq_ix3 (n0 := 1) (n1 := 1024) (n2 := 4) y]
  congr 1; exact Subsingleton.elim (α := Fin 1) _ _

theorem final_cols : (dats m 0 c).arrAt (8 : Fin 9) (cfgA (F := Ideal)).N = colsArr m c := by
  refine (dats m 0 c).arrAt_eq_of_emb (8 : Fin 9) (colsArr m c) (fun t hf y => ?_) (fun i => ?_)
  · have h7 := (flush_seven t _ (flush_eq t).2.2.2.2).mp hf
    have hy0 : (y 0).val < 1 := (y 0).isLt
    have hy1 : (y 1).val < 1024 := (y 1).isLt
    have hy2 : (y 2).val < 4 := (y 2).isLt
    have h := (traj_holds m c t.val t.isLt).key (y 1).val ((y 2).val * 128 + 67) hy1 (by omega)
    have hb : (dats m 0 c).after (8 : Fin 9) t y = at2 (m := 1024) (n := 512) (traj m c t.val t.isLt).2.1 (y 1).val ((y 2).val * 128 + 67) := by
      have e := colSums_at (traj m c t.val t.isLt).2.1 (y 1) (y 2)
      exact (congrArg (colSums (traj m c t.val t.isLt).2.1) (block_ix3 y)).trans e
    refine hb.trans (h.trans ?_)
    unfold colsArr
    rw [h7]
    have e0 : ((((cfgA (F := Ideal)).win (8 : Fin 9)).blk t).view.emb y (0 : Fin 3)).val = ((cfgA (F := Ideal)).win (8 : Fin 9)).index t (0 : Fin 3) * 1 + 1 * (y 0).val := rfl
    have e1 : ((((cfgA (F := Ideal)).win (8 : Fin 9)).blk t).view.emb y (1 : Fin 3)).val = ((cfgA (F := Ideal)).win (8 : Fin 9)).index t (1 : Fin 3) * 1024 + 1 * (y 1).val := rfl
    have e2 : ((((cfgA (F := Ideal)).win (8 : Fin 9)).blk t).view.emb y (2 : Fin 3)).val = ((cfgA (F := Ideal)).win (8 : Fin 9)).index t (2 : Fin 3) * 4 + 1 * (y 2).val := rfl
    rw [(index_eq t).2.2.2.2.2.2.2.2.1] at e0
    rw [(index_eq t).2.2.2.2.2.2.2.2.2.1] at e1
    rw [(index_eq t).2.2.2.2.2.2.2.2.2.2] at e2
    rw [e0, e1, e2, show (y 0).val = 0 by omega]
    simp only [Nat.zero_mul, Nat.zero_add, one_mul, mul_one, mul_zero, Nat.add_zero]
  · have h0 : (i 0 : Nat) < 4 := (i 0).isLt
    have h1 : (i 1 : Nat) < 8192 := (i 1).isLt
    have h2 : (i 2 : Nat) < 4 := (i 2).isLt
    obtain ⟨t, h7, hp, hk⟩ := exists_column ⟨(i 0 : Nat), h0⟩ ⟨(i 1 : Nat) / 1024, by omega⟩
    refine ⟨t, (flush_seven t _ (flush_eq t).2.2.2.2).mpr h7, ?_⟩
    show i ∈ ((View.whole main_v96_4).slice (((cfgA (F := Ideal)).win (8 : Fin 9)).rect t)).set
    rw [View.set_slice_whole]
    refine Rect.mem_set_unit.mpr fun a => ?_
    match a with
    | 0 =>
      show ((cfgA (F := Ideal)).win (8 : Fin 9)).index t (0 : Fin 3) * 1 ≤ (i 0 : Nat) ∧ (i 0 : Nat) < ((cfgA (F := Ideal)).win (8 : Fin 9)).index t (0 : Fin 3) * 1 + 1
      rw [(index_eq t).2.2.2.2.2.2.2.2.1, hp]; dsimp only; omega
    | 1 =>
      show ((cfgA (F := Ideal)).win (8 : Fin 9)).index t (1 : Fin 3) * 1024 ≤ (i 1 : Nat) ∧ (i 1 : Nat) < ((cfgA (F := Ideal)).win (8 : Fin 9)).index t (1 : Fin 3) * 1024 + 1024
      rw [(index_eq t).2.2.2.2.2.2.2.2.2.1, hk]; dsimp only; omega
    | 2 =>
      show ((cfgA (F := Ideal)).win (8 : Fin 9)).index t (2 : Fin 3) * 4 ≤ (i 2 : Nat) ∧ (i 2 : Nat) < ((cfgA (F := Ideal)).win (8 : Fin 9)).index t (2 : Fin 3) * 4 + 4
      rw [(index_eq t).2.2.2.2.2.2.2.2.2.2]; omega

/-! ## The results -/

theorem V1_dk : V1 m c (Proc.devRef .tc main_v96_0) = dkArr m c := (Pipeline.afterRegion_arr (dats m 0 c) (V m c) winFacts0.arr_inj (4 : Fin 9)).trans (final_key m c)
theorem V1_dq : V1 m c (Proc.devRef .tc main_v96_1) = dqArr m c := (Pipeline.afterRegion_arr (dats m 0 c) (V m c) winFacts0.arr_inj (5 : Fin 9)).trans (final_query m c)
theorem V1_dv : V1 m c (Proc.devRef .tc main_v96_2) = dvArr m c := (Pipeline.afterRegion_arr (dats m 0 c) (V m c) winFacts0.arr_inj (6 : Fin 9)).trans (final_val m c)
theorem V1_rows : V1 m c (Proc.devRef .tc main_v96_3) = rowsArr m c := (Pipeline.afterRegion_arr (dats m 0 c) (V m c) winFacts0.arr_inj (7 : Fin 9)).trans (final_rows m c)
theorem V1_cols : V1 m c (Proc.devRef .tc main_v96_4) = colsArr m c := (Pipeline.afterRegion_arr (dats m 0 c) (V m c) winFacts0.arr_inj (8 : Fin 9)).trans (final_cols m c)

theorem Vend_dq (i : Fin 8192) (h : Fin 16) (d : Fin 64) : Vend m c (Proc.devRef .tc main_v107) (ix3 i h d) = queryUpTo m c i.val (h.val * 128 + d.val) 8192 * Ideal.ofBits .f32 0x3E000000#32 := by
  have e : Vend m c (Proc.devRef .tc main_v107) = StableHlo.after hostOps1 (V1 m c) (Proc.devRef .tc main_v107) := rfl
  rw [e]
  after_results_simp
  rw [V1_dq]
  pointwise
  rfl

theorem Vend_dk (i : Fin 8192) (h : Fin 16) (d : Fin 64) : Vend m c (Proc.devRef .tc main_v100) (ix3 i h d) = keyUpTo m c i.val (h.val * 128 + d.val) 8192 := by
  have e : Vend m c (Proc.devRef .tc main_v100) = StableHlo.after hostOps1 (V1 m c) (Proc.devRef .tc main_v100) := rfl
  rw [e]
  after_results_simp
  rw [V1_dk]
  pointwise
  rfl

theorem Vend_dv (i : Fin 8192) (h : Fin 16) (d : Fin 64) : Vend m c (Proc.devRef .tc main_v102) (ix3 i h d) = valUpTo m c i.val (h.val * 128 + d.val) 8192 := by
  have e : Vend m c (Proc.devRef .tc main_v102) = StableHlo.after hostOps1 (V1 m c) (Proc.devRef .tc main_v102) := rfl
  rw [e]
  after_results_simp
  rw [V1_dv]
  pointwise
  rfl

theorem Vend_cum (i : Fin 8192) (h : Fin 16) : Vend m c (Proc.devRef .tc main_v105) (ix2 i h)
    = queryUpTo m c i.val (h.val * 128 + 64) 8192 - keyUpTo m c i.val (h.val * 128 + 67) 8192 := by
  have e : Vend m c (Proc.devRef .tc main_v105) = StableHlo.after hostOps1 (V1 m c) (Proc.devRef .tc main_v105) := rfl
  rw [e]
  after_results_simp
  rw [V1_rows, V1_cols]
  pointwise
  have e1 : h.val * 128 + 64 = h.val / 4 * 512 + (h.val % 4 * 128 + 64) := by omega
  have e2 : h.val * 128 + 67 = h.val / 4 * 512 + (h.val % 4 * 128 + 67) := by omega
  rw [e1, e2]
  rfl

end Fox
-- ==== Proof.FoxHost.lean ====
/- The forget-gate attention's backward kernel's packed arguments, read at an index. -/
module

public import proofs.«01_k».proof.Proof.FoxFinal
public import proofs.«01_k».proof.Proof.SoftRow

@[expose] public section

set_option maxRecDepth 16384

noncomputable section

namespace Fox

open Cert.FoxBwdIdeal Cert.FoxBwdIdeal.Gen Cert.Tiles
open Idealize.ShloMosaic Idealize.ShloMosaic.TcCoe Idealize.ShloMosaic.Tactic

variable (W : Valuation τ sig (Elt Ideal))

theorem head_of (h : Fin 16) (d : Fin 128) : (h.val * 128 + d.val) / 128 = h.val := by omega
theorem col_of (h : Fin 16) (d : Fin 128) : (h.val * 128 + d.val) % 128 = d.val := by omega

set_option maxHeartbeats 2000000

/-- Head `h`'s columns of a row of the packed keys, queries, values and cotangents, the gate `G`, the log-sum `L` and the product `D` each in three parts. -/
def keyCol (k : (⟨3, ![8192, 16, 64]⟩ : Shape).Idx → EReal) (G : EReal) (i : Fin 8192) (h : Fin 16) (d : Fin 128) : EReal :=
  if h0 : d.val < 64 then k (ix3 i h ⟨d.val, h0⟩) else if d.val - 64 < 3 then 1 else
  if d.val - 64 - 3 < 1 then -G else if d.val - 64 - 3 - 1 < 1 then -(G - G) else if d.val - 64 - 3 - 1 - 1 < 1 then -(G - G - (G - G)) else
  if d.val - 64 - 3 - 1 - 1 - 1 < 3 then 1 else 0

def queryCol (q : (⟨3, ![8192, 16, 64]⟩ : Shape).Idx → EReal) (G L : EReal) (i : Fin 8192) (h : Fin 16) (d : Fin 128) : EReal :=
  if h0 : d.val < 64 then q (ix3 i h ⟨d.val, h0⟩) * Ideal.ofBits .f32 0x3E000000#32 else
  if d.val - 64 < 1 then G else if d.val - 64 - 1 < 1 then G - G else if d.val - 64 - 1 - 1 < 1 then G - G - (G - G) else
  if d.val - 64 - 1 - 1 - 1 < 3 then 1 else
  if d.val - 64 - 1 - 1 - 1 - 3 < 1 then -L else if d.val - 64 - 1 - 1 - 1 - 3 - 1 < 1 then -(L - L) else if d.val - 64 - 1 - 1 - 1 - 3 - 1 - 1 < 1 then -(L - L - (L - L)) else 0

def valCol (v : (⟨3, ![8192, 16, 64]⟩ : Shape).Idx → EReal) (i : Fin 8192) (h : Fin 16) (d : Fin 128) : EReal :=
  if h0 : d.val < 64 then v (ix3 i h ⟨d.val, h0⟩) else if d.val - 64 < 3 then Ideal.ofBits .f32 0xBF800000#32
  else if d.val - 64 - 3 < 1 then 1 else 0

def ctCol (o : (⟨3, ![8192, 16, 64]⟩ : Shape).Idx → EReal) (D : EReal) (i : Fin 8192) (h : Fin 16) (d : Fin 128) : EReal :=
  if h0 : d.val < 64 then o (ix3 i h ⟨d.val, h0⟩) else
  if d.val - 64 < 1 then D else if d.val - 64 - 1 < 1 then D - D else if d.val - 64 - 1 - 1 < 1 then D - D - (D - D) else 0

/-- The gate's running sum at a query or key. -/
def gateAt (g : (⟨2, ![8192, 16]⟩ : Shape).Idx → EReal) (i : Fin 8192) (h : Fin 16) : EReal := g (ix2 i h)

/-- A row of an array of logits, and the columns of values and cotangents. -/
def logitRow (s : (⟨3, ![16, 8192, 8192]⟩ : Shape).Idx → EReal) (h : Fin 16) (i : Fin 8192) (x : Fin 8192) : EReal := s (ix3 h i x)
def valRow (v : (⟨3, ![8192, 16, 64]⟩ : Shape).Idx → EReal) (h : Fin 16) (x : Fin 8192) (e : Fin 64) : EReal := v (ix3 x h e)
def ctRow (o : (⟨3, ![8192, 16, 64]⟩ : Shape).Idx → EReal) (h : Fin 16) (i : Fin 8192) (e : Fin 64) : EReal := o (ix3 i h e)

theorem host_k (i : Fin 8192) (h : Fin 16) (d : Fin 128) (hc : h.val * 128 + d.val < 2048) :
    StableHlo.after hostOps0_2 W (Proc.devRef .tc main_v76) (ix2 i ⟨h.val * 128 + d.val, hc⟩)
      = keyCol (W (Proc.devRef .tc main_arg1)) (gateAt (W (Proc.devRef .tc main_arg3)) i h) i h d := by
  after_results_simp
  pointwise
  after_results_simp
  pointwise
  simp only [head_of, col_of]
  rfl

theorem host_top (i : Fin 8192) (h : Fin 16) :
    (StableHlo.after (hostOps0_2.take 2) W (Proc.devRef .tc main_v18) : (⟨2, ![16, 8192]⟩ : Shape).Idx → EReal) (ix2 h i)
      = rowTop (logitRow (W (Proc.devRef .tc main_v17)) h i) := by
  simp only [hostOps0_2, List.take_succ_cons, List.take_zero]
  after_results_simp
  pointwise
  rfl

theorem host_top_logits : StableHlo.after (hostOps0_2.take 2) W (Proc.devRef .tc main_v17) = W (Proc.devRef .tc main_v17) := by
  simp only [hostOps0_2, List.take_succ_cons, List.take_zero]
  after_results_simp

/-- The log-sum of a row below its greatest logit `T`. -/
def lseFrom (s : Fin 8192 → EReal) (T : EReal) : EReal := T + Ideal.log (∑ x, Ideal.exp (s x - T))
def topAt (t : (⟨2, ![16, 8192]⟩ : Shape).Idx → EReal) (h : Fin 16) (i : Fin 8192) : EReal := t (ix2 h i)

theorem host_log' (i : Fin 8192) (h : Fin 16) (y : Fin 1) :
    (StableHlo.after ((hostOps0_2.drop 2).take 9) W (Proc.devRef .tc main_v26) : (⟨3, ![16, 8192, 1]⟩ : Shape).Idx → EReal) (ix3 h i y)
      = lseFrom (logitRow (W (Proc.devRef .tc main_v17)) h i) (topAt (W (Proc.devRef .tc main_v18)) h i) := by
  simp only [hostOps0_2, List.drop_succ_cons, List.drop_zero, List.take_succ_cons, List.take_zero]
  after_results_simp
  pointwise
  rfl

theorem host_log (i : Fin 8192) (h : Fin 16) (y : Fin 1) :
    (StableHlo.after (hostOps0_2.take 11) W (Proc.devRef .tc main_v26) : (⟨3, ![16, 8192, 1]⟩ : Shape).Idx → EReal) (ix3 h i y)
      = rowLse (logitRow (W (Proc.devRef .tc main_v17)) h i) := by
  have e : StableHlo.after (hostOps0_2.take 11) W = StableHlo.after ((hostOps0_2.drop 2).take 9) (StableHlo.after (hostOps0_2.take 2) W) := by
    rw [← StableHlo.after_append]; rfl
  rw [e]
  refine (host_log' _ i h y).trans ?_
  rw [host_top_logits]
  unfold rowLse rowSum
  rw [← host_top W i h]
  rfl

theorem host_log_arg : StableHlo.after (hostOps0_2.take 11) W (Proc.devRef .tc main_arg0) = W (Proc.devRef .tc main_arg0) := by
  simp only [hostOps0_2, List.take_succ_cons, List.take_zero]
  after_results_simp
theorem host_log_gate : StableHlo.after (hostOps0_2.take 11) W (Proc.devRef .tc main_arg3) = W (Proc.devRef .tc main_arg3) := by
  simp only [hostOps0_2, List.take_succ_cons, List.take_zero]
  after_results_simp

/-- A row's log-sum as it is kept. -/
def kept (x : (⟨3, ![16, 8192, 1]⟩ : Shape).Idx → EReal) (i : Fin 8192) (h : Fin 16) : EReal := x (ix3 h i 0)

theorem kept_eq (x : (⟨3, ![16, 8192, 1]⟩ : Shape).Idx → EReal) (i : Fin 8192) (h : Fin 16) (y : Fin 1) : x (ix3 h i y) = kept x i h := by
  rw [Subsingleton.elim y 0]; rfl

theorem host_q' (i : Fin 8192) (h : Fin 16) (d : Fin 128) (hc : h.val * 128 + d.val < 2048) :
    StableHlo.after (hostOps0_2.drop 11) W (Proc.devRef .tc main_v67) (ix2 i ⟨h.val * 128 + d.val, hc⟩)
      = queryCol (W (Proc.devRef .tc main_arg0)) (gateAt (W (Proc.devRef .tc main_arg3)) i h) (kept (W (Proc.devRef .tc main_v26)) i h) i h d := by
  simp only [hostOps0_2, List.drop_succ_cons, List.drop_zero]
  after_results_simp
  pointwise
  after_results_simp
  pointwise
  simp only [head_of, col_of]
  rfl

theorem host_q (i : Fin 8192) (h : Fin 16) (d : Fin 128) (hc : h.val * 128 + d.val < 2048) :
    StableHlo.after hostOps0_2 W (Proc.devRef .tc main_v67) (ix2 i ⟨h.val * 128 + d.val, hc⟩)
      = queryCol (W (Proc.devRef .tc main_arg0)) (gateAt (W (Proc.devRef .tc main_arg3)) i h) (rowLse (logitRow (W (Proc.devRef .tc main_v17)) h i)) i h d := by
  have e : StableHlo.after hostOps0_2 W = StableHlo.after (hostOps0_2.drop 11) (StableHlo.after (hostOps0_2.take 11) W) := by
    rw [← StableHlo.after_append, List.take_append_drop]
  rw [e, host_q', ← host_log W i h 0, host_log_arg, host_log_gate]
  rfl

theorem host_v (i : Fin 8192) (h : Fin 16) (d : Fin 128) (hc : h.val * 128 + d.val < 2048) :
    StableHlo.after hostOps0_2 W (Proc.devRef .tc main_v82) (ix2 i ⟨h.val * 128 + d.val, hc⟩)
      = valCol (W (Proc.devRef .tc main_arg2)) i h d := by
  after_results_simp
  pointwise
  after_results_simp
  pointwise
  simp only [head_of, col_of]
  rfl

theorem host_d (i : Fin 8192) (h : Fin 16) (d : Fin 128) (hc : h.val * 128 + d.val < 2048) :
    StableHlo.after hostOps0_2 W (Proc.devRef .tc main_v95) (ix2 i ⟨h.val * 128 + d.val, hc⟩)
      = ctCol (W (Proc.devRef .tc main_arg4))
          (rowDelta (logitRow (W (Proc.devRef .tc main_v17)) h i) (valRow (W (Proc.devRef .tc main_arg2)) h) (ctRow (W (Proc.devRef .tc main_arg4)) h i)) i h d := by
  after_results_simp
  pointwise
  after_results_simp
  pointwise
  simp only [head_of, col_of]
  rfl

/-- Head `h`'s logit of query `i` for key `x`. -/
def logit (q k : (⟨3, ![8192, 16, 64]⟩ : Shape).Idx → EReal) (g : (⟨2, ![8192, 16]⟩ : Shape).Idx → EReal) (h : Fin 16) (i x : Fin 8192) : EReal :=
  if x.val ≤ i.val then (∑ d : Fin 64, q (ix3 i h d) * k (ix3 x h d)) * Ideal.ofBits .f32 0x3E000000#32 + g (ix2 i h) - g (ix2 x h)
  else Ideal.ofBits .f32 0xFF800000#32

theorem select_sle (x i : Fin 8192) (A B : EReal) :
    Scalar.select (IntOp.cmpi .sle (BitVec.ofNat 32 x.val) (BitVec.ofNat 32 i.val)) A B = if x.val ≤ i.val then A else B := by
  rw [WordCmp.cmpi_sle_ofNat (by norm_num; omega) (by norm_num; omega)]
  by_cases hx : x.val ≤ i.val
  · rw [if_pos hx, decide_eq_true hx]; rfl
  · rw [if_neg hx, decide_eq_false hx]; rfl

variable (m : (ℓ : Loc nD τ sig) → Buf (Elt Ideal) ℓ) (c : Dev nD)

theorem host_logits (h : Fin 16) (i : Fin 8192) :
    logitRow (StableHlo.after hostOps0_1 (StableHlo.after hostOps0 (fun b => m (c, b))) (Proc.devRef .tc main_v17)) h i
      = logit (m (c, Proc.devRef .tc main_arg0)) (m (c, Proc.devRef .tc main_arg1)) (m (c, Proc.devRef .tc main_arg3)) h i := by
  funext x
  unfold logitRow
  after_results_simp
  simp only [StableHlo.TRef.toBuf, StableHlo.TRef.ofBuf, cast_eq, id]
  pointwise
  exact select_sle x i _ _

theorem host_arg0 : StableHlo.after hostOps0_1 (StableHlo.after hostOps0 (fun b => m (c, b))) (Proc.devRef .tc main_arg0) = m (c, Proc.devRef .tc main_arg0) := by
  after_results_simp <;> rfl
theorem host_arg1 : StableHlo.after hostOps0_1 (StableHlo.after hostOps0 (fun b => m (c, b))) (Proc.devRef .tc main_arg1) = m (c, Proc.devRef .tc main_arg1) := by
  after_results_simp <;> rfl
theorem host_arg2 : StableHlo.after hostOps0_1 (StableHlo.after hostOps0 (fun b => m (c, b))) (Proc.devRef .tc main_arg2) = m (c, Proc.devRef .tc main_arg2) := by
  after_results_simp <;> rfl
theorem host_arg3 : StableHlo.after hostOps0_1 (StableHlo.after hostOps0 (fun b => m (c, b))) (Proc.devRef .tc main_arg3) = m (c, Proc.devRef .tc main_arg3) := by
  after_results_simp <;> rfl
theorem host_arg4 : StableHlo.after hostOps0_1 (StableHlo.after hostOps0 (fun b => m (c, b))) (Proc.devRef .tc main_arg4) = m (c, Proc.devRef .tc main_arg4) := by
  after_results_simp <;> rfl

theorem packed (x : (⟨2, ![8192, 2048]⟩ : Shape).Idx → EReal) (i : Fin 8192) (h : Fin 16) (d : Fin 128) :
    at2 x i.val (h.val * 128 + d.val) = x (ix2 i ⟨h.val * 128 + d.val, by omega⟩) := at2_of_lt x i.isLt (by omega)

theorem ka_eq (i : Fin 8192) (h : Fin 16) (d : Fin 128) : ka m c i.val (h.val * 128 + d.val)
    = keyCol (m (c, Proc.devRef .tc main_arg1)) (gateAt (m (c, Proc.devRef .tc main_arg3)) i h) i h d := by
  rw [← host_arg1 m c, ← host_arg3 m c]
  exact (packed _ i h d).trans (host_k _ i h d (by omega))

theorem va_eq (i : Fin 8192) (h : Fin 16) (d : Fin 128) : va m c i.val (h.val * 128 + d.val)
    = valCol (m (c, Proc.devRef .tc main_arg2)) i h d := by
  rw [← host_arg2 m c]
  exact (packed _ i h d).trans (host_v _ i h d (by omega))

theorem qa_eq (i : Fin 8192) (h : Fin 16) (d : Fin 128) : qa m c i.val (h.val * 128 + d.val)
    = queryCol (m (c, Proc.devRef .tc main_arg0)) (gateAt (m (c, Proc.devRef .tc main_arg3)) i h) (rowLse (logit (m (c, Proc.devRef .tc main_arg0)) (m (c, Proc.devRef .tc main_arg1)) (m (c, Proc.devRef .tc main_arg3)) h i)) i h d := by
  rw [← host_logits]
  rw [show gateAt (m (c, Proc.devRef .tc main_arg3)) i h = gateAt (StableHlo.after hostOps0_1 (StableHlo.after hostOps0 (fun b => m (c, b))) (Proc.devRef .tc main_arg3)) i h from by rw [host_arg3]]
  nth_rewrite 1 [← host_arg0 m c]
  exact (packed _ i h d).trans (host_q _ i h d (by omega))

theorem da_eq (i : Fin 8192) (h : Fin 16) (d : Fin 128) : da m c i.val (h.val * 128 + d.val)
    = ctCol (m (c, Proc.devRef .tc main_arg4)) (rowDelta (logit (m (c, Proc.devRef .tc main_arg0)) (m (c, Proc.devRef .tc main_arg1)) (m (c, Proc.devRef .tc main_arg3)) h i)
        (valRow (m (c, Proc.devRef .tc main_arg2)) h) (ctRow (m (c, Proc.devRef .tc main_arg4)) h i)) i h d := by
  rw [← host_logits, ← host_arg2 m c, ← host_arg4 m c]
  exact (packed _ i h d).trans (host_d _ i h d (by omega))

end Fox
-- ==== Proof.FoxRef.lean ====
/- The derivative of the forget-gate attention, read at an index. -/
module

public import proofs.«01_k».proof.Proof.FoxHost
public import proofs.«01_k».proof.Proof.Gen.FoxRefIdeal.Read

@[expose] public section

set_option maxRecDepth 16384

noncomputable section

namespace Fox.Ref

open Cert.FoxRefIdeal Cert.FoxRefIdeal.Read Cert.Tiles Idealize.ShloMosaic

variable (x0 x1 x2 : (⟨3, ![8192, 16, 64]⟩ : Shape).Idx → EReal) (x3 : (⟨2, ![8192, 16]⟩ : Shape).Idx → EReal) (x4 : (⟨3, ![8192, 16, 64]⟩ : Shape).Idx → EReal) (h : Fin 16) (i x : Fin 8192)

theorem at17 : val_main_v17_0 (F := Ideal) x0 x1 x3 (ix3 h i x) = logit x0 x1 x3 h i x := by
  unfold val_main_v17_0 val_main_v17_1 val_main_v16 val_main_v14 val_main_v15 val_main_v12 val_main_v13 val_main_v11 val_main_v10 val_main_v9 val_main_v8 val_main_v7 val_main_v6 val_main_v5
    val_main_v4 val_main_v3 val_main_v2 val_main_cst val_main_v1 val_main_v0 val_main_call0_v2 val_main_call0_v0 val_main_cst_0
  pointwise
  exact select_sle x i _ _

theorem row17 : logitRow (val_main_v17_0 (F := Ideal) x0 x1 x3) h i = logit x0 x1 x3 h i := funext fun x => at17 x0 x1 x3 h i x

theorem at18 : val_main_v18 (F := Ideal) x0 x1 x3 (ix2 h i) = rowTop (logit x0 x1 x3 h i) := by
  rw [← row17]
  unfold val_main_v18 val_main_cst_1
  generalize val_main_v17_0 (F := Ideal) x0 x1 x3 = S
  pointwise
  rfl

theorem at25 : val_main_v25 (F := Ideal) x0 x1 x3 (ix2 h i) = max (Ideal.ofBits .f32 0xFF800000#32) (val_main_v18 (F := Ideal) x0 x1 x3 (ix2 h i)) := by
  rw [val_main_v25_apply, Ideal.maximumf_def, val_main_v24_apply, val_main_cst_3_apply]
  rfl

theorem at38' : val_main_v38 (F := Ideal) x0 x1 x3 (ix3 h i x)
    = Ideal.exp (val_main_v17_0 (F := Ideal) x0 x1 x3 (ix3 h i x) - val_main_v25 (F := Ideal) x0 x1 x3 (ix2 h i)) := by
  unfold val_main_v38 val_main_v37 val_main_v36 val_main_v35
  generalize val_main_v17_0 (F := Ideal) x0 x1 x3 = S
  generalize val_main_v25 (F := Ideal) x0 x1 x3 = T
  pointwise

theorem at38 : val_main_v38 (F := Ideal) x0 x1 x3 (ix3 h i x)
    = Ideal.exp (logit x0 x1 x3 h i x - max (Ideal.ofBits .f32 0xFF800000#32) (rowTop (logit x0 x1 x3 h i))) := by
  rw [at38', at17, at25, at18]

theorem at39 : val_main_v39 (F := Ideal) x0 x1 x3 (ix2 h i) = ∑ x, val_main_v38 (F := Ideal) x0 x1 x3 (ix3 h i x) := by
  unfold val_main_v39 val_main_cst_9
  generalize val_main_v38 (F := Ideal) x0 x1 x3 = S
  pointwise

theorem at42 : val_main_v42 (F := Ideal) x0 x1 x3 (ix3 h i x)
    = Ideal.div (val_main_v38 (F := Ideal) x0 x1 x3 (ix3 h i x)) (val_main_v39 (F := Ideal) x0 x1 x3 (ix2 h i)) := by
  unfold val_main_v42 val_main_v41 val_main_v40
  generalize val_main_v38 (F := Ideal) x0 x1 x3 = S
  generalize val_main_v39 (F := Ideal) x0 x1 x3 = T
  pointwise

theorem at49 : val_main_v49 (F := Ideal) x2 x4 (ix3 h i x) = ∑ d : Fin 64, x4 (ix3 i h d) * x2 (ix3 x h d) := by
  unfold val_main_v49 val_main_v48
  pointwise

theorem at55 : val_main_v55 (F := Ideal) x0 x1 x2 x3 x4 (ix2 h i)
    = ∑ x, val_main_v49 (F := Ideal) x2 x4 (ix3 h i x) * Ideal.div 1 (val_main_v39 (F := Ideal) x0 x1 x3 (ix2 h i) * val_main_v39 (F := Ideal) x0 x1 x3 (ix2 h i))
        * val_main_v38 (F := Ideal) x0 x1 x3 (ix3 h i x) := by
  unfold val_main_v55 val_main_cst_11 val_main_v54 val_main_v53 val_main_v52 val_main_v45 val_main_v44 val_main_cst_10 val_main_v43 val_main_v40
  generalize val_main_v38 (F := Ideal) x0 x1 x3 = S
  generalize val_main_v39 (F := Ideal) x0 x1 x3 = T
  generalize val_main_v49 (F := Ideal) x2 x4 = U
  pointwise

/-- The gradient of a logit. -/
theorem at64 : val_main_v64 (F := Ideal) x0 x1 x2 x3 x4 (ix3 h i x)
    = if x.val ≤ i.val then (Ideal.div (val_main_v49 (F := Ideal) x2 x4 (ix3 h i x)) (val_main_v39 (F := Ideal) x0 x1 x3 (ix2 h i))
        + -val_main_v55 (F := Ideal) x0 x1 x2 x3 x4 (ix2 h i)) * val_main_v38 (F := Ideal) x0 x1 x3 (ix3 h i x) else 0 := by
  unfold val_main_v64 val_main_call1_v0 val_main_call1_cst val_main_v63 val_main_v62 val_main_v61 val_main_v60 val_main_cst_12 val_main_v59 val_main_v58 val_main_v57 val_main_v56 val_main_v40
    val_main_v17_1 val_main_v16 val_main_v14 val_main_v15 val_main_v12 val_main_v13 val_main_v11
  generalize val_main_v38 (F := Ideal) x0 x1 x3 = S
  generalize val_main_v39 (F := Ideal) x0 x1 x3 = T
  generalize val_main_v49 (F := Ideal) x2 x4 = U
  generalize val_main_v55 (F := Ideal) x0 x1 x2 x3 x4 = W
  pointwise
  simp only [Fintype.sum_unique]
  exact select_sle x i _ _

theorem dq_at (d : Fin 64) : val_main_v78 (F := Ideal) x0 x1 x2 x3 x4 (ix3 i h d)
    = ∑ a : Fin 8192, val_main_v64 (F := Ideal) x0 x1 x2 x3 x4 (ix3 h i a) * Ideal.ofBits .f32 0x3E000000#32 * x1 (ix3 a h d) := by
  unfold val_main_v78 val_main_v77 val_main_v74 val_main_v73 val_main_cst_17
  generalize val_main_v64 (F := Ideal) x0 x1 x2 x3 x4 = S
  pointwise

theorem dk_at (d : Fin 64) : val_main_v81 (F := Ideal) x0 x1 x2 x3 x4 (ix3 x h d)
    = ∑ b : Fin 8192, val_main_v64 (F := Ideal) x0 x1 x2 x3 x4 (ix3 h b x) * Ideal.ofBits .f32 0x3E000000#32 * x0 (ix3 b h d) := by
  unfold val_main_v81 val_main_v76 val_main_v75 val_main_v74 val_main_v73 val_main_cst_17
  generalize val_main_v64 (F := Ideal) x0 x1 x2 x3 x4 = S
  pointwise

theorem dv_at (d : Fin 64) : val_main_v82 (F := Ideal) x0 x1 x3 x4 (ix3 x h d)
    = ∑ b : Fin 8192, x4 (ix3 b h d) * val_main_v42 (F := Ideal) x0 x1 x3 (ix3 h b x) := by
  unfold val_main_v82 val_main_v51 val_main_v50 val_main_v48
  generalize val_main_v42 (F := Ideal) x0 x1 x3 = S
  pointwise

/-- The gate's gradient: a query's score gradients, less a key's. -/
theorem dg_at : val_main_v80 (F := Ideal) x0 x1 x2 x3 x4 (ix2 i h)
    = (∑ a : Fin 8192, val_main_v64 (F := Ideal) x0 x1 x2 x3 x4 (ix3 h i a)) + ∑ b : Fin 8192, -val_main_v64 (F := Ideal) x0 x1 x2 x3 x4 (ix3 h b i) := by
  unfold val_main_v80 val_main_v79 val_main_v72 val_main_v71 val_main_cst_16 val_main_v70 val_main_v69 val_main_cst_15 val_main_v68 val_main_cst_14 val_main_v67 val_main_v66 val_main_cst_13 val_main_v65
  generalize val_main_v64 (F := Ideal) x0 x1 x2 x3 x4 = S
  pointwise
  simp only [Fintype.sum_unique]

end Fox.Ref
-- ==== Proof.FoxValue.lean ====
/- The forget-gate attention's backward kernel's results are its derivative, where the arguments are finite. -/
module

public import proofs.«01_k».proof.Proof.FoxRef

@[expose] public section

set_option maxRecDepth 16384

noncomputable section

namespace Fox

open Cert Cert.Tiles Idealize.ShloMosaic

/-- A sum over the 128 columns of a head, in the runs that its packing makes. -/
theorem sum_cols (f : Fin 128 → EReal) : ∑ d, f d = (∑ d : Fin 64, f ⟨d.val, by omega⟩) + ((f ⟨64, by omega⟩ + f ⟨65, by omega⟩ + f ⟨66, by omega⟩)
    + ((f ⟨67, by omega⟩ + f ⟨68, by omega⟩ + f ⟨69, by omega⟩) + ((f ⟨70, by omega⟩ + f ⟨71, by omega⟩ + f ⟨72, by omega⟩) + ∑ d : Fin 55, f ⟨73 + d.val, by omega⟩))) := by
  have e : ∑ d, f d = ∑ d : Fin (64 + (3 + (3 + (3 + 55)))), f d := rfl
  rw [e, Fin.sum_univ_add, Fin.sum_univ_add, Fin.sum_univ_add, Fin.sum_univ_add, Fin.sum_univ_three, Fin.sum_univ_three, Fin.sum_univ_three]
  refine congrArg₂ (· + ·) rfl (congrArg₂ (· + ·) rfl (congrArg₂ (· + ·) rfl (congrArg₂ (· + ·) rfl (Finset.sum_congr rfl fun d _ => congrArg f (Fin.ext ?_)))))
  show 64 + (3 + (3 + (3 + d.val))) = 73 + d.val
  omega

theorem sum_val (f : Fin 128 → EReal) : ∑ d, f d = (∑ d : Fin 64, f ⟨d.val, by omega⟩)
    + ((f ⟨64, by omega⟩ + f ⟨65, by omega⟩ + f ⟨66, by omega⟩) + ∑ d : Fin 61, f ⟨67 + d.val, by omega⟩) := by
  have e : ∑ d, f d = ∑ d : Fin (64 + (3 + 61)), f d := rfl
  rw [e, Fin.sum_univ_add, Fin.sum_univ_add, Fin.sum_univ_three]
  refine congrArg₂ (· + ·) rfl (congrArg₂ (· + ·) rfl (Finset.sum_congr rfl fun d _ => congrArg f (Fin.ext ?_)))
  show 64 + (3 + d.val) = 67 + d.val
  omega

theorem scale_real : ∃ σ : ℝ, Ideal.ofBits .f32 0x3E000000#32 = (σ : EReal) := by
  refine ⟨8388608 * (2 : ℝ) ^ (-26 : ℤ), ?_⟩
  simp [Ideal.ofBits, Ideal.ieee, -EReal.coe_mul]

theorem ofBits_neg_one : Ideal.ofBits .f32 0xBF800000#32 = ((-1 : ℝ) : EReal) := by
  simp [Ideal.ofBits, Ideal.ieee, -EReal.coe_mul]; norm_num

variable (q k v : (⟨3, ![8192, 16, 64]⟩ : Shape).Idx → ℝ) (g : (⟨2, ![8192, 16]⟩ : Shape).Idx → ℝ) (o : (⟨3, ![8192, 16, 64]⟩ : Shape).Idx → ℝ) (σ : ℝ) (h : Fin 16) (i x : Fin 8192)

/-- The real logit, and the cotangent's product with the values. -/
def score : ℝ := (∑ d : Fin 64, q (ix3 i h d) * k (ix3 x h d)) * σ + g (ix2 i h) - g (ix2 x h)
def gain : ℝ := ∑ d : Fin 64, o (ix3 i h d) * v (ix3 x h d)

theorem logit_real (hσ : Ideal.ofBits .f32 0x3E000000#32 = (σ : EReal)) :
    logit (fun j => (q j : EReal)) (fun j => (k j : EReal)) (fun j => (g j : EReal)) h i x = if x.val ≤ i.val then (score q k g σ h i x : EReal) else ⊥ := by
  unfold logit score
  rw [ofBits_bot, hσ]
  simp only [← EReal.coe_mul, Reals.coe_sum, ← EReal.coe_add, ← EReal.coe_sub]

theorem dot_key (hσ : Ideal.ofBits .f32 0x3E000000#32 = (σ : EReal)) (L : ℝ) :
    ∑ d : Fin 128, keyCol (fun j => (k j : EReal)) (gateAt (fun j => (g j : EReal)) x h) x h d * queryCol (fun j => (q j : EReal)) (gateAt (fun j => (g j : EReal)) i h) L i h d
      = ((score q k g σ h i x - L : ℝ) : EReal) := by
  have e0 : ∀ d : Fin 64, keyCol (fun j => (k j : EReal)) (gateAt (fun j => (g j : EReal)) x h) x h ⟨d.val, by omega⟩ = (k (ix3 x h d) : EReal) := fun d => by
    unfold keyCol; rw [dif_pos d.isLt]
  have e1 : ∀ d : Fin 64, queryCol (fun j => (q j : EReal)) (gateAt (fun j => (g j : EReal)) i h) L i h ⟨d.val, by omega⟩ = ((q (ix3 i h d) * σ : ℝ) : EReal) := fun d => by
    unfold queryCol; rw [dif_pos d.isLt, hσ, ← EReal.coe_mul]
  have e2 : ∀ d : Fin 55, keyCol (fun j => (k j : EReal)) (gateAt (fun j => (g j : EReal)) x h) x h ⟨73 + d.val, by omega⟩ = 0 := fun d => by
    unfold keyCol; rw [dif_neg (by dsimp only; omega), if_neg (by dsimp only; omega), if_neg (by dsimp only; omega), if_neg (by dsimp only; omega), if_neg (by dsimp only; omega), if_neg (by dsimp only; omega)]
  have k64 : keyCol (fun j => (k j : EReal)) (gateAt (fun j => (g j : EReal)) x h) x h ⟨64, by omega⟩ = ((1 : ℝ) : EReal) := rfl
  have k65 : keyCol (fun j => (k j : EReal)) (gateAt (fun j => (g j : EReal)) x h) x h ⟨65, by omega⟩ = ((1 : ℝ) : EReal) := rfl
  have k66 : keyCol (fun j => (k j : EReal)) (gateAt (fun j => (g j : EReal)) x h) x h ⟨66, by omega⟩ = ((1 : ℝ) : EReal) := rfl
  have k67 : keyCol (fun j => (k j : EReal)) (gateAt (fun j => (g j : EReal)) x h) x h ⟨67, by omega⟩ = -(g (ix2 x h) : EReal) := rfl
  have k68 : keyCol (fun j => (k j : EReal)) (gateAt (fun j => (g j : EReal)) x h) x h ⟨68, by omega⟩ = -((g (ix2 x h) : EReal) - g (ix2 x h)) := rfl
  have k69 : keyCol (fun j => (k j : EReal)) (gateAt (fun j => (g j : EReal)) x h) x h ⟨69, by omega⟩ = -((g (ix2 x h) : EReal) - g (ix2 x h) - ((g (ix2 x h) : EReal) - g (ix2 x h))) := rfl
  have k70 : keyCol (fun j => (k j : EReal)) (gateAt (fun j => (g j : EReal)) x h) x h ⟨70, by omega⟩ = ((1 : ℝ) : EReal) := rfl
  have k71 : keyCol (fun j => (k j : EReal)) (gateAt (fun j => (g j : EReal)) x h) x h ⟨71, by omega⟩ = ((1 : ℝ) : EReal) := rfl
  have k72 : keyCol (fun j => (k j : EReal)) (gateAt (fun j => (g j : EReal)) x h) x h ⟨72, by omega⟩ = ((1 : ℝ) : EReal) := rfl
  have q64 : queryCol (fun j => (q j : EReal)) (gateAt (fun j => (g j : EReal)) i h) L i h ⟨64, by omega⟩ = (g (ix2 i h) : EReal) := rfl
  have q65 : queryCol (fun j => (q j : EReal)) (gateAt (fun j => (g j : EReal)) i h) L i h ⟨65, by omega⟩ = (g (ix2 i h) : EReal) - g (ix2 i h) := rfl
  have q66 : queryCol (fun j => (q j : EReal)) (gateAt (fun j => (g j : EReal)) i h) L i h ⟨66, by omega⟩ = (g (ix2 i h) : EReal) - g (ix2 i h) - ((g (ix2 i h) : EReal) - g (ix2 i h)) := rfl
  have q67 : queryCol (fun j => (q j : EReal)) (gateAt (fun j => (g j : EReal)) i h) L i h ⟨67, by omega⟩ = ((1 : ℝ) : EReal) := rfl
  have q68 : queryCol (fun j => (q j : EReal)) (gateAt (fun j => (g j : EReal)) i h) L i h ⟨68, by omega⟩ = ((1 : ℝ) : EReal) := rfl
  have q69 : queryCol (fun j => (q j : EReal)) (gateAt (fun j => (g j : EReal)) i h) L i h ⟨69, by omega⟩ = ((1 : ℝ) : EReal) := rfl
  have q70 : queryCol (fun j => (q j : EReal)) (gateAt (fun j => (g j : EReal)) i h) L i h ⟨70, by omega⟩ = -(L : EReal) := rfl
  have q71 : queryCol (fun j => (q j : EReal)) (gateAt (fun j => (g j : EReal)) i h) L i h ⟨71, by omega⟩ = -((L : EReal) - L) := rfl
  have q72 : queryCol (fun j => (q j : EReal)) (gateAt (fun j => (g j : EReal)) i h) L i h ⟨72, by omega⟩ = -((L : EReal) - L - ((L : EReal) - L)) := rfl
  rw [sum_cols]
  simp only [e0, e1, e2, k64, k65, k66, k67, k68, k69, k70, k71, k72, q64, q65, q66, q67, q68, q69, q70, q71, q72,
    zero_mul, Finset.sum_const_zero, add_zero, ← EReal.coe_mul, ← EReal.coe_sub, ← EReal.coe_neg, Reals.coe_sum, ← EReal.coe_add]
  refine congrArg _ ?_
  unfold score
  rw [Finset.sum_mul, Finset.sum_congr rfl fun (d : Fin 64) _ => show k (ix3 x h d) * (q (ix3 i h d) * σ) = q (ix3 i h d) * k (ix3 x h d) * σ by ring]
  ring

theorem dot_val (D : ℝ) :
    ∑ d : Fin 128, valCol (fun j => (v j : EReal)) x h d * ctCol (fun j => (o j : EReal)) D i h d = ((gain v o h i x - D : ℝ) : EReal) := by
  have e0 : ∀ d : Fin 64, valCol (fun j => (v j : EReal)) x h ⟨d.val, by omega⟩ = (v (ix3 x h d) : EReal) := fun d => by
    unfold valCol; rw [dif_pos d.isLt]
  have e1 : ∀ d : Fin 64, ctCol (fun j => (o j : EReal)) D i h ⟨d.val, by omega⟩ = (o (ix3 i h d) : EReal) := fun d => by
    unfold ctCol; rw [dif_pos d.isLt]
  have e2 : ∀ d : Fin 61, ctCol (fun j => (o j : EReal)) D i h ⟨67 + d.val, by omega⟩ = 0 := fun d => by
    unfold ctCol; rw [dif_neg (by dsimp only; omega), if_neg (by dsimp only; omega), if_neg (by dsimp only; omega), if_neg (by dsimp only; omega)]
  have v0 : valCol (fun j => (v j : EReal)) x h ⟨64, by omega⟩ = ((-1 : ℝ) : EReal) := ofBits_neg_one
  have v1 : valCol (fun j => (v j : EReal)) x h ⟨65, by omega⟩ = ((-1 : ℝ) : EReal) := ofBits_neg_one
  have v2 : valCol (fun j => (v j : EReal)) x h ⟨66, by omega⟩ = ((-1 : ℝ) : EReal) := ofBits_neg_one
  have o0 : ctCol (fun j => (o j : EReal)) D i h ⟨64, by omega⟩ = (D : EReal) := rfl
  have o1 : ctCol (fun j => (o j : EReal)) D i h ⟨65, by omega⟩ = (D : EReal) - D := rfl
  have o2 : ctCol (fun j => (o j : EReal)) D i h ⟨66, by omega⟩ = (D : EReal) - D - ((D : EReal) - D) := rfl
  rw [sum_val]
  simp only [e0, e1, e2, v0, v1, v2, o0, o1, o2, mul_zero, Finset.sum_const_zero, add_zero, ← EReal.coe_mul, ← EReal.coe_sub, ← EReal.coe_neg, Reals.coe_sum, ← EReal.coe_add]
  refine congrArg _ ?_
  unfold gain
  rw [Finset.sum_congr rfl fun (d : Fin 64) _ => mul_comm (v (ix3 x h d)) (o (ix3 i h d))]
  ring

/-! ## The kernel's weights and score gradients -/

/-- The arguments are the reals `q`, `k`, `v`, `g` and `o`. -/
structure Real (m : (ℓ : Loc FoxBwdIdeal.nD FoxBwdIdeal.τ FoxBwdIdeal.sig) → Buf (Elt Ideal) ℓ) (c : Dev FoxBwdIdeal.nD) : Prop where
  arg0 : m (c, Proc.devRef .tc FoxBwdIdeal.main_arg0) = fun j => (q j : EReal)
  arg1 : m (c, Proc.devRef .tc FoxBwdIdeal.main_arg1) = fun j => (k j : EReal)
  arg2 : m (c, Proc.devRef .tc FoxBwdIdeal.main_arg2) = fun j => (v j : EReal)
  arg3 : m (c, Proc.devRef .tc FoxBwdIdeal.main_arg3) = fun j => (g j : EReal)
  arg4 : m (c, Proc.devRef .tc FoxBwdIdeal.main_arg4) = fun j => (o j : EReal)

variable {q k v g o σ} {m : (ℓ : Loc FoxBwdIdeal.nD FoxBwdIdeal.τ FoxBwdIdeal.sig) → Buf (Elt Ideal) ℓ} {c : Dev FoxBwdIdeal.nD}
  (R : Real q k v g o m c) (hσ : Ideal.ofBits .f32 0x3E000000#32 = (σ : EReal))
  {e : Fin 16 → Fin 8192 → Fin 8192 → ℝ} {T L : Fin 16 → Fin 8192 → ℝ}
  (S : ∀ h i, Soft i (score q k g σ h i) (logit (fun j => (q j : EReal)) (fun j => (k j : EReal)) (fun j => (g j : EReal)) h i) (e h i) (T h i) (L h i))

/-- The gradient of the logit of query `i` for key `x`. -/
def dlogit (v o : (⟨3, ![8192, 16, 64]⟩ : Shape).Idx → ℝ) (e : Fin 16 → Fin 8192 → Fin 8192 → ℝ) (T : Fin 16 → Fin 8192 → ℝ) (h : Fin 16) (i x : Fin 8192) : ℝ :=
  e h i x / T h i * (gain v o h i x - ∑ a, e h i a / T h i * gain v o h i a)

include R hσ S

theorem P_real : P m c h.val x.val i.val = ((e h i x / T h i : ℝ) : EReal) := by
  unfold P
  by_cases hlt : i.val < x.val
  · rw [prob_masked _ _ _ _ _ _ hlt, (S h i).late x hlt, zero_div, EReal.coe_zero]
  · unfold prob dotRow
    rw [if_neg (fun hh => hlt hh.2)]
    simp only [ka_eq, qa_eq, R.arg0, R.arg1, R.arg3]
    rw [(S h i).lse, dot_key q k g σ h i x hσ, Ideal.exp_coe, (S h i).weight x (by omega)]

theorem D_real : D m c h.val x.val i.val = (dlogit v o e T h i x : EReal) := by
  have hP := P_real h i x R hσ S
  unfold D dscore
  unfold P at hP
  rw [hP]
  unfold dotRow
  simp only [va_eq, da_eq, R.arg0, R.arg1, R.arg2, R.arg3, R.arg4]
  have hd := (S h i).delta (fun a d => v (ix3 a h d)) (fun d => o (ix3 i h d))
  unfold valRow ctRow
  rw [hd, dot_val, ← EReal.coe_mul]
  rfl

/-! ## The results -/

theorem val_real (d : Fin 64) : valUpTo m c x.val (h.val * 128 + d.val) 8192 = ((∑ i, e h i x / T h i * o (ix3 i h d) : ℝ) : EReal) := by
  unfold valUpTo
  rw [Finset.sum_range, ← Reals.coe_sum]
  refine Finset.sum_congr rfl fun i _ => ?_
  rw [show (h.val * 128 + d.val) / 128 = h.val by omega, P_real h i x R hσ S]
  refine (congrArg (_ * ·) (da_eq m c i h ⟨d.val, by omega⟩)).trans ?_
  rw [R.arg4, EReal.coe_mul]
  unfold ctCol
  rw [dif_pos d.isLt]

theorem key_real (d : Fin 128) (y : Fin 8192 → ℝ) (hy : ∀ i, qa m c i.val (h.val * 128 + d.val) = (y i : EReal)) :
    keyUpTo m c x.val (h.val * 128 + d.val) 8192 = ((∑ i, dlogit v o e T h i x * y i : ℝ) : EReal) := by
  unfold keyUpTo
  rw [Finset.sum_range, ← Reals.coe_sum]
  refine Finset.sum_congr rfl fun i _ => ?_
  rw [show (h.val * 128 + d.val) / 128 = h.val by omega, D_real h i x R hσ S, hy, EReal.coe_mul]

theorem query_real (d : Fin 128) (y : Fin 8192 → ℝ) (hy : ∀ x, ka m c x.val (h.val * 128 + d.val) = (y x : EReal)) :
    queryUpTo m c i.val (h.val * 128 + d.val) 8192 = ((∑ x, dlogit v o e T h i x * y x : ℝ) : EReal) := by
  unfold queryUpTo
  rw [Finset.sum_range, ← Reals.coe_sum]
  refine Finset.sum_congr rfl fun x _ => ?_
  rw [show (h.val * 128 + d.val) / 128 = h.val by omega, D_real h i x R hσ S, hy, EReal.coe_mul]

omit S

theorem qa_real (d : Fin 64) : qa m c i.val (h.val * 128 + d.val) = ((q (ix3 i h d) * σ : ℝ) : EReal) := by
  refine (qa_eq m c i h ⟨d.val, by omega⟩).trans ?_
  rw [R.arg0]; unfold queryCol; rw [dif_pos d.isLt, hσ, EReal.coe_mul]
omit hσ
theorem ka_real (d : Fin 64) : ka m c x.val (h.val * 128 + d.val) = (k (ix3 x h d) : EReal) := by
  refine (ka_eq m c x h ⟨d.val, by omega⟩).trans ?_
  rw [R.arg1]; unfold keyCol; rw [dif_pos d.isLt]
omit R
/-- The columns that sum a row, and a column. -/
theorem ka_one : ka m c x.val (h.val * 128 + 64) = ((1 : ℝ) : EReal) := (ka_eq m c x h ⟨64, by omega⟩).trans rfl
theorem qa_one : qa m c i.val (h.val * 128 + 67) = ((1 : ℝ) : EReal) := (qa_eq m c i h ⟨67, by omega⟩).trans rfl

include S

/-! ## The derivative -/

theorem ref38 : FoxRefIdeal.Read.val_main_v38 (F := Ideal) (fun j => (q j : EReal)) (fun j => (k j : EReal)) (fun j => (g j : EReal)) (ix3 h i x) = (e h i x : EReal) := by
  rw [Ref.at38, (S h i).top, (S h i).exp]

theorem ref39 : FoxRefIdeal.Read.val_main_v39 (F := Ideal) (fun j => (q j : EReal)) (fun j => (k j : EReal)) (fun j => (g j : EReal)) (ix2 h i) = (T h i : EReal) := by
  rw [Ref.at39, (S h i).sum, ← Reals.coe_sum]
  exact Finset.sum_congr rfl fun x _ => ref38 h i x S

theorem ref64 : FoxRefIdeal.Read.val_main_v64 (F := Ideal) (fun j => (q j : EReal)) (fun j => (k j : EReal)) (fun j => (v j : EReal)) (fun j => (g j : EReal)) (fun j => (o j : EReal)) (ix3 h i x)
    = (dlogit v o e T h i x : EReal) := by
  have h49 : ∀ a, FoxRefIdeal.Read.val_main_v49 (F := Ideal) (fun j => (v j : EReal)) (fun j => (o j : EReal)) (ix3 h i a) = (gain v o h i a : EReal) := fun a => by
    rw [Ref.at49]; simp only [← EReal.coe_mul, Reals.coe_sum]; rfl
  rw [Ref.at64, Ref.at55]
  simp only [h49, ref38 h i _ S, ref39 h i S]
  rw [(S h i).grad (gain v o h i) x]
  by_cases hle : x.val ≤ i.val
  · rw [if_pos hle]; rfl
  · rw [if_neg hle]; unfold dlogit; rw [(S h i).late x (by omega), zero_div, zero_mul, EReal.coe_zero]

include R hσ

theorem dq_eq (d : Fin 64) : queryUpTo m c i.val (h.val * 128 + d.val) 8192 * Ideal.ofBits .f32 0x3E000000#32
    = FoxRefIdeal.Read.val_main_v78 (F := Ideal) (fun j => (q j : EReal)) (fun j => (k j : EReal)) (fun j => (v j : EReal)) (fun j => (g j : EReal)) (fun j => (o j : EReal)) (ix3 i h d) := by
  rw [query_real h i R hσ S ⟨d.val, by omega⟩ _ (fun x => ka_real h x R d), hσ, Ref.dq_at, hσ]
  simp only [ref64 h i _ S, ← EReal.coe_mul, Reals.coe_sum]
  rw [Finset.sum_mul]
  exact congrArg _ (Finset.sum_congr rfl fun x _ => by ring)

theorem dk_eq (d : Fin 64) : keyUpTo m c x.val (h.val * 128 + d.val) 8192
    = FoxRefIdeal.Read.val_main_v81 (F := Ideal) (fun j => (q j : EReal)) (fun j => (k j : EReal)) (fun j => (v j : EReal)) (fun j => (g j : EReal)) (fun j => (o j : EReal)) (ix3 x h d) := by
  rw [key_real h x R hσ S ⟨d.val, by omega⟩ _ (fun i => qa_real h i R hσ d), Ref.dk_at, hσ]
  simp only [ref64 h _ x S, ← EReal.coe_mul, Reals.coe_sum]
  exact congrArg _ (Finset.sum_congr rfl fun i _ => by ring)

theorem dv_eq (d : Fin 64) : valUpTo m c x.val (h.val * 128 + d.val) 8192
    = FoxRefIdeal.Read.val_main_v82 (F := Ideal) (fun j => (q j : EReal)) (fun j => (k j : EReal)) (fun j => (g j : EReal)) (fun j => (o j : EReal)) (ix3 x h d) := by
  rw [val_real h x R hσ S d, Ref.dv_at]
  simp only [Ref.at42, ref38 h _ x S, ref39 h _ S, Reals.div_coe_coe _ (S h _).pos.ne', ← EReal.coe_mul, Reals.coe_sum]
  exact congrArg _ (Finset.sum_congr rfl fun i _ => mul_comm _ _)

theorem dg_eq : queryUpTo m c i.val (h.val * 128 + 64) 8192 - keyUpTo m c i.val (h.val * 128 + 67) 8192
    = FoxRefIdeal.Read.val_main_v80 (F := Ideal) (fun j => (q j : EReal)) (fun j => (k j : EReal)) (fun j => (v j : EReal)) (fun j => (g j : EReal)) (fun j => (o j : EReal)) (ix2 i h) := by
  rw [query_real h i R hσ S ⟨64, by omega⟩ _ (fun x => ka_one h x), key_real h i R hσ S ⟨67, by omega⟩ _ (fun b => qa_one h b), Ref.dg_at]
  simp only [ref64 h _ _ S, mul_one, ← EReal.coe_neg, Reals.coe_sum, ← EReal.coe_add, ← EReal.coe_sub, Finset.sum_neg_distrib, sub_eq_add_neg]

end Fox
-- ==== Proof.FoxClaims.lean ====
/- The claims about the forget-gate attention's backward program. -/
module

public import proofs.«01_k».proof.Defs
public import proofs.«01_k».proof.Proof.FoxValue
public import proofs.«01_k».proof.Proof.MlaClaims
public import proofs.«01_k».proof.Proof.Gen.FoxBwd
public import proofs.«01_k».proof.Proof.Gen.FoxRefIdeal.Run
public import proofs.«01_k».proof.Proof.Gen.Pre_fox_finite

@[expose] public section

set_option maxRecDepth 16384

noncomputable section

namespace FoxClaims

open Idealize.ShloMosaic Idealize.SL.Sem

theorem frame_ideal : Cert.quiescent_FoxBwdIdeal := fun m ρ _ => Fox.frame_main (F := Ideal) m ρ
theorem frame_ideal_pre : Cert.quiescent_FoxBwdIdeal_pre_fox_finite := fun m ρ _ => Fox.frame_main (F := Ideal) m ρ

section
attribute [local instance] Fox.bitsNamed

/-- The frame of the program with the mask's number as a constant, in the words of the one with the mask named. -/
def frameBits : Prop :=
  ∀ (m : (ℓ : Loc Cert.FoxBwdIdeal.nD Cert.FoxBwdIdeal.τ Cert.FoxBwdIdeal.sig) → Buf (Elt Bits) ℓ) (ρ : Dev Cert.FoxBwdIdeal.nD → PrngReg), True →
    θ_run (Cert.FoxBwdIdeal.defs (F := Bits)) (onTc (τ := Cert.FoxBwdIdeal.τ) (Cert.FoxBwdIdeal.main (F := Bits))) ⟨m, fun _ => 0, ρ⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

theorem frame_eq : frameBits = Cert.quiescent_FoxBwd := by sl_kernel_rfl

theorem frame : Cert.quiescent_FoxBwd := frame_eq.mp fun m ρ _ => Fox.frame_main (F := Bits) m ρ
end

theorem frame_ref : Cert.quiescent_FoxRefIdeal := fun m ρ _ =>
  (θ_run Cert.FoxRefIdeal.defs _ _).mono (fun r h => ⟨fun c => (h c).2.2.2.2, sem_eq_zero_of_no_sems (by decide) r.2⟩)
    (Cert.FoxRefIdeal.Value.run (F := Ideal) m ρ)

theorem frame_ref_pre : Cert.quiescent_FoxRefIdeal_pre_fox_finite := fun m ρ _ =>
  (θ_run Cert.FoxRefIdeal.defs _ _).mono (fun r h => ⟨fun c => (h c).2.2.2.2, sem_eq_zero_of_no_sems (by decide) r.2⟩)
    (Cert.FoxRefIdeal.Value.run (F := Ideal) m ρ)

theorem preserves : Cert.preserves_FoxBwd_FoxBwdIdeal := IdealRules.named_const.statement _ _ _ _ _ rfl

open Cert.NormClaims (finite)
open MlaClaims (real_array)

theorem value : Cert.algebraic_FoxBwdIdeal_FoxRefIdeal_pre_fox_finite := by
  intro m ρ m' ρ' hpre hag
  refine ⟨fun c => Fox.Vend m c (Proc.devRef .tc Cert.FoxBwdIdeal.main_v107), fun c => Fox.Vend m c (Proc.devRef .tc Cert.FoxBwdIdeal.main_v100), fun c => Fox.Vend m c (Proc.devRef .tc Cert.FoxBwdIdeal.main_v102), fun c => Fox.Vend m c (Proc.devRef .tc Cert.FoxBwdIdeal.main_v105),
    (θ_run _ _ _).mono (fun _ h c => ⟨Fox.at_end m (h.1 c) _ rfl, Fox.at_end m (h.1 c) _ rfl, Fox.at_end m (h.1 c) _ rfl, Fox.at_end m (h.1 c) _ rfl,
      (Fox.at_end m (h.1 c) _ rfl).trans (Fox.Vend_main_arg0 m c), (Fox.at_end m (h.1 c) _ rfl).trans (Fox.Vend_main_arg1 m c),
      (Fox.at_end m (h.1 c) _ rfl).trans (Fox.Vend_main_arg2 m c), (Fox.at_end m (h.1 c) _ rfl).trans (Fox.Vend_main_arg3 m c),
      (Fox.at_end m (h.1 c) _ rfl).trans (Fox.Vend_main_arg4 m c)⟩) (Fox.run m ρ),
    (θ_run _ _ _).mono (fun _ h c => ?_) (Cert.FoxRefIdeal.Value.run m' ρ')⟩
  obtain ⟨q, hq⟩ := real_array (finite (s := ⟨3, ![8192, 16, 64]⟩) _ _ (fun _ => rfl) (hpre c).1)
  obtain ⟨k, hk⟩ := real_array (finite (s := ⟨3, ![8192, 16, 64]⟩) _ _ (fun _ => rfl) (hpre c).2.1)
  obtain ⟨v, hv⟩ := real_array (finite (s := ⟨3, ![8192, 16, 64]⟩) _ _ (fun _ => rfl) (hpre c).2.2.1)
  obtain ⟨g, hg⟩ := real_array (finite (s := ⟨2, ![8192, 16]⟩) _ _ (fun _ => rfl) (hpre c).2.2.2.1)
  obtain ⟨o, ho⟩ := real_array (finite (s := ⟨3, ![8192, 16, 64]⟩) _ _ (fun _ => rfl) (hpre c).2.2.2.2)
  obtain ⟨σ, hσ⟩ := Fox.scale_real
  have R : Fox.Real q k v g o m c := ⟨hq, hk, hv, hg, ho⟩
  choose e T L S using fun h i => Cert.Tiles.soft_exists i (Fox.score q k g σ h i) _ (Fox.logit_real q k g σ h i · hσ)
  obtain ⟨a0, a1, a2, a3, a4⟩ := hag c
  refine ⟨(h c).1.trans ?_, (h c).2.1.trans ?_, (h c).2.2.1.trans ?_, (h c).2.2.2.1.trans ?_, (h c).2.2.2.2⟩
  · refine (Cert.FoxRefIdeal.Read.val_main_v78_eq ..).trans ?_
    rw [a0, a1, a2, a3, a4]
    funext i
    rw [eq_ix3 i]
    refine Eq.trans ?_ (Fox.Vend_dq m c _ _ _).symm
    refine Eq.trans ?_ (Fox.dq_eq _ _ R hσ S _).symm
    rw [← hq, ← hk, ← hv, ← hg, ← ho]
  · refine (Cert.FoxRefIdeal.Read.val_main_v81_eq ..).trans ?_
    rw [a0, a1, a2, a3, a4]
    funext i
    rw [eq_ix3 i]
    refine Eq.trans ?_ (Fox.Vend_dk m c _ _ _).symm
    refine Eq.trans ?_ (Fox.dk_eq _ _ R hσ S _).symm
    rw [← hq, ← hk, ← hv, ← hg, ← ho]
  · refine (Cert.FoxRefIdeal.Read.val_main_v82_eq ..).trans ?_
    rw [a0, a1, a3, a4]
    funext i
    rw [eq_ix3 i]
    refine Eq.trans ?_ (Fox.Vend_dv m c _ _ _).symm
    refine Eq.trans ?_ (Fox.dv_eq _ _ R hσ S _).symm
    rw [← hq, ← hk, ← hg, ← ho]
  · refine (Cert.FoxRefIdeal.Read.val_main_v80_eq ..).trans ?_
    rw [a0, a1, a2, a3, a4]
    funext i
    rw [eq_ix2 i]
    refine Eq.trans ?_ (Fox.Vend_cum m c _ _).symm
    refine Eq.trans ?_ (Fox.dg_eq _ _ R hσ S).symm
    rw [← hq, ← hk, ← hv, ← hg, ← ho]

end FoxClaims

end
-- ==== Proof.Norm2Ref.lean ====
/- The derivative of two norms of one input, read at an index, is what the kernel leaves. -/
module

public import proofs.«01_k».proof.Proof.NormRef
public import proofs.«01_k».proof.Proof.Gen.Norm2RefIdeal.Read

@[expose] public section

set_option maxRecDepth 16384

noncomputable section

namespace Cert.Norm2Pf

open Cert.Norm2RefIdeal Cert.Norm2RefIdeal.Read Idealize.ShloMosaic
open Cert.NormBlock (rstd dxRow)

/-- One norm's part of the input gradient is the derivative of that norm alone. -/
theorem branch (x : S8192x1024.Idx → EReal) (g : S1024.Idx → EReal) (ct : S8192x1024.Idx → EReal)
    (hx : ∀ i, ∃ a : ℝ, x i = a) (hg : ∀ i, ∃ a : ℝ, g i = a) (hct : ∀ i, ∃ a : ℝ, ct i = a) (p : Fin 8192) (q : Fin 1024) :
    NormRefIdeal.Read.val_main_v35 (F := Ideal) x g ct (ix2 p q)
      = dxRow (fun k => x (ix2 p k)) (fun k => g (ix1 k)) (fun k => ct (ix2 p k)) 0 q :=
  (add_zero _).symm.trans (NormBlock.ref_dx x g ct (fun _ => 0) hx hg hct p q)

theorem row_add (x g ct : Fin 1024 → EReal) (r : EReal) (q : Fin 1024) : dxRow x g ct r q = r + dxRow x g ct 0 q := by
  unfold dxRow
  rw [zero_add]

/-- The derivative's input gradient is the kernel's, where the row is finite. -/
theorem ref_dx (x : S8192x1024.Idx → EReal) (g1 g2 : S1024.Idx → EReal) (ct1 ct2 r : S8192x1024.Idx → EReal)
    (hx : ∀ i, ∃ a : ℝ, x i = a) (hg1 : ∀ i, ∃ a : ℝ, g1 i = a) (hg2 : ∀ i, ∃ a : ℝ, g2 i = a)
    (hct1 : ∀ i, ∃ a : ℝ, ct1 i = a) (hct2 : ∀ i, ∃ a : ℝ, ct2 i = a) (p : Fin 8192) (q : Fin 1024) :
    val_main_v73 (F := Ideal) x g1 g2 ct1 ct2 r (ix2 p q)
      = dxRow (fun k => x (ix2 p k)) (fun k => g2 (ix1 k)) (fun k => ct2 (ix2 p k))
        (dxRow (fun k => x (ix2 p k)) (fun k => g1 (ix1 k)) (fun k => ct1 (ix2 p k)) (r (ix2 p q)) q) q := by
  have e2 : val_main_v51 (F := Ideal) x g2 ct2 = NormRefIdeal.Read.val_main_v35 (F := Ideal) x g2 ct2 := rfl
  have e1 : ∀ i : S8192x1024.Idx, (val_main_v62 (F := Ideal) x g1 ct1 i : EReal) + val_main_v69 (F := Ideal) x g1 ct1 i
      + val_main_v71 (F := Ideal) x g1 ct1 i = NormRefIdeal.Read.val_main_v35 (F := Ideal) x g1 ct1 i := fun _ => rfl
  have h2 := (congrFun e2 (ix2 p q)).trans (branch x g2 ct2 hx hg2 hct2 p q)
  have h1 := (e1 (ix2 p q)).trans (branch x g1 ct1 hx hg1 hct1 p q)
  rw [row_add _ _ _ (dxRow _ _ _ _ _), row_add _ _ _ (r _), ← h1, ← h2]
  show (val_main_v51 (F := Ideal) x g2 ct2 (ix2 p q) + val_main_v62 (F := Ideal) x g1 ct1 (ix2 p q)
      + val_main_v69 (F := Ideal) x g1 ct1 (ix2 p q) + val_main_v71 (F := Ideal) x g1 ct1 (ix2 p q)) + r (ix2 p q)
    = r (ix2 p q) + (val_main_v62 (F := Ideal) x g1 ct1 (ix2 p q) + val_main_v69 (F := Ideal) x g1 ct1 (ix2 p q)
      + val_main_v71 (F := Ideal) x g1 ct1 (ix2 p q)) + val_main_v51 (F := Ideal) x g2 ct2 (ix2 p q)
  abel

theorem ref_lo (x : S8192x1024.Idx → EReal) (g1 g2 : S1024.Idx → EReal) (ct1 ct2 r : S8192x1024.Idx → EReal) :
    val_main_v75 (F := Ideal) x g1 g2 ct1 ct2 r = val_main_v73 (F := Ideal) x g1 g2 ct1 ct2 r := rfl

/-- Each gain's gradient is the derivative of its norm alone. -/
theorem ref_dg1 (x ct : S8192x1024.Idx → EReal) : val_main_v76 (F := Ideal) x ct = NormRefIdeal.Read.val_main_v39 (F := Ideal) x ct := rfl

theorem ref_dg2 (x ct : S8192x1024.Idx → EReal) : val_main_v77 (F := Ideal) x ct = NormRefIdeal.Read.val_main_v39 (F := Ideal) x ct := rfl

end Cert.Norm2Pf

end
-- ==== Proof.Norm2Value.lean ====
/- The gradient of two norms of one input: the four result arrays as functions of the arguments. -/
module

public import proofs.«01_k».proof.Proof.NormBlock
public import proofs.«01_k».proof.Proof.Gen.Norm2Ideal.Value

@[expose] public section

set_option maxRecDepth 16384

noncomputable section

namespace Cert.Norm2Pf

open Cert.Norm2Ideal Cert.Norm2Ideal.Gen Idealize.ShloMosaic Idealize.ShloMosaic.TcCoe Idealize.SL.Sem
open Cert.NormBlock (hz rstd dxRow)

/-- Two indices of an array of rank two agree where their coordinates do. -/
theorem ext2 {n k : ℕ} {i j : (⟨2, ![n, k]⟩ : Shape).Idx} (h0 : (i 0 : Nat) = j 0) (h1 : (i 1 : Nat) = j 1) : i = j := by
  funext a
  apply Fin.ext
  match a with
  | ⟨0, _⟩ => exact h0
  | ⟨1, _⟩ => exact h1

/-! ## The payloads at an index -/

section
variable (x0 x3 x4 x5 : Vec Ideal S512x1024 .f32) (x1 x2 y : Vec Ideal S1x1024 .f32)

theorem pay_dx (p : Fin 512) (q : Fin 1024) : k0_pay1 (k0_pay6 x0) (k0_pay7 x0) (k0_pay8 x0 x5 x3 x1) x4 x2 (ix2 p q)
    = dxRow (fun k => x0 (ix2 p k)) (fun k => x2 (ix2 0 k)) (fun k => x4 (ix2 p k))
      (dxRow (fun k => x0 (ix2 p k)) (fun k => x1 (ix2 0 k)) (fun k => x3 (ix2 p k)) (x5 (ix2 p q)) q) q := by
  unfold k0_pay1 k0_pay8 k0_pay7 k0_pay6
  pointwise
  rfl

theorem pay_lo (a : FVec Ideal S512x1 .f32) (b d : FVec Ideal S512x1024 .f32) (j : S512x1024.Idx) :
    k0_pay3 a b d x4 x2 j = k0_pay1 a b d x4 x2 j := rfl

theorem pay_zero (q : Fin 1024) : k0_pay5 (F := Ideal) (ix2 0 q) = 0 ∧ k0_pay4 (F := Ideal) (ix2 0 q) = 0 := by
  unfold k0_pay5 k0_pay4
  constructor
  · pointwise
    try simp
  · pointwise
    try simp

theorem pay_dg (q : Fin 1024) : k0_pay9 x0 x3 y (ix2 0 q)
    = y (ix2 0 q) + ∑ p, x3 (ix2 p q) * (x0 (ix2 p q) * rstd (∑ k, x0 (ix2 p k) * x0 (ix2 p k))) := by
  unfold k0_pay9 k0_pay7 k0_pay6
  pointwise
  rfl

theorem pay_dg2 : k0_pay2 (k0_pay7 x0) x3 y = k0_pay9 x0 x3 y := rfl

end

variable (m : (ℓ : Loc nD τ sig) → Buf (Elt Ideal) ℓ) (ρ : Dev nD → PrngReg)

/-! ## What a grid point leaves -/

/-- The updated input gradient at a point. -/
abbrev dxBlk (c : Dev nD) (t : Fin cfg0.N) : FVec Ideal S512x1024 .f32 :=
  k0_pay1 (k0_pay6 (iblk m c 0 t)) (k0_pay7 (iblk m c 0 t)) (k0_pay8 (iblk m c 0 t) (iblk m c 5 t) (iblk m c 3 t) (iblk m c 1 t))
    (iblk m c 4 t) (iblk m c 2 t)

theorem outs_dx (c : Dev nD) (t : Fin cfg0.N) : (outsAt0 m c t.val t.isLt).1 = dxBlk m c t := by
  by_cases h0 : t.val % 16 = 0
  · rw [outsAt0_A m c t h0]; dsimp only; unfold out0_A_6
    rw [View.read_writes_eq_canon _ _ _ (fun y => cover0_A_6 (y := y) ..)]
    unfold kernelRun0_A; dsimp only; sl_unfold_words; rw [View.canon_unit_zero (S := S512x1024) hz]
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz, View.ld_unit_zero (S := S1x1024) hz]
  · rw [outsAt0_B m c t h0]; dsimp only; unfold out0_B_6
    rw [View.read_writes_eq_canon _ _ _ (fun y => cover0_B_6 (y := y) ..)]
    unfold kernelRun0_B; dsimp only; sl_unfold_words; rw [View.canon_unit_zero (S := S512x1024) hz]
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz, View.ld_unit_zero (S := S1x1024) hz]

theorem outs_lo (c : Dev nD) (t : Fin cfg0.N) : (outsAt0 m c t.val t.isLt).2.1 = dxBlk m c t := by
  by_cases h0 : t.val % 16 = 0
  · rw [outsAt0_A m c t h0]; dsimp only; unfold out0_A_7
    rw [View.read_writes_eq_canon _ _ _ (fun y => cover0_A_7 (y := y) ..)]
    unfold kernelRun0_A; dsimp only; sl_unfold_words; rw [View.canon_unit_zero (S := S512x1024) hz]
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz, View.ld_unit_zero (S := S1x1024) hz]
    rfl
  · rw [outsAt0_B m c t h0]; dsimp only; unfold out0_B_7
    rw [View.read_writes_eq_canon _ _ _ (fun y => cover0_B_7 (y := y) ..)]
    unfold kernelRun0_B; dsimp only; sl_unfold_words; rw [View.canon_unit_zero (S := S512x1024) hz]
    simp only [View.readAt_eq_ld, (hs0_0 t).read_unread, (hs0_1 t).read_unread, (hs0_2 t).read_unread, (hs0_3 t).read_unread,
      (hs0_4 t).read_unread, (hs0_5 t).read_unread, View.ld_unit_zero (S := S512x1024) hz, View.ld_unit_zero (S := S1x1024) hz]
    rfl

theorem outs_dg_A (c : Dev nD) (t : Fin cfg0.N) (h0 : t.val % 16 = 0) :
    (outsAt0 m c t.val t.isLt).2.2 = (k0_pay9 (iblk m c 0 t) (iblk m c 3 t) (k0_pay4 (F := Ideal)), k0_pay9 (iblk m c 0 t) (iblk m c 4 t) (k0_pay5 (F := Ideal))) := by
  rw [outsAt0_A m c t h0]; dsimp only; unfold out0_A_8 out0_A_9
  rw [View.read_writes_eq_canon _ _ _ (fun y => cover0_A_8 (y := y) ..), View.read_writes_eq_canon _ _ _ (fun y => cover0_A_9 (y := y) ..)]
  unfold kernelRun0_A; dsimp only; sl_unfold_words
  simp only [View.canon_cons_unit_zero (S := S1x1024) hz, View.readCov_unit_zero (S := S1x1024) _ hz,
    View.readAt_eq_ld, (hs0_0 t).read_unread, (hs0_1 t).read_unread, (hs0_2 t).read_unread, (hs0_3 t).read_unread,
    (hs0_4 t).read_unread, (hs0_5 t).read_unread, View.ld_unit_zero (S := S512x1024) hz, View.ld_unit_zero (S := S1x1024) hz]
  rfl

theorem outs_dg_B (c : Dev nD) (n : ℕ) (h : n + 1 < cfg0.N) (h0 : ¬(n + 1) % 16 = 0) :
    (outsAt0 m c (n + 1) h).2.2
      = (k0_pay9 (iblk m c 0 ⟨n + 1, h⟩) (iblk m c 3 ⟨n + 1, h⟩) (outsAt0 m c n (Nat.lt_of_succ_lt h)).2.2.1,
        k0_pay9 (iblk m c 0 ⟨n + 1, h⟩) (iblk m c 4 ⟨n + 1, h⟩) (outsAt0 m c n (Nat.lt_of_succ_lt h)).2.2.2) := by
  have e := outsAt0_B m c ⟨n + 1, h⟩ h0
  dsimp only at e
  rw [e]; dsimp only; unfold out0_B_8 out0_B_9
  rw [View.read_writes_eq_canon _ _ _ (fun y => cover0_B_8 (y := y) ..), View.read_writes_eq_canon _ _ _ (fun y => cover0_B_9 (y := y) ..)]
  unfold kernelRun0_B; dsimp only; sl_unfold_words
  simp only [View.canon_unit_zero (S := S1x1024) hz, View.readAt_eq_ld, (hs0_0 _).read_unread, (hs0_1 _).read_unread,
    (hs0_2 _).read_unread, (hs0_3 _).read_unread, (hs0_4 _).read_unread, (hs0_5 _).read_unread, (hs0_8 _).read_unread,
    (hs0_9 _).read_unread, View.ld_unit_zero (S := S512x1024) hz, View.ld_unit_zero (S := S1x1024) hz]
  rfl

/-! ## The blocks and the arrays -/

abbrev X (c : Dev nD) : S8192x1024.Idx → EReal := m ((c : Thread nD τ).loc main_arg0)
abbrev G1 (c : Dev nD) : S1024.Idx → EReal := m ((c : Thread nD τ).loc main_arg1)
abbrev G2 (c : Dev nD) : S1024.Idx → EReal := m ((c : Thread nD τ).loc main_arg2)
abbrev CT1 (c : Dev nD) : S8192x1024.Idx → EReal := m ((c : Thread nD τ).loc main_arg3)
abbrev CT2 (c : Dev nD) : S8192x1024.Idx → EReal := m ((c : Thread nD τ).loc main_arg4)
abbrev R (c : Dev nD) : S8192x1024.Idx → EReal := m ((c : Thread nD τ).loc main_arg5)

theorem V_gain (c : Dev nD) (k : Fin 1024) : V m c main_v0 (ix2 0 k) = G1 m c (ix1 k) ∧ V m c main_v1 (ix2 0 k) = G2 m c (ix1 k) := by
  have h0 : V m c main_v0 = broadcastInDim S1x1024 ![1] bcast_S1024_S1x1024_1 (G1 m c) := by
    show StableHlo.after hostOps0 (fun b => m (c, b)) main_v0 = _
    after_results_simp <;> rfl
  have h1 : V m c main_v1 = broadcastInDim S1x1024 ![1] bcast_S1024_S1x1024_1 (G2 m c) := by
    show StableHlo.after hostOps0 (fun b => m (c, b)) main_v1 = _
    after_results_simp <;> rfl
  rw [h0, h1]
  constructor
  · pointwise
  · pointwise

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = 0 ∧ win0_8.index t 1 = 0) ∧ win0_9.index t 0 = 0 ∧ win0_9.index t 1 = 0 := by
  show ∀ t : Fin grid0.N, _
  decide +kernel

/-- Row `p` of block `t`. -/
def row (t : Fin cfg0.N) (p : Fin 512) : Fin 8192 := ⟨512 * t.val + p.val, by have : cfg0.N = 16 := N_0; have := t.isLt; have := p.isLt; omega⟩

theorem blk_x (c : Dev nD) (t : Fin cfg0.N) (p : Fin 512) (q : Fin 1024) :
    (iblk m c 0 t : Vec Ideal S512x1024 .f32) (ix2 p q) = X m c (ix2 (row t p) q) := by
  obtain ⟨h, -⟩ := idx t
  refine (congrFun (V_main_arg0 m c) _).trans (congrArg (X m c) (ext2 ?_ ?_))
  · show win0_0.index t 0 * 512 + 1 * p.val = 512 * t.val + p.val; omega
  · show win0_0.index t 1 * 1024 + 1 * q.val = q.val; omega

theorem blk_g1 (c : Dev nD) (t : Fin cfg0.N) (q : Fin 1024) :
    (iblk m c 1 t : Vec Ideal S1x1024 .f32) (ix2 0 q) = G1 m c (ix1 q) := by
  obtain ⟨-, h, -⟩ := idx t
  refine Eq.trans (congrArg (V m c main_v0) (ext2 ?_ ?_)) (V_gain m c q).1
  · show win0_1.index t 0 * 1 + 1 * 0 = 0; omega
  · show win0_1.index t 1 * 1024 + 1 * q.val = q.val; omega

theorem blk_g2 (c : Dev nD) (t : Fin cfg0.N) (q : Fin 1024) :
    (iblk m c 2 t : Vec Ideal S1x1024 .f32) (ix2 0 q) = G2 m c (ix1 q) := by
  obtain ⟨-, -, h, -⟩ := idx t
  refine Eq.trans (congrArg (V m c main_v1) (ext2 ?_ ?_)) (V_gain m c q).2
  · show win0_2.index t 0 * 1 + 1 * 0 = 0; omega
  · show win0_2.index t 1 * 1024 + 1 * q.val = q.val; omega

theorem blk_ct1 (c : Dev nD) (t : Fin cfg0.N) (p : Fin 512) (q : Fin 1024) :
    (iblk m c 3 t : Vec Ideal S512x1024 .f32) (ix2 p q) = CT1 m c (ix2 (row t p) q) := by
  obtain ⟨-, -, -, h, -⟩ := idx t
  refine (congrFun (V_main_arg3 m c) _).trans (congrArg (CT1 m c) (ext2 ?_ ?_))
  · show win0_3.index t 0 * 512 + 1 * p.val = 512 * t.val + p.val; omega
  · show win0_3.index t 1 * 1024 + 1 * q.val = q.val; omega

theorem blk_ct2 (c : Dev nD) (t : Fin cfg0.N) (p : Fin 512) (q : Fin 1024) :
    (iblk m c 4 t : Vec Ideal S512x1024 .f32) (ix2 p q) = CT2 m c (ix2 (row t p) q) := by
  obtain ⟨-, -, -, -, h, -⟩ := idx t
  refine (congrFun (V_main_arg4 m c) _).trans (congrArg (CT2 m c) (ext2 ?_ ?_))
  · show win0_4.index t 0 * 512 + 1 * p.val = 512 * t.val + p.val; omega
  · show win0_4.index t 1 * 1024 + 1 * q.val = q.val; omega

theorem blk_r (c : Dev nD) (t : Fin cfg0.N) (p : Fin 512) (q : Fin 1024) :
    (iblk m c 5 t : Vec Ideal S512x1024 .f32) (ix2 p q) = R m c (ix2 (row t p) q) := by
  obtain ⟨-, -, -, -, -, h, -⟩ := idx t
  refine (congrFun (V_main_arg5 m c) _).trans (congrArg (R m c) (ext2 ?_ ?_))
  · show win0_5.index t 0 * 512 + 1 * p.val = 512 * t.val + p.val; omega
  · show win0_5.index t 1 * 1024 + 1 * q.val = q.val; omega

/-- The input's gradient through both norms, added to the residual stream's. -/
def dxArr (c : Dev nD) : S8192x1024.Idx → EReal := fun i =>
  dxRow (fun k => X m c (ix2 (i 0) k)) (fun k => G2 m c (ix1 k)) (fun k => CT2 m c (ix2 (i 0) k))
    (dxRow (fun k => X m c (ix2 (i 0) k)) (fun k => G1 m c (ix1 k)) (fun k => CT1 m c (ix2 (i 0) k)) (R m c i) (i 1)) (i 1)

/-- Row `r`'s part of a gain's gradient, from the input and the cotangent. -/
def dgTerm (x ct : S8192x1024.Idx → EReal) (q : Fin 1024) (r : Fin 8192) : EReal :=
  ct (ix2 r q) * (x (ix2 r q) * rstd (∑ k, x (ix2 r k) * x (ix2 r k)))

/-- A gain's gradient. -/
def dgArr (x ct : S8192x1024.Idx → EReal) : S1x1024.Idx → EReal := fun i => ∑ r, dgTerm x ct (i 1) r

theorem block_dx (c : Dev nD) (t : Fin cfg0.N) (p : Fin 512) (q : Fin 1024) : dxBlk m c t (ix2 p q) = dxArr m c (ix2 (row t p) q) := by
  refine (pay_dx _ _ _ _ _ _ p q).trans ?_
  simp only [blk_x, blk_ct1, blk_ct2, blk_r, blk_g1, blk_g2]
  rfl

theorem final_dx (c : Dev nD) : (dats m 0 c).arrAt 6 cfg0.N = dxArr m c :=
  (dats m 0 c).arrAt_eq_of_cover 6 (dxArr m c) (fun t _ => by
    obtain ⟨-, -, -, -, -, -, h, -⟩ := idx t
    rw [Value.flushed6, outs_dx]
    funext j
    obtain ⟨p, q, rfl⟩ : ∃ (p : Fin 512) (q : Fin 1024), j = ix2 p q := ⟨j 0, j 1, eq_ix2 j⟩
    refine (block_dx m c t p q).trans (congrArg (dxArr m c) (ext2 ?_ ?_))
    · show 512 * t.val + p.val = win0_6.index t 0 * 512 + 1 * p.val; omega
    · show q.val = win0_6.index t 1 * 1024 + 1 * q.val; omega)
  fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    obtain ⟨-, -, -, -, -, -, h, -⟩ := idx t
    have ht : t.val = (i 0 : Nat) / 512 := rfl
    refine ⟨t, flush0_6 t, ?_⟩
    show i ∈ ((View.whole main_v2_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 1024 ≤ (i 1 : Nat) ∧ (i 1 : Nat) < win0_6.index t 1 * 1024 + 1024; omega

theorem final_lo (c : Dev nD) : (dats m 0 c).arrAt 7 cfg0.N = dxArr m c :=
  (dats m 0 c).arrAt_eq_of_cover 7 (dxArr m c) (fun t _ => by
    obtain ⟨-, -, -, -, -, -, -, h, -⟩ := idx t
    rw [Value.flushed7, outs_lo]
    funext j
    obtain ⟨p, q, rfl⟩ : ∃ (p : Fin 512) (q : Fin 1024), j = ix2 p q := ⟨j 0, j 1, eq_ix2 j⟩
    refine (block_dx m c t p q).trans (congrArg (dxArr m c) (ext2 ?_ ?_))
    · show 512 * t.val + p.val = win0_7.index t 0 * 512 + 1 * p.val; omega
    · show q.val = win0_7.index t 1 * 1024 + 1 * q.val; omega)
  fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    obtain ⟨-, -, -, -, -, -, -, h, -⟩ := idx t
    have ht : t.val = (i 0 : Nat) / 512 := rfl
    refine ⟨t, flush0_7 t, ?_⟩
    show i ∈ ((View.whole main_v2_1).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512; omega
    | ⟨1, _⟩ => show win0_7.index t 1 * 1024 ≤ (i 1 : Nat) ∧ (i 1 : Nat) < win0_7.index t 1 * 1024 + 1024; omega

/-- The rows' parts by number. -/
def dgNat (x ct : S8192x1024.Idx → EReal) (q : Fin 1024) (r : ℕ) : EReal := if h : r < 8192 then dgTerm x ct q ⟨r, h⟩ else 0

theorem dgArr_range (x ct : S8192x1024.Idx → EReal) (q : Fin 1024) : ∑ r ∈ Finset.range 8192, dgNat x ct q r = dgArr x ct (ix2 0 q) := by
  rw [Finset.sum_range]
  exact Finset.sum_congr rfl fun r _ => dif_pos r.isLt

/-- A point adds its 512 rows' parts. -/
theorem block_dg (c : Dev nD) (t : Fin cfg0.N) (b : Vec Ideal S512x1024 .f32) (ct : S8192x1024.Idx → EReal)
    (hb : ∀ p q, b (ix2 p q) = ct (ix2 (row t p) q)) (y : Vec Ideal S1x1024 .f32) (q : Fin 1024) :
    k0_pay9 (iblk m c 0 t) b y (ix2 0 q) = y (ix2 0 q) + ∑ p ∈ Finset.range 512, dgNat (X m c) ct q (512 * t.val + p) := by
  rw [pay_dg, Finset.sum_range]
  congr 1
  refine Finset.sum_congr rfl fun p _ => ?_
  rw [show dgNat (X m c) ct q (512 * t.val + p.val) = dgTerm (X m c) ct q (row t p) from dif_pos (row t p).isLt]
  simp only [blk_x, hb]
  rfl

/-- What the gains' windows hold after point `n`: the rows so far. -/
theorem outs_dg (c : Dev nD) (q : Fin 1024) : ∀ (n : ℕ) (h : n < cfg0.N),
    (outsAt0 m c n h).2.2.1 (ix2 0 q) = ∑ r ∈ Finset.range (512 * (n + 1)), dgNat (X m c) (CT1 m c) q r
    ∧ (outsAt0 m c n h).2.2.2 (ix2 0 q) = ∑ r ∈ Finset.range (512 * (n + 1)), dgNat (X m c) (CT2 m c) q r
  | 0, h => by
    have e := outs_dg_A m c ⟨0, h⟩ rfl
    dsimp only at e
    rw [e]
    dsimp only
    rw [block_dg m c ⟨0, h⟩ _ (CT1 m c) (blk_ct1 m c _), block_dg m c ⟨0, h⟩ _ (CT2 m c) (blk_ct2 m c _),
      (pay_zero q).1, (pay_zero q).2, zero_add, zero_add]
    simp
  | n + 1, h => by
    have hN : cfg0.N = 16 := N_0
    have ih := outs_dg c q n (Nat.lt_of_succ_lt h)
    rw [outs_dg_B m c n h (by omega)]
    dsimp only
    rw [block_dg m c _ _ (CT1 m c) (blk_ct1 m c _), block_dg m c _ _ (CT2 m c) (blk_ct2 m c _),
      show 512 * (n + 1 + 1) = 512 * (n + 1) + 512 by ring, Finset.sum_range_add, Finset.sum_range_add]
    exact ⟨congrArg (· + _) ih.1, congrArg (· + _) ih.2⟩

theorem final_dg1 (c : Dev nD) : (dats m 0 c).arrAt 8 cfg0.N = dgArr (X m c) (CT1 m c) :=
  (dats m 0 c).arrAt_eq_of_cover 8 (dgArr (X m c) (CT1 m c)) (fun t hf => by
    have hN : cfg0.N = 16 := N_0
    have h15 : t.val = 15 := by have := (flush0_8 t).mp hf; have := t.isLt; omega
    obtain ⟨-, -, -, -, -, -, -, -, h, -⟩ := idx t
    rw [Value.flushed8]
    funext j
    obtain ⟨q, rfl⟩ : ∃ q : Fin 1024, j = ix2 0 q := ⟨j 1, (eq_ix2 j).trans (by congr 1; exact Subsingleton.elim _ _)⟩
    refine ((outs_dg m c q t.val t.isLt).1.trans (by rw [h15]; exact dgArr_range _ _ q)).trans (congrArg (dgArr (X m c) (CT1 m c)) (ext2 ?_ ?_))
    · show 0 = win0_8.index t 0 * 1 + 1 * 0; omega
    · show q.val = win0_8.index t 1 * 1024 + 1 * q.val; omega)
  fun i => by
    have h0 : (i 0 : Nat) < 1 := (i 0).isLt
    have h1 : (i 1 : Nat) < 1024 := (i 1).isLt
    let t : Fin cfg0.N := ⟨15, by rw [show cfg0.N = 16 from N_0]; omega⟩
    obtain ⟨-, -, -, -, -, -, -, -, h, -⟩ := idx t
    refine ⟨t, (flush0_8 t).mpr rfl, ?_⟩
    show i ∈ ((View.whole main_v2_2).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; omega
    | ⟨1, _⟩ => show win0_8.index t 1 * 1024 ≤ (i 1 : Nat) ∧ (i 1 : Nat) < win0_8.index t 1 * 1024 + 1024; omega

theorem final_dg2 (c : Dev nD) : (dats m 0 c).arrAt 9 cfg0.N = dgArr (X m c) (CT2 m c) :=
  (dats m 0 c).arrAt_eq_of_cover 9 (dgArr (X m c) (CT2 m c)) (fun t hf => by
    have hN : cfg0.N = 16 := N_0
    have h15 : t.val = 15 := by have := (flush0_9 t).mp hf; have := t.isLt; omega
    obtain ⟨-, -, -, -, -, -, -, -, -, h⟩ := idx t
    rw [Value.flushed9]
    funext j
    obtain ⟨q, rfl⟩ : ∃ q : Fin 1024, j = ix2 0 q := ⟨j 1, (eq_ix2 j).trans (by congr 1; exact Subsingleton.elim _ _)⟩
    refine ((outs_dg m c q t.val t.isLt).2.trans (by rw [h15]; exact dgArr_range _ _ q)).trans (congrArg (dgArr (X m c) (CT2 m c)) (ext2 ?_ ?_))
    · show 0 = win0_9.index t 0 * 1 + 1 * 0; omega
    · show q.val = win0_9.index t 1 * 1024 + 1 * q.val; omega)
  fun i => by
    have h0 : (i 0 : Nat) < 1 := (i 0).isLt
    have h1 : (i 1 : Nat) < 1024 := (i 1).isLt
    let t : Fin cfg0.N := ⟨15, by rw [show cfg0.N = 16 from N_0]; omega⟩
    obtain ⟨-, -, -, -, -, -, -, -, -, h⟩ := idx t
    refine ⟨t, (flush0_9 t).mpr rfl, ?_⟩
    show i ∈ ((View.whole main_v2_3).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1; omega
    | ⟨1, _⟩ => show win0_9.index t 1 * 1024 ≤ (i 1 : Nat) ∧ (i 1 : Nat) < win0_9.index t 1 * 1024 + 1024; omega

end Cert.Norm2Pf

end
-- ==== Proof.LossValue.lean ====
/- The loss with the gradient of its norm: the result arrays as functions of the arguments. -/
module

public import proofs.«01_k».proof.Proof.Norm2Value
public import proofs.«01_k».proof.Proof.Gen.LossIdeal.Frame

@[expose] public section

set_option maxRecDepth 16384

noncomputable section

namespace Cert.LossPf

open Cert.LossIdeal Cert.LossIdeal.Gen Idealize.ShloMosaic Idealize.ShloMosaic.TcCoe Idealize.SL.Sem
open Cert.NormBlock (hz rstd dxRow)
open Cert.Norm2Pf (ext2)

/-- The output less the target, at a column of a row. -/
def diffRow (x g t : Fin 1024 → EReal) (q : Fin 1024) : EReal := x q * rstd (∑ k, x k * x k) * g q - t q

/-- A row's mean square. -/
def lossRow (x g t : Fin 1024 → EReal) : EReal :=
  Ideal.div (∑ k, diffRow x g t k * diffRow x g t k) (Ideal.ofBits .f32 0x44800000#32)

/-- A row of the output's gradient. -/
def ctRow (x g t : Fin 1024 → EReal) (q : Fin 1024) : EReal := diffRow x g t q * Ideal.ofBits .f32 0x3A800000#32

/-! ## The payloads at an index -/

section
variable (x0 x2 : Vec Ideal S512x1024 .f32) (x1 y : Vec Ideal S1x1024 .f32) (z : Vec Ideal S8x128 .f32)

theorem pay_ct (p : Fin 512) (q : Fin 1024) : k0_pay11 x0 x1 x2 (ix2 p q)
    = ctRow (fun k => x0 (ix2 p k)) (fun k => x1 (ix2 0 k)) (fun k => x2 (ix2 p k)) q := by
  unfold k0_pay11 k0_pay9 k0_pay8 k0_pay7 k0_pay6
  pointwise
  rfl

theorem pay_dx (p : Fin 512) (q : Fin 1024) : k0_pay1 (k0_pay6 x1) (k0_pay7 x0) (k0_pay8 x0) (k0_pay11 x0 x1 x2) (ix2 p q)
    = dxRow (fun k => x0 (ix2 p k)) (fun k => x1 (ix2 0 k))
      (ctRow (fun k => x0 (ix2 p k)) (fun k => x1 (ix2 0 k)) (fun k => x2 (ix2 p k))) 0 q := by
  refine Eq.trans ?_ (zero_add _).symm
  have h := fun k => pay_ct x0 x2 x1 p k
  generalize k0_pay11 x0 x1 x2 = ct at h
  simp only [← h]
  unfold k0_pay1 k0_pay8 k0_pay7 k0_pay6
  pointwise
  rfl

theorem pay_dg (q : Fin 1024) : k0_pay3 (k0_pay8 x0) (k0_pay11 x0 x1 x2) y (ix2 0 q)
    = y (ix2 0 q) + ∑ p, ctRow (fun k => x0 (ix2 p k)) (fun k => x1 (ix2 0 k)) (fun k => x2 (ix2 p k)) q
      * (x0 (ix2 p q) * rstd (∑ k, x0 (ix2 p k) * x0 (ix2 p k))) := by
  have h := fun p k => pay_ct x0 x2 x1 p k
  generalize k0_pay11 x0 x1 x2 = ct at h
  simp only [← h]
  unfold k0_pay3 k0_pay8 k0_pay7
  pointwise
  rfl

theorem pay_loss : k0_pay10 x0 x1 x2 z (ix2 0 0) = z (ix2 0 0) + Ideal.ofBits .f32 0x3F000000#32
    * ∑ p, lossRow (fun k => x0 (ix2 p k)) (fun k => x1 (ix2 0 k)) (fun k => x2 (ix2 p k)) := by
  unfold k0_pay10 k0_pay9 k0_pay8 k0_pay7 k0_pay6
  pointwise
  simp only [Fintype.sum_unique]
  rfl

theorem pay_zero (q : Fin 1024) : k0_pay5 (F := Ideal) (ix2 0 q) = 0 ∧ k0_pay4 (F := Ideal) (ix2 0 0) = 0 := by
  unfold k0_pay5 k0_pay4
  constructor
  · pointwise
    try simp
  · pointwise
    try simp

end

variable (m : (ℓ : Loc nD τ sig) → Buf (Elt Ideal) ℓ) (ρ : Dev nD → PrngReg)

/-! ## What a grid point leaves -/

/-- The input gradient at a point. -/
abbrev dxBlk (c : Dev nD) (t : Fin cfg0.N) : FVec Ideal S512x1024 .f32 :=
  k0_pay1 (k0_pay6 (iblk m c 1 t)) (k0_pay7 (iblk m c 0 t)) (k0_pay8 (iblk m c 0 t)) (k0_pay11 (iblk m c 0 t) (iblk m c 1 t) (iblk m c 2 t))

theorem outs_dx (c : Dev nD) (t : Fin cfg0.N) : (outsAt0 m c t.val t.isLt).2.1 = dxBlk m c t ∧ (outsAt0 m c t.val t.isLt).2.2.2 = dxBlk m c t := by
  by_cases h0 : t.val % 16 = 0
  · rw [outsAt0_A m c t h0]; dsimp only; unfold out0_A_4 out0_A_6
    rw [View.read_writes_eq_canon _ _ _ (fun y => cover0_A_4 (y := y) ..), View.read_writes_eq_canon _ _ _ (fun y => cover0_A_6 (y := y) ..)]
    unfold kernelRun0_A; dsimp only; sl_unfold_words; rw [View.canon_unit_zero (S := S512x1024) hz, View.canon_unit_zero (S := S512x1024) hz]
    simp only [View.readAt_eq_ld, (hs0_0 t).read_unread, (hs0_1 t).read_unread, (hs0_2 t).read_unread,
      View.ld_unit_zero (S := S512x1024) hz, View.ld_unit_zero (S := S1x1024) hz]
    exact ⟨trivial, rfl⟩
  · rw [outsAt0_B m c t h0]; dsimp only; unfold out0_B_4 out0_B_6
    rw [View.read_writes_eq_canon _ _ _ (fun y => cover0_B_4 (y := y) ..), View.read_writes_eq_canon _ _ _ (fun y => cover0_B_6 (y := y) ..)]
    unfold kernelRun0_B; dsimp only; sl_unfold_words; rw [View.canon_unit_zero (S := S512x1024) hz, View.canon_unit_zero (S := S512x1024) hz]
    simp only [View.readAt_eq_ld, (hs0_0 t).read_unread, (hs0_1 t).read_unread, (hs0_2 t).read_unread,
      View.ld_unit_zero (S := S512x1024) hz, View.ld_unit_zero (S := S1x1024) hz]
    exact ⟨trivial, rfl⟩

theorem outs_acc_A (c : Dev nD) (t : Fin cfg0.N) (h0 : t.val % 16 = 0) :
    (outsAt0 m c t.val t.isLt).1 = k0_pay10 (iblk m c 0 t) (iblk m c 1 t) (iblk m c 2 t) (k0_pay4 (F := Ideal))
    ∧ (outsAt0 m c t.val t.isLt).2.2.1 = k0_pay3 (k0_pay8 (iblk m c 0 t)) (k0_pay11 (iblk m c 0 t) (iblk m c 1 t) (iblk m c 2 t)) (k0_pay5 (F := Ideal)) := by
  rw [outsAt0_A m c t h0]; dsimp only; unfold out0_A_3 out0_A_5
  rw [View.read_writes_eq_canon _ _ _ (fun y => cover0_A_3 (y := y) ..), View.read_writes_eq_canon _ _ _ (fun y => cover0_A_5 (y := y) ..)]
  unfold kernelRun0_A; dsimp only; sl_unfold_words
  simp only [View.canon_cons_unit_zero (S := S1x1024) hz, View.readCov_unit_zero (S := S1x1024) _ hz,
    View.canon_cons_unit_zero (S := S8x128) hz, View.readCov_unit_zero (S := S8x128) _ hz,
    View.readAt_eq_ld, (hs0_0 t).read_unread, (hs0_1 t).read_unread, (hs0_2 t).read_unread,
    View.ld_unit_zero (S := S512x1024) hz, View.ld_unit_zero (S := S1x1024) hz, View.ld_unit_zero (S := S8x128) hz]
  refine ⟨?_, ?_⟩ <;> first | trivial | rfl

theorem outs_acc_B (c : Dev nD) (n : ℕ) (h : n + 1 < cfg0.N) (h0 : ¬(n + 1) % 16 = 0) :
    (outsAt0 m c (n + 1) h).1 = k0_pay10 (iblk m c 0 ⟨n + 1, h⟩) (iblk m c 1 ⟨n + 1, h⟩) (iblk m c 2 ⟨n + 1, h⟩) (outsAt0 m c n (Nat.lt_of_succ_lt h)).1
    ∧ (outsAt0 m c (n + 1) h).2.2.1 = k0_pay3 (k0_pay8 (iblk m c 0 ⟨n + 1, h⟩)) (k0_pay11 (iblk m c 0 ⟨n + 1, h⟩) (iblk m c 1 ⟨n + 1, h⟩) (iblk m c 2 ⟨n + 1, h⟩))
      (outsAt0 m c n (Nat.lt_of_succ_lt h)).2.2.1 := by
  have e := outsAt0_B m c ⟨n + 1, h⟩ h0
  dsimp only at e
  rw [e]; dsimp only; unfold out0_B_3 out0_B_5
  rw [View.read_writes_eq_canon _ _ _ (fun y => cover0_B_3 (y := y) ..), View.read_writes_eq_canon _ _ _ (fun y => cover0_B_5 (y := y) ..)]
  unfold kernelRun0_B; dsimp only; sl_unfold_words
  simp only [View.canon_unit_zero (S := S1x1024) hz, View.canon_unit_zero (S := S8x128) hz, View.readAt_eq_ld, (hs0_0 _).read_unread, (hs0_1 _).read_unread,
    (hs0_2 _).read_unread, (hs0_3 _).read_unread, (hs0_5 _).read_unread,
    View.ld_unit_zero (S := S512x1024) hz, View.ld_unit_zero (S := S1x1024) hz, View.ld_unit_zero (S := S8x128) hz]
  exact ⟨rfl, rfl⟩

/-! ## The blocks and the arrays -/

abbrev X (c : Dev nD) : S8192x1024.Idx → EReal := m ((c : Thread nD τ).loc main_arg0)
abbrev G (c : Dev nD) : S1024.Idx → EReal := m ((c : Thread nD τ).loc main_arg1)
abbrev TG (c : Dev nD) : S8192x1024.Idx → EReal := m ((c : Thread nD τ).loc main_arg2)

theorem V_gain (c : Dev nD) (k : Fin 1024) : V m c main_v0 (ix2 0 k) = G m c (ix1 k) := by
  have h0 : V m c main_v0 = broadcastInDim S1x1024 ![1] bcast_S1024_S1x1024_1 (G m c) := by
    show StableHlo.after hostOps0 (fun b => m (c, b)) main_v0 = _
    after_results_simp <;> rfl
  rw [h0]
  pointwise

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ win0_6.index t 0 = t.val ∧ win0_6.index t 1 = 0 := by
  show ∀ t : Fin grid0.N, _
  decide +kernel

/-- Row `p` of block `t`. -/
def row (t : Fin cfg0.N) (p : Fin 512) : Fin 8192 := ⟨512 * t.val + p.val, by have : cfg0.N = 16 := N_0; have := t.isLt; have := p.isLt; omega⟩

theorem blk_x (c : Dev nD) (t : Fin cfg0.N) (p : Fin 512) (q : Fin 1024) :
    (iblk m c 0 t : Vec Ideal S512x1024 .f32) (ix2 p q) = X m c (ix2 (row t p) q) := by
  obtain ⟨h, -⟩ := idx t
  refine (congrFun (V_main_arg0 m c) _).trans (congrArg (X m c) (ext2 ?_ ?_))
  · show win0_0.index t 0 * 512 + 1 * p.val = 512 * t.val + p.val; omega
  · show win0_0.index t 1 * 1024 + 1 * q.val = q.val; omega

theorem blk_g (c : Dev nD) (t : Fin cfg0.N) (q : Fin 1024) :
    (iblk m c 1 t : Vec Ideal S1x1024 .f32) (ix2 0 q) = G m c (ix1 q) := by
  obtain ⟨-, h, -⟩ := idx t
  refine Eq.trans (congrArg (V m c main_v0) (ext2 ?_ ?_)) (V_gain m c q)
  · show win0_1.index t 0 * 1 + 1 * 0 = 0; omega
  · show win0_1.index t 1 * 1024 + 1 * q.val = q.val; omega

theorem blk_t (c : Dev nD) (t : Fin cfg0.N) (p : Fin 512) (q : Fin 1024) :
    (iblk m c 2 t : Vec Ideal S512x1024 .f32) (ix2 p q) = TG m c (ix2 (row t p) q) := by
  obtain ⟨-, -, h, -⟩ := idx t
  refine (congrFun (V_main_arg2 m c) _).trans (congrArg (TG m c) (ext2 ?_ ?_))
  · show win0_2.index t 0 * 512 + 1 * p.val = 512 * t.val + p.val; omega
  · show win0_2.index t 1 * 1024 + 1 * q.val = q.val; omega

/-- The gradient of the norm's output. -/
def ctArr (x : S8192x1024.Idx → EReal) (g : S1024.Idx → EReal) (t : S8192x1024.Idx → EReal) : S8192x1024.Idx → EReal := fun i =>
  ctRow (fun k => x (ix2 (i 0) k)) (fun k => g (ix1 k)) (fun k => t (ix2 (i 0) k)) (i 1)

/-- The input's gradient. -/
def dxArr (c : Dev nD) : S8192x1024.Idx → EReal := fun i =>
  dxRow (fun k => X m c (ix2 (i 0) k)) (fun k => G m c (ix1 k)) (fun k => ctArr (X m c) (G m c) (TG m c) (ix2 (i 0) k)) 0 (i 1)

/-- The gain's gradient. -/
abbrev dgArr (c : Dev nD) : S1x1024.Idx → EReal := Norm2Pf.dgArr (X m c) (ctArr (X m c) (G m c) (TG m c))

/-- Row `r`'s mean square. -/
def lossAt (x : S8192x1024.Idx → EReal) (g : S1024.Idx → EReal) (t : S8192x1024.Idx → EReal) (r : Fin 8192) : EReal :=
  lossRow (fun k => x (ix2 r k)) (fun k => g (ix1 k)) (fun k => t (ix2 r k))

/-- The rows' mean squares by number. -/
def lossNat (x : S8192x1024.Idx → EReal) (g : S1024.Idx → EReal) (t : S8192x1024.Idx → EReal) (r : ℕ) : EReal :=
  if h : r < 8192 then lossAt x g t ⟨r, h⟩ else 0

/-- The halves of the blocks' sums, added block by block. -/
def lossUpTo (c : Dev nD) (n : ℕ) : EReal :=
  ∑ b ∈ Finset.range n, Ideal.ofBits .f32 0x3F000000#32 * ∑ p ∈ Finset.range 512, lossNat (X m c) (G m c) (TG m c) (512 * b + p)

theorem block_dx (c : Dev nD) (t : Fin cfg0.N) (p : Fin 512) (q : Fin 1024) : dxBlk m c t (ix2 p q) = dxArr m c (ix2 (row t p) q) := by
  refine (pay_dx _ _ _ p q).trans ?_
  simp only [blk_x, blk_t, blk_g]
  rfl

theorem block_dg (c : Dev nD) (t : Fin cfg0.N) (y : Vec Ideal S1x1024 .f32) (q : Fin 1024) :
    k0_pay3 (k0_pay8 (iblk m c 0 t)) (k0_pay11 (iblk m c 0 t) (iblk m c 1 t) (iblk m c 2 t)) y (ix2 0 q)
      = y (ix2 0 q) + ∑ p ∈ Finset.range 512, Norm2Pf.dgNat (X m c) (ctArr (X m c) (G m c) (TG m c)) q (512 * t.val + p) := by
  rw [pay_dg, Finset.sum_range]
  congr 1
  refine Finset.sum_congr rfl fun p _ => ?_
  rw [show Norm2Pf.dgNat (X m c) (ctArr (X m c) (G m c) (TG m c)) q (512 * t.val + p.val)
    = Norm2Pf.dgTerm (X m c) (ctArr (X m c) (G m c) (TG m c)) q (row t p) from dif_pos (row t p).isLt]
  simp only [blk_x, blk_g, blk_t]
  rfl

theorem block_loss (c : Dev nD) (t : Fin cfg0.N) (z : Vec Ideal S8x128 .f32) :
    k0_pay10 (iblk m c 0 t) (iblk m c 1 t) (iblk m c 2 t) z (ix2 0 0)
      = z (ix2 0 0) + Ideal.ofBits .f32 0x3F000000#32 * ∑ p ∈ Finset.range 512, lossNat (X m c) (G m c) (TG m c) (512 * t.val + p) := by
  rw [pay_loss, Finset.sum_range]
  congr 2
  refine Finset.sum_congr rfl fun p _ => ?_
  rw [show lossNat (X m c) (G m c) (TG m c) (512 * t.val + p.val) = lossAt (X m c) (G m c) (TG m c) (row t p) from dif_pos (row t p).isLt]
  simp only [blk_x, blk_g, blk_t]
  rfl

/-- What the accumulators hold after point `n`: the rows so far. -/
theorem outs_acc (c : Dev nD) : ∀ (n : ℕ) (h : n < cfg0.N), (outsAt0 m c n h).1 (ix2 0 0) = lossUpTo m c (n + 1)
    ∧ ∀ q, (outsAt0 m c n h).2.2.1 (ix2 0 q) = ∑ r ∈ Finset.range (512 * (n + 1)), Norm2Pf.dgNat (X m c) (ctArr (X m c) (G m c) (TG m c)) q r
  | 0, h => by
    have e := outs_acc_A m c ⟨0, h⟩ rfl
    dsimp only at e
    rw [e.1, e.2]
    refine ⟨?_, fun q => ?_⟩
    · rw [block_loss m c ⟨0, h⟩, (pay_zero 0).2, zero_add]
      simp [lossUpTo]
    · rw [block_dg m c ⟨0, h⟩, (pay_zero q).1, zero_add]
      simp
  | n + 1, h => by
    have hN : cfg0.N = 16 := N_0
    have ih := outs_acc c n (Nat.lt_of_succ_lt h)
    have e := outs_acc_B m c n h (by omega)
    rw [e.1, e.2]
    refine ⟨?_, fun q => ?_⟩
    · rw [block_loss m c]
      exact (congrArg (· + _) ih.1).trans (Finset.sum_range_succ _ _).symm
    · rw [block_dg m c, show 512 * (n + 1 + 1) = 512 * (n + 1) + 512 by ring, Finset.sum_range_add]
      exact congrArg (· + _) (ih.2 q)

theorem final_dx (c : Dev nD) : (dats m 0 c).arrAt 4 cfg0.N = dxArr m c :=
  (dats m 0 c).arrAt_eq_of_cover 4 (dxArr m c) (fun t _ => by
    obtain ⟨-, -, -, -, h, -⟩ := idx t
    show (cfg0.win 4).cut (grid0.coords t) ((dats m 0 c).after 4 t) = _
    rw [after0_4, (outs_dx m c t).1]
    funext j
    obtain ⟨p, q, rfl⟩ : ∃ (p : Fin 512) (q : Fin 1024), j = ix2 p q := ⟨j 0, j 1, eq_ix2 j⟩
    refine (block_dx m c t p q).trans (congrArg (dxArr m c) (ext2 ?_ ?_))
    · show 512 * t.val + p.val = win0_4.index t 0 * 512 + 1 * p.val; omega
    · show q.val = win0_4.index t 1 * 1024 + 1 * q.val; omega)
  fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    obtain ⟨-, -, -, -, h, -⟩ := idx t
    have ht : t.val = (i 0 : Nat) / 512 := rfl
    refine ⟨t, flush0_4 t, ?_⟩
    show i ∈ ((View.whole main_v1_1).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; omega
    | ⟨1, _⟩ => show win0_4.index t 1 * 1024 ≤ (i 1 : Nat) ∧ (i 1 : Nat) < win0_4.index t 1 * 1024 + 1024; omega

theorem final_lo (c : Dev nD) : (dats m 0 c).arrAt 6 cfg0.N = dxArr m c :=
  (dats m 0 c).arrAt_eq_of_cover 6 (dxArr m c) (fun t _ => by
    obtain ⟨-, -, -, -, -, -, h⟩ := idx t
    show (cfg0.win 6).cut (grid0.coords t) ((dats m 0 c).after 6 t) = _
    rw [after0_6, (outs_dx m c t).2]
    funext j
    obtain ⟨p, q, rfl⟩ : ∃ (p : Fin 512) (q : Fin 1024), j = ix2 p q := ⟨j 0, j 1, eq_ix2 j⟩
    refine (block_dx m c t p q).trans (congrArg (dxArr m c) (ext2 ?_ ?_))
    · show 512 * t.val + p.val = win0_6.index t 0 * 512 + 1 * p.val; omega
    · show q.val = win0_6.index t 1 * 1024 + 1 * q.val; omega)
  fun i => by
    have h0 : (i 0 : Nat) < 8192 := (i 0).isLt
    have h1 : (i 1 : Nat) < 1024 := (i 1).isLt
    let t : Fin cfg0.N := ⟨(i 0 : Nat) / 512, by rw [show cfg0.N = 16 from N_0]; omega⟩
    obtain ⟨-, -, -, -, -, -, h⟩ := idx t
    have ht : t.val = (i 0 : Nat) / 512 := rfl
    refine ⟨t, flush0_6 t, ?_⟩
    show i ∈ ((View.whole main_v1_3).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512; omega
    | ⟨1, _⟩ => show win0_6.index t 1 * 1024 ≤ (i 1 : Nat) ∧ (i 1 : Nat) < win0_6.index t 1 * 1024 + 1024; omega

theorem final_dg (c : Dev nD) : (dats m 0 c).arrAt 5 cfg0.N = dgArr m c :=
  (dats m 0 c).arrAt_eq_of_cover 5 (dgArr m c) (fun t hf => by
    have hN : cfg0.N = 16 := N_0
    have h15 : t.val = 15 := by have := (flush0_5 t).mp hf; have := t.isLt; omega
    obtain ⟨-, -, -, -, -, h, -⟩ := idx t
    show (cfg0.win 5).cut (grid0.coords t) ((dats m 0 c).after 5 t) = _
    rw [after0_5]
    funext j
    obtain ⟨q, rfl⟩ : ∃ q : Fin 1024, j = ix2 0 q := ⟨j 1, (eq_ix2 j).trans (by congr 1; exact Subsingleton.elim _ _)⟩
    refine (((outs_acc m c t.val t.isLt).2 q).trans (by rw [h15]; exact Norm2Pf.dgArr_range _ _ q)).trans (congrArg (dgArr m c) (ext2 ?_ ?_))
    · show 0 = win0_5.index t 0 * 1 + 1 * 0; omega
    · show q.val = win0_5.index t 1 * 1024 + 1 * q.val; omega)
  fun i => by
    have h0 : (i 0 : Nat) < 1 := (i 0).isLt
    have h1 : (i 1 : Nat) < 1024 := (i 1).isLt
    let t : Fin cfg0.N := ⟨15, by rw [show cfg0.N = 16 from N_0]; omega⟩
    obtain ⟨-, -, -, -, -, h, -⟩ := idx t
    refine ⟨t, (flush0_5 t).mpr rfl, ?_⟩
    show i ∈ ((View.whole main_v1_2).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 1024 ≤ (i 1 : Nat) ∧ (i 1 : Nat) < win0_5.index t 1 * 1024 + 1024; omega

/-- The loss's tile after the last point. -/
def tile (c : Dev nD) : S8x128.Idx → EReal := (outsAt0 m c 15 (by rw [show cfg0.N = 16 from N_0]; decide)).1

theorem final_tile (c : Dev nD) : (dats m 0 c).arrAt 3 cfg0.N = tile m c :=
  (dats m 0 c).arrAt_eq_of_cover 3 (tile m c) (fun t hf => by
    have hN : cfg0.N = 16 := N_0
    have h15 : t.val = 15 := by have := (flush0_3 t).mp hf; have := t.isLt; omega
    obtain ⟨-, -, -, h, -⟩ := idx t
    show (cfg0.win 3).cut (grid0.coords t) ((dats m 0 c).after 3 t) = _
    rw [after0_3]
    funext j
    obtain ⟨p, q, rfl⟩ : ∃ (p : Fin 8) (q : Fin 128), j = ix2 p q := ⟨j 0, j 1, eq_ix2 j⟩
    have e : ∀ (n : ℕ) (hn : n < cfg0.N), n = 15 → (outsAt0 m c n hn).1 = tile m c := by rintro n hn rfl; rfl
    refine (congrFun (e t.val t.isLt h15) (ix2 p q)).trans (congrArg (tile m c) (ext2 ?_ ?_))
    · show p.val = win0_3.index t 0 * 8 + 1 * p.val; omega
    · show q.val = win0_3.index t 1 * 128 + 1 * q.val; omega)
  fun i => by
    have h0 : (i 0 : Nat) < 8 := (i 0).isLt
    have h1 : (i 1 : Nat) < 128 := (i 1).isLt
    let t : Fin cfg0.N := ⟨15, by rw [show cfg0.N = 16 from N_0]; omega⟩
    obtain ⟨-, -, -, h, -⟩ := idx t
    refine ⟨t, (flush0_3 t).mpr rfl, ?_⟩
    show i ∈ ((View.whole main_v1_0).slice (win0_3.rect t)).set
    rw [View.set_slice_whole, Rect.mem_set_unit]
    intro a
    match a with
    | ⟨0, _⟩ => show win0_3.index t 0 * 8 ≤ (i 0 : Nat) ∧ (i 0 : Nat) < win0_3.index t 0 * 8 + 8; omega
    | ⟨1, _⟩ => show win0_3.index t 1 * 128 ≤ (i 1 : Nat) ∧ (i 1 : Nat) < win0_3.index t 1 * 128 + 128; omega

/-- The results: the tile's first entry, and the three other arrays. -/
theorem run : θ_run defs (onTc (τ := τ) (main (F := Ideal))) ⟨m, fun _ => 0, ρ⟩ (fun r => ∀ c : Dev nD,
    r.2.mem ((c.tc : Thread nD τ).loc main_v3) = (fun _ : S_.Idx => lossUpTo m c 16)
      ∧ r.2.mem ((c.tc : Thread nD τ).loc main_v1_1) = dxArr m c
      ∧ r.2.mem ((c.tc : Thread nD τ).loc main_v1_3) = dxArr m c
      ∧ r.2.mem ((c.tc : Thread nD τ).loc main_v1_2) = dgArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono ?_ (θ_run_and (unchanged m ρ) (run_main m ρ))
  refine fun r h c => ⟨?_, ((h.2 c).1 4).trans (final_dx m c), ((h.2 c).1 6).trans (final_lo m c), ((h.2 c).1 5).trans (final_dg m c), h.1 c⟩
  refine ((h.2 c).2 main_v3 (Pipeline.mem_restRefs_of main_v3 (by decide) (by decide))).trans ?_
  show StableHlo.after hostOps1 _ (Proc.devRef .tc main_v3) = _
  after_results_simp
  have e : Pipeline.withArrays (cfgs 0).spec c (V0 m c) (fun w => (dats m 0 c).arrAt w (cfgs 0).N) (Proc.devRef .tc main_v1_0) = tile m c :=
    (Pipeline.withArrays_arr (cfgs 0).spec launch0.win.arr_inj c (V0 m c) (fun w => (dats m 0 c).arrAt w (cfgs 0).N) (3 : Fin 7)).trans (final_tile m c)
  rw [e]
  funext i
  pointwise
  exact (outs_acc m c 15 (by rw [show cfg0.N = 16 from N_0]; decide)).1

end Cert.LossPf

end
-- ==== Proof.LossRef.lean ====
/- The loss and its gradient, read at an index, are what the kernel leaves. -/
module

public import proofs.«01_k».proof.Proof.Norm2Ref
public import proofs.«01_k».proof.Proof.LossValue
public import proofs.«01_k».proof.Proof.Gen.LossRefIdeal.Read

@[expose] public section

set_option maxRecDepth 16384

noncomputable section

namespace Cert.LossPf

open Cert.LossRefIdeal Cert.LossRefIdeal.Read Idealize.ShloMosaic
open Cert.NormBlock (rstd dxRow)

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

/-! ## Finite rows -/

section
variable (x g t : Fin 1024 → EReal) (hx : ∀ k, ∃ a : ℝ, x k = a) (hg : ∀ k, ∃ a : ℝ, g k = a) (ht : ∀ k, ∃ a : ℝ, t k = a)

include hx in
theorem rstd_real : ∃ r : ℝ, rstd (∑ k, x k * x k) = r := by
  choose xr hxr using hx
  obtain ⟨e, he, hE⟩ := Reals.ofBits_eps
  unfold rstd
  have hpos : 0 < (∑ k, xr k * xr k) / 1024 + e := by
    have : 0 ≤ ∑ k, xr k * xr k := Finset.sum_nonneg fun k _ => mul_self_nonneg _
    positivity
  refine ⟨(Real.sqrt ((∑ k, xr k * xr k) / 1024 + e))⁻¹, ?_⟩
  simp only [hxr, hE, Reals.ofBits_1024, ← EReal.coe_mul, Reals.coe_sum]
  rw [Reals.div_coe_coe _ (by norm_num), ← EReal.coe_add, Reals.rsqrt_pos hpos]

include hx hg ht in
theorem diff_real (q : Fin 1024) : ∃ r : ℝ, diffRow x g t q = r := by
  obtain ⟨r, hr⟩ := rstd_real x hx
  obtain ⟨a, ha⟩ := hx q
  obtain ⟨b, hb⟩ := hg q
  obtain ⟨d, hd⟩ := ht q
  refine ⟨a * r * b - d, ?_⟩
  unfold diffRow
  rw [hr, ha, hb, hd, ← EReal.coe_mul, ← EReal.coe_mul, ← EReal.coe_sub]

include hx hg ht in
theorem loss_real : ∃ r : ℝ, lossRow x g t = r := by
  choose d hd using diff_real x g t hx hg ht
  refine ⟨(∑ k, d k * d k) / 1024, ?_⟩
  unfold lossRow
  simp only [hd, Reals.ofBits_1024, ← EReal.coe_mul, Reals.coe_sum]
  rw [Reals.div_coe_coe _ (by norm_num)]

end

/-! ## The derivative -/

section
variable (x : S8192x1024.Idx → EReal) (g : S1024.Idx → EReal) (t : S8192x1024.Idx → EReal)
  (hx : ∀ i, ∃ a : ℝ, x i = a) (hg : ∀ i, ∃ a : ℝ, g i = a) (ht : ∀ i, ∃ a : ℝ, t i = a)

theorem ref_diff (p : Fin 8192) (q : Fin 1024) : val_main_v16 (F := Ideal) x g t (ix2 p q)
    = diffRow (fun k => x (ix2 p k)) (fun k => g (ix1 k)) (fun k => t (ix2 p k)) q := by
  unfold val_main_v16 val_main_v15 val_main_v14 val_main_v13 val_main_v12 val_main_v11 val_main_v7 val_main_v6 val_main_v5
    val_main_v4 val_main_v3 val_main_v2 val_main_v1 val_main_v0 val_main_cst val_main_cst_0 val_main_cst_1
  pointwise
  rfl

include hx hg ht in
theorem ref_ct (p : Fin 8192) (q : Fin 1024) : val_main_v30 (F := Ideal) x g t (ix2 p q) = ctArr x g t (ix2 p q) := by
  have h := ref_diff x g t p q
  obtain ⟨d, hd⟩ := diff_real (fun k => x (ix2 p k)) (fun k => g (ix1 k)) (fun k => t (ix2 p k))
    (fun k => hx _) (fun k => hg _) (fun k => ht _) q
  show _ = diffRow (fun k => x (ix2 p k)) (fun k => g (ix1 k)) (fun k => t (ix2 p k)) q * _
  rw [hd, ofBits_inv_1024]
  rw [hd] at h
  unfold val_main_v30 val_main_v29 val_main_v28 val_main_v27 val_main_v26 val_main_v25 val_main_v19 val_main_v18
    val_main_cst_3 val_main_cst_8 val_main_cst_9 val_main_cst_10
  generalize val_main_v16 (F := Ideal) x g t = y at h
  pointwise
  rw [h, ofBits_half, ofBits_two, Reals.ofBits_1024, Reals.div_coe_coe _ (by norm_num),
    ← EReal.coe_mul, ← EReal.coe_mul, ← EReal.coe_mul]
  congr 1
  ring

include hx hg ht in
theorem ct_eq : val_main_v30 (F := Ideal) x g t = ctArr x g t := by
  funext i
  rw [eq_ix2 i]
  exact ref_ct x g t hx hg ht _ _

include hx hg ht in
theorem ct_real (i : S8192x1024.Idx) : ∃ a : ℝ, ctArr x g t i = a := by
  obtain ⟨d, hd⟩ := diff_real (fun k => x (ix2 (i 0) k)) (fun k => g (ix1 k)) (fun k => t (ix2 (i 0) k))
    (fun k => hx _) (fun k => hg _) (fun k => ht _) (i 1)
  refine ⟨d * (1 / 1024), ?_⟩
  show diffRow (fun k => x (ix2 (i 0) k)) (fun k => g (ix1 k)) (fun k => t (ix2 (i 0) k)) (i 1) * _ = _
  rw [hd, ofBits_inv_1024, ← EReal.coe_mul]

include hx hg ht in
theorem ref_dx (p : Fin 8192) (q : Fin 1024) : val_main_v50 (F := Ideal) x g t (ix2 p q)
    = dxRow (fun k => x (ix2 p k)) (fun k => g (ix1 k)) (fun k => ctArr x g t (ix2 p k)) 0 q := by
  have e : val_main_v50 (F := Ideal) x g t = NormRefIdeal.Read.val_main_v35 (F := Ideal) x g (val_main_v30 (F := Ideal) x g t) := rfl
  rw [e, ct_eq x g t hx hg ht]
  exact Norm2Pf.branch x g _ hx hg (ct_real x g t hx hg ht) p q

theorem ref_lo : val_main_v51 (F := Ideal) x g t = val_main_v50 (F := Ideal) x g t := rfl

include hx hg ht in
theorem ref_dg (q : Fin 1024) : val_main_v52 (F := Ideal) x g t (ix2 0 q) = Norm2Pf.dgArr x (ctArr x g t) (ix2 0 q) := by
  have e : val_main_v52 (F := Ideal) x g t = NormRefIdeal.Read.val_main_v39 (F := Ideal) x (val_main_v30 (F := Ideal) x g t) := rfl
  rw [e, ct_eq x g t hx hg ht]
  exact NormBlock.ref_dg x _ q

theorem ref_loss (i : S_.Idx) : val_main_v24 (F := Ideal) x g t i = Ideal.ofBits .f32 0x3F000000#32 * ∑ r, lossAt x g t r := by
  have h := fun p q => ref_diff x g t p q
  unfold val_main_v24 val_main_v23 val_main_v22 val_main_v21 val_main_v20 val_main_v17 val_main_cst_4 val_main_cst_5 val_main_cst_6 val_main_cst_7
  generalize val_main_v16 (F := Ideal) x g t = y at h
  pointwise
  simp only [h]
  rfl

theorem blocks (f : ℕ → ℝ) (n : ℕ) : ∑ r ∈ Finset.range (512 * n), f r = ∑ b ∈ Finset.range n, ∑ p ∈ Finset.range 512, f (512 * b + p) := by
  induction n with
  | zero => rfl
  | succ n ih => rw [Nat.mul_succ, Finset.sum_range_add, ih, Finset.sum_range_succ _ n]

include hx hg ht in
/-- The blocks' halves add up to half the rows' sum. -/
theorem loss_sum : Ideal.ofBits .f32 0x3F000000#32 * ∑ r, lossAt x g t r
    = ∑ b ∈ Finset.range 16, Ideal.ofBits .f32 0x3F000000#32 * ∑ p ∈ Finset.range 512, lossNat x g t (512 * b + p) := by
  have h : ∀ n, ∃ a : ℝ, lossNat x g t n = a := fun n => by
    unfold lossNat
    split
    · exact loss_real _ _ _ (fun k => hx _) (fun k => hg _) (fun k => ht _)
    · exact ⟨0, rfl⟩
  choose l hl using h
  have e : ∑ r, lossAt x g t r = ∑ n ∈ Finset.range 8192, lossNat x g t n := by
    rw [Finset.sum_range]
    exact Finset.sum_congr rfl fun r _ => (show lossNat x g t r.val = lossAt x g t r from dif_pos r.isLt).symm
  rw [e, ofBits_half]
  simp only [hl, Reals.coe_sum, ← EReal.coe_mul]
  congr 1
  rw [show (8192 : ℕ) = 512 * 16 from rfl, blocks, Finset.mul_sum]

end

end Cert.LossPf

end
-- ==== Proof.LossClaims.lean ====
/- The claims about the loss with the gradient of its norm. -/
module

public import proofs.«01_k».proof.Proof.NormClaims
public import proofs.«01_k».proof.Proof.LossRef
public import proofs.«01_k».proof.Proof.Gen.Loss.Frame
public import proofs.«01_k».proof.Proof.Gen.Pre_loss_finite

@[expose] public section

set_option maxRecDepth 16384

noncomputable section

namespace Cert.LossPf

open Idealize.ShloMosaic Idealize.SL.Sem

theorem frame : Cert.quiescent_Loss := fun m ρ _ => Cert.Loss.Gen.frame m ρ

theorem frame_ideal : Cert.quiescent_LossIdeal := fun m ρ _ => Cert.LossIdeal.Gen.frame m ρ

theorem frame_ref : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

theorem frame_ideal_pre : Cert.quiescent_LossIdeal_pre_loss_finite := fun m ρ _ => Cert.LossIdeal.Gen.frame m ρ

theorem frame_ref_pre : Cert.quiescent_LossRefIdeal_pre_loss_finite := fun m ρ _ => frame_ref m ρ trivial

theorem value : Cert.algebraic_LossIdeal_LossRefIdeal_pre_loss_finite := by
  intro m ρ m' ρ' hpre hag
  have hx := fun c => NormClaims.finite (X m c) _ (fun _ => rfl) (hpre c).1
  have hg := fun c => NormClaims.finite (G m c) _ (fun _ => rfl) (hpre c).2.1
  have ht := fun c => NormClaims.finite (TG m c) _ (fun _ => rfl) (hpre c).2.2
  refine ⟨fun c _ => lossUpTo m c 16, fun c => dxArr m c, fun c => dxArr m c, fun c => dgArr m c, run m ρ,
    (θ_run _ _ _).mono (fun _ h c => ⟨(h c).1.trans ?_, (h c).2.1.trans ?_, (h c).2.2.1.trans ?_, (h c).2.2.2.1.trans ?_, (h c).2.2.2.2⟩)
      (Cert.LossRefIdeal.Value.run m' ρ')⟩
  · refine (Cert.LossRefIdeal.Read.val_main_v24_eq ..).trans ?_
    rw [(hag c).1, (hag c).2.1, (hag c).2.2]
    funext i
    exact (ref_loss _ _ _ i).trans (loss_sum _ _ _ (hx c) (hg c) (ht c))
  · refine (Cert.LossRefIdeal.Read.val_main_v50_eq ..).trans ?_
    rw [(hag c).1, (hag c).2.1, (hag c).2.2]
    funext i
    rw [eq_ix2 i]
    exact ref_dx _ _ _ (hx c) (hg c) (ht c) _ _
  · refine (Cert.LossRefIdeal.Read.val_main_v51_eq ..).trans ?_
    rw [ref_lo, (hag c).1, (hag c).2.1, (hag c).2.2]
    funext i
    rw [eq_ix2 i]
    exact ref_dx _ _ _ (hx c) (hg c) (ht c) _ _
  · refine (Cert.LossRefIdeal.Read.val_main_v52_eq ..).trans ?_
    rw [(hag c).1, (hag c).2.1, (hag c).2.2]
    funext i
    obtain ⟨q, rfl⟩ : ∃ q : Fin 1024, i = ix2 0 q := ⟨i 1, (eq_ix2 i).trans (by congr 1; exact Subsingleton.elim (α := Fin 1) _ _)⟩
    exact ref_dg _ _ _ (hx c) (hg c) (ht c) q

end Cert.LossPf

end
-- ==== Proof.ActValue.lean ====
/- The squared ReLU and its gradient: the result arrays of the two products as functions of the arguments. -/
module

public import proofs.«01_k».proof.Proof.Norm2Value
public import proofs.«01_k».proof.Proof.Gen.ActIdeal.Frame

@[expose] public section

set_option maxRecDepth 16384

noncomputable section

namespace Cert.ActPf

open Cert.ActIdeal Cert.ActIdeal.Gen Idealize.ShloMosaic Idealize.ShloMosaic.TcCoe Idealize.SL.Sem
open Idealize.SL Idealize.SL.RA Idealize.SL.BI Idealize.SL.BI.BIBase Idealize.SL.BI.Laws Idealize.SL.ProofMode Idealize.ShloMosaic.Rounds
open scoped Idealize.SL.BI
open Cert.NormBlock (hz)
open Cert.Norm2Pf (ext2)

/-! ## The payloads at an index -/

section
variable (x0 : Vec Ideal S1024x1024 .bf16) (x1 : Vec Ideal S1024x2048 .bf16) (y1 : Vec Ideal S2048x1024 .bf16) (p : Fin 1024) (q : Fin 2048)

theorem pay_r : k0_pay2 x0 x1 (ix2 p q) = max (∑ k, x0 (ix2 p k) * x1 (ix2 k q)) 0 := by
  unfold k0_pay2 k0_pay1
  pointwise
  done

theorem pay_a : k0_pay3 x0 x1 (ix2 p q) = max (∑ k, x0 (ix2 p k) * x1 (ix2 k q)) 0 * max (∑ k, x0 (ix2 p k) * x1 (ix2 k q)) 0 := by
  unfold k0_pay3 k0_pay1
  pointwise
  done

theorem pay_d : k1_pay1 x0 y1 x1 (ix2 p q) = (∑ k, x0 (ix2 p k) * y1 (ix2 q k)) * (Ideal.ofBits .f32 0x40000000#32 * x1 (ix2 p q)) := by
  unfold k1_pay1
  pointwise
  done

end

variable (m : (ℓ : Loc nD τ sig) → Buf (Elt Ideal) ℓ) (ρ : Dev nD → PrngReg)

abbrev H (c : Dev nD) : S8192x1024.Idx → EReal := m ((c : Thread nD τ).loc main_arg0)
abbrev UP (c : Dev nD) : S1024x4096.Idx → EReal := m ((c : Thread nD τ).loc main_arg1)
abbrev DOWN (c : Dev nD) : S4096x1024.Idx → EReal := m ((c : Thread nD τ).loc main_arg2)
abbrev CT (c : Dev nD) : S8192x1024.Idx → EReal := m ((c : Thread nD τ).loc main_arg3)

/-- The ReLU of the up projection. -/
def rArr (c : Dev nD) : S8192x4096.Idx → EReal := fun i => max (∑ k : Fin 1024, H m c (ix2 (i 0) k) * UP m c (ix2 k (i 1))) 0

/-- Its square. -/
def aArr (c : Dev nD) : S8192x4096.Idx → EReal := fun i => rArr m c i * rArr m c i

/-- The gradient of the up projection. -/
def dArr (c : Dev nD) : S8192x4096.Idx → EReal := fun i =>
  (∑ k : Fin 1024, CT m c (ix2 (i 0) k) * DOWN m c (ix2 (i 1) k)) * (Ideal.ofBits .f32 0x40000000#32 * rArr m c i)

theorem idx0 : ∀ t : Fin cfg0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ win0_3.index t 0 = t.val / 2 ∧ win0_3.index t 1 = t.val % 2 := by
  show ∀ t : Fin grid0.N, _
  decide +kernel

theorem idx1 : ∀ t : Fin cfg1.N, (win1_0.index t 0 = t.val / 2 ∧ win1_0.index t 1 = 0) ∧ (win1_1.index t 0 = t.val % 2 ∧ win1_1.index t 1 = 0)
    ∧ (win1_2.index t 0 = t.val / 2 ∧ win1_2.index t 1 = t.val % 2) ∧ win1_3.index t 0 = t.val / 2 ∧ win1_3.index t 1 = t.val % 2 := by
  show ∀ t : Fin grid1.N, _
  decide +kernel

/-! ## The first region -/

theorem V1_ops (c : Dev nD) : V1 m ρ c main_v0 = H m c ∧ V1 m ρ c main_v1 = UP m c := by
  constructor
  · show StableHlo.after hostOps0 _ main_v0 = _
    after_results_simp <;> rfl
  · show StableHlo.after hostOps0 _ main_v1 = _
    after_results_simp <;> rfl

theorem blk_h (c : Dev nD) (t : Fin cfg0.N) (p : Fin 1024) (q : Fin 2048) (k : Fin 1024) :
    (iblk0 (V1 m ρ) c 0 t : Vec Ideal S1024x1024 .bf16) (ix2 p k) = H m c (ix2 ((((cfg0.win 2).blk t).view.emb (ix2 p q : (S1024x2048).Idx) : S8192x4096.Idx) 0) k)
    ∧ (iblk0 (V1 m ρ) c 1 t : Vec Ideal S1024x2048 .bf16) (ix2 k q) = UP m c (ix2 k ((((cfg0.win 2).blk t).view.emb (ix2 p q : (S1024x2048).Idx) : S8192x4096.Idx) 1)) := by
  obtain ⟨h0, h1, h2, -⟩ := idx0 t
  constructor
  · refine (congrFun (V1_ops m ρ c).1 _).trans (congrArg (H m c) (ext2 ?_ ?_))
    · show win0_0.index t 0 * 1024 + 1 * p.val = win0_2.index t 0 * 1024 + 1 * p.val; omega
    · show win0_0.index t 1 * 1024 + 1 * k.val = k.val; omega
  · refine (congrFun (V1_ops m ρ c).2 _).trans (congrArg (UP m c) (ext2 ?_ ?_))
    · show win0_1.index t 0 * 1024 + 1 * k.val = k.val; omega
    · show win0_1.index t 1 * 2048 + 1 * q.val = win0_2.index t 1 * 2048 + 1 * q.val; omega

theorem final_r (c : Dev nD) : (dat0 (V1 m ρ) c).arrAt 2 cfg0.N = rArr m c :=
  (dat0 (V1 m ρ) c).arrAt_eq_of_cover 2 (rArr m c) (fun t _ => by
    show (cfg0.win 2).cut (grid0.coords t) ((dat0 (V1 m ρ) c).after 2 t) = _
    rw [after0_2]
    unfold out0_2
    rw [View.canon_unit_zero (S := S1024x2048) hz, View.ld_unit_zero (S := S1024x1024) hz, View.ld_unit_zero (S := S1024x2048) hz]
    funext j
    obtain ⟨p, q, rfl⟩ : ∃ (p : Fin 1024) (q : Fin 2048), j = ix2 p q := ⟨j 0, j 1, eq_ix2 j⟩
    refine (pay_r _ _ p q).trans ?_
    simp only [(blk_h m ρ c t p q _).1, (blk_h m ρ c t p q _).2]
    rfl)
  fun i => by
    have h0 : (i 0 : Nat) < 8192 := (i 0).isLt
    have h1 : (i 1 : Nat) < 4096 := (i 1).isLt
    let t : Fin cfg0.N := ⟨(i 0 : Nat) / 1024 * 2 + (i 1 : Nat) / 2048, by rw [show cfg0.N = 16 from N_0]; omega⟩
    obtain ⟨-, -, h, -⟩ := idx0 t
    have ht : t.val = (i 0 : Nat) / 1024 * 2 + (i 1 : Nat) / 2048 := rfl
    refine ⟨t, (by decide +kernel : ∀ t : Fin grid0.N, win0_2.flush t = true) t, ?_⟩
    show i ∈ ((View.whole main_v2_0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; omega
    | ⟨1, _⟩ => show win0_2.index t 1 * 2048 ≤ (i 1 : Nat) ∧ (i 1 : Nat) < win0_2.index t 1 * 2048 + 2048; omega

theorem final_a (c : Dev nD) : (dat0 (V1 m ρ) c).arrAt 3 cfg0.N = aArr m c :=
  (dat0 (V1 m ρ) c).arrAt_eq_of_cover 3 (aArr m c) (fun t _ => by
    obtain ⟨-, -, h2, h3⟩ := idx0 t
    show (cfg0.win 3).cut (grid0.coords t) ((dat0 (V1 m ρ) c).after 3 t) = _
    rw [after0_3]
    unfold out0_3
    rw [View.canon_unit_zero (S := S1024x2048) hz, View.ld_unit_zero (S := S1024x1024) hz, View.ld_unit_zero (S := S1024x2048) hz]
    funext j
    obtain ⟨p, q, rfl⟩ : ∃ (p : Fin 1024) (q : Fin 2048), j = ix2 p q := ⟨j 0, j 1, eq_ix2 j⟩
    refine (pay_a _ _ p q).trans ?_
    simp only [(blk_h m ρ c t p q _).1, (blk_h m ρ c t p q _).2]
    refine congrArg (aArr m c) (ext2 (i := ((cfg0.win 2).blk t).view.emb (ix2 p q : (S1024x2048).Idx)) ?_ ?_)
    · show win0_2.index t 0 * 1024 + 1 * p.val = win0_3.index t 0 * 1024 + 1 * p.val; omega
    · show win0_2.index t 1 * 2048 + 1 * q.val = win0_3.index t 1 * 2048 + 1 * q.val; omega)
  fun i => by
    have h0 : (i 0 : Nat) < 8192 := (i 0).isLt
    have h1 : (i 1 : Nat) < 4096 := (i 1).isLt
    let t : Fin cfg0.N := ⟨(i 0 : Nat) / 1024 * 2 + (i 1 : Nat) / 2048, by rw [show cfg0.N = 16 from N_0]; omega⟩
    obtain ⟨-, -, -, h⟩ := idx0 t
    have ht : t.val = (i 0 : Nat) / 1024 * 2 + (i 1 : Nat) / 2048 := rfl
    refine ⟨t, (by decide +kernel : ∀ t : Fin grid0.N, win0_3.flush t = true) t, ?_⟩
    show i ∈ ((View.whole main_v2_1).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; omega
    | ⟨1, _⟩ => show win0_3.index t 1 * 2048 ≤ (i 1 : Nat) ∧ (i 1 : Nat) < win0_3.index t 1 * 2048 + 2048; omega

/-! ## The second region -/

theorem V3_ops (c : Dev nD) : V3 m ρ c main_v3 = CT m c ∧ V3 m ρ c main_v4 = DOWN m c ∧ V3 m ρ c main_v2_0 = rArr m c := by
  refine ⟨?_, ?_, ?_⟩
  · show StableHlo.after hostOps1 (W2 m ρ c) main_v3 = _
    after_results_simp
    exact W2_args m ρ c main_arg3 (by decide)
  · show StableHlo.after hostOps1 (W2 m ρ c) main_v4 = _
    after_results_simp
    exact W2_args m ρ c main_arg2 (by decide)
  · exact (W3_of m ρ c main_v2_0 (by decide)).trans ((hF0 m ρ c 2).symm.trans (final_r m ρ c))

theorem final_d (c : Dev nD) : (dat1 (V3 m ρ) c).arrAt 3 cfg1.N = dArr m c :=
  (dat1 (V3 m ρ) c).arrAt_eq_of_cover 3 (dArr m c) (fun t _ => by
    obtain ⟨h0, h1, h2, h3⟩ := idx1 t
    show (cfg1.win 3).cut (grid1.coords t) ((dat1 (V3 m ρ) c).after 3 t) = _
    rw [after1_3]
    unfold out1_3
    rw [View.canon_unit_zero (S := S1024x2048) hz, View.ld_unit_zero (S := S1024x1024) hz, View.ld_unit_zero (S := S2048x1024) hz, View.ld_unit_zero (S := S1024x2048) hz]
    funext j
    obtain ⟨p, q, rfl⟩ : ∃ (p : Fin 1024) (q : Fin 2048), j = ix2 p q := ⟨j 0, j 1, eq_ix2 j⟩
    refine (pay_d _ _ _ p q).trans ?_
    refine congrArg₂ (· * ·) (Finset.sum_congr rfl fun k _ => congrArg₂ (· * ·) ?_ ?_) (congrArg (Ideal.ofBits .f32 0x40000000#32 * ·) ?_)
    · refine (congrFun (V3_ops m ρ c).1 _).trans (congrArg (CT m c) (ext2 ?_ ?_))
      · show win1_0.index t 0 * 1024 + 1 * p.val = win1_3.index t 0 * 1024 + 1 * p.val; omega
      · show win1_0.index t 1 * 1024 + 1 * k.val = k.val; omega
    · refine (congrFun (V3_ops m ρ c).2.1 _).trans (congrArg (DOWN m c) (ext2 ?_ ?_))
      · show win1_1.index t 0 * 2048 + 1 * q.val = win1_3.index t 1 * 2048 + 1 * q.val; omega
      · show win1_1.index t 1 * 1024 + 1 * k.val = k.val; omega
    · refine (congrFun (V3_ops m ρ c).2.2 _).trans (congrArg (rArr m c) (ext2 ?_ ?_))
      · show win1_2.index t 0 * 1024 + 1 * p.val = win1_3.index t 0 * 1024 + 1 * p.val; omega
      · show win1_2.index t 1 * 2048 + 1 * q.val = win1_3.index t 1 * 2048 + 1 * q.val; omega)
  fun i => by
    have h0 : (i 0 : Nat) < 8192 := (i 0).isLt
    have h1 : (i 1 : Nat) < 4096 := (i 1).isLt
    let t : Fin cfg1.N := ⟨(i 0 : Nat) / 1024 * 2 + (i 1 : Nat) / 2048, by rw [show cfg1.N = 16 from N_1]; omega⟩
    obtain ⟨-, -, -, h⟩ := idx1 t
    have ht : t.val = (i 0 : Nat) / 1024 * 2 + (i 1 : Nat) / 2048 := rfl
    refine ⟨t, (by decide +kernel : ∀ t : Fin grid1.N, win1_3.flush t = true) t, ?_⟩
    show i ∈ ((View.whole main_v5).slice (win1_3.rect t)).set
    rw [View.set_slice_whole, Rect.mem_set_unit]
    intro a
    match a with
    | ⟨0, _⟩ => show win1_3.index t 0 * 1024 ≤ (i 0 : Nat) ∧ (i 0 : Nat) < win1_3.index t 0 * 1024 + 1024; omega
    | ⟨1, _⟩ => show win1_3.index t 1 * 2048 ≤ (i 1 : Nat) ∧ (i 1 : Nat) < win1_3.index t 1 * 2048 + 2048; omega

/-! ## The run -/

set_option backward.isDefEq.respectTransparency.types false in
/-- Every buffer no region owns ends as the chain of host lines and regions leaves it. -/
theorem run_chain : θ_run defs (onTc (τ := τ) (main (F := Ideal))) ⟨m, fun _ => 0, ρ⟩ (fun r => ∀ c : Dev nD, ∀ b ∈ Pipeline.ucRefs τ sig,
    r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c _ => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show ownU (initOf (Pipeline.cells cfgs cellOf_inj) (Pipeline.launchToks cfgs cellOf_inj))
          ⊢ BI.own (emb₁ (initOf (Pipeline.cells cfgs cellOf_inj) (Pipeline.launchToks cfgs cellOf_inj))) from .rfl)
        iexact H
      · rw [show (bigSep Finset.univ fun _ : Dev nD => (iprop(emp) : sProp (MT nD τ sig Unit (Elt Ideal) ℕ (UR sig nD τ) ℕ))) = BI.emp
          from BI.bigSep_emp_const _]
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbuf, -, Howe, -, Hprng, -⟩, -⟩
      imodintro
      isplitl [Hbuf]
      · iexact Hbuf
      · isplitl [Hprng]
        · iexists _; iexact Hprng
        · iexists ∅; iexact Howe)
    (QY := fun c s => ∀ b ∈ Pipeline.ucRefs τ sig, s.mem ((c : Thread nD τ).1, b) = W4 m ρ c b)
    (hfin := fun c s => by
      iintro ⟨⟨Hbuf, -⟩, Hst⟩
      unfold StableHlo.held
      imodintro
      iapply (pointsTo_read_all (Pipeline.ucRefs τ sig) (fun b => ((c : Thread nD τ).1, b)) (W4 m ρ c) s)
      isplitl [Hbuf]
      · iexact Hbuf
      · iexact Hst)
    (hQ := fun _ h _ => h)

/-- The two results, and the arguments as they were. -/
theorem run : θ_run defs (onTc (τ := τ) (main (F := Ideal))) ⟨m, fun _ => 0, ρ⟩ (fun r => ∀ c : Dev nD,
    r.2.mem ((c.tc : Thread nD τ).loc main_v2_1) = aArr m c
      ∧ r.2.mem ((c.tc : Thread nD τ).loc main_v5) = dArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono ?_ (θ_run_and (unchanged m ρ) (run_chain m ρ))
  refine fun r h c => ⟨?_, ?_, h.1 c⟩
  · refine (h.2 c _ (mem_uc main_v2_1 (by decide))).trans ?_
    refine (W4_of_ne m ρ c main_v2_1 (by decide)).trans ((W3_of m ρ c main_v2_1 (by decide)).trans ?_)
    exact (hF0 m ρ c 3).symm.trans (final_a m ρ c)
  · refine (h.2 c _ (mem_uc main_v5 (by decide))).trans ?_
    exact (hF1 m ρ c 3).symm.trans (final_d m ρ c)

end Cert.ActPf

end
-- ==== Proof.ActClaims.lean ====
/- The squared ReLU's claims: the square and the gradient of the up projection are the reference's. -/
module

public import proofs.«01_k».proof.Proof.ActValue
public import proofs.«01_k».proof.Proof.NormClaims
public import proofs.«01_k».proof.Proof.Gen.Act.Frame
public import proofs.«01_k».proof.Proof.Gen.ActRefIdeal.Read

@[expose] public section

set_option maxRecDepth 16384

noncomputable section

namespace Cert.ActPf

open Idealize.ShloMosaic Idealize.ShloMosaic.TcCoe Idealize.SL.Sem
open Cert.Norm2Pf (ext2)

section
open Cert.ActRefIdeal Cert.ActRefIdeal.Gen Cert.ActRefIdeal.Read
variable (x0 : S8192x1024.Idx → EReal) (x1 : S1024x4096.Idx → EReal) (x2 : S4096x1024.Idx → EReal) (x3 : S8192x1024.Idx → EReal)

theorem ref_a (p : Fin 8192) (q : Fin 4096) : val_main_v15 (F := Ideal) x0 x1 (ix2 p q)
    = max (∑ k : Fin 1024, x0 (ix2 p k) * x1 (ix2 k q)) 0 * max (∑ k : Fin 1024, x0 (ix2 p k) * x1 (ix2 k q)) 0 := by
  unfold val_main_v15 val_main_v14 val_main_v13 val_main_v0 val_main_call1_v0 val_main_call1_cst
  pointwise
  done

/-- Where the up projection is not positive the doubled ReLU vanishes, so the mask changes nothing. -/
theorem ref_d (p : Fin 8192) (q : Fin 4096) : val_main_v16 (F := Ideal) x0 x1 x2 x3 (ix2 p q)
    = (∑ k : Fin 1024, x3 (ix2 p k) * x2 (ix2 q k))
      * (Ideal.ofBits .f32 0x40000000#32 * max (∑ k : Fin 1024, x0 (ix2 p k) * x1 (ix2 k q)) 0) := by
  unfold val_main_v16 val_main_v12 val_main_v10 val_main_v9 val_main_v7 val_main_v6 val_main_v3 val_main_v2 val_main_v1 val_main_v0 val_main_v11
    val_main_cst val_main_cst_1 val_main_cst_2 val_main_call0_v0 val_main_call0_cst
  pointwise
  split_ifs with h
  · rfl
  · rw [max_eq_right (not_lt.mp h), mul_zero, mul_zero]

end

theorem frame : Cert.quiescent_Act := fun m ρ _ => Cert.Act.Gen.frame m ρ

theorem frame_ideal : Cert.quiescent_ActIdeal := fun m ρ _ => Cert.ActIdeal.Gen.frame m ρ

theorem frame_ref : Cert.quiescent_ActRefIdeal := fun m ρ _ =>
  (θ_run Cert.ActRefIdeal.defs _ _).mono (fun r h => ⟨fun c => (h c).2.2, sem_eq_zero_of_no_sems (by decide) r.2⟩)
    (Cert.ActRefIdeal.Value.run (F := Ideal) m ρ)

theorem value : Cert.algebraic_ActIdeal_ActRefIdeal := by
  intro m ρ m' ρ' _ hag
  refine ⟨fun c => aArr m c, fun c => dArr m c, run m ρ,
    (θ_run _ _ _).mono (fun _ h c => ⟨(h c).1.trans ?_, (h c).2.1.trans ?_, (h c).2.2⟩) (Cert.ActRefIdeal.Value.run m' ρ')⟩
  · refine (Cert.ActRefIdeal.Read.val_main_v15_eq ..).trans ?_
    rw [(hag c).1, (hag c).2.1]
    funext i
    rw [eq_ix2 i]
    exact ref_a _ _ _ _
  · refine (Cert.ActRefIdeal.Read.val_main_v16_eq ..).trans ?_
    rw [(hag c).1, (hag c).2.1, (hag c).2.2.1, (hag c).2.2.2]
    funext i
    rw [eq_ix2 i]
    exact ref_d _ _ _ _ _ _

end Cert.ActPf

end
-- ==== Proof.Norm2Claims.lean ====
/- The claims about the gradient of two norms of one input. -/
module

public import proofs.«01_k».proof.Proof.NormClaims
public import proofs.«01_k».proof.Proof.Norm2Value
public import proofs.«01_k».proof.Proof.Norm2Ref
public import proofs.«01_k».proof.Proof.Gen.Norm2.Frame
public import proofs.«01_k».proof.Proof.Gen.Pre_norm2_finite

@[expose] public section

set_option maxRecDepth 16384

noncomputable section

namespace Cert.Norm2Pf

open Idealize.ShloMosaic Idealize.SL.Sem

theorem frame : Cert.quiescent_Norm2 := fun m ρ _ => Cert.Norm2.Gen.frame m ρ

theorem frame_ideal : Cert.quiescent_Norm2Ideal := fun m ρ _ => Cert.Norm2Ideal.Gen.frame m ρ

theorem frame_ref : Cert.quiescent_Norm2RefIdeal := fun m ρ _ =>
  (θ_run Cert.Norm2RefIdeal.defs _ _).mono (fun r h => ⟨fun c => (h c).2.2.2.2, sem_eq_zero_of_no_sems (by decide) r.2⟩)
    (Cert.Norm2RefIdeal.Value.run (F := Ideal) m ρ)

theorem frame_ideal_pre : Cert.quiescent_Norm2Ideal_pre_norm2_finite := fun m ρ _ => Cert.Norm2Ideal.Gen.frame m ρ

theorem frame_ref_pre : Cert.quiescent_Norm2RefIdeal_pre_norm2_finite := fun m ρ _ => frame_ref m ρ trivial

theorem value : Cert.algebraic_Norm2Ideal_Norm2RefIdeal_pre_norm2_finite := by
  intro m ρ m' ρ' hpre hag
  have hx := fun c => NormClaims.finite (X m c) _ (fun _ => rfl) (hpre c).1
  have hg1 := fun c => NormClaims.finite (G1 m c) _ (fun _ => rfl) (hpre c).2.1
  have hg2 := fun c => NormClaims.finite (G2 m c) _ (fun _ => rfl) (hpre c).2.2.1
  have hct1 := fun c => NormClaims.finite (CT1 m c) _ (fun _ => rfl) (hpre c).2.2.2.1
  have hct2 := fun c => NormClaims.finite (CT2 m c) _ (fun _ => rfl) (hpre c).2.2.2.2.1
  refine ⟨fun c => dxArr m c, fun c => dxArr m c, fun c => dgArr (X m c) (CT1 m c), fun c => dgArr (X m c) (CT2 m c),
    (θ_run _ _ _).mono (fun _ h c => ⟨(h c).1.trans (final_dx m c), (h c).2.1.trans (final_lo m c),
      (h c).2.2.1.trans (final_dg1 m c), (h c).2.2.2.1.trans (final_dg2 m c), (h c).2.2.2.2⟩) (Cert.Norm2Ideal.Value.run_blocks m ρ),
    (θ_run _ _ _).mono (fun _ h c => ⟨(h c).1.trans ?_, (h c).2.1.trans ?_, (h c).2.2.1.trans ?_, (h c).2.2.2.1.trans ?_, (h c).2.2.2.2⟩)
      (Cert.Norm2RefIdeal.Value.run m' ρ')⟩
  · refine (Cert.Norm2RefIdeal.Read.val_main_v73_eq ..).trans ?_
    rw [(hag c).1, (hag c).2.1, (hag c).2.2.1, (hag c).2.2.2.1, (hag c).2.2.2.2.1, (hag c).2.2.2.2.2]
    funext i
    rw [eq_ix2 i]
    exact ref_dx _ _ _ _ _ _ (hx c) (hg1 c) (hg2 c) (hct1 c) (hct2 c) _ _
  · refine (Cert.Norm2RefIdeal.Read.val_main_v75_eq ..).trans ?_
    rw [ref_lo, (hag c).1, (hag c).2.1, (hag c).2.2.1, (hag c).2.2.2.1, (hag c).2.2.2.2.1, (hag c).2.2.2.2.2]
    funext i
    rw [eq_ix2 i]
    exact ref_dx _ _ _ _ _ _ (hx c) (hg1 c) (hg2 c) (hct1 c) (hct2 c) _ _
  · refine (Cert.Norm2RefIdeal.Read.val_main_v76_eq ..).trans ?_
    rw [ref_dg1, (hag c).1, (hag c).2.2.2.1]
    funext i
    obtain ⟨q, rfl⟩ : ∃ q : Fin 1024, i = ix2 0 q := ⟨i 1, (eq_ix2 i).trans (by congr 1; exact Subsingleton.elim (α := Fin 1) _ _)⟩
    exact NormBlock.ref_dg _ _ _
  · refine (Cert.Norm2RefIdeal.Read.val_main_v77_eq ..).trans ?_
    rw [ref_dg2, (hag c).1, (hag c).2.2.2.2.1]
    funext i
    obtain ⟨q, rfl⟩ : ∃ q : Fin 1024, i = ix2 0 q := ⟨i 1, (eq_ix2 i).trans (by congr 1; exact Subsingleton.elim (α := Fin 1) _ _)⟩
    exact NormBlock.ref_dg _ _ _

end Cert.Norm2Pf

end
-- ==== Proof.LatentValue.lean ====
/- The gradient of the latent's norm: the three result arrays as functions of the arguments. -/
module

public import proofs.«01_k».proof.Proof.Norm2Value
public import proofs.«01_k».proof.Proof.Gen.LatentIdeal.Value

@[expose] public section

set_option maxRecDepth 16384

noncomputable section

namespace Cert.LatentPf

open Cert.LatentIdeal Cert.LatentIdeal.Gen Idealize.ShloMosaic Idealize.ShloMosaic.TcCoe Idealize.SL.Sem
open Cert.NormBlock (hz)
open Cert.Norm2Pf (ext2)

/-- The reciprocal root of a row's mean square over 256 columns, from the row's sum of squares. -/
def rstd (s : EReal) : EReal := Ideal.rsqrt (Ideal.div s (Ideal.ofBits .f32 0x43800000#32) + Ideal.ofBits .f32 0x358637BD#32)

/-- One entry of the input gradient, from its row `x`, the gain and the row of the cotangent. -/
def dxRow (x g ct : Fin 256 → EReal) (j : Fin 256) : EReal :=
  rstd (∑ k, x k * x k) * (ct j * g j - x j * rstd (∑ k, x k * x k)
    * Ideal.div (∑ k, ct k * g k * (x k * rstd (∑ k, x k * x k))) (Ideal.ofBits .f32 0x43800000#32))

/-! ## The payloads at an index -/

section
variable (x0 x2 : Vec Ideal S512x256 .f32) (x1 y : Vec Ideal S1x256 .f32)

theorem pay_dx (p : Fin 512) (q : Fin 256) : k0_pay5 x0 x2 x1 (ix2 p q)
    = dxRow (fun k => x0 (ix2 p k)) (fun k => x1 (ix2 0 k)) (fun k => x2 (ix2 p k)) q := by
  unfold k0_pay5 k0_pay4 k0_pay3
  pointwise
  rfl

theorem pay_zero (q : Fin 256) : k0_pay2 (F := Ideal) (ix2 0 q) = 0 := by
  unfold k0_pay2
  pointwise
  try simp

theorem pay_dg (q : Fin 256) : k0_pay6 x0 x2 y (ix2 0 q)
    = y (ix2 0 q) + ∑ p, x2 (ix2 p q) * (x0 (ix2 p q) * rstd (∑ k, x0 (ix2 p k) * x0 (ix2 p k))) := by
  unfold k0_pay6 k0_pay4 k0_pay3
  pointwise
  rfl

end

variable (m : (ℓ : Loc nD τ sig) → Buf (Elt Ideal) ℓ) (ρ : Dev nD → PrngReg)

/-! ## What a grid point leaves -/

theorem outs_dx (c : Dev nD) (t : Fin cfg0.N) : (outsAt0 m c t.val t.isLt).1 = k0_pay5 (X0_0 m c t) (iblk m c 2 t) (iblk m c 1 t) := by
  by_cases h0 : t.val % 16 = 0
  · rw [outsAt0_A m c t h0]; dsimp only; unfold out0_A_3
    rw [View.read_writes_eq_canon _ _ _ (fun y => cover0_A_3 (y := y) ..)]
    unfold kernelRun0_A; dsimp only; sl_unfold_words; rw [View.canon_unit_zero (S := S512x256) hz]
    simp only [View.readAt_eq_ld, (hs0_0 t).read_unread, (hs0_1 t).read_unread, (hs0_2 t).read_unread,
      View.ld_unit_zero (S := S512x256) hz, View.ld_unit_zero (S := S1x256) hz]
  · rw [outsAt0_B m c t h0]; dsimp only; unfold out0_B_3
    rw [View.read_writes_eq_canon _ _ _ (fun y => cover0_B_3 (y := y) ..)]
    unfold kernelRun0_B; dsimp only; sl_unfold_words; rw [View.canon_unit_zero (S := S512x256) hz]
    simp only [View.readAt_eq_ld, (hs0_0 t).read_unread, (hs0_1 t).read_unread, (hs0_2 t).read_unread,
      View.ld_unit_zero (S := S512x256) hz, View.ld_unit_zero (S := S1x256) hz]

theorem outs_lo (c : Dev nD) (t : Fin cfg0.N) : (outsAt0 m c t.val t.isLt).2.1 = k0_pay5 (X0_0 m c t) (iblk m c 2 t) (iblk m c 1 t) := by
  by_cases h0 : t.val % 16 = 0
  · rw [outsAt0_A m c t h0]; dsimp only; unfold out0_A_4
    rw [View.read_writes_eq_canon _ _ _ (fun y => cover0_A_4 (y := y) ..)]
    unfold kernelRun0_A; dsimp only; sl_unfold_words; rw [View.canon_unit_zero (S := S512x256) hz]
    simp only [View.readAt_eq_ld, (hs0_0 t).read_unread, (hs0_1 t).read_unread, (hs0_2 t).read_unread,
      View.ld_unit_zero (S := S512x256) hz, View.ld_unit_zero (S := S1x256) hz]
    rfl
  · rw [outsAt0_B m c t h0]; dsimp only; unfold out0_B_4
    rw [View.read_writes_eq_canon _ _ _ (fun y => cover0_B_4 (y := y) ..)]
    unfold kernelRun0_B; dsimp only; sl_unfold_words; rw [View.canon_unit_zero (S := S512x256) hz]
    simp only [View.readAt_eq_ld, (hs0_0 t).read_unread, (hs0_1 t).read_unread, (hs0_2 t).read_unread,
      View.ld_unit_zero (S := S512x256) hz, View.ld_unit_zero (S := S1x256) hz]
    rfl

theorem outs_dg_A (c : Dev nD) (t : Fin cfg0.N) (h0 : t.val % 16 = 0) :
    (outsAt0 m c t.val t.isLt).2.2 = k0_pay6 (X0_0 m c t) (iblk m c 2 t) (k0_pay2 (F := Ideal)) := by
  rw [outsAt0_A m c t h0]; dsimp only; unfold out0_A_5
  rw [View.read_writes_eq_canon _ _ _ (fun y => cover0_A_5 (y := y) ..)]
  unfold kernelRun0_A; dsimp only; sl_unfold_words
  simp only [View.canon_cons_unit_zero (S := S1x256) hz, View.readCov_unit_zero (S := S1x256) _ hz,
    View.readAt_eq_ld, (hs0_0 t).read_unread, (hs0_1 t).read_unread, (hs0_2 t).read_unread,
    View.ld_unit_zero (S := S512x256) hz, View.ld_unit_zero (S := S1x256) hz]

theorem outs_dg_B (c : Dev nD) (n : ℕ) (h : n + 1 < cfg0.N) (h0 : ¬(n + 1) % 16 = 0) :
    (outsAt0 m c (n + 1) h).2.2
      = k0_pay6 (X0_0 m c ⟨n + 1, h⟩) (iblk m c 2 ⟨n + 1, h⟩) (outsAt0 m c n (Nat.lt_of_succ_lt h)).2.2 := by
  have e := outsAt0_B m c ⟨n + 1, h⟩ h0
  dsimp only at e
  rw [e]; dsimp only; unfold out0_B_5
  rw [View.read_writes_eq_canon _ _ _ (fun y => cover0_B_5 (y := y) ..)]
  unfold kernelRun0_B; dsimp only; sl_unfold_words
  simp only [View.canon_unit_zero (S := S1x256) hz, View.readAt_eq_ld, (hs0_0 _).read_unread, (hs0_1 _).read_unread,
    (hs0_2 _).read_unread, (hs0_5 _).read_unread, View.ld_unit_zero (S := S512x256) hz, View.ld_unit_zero (S := S1x256) hz]
  rfl

/-! ## The blocks and the arrays -/

abbrev X (c : Dev nD) : S8192x320.Idx → EReal := m ((c : Thread nD τ).loc main_arg0)
abbrev G (c : Dev nD) : S256.Idx → EReal := m ((c : Thread nD τ).loc main_arg1)
abbrev CT (c : Dev nD) : S8192x256.Idx → EReal := m ((c : Thread nD τ).loc main_arg2)

/-- Column `q` among the 320. -/
def wide (q : Fin 256) : Fin 320 := ⟨q.val, by have := q.isLt; omega⟩

theorem V_gain (c : Dev nD) (k : Fin 256) : V m c main_v0 (ix2 0 k) = G m c (ix1 k) := by
  have h : V m c main_v0 = broadcastInDim S1x256 ![1] bcast_S256_S1x256_1 (G m c) := by
    show StableHlo.after hostOps0 (fun b => m (c, b)) main_v0 = _
    after_results_simp <;> rfl
  rw [h]
  pointwise

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t 0 = 0 ∧ win0_5.index t 1 = 0 := by
  show ∀ t : Fin grid0.N, _
  decide +kernel

/-- Row `p` of block `t`. -/
def row (t : Fin cfg0.N) (p : Fin 512) : Fin 8192 := ⟨512 * t.val + p.val, by have : cfg0.N = 16 := N_0; have := t.isLt; have := p.isLt; omega⟩

theorem blk_x (c : Dev nD) (t : Fin cfg0.N) (p : Fin 512) (q : Fin 256) :
    (X0_0 m c t : Vec Ideal S512x256 .f32) (ix2 p q) = X m c (ix2 (row t p) (wide q)) := by
  obtain ⟨h, -⟩ := idx t
  unfold X0_0 Pipeline.Window.fill
  refine (dif_pos (moved0_0 t (ix2 p q : S512x256.Idx))).trans ?_
  refine (congrFun (V_main_arg0 m c) _).trans (congrArg (X m c) (ext2 ?_ ?_))
  · show win0_0.index t 0 * 512 + 1 * p.val = 512 * t.val + p.val; omega
  · show win0_0.index t 1 * 256 + 1 * q.val = q.val; omega

theorem blk_g (c : Dev nD) (t : Fin cfg0.N) (q : Fin 256) :
    (iblk m c 1 t : Vec Ideal S1x256 .f32) (ix2 0 q) = G m c (ix1 q) := by
  obtain ⟨-, h, -⟩ := idx t
  refine Eq.trans (congrArg (V m c main_v0) (ext2 ?_ ?_)) (V_gain m c q)
  · show win0_1.index t 0 * 1 + 1 * 0 = 0; omega
  · show win0_1.index t 1 * 256 + 1 * q.val = q.val; omega

theorem blk_ct (c : Dev nD) (t : Fin cfg0.N) (p : Fin 512) (q : Fin 256) :
    (iblk m c 2 t : Vec Ideal S512x256 .f32) (ix2 p q) = CT m c (ix2 (row t p) q) := by
  obtain ⟨-, -, h, -⟩ := idx t
  refine (congrFun (V_main_arg2 m c) _).trans (congrArg (CT m c) (ext2 ?_ ?_))
  · show win0_2.index t 0 * 512 + 1 * p.val = 512 * t.val + p.val; omega
  · show win0_2.index t 1 * 256 + 1 * q.val = q.val; omega

/-- The gradient of the latent's columns. -/
def dxArr (c : Dev nD) : S8192x256.Idx → EReal := fun i =>
  dxRow (fun k => X m c (ix2 (i 0) (wide k))) (fun k => G m c (ix1 k)) (fun k => CT m c (ix2 (i 0) k)) (i 1)

/-- Row `r`'s part of the gain's gradient. -/
def dgTerm (c : Dev nD) (q : Fin 256) (r : Fin 8192) : EReal :=
  CT m c (ix2 r q) * (X m c (ix2 r (wide q)) * rstd (∑ k, X m c (ix2 r (wide k)) * X m c (ix2 r (wide k))))

/-- The gain's gradient. -/
def dgArr (c : Dev nD) : S1x256.Idx → EReal := fun i => ∑ r, dgTerm m c (i 1) r

theorem block_dx (c : Dev nD) (t : Fin cfg0.N) (p : Fin 512) (q : Fin 256) :
    k0_pay5 (X0_0 m c t) (iblk m c 2 t) (iblk m c 1 t) (ix2 p q) = dxArr m c (ix2 (row t p) q) := by
  refine (pay_dx _ _ _ p q).trans ?_
  simp only [blk_x, blk_ct, blk_g]
  rfl

theorem final_dx (c : Dev nD) : (dats m 0 c).arrAt 3 cfg0.N = dxArr m c :=
  (dats m 0 c).arrAt_eq_of_cover 3 (dxArr m c) (fun t _ => by
    obtain ⟨-, -, -, h, -⟩ := idx t
    rw [Value.flushed3, outs_dx]
    funext j
    obtain ⟨p, q, rfl⟩ : ∃ (p : Fin 512) (q : Fin 256), j = ix2 p q := ⟨j 0, j 1, eq_ix2 j⟩
    refine (block_dx m c t p q).trans (congrArg (dxArr m c) (ext2 ?_ ?_))
    · show 512 * t.val + p.val = win0_3.index t 0 * 512 + 1 * p.val; omega
    · show q.val = win0_3.index t 1 * 256 + 1 * q.val; omega)
  fun i => by
    have h0 : (i 0 : Nat) < 8192 := (i 0).isLt
    have h1 : (i 1 : Nat) < 256 := (i 1).isLt
    let t : Fin cfg0.N := ⟨(i 0 : Nat) / 512, by rw [show cfg0.N = 16 from N_0]; omega⟩
    obtain ⟨-, -, -, h, -⟩ := idx t
    have ht : t.val = (i 0 : Nat) / 512 := rfl
    refine ⟨t, flush0_3 t, ?_⟩
    show i ∈ ((View.whole main_v1_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; omega
    | ⟨1, _⟩ => show win0_3.index t 1 * 256 ≤ (i 1 : Nat) ∧ (i 1 : Nat) < win0_3.index t 1 * 256 + 256; omega

theorem final_lo (c : Dev nD) : (dats m 0 c).arrAt 4 cfg0.N = dxArr m c :=
  (dats m 0 c).arrAt_eq_of_cover 4 (dxArr m c) (fun t _ => by
    obtain ⟨-, -, -, -, h, -⟩ := idx t
    rw [Value.flushed4, outs_lo]
    funext j
    obtain ⟨p, q, rfl⟩ : ∃ (p : Fin 512) (q : Fin 256), j = ix2 p q := ⟨j 0, j 1, eq_ix2 j⟩
    refine (block_dx m c t p q).trans (congrArg (dxArr m c) (ext2 ?_ ?_))
    · show 512 * t.val + p.val = win0_4.index t 0 * 512 + 1 * p.val; omega
    · show q.val = win0_4.index t 1 * 256 + 1 * q.val; omega)
  fun i => by
    have h0 : (i 0 : Nat) < 8192 := (i 0).isLt
    have h1 : (i 1 : Nat) < 256 := (i 1).isLt
    let t : Fin cfg0.N := ⟨(i 0 : Nat) / 512, by rw [show cfg0.N = 16 from N_0]; omega⟩
    obtain ⟨-, -, -, -, h, -⟩ := idx t
    have ht : t.val = (i 0 : Nat) / 512 := rfl
    refine ⟨t, flush0_4 t, ?_⟩
    show i ∈ ((View.whole main_v1_1).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; omega
    | ⟨1, _⟩ => show win0_4.index t 1 * 256 ≤ (i 1 : Nat) ∧ (i 1 : Nat) < win0_4.index t 1 * 256 + 256; omega

/-- The rows' parts by number. -/
def dgNat (c : Dev nD) (q : Fin 256) (r : ℕ) : EReal := if h : r < 8192 then dgTerm m c q ⟨r, h⟩ else 0

/-- A point adds its 512 rows' parts. -/
theorem block_dg (c : Dev nD) (t : Fin cfg0.N) (y : Vec Ideal S1x256 .f32) (q : Fin 256) :
    k0_pay6 (X0_0 m c t) (iblk m c 2 t) y (ix2 0 q) = y (ix2 0 q) + ∑ p ∈ Finset.range 512, dgNat m c q (512 * t.val + p) := by
  rw [pay_dg, Finset.sum_range]
  congr 1
  refine Finset.sum_congr rfl fun p _ => ?_
  rw [show dgNat m c q (512 * t.val + p.val) = dgTerm m c q (row t p) from dif_pos (row t p).isLt]
  simp only [blk_x, blk_ct]
  rfl

/-- What the gain's window holds after point `n`: the rows so far. -/
theorem outs_dg (c : Dev nD) (q : Fin 256) : ∀ (n : ℕ) (h : n < cfg0.N),
    (outsAt0 m c n h).2.2 (ix2 0 q) = ∑ r ∈ Finset.range (512 * (n + 1)), dgNat m c q r
  | 0, h => by
    have e := outs_dg_A m c ⟨0, h⟩ rfl
    dsimp only at e
    rw [e, block_dg m c ⟨0, h⟩, pay_zero, zero_add]
    simp
  | n + 1, h => by
    have hN : cfg0.N = 16 := N_0
    rw [outs_dg_B m c n h (by omega), block_dg, show 512 * (n + 1 + 1) = 512 * (n + 1) + 512 by ring, Finset.sum_range_add]
    exact congrArg (· + _) (outs_dg c q n (Nat.lt_of_succ_lt h))

theorem final_dg (c : Dev nD) : (dats m 0 c).arrAt 5 cfg0.N = dgArr m c :=
  (dats m 0 c).arrAt_eq_of_cover 5 (dgArr m c) (fun t hf => by
    have hN : cfg0.N = 16 := N_0
    have h15 : t.val = 15 := by have := (flush0_5 t).mp hf; have := t.isLt; omega
    obtain ⟨-, -, -, -, -, h⟩ := idx t
    rw [Value.flushed5]
    funext j
    obtain ⟨q, rfl⟩ : ∃ q : Fin 256, j = ix2 0 q := ⟨j 1, (eq_ix2 j).trans (by congr 1; exact Subsingleton.elim _ _)⟩
    refine ((outs_dg m c q t.val t.isLt).trans ?_).trans (congrArg (dgArr m c) (ext2 (i := ix2 0 q) ?_ ?_))
    · rw [h15, Finset.sum_range]
      exact Finset.sum_congr rfl fun r _ => dif_pos r.isLt
    · show 0 = win0_5.index t 0 * 1 + 1 * 0; omega
    · show q.val = win0_5.index t 1 * 256 + 1 * q.val; omega)
  fun i => by
    have h0 : (i 0 : Nat) < 1 := (i 0).isLt
    have h1 : (i 1 : Nat) < 256 := (i 1).isLt
    let t : Fin cfg0.N := ⟨15, by rw [show cfg0.N = 16 from N_0]; omega⟩
    obtain ⟨-, -, -, -, -, h⟩ := idx t
    refine ⟨t, (flush0_5 t).mpr rfl, ?_⟩
    show i ∈ ((View.whole main_v1_2).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 256 ≤ (i 1 : Nat) ∧ (i 1 : Nat) < win0_5.index t 1 * 256 + 256; omega

end Cert.LatentPf

end
-- ==== Proof.LatentRef.lean ====
/- The derivative of the latent's norm, read at an index, is what the kernel leaves. -/
module

public import proofs.«01_k».proof.Proof.LatentValue
public import proofs.«01_k».proof.Proof.Reals
public import proofs.«01_k».proof.Proof.Gen.LatentRefIdeal.Read

@[expose] public section

set_option maxRecDepth 16384

noncomputable section

namespace Cert.LatentPf

open Cert.LatentRefIdeal Cert.LatentRefIdeal.Read Idealize.ShloMosaic

theorem ofBits_256 : Ideal.ofBits .f32 0x43800000#32 = ((256 : ℝ) : EReal) := by
  simp [Ideal.ofBits, Ideal.ieee, -EReal.coe_mul]; norm_num

/-- The derivative at the latent's columns, before it is widened to all 320. -/
theorem ref_narrow (x : S8192x320.Idx → EReal) (g : S256.Idx → EReal) (ct : S8192x256.Idx → EReal)
    (hx : ∀ i, ∃ a : ℝ, x i = a) (hg : ∀ i, ∃ a : ℝ, g i = a) (hct : ∀ i, ∃ a : ℝ, ct i = a) (p : Fin 8192) (q : Fin 256) :
    val_main_v36 (F := Ideal) x g ct (ix2 p q)
      = dxRow (fun k => x (ix2 p (wide k))) (fun k => g (ix1 k)) (fun k => ct (ix2 p k)) q := by
  choose xr hxr using hx
  choose gr hgr using hg
  choose cr hcr using hct
  obtain ⟨e, he, hE⟩ := Reals.ofBits_eps
  have hs : ∀ k : Fin 256, val_main_v0 (F := Ideal) x (ix2 p k) = (xr (ix2 p (wide k)) : EReal) := fun k => by
    rw [← hxr]
    unfold val_main_v0
    pointwise
    rfl
  unfold val_main_v36 val_main_v35 val_main_v34 val_main_v33 val_main_v32 val_main_v31 val_main_cst_7 val_main_v30
    val_main_v29 val_main_cst_6 val_main_v28 val_main_v27 val_main_v26 val_main_v25 val_main_v24 val_main_cst_5 val_main_v23
    val_main_v21 val_main_v20 val_main_v14 val_main_v11 val_main_v10 val_main_cst_2 val_main_v9 val_main_v8 val_main_v7
    val_main_v6 val_main_cst_1 val_main_v5 val_main_v4 val_main_cst_0 val_main_v3 val_main_v2 val_main_cst val_main_v1
  generalize val_main_v0 (F := Ideal) x = y at hs ⊢
  pointwise
  unfold dxRow rstd
  have h := Reals.norm_row (fun k => xr (ix2 p (wide k))) (fun k => cr (ix2 p k) * gr (ix1 k)) (N := 256) (by norm_num) he q
  simp only [hs, hxr, hgr, hcr, hE, ofBits_256, Reals.ofBits_neg_half, Fintype.sum_unique]
  simp only [EReal.coe_mul] at h
  exact h.symm

/-- The derivative, widened to all the columns and cut again, is itself. -/
theorem ref_dx (x : S8192x320.Idx → EReal) (g : S256.Idx → EReal) (ct : S8192x256.Idx → EReal)
    (hx : ∀ i, ∃ a : ℝ, x i = a) (hg : ∀ i, ∃ a : ℝ, g i = a) (hct : ∀ i, ∃ a : ℝ, ct i = a) (p : Fin 8192) (q : Fin 256) :
    val_main_v38 (F := Ideal) x g ct (ix2 p q)
      = dxRow (fun k => x (ix2 p (wide k))) (fun k => g (ix1 k)) (fun k => ct (ix2 p k)) q := by
  rw [← ref_narrow x g ct hx hg hct]
  unfold val_main_v38 val_main_v37
  generalize val_main_v36 (F := Ideal) x g ct = y
  pointwise
  done

theorem ref_lo (x : S8192x320.Idx → EReal) (g : S256.Idx → EReal) (ct : S8192x256.Idx → EReal) :
    val_main_v40 (F := Ideal) x g ct = val_main_v38 (F := Ideal) x g ct := rfl

/-- The derivative's gain gradient is the kernel's. -/
theorem ref_dg (x : S8192x320.Idx → EReal) (ct : S8192x256.Idx → EReal) (q : Fin 256) : val_main_v41 (F := Ideal) x ct (ix2 0 q)
    = ∑ p, ct (ix2 p q) * (x (ix2 p (wide q)) * rstd (∑ k, x (ix2 p (wide k)) * x (ix2 p (wide k)))) := by
  rw [← val_main_v41_eq]
  pointwise
  rw [Fintype.sum_unique]
  exact Finset.sum_congr rfl fun p _ => mul_comm _ _

end Cert.LatentPf

end
-- ==== Proof.LatentClaims.lean ====
/- The claims about the gradient of the latent's norm. -/
module

public import proofs.«01_k».proof.Proof.NormClaims
public import proofs.«01_k».proof.Proof.LatentRef
public import proofs.«01_k».proof.Proof.Gen.Latent.Frame
public import proofs.«01_k».proof.Proof.Gen.Pre_latent_finite

@[expose] public section

set_option maxRecDepth 16384

noncomputable section

namespace Cert.LatentPf

open Idealize.ShloMosaic Idealize.SL.Sem

theorem frame : Cert.quiescent_Latent := fun m ρ _ => Cert.Latent.Gen.frame m ρ

theorem frame_ideal : Cert.quiescent_LatentIdeal := fun m ρ _ => Cert.LatentIdeal.Gen.frame m ρ

theorem frame_ref : Cert.quiescent_LatentRefIdeal := fun m ρ _ =>
  (θ_run Cert.LatentRefIdeal.defs _ _).mono (fun r h => ⟨fun c => (h c).2.2.2, sem_eq_zero_of_no_sems (by decide) r.2⟩)
    (Cert.LatentRefIdeal.Value.run (F := Ideal) m ρ)

theorem frame_ideal_pre : Cert.quiescent_LatentIdeal_pre_latent_finite := fun m ρ _ => Cert.LatentIdeal.Gen.frame m ρ

theorem frame_ref_pre : Cert.quiescent_LatentRefIdeal_pre_latent_finite := fun m ρ _ => frame_ref m ρ trivial

theorem value : Cert.algebraic_LatentIdeal_LatentRefIdeal_pre_latent_finite := by
  intro m ρ m' ρ' hpre hag
  have hx := fun c => NormClaims.finite (X m c) _ (fun _ => rfl) (hpre c).1
  have hg := fun c => NormClaims.finite (G m c) _ (fun _ => rfl) (hpre c).2.1
  have hct := fun c => NormClaims.finite (CT m c) _ (fun _ => rfl) (hpre c).2.2
  refine ⟨fun c => dxArr m c, fun c => dxArr m c, fun c => dgArr m c,
    (θ_run _ _ _).mono (fun _ h c => ⟨(h c).1.trans (final_dx m c), (h c).2.1.trans (final_lo m c),
      (h c).2.2.1.trans (final_dg m c), (h c).2.2.2⟩) (Cert.LatentIdeal.Value.run_blocks m ρ),
    (θ_run _ _ _).mono (fun _ h c => ⟨(h c).1.trans ?_, (h c).2.1.trans ?_, (h c).2.2.1.trans ?_, (h c).2.2.2⟩)
      (Cert.LatentRefIdeal.Value.run m' ρ')⟩
  · refine (Cert.LatentRefIdeal.Read.val_main_v38_eq ..).trans ?_
    rw [(hag c).1, (hag c).2.1, (hag c).2.2]
    funext i
    rw [eq_ix2 i]
    exact ref_dx _ _ _ (hx c) (hg c) (hct c) _ _
  · refine (Cert.LatentRefIdeal.Read.val_main_v40_eq ..).trans ?_
    rw [ref_lo, (hag c).1, (hag c).2.1, (hag c).2.2]
    funext i
    rw [eq_ix2 i]
    exact ref_dx _ _ _ (hx c) (hg c) (hct c) _ _
  · refine (Cert.LatentRefIdeal.Read.val_main_v41_eq ..).trans ?_
    rw [(hag c).1, (hag c).2.2]
    funext i
    obtain ⟨q, rfl⟩ : ∃ q : Fin 256, i = ix2 0 q := ⟨i 1, (eq_ix2 i).trans (by congr 1; exact Subsingleton.elim (α := Fin 1) _ _)⟩
    exact ref_dg _ _ _

end Cert.LatentPf

end
-- ==== Proof.NormQValue.lean ====
/- The gradient of the norm of the queries' latent: the three result arrays as functions of the arguments. -/
module

public import proofs.«01_k».proof.Proof.Norm2Value
public import proofs.«01_k».proof.Proof.Gen.NormQIdeal.Value

@[expose] public section

set_option maxRecDepth 16384

noncomputable section

namespace Cert.NormQPf

open Cert.NormQIdeal Cert.NormQIdeal.Gen Idealize.ShloMosaic Idealize.ShloMosaic.TcCoe Idealize.SL.Sem
open Cert.NormBlock (hz)
open Cert.Norm2Pf (ext2)

/-- The reciprocal root of a row's mean square over 384 columns, from the row's sum of squares. -/
def rstd (s : EReal) : EReal := Ideal.rsqrt (Ideal.div s (Ideal.ofBits .f32 0x43C00000#32) + Ideal.ofBits .f32 0x358637BD#32)

/-- One entry of the input gradient, from its row `x`, the gain and the row of the cotangent. -/
def dxRow (x g ct : Fin 384 → EReal) (j : Fin 384) : EReal :=
  rstd (∑ k, x k * x k) * (ct j * g j - x j * rstd (∑ k, x k * x k)
    * Ideal.div (∑ k, ct k * g k * (x k * rstd (∑ k, x k * x k))) (Ideal.ofBits .f32 0x43C00000#32))

/-! ## The payloads at an index -/

section
variable (x0 x2 : Vec Ideal S512x384 .f32) (x1 y : Vec Ideal S1x384 .f32)

theorem pay_dx (p : Fin 512) (q : Fin 384) : k0_pay5 x0 x2 x1 (ix2 p q)
    = dxRow (fun k => x0 (ix2 p k)) (fun k => x1 (ix2 0 k)) (fun k => x2 (ix2 p k)) q := by
  unfold k0_pay5 k0_pay4 k0_pay3
  pointwise
  rfl

theorem pay_zero (q : Fin 384) : k0_pay2 (F := Ideal) (ix2 0 q) = 0 := by
  unfold k0_pay2
  pointwise
  try simp

theorem pay_dg (q : Fin 384) : k0_pay6 x0 x2 y (ix2 0 q)
    = y (ix2 0 q) + ∑ p, x2 (ix2 p q) * (x0 (ix2 p q) * rstd (∑ k, x0 (ix2 p k) * x0 (ix2 p k))) := by
  unfold k0_pay6 k0_pay4 k0_pay3
  pointwise
  rfl

end

variable (m : (ℓ : Loc nD τ sig) → Buf (Elt Ideal) ℓ) (ρ : Dev nD → PrngReg)

/-! ## What a grid point leaves -/

theorem outs_dx (c : Dev nD) (t : Fin cfg0.N) : (outsAt0 m c t.val t.isLt).1 = k0_pay5 (iblk m c 0 t) (iblk m c 2 t) (iblk m c 1 t) := by
  by_cases h0 : t.val % 16 = 0
  · rw [outsAt0_A m c t h0]; dsimp only; unfold out0_A_3
    rw [View.read_writes_eq_canon _ _ _ (fun y => cover0_A_3 (y := y) ..)]
    unfold kernelRun0_A; dsimp only; sl_unfold_words; rw [View.canon_unit_zero (S := S512x384) hz]
    simp only [View.readAt_eq_ld, (hs0_0 t).read_unread, (hs0_1 t).read_unread, (hs0_2 t).read_unread,
      View.ld_unit_zero (S := S512x384) hz, View.ld_unit_zero (S := S1x384) hz]
  · rw [outsAt0_B m c t h0]; dsimp only; unfold out0_B_3
    rw [View.read_writes_eq_canon _ _ _ (fun y => cover0_B_3 (y := y) ..)]
    unfold kernelRun0_B; dsimp only; sl_unfold_words; rw [View.canon_unit_zero (S := S512x384) hz]
    simp only [View.readAt_eq_ld, (hs0_0 t).read_unread, (hs0_1 t).read_unread, (hs0_2 t).read_unread,
      View.ld_unit_zero (S := S512x384) hz, View.ld_unit_zero (S := S1x384) hz]

theorem outs_lo (c : Dev nD) (t : Fin cfg0.N) : (outsAt0 m c t.val t.isLt).2.1 = k0_pay5 (iblk m c 0 t) (iblk m c 2 t) (iblk m c 1 t) := by
  by_cases h0 : t.val % 16 = 0
  · rw [outsAt0_A m c t h0]; dsimp only; unfold out0_A_4
    rw [View.read_writes_eq_canon _ _ _ (fun y => cover0_A_4 (y := y) ..)]
    unfold kernelRun0_A; dsimp only; sl_unfold_words; rw [View.canon_unit_zero (S := S512x384) hz]
    simp only [View.readAt_eq_ld, (hs0_0 t).read_unread, (hs0_1 t).read_unread, (hs0_2 t).read_unread,
      View.ld_unit_zero (S := S512x384) hz, View.ld_unit_zero (S := S1x384) hz]
    rfl
  · rw [outsAt0_B m c t h0]; dsimp only; unfold out0_B_4
    rw [View.read_writes_eq_canon _ _ _ (fun y => cover0_B_4 (y := y) ..)]
    unfold kernelRun0_B; dsimp only; sl_unfold_words; rw [View.canon_unit_zero (S := S512x384) hz]
    simp only [View.readAt_eq_ld, (hs0_0 t).read_unread, (hs0_1 t).read_unread, (hs0_2 t).read_unread,
      View.ld_unit_zero (S := S512x384) hz, View.ld_unit_zero (S := S1x384) hz]
    rfl

theorem outs_dg_A (c : Dev nD) (t : Fin cfg0.N) (h0 : t.val % 16 = 0) :
    (outsAt0 m c t.val t.isLt).2.2 = k0_pay6 (iblk m c 0 t) (iblk m c 2 t) (k0_pay2 (F := Ideal)) := by
  rw [outsAt0_A m c t h0]; dsimp only; unfold out0_A_5
  rw [View.read_writes_eq_canon _ _ _ (fun y => cover0_A_5 (y := y) ..)]
  unfold kernelRun0_A; dsimp only; sl_unfold_words
  simp only [View.canon_cons_unit_zero (S := S1x384) hz, View.readCov_unit_zero (S := S1x384) _ hz,
    View.readAt_eq_ld, (hs0_0 t).read_unread, (hs0_1 t).read_unread, (hs0_2 t).read_unread,
    View.ld_unit_zero (S := S512x384) hz, View.ld_unit_zero (S := S1x384) hz]

theorem outs_dg_B (c : Dev nD) (n : ℕ) (h : n + 1 < cfg0.N) (h0 : ¬(n + 1) % 16 = 0) :
    (outsAt0 m c (n + 1) h).2.2
      = k0_pay6 (iblk m c 0 ⟨n + 1, h⟩) (iblk m c 2 ⟨n + 1, h⟩) (outsAt0 m c n (Nat.lt_of_succ_lt h)).2.2 := by
  have e := outsAt0_B m c ⟨n + 1, h⟩ h0
  dsimp only at e
  rw [e]; dsimp only; unfold out0_B_5
  rw [View.read_writes_eq_canon _ _ _ (fun y => cover0_B_5 (y := y) ..)]
  unfold kernelRun0_B; dsimp only; sl_unfold_words
  simp only [View.canon_unit_zero (S := S1x384) hz, View.readAt_eq_ld, (hs0_0 _).read_unread, (hs0_1 _).read_unread,
    (hs0_2 _).read_unread, (hs0_5 _).read_unread, View.ld_unit_zero (S := S512x384) hz, View.ld_unit_zero (S := S1x384) hz]
  rfl

/-! ## The blocks and the arrays -/

abbrev X (c : Dev nD) : S8192x384.Idx → EReal := m ((c : Thread nD τ).loc main_arg0)
abbrev G (c : Dev nD) : S384.Idx → EReal := m ((c : Thread nD τ).loc main_arg1)
abbrev CT (c : Dev nD) : S8192x384.Idx → EReal := m ((c : Thread nD τ).loc main_arg2)

theorem V_gain (c : Dev nD) (k : Fin 384) : V m c main_v0 (ix2 0 k) = G m c (ix1 k) := by
  have h : V m c main_v0 = broadcastInDim S1x384 ![1] bcast_S384_S1x384_1 (G m c) := by
    show StableHlo.after hostOps0 (fun b => m (c, b)) main_v0 = _
    after_results_simp <;> rfl
  rw [h]
  pointwise

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ win0_5.index t 0 = 0 ∧ win0_5.index t 1 = 0 := by
  show ∀ t : Fin grid0.N, _
  decide +kernel

/-- Row `p` of block `t`. -/
def row (t : Fin cfg0.N) (p : Fin 512) : Fin 8192 := ⟨512 * t.val + p.val, by have : cfg0.N = 16 := N_0; have := t.isLt; have := p.isLt; omega⟩

theorem blk_x (c : Dev nD) (t : Fin cfg0.N) (p : Fin 512) (q : Fin 384) :
    (iblk m c 0 t : Vec Ideal S512x384 .f32) (ix2 p q) = X m c (ix2 (row t p) q) := by
  obtain ⟨h, -⟩ := idx t
  refine (congrFun (V_main_arg0 m c) _).trans (congrArg (X m c) (ext2 ?_ ?_))
  · show win0_0.index t 0 * 512 + 1 * p.val = 512 * t.val + p.val; omega
  · show win0_0.index t 1 * 384 + 1 * q.val = q.val; omega

theorem blk_g (c : Dev nD) (t : Fin cfg0.N) (q : Fin 384) :
    (iblk m c 1 t : Vec Ideal S1x384 .f32) (ix2 0 q) = G m c (ix1 q) := by
  obtain ⟨-, h, -⟩ := idx t
  refine Eq.trans (congrArg (V m c main_v0) (ext2 ?_ ?_)) (V_gain m c q)
  · show win0_1.index t 0 * 1 + 1 * 0 = 0; omega
  · show win0_1.index t 1 * 384 + 1 * q.val = q.val; omega

theorem blk_ct (c : Dev nD) (t : Fin cfg0.N) (p : Fin 512) (q : Fin 384) :
    (iblk m c 2 t : Vec Ideal S512x384 .f32) (ix2 p q) = CT m c (ix2 (row t p) q) := by
  obtain ⟨-, -, h, -⟩ := idx t
  refine (congrFun (V_main_arg2 m c) _).trans (congrArg (CT m c) (ext2 ?_ ?_))
  · show win0_2.index t 0 * 512 + 1 * p.val = 512 * t.val + p.val; omega
  · show win0_2.index t 1 * 384 + 1 * q.val = q.val; omega

/-- The input's gradient. -/
def dxArr (c : Dev nD) : S8192x384.Idx → EReal := fun i =>
  dxRow (fun k => X m c (ix2 (i 0) k)) (fun k => G m c (ix1 k)) (fun k => CT m c (ix2 (i 0) k)) (i 1)

/-- Row `r`'s part of the gain's gradient. -/
def dgTerm (c : Dev nD) (q : Fin 384) (r : Fin 8192) : EReal :=
  CT m c (ix2 r q) * (X m c (ix2 r q) * rstd (∑ k, X m c (ix2 r k) * X m c (ix2 r k)))

/-- The gain's gradient. -/
def dgArr (c : Dev nD) : S1x384.Idx → EReal := fun i => ∑ r, dgTerm m c (i 1) r

theorem block_dx (c : Dev nD) (t : Fin cfg0.N) (p : Fin 512) (q : Fin 384) :
    k0_pay5 (iblk m c 0 t) (iblk m c 2 t) (iblk m c 1 t) (ix2 p q) = dxArr m c (ix2 (row t p) q) := by
  refine (pay_dx _ _ _ p q).trans ?_
  simp only [blk_x, blk_ct, blk_g]
  rfl

theorem final_dx (c : Dev nD) : (dats m 0 c).arrAt 3 cfg0.N = dxArr m c :=
  (dats m 0 c).arrAt_eq_of_cover 3 (dxArr m c) (fun t _ => by
    obtain ⟨-, -, -, h, -⟩ := idx t
    rw [Value.flushed3, outs_dx]
    funext j
    obtain ⟨p, q, rfl⟩ : ∃ (p : Fin 512) (q : Fin 384), j = ix2 p q := ⟨j 0, j 1, eq_ix2 j⟩
    refine (block_dx m c t p q).trans (congrArg (dxArr m c) (ext2 ?_ ?_))
    · show 512 * t.val + p.val = win0_3.index t 0 * 512 + 1 * p.val; omega
    · show q.val = win0_3.index t 1 * 384 + 1 * q.val; omega)
  fun i => by
    have h0 : (i 0 : Nat) < 8192 := (i 0).isLt
    have h1 : (i 1 : Nat) < 384 := (i 1).isLt
    let t : Fin cfg0.N := ⟨(i 0 : Nat) / 512, by rw [show cfg0.N = 16 from N_0]; omega⟩
    obtain ⟨-, -, -, h, -⟩ := idx t
    have ht : t.val = (i 0 : Nat) / 512 := rfl
    refine ⟨t, flush0_3 t, ?_⟩
    show i ∈ ((View.whole main_v1_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512; omega
    | ⟨1, _⟩ => show win0_3.index t 1 * 384 ≤ (i 1 : Nat) ∧ (i 1 : Nat) < win0_3.index t 1 * 384 + 384; omega

theorem final_lo (c : Dev nD) : (dats m 0 c).arrAt 4 cfg0.N = dxArr m c :=
  (dats m 0 c).arrAt_eq_of_cover 4 (dxArr m c) (fun t _ => by
    obtain ⟨-, -, -, -, h, -⟩ := idx t
    rw [Value.flushed4, outs_lo]
    funext j
    obtain ⟨p, q, rfl⟩ : ∃ (p : Fin 512) (q : Fin 384), j = ix2 p q := ⟨j 0, j 1, eq_ix2 j⟩
    refine (block_dx m c t p q).trans (congrArg (dxArr m c) (ext2 ?_ ?_))
    · show 512 * t.val + p.val = win0_4.index t 0 * 512 + 1 * p.val; omega
    · show q.val = win0_4.index t 1 * 384 + 1 * q.val; omega)
  fun i => by
    have h0 : (i 0 : Nat) < 8192 := (i 0).isLt
    have h1 : (i 1 : Nat) < 384 := (i 1).isLt
    let t : Fin cfg0.N := ⟨(i 0 : Nat) / 512, by rw [show cfg0.N = 16 from N_0]; omega⟩
    obtain ⟨-, -, -, -, h, -⟩ := idx t
    have ht : t.val = (i 0 : Nat) / 512 := rfl
    refine ⟨t, flush0_4 t, ?_⟩
    show i ∈ ((View.whole main_v1_1).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512; omega
    | ⟨1, _⟩ => show win0_4.index t 1 * 384 ≤ (i 1 : Nat) ∧ (i 1 : Nat) < win0_4.index t 1 * 384 + 384; omega

/-- The rows' parts by number. -/
def dgNat (c : Dev nD) (q : Fin 384) (r : ℕ) : EReal := if h : r < 8192 then dgTerm m c q ⟨r, h⟩ else 0

/-- A point adds its 512 rows' parts. -/
theorem block_dg (c : Dev nD) (t : Fin cfg0.N) (y : Vec Ideal S1x384 .f32) (q : Fin 384) :
    k0_pay6 (iblk m c 0 t) (iblk m c 2 t) y (ix2 0 q) = y (ix2 0 q) + ∑ p ∈ Finset.range 512, dgNat m c q (512 * t.val + p) := by
  rw [pay_dg, Finset.sum_range]
  congr 1
  refine Finset.sum_congr rfl fun p _ => ?_
  rw [show dgNat m c q (512 * t.val + p.val) = dgTerm m c q (row t p) from dif_pos (row t p).isLt]
  simp only [blk_x, blk_ct]
  rfl

/-- What the gain's window holds after point `n`: the rows so far. -/
theorem outs_dg (c : Dev nD) (q : Fin 384) : ∀ (n : ℕ) (h : n < cfg0.N),
    (outsAt0 m c n h).2.2 (ix2 0 q) = ∑ r ∈ Finset.range (512 * (n + 1)), dgNat m c q r
  | 0, h => by
    have e := outs_dg_A m c ⟨0, h⟩ rfl
    dsimp only at e
    rw [e, block_dg m c ⟨0, h⟩, pay_zero, zero_add]
    simp
  | n + 1, h => by
    have hN : cfg0.N = 16 := N_0
    rw [outs_dg_B m c n h (by omega), block_dg, show 512 * (n + 1 + 1) = 512 * (n + 1) + 512 by ring, Finset.sum_range_add]
    exact congrArg (· + _) (outs_dg c q n (Nat.lt_of_succ_lt h))

theorem final_dg (c : Dev nD) : (dats m 0 c).arrAt 5 cfg0.N = dgArr m c :=
  (dats m 0 c).arrAt_eq_of_cover 5 (dgArr m c) (fun t hf => by
    have hN : cfg0.N = 16 := N_0
    have h15 : t.val = 15 := by have := (flush0_5 t).mp hf; have := t.isLt; omega
    obtain ⟨-, -, -, -, -, h⟩ := idx t
    rw [Value.flushed5]
    funext j
    obtain ⟨q, rfl⟩ : ∃ q : Fin 384, j = ix2 0 q := ⟨j 1, (eq_ix2 j).trans (by congr 1; exact Subsingleton.elim _ _)⟩
    refine ((outs_dg m c q t.val t.isLt).trans ?_).trans (congrArg (dgArr m c) (ext2 (i := ix2 0 q) ?_ ?_))
    · rw [h15, Finset.sum_range]
      exact Finset.sum_congr rfl fun r _ => dif_pos r.isLt
    · show 0 = win0_5.index t 0 * 1 + 1 * 0; omega
    · show q.val = win0_5.index t 1 * 384 + 1 * q.val; omega)
  fun i => by
    have h0 : (i 0 : Nat) < 1 := (i 0).isLt
    have h1 : (i 1 : Nat) < 384 := (i 1).isLt
    let t : Fin cfg0.N := ⟨15, by rw [show cfg0.N = 16 from N_0]; omega⟩
    obtain ⟨-, -, -, -, -, h⟩ := idx t
    refine ⟨t, (flush0_5 t).mpr rfl, ?_⟩
    show i ∈ ((View.whole main_v1_2).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; omega
    | ⟨1, _⟩ => show win0_5.index t 1 * 384 ≤ (i 1 : Nat) ∧ (i 1 : Nat) < win0_5.index t 1 * 384 + 384; omega

end Cert.NormQPf

end
-- ==== Proof.NormQRef.lean ====
/- The derivative of the norm of the queries' latent, read at an index, is what the kernel leaves. -/
module

public import proofs.«01_k».proof.Proof.NormQValue
public import proofs.«01_k».proof.Proof.Reals
public import proofs.«01_k».proof.Proof.Gen.NormQRefIdeal.Read

@[expose] public section

set_option maxRecDepth 16384

noncomputable section

namespace Cert.NormQPf

open Cert.NormQRefIdeal Cert.NormQRefIdeal.Read Idealize.ShloMosaic

theorem ofBits_384 : Ideal.ofBits .f32 0x43C00000#32 = ((384 : ℝ) : EReal) := by
  simp [Ideal.ofBits, Ideal.ieee, -EReal.coe_mul]; norm_num

/-- The input's derivative is the kernel's. -/
theorem ref_dx (x : S8192x384.Idx → EReal) (g : S384.Idx → EReal) (ct : S8192x384.Idx → EReal)
    (hx : ∀ i, ∃ a : ℝ, x i = a) (hg : ∀ i, ∃ a : ℝ, g i = a) (hct : ∀ i, ∃ a : ℝ, ct i = a) (p : Fin 8192) (q : Fin 384) :
    val_main_v35 (F := Ideal) x g ct (ix2 p q)
      = dxRow (fun k => x (ix2 p k)) (fun k => g (ix1 k)) (fun k => ct (ix2 p k)) q := by
  choose xr hxr using hx
  choose gr hgr using hg
  choose cr hcr using hct
  obtain ⟨e, he, hE⟩ := Reals.ofBits_eps
  unfold val_main_v35 val_main_v34 val_main_v33 val_main_v32 val_main_v31 val_main_v30 val_main_cst_7 val_main_v29 val_main_v28
    val_main_cst_6 val_main_v27 val_main_v26 val_main_v25 val_main_v24 val_main_v23 val_main_cst_5 val_main_v22 val_main_v20 val_main_v19
    val_main_v13 val_main_v10 val_main_v9 val_main_cst_2 val_main_v8 val_main_v7 val_main_v6 val_main_v5 val_main_cst_1 val_main_v4
    val_main_v3 val_main_cst_0 val_main_v2 val_main_v1 val_main_cst val_main_v0
  pointwise
  unfold dxRow rstd
  have h := Reals.norm_row (fun k => xr (ix2 p k)) (fun k => cr (ix2 p k) * gr (ix1 k)) (N := 384) (by norm_num) he q
  simp only [hxr, hgr, hcr, hE, ofBits_384, Reals.ofBits_neg_half, Fintype.sum_unique]
  simp only [EReal.coe_mul] at h
  exact h.symm

theorem ref_lo (x : S8192x384.Idx → EReal) (g : S384.Idx → EReal) (ct : S8192x384.Idx → EReal) :
    val_main_v36 (F := Ideal) x g ct = val_main_v35 (F := Ideal) x g ct := rfl

/-- The derivative's gain gradient is the kernel's. -/
theorem ref_dg (x : S8192x384.Idx → EReal) (ct : S8192x384.Idx → EReal) (q : Fin 384) : val_main_v37 (F := Ideal) x ct (ix2 0 q)
    = ∑ p, ct (ix2 p q) * (x (ix2 p q) * rstd (∑ k, x (ix2 p k) * x (ix2 p k))) := by
  rw [← val_main_v37_eq]
  pointwise
  rw [Fintype.sum_unique]
  exact Finset.sum_congr rfl fun p _ => mul_comm _ _

end Cert.NormQPf

end
-- ==== Proof.NormQClaims.lean ====
/- The claims about the gradient of the norm of the queries' latent. -/
module

public import proofs.«01_k».proof.Proof.NormClaims
public import proofs.«01_k».proof.Proof.NormQRef
public import proofs.«01_k».proof.Proof.Gen.NormQ.Frame
public import proofs.«01_k».proof.Proof.Gen.Pre_normq_finite

@[expose] public section

set_option maxRecDepth 16384

noncomputable section

namespace Cert.NormQPf

open Idealize.ShloMosaic Idealize.SL.Sem

theorem frame : Cert.quiescent_NormQ := fun m ρ _ => Cert.NormQ.Gen.frame m ρ

theorem frame_ideal : Cert.quiescent_NormQIdeal := fun m ρ _ => Cert.NormQIdeal.Gen.frame m ρ

theorem frame_ref : Cert.quiescent_NormQRefIdeal := fun m ρ _ =>
  (θ_run Cert.NormQRefIdeal.defs _ _).mono (fun r h => ⟨fun c => (h c).2.2.2, sem_eq_zero_of_no_sems (by decide) r.2⟩)
    (Cert.NormQRefIdeal.Value.run (F := Ideal) m ρ)

theorem frame_ideal_pre : Cert.quiescent_NormQIdeal_pre_normq_finite := fun m ρ _ => Cert.NormQIdeal.Gen.frame m ρ

theorem frame_ref_pre : Cert.quiescent_NormQRefIdeal_pre_normq_finite := fun m ρ _ => frame_ref m ρ trivial

theorem value : Cert.algebraic_NormQIdeal_NormQRefIdeal_pre_normq_finite := by
  intro m ρ m' ρ' hpre hag
  have hx := fun c => NormClaims.finite (X m c) _ (fun _ => rfl) (hpre c).1
  have hg := fun c => NormClaims.finite (G m c) _ (fun _ => rfl) (hpre c).2.1
  have hct := fun c => NormClaims.finite (CT m c) _ (fun _ => rfl) (hpre c).2.2
  refine ⟨fun c => dxArr m c, fun c => dxArr m c, fun c => dgArr m c,
    (θ_run _ _ _).mono (fun _ h c => ⟨(h c).1.trans (final_dx m c), (h c).2.1.trans (final_lo m c),
      (h c).2.2.1.trans (final_dg m c), (h c).2.2.2⟩) (Cert.NormQIdeal.Value.run_blocks m ρ),
    (θ_run _ _ _).mono (fun _ h c => ⟨(h c).1.trans ?_, (h c).2.1.trans ?_, (h c).2.2.1.trans ?_, (h c).2.2.2⟩)
      (Cert.NormQRefIdeal.Value.run m' ρ')⟩
  · refine (Cert.NormQRefIdeal.Read.val_main_v35_eq ..).trans ?_
    rw [(hag c).1, (hag c).2.1, (hag c).2.2]
    funext i
    rw [eq_ix2 i]
    exact ref_dx _ _ _ (hx c) (hg c) (hct c) _ _
  · refine (Cert.NormQRefIdeal.Read.val_main_v36_eq ..).trans ?_
    rw [ref_lo, (hag c).1, (hag c).2.1, (hag c).2.2]
    funext i
    rw [eq_ix2 i]
    exact ref_dx _ _ _ (hx c) (hg c) (hct c) _ _
  · refine (Cert.NormQRefIdeal.Read.val_main_v37_eq ..).trans ?_
    rw [(hag c).1, (hag c).2.2]
    funext i
    obtain ⟨q, rfl⟩ : ∃ q : Fin 384, i = ix2 0 q := ⟨i 1, (eq_ix2 i).trans (by congr 1; exact Subsingleton.elim (α := Fin 1) _ _)⟩
    exact ref_dg _ _ _

end Cert.NormQPf

end
-- ==== Proof.FoxCtxTile.lean ====
/- The packed gradient of a context, one head's columns: the product's own columns and, in the three columns after
   them, the pieces of the row sum of do·o. -/
module

public import proofs.«01_k».proof.Proof.Norm2Value
public import proofs.«01_k».proof.Proof.Gen.FoxCtxIdeal.Frame

@[expose] public section

set_option maxRecDepth 16384

noncomputable section

namespace Cert.FoxCtxPf

open Cert.FoxCtxIdeal Cert.FoxCtxIdeal.Gen Idealize.ShloMosaic Idealize.ShloMosaic.TcCoe Idealize.SL.Sem

/-- One head of a row: the columns `a`, with the pieces of the row's sum of `a` times `b` in columns 64 to 66. -/
def packed (a b : Fin 128 → EReal) (d : Fin 128) : EReal :=
  if d.val = 66 then (∑ e, a e * b e) - (∑ e, a e * b e) - ((∑ e, a e * b e) - (∑ e, a e * b e))
  else if d.val = 65 then (∑ e, a e * b e) - (∑ e, a e * b e)
  else if d.val = 64 then ∑ e, a e * b e
  else a d

/-- A column's test on its number. -/
theorem select_eq (d : Fin 128) (n : ℕ) (hn : n < 128) (A B : EReal) :
    Scalar.select (IntOp.cmpi .eq (BitVec.ofNat 32 d.val) (BitVec.ofNat 32 n)) A B = if d.val = n then A else B := by
  rw [WordCmp.cmpi_eq_ofNat (by omega) (by omega)]
  by_cases h : d.val = n
  · rw [if_pos h, decide_eq_true h]; rfl
  · rw [if_neg h, decide_eq_false h]; rfl

section
variable (a : FVec Ideal S1024x128 .f32) (b : FVec Ideal S1024x128 .bf16)

/-- The row sums of one head. -/
def sums : FVec Ideal S1024x1 .f32 :=
  shapeCast S1024x1 (multiReduction .add [1] S1024 (mulf (extf .f32 (truncf .bf16 a bitsLt_bf16_f32) bitsLt_bf16_f32) (extf .f32 b bitsLt_bf16_f32))
    0x00000000#32 reduces_S1024x128_S1024 (.inl rfl) rfl) shapeCasts_S1024_S1024x1

/-- What is left of `x` after its leading piece. -/
def rest (x : FVec Ideal S1024x1 .f32) : FVec Ideal S1024x1 .f32 := subf x (extf .f32 (truncf .bf16 x bitsLt_bf16_f32) bitsLt_bf16_f32)

/-- `y` with column `n` replaced by the leading piece of `x`. -/
def place (n : BitVec 32) (x : FVec Ideal S1024x1 .f32) (y : FVec Ideal S1024x128 .f32) : FVec Ideal S1024x128 .f32 :=
  select (cmpi .eq (iota .tc S1024x128 32 [1] iota_S1024x128_d1_w32) (broadcast S1024x128 n))
    (broadcastTo S1024x128 (shapeCast S1024x1 (mulf (broadcast S1024x1 (Scalar.ofBits .f32 0x3F800000#32))
      (extf .f32 (truncf .bf16 x bitsLt_bf16_f32) bitsLt_bf16_f32)) shapeCasts_S1024x1_S1024x1) broadcasts_S1024x1_S1024x128) y

/-- One head's columns of the tile. -/
def head : FVec Ideal S1024x128 .bf16 :=
  truncf .bf16 (place 66#32 (rest (rest (sums a b))) (place 65#32 (rest (sums a b)) (place 64#32 (sums a b)
    (extf .f32 (truncf .bf16 a bitsLt_bf16_f32) bitsLt_bf16_f32)))) bitsLt_bf16_f32

theorem sums_apply (p : Fin 1024) (z : Fin 1) : sums a b (ix2 p z) = ∑ e, a (ix2 p e) * b (ix2 p e) := by
  unfold sums
  pointwise

theorem rest_apply (x : FVec Ideal S1024x1 .f32) (p : Fin 1024) (z : Fin 1) : rest x (ix2 p z) = x (ix2 p z) - x (ix2 p z) := by
  unfold rest
  pointwise

theorem place_apply (n : ℕ) (hn : n < 128) (x : FVec Ideal S1024x1 .f32) (y : FVec Ideal S1024x128 .f32) (p : Fin 1024) (d : Fin 128) :
    place (BitVec.ofNat 32 n) x y (ix2 p d) = if d.val = n then x (ix2 p 0) else y (ix2 p d) := by
  rw [← select_eq d n hn]
  unfold place
  pointwise

theorem head_apply (p : Fin 1024) (d : Fin 128) : head a b (ix2 p d) = packed (fun e => a (ix2 p e)) (fun e => b (ix2 p e)) d := by
  unfold head packed
  refine (place_apply 66 (by omega) _ _ p d).trans ?_
  rw [place_apply 65 (by omega), place_apply 64 (by omega), rest_apply, rest_apply, sums_apply]
  rfl
end

/-! ## The whole tile -/

/-- Head `h` of 2048 columns. -/
def cols (φ : FTy) (y : FVec Ideal S1024x2048 φ) (h : Fin 16) : FVec Ideal S1024x128 φ := fun i => y (ix2 (i 0) ⟨h.val * 128 + (i 1).val, by have := (i 1).isLt; dsimp at this; omega⟩)

theorem slice_eq {φ : FTy} (y : FVec Ideal S1024x2048 φ) (h : Fin 16) (off : Fin 2 → ℕ) (e0 : off 0 = 0) (e1 : off 1 = h.val * 128)
    (hs : S1024x2048.Slices off S1024x128) : extractStridedSlice S1024x128 off y hs = cols φ y h := by
  funext i
  refine congrArg y (Norm2Pf.ext2 ?_ ?_)
  · show off 0 + (i 0).val = (i 0).val
    omega
  · show off 1 + (i 1).val = h.val * 128 + (i 1).val
    omega

theorem concat_apply (f : Fin 16 → FVec Ideal S1024x128 .bf16) (p : Fin 1024) (h : Fin 16) (d : Fin 128) :
    concatenate S1024x2048 1 [⟨S1024x128, f 0⟩, ⟨S1024x128, f 1⟩, ⟨S1024x128, f 2⟩, ⟨S1024x128, f 3⟩, ⟨S1024x128, f 4⟩, ⟨S1024x128, f 5⟩, ⟨S1024x128, f 6⟩, ⟨S1024x128, f 7⟩, ⟨S1024x128, f 8⟩, ⟨S1024x128, f 9⟩, ⟨S1024x128, f 10⟩, ⟨S1024x128, f 11⟩, ⟨S1024x128, f 12⟩, ⟨S1024x128, f 13⟩, ⟨S1024x128, f 14⟩, ⟨S1024x128, f 15⟩]
      concatenates_S1024x128_S1024x128_S1024x128_S1024x128_S1024x128_S1024x128_S1024x128_S1024x128_S1024x128_S1024x128_S1024x128_S1024x128_S1024x128_S1024x128_S1024x128_S1024x128_S1024x2048_d1 (ix2 p ⟨h.val * 128 + d.val, by omega⟩)
      = f h (ix2 p d) := by
  refine concatenate_ofFn_apply (s₁ := S1024x128) (1 : Fin S1024x2048.rank) f concatenates_S1024x128_S1024x128_S1024x128_S1024x128_S1024x128_S1024x128_S1024x128_S1024x128_S1024x128_S1024x128_S1024x128_S1024x128_S1024x128_S1024x128_S1024x128_S1024x128_S1024x2048_d1 rfl 128 rfl _ h ?_ (ix2 p d) ?_ fun b hb => ?_
  · show (h.val * 128 + d.val) / 128 = h.val
    omega
  · show d.val = (h.val * 128 + d.val) % 128
    omega
  · match b with
    | ⟨0, _⟩ => rfl
    | ⟨1, _⟩ => exact absurd rfl hb

section
variable (x0 : Vec Ideal S1024x1024 .bf16) (x1 : Vec Ideal S2048x1024 .bf16) (x2 : Vec Ideal S1024x2048 .bf16)

theorem prod_apply (p : Fin 1024) (q : Fin 2048) : k0_pay2 x0 x1 (ix2 p q) = ∑ k : Fin 1024, x0 (ix2 p k) * x1 (ix2 q k) := by
  unfold k0_pay2
  pointwise

theorem keep_eq : k0_pay3 x2 = x2 := by
  unfold k0_pay3
  funext i
  rw [eq_ix2 i]
  pointwise

/-- Head `h` of the tile made from the product and the context. -/
def part (P : FVec Ideal S1024x2048 .f32) (B : FVec Ideal S1024x2048 .bf16) (h : Fin 16) : FVec Ideal S1024x128 .bf16 := head (cols .f32 P h) (cols .bf16 B h)

theorem out_eq : out0_3 x0 x1 x2 = concatenate S1024x2048 1 [⟨S1024x128, part (k0_pay2 x0 x1) (k0_pay3 x2) 0⟩, ⟨S1024x128, part (k0_pay2 x0 x1) (k0_pay3 x2) 1⟩, ⟨S1024x128, part (k0_pay2 x0 x1) (k0_pay3 x2) 2⟩, ⟨S1024x128, part (k0_pay2 x0 x1) (k0_pay3 x2) 3⟩, ⟨S1024x128, part (k0_pay2 x0 x1) (k0_pay3 x2) 4⟩, ⟨S1024x128, part (k0_pay2 x0 x1) (k0_pay3 x2) 5⟩, ⟨S1024x128, part (k0_pay2 x0 x1) (k0_pay3 x2) 6⟩, ⟨S1024x128, part (k0_pay2 x0 x1) (k0_pay3 x2) 7⟩, ⟨S1024x128, part (k0_pay2 x0 x1) (k0_pay3 x2) 8⟩, ⟨S1024x128, part (k0_pay2 x0 x1) (k0_pay3 x2) 9⟩, ⟨S1024x128, part (k0_pay2 x0 x1) (k0_pay3 x2) 10⟩, ⟨S1024x128, part (k0_pay2 x0 x1) (k0_pay3 x2) 11⟩, ⟨S1024x128, part (k0_pay2 x0 x1) (k0_pay3 x2) 12⟩, ⟨S1024x128, part (k0_pay2 x0 x1) (k0_pay3 x2) 13⟩, ⟨S1024x128, part (k0_pay2 x0 x1) (k0_pay3 x2) 14⟩, ⟨S1024x128, part (k0_pay2 x0 x1) (k0_pay3 x2) 15⟩]
      concatenates_S1024x128_S1024x128_S1024x128_S1024x128_S1024x128_S1024x128_S1024x128_S1024x128_S1024x128_S1024x128_S1024x128_S1024x128_S1024x128_S1024x128_S1024x128_S1024x128_S1024x2048_d1 := by
  unfold out0_3
  rw [View.canon_unit_zero (S := S1024x2048) NormBlock.hz, View.ld_unit_zero (S := S1024x1024) NormBlock.hz, View.ld_unit_zero (S := S2048x1024) NormBlock.hz,
    View.ld_unit_zero (S := S1024x2048) NormBlock.hz]
  have e4 : k0_pay95 x0 x1 x2 = k0_pay2 x0 x1 := by
    unfold k0_pay95
    rw [View.ld_unit_zero (S := S1024x1024) NormBlock.hz, View.ld_unit_zero (S := S2048x1024) NormBlock.hz]
  have e5 : k0_pay96 x0 x1 x2 = k0_pay3 x2 := by
    unfold k0_pay96
    rw [View.ld_unit_zero (S := S1024x2048) NormBlock.hz]
  rw [e4, e5]
  unfold part
  rw [← slice_eq (k0_pay2 x0 x1) 0 ![0, 0] rfl rfl slices_S1024x2048_o0_0_S1024x128, ← slice_eq (k0_pay3 x2) 0 ![0, 0] rfl rfl slices_S1024x2048_o0_0_S1024x128,
    ← slice_eq (k0_pay2 x0 x1) 1 ![0, 128] rfl rfl slices_S1024x2048_o0_128_S1024x128, ← slice_eq (k0_pay3 x2) 1 ![0, 128] rfl rfl slices_S1024x2048_o0_128_S1024x128,
    ← slice_eq (k0_pay2 x0 x1) 2 ![0, 256] rfl rfl slices_S1024x2048_o0_256_S1024x128, ← slice_eq (k0_pay3 x2) 2 ![0, 256] rfl rfl slices_S1024x2048_o0_256_S1024x128,
    ← slice_eq (k0_pay2 x0 x1) 3 ![0, 384] rfl rfl slices_S1024x2048_o0_384_S1024x128, ← slice_eq (k0_pay3 x2) 3 ![0, 384] rfl rfl slices_S1024x2048_o0_384_S1024x128,
    ← slice_eq (k0_pay2 x0 x1) 4 ![0, 512] rfl rfl slices_S1024x2048_o0_512_S1024x128, ← slice_eq (k0_pay3 x2) 4 ![0, 512] rfl rfl slices_S1024x2048_o0_512_S1024x128,
    ← slice_eq (k0_pay2 x0 x1) 5 ![0, 640] rfl rfl slices_S1024x2048_o0_640_S1024x128, ← slice_eq (k0_pay3 x2) 5 ![0, 640] rfl rfl slices_S1024x2048_o0_640_S1024x128,
    ← slice_eq (k0_pay2 x0 x1) 6 ![0, 768] rfl rfl slices_S1024x2048_o0_768_S1024x128, ← slice_eq (k0_pay3 x2) 6 ![0, 768] rfl rfl slices_S1024x2048_o0_768_S1024x128,
    ← slice_eq (k0_pay2 x0 x1) 7 ![0, 896] rfl rfl slices_S1024x2048_o0_896_S1024x128, ← slice_eq (k0_pay3 x2) 7 ![0, 896] rfl rfl slices_S1024x2048_o0_896_S1024x128,
    ← slice_eq (k0_pay2 x0 x1) 8 ![0, 1024] rfl rfl slices_S1024x2048_o0_1024_S1024x128, ← slice_eq (k0_pay3 x2) 8 ![0, 1024] rfl rfl slices_S1024x2048_o0_1024_S1024x128,
    ← slice_eq (k0_pay2 x0 x1) 9 ![0, 1152] rfl rfl slices_S1024x2048_o0_1152_S1024x128, ← slice_eq (k0_pay3 x2) 9 ![0, 1152] rfl rfl slices_S1024x2048_o0_1152_S1024x128,
    ← slice_eq (k0_pay2 x0 x1) 10 ![0, 1280] rfl rfl slices_S1024x2048_o0_1280_S1024x128, ← slice_eq (k0_pay3 x2) 10 ![0, 1280] rfl rfl slices_S1024x2048_o0_1280_S1024x128,
    ← slice_eq (k0_pay2 x0 x1) 11 ![0, 1408] rfl rfl slices_S1024x2048_o0_1408_S1024x128, ← slice_eq (k0_pay3 x2) 11 ![0, 1408] rfl rfl slices_S1024x2048_o0_1408_S1024x128,
    ← slice_eq (k0_pay2 x0 x1) 12 ![0, 1536] rfl rfl slices_S1024x2048_o0_1536_S1024x128, ← slice_eq (k0_pay3 x2) 12 ![0, 1536] rfl rfl slices_S1024x2048_o0_1536_S1024x128,
    ← slice_eq (k0_pay2 x0 x1) 13 ![0, 1664] rfl rfl slices_S1024x2048_o0_1664_S1024x128, ← slice_eq (k0_pay3 x2) 13 ![0, 1664] rfl rfl slices_S1024x2048_o0_1664_S1024x128,
    ← slice_eq (k0_pay2 x0 x1) 14 ![0, 1792] rfl rfl slices_S1024x2048_o0_1792_S1024x128, ← slice_eq (k0_pay3 x2) 14 ![0, 1792] rfl rfl slices_S1024x2048_o0_1792_S1024x128,
    ← slice_eq (k0_pay2 x0 x1) 15 ![0, 1920] rfl rfl slices_S1024x2048_o0_1920_S1024x128, ← slice_eq (k0_pay3 x2) 15 ![0, 1920] rfl rfl slices_S1024x2048_o0_1920_S1024x128]
  rfl

/-- The tile at a column of a head. -/
theorem out_apply (p : Fin 1024) (h : Fin 16) (d : Fin 128) : out0_3 x0 x1 x2 (ix2 p ⟨h.val * 128 + d.val, by omega⟩)
    = packed (fun e => ∑ k : Fin 1024, x0 (ix2 p k) * x1 (ix2 ⟨h.val * 128 + e.val, by omega⟩ k)) (fun e => x2 (ix2 p ⟨h.val * 128 + e.val, by omega⟩)) d := by
  rw [out_eq]
  refine (concat_apply (part (k0_pay2 x0 x1) (k0_pay3 x2)) p h d).trans ?_
  refine (head_apply _ _ p d).trans ?_
  rw [keep_eq]
  exact congrArg (fun f => packed f _ d) (funext fun e => prod_apply x0 x1 p _)
end

end Cert.FoxCtxPf

end
-- ==== Proof.FoxCtxValue.lean ====
/- The gradient of a context with its row sums: the result arrays as functions of the arguments. -/
module

public import proofs.«01_k».proof.Proof.FoxCtxTile
public import proofs.«01_k».proof.Proof.Gen.FoxCtxRefIdeal.Read

@[expose] public section

set_option maxRecDepth 16384

noncomputable section

namespace Cert.FoxCtxPf

open Cert.FoxCtxIdeal Cert.FoxCtxIdeal.Gen Idealize.ShloMosaic Idealize.ShloMosaic.TcCoe Idealize.SL.Sem
open Cert.Norm2Pf (ext2)

variable (m : (ℓ : Loc nD τ sig) → Buf (Elt Ideal) ℓ) (ρ : Dev nD → PrngReg)

abbrev Q (c : Dev nD) : S8192x16x64.Idx → EReal := m ((c : Thread nD τ).loc main_arg0)
abbrev K (c : Dev nD) : S8192x16x64.Idx → EReal := m ((c : Thread nD τ).loc main_arg1)
abbrev VL (c : Dev nD) : S8192x16x64.Idx → EReal := m ((c : Thread nD τ).loc main_arg2)
abbrev CU (c : Dev nD) : S8192x16.Idx → EReal := m ((c : Thread nD τ).loc main_arg3)
abbrev WO (c : Dev nD) : S1024x1024.Idx → EReal := m ((c : Thread nD τ).loc main_arg4)
abbrev CT (c : Dev nD) : S8192x1024.Idx → EReal := m ((c : Thread nD τ).loc main_arg5)

theorem sitofp_zero : (FloatOps.sitofp .bf16 0#32 : Ideal .bf16) = 0 := by
  show ((((0#32 : BitVec 32).toInt : ℤ) : ℝ) : EReal) = 0
  simp

theorem keep_if {β : Type} (g : Fin 16 → Fin 64 → β) (h : Fin 16) (d : Fin 128) (z z' : β) (hz : z = z') :
    (if h1 : d.val < 64 then g ⟨(h.val * 64 + d.val) / 64, by omega⟩ ⟨(h.val * 64 + d.val) % 64, by omega⟩ else z)
      = if hd : d.val < 64 then g h ⟨d.val, hd⟩ else z' := by
  by_cases hd : d.val < 64
  · rw [dif_pos hd, dif_pos hd]
    congr 1 <;> exact Fin.ext (by dsimp only; omega)
  · rw [dif_neg hd, dif_neg hd, hz]

theorem ext3 {a b c : ℕ} {u v : (⟨3, ![a, b, c]⟩ : Shape).Idx} (h0 : (u 0).val = (v 0).val) (h1 : (u 1).val = (v 1).val) (h2 : (u 2).val = (v 2).val) : u = v := by
  funext i
  match i with
  | ⟨0, _⟩ => exact Fin.ext h0
  | ⟨1, _⟩ => exact Fin.ext h1
  | ⟨2, _⟩ => exact Fin.ext h2

/-- The context, by the forward lines. -/
abbrev ctx (c : Dev nD) : S8192x16x64.Idx → EReal := Cert.FoxCtxRefIdeal.Read.val_main_v30 (F := Ideal) (Q m c) (K m c) (VL m c) (CU m c)

/-- The operations up to the context. -/
abbrev Wctx (c : Dev nD) : Valuation τ sig (Elt Ideal) :=
  StableHlo.after (hostOps0_2.take 16) (StableHlo.after hostOps0_1 (StableHlo.after hostOps0 (fun b => m (c, b))))

theorem host_ctx (c : Dev nD) : Wctx m c (Proc.devRef .tc main_v30) = ctx m c := by
  unfold Wctx
  simp only [List.take]
  after_results_simp
  simp only [StableHlo.TRef.toBuf, StableHlo.TRef.ofBuf, cast_eq, id]
  rfl

theorem host_arg4 (c : Dev nD) : StableHlo.after (hostOps0_2.drop 16) (Wctx m c) (Proc.devRef .tc main_arg4) = WO m c := by
  unfold Wctx
  simp only [List.drop, List.take]
  after_results_simp

theorem host_arg5 (c : Dev nD) : StableHlo.after (hostOps0_2.drop 16) (Wctx m c) (Proc.devRef .tc main_arg5) = CT m c := by
  unfold Wctx
  simp only [List.drop, List.take]
  after_results_simp

theorem V_split (c : Dev nD) : V0 m c = StableHlo.after hostOps0_6 (StableHlo.after hostOps0_5 (StableHlo.after hostOps0_4 (StableHlo.after hostOps0_3
    (StableHlo.after (hostOps0_2.drop 16) (Wctx m c))))) := by
  unfold Wctx V0
  rw [← StableHlo.after_append (List.take 16 _), List.take_append_drop]
  simp only [List.flatten_cons, List.flatten_nil, StableHlo.after_append, List.append_nil]

/-- The packed context at a column of a head. -/
theorem host_o (c : Dev nD) (i : Fin 8192) (h : Fin 16) (d : Fin 128) (hc : h.val * 128 + d.val < 2048) :
    V m c main_v35 (ix2 i ⟨h.val * 128 + d.val, hc⟩) = if hd : d.val < 64 then ctx m c (ix3 i h ⟨d.val, hd⟩) else 0 := by
  show V0 m c (Proc.devRef .tc main_v35) _ = _
  rw [V_split, ← host_ctx m c]
  generalize Wctx m c = W
  simp only [List.drop]
  after_results_simp
  simp only [StableHlo.TRef.toBuf, StableHlo.TRef.ofBuf, cast_eq, id]
  pointwise
  exact keep_if (fun a b => W (Proc.tc.devRef main_v30) (ix3 i a b)) h d _ _ sitofp_zero

/-- The padded weight at a row of a head. -/
theorem host_w (c : Dev nD) (h : Fin 16) (d : Fin 128) (hc : h.val * 128 + d.val < 2048) (k : Fin 1024) :
    V m c main_v40 (ix2 ⟨h.val * 128 + d.val, hc⟩ k) = if hd : d.val < 64 then WO m c (ix2 ⟨h.val * 64 + d.val, by omega⟩ k) else 0 := by
  show V0 m c (Proc.devRef .tc main_v40) _ = _
  rw [V_split, ← host_arg4]
  generalize StableHlo.after (hostOps0_2.drop 16) (Wctx m c) = W
  after_results_simp
  simp only [StableHlo.TRef.toBuf, StableHlo.TRef.ofBuf, cast_eq, id]
  pointwise
  by_cases hd : d.val < 64
  · rw [dif_pos hd, dif_pos hd]
  · rw [dif_neg hd, dif_neg hd]
    exact sitofp_zero

theorem host_ct (c : Dev nD) (i : Fin 8192) (k : Fin 1024) : V m c main_v36 (ix2 i k) = CT m c (ix2 i k) := by
  show V0 m c (Proc.devRef .tc main_v36) _ = _
  rw [V_split, ← host_arg5]
  generalize StableHlo.after (hostOps0_2.drop 16) (Wctx m c) = W
  after_results_simp
  pointwise

/-- The gradient of the context, and zero in the columns behind it. -/
def grad (c : Dev nD) (i : Fin 8192) (h : Fin 16) (d : Fin 128) : EReal :=
  if hd : d.val < 64 then ∑ k : Fin 1024, CT m c (ix2 i k) * WO m c (ix2 ⟨h.val * 64 + d.val, by omega⟩ k) else 0

def ctxCol (c : Dev nD) (i : Fin 8192) (h : Fin 16) (d : Fin 128) : EReal := if hd : d.val < 64 then ctx m c (ix3 i h ⟨d.val, hd⟩) else 0

/-- The region's whole array. -/
def whole (c : Dev nD) : S8192x2048.Idx → EReal := fun i =>
  packed (grad m c (i 0) ⟨(i 1).val / 128, by have := (i 1).isLt; dsimp at this; omega⟩) (ctxCol m c (i 0) ⟨(i 1).val / 128, by have := (i 1).isLt; dsimp at this; omega⟩)
    ⟨(i 1).val % 128, by omega⟩

theorem whole_apply (c : Dev nD) (i : Fin 8192) (h : Fin 16) (d : Fin 128) (hc : h.val * 128 + d.val < 2048) :
    whole m c (ix2 i ⟨h.val * 128 + d.val, hc⟩) = packed (grad m c i h) (ctxCol m c i h) d := by
  have e1 : (⟨(h.val * 128 + d.val) / 128, by omega⟩ : Fin 16) = h := Fin.ext (by dsimp only; omega)
  have e2 : (⟨(h.val * 128 + d.val) % 128, by omega⟩ : Fin 128) = d := Fin.ext (by dsimp only; omega)
  show packed (grad m c i ⟨(h.val * 128 + d.val) / 128, _⟩) (ctxCol m c i ⟨(h.val * 128 + d.val) / 128, _⟩) ⟨(h.val * 128 + d.val) % 128, _⟩ = _
  rw [e1, e2]

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ win0_3.index t 0 = t.val ∧ win0_3.index t 1 = 0 := by
  show ∀ t : Fin grid0.N, _
  decide +kernel

set_option maxHeartbeats 2000000 in
theorem final (c : Dev nD) : (dats m 0 c).arrAt 3 (cfgs 0).N = whole m c :=
  (dats m 0 c).arrAt_eq_of_cover 3 (whole m c)
    (fun t _ => by
      obtain ⟨h0, h1, h2, h3⟩ := idx t
      have ht : t.val < 8 := t.isLt
      show (cfg0.win 3).cut (grid0.coords t) ((dats m 0 c).after 3 t) = _
      rw [after0_3]
      funext j
      obtain ⟨p, q, rfl⟩ : ∃ (p : Fin 1024) (q : Fin 2048), j = ix2 p q := ⟨j 0, j 1, eq_ix2 j⟩
      obtain ⟨h, d, hc, rfl⟩ : ∃ (h : Fin 16) (d : Fin 128) (hc : h.val * 128 + d.val < 2048), q = ⟨h.val * 128 + d.val, hc⟩ :=
        ⟨⟨q.val / 128, by omega⟩, ⟨q.val % 128, by omega⟩, by dsimp only; omega, Fin.ext (by dsimp only; omega)⟩
      refine (out_apply _ _ _ p h d).trans ?_
      have e0 : ∀ k, iblk m c 0 t (ix2 p k) = CT m c (ix2 ⟨t.val * 1024 + p.val, by omega⟩ k) := fun k => by
        refine Eq.trans ?_ (host_ct m c _ k)
        refine congrArg (V m c main_v36) (ext2 ?_ ?_)
        · show win0_0.index t 0 * 1024 + 1 * p.val = t.val * 1024 + p.val; omega
        · show win0_0.index t 1 * 1024 + 1 * k.val = k.val; omega
      have e1 : ∀ (e : Fin 128) k, iblk m c 1 t (ix2 ⟨h.val * 128 + e.val, by omega⟩ k)
          = if hd : e.val < 64 then WO m c (ix2 ⟨h.val * 64 + e.val, by omega⟩ k) else 0 := fun e k => by
        refine Eq.trans ?_ (host_w m c h e (by omega) k)
        refine congrArg (V m c main_v40) (ext2 ?_ ?_)
        · show win0_1.index t 0 * 2048 + 1 * (h.val * 128 + e.val) = h.val * 128 + e.val; omega
        · show win0_1.index t 1 * 1024 + 1 * k.val = k.val; omega
      have e2 : ∀ e : Fin 128, iblk m c 2 t (ix2 p ⟨h.val * 128 + e.val, by omega⟩) = ctxCol m c ⟨t.val * 1024 + p.val, by omega⟩ h e := fun e => by
        refine Eq.trans ?_ (host_o m c _ h e (by omega))
        refine congrArg (V m c main_v35) (ext2 ?_ ?_)
        · show win0_2.index t 0 * 1024 + 1 * p.val = t.val * 1024 + p.val; omega
        · show win0_2.index t 1 * 2048 + 1 * (h.val * 128 + e.val) = h.val * 128 + e.val; omega
      refine Eq.trans (congrArg₂ (fun f g => packed f g d) (funext fun e => ?_) (funext e2)) ((whole_apply m c ⟨t.val * 1024 + p.val, by omega⟩ h d hc).symm.trans
        (congrArg (whole m c) (ext2 ?_ ?_)))
      · simp only [e0, e1]
        unfold grad
        by_cases hd : e.val < 64
        · simp only [dif_pos hd]
        · simp only [dif_neg hd, mul_zero, Finset.sum_const_zero]
      · show t.val * 1024 + p.val = win0_3.index t 0 * 1024 + 1 * p.val; omega
      · show h.val * 128 + d.val = win0_3.index t 1 * 2048 + 1 * (h.val * 128 + d.val); omega)
    (fun i => ⟨⟨(i 0).val / 1024, by have h : (i 0).val < 8192 := (i 0).isLt; show _ < 8; omega⟩, flush0_3 _, by
      have hi0 : (i 0).val < 8192 := (i 0).isLt
      have hi1 : (i 1).val < 2048 := (i 1).isLt
      generalize ht : (⟨(i 0).val / 1024, _⟩ : Fin cfg0.N) = t
      have hv : t.val = (i 0).val / 1024 := by rw [← ht]
      obtain ⟨-, -, -, h3⟩ := idx t
      show i ∈ ((View.whole main_v41).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024; omega
      | ⟨1, _⟩ => show win0_3.index t 1 * 2048 ≤ (i 1 : Nat) ∧ (i 1 : Nat) < win0_3.index t 1 * 2048 + 2048; omega⟩)

/-- The gradient of the context, and its row sums with it, at every row and head. -/
def gradArr (c : Dev nD) : S8192x16x64.Idx → EReal := fun i =>
  ∑ k : Fin 1024, CT m c (ix2 (i 0) k) * WO m c (ix2 ⟨(i 1).val * 64 + (i 2).val, by
    have h1 : (i 1).val < 16 := (i 1).isLt
    have h2 : (i 2).val < 64 := (i 2).isLt
    omega⟩ k)

def sumArr (c : Dev nD) : S8192x16.Idx → EReal := fun i => ∑ d : Fin 64, gradArr m c (ix3 (i 0) (i 1) d) * ctx m c (ix3 (i 0) (i 1) d)

/-- The row sum over the columns with a padding. -/
theorem sum_pad (c : Dev nD) (i : Fin 8192) (h : Fin 16) : ∑ e, grad m c i h e * ctxCol m c i h e = sumArr m c (ix2 i h) := by
  refine (Fin.sum_univ_add (a := 64) (b := 64) (fun e : Fin 128 => grad m c i h e * ctxCol m c i h e)).trans ?_
  refine (congrArg₂ (· + ·) (Finset.sum_congr rfl fun e _ => ?_) (Finset.sum_eq_zero fun e _ => ?_)).trans (add_zero _)
  · unfold grad ctxCol
    rw [dif_pos (show (Fin.castAdd 64 e).val < 64 from e.isLt), dif_pos (show (Fin.castAdd 64 e).val < 64 from e.isLt)]
    rfl
  · unfold grad
    rw [dif_neg (show ¬(Fin.natAdd 64 e).val < 64 by simp), zero_mul]

/-- The region's array after the region. -/
abbrev Wend (c : Dev nD) : Valuation τ sig (Elt Ideal) :=
  Pipeline.withArrays (cfgs 0).spec c (V0 m c) (fun w => (dats m 0 c).arrAt w (cfgs 0).N)

theorem Wend_out (c : Dev nD) : Wend m c (Proc.devRef .tc main_v41) = whole m c :=
  (Pipeline.withArrays_arr (cfgs 0).spec launch0.win.arr_inj c (V0 m c) (fun w => (dats m 0 c).arrAt w (cfgs 0).N) (3 : Fin 4)).trans (final m c)

theorem res_grad (c : Dev nD) : StableHlo.after hostOps1 (Wend m c) (Proc.devRef .tc main_v43) = gradArr m c := by
  have e := Wend_out m c
  generalize Wend m c = W at e
  after_results_simp
  rw [e]
  funext i
  obtain ⟨a, h, d, rfl⟩ : ∃ (a : Fin 8192) (h : Fin 16) (d : Fin 64), i = ix3 a h d := ⟨i 0, i 1, i 2, eq_ix3 i⟩
  pointwise
  refine (whole_apply m c a h ⟨d.val, by omega⟩ (by dsimp only; omega)).trans ?_
  unfold packed grad
  rw [if_neg (by dsimp only; omega), if_neg (by dsimp only; omega), if_neg (by dsimp only; omega)]
  exact dif_pos d.isLt

theorem res_sum (c : Dev nD) (hr : ∀ i, ∃ r : ℝ, sumArr m c i = r) : StableHlo.after hostOps1 (Wend m c) (Proc.devRef .tc main_v46) = sumArr m c := by
  have e := Wend_out m c
  generalize Wend m c = W at e
  after_results_simp
  rw [e]
  funext i
  obtain ⟨a, h, rfl⟩ : ∃ (a : Fin 8192) (h : Fin 16), i = ix2 a h := ⟨i 0, i 1, eq_ix2 i⟩
  pointwise
  obtain ⟨r, hr⟩ := hr (ix2 a h)
  have e (y : Fin 3) : whole m c (ix2 a ⟨h.val * 128 + (64 + y.val), by omega⟩) = if y.val = 0 then (r : EReal) else 0 := by
    refine (whole_apply m c a h ⟨64 + y.val, by omega⟩ (by dsimp only; omega)).trans ?_
    unfold packed
    rw [sum_pad, hr, ← EReal.coe_sub, ← EReal.coe_sub, sub_self, sub_self]
    fin_cases y <;> rfl
  simp only [e]
  rw [hr, Fin.sum_univ_three]
  simp

theorem run (hr : ∀ c i, ∃ r : ℝ, sumArr m c i = r) :
    θ_run (defs (F := Ideal)) (onTc (τ := τ) (main (F := Ideal))) ⟨m, fun _ => 0, ρ⟩ (fun r => ∀ c : Dev nD,
      r.2.mem ((c.tc : Thread nD τ).loc main_v43) = gradArr m c ∧ r.2.mem ((c.tc : Thread nD τ).loc main_v46) = sumArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono ?_ (θ_run_and (unchanged m ρ) (run_main m ρ))
  intro r h c
  exact ⟨((h.2 c).2 main_v43 (Pipeline.mem_restRefs_of main_v43 (by decide) (by decide))).trans (res_grad m c),
    ((h.2 c).2 main_v46 (Pipeline.mem_restRefs_of main_v46 (by decide) (by decide))).trans (res_sum m c (hr c)), h.1 c⟩

end Cert.FoxCtxPf

end
-- ==== Proof.CtxTile.lean ====
/- The packed gradient of a context, one head's columns: the product's own columns and, in the three columns after
   them, the pieces of the row sum of do·o. -/
module

public import proofs.«01_k».proof.Proof.Norm2Value
public import proofs.«01_k».proof.Proof.Gen.CtxIdeal.Frame

@[expose] public section

set_option maxRecDepth 16384

noncomputable section

namespace Cert.CtxPf

open Cert.CtxIdeal Cert.CtxIdeal.Gen Idealize.ShloMosaic Idealize.ShloMosaic.TcCoe Idealize.SL.Sem

/-- One head of a row: the columns `a`, with the pieces of the row's sum of `a` times `b` in columns 128 to 130. -/
def packed (a b : Fin 256 → EReal) (d : Fin 256) : EReal :=
  if d.val = 130 then (∑ e, a e * b e) - (∑ e, a e * b e) - ((∑ e, a e * b e) - (∑ e, a e * b e))
  else if d.val = 129 then (∑ e, a e * b e) - (∑ e, a e * b e)
  else if d.val = 128 then ∑ e, a e * b e
  else a d

/-- A column's test on its number. -/
theorem select_eq (d : Fin 256) (n : ℕ) (hn : n < 256) (A B : EReal) :
    Scalar.select (IntOp.cmpi .eq (BitVec.ofNat 32 d.val) (BitVec.ofNat 32 n)) A B = if d.val = n then A else B := by
  rw [WordCmp.cmpi_eq_ofNat (by omega) (by omega)]
  by_cases h : d.val = n
  · rw [if_pos h, decide_eq_true h]; rfl
  · rw [if_neg h, decide_eq_false h]; rfl

section
variable (a : FVec Ideal S1024x256 .f32) (b : FVec Ideal S1024x256 .bf16)

/-- The row sums of one head. -/
def sums : FVec Ideal S1024x1 .f32 :=
  shapeCast S1024x1 (multiReduction .add [1] S1024 (mulf (extf .f32 (truncf .bf16 a bitsLt_bf16_f32) bitsLt_bf16_f32) (extf .f32 b bitsLt_bf16_f32))
    0x00000000#32 reduces_S1024x256_S1024 (.inl rfl) rfl) shapeCasts_S1024_S1024x1

/-- What is left of `x` after its leading piece. -/
def rest (x : FVec Ideal S1024x1 .f32) : FVec Ideal S1024x1 .f32 := subf x (extf .f32 (truncf .bf16 x bitsLt_bf16_f32) bitsLt_bf16_f32)

/-- `y` with column `n` replaced by the leading piece of `x`. -/
def place (n : BitVec 32) (x : FVec Ideal S1024x1 .f32) (y : FVec Ideal S1024x256 .f32) : FVec Ideal S1024x256 .f32 :=
  select (cmpi .eq (iota .tc S1024x256 32 [1] iota_S1024x256_d1_w32) (broadcast S1024x256 n))
    (broadcastTo S1024x256 (shapeCast S1024x1 (mulf (broadcast S1024x1 (Scalar.ofBits .f32 0x3F800000#32))
      (extf .f32 (truncf .bf16 x bitsLt_bf16_f32) bitsLt_bf16_f32)) shapeCasts_S1024x1_S1024x1) broadcasts_S1024x1_S1024x256) y

/-- One head's columns of the tile. -/
def head : FVec Ideal S1024x256 .bf16 :=
  truncf .bf16 (place 130#32 (rest (rest (sums a b))) (place 129#32 (rest (sums a b)) (place 128#32 (sums a b)
    (extf .f32 (truncf .bf16 a bitsLt_bf16_f32) bitsLt_bf16_f32)))) bitsLt_bf16_f32

theorem sums_apply (p : Fin 1024) (z : Fin 1) : sums a b (ix2 p z) = ∑ e, a (ix2 p e) * b (ix2 p e) := by
  unfold sums
  pointwise

theorem rest_apply (x : FVec Ideal S1024x1 .f32) (p : Fin 1024) (z : Fin 1) : rest x (ix2 p z) = x (ix2 p z) - x (ix2 p z) := by
  unfold rest
  pointwise

theorem place_apply (n : ℕ) (hn : n < 256) (x : FVec Ideal S1024x1 .f32) (y : FVec Ideal S1024x256 .f32) (p : Fin 1024) (d : Fin 256) :
    place (BitVec.ofNat 32 n) x y (ix2 p d) = if d.val = n then x (ix2 p 0) else y (ix2 p d) := by
  rw [← select_eq d n hn]
  unfold place
  pointwise

theorem head_apply (p : Fin 1024) (d : Fin 256) : head a b (ix2 p d) = packed (fun e => a (ix2 p e)) (fun e => b (ix2 p e)) d := by
  unfold head packed
  refine (place_apply 130 (by omega) _ _ p d).trans ?_
  rw [place_apply 129 (by omega), place_apply 128 (by omega), rest_apply, rest_apply, sums_apply]
  rfl
end

/-! ## The whole tile -/

/-- Head `h` of 2048 columns. -/
def cols (φ : FTy) (y : FVec Ideal S1024x2048 φ) (h : Fin 8) : FVec Ideal S1024x256 φ := fun i => y (ix2 (i 0) ⟨h.val * 256 + (i 1).val, by have := (i 1).isLt; dsimp at this; omega⟩)

theorem slice_eq {φ : FTy} (y : FVec Ideal S1024x2048 φ) (h : Fin 8) (off : Fin 2 → ℕ) (e0 : off 0 = 0) (e1 : off 1 = h.val * 256)
    (hs : S1024x2048.Slices off S1024x256) : extractStridedSlice S1024x256 off y hs = cols φ y h := by
  funext i
  refine congrArg y (Norm2Pf.ext2 ?_ ?_)
  · show off 0 + (i 0).val = (i 0).val
    omega
  · show off 1 + (i 1).val = h.val * 256 + (i 1).val
    omega

set_option maxHeartbeats 2000000 in
theorem concat_apply (f : Fin 8 → FVec Ideal S1024x256 .bf16) (p : Fin 1024) (h : Fin 8) (d : Fin 256) :
    concatenate S1024x2048 1 [⟨S1024x256, f 0⟩, ⟨S1024x256, f 1⟩, ⟨S1024x256, f 2⟩, ⟨S1024x256, f 3⟩, ⟨S1024x256, f 4⟩, ⟨S1024x256, f 5⟩, ⟨S1024x256, f 6⟩, ⟨S1024x256, f 7⟩]
      concatenates_S1024x256_S1024x256_S1024x256_S1024x256_S1024x256_S1024x256_S1024x256_S1024x256_S1024x2048_d1 (ix2 p ⟨h.val * 256 + d.val, by omega⟩)
      = f h (ix2 p d) := by
  pointwise
  fin_cases h <;> simp only [] <;> (split_ifs <;> first | (exfalso; omega) | (refine congrArg (f _) (congrArg (ix2 p) (Fin.ext ?_)); dsimp only; omega))

section
variable (x0 : Vec Ideal S1024x1024 .bf16) (x1 : Vec Ideal S2048x1024 .bf16) (x2 : Vec Ideal S1024x2048 .bf16)

theorem prod_apply (p : Fin 1024) (q : Fin 2048) : k0_pay2 x0 x1 (ix2 p q) = ∑ k : Fin 1024, x0 (ix2 p k) * x1 (ix2 q k) := by
  unfold k0_pay2
  pointwise

theorem keep_eq : k0_pay3 x2 = x2 := by
  unfold k0_pay3
  funext i
  rw [eq_ix2 i]
  pointwise

/-- Head `h` of the tile made from the product and the context. -/
def part (P : FVec Ideal S1024x2048 .f32) (B : FVec Ideal S1024x2048 .bf16) (h : Fin 8) : FVec Ideal S1024x256 .bf16 := head (cols .f32 P h) (cols .bf16 B h)

theorem out_eq : out0_3 x0 x1 x2 = concatenate S1024x2048 1 [⟨S1024x256, part (k0_pay2 x0 x1) (k0_pay3 x2) 0⟩, ⟨S1024x256, part (k0_pay2 x0 x1) (k0_pay3 x2) 1⟩,
    ⟨S1024x256, part (k0_pay2 x0 x1) (k0_pay3 x2) 2⟩, ⟨S1024x256, part (k0_pay2 x0 x1) (k0_pay3 x2) 3⟩, ⟨S1024x256, part (k0_pay2 x0 x1) (k0_pay3 x2) 4⟩,
    ⟨S1024x256, part (k0_pay2 x0 x1) (k0_pay3 x2) 5⟩, ⟨S1024x256, part (k0_pay2 x0 x1) (k0_pay3 x2) 6⟩, ⟨S1024x256, part (k0_pay2 x0 x1) (k0_pay3 x2) 7⟩]
      concatenates_S1024x256_S1024x256_S1024x256_S1024x256_S1024x256_S1024x256_S1024x256_S1024x256_S1024x2048_d1 := by
  unfold out0_3
  rw [View.canon_unit_zero (S := S1024x2048) NormBlock.hz, View.ld_unit_zero (S := S1024x1024) NormBlock.hz, View.ld_unit_zero (S := S2048x1024) NormBlock.hz,
    View.ld_unit_zero (S := S1024x2048) NormBlock.hz]
  have e4 : k0_pay44 x0 x1 x2 = k0_pay2 x0 x1 := by
    unfold k0_pay44
    rw [View.ld_unit_zero (S := S1024x1024) NormBlock.hz, View.ld_unit_zero (S := S2048x1024) NormBlock.hz]
  have e5 : k0_pay45 x0 x1 x2 = k0_pay3 x2 := by
    unfold k0_pay45
    rw [View.ld_unit_zero (S := S1024x2048) NormBlock.hz]
  rw [e4, e5]
  unfold part
  rw [← slice_eq (k0_pay2 x0 x1) 0 ![0, 0] rfl rfl slices_S1024x2048_o0_0_S1024x256, ← slice_eq (k0_pay3 x2) 0 ![0, 0] rfl rfl slices_S1024x2048_o0_0_S1024x256,
    ← slice_eq (k0_pay2 x0 x1) 1 ![0, 256] rfl rfl slices_S1024x2048_o0_256_S1024x256, ← slice_eq (k0_pay3 x2) 1 ![0, 256] rfl rfl slices_S1024x2048_o0_256_S1024x256,
    ← slice_eq (k0_pay2 x0 x1) 2 ![0, 512] rfl rfl slices_S1024x2048_o0_512_S1024x256, ← slice_eq (k0_pay3 x2) 2 ![0, 512] rfl rfl slices_S1024x2048_o0_512_S1024x256,
    ← slice_eq (k0_pay2 x0 x1) 3 ![0, 768] rfl rfl slices_S1024x2048_o0_768_S1024x256, ← slice_eq (k0_pay3 x2) 3 ![0, 768] rfl rfl slices_S1024x2048_o0_768_S1024x256,
    ← slice_eq (k0_pay2 x0 x1) 4 ![0, 1024] rfl rfl slices_S1024x2048_o0_1024_S1024x256, ← slice_eq (k0_pay3 x2) 4 ![0, 1024] rfl rfl slices_S1024x2048_o0_1024_S1024x256,
    ← slice_eq (k0_pay2 x0 x1) 5 ![0, 1280] rfl rfl slices_S1024x2048_o0_1280_S1024x256, ← slice_eq (k0_pay3 x2) 5 ![0, 1280] rfl rfl slices_S1024x2048_o0_1280_S1024x256,
    ← slice_eq (k0_pay2 x0 x1) 6 ![0, 1536] rfl rfl slices_S1024x2048_o0_1536_S1024x256, ← slice_eq (k0_pay3 x2) 6 ![0, 1536] rfl rfl slices_S1024x2048_o0_1536_S1024x256,
    ← slice_eq (k0_pay2 x0 x1) 7 ![0, 1792] rfl rfl slices_S1024x2048_o0_1792_S1024x256, ← slice_eq (k0_pay3 x2) 7 ![0, 1792] rfl rfl slices_S1024x2048_o0_1792_S1024x256]
  rfl

/-- The tile at a column of a head. -/
theorem out_apply (p : Fin 1024) (h : Fin 8) (d : Fin 256) : out0_3 x0 x1 x2 (ix2 p ⟨h.val * 256 + d.val, by omega⟩)
    = packed (fun e => ∑ k : Fin 1024, x0 (ix2 p k) * x1 (ix2 ⟨h.val * 256 + e.val, by omega⟩ k)) (fun e => x2 (ix2 p ⟨h.val * 256 + e.val, by omega⟩)) d := by
  rw [out_eq]
  refine (concat_apply (part (k0_pay2 x0 x1) (k0_pay3 x2)) p h d).trans ?_
  refine (head_apply _ _ p d).trans ?_
  rw [keep_eq]
  exact congrArg (fun f => packed f _ d) (funext fun e => prod_apply x0 x1 p _)
end

end Cert.CtxPf

end
-- ==== Proof.CtxValue.lean ====
/- The gradient of a context with its row sums: the result arrays as functions of the arguments. -/
module

public import proofs.«01_k».proof.Proof.CtxTile
public import proofs.«01_k».proof.Proof.Gen.CtxRefIdeal.Read

@[expose] public section

set_option maxRecDepth 16384

noncomputable section

namespace Cert.CtxPf

open Cert.CtxIdeal Cert.CtxIdeal.Gen Idealize.ShloMosaic Idealize.ShloMosaic.TcCoe Idealize.SL.Sem
open Cert.Norm2Pf (ext2)

variable (m : (ℓ : Loc nD τ sig) → Buf (Elt Ideal) ℓ) (ρ : Dev nD → PrngReg)

abbrev Q (c : Dev nD) : S8192x8x192.Idx → EReal := m ((c : Thread nD τ).loc main_arg0)
abbrev KN (c : Dev nD) : S8192x8x128.Idx → EReal := m ((c : Thread nD τ).loc main_arg1)
abbrev KR (c : Dev nD) : S8192x64.Idx → EReal := m ((c : Thread nD τ).loc main_arg2)
abbrev VL (c : Dev nD) : S8192x8x128.Idx → EReal := m ((c : Thread nD τ).loc main_arg3)
abbrev WO (c : Dev nD) : S1024x1024.Idx → EReal := m ((c : Thread nD τ).loc main_arg4)
abbrev CT (c : Dev nD) : S8192x1024.Idx → EReal := m ((c : Thread nD τ).loc main_arg5)

theorem sitofp_zero : (FloatOps.sitofp .bf16 0#32 : Ideal .bf16) = 0 := by
  show ((((0#32 : BitVec 32).toInt : ℤ) : ℝ) : EReal) = 0
  simp

theorem keep_if {β : Type} (g : Fin 8 → Fin 128 → β) (h : Fin 8) (d : Fin 256) (z z' : β) (hz : z = z') :
    (if h1 : d.val < 128 then g ⟨(h.val * 128 + d.val) / 128, by omega⟩ ⟨(h.val * 128 + d.val) % 128, by omega⟩ else z)
      = if hd : d.val < 128 then g h ⟨d.val, hd⟩ else z' := by
  by_cases hd : d.val < 128
  · rw [dif_pos hd, dif_pos hd]
    congr 1 <;> exact Fin.ext (by dsimp only; omega)
  · rw [dif_neg hd, dif_neg hd, hz]

theorem ext3 {a b c : ℕ} {u v : (⟨3, ![a, b, c]⟩ : Shape).Idx} (h0 : (u 0).val = (v 0).val) (h1 : (u 1).val = (v 1).val) (h2 : (u 2).val = (v 2).val) : u = v := by
  funext i
  match i with
  | ⟨0, _⟩ => exact Fin.ext h0
  | ⟨1, _⟩ => exact Fin.ext h1
  | ⟨2, _⟩ => exact Fin.ext h2

/-- The context, by the forward lines. -/
abbrev ctx (c : Dev nD) : S8192x8x128.Idx → EReal := Cert.CtxRefIdeal.Read.val_main_v28 (F := Ideal) (Q m c) (KN m c) (KR m c) (VL m c)

/-- The operations up to the context. -/
abbrev Wctx (c : Dev nD) : Valuation τ sig (Elt Ideal) :=
  StableHlo.after (hostOps0_2.take 16) (StableHlo.after hostOps0_1 (StableHlo.after hostOps0 (fun b => m (c, b))))

theorem host_ctx (c : Dev nD) : Wctx m c (Proc.devRef .tc main_v28) = ctx m c := by
  unfold Wctx
  simp only [List.take]
  after_results_simp
  simp only [StableHlo.TRef.toBuf, StableHlo.TRef.ofBuf, cast_eq, id]
  rfl

theorem host_arg4 (c : Dev nD) : StableHlo.after (hostOps0_2.drop 16) (Wctx m c) (Proc.devRef .tc main_arg4) = WO m c := by
  unfold Wctx
  simp only [List.drop, List.take]
  after_results_simp

theorem host_arg5 (c : Dev nD) : StableHlo.after (hostOps0_2.drop 16) (Wctx m c) (Proc.devRef .tc main_arg5) = CT m c := by
  unfold Wctx
  simp only [List.drop, List.take]
  after_results_simp

theorem V_split (c : Dev nD) : V0 m c = StableHlo.after hostOps0_6 (StableHlo.after hostOps0_5 (StableHlo.after hostOps0_4 (StableHlo.after hostOps0_3
    (StableHlo.after (hostOps0_2.drop 16) (Wctx m c))))) := by
  unfold Wctx V0
  rw [← StableHlo.after_append (List.take 16 _), List.take_append_drop]
  simp only [List.flatten_cons, List.flatten_nil, StableHlo.after_append, List.append_nil]

/-- The packed context at a column of a head. -/
theorem host_o (c : Dev nD) (i : Fin 8192) (h : Fin 8) (d : Fin 256) (hc : h.val * 256 + d.val < 2048) :
    V m c main_v33 (ix2 i ⟨h.val * 256 + d.val, hc⟩) = if hd : d.val < 128 then ctx m c (ix3 i h ⟨d.val, hd⟩) else 0 := by
  show V0 m c (Proc.devRef .tc main_v33) _ = _
  rw [V_split, ← host_ctx m c]
  generalize Wctx m c = W
  simp only [List.drop]
  after_results_simp
  simp only [StableHlo.TRef.toBuf, StableHlo.TRef.ofBuf, cast_eq, id]
  pointwise
  exact keep_if (fun a b => W (Proc.tc.devRef main_v28) (ix3 i a b)) h d _ _ sitofp_zero

/-- The padded weight at a row of a head. -/
theorem host_w (c : Dev nD) (h : Fin 8) (d : Fin 256) (hc : h.val * 256 + d.val < 2048) (k : Fin 1024) :
    V m c main_v38 (ix2 ⟨h.val * 256 + d.val, hc⟩ k) = if hd : d.val < 128 then WO m c (ix2 ⟨h.val * 128 + d.val, by omega⟩ k) else 0 := by
  show V0 m c (Proc.devRef .tc main_v38) _ = _
  rw [V_split, ← host_arg4]
  generalize StableHlo.after (hostOps0_2.drop 16) (Wctx m c) = W
  after_results_simp
  simp only [StableHlo.TRef.toBuf, StableHlo.TRef.ofBuf, cast_eq, id]
  pointwise
  by_cases hd : d.val < 128
  · rw [dif_pos hd, dif_pos hd]
  · rw [dif_neg hd, dif_neg hd]
    exact sitofp_zero

theorem host_ct (c : Dev nD) (i : Fin 8192) (k : Fin 1024) : V m c main_v34 (ix2 i k) = CT m c (ix2 i k) := by
  show V0 m c (Proc.devRef .tc main_v34) _ = _
  rw [V_split, ← host_arg5]
  generalize StableHlo.after (hostOps0_2.drop 16) (Wctx m c) = W
  after_results_simp
  pointwise

/-- The gradient of the context, and zero in the columns behind it. -/
def grad (c : Dev nD) (i : Fin 8192) (h : Fin 8) (d : Fin 256) : EReal :=
  if hd : d.val < 128 then ∑ k : Fin 1024, CT m c (ix2 i k) * WO m c (ix2 ⟨h.val * 128 + d.val, by omega⟩ k) else 0

def ctxCol (c : Dev nD) (i : Fin 8192) (h : Fin 8) (d : Fin 256) : EReal := if hd : d.val < 128 then ctx m c (ix3 i h ⟨d.val, hd⟩) else 0

/-- The region's whole array. -/
def whole (c : Dev nD) : S8192x2048.Idx → EReal := fun i =>
  packed (grad m c (i 0) ⟨(i 1).val / 256, by have := (i 1).isLt; dsimp at this; omega⟩) (ctxCol m c (i 0) ⟨(i 1).val / 256, by have := (i 1).isLt; dsimp at this; omega⟩)
    ⟨(i 1).val % 256, by omega⟩

theorem whole_apply (c : Dev nD) (i : Fin 8192) (h : Fin 8) (d : Fin 256) (hc : h.val * 256 + d.val < 2048) :
    whole m c (ix2 i ⟨h.val * 256 + d.val, hc⟩) = packed (grad m c i h) (ctxCol m c i h) d := by
  have e1 : (⟨(h.val * 256 + d.val) / 256, by omega⟩ : Fin 8) = h := Fin.ext (by dsimp only; omega)
  have e2 : (⟨(h.val * 256 + d.val) % 256, by omega⟩ : Fin 256) = d := Fin.ext (by dsimp only; omega)
  show packed (grad m c i ⟨(h.val * 256 + d.val) / 256, _⟩) (ctxCol m c i ⟨(h.val * 256 + d.val) / 256, _⟩) ⟨(h.val * 256 + d.val) % 256, _⟩ = _
  rw [e1, e2]

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ win0_3.index t 0 = t.val ∧ win0_3.index t 1 = 0 := by
  show ∀ t : Fin grid0.N, _
  decide +kernel

set_option maxHeartbeats 2000000 in
theorem final (c : Dev nD) : (dats m 0 c).arrAt 3 (cfgs 0).N = whole m c :=
  (dats m 0 c).arrAt_eq_of_cover 3 (whole m c)
    (fun t _ => by
      obtain ⟨h0, h1, h2, h3⟩ := idx t
      have ht : t.val < 8 := t.isLt
      show (cfg0.win 3).cut (grid0.coords t) ((dats m 0 c).after 3 t) = _
      rw [after0_3]
      funext j
      obtain ⟨p, q, rfl⟩ : ∃ (p : Fin 1024) (q : Fin 2048), j = ix2 p q := ⟨j 0, j 1, eq_ix2 j⟩
      obtain ⟨h, d, hc, rfl⟩ : ∃ (h : Fin 8) (d : Fin 256) (hc : h.val * 256 + d.val < 2048), q = ⟨h.val * 256 + d.val, hc⟩ :=
        ⟨⟨q.val / 256, by omega⟩, ⟨q.val % 256, by omega⟩, by dsimp only; omega, Fin.ext (by dsimp only; omega)⟩
      refine (out_apply _ _ _ p h d).trans ?_
      have e0 : ∀ k, iblk m c 0 t (ix2 p k) = CT m c (ix2 ⟨t.val * 1024 + p.val, by omega⟩ k) := fun k => by
        refine Eq.trans ?_ (host_ct m c _ k)
        refine congrArg (V m c main_v34) (ext2 ?_ ?_)
        · show win0_0.index t 0 * 1024 + 1 * p.val = t.val * 1024 + p.val; omega
        · show win0_0.index t 1 * 1024 + 1 * k.val = k.val; omega
      have e1 : ∀ (e : Fin 256) k, iblk m c 1 t (ix2 ⟨h.val * 256 + e.val, by omega⟩ k)
          = if hd : e.val < 128 then WO m c (ix2 ⟨h.val * 128 + e.val, by omega⟩ k) else 0 := fun e k => by
        refine Eq.trans ?_ (host_w m c h e (by omega) k)
        refine congrArg (V m c main_v38) (ext2 ?_ ?_)
        · show win0_1.index t 0 * 2048 + 1 * (h.val * 256 + e.val) = h.val * 256 + e.val; omega
        · show win0_1.index t 1 * 1024 + 1 * k.val = k.val; omega
      have e2 : ∀ e : Fin 256, iblk m c 2 t (ix2 p ⟨h.val * 256 + e.val, by omega⟩) = ctxCol m c ⟨t.val * 1024 + p.val, by omega⟩ h e := fun e => by
        refine Eq.trans ?_ (host_o m c _ h e (by omega))
        refine congrArg (V m c main_v33) (ext2 ?_ ?_)
        · show win0_2.index t 0 * 1024 + 1 * p.val = t.val * 1024 + p.val; omega
        · show win0_2.index t 1 * 2048 + 1 * (h.val * 256 + e.val) = h.val * 256 + e.val; omega
      refine Eq.trans (congrArg₂ (fun f g => packed f g d) (funext fun e => ?_) (funext e2)) ((whole_apply m c ⟨t.val * 1024 + p.val, by omega⟩ h d hc).symm.trans
        (congrArg (whole m c) (ext2 ?_ ?_)))
      · simp only [e0, e1]
        unfold grad
        by_cases hd : e.val < 128
        · simp only [dif_pos hd]
        · simp only [dif_neg hd, mul_zero, Finset.sum_const_zero]
      · show t.val * 1024 + p.val = win0_3.index t 0 * 1024 + 1 * p.val; omega
      · show h.val * 256 + d.val = win0_3.index t 1 * 2048 + 1 * (h.val * 256 + d.val); omega)
    (fun i => ⟨⟨(i 0).val / 1024, by have h : (i 0).val < 8192 := (i 0).isLt; show _ < 8; omega⟩, flush0_3 _, by
      have hi0 : (i 0).val < 8192 := (i 0).isLt
      have hi1 : (i 1).val < 2048 := (i 1).isLt
      generalize ht : (⟨(i 0).val / 1024, _⟩ : Fin cfg0.N) = t
      have hv : t.val = (i 0).val / 1024 := by rw [← ht]
      obtain ⟨-, -, -, h3⟩ := idx t
      show i ∈ ((View.whole main_v39).slice (win0_3.rect t)).set
      rw [View.set_slice_whole, Rect.mem_set_unit]
      intro a
      match a with
      | ⟨0, _⟩ => show win0_3.index t 0 * 1024 ≤ (i 0 : Nat) ∧ (i 0 : Nat) < win0_3.index t 0 * 1024 + 1024; omega
      | ⟨1, _⟩ => show win0_3.index t 1 * 2048 ≤ (i 1 : Nat) ∧ (i 1 : Nat) < win0_3.index t 1 * 2048 + 2048; omega⟩)

/-- The gradient of the context, and its row sums with it, at every row and head. -/
def gradArr (c : Dev nD) : S8192x8x128.Idx → EReal := fun i =>
  ∑ k : Fin 1024, CT m c (ix2 (i 0) k) * WO m c (ix2 ⟨(i 1).val * 128 + (i 2).val, by
    have h1 : (i 1).val < 8 := (i 1).isLt
    have h2 : (i 2).val < 128 := (i 2).isLt
    omega⟩ k)

def sumArr (c : Dev nD) : S8192x8.Idx → EReal := fun i => ∑ d : Fin 128, gradArr m c (ix3 (i 0) (i 1) d) * ctx m c (ix3 (i 0) (i 1) d)

/-- The row sum over the columns with a padding. -/
theorem sum_pad (c : Dev nD) (i : Fin 8192) (h : Fin 8) : ∑ e, grad m c i h e * ctxCol m c i h e = sumArr m c (ix2 i h) := by
  refine (Fin.sum_univ_add (a := 128) (b := 128) (fun e : Fin 256 => grad m c i h e * ctxCol m c i h e)).trans ?_
  refine (congrArg₂ (· + ·) (Finset.sum_congr rfl fun e _ => ?_) (Finset.sum_eq_zero fun e _ => ?_)).trans (add_zero _)
  · unfold grad ctxCol
    rw [dif_pos (show (Fin.castAdd 128 e).val < 128 from e.isLt), dif_pos (show (Fin.castAdd 128 e).val < 128 from e.isLt)]
    rfl
  · unfold grad
    rw [dif_neg (show ¬(Fin.natAdd 128 e).val < 128 by simp), zero_mul]

/-- The region's array after the region. -/
abbrev Wend (c : Dev nD) : Valuation τ sig (Elt Ideal) :=
  Pipeline.withArrays (cfgs 0).spec c (V0 m c) (fun w => (dats m 0 c).arrAt w (cfgs 0).N)

theorem Wend_out (c : Dev nD) : Wend m c (Proc.devRef .tc main_v39) = whole m c :=
  (Pipeline.withArrays_arr (cfgs 0).spec launch0.win.arr_inj c (V0 m c) (fun w => (dats m 0 c).arrAt w (cfgs 0).N) (3 : Fin 4)).trans (final m c)

theorem res_grad (c : Dev nD) : StableHlo.after hostOps1 (Wend m c) (Proc.devRef .tc main_v41) = gradArr m c := by
  have e := Wend_out m c
  generalize Wend m c = W at e
  after_results_simp
  rw [e]
  funext i
  obtain ⟨a, h, d, rfl⟩ : ∃ (a : Fin 8192) (h : Fin 8) (d : Fin 128), i = ix3 a h d := ⟨i 0, i 1, i 2, eq_ix3 i⟩
  pointwise
  refine (whole_apply m c a h ⟨d.val, by omega⟩ (by dsimp only; omega)).trans ?_
  unfold packed grad
  rw [if_neg (by dsimp only; omega), if_neg (by dsimp only; omega), if_neg (by dsimp only; omega)]
  exact dif_pos d.isLt

theorem res_sum (c : Dev nD) (hr : ∀ i, ∃ r : ℝ, sumArr m c i = r) : StableHlo.after hostOps1 (Wend m c) (Proc.devRef .tc main_v44) = sumArr m c := by
  have e := Wend_out m c
  generalize Wend m c = W at e
  after_results_simp
  rw [e]
  funext i
  obtain ⟨a, h, rfl⟩ : ∃ (a : Fin 8192) (h : Fin 8), i = ix2 a h := ⟨i 0, i 1, eq_ix2 i⟩
  pointwise
  obtain ⟨r, hr⟩ := hr (ix2 a h)
  have e (y : Fin 3) : whole m c (ix2 a ⟨h.val * 256 + (128 + y.val), by omega⟩) = if y.val = 0 then (r : EReal) else 0 := by
    refine (whole_apply m c a h ⟨128 + y.val, by omega⟩ (by dsimp only; omega)).trans ?_
    unfold packed
    rw [sum_pad, hr, ← EReal.coe_sub, ← EReal.coe_sub, sub_self, sub_self]
    fin_cases y <;> rfl
  simp only [e]
  rw [hr, Fin.sum_univ_three]
  simp

theorem run (hr : ∀ c i, ∃ r : ℝ, sumArr m c i = r) :
    θ_run (defs (F := Ideal)) (onTc (τ := τ) (main (F := Ideal))) ⟨m, fun _ => 0, ρ⟩ (fun r => ∀ c : Dev nD,
      r.2.mem ((c.tc : Thread nD τ).loc main_v41) = gradArr m c ∧ r.2.mem ((c.tc : Thread nD τ).loc main_v44) = sumArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run _ _ _).mono ?_ (θ_run_and (unchanged m ρ) (run_main m ρ))
  intro r h c
  exact ⟨((h.2 c).2 main_v41 (Pipeline.mem_restRefs_of main_v41 (by decide) (by decide))).trans (res_grad m c),
    ((h.2 c).2 main_v44 (Pipeline.mem_restRefs_of main_v44 (by decide) (by decide))).trans (res_sum m c (hr c)), h.1 c⟩

end Cert.CtxPf

end
-- ==== Proof.CtxClaims.lean ====
/- The gradient of a context with its row sums: the claims. -/
module

public import proofs.«01_k».proof.Proof.CtxValue
public import proofs.«01_k».proof.Proof.MlaClaims
public import proofs.«01_k».proof.Proof.Gen.Ctx.Frame
public import proofs.«01_k».proof.Proof.Gen.Pre_ctx_finite

@[expose] public section

set_option maxRecDepth 16384

noncomputable section

namespace Cert.CtxPf

open Cert.CtxRefIdeal.Read Cert.Tiles Idealize.ShloMosaic Idealize.SL.Sem

section
variable (x0 : (⟨3, ![8192, 8, 192]⟩ : Shape).Idx → EReal) (x1 : (⟨3, ![8192, 8, 128]⟩ : Shape).Idx → EReal) (x2 : (⟨2, ![8192, 64]⟩ : Shape).Idx → EReal)
  (x3 : (⟨3, ![8192, 8, 128]⟩ : Shape).Idx → EReal) (h : Fin 8) (i x : Fin 8192)

theorem at15 : val_main_v15 (F := Ideal) x0 x1 x2 (ix3 h i x) = Mla.logit x0 x1 x2 h i x := by
  unfold val_main_v15 val_main_call0_v1 val_main_v14 val_main_v12 val_main_v13 val_main_v10 val_main_v11 val_main_v9 val_main_v8 val_main_v7 val_main_cst val_main_v6 val_main_v5 val_main_v4
    val_main_v3 val_main_v2 val_main_v1 val_main_v0 val_main_call0_v2 val_main_call0_v0 val_main_cst_0
  pointwise
  exact Mla.select_sle x i _ _

theorem row15 : Mla.logitRow (val_main_v15 (F := Ideal) x0 x1 x2) h i = Mla.logit x0 x1 x2 h i := funext fun x => at15 x0 x1 x2 h i x

theorem at16 : val_main_v16 (F := Ideal) x0 x1 x2 (ix2 h i) = rowTop (Mla.logit x0 x1 x2 h i) := by
  rw [← row15]
  unfold val_main_v16 val_main_cst_1
  generalize val_main_v15 (F := Ideal) x0 x1 x2 = S
  pointwise
  rfl

theorem at18 : val_main_v18 (F := Ideal) x0 x1 x2 (ix2 h i) = max (Ideal.ofBits .f32 0xFF800000#32) (val_main_v16 (F := Ideal) x0 x1 x2 (ix2 h i)) := by
  rw [val_main_v18_apply, Ideal.maximumf_def, val_main_v17_apply, val_main_cst_2_apply]
  rfl

theorem at22 : val_main_v22 (F := Ideal) x0 x1 x2 (ix3 h i x)
    = Ideal.exp (val_main_v15 (F := Ideal) x0 x1 x2 (ix3 h i x) - val_main_v18 (F := Ideal) x0 x1 x2 (ix2 h i)) := by
  unfold val_main_v22 val_main_v21 val_main_v20 val_main_v19
  generalize val_main_v15 (F := Ideal) x0 x1 x2 = S
  generalize val_main_v18 (F := Ideal) x0 x1 x2 = T
  pointwise

theorem at23 : val_main_v23 (F := Ideal) x0 x1 x2 (ix2 h i) = ∑ x, val_main_v22 (F := Ideal) x0 x1 x2 (ix3 h i x) := by
  unfold val_main_v23 val_main_cst_3
  generalize val_main_v22 (F := Ideal) x0 x1 x2 = S
  pointwise

theorem at28 (e : Fin 128) : val_main_v28 (F := Ideal) x0 x1 x2 x3 (ix3 i h e)
    = ∑ x, x3 (ix3 x h e) * Ideal.div (val_main_v22 (F := Ideal) x0 x1 x2 (ix3 h i x)) (val_main_v23 (F := Ideal) x0 x1 x2 (ix2 h i)) := by
  unfold val_main_v28 val_main_v27 val_main_v26 val_main_v25 val_main_v24
  generalize val_main_v22 (F := Ideal) x0 x1 x2 = S
  generalize val_main_v23 (F := Ideal) x0 x1 x2 = T
  pointwise
end

section
variable (q : (⟨3, ![8192, 8, 192]⟩ : Shape).Idx → ℝ) (kn : (⟨3, ![8192, 8, 128]⟩ : Shape).Idx → ℝ) (kr : (⟨2, ![8192, 64]⟩ : Shape).Idx → ℝ)
  (v : (⟨3, ![8192, 8, 128]⟩ : Shape).Idx → ℝ)

/-- The context of real arguments is real. -/
theorem ctx_real (h : Fin 8) (i : Fin 8192) (e : Fin 128) :
    ∃ r : ℝ, val_main_v28 (F := Ideal) (fun j => (q j : EReal)) (fun j => (kn j : EReal)) (fun j => (kr j : EReal)) (fun j => (v j : EReal)) (ix3 i h e) = r := by
  obtain ⟨σ, hσ⟩ := Mla.scale_real
  obtain ⟨w, T, L, S⟩ := soft_exists i (Mla.score q kn kr σ h i) _ (Mla.logit_real q kn kr σ h i · hσ)
  have e22 (x : Fin 8192) : val_main_v22 (F := Ideal) (fun j => (q j : EReal)) (fun j => (kn j : EReal)) (fun j => (kr j : EReal)) (ix3 h i x) = w x := by
    rw [at22, at15, at18, at16, S.top]
    exact S.exp x
  refine ⟨∑ x, v (ix3 x h e) * (w x / T), ?_⟩
  rw [at28, at23, ← Reals.coe_sum]
  refine Finset.sum_congr rfl fun x _ => ?_
  rw [EReal.coe_mul, e22]
  simp only [e22]
  rw [Reals.coe_sum, ← S.sum, Reals.div_coe_coe _ S.pos.ne']
end

/-- The sum of real products. -/
theorem sum_real {n : ℕ} (f g : Fin n → EReal) (hf : ∀ k, ∃ r : ℝ, f k = r) (hg : ∀ k, ∃ r : ℝ, g k = r) : ∃ r : ℝ, ∑ k, f k * g k = r := by
  choose a ha using hf
  choose b hb using hg
  exact ⟨∑ k, a k * b k, by rw [← Reals.coe_sum]; exact Finset.sum_congr rfl fun k _ => by rw [ha, hb, EReal.coe_mul]⟩

theorem at33 (w : (⟨2, ![1024, 1024]⟩ : Shape).Idx → EReal) (ct : (⟨2, ![8192, 1024]⟩ : Shape).Idx → EReal) (i : Fin 8192) (h : Fin 8) (d : Fin 128) :
    val_main_v33 (F := Ideal) w ct (ix3 i h d) = ∑ k : Fin 1024, ct (ix2 i k) * w (ix2 ⟨h.val * 128 + d.val, by omega⟩ k) := by
  unfold val_main_v33 val_main_v32 val_main_v31
  pointwise

theorem at35 (x0 : (⟨3, ![8192, 8, 192]⟩ : Shape).Idx → EReal) (x1 : (⟨3, ![8192, 8, 128]⟩ : Shape).Idx → EReal) (x2 : (⟨2, ![8192, 64]⟩ : Shape).Idx → EReal)
    (x3 : (⟨3, ![8192, 8, 128]⟩ : Shape).Idx → EReal) (w : (⟨2, ![1024, 1024]⟩ : Shape).Idx → EReal) (ct : (⟨2, ![8192, 1024]⟩ : Shape).Idx → EReal) (i : Fin 8192) (h : Fin 8) :
    val_main_v35 (F := Ideal) x0 x1 x2 x3 w ct (ix2 i h) = ∑ d, val_main_v33 (F := Ideal) w ct (ix3 i h d) * val_main_v28 (F := Ideal) x0 x1 x2 x3 (ix3 i h d) := by
  unfold val_main_v35 val_main_v34 val_main_v33 val_main_cst_4
  generalize val_main_v28 (F := Ideal) x0 x1 x2 x3 = S
  generalize val_main_v32 (F := Ideal) w ct = T
  pointwise

theorem frame : Cert.quiescent_Ctx := fun m ρ _ => Cert.Ctx.Gen.frame m ρ
theorem frame_ideal : Cert.quiescent_CtxIdeal := fun m ρ _ => Cert.CtxIdeal.Gen.frame m ρ
theorem frame_ideal_pre : Cert.quiescent_CtxIdeal_pre_ctx_finite := fun m ρ _ => Cert.CtxIdeal.Gen.frame m ρ

theorem frame_ref : Cert.quiescent_CtxRefIdeal := fun m ρ _ =>
  (θ_run Cert.CtxRefIdeal.defs _ _).mono (fun r h => ⟨fun c => (h c).2.2, sem_eq_zero_of_no_sems (by decide) r.2⟩)
    (Cert.CtxRefIdeal.Value.run (F := Ideal) m ρ)
theorem frame_ref_pre : Cert.quiescent_CtxRefIdeal_pre_ctx_finite := fun m ρ _ => frame_ref m ρ trivial

theorem preserves : Cert.preserves_Ctx_CtxIdeal := trivial

open Cert.NormClaims (finite)
open MlaClaims (real_array)

theorem value : Cert.algebraic_CtxIdeal_CtxRefIdeal_pre_ctx_finite := by
  intro m ρ m' ρ' hpre hag
  have hr : ∀ c i, ∃ r : ℝ, sumArr m c i = r := fun c i => by
    obtain ⟨q, hq⟩ := real_array (finite (s := ⟨3, ![8192, 8, 192]⟩) (Q m c) _ (fun _ => rfl) (hpre c).1)
    obtain ⟨kn, hkn⟩ := real_array (finite (s := ⟨3, ![8192, 8, 128]⟩) (KN m c) _ (fun _ => rfl) (hpre c).2.1)
    obtain ⟨kr, hkr⟩ := real_array (finite (s := ⟨2, ![8192, 64]⟩) (KR m c) _ (fun _ => rfl) (hpre c).2.2.1)
    obtain ⟨v, hv⟩ := real_array (finite (s := ⟨3, ![8192, 8, 128]⟩) (VL m c) _ (fun _ => rfl) (hpre c).2.2.2.1)
    obtain ⟨w, hw⟩ := real_array (finite (s := ⟨2, ![1024, 1024]⟩) (WO m c) _ (fun _ => rfl) (hpre c).2.2.2.2.1)
    obtain ⟨ct, hct⟩ := real_array (finite (s := ⟨2, ![8192, 1024]⟩) (CT m c) _ (fun _ => rfl) (hpre c).2.2.2.2.2)
    refine sum_real _ _ (fun d => sum_real _ _ (fun k => ⟨_, congrFun hct _⟩) (fun k => ⟨_, congrFun hw _⟩)) (fun d => ?_)
    unfold ctx
    rw [hq, hkn, hkr, hv]
    exact ctx_real q kn kr v _ _ d
  refine ⟨fun c => gradArr m c, fun c => sumArr m c, run m ρ hr, (θ_run _ _ _).mono (fun _ h c => ?_) (Cert.CtxRefIdeal.Value.run m' ρ')⟩
  obtain ⟨a0, a1, a2, a3, a4, a5⟩ := hag c
  refine ⟨(h c).1.trans ?_, (h c).2.1.trans ?_, (h c).2.2⟩
  · refine (val_main_v33_eq ..).trans ?_
    rw [a4, a5]
    funext i
    rw [eq_ix3 i]
    exact at33 _ _ _ _ _
  · refine (val_main_v35_eq ..).trans ?_
    rw [a0, a1, a2, a3, a4, a5]
    funext i
    rw [eq_ix2 i]
    refine (at35 _ _ _ _ _ _ _ _).trans ?_
    exact Finset.sum_congr rfl fun d _ => congrArg (· * _) (at33 _ _ _ _ _)

end Cert.CtxPf

end
-- ==== Proof.FoxCtxClaims.lean ====
/- The gradient of a context with its row sums: the claims. -/
module

public import proofs.«01_k».proof.Proof.FoxCtxValue
public import proofs.«01_k».proof.Proof.CtxClaims
public import proofs.«01_k».proof.Proof.FoxClaims
public import proofs.«01_k».proof.Proof.Gen.FoxCtx.Frame
public import proofs.«01_k».proof.Proof.Gen.Pre_foxctx_finite

@[expose] public section

set_option maxRecDepth 16384

noncomputable section

namespace Cert.FoxCtxPf

open Cert.FoxCtxRefIdeal.Read Cert.Tiles Idealize.ShloMosaic Idealize.SL.Sem

section
variable (x0 x1 x2 : (⟨3, ![8192, 16, 64]⟩ : Shape).Idx → EReal) (x3 : (⟨2, ![8192, 16]⟩ : Shape).Idx → EReal) (h : Fin 16) (i : Fin 8192)

/-- The exponentials and their sums are those of the attention's derivative. -/
theorem same24 : val_main_v24 (F := Ideal) x0 x1 x3 = Cert.FoxRefIdeal.Read.val_main_v38 (F := Ideal) x0 x1 x3 := rfl
theorem same25 : val_main_v25 (F := Ideal) x0 x1 x3 = Cert.FoxRefIdeal.Read.val_main_v39 (F := Ideal) x0 x1 x3 := rfl

theorem at30 (e : Fin 64) : val_main_v30 (F := Ideal) x0 x1 x2 x3 (ix3 i h e)
    = ∑ x, x2 (ix3 x h e) * Ideal.div (val_main_v24 (F := Ideal) x0 x1 x3 (ix3 h i x)) (val_main_v25 (F := Ideal) x0 x1 x3 (ix2 h i)) := by
  unfold val_main_v30 val_main_v29 val_main_v28 val_main_v27 val_main_v26
  generalize val_main_v24 (F := Ideal) x0 x1 x3 = S
  generalize val_main_v25 (F := Ideal) x0 x1 x3 = T
  pointwise
end

section
variable (q k v : (⟨3, ![8192, 16, 64]⟩ : Shape).Idx → ℝ) (g : (⟨2, ![8192, 16]⟩ : Shape).Idx → ℝ)

/-- The context of real arguments is real. -/
theorem ctx_real (h : Fin 16) (i : Fin 8192) (e : Fin 64) :
    ∃ r : ℝ, val_main_v30 (F := Ideal) (fun j => (q j : EReal)) (fun j => (k j : EReal)) (fun j => (v j : EReal)) (fun j => (g j : EReal)) (ix3 i h e) = r := by
  obtain ⟨σ, hσ⟩ := Fox.scale_real
  obtain ⟨w, T, L, S⟩ := soft_exists i (Fox.score q k g σ h i) _ (Fox.logit_real q k g σ h i · hσ)
  have e38 (x : Fin 8192) : Cert.FoxRefIdeal.Read.val_main_v38 (F := Ideal) (fun j => (q j : EReal)) (fun j => (k j : EReal)) (fun j => (g j : EReal)) (ix3 h i x) = w x := by
    rw [Fox.Ref.at38, S.top]
    exact S.exp x
  refine ⟨∑ x, v (ix3 x h e) * (w x / T), ?_⟩
  rw [at30, same24, same25, Fox.Ref.at39, ← Reals.coe_sum]
  refine Finset.sum_congr rfl fun x _ => ?_
  rw [EReal.coe_mul, e38]
  simp only [e38]
  rw [Reals.coe_sum, ← S.sum, Reals.div_coe_coe _ S.pos.ne']
end

theorem at35 (w : (⟨2, ![1024, 1024]⟩ : Shape).Idx → EReal) (ct : (⟨2, ![8192, 1024]⟩ : Shape).Idx → EReal) (i : Fin 8192) (h : Fin 16) (d : Fin 64) :
    val_main_v35 (F := Ideal) w ct (ix3 i h d) = ∑ k : Fin 1024, ct (ix2 i k) * w (ix2 ⟨h.val * 64 + d.val, by omega⟩ k) := by
  unfold val_main_v35 val_main_v34 val_main_v33
  pointwise

theorem at37 (x0 : (⟨3, ![8192, 16, 64]⟩ : Shape).Idx → EReal) (x1 x2 : (⟨3, ![8192, 16, 64]⟩ : Shape).Idx → EReal)
    (x3 : (⟨2, ![8192, 16]⟩ : Shape).Idx → EReal) (w : (⟨2, ![1024, 1024]⟩ : Shape).Idx → EReal) (ct : (⟨2, ![8192, 1024]⟩ : Shape).Idx → EReal) (i : Fin 8192) (h : Fin 16) :
    val_main_v37 (F := Ideal) x0 x1 x2 x3 w ct (ix2 i h) = ∑ d, val_main_v35 (F := Ideal) w ct (ix3 i h d) * val_main_v30 (F := Ideal) x0 x1 x2 x3 (ix3 i h d) := by
  unfold val_main_v37 val_main_v36 val_main_v35 val_main_cst_4
  generalize val_main_v30 (F := Ideal) x0 x1 x2 x3 = S
  generalize val_main_v34 (F := Ideal) w ct = T
  pointwise

theorem frame : Cert.quiescent_FoxCtx := fun m ρ _ => Cert.FoxCtx.Gen.frame m ρ
theorem frame_ideal : Cert.quiescent_FoxCtxIdeal := fun m ρ _ => Cert.FoxCtxIdeal.Gen.frame m ρ
theorem frame_ideal_pre : Cert.quiescent_FoxCtxIdeal_pre_foxctx_finite := fun m ρ _ => Cert.FoxCtxIdeal.Gen.frame m ρ

theorem frame_ref : Cert.quiescent_FoxCtxRefIdeal := fun m ρ _ =>
  (θ_run Cert.FoxCtxRefIdeal.defs _ _).mono (fun r h => ⟨fun c => (h c).2.2, sem_eq_zero_of_no_sems (by decide) r.2⟩)
    (Cert.FoxCtxRefIdeal.Value.run (F := Ideal) m ρ)
theorem frame_ref_pre : Cert.quiescent_FoxCtxRefIdeal_pre_foxctx_finite := fun m ρ _ => frame_ref m ρ trivial

theorem preserves : Cert.preserves_FoxCtx_FoxCtxIdeal := trivial

open Cert.NormClaims (finite)
open MlaClaims (real_array)

theorem value : Cert.algebraic_FoxCtxIdeal_FoxCtxRefIdeal_pre_foxctx_finite := by
  intro m ρ m' ρ' hpre hag
  have hr : ∀ c i, ∃ r : ℝ, sumArr m c i = r := fun c i => by
    obtain ⟨q, hq⟩ := real_array (finite (s := ⟨3, ![8192, 16, 64]⟩) (Q m c) _ (fun _ => rfl) (hpre c).1)
    obtain ⟨k, hk⟩ := real_array (finite (s := ⟨3, ![8192, 16, 64]⟩) (K m c) _ (fun _ => rfl) (hpre c).2.1)
    obtain ⟨v, hv⟩ := real_array (finite (s := ⟨3, ![8192, 16, 64]⟩) (VL m c) _ (fun _ => rfl) (hpre c).2.2.1)
    obtain ⟨g, hg⟩ := real_array (finite (s := ⟨2, ![8192, 16]⟩) (CU m c) _ (fun _ => rfl) (hpre c).2.2.2.1)
    obtain ⟨w, hw⟩ := real_array (finite (s := ⟨2, ![1024, 1024]⟩) (WO m c) _ (fun _ => rfl) (hpre c).2.2.2.2.1)
    obtain ⟨ct, hct⟩ := real_array (finite (s := ⟨2, ![8192, 1024]⟩) (CT m c) _ (fun _ => rfl) (hpre c).2.2.2.2.2)
    refine CtxPf.sum_real _ _ (fun d => CtxPf.sum_real _ _ (fun k => ⟨_, congrFun hct _⟩) (fun k => ⟨_, congrFun hw _⟩)) (fun d => ?_)
    unfold ctx
    rw [hq, hk, hv, hg]
    exact ctx_real q k v g _ _ d
  refine ⟨fun c => gradArr m c, fun c => sumArr m c, run m ρ hr, (θ_run _ _ _).mono (fun _ h c => ?_) (Cert.FoxCtxRefIdeal.Value.run m' ρ')⟩
  obtain ⟨a0, a1, a2, a3, a4, a5⟩ := hag c
  refine ⟨(h c).1.trans ?_, (h c).2.1.trans ?_, (h c).2.2⟩
  · refine (val_main_v35_eq ..).trans ?_
    rw [a4, a5]
    funext i
    rw [eq_ix3 i]
    exact at35 _ _ _ _ _
  · refine (val_main_v37_eq ..).trans ?_
    rw [a0, a1, a2, a3, a4, a5]
    funext i
    rw [eq_ix2 i]
    refine (at37 _ _ _ _ _ _ _ _).trans ?_
    exact Finset.sum_congr rfl fun d _ => congrArg (· * _) (at35 _ _ _ _ _)

end Cert.FoxCtxPf

end
-- ==== Proof.RopeKValue.lean ====
/- The gradient of the rotated key shared by all heads: the result array as a function of the arguments. -/
module

public import proofs.«01_k».proof.Proof.Norm2Value
public import proofs.«01_k».proof.Proof.Gen.RopeKIdeal.Frame

@[expose] public section

set_option maxRecDepth 16384

noncomputable section

namespace Cert.RopeKPf

open Cert.RopeKIdeal Cert.RopeKIdeal.Gen Idealize.ShloMosaic Idealize.ShloMosaic.TcCoe Idealize.SL.Sem
open Cert.NormBlock (hz)
open Cert.Norm2Pf (ext2)

theorem pay (a b d e : Vec Ideal S1024x128 .f32) (p : Fin 1024) (q : Fin 128) :
    k0_pay1 a b d e (ix2 p q) = a (ix2 p q) * b (ix2 p q) + d (ix2 p q) * e (ix2 p q) := by
  unfold k0_pay1
  pointwise
  done

variable (m : (ℓ : Loc nD τ sig) → Buf (Elt Ideal) ℓ) (ρ : Dev nD → PrngReg)

abbrev COS (c : Dev nD) : S8192x32.Idx → EReal := m ((c : Thread nD τ).loc main_arg0)
abbrev SIN (c : Dev nD) : S8192x32.Idx → EReal := m ((c : Thread nD τ).loc main_arg1)
abbrev CT (c : Dev nD) : S8192x8x64.Idx → EReal := m ((c : Thread nD τ).loc main_arg2)

/-- The heads' sum of the cotangent. -/
def headSum (ct : S8192x8x64.Idx → EReal) (i : Fin 8192) (j : Fin 64) : EReal := ∑ h : Fin 8, ct (ix3 i h j)

/-- The turned gradient at a row and a column. -/
def turned (cos sin : S8192x32.Idx → EReal) (ct : S8192x8x64.Idx → EReal) (i : Fin 8192) (j : Fin 64) : EReal :=
  if h : j.val < 32 then
    headSum ct i j * cos (ix2 i ⟨j.val, h⟩) + headSum ct i ⟨j.val + 32, by omega⟩ * sin (ix2 i ⟨j.val, h⟩)
  else
    headSum ct i j * cos (ix2 i ⟨j.val - 32, by omega⟩) + -headSum ct i ⟨j.val - 32, by omega⟩ * sin (ix2 i ⟨j.val - 32, by omega⟩)

/-- The packed operands. -/
abbrev O2 (c : Dev nD) : S8192x128.Idx → EReal := V m c main_v2
abbrev O6 (c : Dev nD) : S8192x128.Idx → EReal := V m c main_v6
abbrev O7 (c : Dev nD) : S8192x128.Idx → EReal := V m c main_v7
abbrev O8 (c : Dev nD) : S8192x128.Idx → EReal := V m c main_v8

/-- The array the region leaves. -/
def outArr (c : Dev nD) : S8192x128.Idx → EReal := fun i => O2 m c i * O7 m c i + O6 m c i * O8 m c i

theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ win0_4.index t 0 = t.val ∧ win0_4.index t 1 = 0 := by
  show ∀ t : Fin grid0.N, _
  decide +kernel

theorem final (c : Dev nD) : (dats m 0 c).arrAt 4 cfg0.N = outArr m c :=
  (dats m 0 c).arrAt_eq_of_cover 4 (outArr m c) (fun t _ => by
    obtain ⟨h0, h1, h2, h3, h4⟩ := idx t
    show (cfg0.win 4).cut (grid0.coords t) ((dats m 0 c).after 4 t) = _
    rw [after0_4]
    unfold out0_4
    rw [View.canon_unit_zero (S := S1024x128) hz]
    simp only [View.ld_unit_zero (S := S1024x128) hz]
    funext j
    obtain ⟨p, q, rfl⟩ : ∃ (p : Fin 1024) (q : Fin 128), j = ix2 p q := ⟨j 0, j 1, eq_ix2 j⟩
    refine (pay _ _ _ _ p q).trans ?_
    refine congrArg₂ (· + ·) (congrArg₂ (· * ·) (congrArg (V m c main_v2) (ext2 ?_ ?_)) (congrArg (V m c main_v7) (ext2 ?_ ?_)))
      (congrArg₂ (· * ·) (congrArg (V m c main_v6) (ext2 ?_ ?_)) (congrArg (V m c main_v8) (ext2 ?_ ?_)))
    · show win0_0.index t 0 * 1024 + 1 * p.val = win0_4.index t 0 * 1024 + 1 * p.val; omega
    · show win0_0.index t 1 * 128 + 1 * q.val = win0_4.index t 1 * 128 + 1 * q.val; omega
    · show win0_2.index t 0 * 1024 + 1 * p.val = win0_4.index t 0 * 1024 + 1 * p.val; omega
    · show win0_2.index t 1 * 128 + 1 * q.val = win0_4.index t 1 * 128 + 1 * q.val; omega
    · show win0_1.index t 0 * 1024 + 1 * p.val = win0_4.index t 0 * 1024 + 1 * p.val; omega
    · show win0_1.index t 1 * 128 + 1 * q.val = win0_4.index t 1 * 128 + 1 * q.val; omega
    · show win0_3.index t 0 * 1024 + 1 * p.val = win0_4.index t 0 * 1024 + 1 * p.val; omega
    · show win0_3.index t 1 * 128 + 1 * q.val = win0_4.index t 1 * 128 + 1 * q.val; omega)
  fun i => by
    have h0 : (i 0 : Nat) < 8192 := (i 0).isLt
    have h1 : (i 1 : Nat) < 128 := (i 1).isLt
    let t : Fin cfg0.N := ⟨(i 0 : Nat) / 1024, by rw [show cfg0.N = 8 from N_0]; omega⟩
    obtain ⟨-, -, -, -, h⟩ := idx t
    have ht : t.val = (i 0 : Nat) / 1024 := rfl
    refine ⟨t, (by decide +kernel : ∀ t : Fin grid0.N, win0_4.flush t = true) t, ?_⟩
    show i ∈ ((View.whole main_v9).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024; omega
    | ⟨1, _⟩ => show win0_4.index t 1 * 128 ≤ (i 1 : Nat) ∧ (i 1 : Nat) < win0_4.index t 1 * 128 + 128; omega

/-- The packed operands as concatenations of the arguments. -/
theorem ops (c : Dev nD) :
    O2 m c = concatenate S8192x128 1 [⟨S8192x64, Host.reduceAdd (F := Ideal) (φ := .f32) (CT m c) (constant (F := Ideal) S_ .f32 0x00000000#32) reducesTo_S8192x8x64_S8192x64_d1 h_S_⟩,
      ⟨S8192x64, broadcastInDim S8192x64 ![] bcast_S_S8192x64 (constant (F := Ideal) S_ .f32 0x00000000#32)⟩] concatenates_S8192x64_S8192x64_S8192x128_d1
    ∧ O6 m c = concatenate S8192x128 1 [⟨S8192x32, extractStridedSlice S8192x32 ![0, 32] (Host.reduceAdd (F := Ideal) (φ := .f32) (CT m c) (constant (F := Ideal) S_ .f32 0x00000000#32) reducesTo_S8192x8x64_S8192x64_d1 h_S_) slices_S8192x64_S8192x32_0_32⟩,
      ⟨S8192x32, Host.negf (F := Ideal) (φ := .f32) (extractStridedSlice S8192x32 ![0, 0] (Host.reduceAdd (F := Ideal) (φ := .f32) (CT m c) (constant (F := Ideal) S_ .f32 0x00000000#32) reducesTo_S8192x8x64_S8192x64_d1 h_S_) slices_S8192x64_S8192x32_0_0)⟩,
      ⟨S8192x64, broadcastInDim S8192x64 ![] bcast_S_S8192x64 (constant (F := Ideal) S_ .f32 0x00000000#32)⟩] concatenates_S8192x32_S8192x32_S8192x64_S8192x128_d1
    ∧ O8 m c = concatenate S8192x128 1 [⟨S8192x32, SIN m c⟩, ⟨S8192x32, SIN m c⟩, ⟨S8192x64, broadcastInDim S8192x64 ![] bcast_S_S8192x64 (constant (F := Ideal) S_ .f32 0x00000000#32)⟩] concatenates_S8192x32_S8192x32_S8192x64_S8192x128_d1
    ∧ O7 m c = concatenate S8192x128 1 [⟨S8192x32, COS m c⟩, ⟨S8192x32, COS m c⟩, ⟨S8192x64, broadcastInDim S8192x64 ![] bcast_S_S8192x64 (constant (F := Ideal) S_ .f32 0x00000000#32)⟩] concatenates_S8192x32_S8192x32_S8192x64_S8192x128_d1 := by
  refine ⟨?_, ?_, ?_, ?_⟩
  · show StableHlo.after hostOps0 (fun b => m (c, b)) main_v2 = _
    after_results_simp <;> rfl
  · show StableHlo.after hostOps0 (fun b => m (c, b)) main_v6 = _
    after_results_simp <;> rfl
  · show StableHlo.after hostOps0 (fun b => m (c, b)) main_v8 = _
    after_results_simp <;> rfl
  · show StableHlo.after hostOps0 (fun b => m (c, b)) main_v7 = _
    after_results_simp <;> rfl

theorem out_eq (c : Dev nD) (i : Fin 8192) (j : Fin 64) : outArr m c (ix2 i ⟨j.val, by omega⟩) = turned (COS m c) (SIN m c) (CT m c) i j := by
  unfold outArr turned
  rw [(ops m c).1, (ops m c).2.1, (ops m c).2.2.1, (ops m c).2.2.2]
  by_cases h : j.val < 32
  · rw [dif_pos h]
    pointwise
    simp only [dif_pos h, Nat.add_comm 32]
    rfl
  · rw [dif_neg h]
    have h' : j.val - 32 < 32 := by omega
    pointwise
    simp only [dif_neg h, dif_pos h']
    rfl

/-- The array the last host line leaves: the first 64 columns. -/
theorem run : θ_run defs (onTc (τ := τ) (main (F := Ideal))) ⟨m, fun _ => 0, ρ⟩ (fun r => ∀ c : Dev nD,
    r.2.mem ((c.tc : Thread nD τ).loc main_v10) = (fun i : S8192x64.Idx => turned (COS m c) (SIN m c) (CT m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono ?_ (θ_run_and (unchanged m ρ) (run_main m ρ))
  refine fun r h c => ⟨?_, h.1 c⟩
  refine ((h.2 c).2 main_v10 (Pipeline.mem_restRefs_of main_v10 (by decide) (by decide))).trans ?_
  show StableHlo.after hostOps1 _ (Proc.devRef .tc main_v10) = _
  after_results_simp
  have e : Pipeline.withArrays (cfgs 0).spec c (V0 m c) (fun w => (dats m 0 c).arrAt w (cfgs 0).N) (Proc.devRef .tc main_v9) = outArr m c :=
    (Pipeline.withArrays_arr (cfgs 0).spec launch0.win.arr_inj c (V0 m c) (fun w => (dats m 0 c).arrAt w (cfgs 0).N) (4 : Fin 5)).trans (final m c)
  rw [e]
  funext i
  rw [eq_ix2 i]
  pointwise
  exact out_eq m c (i 0) (i 1)

end Cert.RopeKPf

end
-- ==== Proof.RopeKClaims.lean ====
/- The claims about the gradient of the rotated key. -/
module

public import proofs.«01_k».proof.Defs
public import proofs.«01_k».proof.Proof.RopeKValue
public import proofs.«01_k».proof.Proof.Gen.RopeK.Frame
public import proofs.«01_k».proof.Proof.Gen.RopeKRefIdeal.Read

@[expose] public section

set_option maxRecDepth 16384

noncomputable section

namespace Cert.RopeKPf

open Idealize.ShloMosaic Idealize.SL.Sem

theorem frame : Cert.quiescent_RopeK := fun m ρ _ => Cert.RopeK.Gen.frame m ρ

theorem frame_ideal : Cert.quiescent_RopeKIdeal := fun m ρ _ => Cert.RopeKIdeal.Gen.frame m ρ

theorem frame_ref : Cert.quiescent_RopeKRefIdeal := fun m ρ _ =>
  (θ_run Cert.RopeKRefIdeal.defs _ _).mono (fun r h => ⟨fun c => (h c).2, sem_eq_zero_of_no_sems (by decide) r.2⟩)
    (Cert.RopeKRefIdeal.Value.run (F := Ideal) m ρ)

section
open Cert.RopeKRefIdeal Cert.RopeKRefIdeal.Read

/-- The derivative at an index. -/
theorem ref_at (cos sin : S8192x32.Idx → EReal) (ct : S8192x8x64.Idx → EReal) (i : Fin 8192) (j : Fin 64) :
    val_main_v27 (F := Ideal) cos sin ct (ix2 i j) = turned cos sin ct i j := by
  unfold val_main_v27 val_main_v26 val_main_v25 val_main_v24 val_main_v23 val_main_v22 val_main_v21 val_main_v20 val_main_v19
    val_main_v18 val_main_v17 val_main_v16 val_main_v15 val_main_v14 val_main_v13 val_main_v12
    val_main_cst_0 val_main_cst_1 val_main_cst_2 val_main_cst_3
  pointwise
  unfold turned headSum
  by_cases h : j.val < 32
  · simp only [dif_pos h, dif_neg (show ¬(32 ≤ j.val ∧ j.val - 32 < 32) by omega), Fintype.sum_unique]
    simp only [zero_add, Nat.add_comm 32]
    exact add_comm _ _
  · simp only [dif_neg h, dif_pos (show 32 ≤ j.val ∧ j.val - 32 < 32 by omega), Fintype.sum_unique]
    simp only [zero_add, add_zero, Nat.add_sub_cancel' (show 32 ≤ j.val by omega)]
end

theorem value : Cert.algebraic_RopeKIdeal_RopeKRefIdeal := by
  intro m ρ m' ρ' _ hag
  refine ⟨fun c i => turned (COS m c) (SIN m c) (CT m c) (i 0) (i 1), run m ρ,
    (θ_run _ _ _).mono (fun _ h c => ⟨(h c).1.trans ?_, (h c).2⟩) (Cert.RopeKRefIdeal.Value.run m' ρ')⟩
  refine (Cert.RopeKRefIdeal.Read.val_main_v27_eq ..).trans ?_
  rw [(hag c).1, (hag c).2.1, (hag c).2.2]
  funext i
  rw [eq_ix2 i]
  exact ref_at _ _ _ _ _

end Cert.RopeKPf

end
-- ==== Proof.RopeQMath.lean ====
/- The gradient of a rotation followed by a product, over the reals: with the rotated weight's columns beside the
   weight's, and with the rotation applied to the cotangent. Columns count from 0 in a head: 128 that are not rotated,
   two halves of 32 that are, and, where a head is padded, 64 of zeros. -/
module

public import proofs.«01_k».proof.Proof.CtxValue
public import proofs.«01_k».proof.Proof.Reals

@[expose] public section

noncomputable section

namespace Cert.RopeQPf

/-- A row of `n` entries, and zero behind it. -/
def row {α : Type} [Zero α] {n : ℕ} (f : Fin n → α) (e : ℕ) : α := if h : e < n then f ⟨e, h⟩ else 0

theorem row_coe {n : ℕ} (f : Fin n → ℝ) (e : ℕ) : row (fun k => (f k : EReal)) e = (row f e : ℝ) := by
  unfold row
  split_ifs
  · rfl
  · exact EReal.coe_zero.symm

theorem row_of_lt {α : Type} [Zero α] {n : ℕ} (f : Fin n → α) {e : ℕ} (h : e < n) : row f e = f ⟨e, h⟩ := dif_pos h
theorem row_of_ge {α : Type} [Zero α] {n : ℕ} (f : Fin n → α) {e : ℕ} (h : n ≤ e) : row f e = 0 := dif_neg (by omega)

/-- A head's columns of a table: `z` where nothing is rotated, twice the table's row, zeros. -/
def table {α : Type} [Zero α] (z : α) (c : ℕ → α) (e : ℕ) : α :=
  if e < 128 then z else if e < 160 then c (e - 128) else if e < 192 then c (e - 160) else 0

/-- A head's columns of the rotated weight. -/
def swap {α : Type} [Zero α] [Neg α] (w : ℕ → α) (e : ℕ) : α :=
  if e < 128 then 0 else if e < 160 then -w (e + 32) else if e < 192 then w (e - 32) else 0

/-- A head's columns of the rotated cotangent. -/
def turn (g c d : ℕ → ℝ) (e : ℕ) : ℝ :=
  if e < 128 then g e else if e < 160 then g (e + 32) * d (e - 128) + g e * c (e - 128)
  else g e * c (e - 160) - g (e - 32) * d (e - 160)

theorem table_coe (z : ℝ) (c : ℕ → ℝ) (e : ℕ) : table (z : EReal) (fun j => (c j : EReal)) e = (table z c e : ℝ) := by
  unfold table
  split_ifs <;> first | rfl | exact EReal.coe_zero.symm

theorem swap_coe (w : ℕ → ℝ) (e : ℕ) : swap (fun j => (w j : EReal)) e = (swap w e : ℝ) := by
  unfold swap
  split_ifs <;> first | rfl | exact EReal.coe_zero.symm

theorem table_row {n : ℕ} (z : ℝ) (f : Fin n → ℝ) (e : ℕ) : table (z : EReal) (row fun k => (f k : EReal)) e = (table z (row f) e : ℝ) := by
  rw [show row (fun k => (f k : EReal)) = fun j => ((row f j : ℝ) : EReal) from funext (row_coe f)]
  exact table_coe z (row f) e

theorem swap_row {n : ℕ} (f : Fin n → ℝ) (e : ℕ) : swap (row fun k => (f k : EReal)) e = (swap (row f) e : ℝ) := by
  rw [show row (fun k => (f k : EReal)) = fun j => ((row f j : ℝ) : EReal) from funext (row_coe f)]
  exact swap_coe (row f) e

section
variable (g c d w : ℕ → ℝ)

theorem split256 (f : ℕ → ℝ) : ∑ e ∈ Finset.range 256, f e
    = ∑ e ∈ Finset.range 128, f e + (∑ j ∈ Finset.range 32, f (128 + j) + (∑ j ∈ Finset.range 32, f (160 + j) + ∑ j ∈ Finset.range 64, f (192 + j))) := by
  rw [show (256 : ℕ) = 128 + 32 + 32 + 64 from rfl, Finset.sum_range_add, Finset.sum_range_add, Finset.sum_range_add]
  ring

theorem split192 (f : ℕ → ℝ) : ∑ e ∈ Finset.range 192, f e
    = ∑ e ∈ Finset.range 128, f e + (∑ j ∈ Finset.range 32, f (128 + j) + ∑ j ∈ Finset.range 32, f (160 + j)) := by
  rw [show (192 : ℕ) = 128 + 32 + 32 from rfl, Finset.sum_range_add, Finset.sum_range_add]
  ring

/-- A head's part of the input's gradient. -/
theorem head_dx : ∑ e ∈ Finset.range 256, g e * table 1 c e * w e + ∑ e ∈ Finset.range 256, g e * table 0 d e * swap w e
    = ∑ e ∈ Finset.range 192, turn g c d e * w e := by
  rw [← Finset.sum_add_distrib, split256, split192]
  have h0 : ∀ e ∈ Finset.range 128, g e * table 1 c e * w e + g e * table 0 d e * swap w e = turn g c d e * w e := fun e he => by
    have := Finset.mem_range.mp he
    unfold table swap turn
    rw [if_pos this, if_pos this, if_pos this, if_pos this]
    ring
  have h3 : ∀ j ∈ Finset.range 64, g (192 + j) * table 1 c (192 + j) * w (192 + j) + g (192 + j) * table 0 d (192 + j) * swap w (192 + j) = 0 := fun j _ => by
    unfold table swap
    simp [show ¬192 + j < 128 by omega, show ¬192 + j < 160 by omega]
  rw [Finset.sum_congr rfl h0, Finset.sum_eq_zero h3, add_zero, ← Finset.sum_add_distrib, ← Finset.sum_add_distrib]
  refine congrArg (_ + ·) (Finset.sum_congr rfl fun j hj => ?_)
  have hj := Finset.mem_range.mp hj
  unfold table swap turn
  simp only [if_neg (show ¬128 + j < 128 by omega), if_pos (show 128 + j < 160 by omega), if_neg (show ¬160 + j < 128 by omega),
    if_neg (show ¬160 + j < 160 by omega), if_pos (show 160 + j < 192 by omega), Nat.add_sub_cancel_left, show 160 + j - 32 = 128 + j by omega,
    show 128 + j + 32 = 160 + j by omega]
  ring

/-- A head's columns of the weight's gradient, from the two products of a cotangent that is not rotated: the column of a
    head, joined from its own column of the first and the other half's column of the second. -/
def join (a b : ℕ → ℝ) (e : ℕ) : ℝ := if e < 128 then a e else if e < 160 then a e + b (e + 32) else a e - b (e - 32)

theorem head_dw {ι : Type} (s : Finset ι) (x : ι → ℝ) (g c d : ι → ℕ → ℝ) (e : ℕ) (he : e < 192) :
    join (fun e => ∑ i ∈ s, x i * (g i e * table 1 (c i) e)) (fun e => ∑ i ∈ s, x i * (g i e * table 0 (d i) e)) e
      = ∑ i ∈ s, x i * turn (g i) (c i) (d i) e := by
  unfold join turn table
  by_cases h : e < 128
  · simp only [if_pos h, mul_one]
  by_cases h' : e < 160
  · simp only [if_neg h, if_pos h', if_neg (show ¬e + 32 < 128 by omega), if_neg (show ¬e + 32 < 160 by omega), if_pos (show e + 32 < 192 by omega),
      show e + 32 - 160 = e - 128 by omega]
    rw [← Finset.sum_add_distrib]
    exact Finset.sum_congr rfl fun i _ => by ring
  · simp only [if_neg h, if_neg h', if_pos he, if_neg (show ¬e - 32 < 128 by omega), if_pos (show e - 32 < 160 by omega),
      show e - 32 - 128 = e - 160 by omega]
    rw [← Finset.sum_sub_distrib]
    exact Finset.sum_congr rfl fun i _ => by ring
end

/-! ## The forms that a read of a padded array takes -/

section
variable (z : EReal) (e : ℕ)

theorem row_if {n : ℕ} (f : Fin n → EReal) (hz : z = 0) : (if h : e < n then f ⟨e, h⟩ else z) = row f e := by
  subst hz
  rfl

theorem table_if (f : Fin 32 → EReal) : (if _ : e < 128 then z else if h : e - 128 < 32 then f ⟨e - 128, h⟩ else
    if h : e - 128 - 32 < 32 then f ⟨e - 128 - 32, h⟩ else 0) = table z (row f) e := by
  unfold table
  by_cases h : e < 128
  · rw [dif_pos h, if_pos h]
  by_cases h1 : e < 160
  · rw [dif_neg h, if_neg h, dif_pos (show e - 128 < 32 by omega), if_pos h1, row_of_lt]
  by_cases h2 : e < 192
  · rw [dif_neg h, if_neg h, dif_neg (show ¬e - 128 < 32 by omega), if_neg h1, dif_pos (show e - 128 - 32 < 32 by omega), if_pos h2,
      row_of_lt f (show e - 160 < 32 by omega)]
    exact congrArg f (Fin.ext (by dsimp only; omega))
  · rw [dif_neg h, if_neg h, dif_neg (show ¬e - 128 < 32 by omega), if_neg h1, dif_neg (show ¬e - 128 - 32 < 32 by omega), if_neg h2]

theorem swap_if (f : Fin 192 → EReal) (hz : z = 0) : (if h0 : e < 192 then if _ : e < 128 then 0 else
    if h : e - 128 < 32 then -f ⟨160 + (e - 128), by omega⟩ else f ⟨128 + (e - 128 - 32), by omega⟩ else z) = swap (row f) e := by
  subst hz
  unfold swap
  by_cases h : e < 128
  · rw [dif_pos (show e < 192 by omega), dif_pos h, if_pos h]
  by_cases h1 : e < 160
  · rw [dif_pos (show e < 192 by omega), dif_neg h, if_neg h, dif_pos (show e - 128 < 32 by omega), if_pos h1, row_of_lt f (show e + 32 < 192 by omega)]
    exact congrArg (fun i => -f i) (Fin.ext (by dsimp only; omega))
  by_cases h2 : e < 192
  · rw [dif_pos h2, dif_neg h, if_neg h, dif_neg (show ¬e - 128 < 32 by omega), if_neg h1, if_pos h2, row_of_lt f (show e - 32 < 192 by omega)]
    exact congrArg f (Fin.ext (by dsimp only; omega))
  · rw [dif_neg h2, if_neg h, if_neg h1, if_neg h2]
end

theorem turn_if (σ : ℝ) (e : ℕ) (he : e < 192) (g : Fin 192 → ℝ) (c d : Fin 32 → ℝ) (σ' : EReal) (hσ : σ' = σ) :
    ((if _ : e < 128 then (g ⟨e, he⟩  : EReal) * σ' else 0) +
      if h1 : 128 ≤ e ∧ e - 128 < 64 then
        (if h2 : 32 ≤ e - 128 ∧ e - 128 - 32 < 32 then
            (g ⟨128 + (32 + (e - 128 - 32)), by omega⟩  : EReal) * σ' * (c ⟨e - 128 - 32, h2.2⟩ : EReal)
              + -((g ⟨128 + (e - 128 - 32), by omega⟩  : EReal) * σ') * (d ⟨e - 128 - 32, h2.2⟩ : EReal)
          else 0) +
          if h2 : e - 128 < 32 then
            (g ⟨128 + (32 + (e - 128)), by omega⟩  : EReal) * σ' * (d ⟨e - 128, h2⟩ : EReal)
              + (g ⟨128 + (e - 128), by omega⟩  : EReal) * σ' * (c ⟨e - 128, h2⟩ : EReal)
          else 0
      else 0) = (turn (fun e => row g e * σ) (row c) (row d) e : ℝ) := by
  subst hσ
  unfold turn
  by_cases h1 : e < 128
  · rw [dif_pos h1, dif_neg (show ¬(128 ≤ e ∧ e - 128 < 64) by omega), if_pos h1, add_zero]
    beta_reduce
    rw [row_of_lt g he, EReal.coe_mul]
  by_cases h2 : e < 160
  · rw [dif_neg h1, dif_pos (show 128 ≤ e ∧ e - 128 < 64 by omega), dif_neg (show ¬(32 ≤ e - 128 ∧ e - 128 - 32 < 32) by omega),
      dif_pos (show e - 128 < 32 by omega), if_neg h1, if_pos h2, zero_add, zero_add]
    beta_reduce
    rw [row_of_lt g he, row_of_lt g (show e + 32 < 192 by omega),
      row_of_lt c (show e - 128 < 32 by omega), row_of_lt d (show e - 128 < 32 by omega)]
    simp only [show 128 + (32 + (e - 128)) = e + 32 by omega, show 128 + (e - 128) = e by omega, EReal.coe_add, EReal.coe_mul]
  · rw [dif_neg h1, dif_pos (show 128 ≤ e ∧ e - 128 < 64 by omega), dif_pos (show 32 ≤ e - 128 ∧ e - 128 - 32 < 32 by omega),
      dif_neg (show ¬e - 128 < 32 by omega), if_neg h1, if_neg h2, zero_add, add_zero]
    beta_reduce
    rw [row_of_lt g he, row_of_lt g (show e - 32 < 192 by omega),
      row_of_lt c (show e - 160 < 32 by omega), row_of_lt d (show e - 160 < 32 by omega)]
    simp only [show e - 128 - 32 = e - 160 by omega, show 128 + (32 + (e - 160)) = e by omega, show 128 + (e - 160) = e - 32 by omega,
      EReal.coe_sub, EReal.coe_mul]
    rw [EReal.neg_mul, sub_eq_add_neg]

/-- A sum over columns, head by head. -/
theorem sum_heads {M : Type} [AddCommMonoid M] {p k N : ℕ} (hN : p * k = N) (f : Fin N → M) :
    ∑ j, f j = ∑ h : Fin p, ∑ e : Fin k, f ⟨h.val * k + e.val, by
      have := h.isLt
      have := e.isLt
      calc h.val * k + e.val < h.val * k + k := by omega
        _ = (h.val + 1) * k := by ring
        _ ≤ N := hN ▸ Nat.mul_le_mul_right k h.isLt⟩ := by
  subst hN
  rw [← Fintype.sum_prod_type', ← Equiv.sum_comp finProdFinEquiv]
  refine Finset.sum_congr rfl fun x _ => congrArg f (Fin.ext ?_)
  show x.2.val + k * x.1.val = x.1.val * k + x.2.val
  ring

end Cert.RopeQPf

end
-- ==== Proof.RopeQRef.lean ====
/- The cotangent of the queries, rotated back, as the reference computes it. -/
module

public import proofs.«01_k».proof.Proof.RopeQMath
public import proofs.«01_k».proof.Proof.Gen.RopeQXRefIdeal.Read
public import proofs.«01_k».proof.Proof.Gen.RopeQWRefIdeal.Read

@[expose] public section

set_option maxRecDepth 16384

noncomputable section

namespace Cert.RopeQPf

open Cert.RopeQXRefIdeal Cert.RopeQXRefIdeal.Read Idealize.ShloMosaic

section
variable (cos sin : S8192x32.Idx → ℝ) (ct : S8192x8x192.Idx → ℝ) (σ : ℝ) (s : Fin 8192) (h : Fin 8) (e : Fin 192)

/-- The two references rotate it by the same lines. -/
theorem same (cos sin : S8192x32.Idx → EReal) (ct : S8192x8x192.Idx → EReal) :
    Cert.RopeQWRefIdeal.Read.val_main_v44 (F := Ideal) cos sin ct = val_main_v44 (F := Ideal) cos sin ct := rfl

/-- A row of the scaled cotangent, rotated back. -/
def turned (e : ℕ) : ℝ := turn (fun e => row (fun e => ct (ix3 s h e)) e * σ) (row fun j => cos (ix2 s j)) (row fun j => sin (ix2 s j)) e

theorem turned_at (hσ : Ideal.ofBits .f32 0x3D93CD3A#32 = (σ : EReal)) :
    val_main_v44 (F := Ideal) (fun i => (cos i : EReal)) (fun i => (sin i : EReal)) (fun i => (ct i : EReal)) (ix3 s h e)
      = (turned cos sin ct σ s h e.val : ℝ) := by
  unfold val_main_v44 val_main_v43 val_main_cst_4 val_main_v42 val_main_v41 val_main_cst_3 val_main_v40 val_main_cst_2 val_main_v39 val_main_v38
    val_main_v37 val_main_v36 val_main_v35 val_main_v34 val_main_v33 val_main_v32 val_main_v31 val_main_v30 val_main_v29 val_main_v28 val_main_v27
    val_main_v26 val_main_cst_1 val_main_v25 val_main_v24 val_main_v23 val_main_v22 val_main_cst_0 val_main_v4 val_main_v3
  pointwise
  exact turn_if σ e.val e.isLt (fun e => ct (ix3 s h e)) (fun j => cos (ix2 s j)) (fun j => sin (ix2 s j)) _ hσ
end

end Cert.RopeQPf

end
-- ==== Proof.RopeQXValue.lean ====
/- The gradient of the rotated queries' projection to its input: the result array as a function of the arguments. -/
module

public import proofs.«01_k».proof.Proof.RopeQRef
public import proofs.«01_k».proof.Proof.Gen.RopeQXIdeal.Value

@[expose] public section

set_option maxRecDepth 16384

noncomputable section

namespace Cert.RopeQXPf

open Cert.RopeQXIdeal Cert.RopeQXIdeal.Gen Idealize.ShloMosaic Idealize.ShloMosaic.TcCoe Idealize.SL.Sem
open Cert.Norm2Pf (ext2)
open Cert.RopeQPf

variable (m : (ℓ : Loc nD τ sig) → Buf (Elt Ideal) ℓ) (ρ : Dev nD → PrngReg)

abbrev W (c : Dev nD) : S384x1536.Idx → EReal := m ((c : Thread nD τ).loc main_arg1)
abbrev COS (c : Dev nD) : S8192x32.Idx → EReal := m ((c : Thread nD τ).loc main_arg2)
abbrev SIN (c : Dev nD) : S8192x32.Idx → EReal := m ((c : Thread nD τ).loc main_arg3)
abbrev CT (c : Dev nD) : S8192x8x192.Idx → EReal := m ((c : Thread nD τ).loc main_arg4)

theorem sitofp_zero32 : (FloatOps.sitofp .f32 0#32 : Ideal .f32) = 0 := by
  show ((((0#32 : BitVec 32).toInt : ℤ) : ℝ) : EReal) = 0
  simp

theorem host_g (c : Dev nD) (s : Fin 8192) (h : Fin 8) (e : Fin 256) (hc : h.val * 256 + e.val < 2048) :
    V m c main_v19 (ix2 s ⟨h.val * 256 + e.val, hc⟩) = row (fun e => CT m c (ix3 s h e)) e.val := by
  show StableHlo.after (List.flatten [hostOps0, hostOps0_1, hostOps0_2, hostOps0_3, hostOps0_4, hostOps0_5, hostOps0_6]) (fun b => m (c, b)) (Proc.devRef .tc main_v19) _ = _
  simp only [List.flatten_cons, List.flatten_nil, StableHlo.after_append, List.append_nil]
  after_results_simp
  simp only [StableHlo.TRef.toBuf, StableHlo.TRef.ofBuf, cast_eq, id]
  pointwise
  exact row_if _ _ (fun e => CT m c (ix3 s h e)) (sitofp_zero32)

theorem host_wa (c : Dev nD) (k : Fin 384) (h : Fin 8) (e : Fin 256) (hc : h.val * 256 + e.val < 2048) :
    V m c main_v5 (ix2 k ⟨h.val * 256 + e.val, hc⟩) = row (fun e : Fin 192 => W m c (ix2 k ⟨h.val * 192 + e.val, by omega⟩)) e.val := by
  show StableHlo.after (List.flatten [hostOps0, hostOps0_1, hostOps0_2, hostOps0_3, hostOps0_4, hostOps0_5, hostOps0_6]) (fun b => m (c, b)) (Proc.devRef .tc main_v5) _ = _
  simp only [List.flatten_cons, List.flatten_nil, StableHlo.after_append, List.append_nil]
  after_results_simp
  simp only [StableHlo.TRef.toBuf, StableHlo.TRef.ofBuf, cast_eq, id]
  pointwise
  exact row_if _ _ (fun e : Fin 192 => W m c (ix2 k ⟨h.val * 192 + e.val, by omega⟩)) CtxPf.sitofp_zero

theorem host_wb (c : Dev nD) (k : Fin 384) (h : Fin 8) (e : Fin 256) (hc : h.val * 256 + e.val < 2048) :
    V m c main_v15 (ix2 k ⟨h.val * 256 + e.val, hc⟩) = swap (row (fun e : Fin 192 => W m c (ix2 k ⟨h.val * 192 + e.val, by omega⟩))) e.val := by
  show StableHlo.after (List.flatten [hostOps0, hostOps0_1, hostOps0_2, hostOps0_3, hostOps0_4, hostOps0_5, hostOps0_6]) (fun b => m (c, b)) (Proc.devRef .tc main_v15) _ = _
  simp only [List.flatten_cons, List.flatten_nil, StableHlo.after_append, List.append_nil]
  after_results_simp
  try simp only [StableHlo.TRef.toBuf, StableHlo.TRef.ofBuf, cast_eq, id]
  pointwise
  after_results_simp
  try simp only [StableHlo.TRef.toBuf, StableHlo.TRef.ofBuf, cast_eq, id]
  pointwise
  exact swap_if _ _ (fun e : Fin 192 => W m c (ix2 k ⟨h.val * 192 + e.val, by omega⟩)) CtxPf.sitofp_zero

theorem host_cos (c : Dev nD) (s : Fin 8192) (r : Fin 4) (e : Fin 256) (hc : r.val * 256 + e.val < 1024) :
    V m c main_v27 (ix2 s ⟨r.val * 256 + e.val, hc⟩) = table 1 (row fun j => COS m c (ix2 s j)) e.val := by
  show StableHlo.after (List.flatten [hostOps0, hostOps0_1, hostOps0_2, hostOps0_3, hostOps0_4, hostOps0_5, hostOps0_6]) (fun b => m (c, b)) (Proc.devRef .tc main_v27) _ = _
  simp only [List.flatten_cons, List.flatten_nil, StableHlo.after_append, List.append_nil]
  after_results_simp
  try simp only [StableHlo.TRef.toBuf, StableHlo.TRef.ofBuf, cast_eq, id]
  pointwise
  after_results_simp
  try simp only [StableHlo.TRef.toBuf, StableHlo.TRef.ofBuf, cast_eq, id]
  pointwise
  exact table_if 1 e.val (fun j => COS m c (ix2 s j))

theorem host_sin (c : Dev nD) (s : Fin 8192) (r : Fin 4) (e : Fin 256) (hc : r.val * 256 + e.val < 1024) :
    V m c main_v30 (ix2 s ⟨r.val * 256 + e.val, hc⟩) = table 0 (row fun j => SIN m c (ix2 s j)) e.val := by
  show StableHlo.after (List.flatten [hostOps0, hostOps0_1, hostOps0_2, hostOps0_3, hostOps0_4, hostOps0_5, hostOps0_6]) (fun b => m (c, b)) (Proc.devRef .tc main_v30) _ = _
  simp only [List.flatten_cons, List.flatten_nil, StableHlo.after_append, List.append_nil]
  after_results_simp
  try simp only [StableHlo.TRef.toBuf, StableHlo.TRef.ofBuf, cast_eq, id]
  pointwise
  after_results_simp
  try simp only [StableHlo.TRef.toBuf, StableHlo.TRef.ofBuf, cast_eq, id]
  pointwise
  exact table_if 0 e.val (fun j => SIN m c (ix2 s j))

/-! ## One grid point -/

/-- The logits' scale. -/
abbrev scale : EReal := Ideal.ofBits .f32 0x3D93CD3A#32

theorem part_apply (x0 x3 x4 : Vec Ideal S1024x1024 .f32) (x1 x2 : Vec Ideal S384x1024 .bf16) (p : Fin 1024) (k : Fin 384) :
    k0_pay1 x0 x3 x4 x1 x2 (ix2 p k)
      = ∑ q, x0 (ix2 p q) * scale * x3 (ix2 p q) * x1 (ix2 k q) + ∑ q, x0 (ix2 p q) * scale * x4 (ix2 p q) * x2 (ix2 k q) := by
  unfold k0_pay1
  pointwise

abbrev part (c : Dev nD) (t : Fin cfg0.N) : FVec Ideal S1024x384 .f32 :=
  k0_pay1 (iblk m c 0 t) (iblk m c 3 t) (iblk m c 4 t) (iblk m c 1 t) (iblk m c 2 t)

theorem acc_first (c : Dev nD) (t : Fin cfg0.N) (h : t.val % 2 = 0) (i : S1024x384.Idx) : (outsAt0 m c t.val t.isLt).2 i = part m c t i := by
  rw [outsAt0_A m c t h (by omega) (by omega)]; dsimp only; unfold sout0_A_0
  rw [View.read_writes_eq_canon _ _ _ (fun y => scover0_A_0 (y := y) ..)]
  unfold kernelRun0_A; dsimp only; sl_unfold_words; rw [View.canon_unit_zero (S := S1024x384) NormBlock.hz]
  simp only [View.readAt_eq_ld, (hs0_0 t).read_unread, (hs0_1 t).read_unread, (hs0_2 t).read_unread, (hs0_3 t).read_unread,
    (hs0_4 t).read_unread, View.ld_unit_zero (S := S1024x1024) NormBlock.hz, View.ld_unit_zero (S := S384x1024) NormBlock.hz]
  unfold k0_pay2
  rw [eq_ix2 i]
  pointwise

theorem out_last (c : Dev nD) (t : Fin cfg0.N) (h : t.val % 2 = 1) (i : S1024x384.Idx) :
    (outsAt0 m c t.val t.isLt).1 i = (outsAt0 m c (t.val - 1) (Nat.lt_of_le_of_lt (Nat.sub_le _ _) t.isLt)).2 i + part m c t i := by
  rw [outsAt0_B m c t (by omega) h h]; dsimp only; unfold out0_B_5
  rw [View.read_writes_eq_canon _ _ _ (fun y => cover0_B_5 (y := y) ..)]
  unfold kernelRun0_B; dsimp only; sl_unfold_words; rw [View.canon_unit_zero (S := S1024x384) NormBlock.hz]
  simp only [View.readCov_unit_zero (S := S1024x384) _ NormBlock.hz, View.readAt_eq_ld, (hs0_0 t).read_unread, (hs0_1 t).read_unread, (hs0_2 t).read_unread,
    (hs0_3 t).read_unread, (hs0_4 t).read_unread, (Memref.isWhole_whole cc0_scratch0).read_unread, View.ld_unit_zero (S := S1024x1024) NormBlock.hz,
    View.ld_unit_zero (S := S384x1024) NormBlock.hz, View.ld_unit_zero (S := S1024x384) NormBlock.hz]
  unfold k0_pay3
  rw [eq_ix2 i]
  pointwise

theorem idx : ∀ t : Fin cfg0.N, (win0_0.index t 0 = t.val / 2 ∧ win0_0.index t 1 = t.val % 2) ∧ (win0_1.index t 0 = 0 ∧ win0_1.index t 1 = t.val % 2)
    ∧ (win0_2.index t 0 = 0 ∧ win0_2.index t 1 = t.val % 2) ∧ (win0_3.index t 0 = t.val / 2 ∧ win0_3.index t 1 = 0)
    ∧ win0_4.index t 0 = t.val / 2 ∧ win0_4.index t 1 = 0 := by
  show ∀ t : Fin grid0.N, _
  decide +kernel

section
variable (c : Dev nD) (t : Fin cfg0.N) (p : Fin 1024) (k : Fin 384) (r : Fin 4) (e : Fin 256)

theorem row_lt : t.val / 2 * 1024 + p.val < 8192 := by
  have ht : t.val < 16 := t.isLt
  omega

/-- The row of an entry of point `t`'s block, and the head of its `r`-th 256 columns. -/
abbrev rowOf : Fin 8192 := ⟨t.val / 2 * 1024 + p.val, row_lt t p⟩
abbrev headOf : Fin 8 := ⟨t.val % 2 * 4 + r.val, by omega⟩

theorem blk_g : iblk m c 0 t (ix2 p ⟨r.val * 256 + e.val, by omega⟩) = row (fun e => CT m c (ix3 (rowOf t p) (headOf t r) e)) e.val := by
  obtain ⟨⟨h0, h1⟩, -⟩ := idx t
  refine Eq.trans (congrArg (V m c main_v19) (ext2 ?_ ?_)) (host_g m c (rowOf t p) (headOf t r) e (by dsimp only; omega))
  · show win0_0.index t 0 * 1024 + 1 * p.val = t.val / 2 * 1024 + p.val; omega
  · show win0_0.index t 1 * 1024 + 1 * (r.val * 256 + e.val) = (t.val % 2 * 4 + r.val) * 256 + e.val; omega

theorem blk_wa : iblk m c 1 t (ix2 k ⟨r.val * 256 + e.val, by omega⟩)
    = row (fun e : Fin 192 => W m c (ix2 k ⟨(headOf t r).val * 192 + e.val, by omega⟩)) e.val := by
  obtain ⟨-, ⟨h0, h1⟩, -⟩ := idx t
  refine Eq.trans (congrArg (V m c main_v5) (ext2 ?_ ?_)) (host_wa m c k (headOf t r) e (by dsimp only; omega))
  · show win0_1.index t 0 * 384 + 1 * k.val = k.val; omega
  · show win0_1.index t 1 * 1024 + 1 * (r.val * 256 + e.val) = (t.val % 2 * 4 + r.val) * 256 + e.val; omega

theorem blk_wb : iblk m c 2 t (ix2 k ⟨r.val * 256 + e.val, by omega⟩)
    = swap (row (fun e : Fin 192 => W m c (ix2 k ⟨(headOf t r).val * 192 + e.val, by omega⟩))) e.val := by
  obtain ⟨-, -, ⟨h0, h1⟩, -⟩ := idx t
  refine Eq.trans (congrArg (V m c main_v15) (ext2 ?_ ?_)) (host_wb m c k (headOf t r) e (by dsimp only; omega))
  · show win0_2.index t 0 * 384 + 1 * k.val = k.val; omega
  · show win0_2.index t 1 * 1024 + 1 * (r.val * 256 + e.val) = (t.val % 2 * 4 + r.val) * 256 + e.val; omega

theorem blk_cos : iblk m c 3 t (ix2 p ⟨r.val * 256 + e.val, by omega⟩) = table 1 (row fun j => COS m c (ix2 (rowOf t p) j)) e.val := by
  obtain ⟨-, -, -, ⟨h0, h1⟩, -⟩ := idx t
  refine Eq.trans (congrArg (V m c main_v27) (ext2 ?_ ?_)) (host_cos m c (rowOf t p) r e (by omega))
  · show win0_3.index t 0 * 1024 + 1 * p.val = t.val / 2 * 1024 + p.val; omega
  · show win0_3.index t 1 * 1024 + 1 * (r.val * 256 + e.val) = r.val * 256 + e.val; omega

theorem blk_sin : iblk m c 4 t (ix2 p ⟨r.val * 256 + e.val, by omega⟩) = table 0 (row fun j => SIN m c (ix2 (rowOf t p) j)) e.val := by
  obtain ⟨-, -, -, -, h0, h1⟩ := idx t
  refine Eq.trans (congrArg (V m c main_v30) (ext2 ?_ ?_)) (host_sin m c (rowOf t p) r e (by omega))
  · show win0_4.index t 0 * 1024 + 1 * p.val = t.val / 2 * 1024 + p.val; omega
  · show win0_4.index t 1 * 1024 + 1 * (r.val * 256 + e.val) = r.val * 256 + e.val; omega
end

/-! ## The array, for real arguments -/

section
variable (w : S384x1536.Idx → ℝ) (cos sin : S8192x32.Idx → ℝ) (ct : S8192x8x192.Idx → ℝ) (σ : ℝ)

/-- A head's part of the gradient. -/
def headDx (s : Fin 8192) (k : Fin 384) (h : Fin 8) : ℝ :=
  ∑ e ∈ Finset.range 192, turned cos sin ct σ s h e
    * row (fun e : Fin 192 => w (ix2 k ⟨h.val * 192 + e.val, by omega⟩)) e

theorem part_real (c : Dev nD) (hw : W m c = fun i => (w i : EReal)) (hcos : COS m c = fun i => (cos i : EReal)) (hsin : SIN m c = fun i => (sin i : EReal))
    (hct : CT m c = fun i => (ct i : EReal)) (hσ : scale = (σ : EReal)) (t : Fin cfg0.N) (p : Fin 1024) (k : Fin 384) :
    part m c t (ix2 p k) = ((∑ r : Fin 4, headDx w cos sin ct σ (rowOf t p) k (headOf t r) : ℝ) : EReal) := by
  unfold part
  rw [part_apply, sum_heads (p := 4) (k := 256) rfl, sum_heads (p := 4) (k := 256) rfl, ← Finset.sum_add_distrib, ← Cert.Reals.coe_sum]
  refine Finset.sum_congr rfl fun r _ => ?_
  unfold headDx turned
  rw [← head_dx, Finset.sum_range, Finset.sum_range, EReal.coe_add, ← Cert.Reals.coe_sum, ← Reals.coe_sum]
  refine congrArg₂ (· + ·) (Finset.sum_congr rfl fun e _ => ?_) (Finset.sum_congr rfl fun e _ => ?_)
  · rw [blk_g, blk_cos, blk_wa, hσ, hct, hcos, hw]
    refine (congrArg₂ (· * ·) (congrArg₂ (· * ·) (congrArg (· * (σ : EReal)) (row_coe (fun e => ct (ix3 _ _ e)) e.val))
      (table_row 1 (fun j => cos (ix2 _ j)) e.val)) (row_coe (fun e : Fin 192 => w (ix2 k ⟨_ * 192 + e.val, by omega⟩)) e.val)).trans ?_
    simp only [EReal.coe_mul]
  · rw [blk_g, blk_sin, blk_wb, hσ, hct, hsin, hw]
    refine (congrArg₂ (· * ·) (congrArg₂ (· * ·) (congrArg (· * (σ : EReal)) (row_coe (fun e => ct (ix3 _ _ e)) e.val))
      (table_row 0 (fun j => sin (ix2 _ j)) e.val)) (swap_row (fun e : Fin 192 => w (ix2 k ⟨_ * 192 + e.val, by omega⟩)) e.val)).trans ?_
    simp only [EReal.coe_mul]

/-- The gradient: the rotated cotangent times the weight. -/
def dx : S8192x384.Idx → ℝ := fun i => ∑ h : Fin 8, headDx w cos sin ct σ (i 0) (i 1) h

theorem array_real (c : Dev nD) (hw : W m c = fun i => (w i : EReal)) (hcos : COS m c = fun i => (cos i : EReal)) (hsin : SIN m c = fun i => (sin i : EReal))
    (hct : CT m c = fun i => (ct i : EReal)) (hσ : scale = (σ : EReal)) : Value.G5 m c = fun i => (dx w cos sin ct σ i : EReal) := by
  funext i
  obtain ⟨s, k, rfl⟩ : ∃ (s : Fin 8192) (k : Fin 384), i = ix2 s k := ⟨i 0, i 1, eq_ix2 i⟩
  have hb : 2 * (s.val / 1024) + 1 < cfg0.N := by show _ < 16; omega
  have hp : Value.pt5Of (ix2 s k) = 2 * (s.val / 1024) + 1 := by
    show 2 * (1 * (s.val / 1024 - 0) + 1 * (k.val / 384 - 0)) + 1 = _
    omega
  unfold Value.G5
  rw [dif_pos (by rw [hp]; exact hb), ← Value.outsAt0_sweep m c _ (by rw [hp]; exact hb)]
  have hl : Value.loc5Of (ix2 s k) = ix2 ⟨s.val % 1024, by omega⟩ k := ext2 rfl (by show k.val % 384 = k.val; omega)
  rw [hl]
  simp only [hp]
  have t1 := out_last m c ⟨2 * (s.val / 1024) + 1, hb⟩ (by dsimp only; omega) (ix2 ⟨s.val % 1024, by omega⟩ k)
  have t0 := acc_first m c ⟨2 * (s.val / 1024), by omega⟩ (by dsimp only; omega) (ix2 ⟨s.val % 1024, by omega⟩ k)
  simp only [Nat.add_sub_cancel] at t1 t0
  rw [t1, t0, part_real m w cos sin ct σ c hw hcos hsin hct hσ, part_real m w cos sin ct σ c hw hcos hsin hct hσ, ← EReal.coe_add]
  refine congrArg _ ?_
  unfold dx
  refine Eq.trans ?_ (Fin.sum_univ_add (a := 4) (b := 4) (fun h : Fin 8 => headDx w cos sin ct σ s k h)).symm
  refine congrArg₂ (· + ·) (Finset.sum_congr rfl fun r _ => ?_) (Finset.sum_congr rfl fun r _ => ?_)
  · refine congrArg₂ (fun a b => headDx w cos sin ct σ a k b) (Fin.ext ?_) (Fin.ext ?_)
    · dsimp only; omega
    · show 2 * (s.val / 1024) % 2 * 4 + r.val = r.val; omega
  · refine congrArg₂ (fun a b => headDx w cos sin ct σ a k b) (Fin.ext ?_) (Fin.ext ?_)
    · dsimp only; omega
    · show (2 * (s.val / 1024) + 1) % 2 * 4 + r.val = 4 + r.val; omega
end

end Cert.RopeQXPf

end
-- ==== Proof.RopeQXClaims.lean ====
/- The claims about the gradient of the rotated queries' projection to its input. -/
module

public import proofs.«01_k».proof.Defs
public import proofs.«01_k».proof.Proof.Gen.RopeQX.Frame
public import proofs.«01_k».proof.Proof.Gen.RopeQXIdeal.Frame
public import proofs.«01_k».proof.Proof.MlaClaims
public import proofs.«01_k».proof.Proof.RopeQXValue
public import proofs.«01_k».proof.Proof.Gen.RopeQXRefIdeal.Run
public import proofs.«01_k».proof.Proof.Gen.Pre_ropeq_finite

@[expose] public section

set_option maxRecDepth 16384

noncomputable section

namespace Cert.RopeQXPf

open Idealize.ShloMosaic Idealize.SL.Sem

theorem frame : Cert.quiescent_RopeQX := fun m ρ _ => Cert.RopeQX.Gen.frame m ρ

theorem frame_ideal : Cert.quiescent_RopeQXIdeal := fun m ρ _ => Cert.RopeQXIdeal.Gen.frame m ρ

theorem frame_ref : Cert.quiescent_RopeQXRefIdeal := fun m ρ _ =>
  (θ_run Cert.RopeQXRefIdeal.defs _ _).mono (fun r h => ⟨fun c => (h c).2, sem_eq_zero_of_no_sems (by decide) r.2⟩)
    (Cert.RopeQXRefIdeal.Value.run (F := Ideal) m ρ)

theorem frame_ideal_pre : Cert.quiescent_RopeQXIdeal_pre_ropeq_finite := fun m ρ _ => Cert.RopeQXIdeal.Gen.frame m ρ
theorem frame_ref_pre : Cert.quiescent_RopeQXRefIdeal_pre_ropeq_finite := fun m ρ _ => frame_ref m ρ trivial

theorem preserves : Cert.preserves_RopeQX_RopeQXIdeal := trivial

section
open Cert.RopeQXRefIdeal Cert.RopeQXRefIdeal.Read Cert.RopeQPf
variable (w : S384x1536.Idx → ℝ) (cos sin : S8192x32.Idx → ℝ) (ct : S8192x8x192.Idx → ℝ) (σ : ℝ)

/-- The derivative of real arguments. -/
theorem ref_real (hσ : Ideal.ofBits .f32 0x3D93CD3A#32 = (σ : EReal)) (s : Fin 8192) (k : Fin 384) :
    val_main_v46 (F := Ideal) (fun i => (w i : EReal)) (fun i => (cos i : EReal)) (fun i => (sin i : EReal)) (fun i => (ct i : EReal)) (ix2 s k)
      = ((∑ h : Fin 8, headDx w cos sin ct σ s k h : ℝ) : EReal) := by
  have e : val_main_v46 (F := Ideal) (fun i => (w i : EReal)) (fun i => (cos i : EReal)) (fun i => (sin i : EReal)) (fun i => (ct i : EReal)) (ix2 s k)
      = ∑ j, val_main_v45 (F := Ideal) (fun i => (cos i : EReal)) (fun i => (sin i : EReal)) (fun i => (ct i : EReal)) (ix2 s j) * (w (ix2 k j) : EReal) := by
    unfold val_main_v46
    generalize val_main_v45 (F := Ideal) _ _ _ = T
    pointwise
  rw [e, sum_heads (p := 8) (k := 192) rfl, ← Cert.Reals.coe_sum]
  refine Finset.sum_congr rfl fun h _ => ?_
  unfold headDx
  rw [Finset.sum_range, ← Cert.Reals.coe_sum]
  refine Finset.sum_congr rfl fun e _ => ?_
  rw [EReal.coe_mul, row_of_lt _ e.isLt, ← turned_at cos sin ct σ s h e hσ]
  refine congrArg (· * _) ?_
  unfold val_main_v45
  generalize val_main_v44 (F := Ideal) _ _ _ = T
  pointwise
end

open Cert.NormClaims (finite)
open MlaClaims (real_array)

theorem value : Cert.algebraic_RopeQXIdeal_RopeQXRefIdeal_pre_ropeq_finite := by
  intro m ρ m' ρ' hpre hag
  refine ⟨fun c => Cert.RopeQXIdeal.Value.G5 m c, Cert.RopeQXIdeal.Value.run m ρ,
    (θ_run _ _ _).mono (fun _ h c => ⟨(h c).1.trans ?_, (h c).2⟩) (Cert.RopeQXRefIdeal.Value.run m' ρ')⟩
  obtain ⟨w, hw⟩ := real_array (finite (s := ⟨2, ![384, 1536]⟩) (W m c) _ (fun _ => rfl) (hpre c).2.1)
  obtain ⟨cos, hcos⟩ := real_array (finite (s := ⟨2, ![8192, 32]⟩) (COS m c) _ (fun _ => rfl) (hpre c).2.2.1)
  obtain ⟨sin, hsin⟩ := real_array (finite (s := ⟨2, ![8192, 32]⟩) (SIN m c) _ (fun _ => rfl) (hpre c).2.2.2.1)
  obtain ⟨ct, hct⟩ := real_array (finite (s := ⟨3, ![8192, 8, 192]⟩) (CT m c) _ (fun _ => rfl) (hpre c).2.2.2.2)
  obtain ⟨σ, hσ⟩ := Mla.scale_real
  obtain ⟨-, a1, a2, a3, a4⟩ := hag c
  refine (Cert.RopeQXRefIdeal.Read.val_main_v46_eq ..).trans ?_
  rw [a1, a2, a3, a4]
  refine Eq.trans ?_ (array_real m w cos sin ct σ c hw hcos hsin hct hσ).symm
  refine Eq.trans (congr (congr (congr (congrArg _ hw) hcos) hsin) hct) ?_
  funext i
  obtain ⟨s, k, rfl⟩ : ∃ (s : Fin 8192) (k : Fin 384), i = ix2 s k := ⟨i 0, i 1, eq_ix2 i⟩
  exact ref_real w cos sin ct σ hσ s k

end Cert.RopeQXPf

end
-- ==== Proof.RopeQWValue.lean ====
/- The gradient of the rotated queries' projection to its weight: the two products of the cotangent with the tables, added
   up over the blocks of rows, and their columns joined. -/
module

public import proofs.«01_k».proof.Proof.RopeQRef
public import proofs.«01_k».proof.Proof.Gen.RopeQWIdeal.Frame

@[expose] public section

set_option maxRecDepth 16384

noncomputable section

namespace Cert.RopeQWPf

open Cert.RopeQWIdeal Cert.RopeQWIdeal.Gen Idealize.ShloMosaic Idealize.ShloMosaic.TcCoe Idealize.SL.Sem
open Cert.Norm2Pf (ext2)
open Cert.RopeQPf

variable (m : (ℓ : Loc nD τ sig) → Buf (Elt Ideal) ℓ) (ρ : Dev nD → PrngReg)

abbrev X (c : Dev nD) : S8192x384.Idx → EReal := m ((c : Thread nD τ).loc main_arg0)
abbrev COS (c : Dev nD) : S8192x32.Idx → EReal := m ((c : Thread nD τ).loc main_arg2)
abbrev SIN (c : Dev nD) : S8192x32.Idx → EReal := m ((c : Thread nD τ).loc main_arg3)
abbrev CT (c : Dev nD) : S8192x8x192.Idx → EReal := m ((c : Thread nD τ).loc main_arg4)

theorem sitofp_zero32 : (FloatOps.sitofp .f32 0#32 : Ideal .f32) = 0 := by
  show ((((0#32 : BitVec 32).toInt : ℤ) : ℝ) : EReal) = 0
  simp

theorem V_split (c : Dev nD) : V0 m c = StableHlo.after hostOps0_2 (StableHlo.after hostOps0_1 (StableHlo.after hostOps0 (fun b => m (c, b)))) := by
  unfold V0
  simp only [List.flatten_cons, List.flatten_nil, StableHlo.after_append, List.append_nil]

theorem host_x (c : Dev nD) (s : Fin 8192) (k : Fin 384) : V m c main_v4 (ix2 s k) = X m c (ix2 s k) := by
  show V0 m c (Proc.devRef .tc main_v4) _ = _
  rw [V_split]
  after_results_simp
  pointwise

theorem host_g (c : Dev nD) (s : Fin 8192) (h : Fin 8) (e : Fin 256) (hc : h.val * 256 + e.val < 2048) :
    V m c main_v3 (ix2 s ⟨h.val * 256 + e.val, hc⟩) = row (fun e => CT m c (ix3 s h e)) e.val := by
  show V0 m c (Proc.devRef .tc main_v3) _ = _
  rw [V_split]
  after_results_simp
  simp only [StableHlo.TRef.toBuf, StableHlo.TRef.ofBuf, cast_eq, id]
  pointwise
  exact row_if _ _ (fun e => CT m c (ix3 s h e)) (sitofp_zero32)

theorem host_cos (c : Dev nD) (s : Fin 8192) (r : Fin 4) (e : Fin 256) (hc : r.val * 256 + e.val < 1024) :
    V m c main_v12 (ix2 s ⟨r.val * 256 + e.val, hc⟩) = table 1 (row fun j => COS m c (ix2 s j)) e.val := by
  show V0 m c (Proc.devRef .tc main_v12) _ = _
  rw [V_split]
  after_results_simp
  try simp only [StableHlo.TRef.toBuf, StableHlo.TRef.ofBuf, cast_eq, id]
  pointwise
  after_results_simp
  try simp only [StableHlo.TRef.toBuf, StableHlo.TRef.ofBuf, cast_eq, id]
  pointwise
  exact table_if 1 e.val (fun j => COS m c (ix2 s j))

theorem host_sin (c : Dev nD) (s : Fin 8192) (r : Fin 4) (e : Fin 256) (hc : r.val * 256 + e.val < 1024) :
    V m c main_v15 (ix2 s ⟨r.val * 256 + e.val, hc⟩) = table 0 (row fun j => SIN m c (ix2 s j)) e.val := by
  show V0 m c (Proc.devRef .tc main_v15) _ = _
  rw [V_split]
  after_results_simp
  try simp only [StableHlo.TRef.toBuf, StableHlo.TRef.ofBuf, cast_eq, id]
  pointwise
  after_results_simp
  try simp only [StableHlo.TRef.toBuf, StableHlo.TRef.ofBuf, cast_eq, id]
  pointwise
  exact table_if 0 e.val (fun j => SIN m c (ix2 s j))

/-! ## One grid point -/

/-- The logits' scale. -/
abbrev scale : EReal := Ideal.ofBits .f32 0x3D93CD3A#32

theorem prod_apply (g t : Vec Ideal S1024x1024 .f32) (x : Vec Ideal S1024x384 .bf16) (k : Fin 384) (q : Fin 1024) :
    k0_pay3 g t x (ix2 k q) = ∑ p, x (ix2 p k) * (g (ix2 p q) * scale * t (ix2 p q)) := by
  unfold k0_pay3 k0_pay2 k0_pay1
  pointwise

/-- A point's two products: with the cosines' table and with the sines'. -/
abbrev partA (c : Dev nD) (t : Fin cfg0.N) : FVec Ideal S384x1024 .f32 := k0_pay3 (iblk m c 1 t) (iblk m c 2 t) (iblk m c 0 t)
abbrev partB (c : Dev nD) (t : Fin cfg0.N) : FVec Ideal S384x1024 .f32 := k0_pay3 (iblk m c 1 t) (iblk m c 3 t) (iblk m c 0 t)

/-- The point before. -/
abbrev prev (c : Dev nD) (t : Fin cfg0.N) := outsAt0 m c (t.val - 1) (Nat.lt_of_le_of_lt (Nat.sub_le _ _) t.isLt)

theorem first_a (c : Dev nD) (t : Fin cfg0.N) (h : t.val % 8 = 0) (i : S384x1024.Idx) : (outsAt0 m c t.val t.isLt).2.2.1 i = partA m c t i := by
  rw [outsAt0_A m c t h (by omega) (by omega)]; dsimp only; unfold sout0_A_0
  rw [View.read_writes_eq_canon _ _ _ (fun y => scover0_A_0 (y := y) ..)]
  unfold kernelRun0_A; dsimp only; sl_unfold_words; rw [View.canon_unit_zero (S := S384x1024) NormBlock.hz]
  simp only [View.readAt_eq_ld, (hs0_0 t).read_unread, (hs0_1 t).read_unread, (hs0_2 t).read_unread,
    View.ld_unit_zero (S := S1024x1024) NormBlock.hz, View.ld_unit_zero (S := S1024x384) NormBlock.hz]
  unfold k0_pay5
  rw [eq_ix2 i]
  pointwise

theorem first_b (c : Dev nD) (t : Fin cfg0.N) (h : t.val % 8 = 0) (i : S384x1024.Idx) : (outsAt0 m c t.val t.isLt).2.2.2 i = partB m c t i := by
  rw [outsAt0_A m c t h (by omega) (by omega)]; dsimp only; unfold sout0_A_1
  rw [View.read_writes_eq_canon _ _ _ (fun y => scover0_A_1 (y := y) ..)]
  unfold kernelRun0_A; dsimp only; sl_unfold_words; rw [View.canon_unit_zero (S := S384x1024) NormBlock.hz]
  simp only [View.readAt_eq_ld, (hs0_0 t).read_unread, (hs0_1 t).read_unread, (hs0_3 t).read_unread,
    View.ld_unit_zero (S := S1024x1024) NormBlock.hz, View.ld_unit_zero (S := S1024x384) NormBlock.hz]
  unfold k0_pay6
  rw [eq_ix2 i]
  pointwise
  rfl

theorem next_a (c : Dev nD) (t : Fin cfg0.N) (h : 1 ≤ t.val % 8) (h7 : ¬t.val % 8 = 7) (i : S384x1024.Idx) :
    (outsAt0 m c t.val t.isLt).2.2.1 i = (prev m c t).2.2.1 i + partA m c t i := by
  rw [outsAt0_B m c t (by omega) h h7]; dsimp only; unfold sout0_B_0
  rw [View.read_writes_eq_canon _ _ _ (fun y => scover0_B_0 (y := y) ..)]
  unfold kernelRun0_B; dsimp only; sl_unfold_words; rw [View.canon_unit_zero (S := S384x1024) NormBlock.hz]
  simp only [View.readAt_eq_ld, (hs0_0 t).read_unread, (hs0_1 t).read_unread, (hs0_2 t).read_unread, (Memref.isWhole_whole cc0_scratch0).read_unread,
    View.ld_unit_zero (S := S1024x1024) NormBlock.hz, View.ld_unit_zero (S := S1024x384) NormBlock.hz, View.ld_unit_zero (S := S384x1024) NormBlock.hz]
  unfold k0_pay7
  rw [eq_ix2 i]
  pointwise

theorem next_b (c : Dev nD) (t : Fin cfg0.N) (h : 1 ≤ t.val % 8) (h7 : ¬t.val % 8 = 7) (i : S384x1024.Idx) :
    (outsAt0 m c t.val t.isLt).2.2.2 i = (prev m c t).2.2.2 i + partB m c t i := by
  rw [outsAt0_B m c t (by omega) h h7]; dsimp only; unfold sout0_B_1
  rw [View.read_writes_eq_canon _ _ _ (fun y => scover0_B_1 (y := y) ..)]
  unfold kernelRun0_B; dsimp only; sl_unfold_words; rw [View.canon_unit_zero (S := S384x1024) NormBlock.hz]
  simp only [View.readAt_eq_ld, (hs0_0 t).read_unread, (hs0_1 t).read_unread, (hs0_3 t).read_unread, (Memref.isWhole_whole cc0_scratch1).read_unread,
    View.ld_unit_zero (S := S1024x1024) NormBlock.hz, View.ld_unit_zero (S := S1024x384) NormBlock.hz, View.ld_unit_zero (S := S384x1024) NormBlock.hz]
  unfold k0_pay8
  rw [eq_ix2 i]
  pointwise
  rfl

theorem last_a (c : Dev nD) (t : Fin cfg0.N) (h : t.val % 8 = 7) (i : S384x1024.Idx) :
    (outsAt0 m c t.val t.isLt).1 i = (prev m c t).2.2.1 i + partA m c t i := by
  rw [outsAt0_C m c t (by omega) (by omega) h]; dsimp only; unfold out0_C_4
  rw [View.read_writes_eq_canon _ _ _ (fun y => cover0_C_4 (y := y) ..)]
  unfold kernelRun0_C; dsimp only; sl_unfold_words; rw [View.canon_unit_zero (S := S384x1024) NormBlock.hz]
  simp only [View.readCov_unit_zero (S := S384x1024) _ NormBlock.hz, View.readAt_eq_ld, (hs0_0 t).read_unread, (hs0_1 t).read_unread, (hs0_2 t).read_unread,
    (Memref.isWhole_whole cc0_scratch0).read_unread,
    View.ld_unit_zero (S := S1024x1024) NormBlock.hz, View.ld_unit_zero (S := S1024x384) NormBlock.hz, View.ld_unit_zero (S := S384x1024) NormBlock.hz]
  unfold k0_pay7
  rw [eq_ix2 i]
  pointwise

theorem last_b (c : Dev nD) (t : Fin cfg0.N) (h : t.val % 8 = 7) (i : S384x1024.Idx) :
    (outsAt0 m c t.val t.isLt).2.1 i = (prev m c t).2.2.2 i + partB m c t i := by
  rw [outsAt0_C m c t (by omega) (by omega) h]; dsimp only; unfold out0_C_5
  rw [View.read_writes_eq_canon _ _ _ (fun y => cover0_C_5 (y := y) ..)]
  unfold kernelRun0_C; dsimp only; sl_unfold_words; rw [View.canon_unit_zero (S := S384x1024) NormBlock.hz]
  simp only [View.readCov_unit_zero (S := S384x1024) _ NormBlock.hz, View.readAt_eq_ld, (hs0_0 t).read_unread, (hs0_1 t).read_unread, (hs0_3 t).read_unread,
    (Memref.isWhole_whole cc0_scratch1).read_unread,
    View.ld_unit_zero (S := S1024x1024) NormBlock.hz, View.ld_unit_zero (S := S1024x384) NormBlock.hz, View.ld_unit_zero (S := S384x1024) NormBlock.hz]
  unfold k0_pay8
  rw [eq_ix2 i]
  pointwise
  rfl

theorem idx : ∀ t : Fin cfg0.N, (win0_0.index t 0 = t.val % 8 ∧ win0_0.index t 1 = 0) ∧ (win0_1.index t 0 = t.val % 8 ∧ win0_1.index t 1 = t.val / 8)
    ∧ (win0_2.index t 0 = t.val % 8 ∧ win0_2.index t 1 = 0) ∧ (win0_3.index t 0 = t.val % 8 ∧ win0_3.index t 1 = 0)
    ∧ (win0_4.index t 0 = 0 ∧ win0_4.index t 1 = t.val / 8) ∧ win0_5.index t 0 = 0 ∧ win0_5.index t 1 = t.val / 8 := by
  show ∀ t : Fin grid0.N, _
  decide +kernel

section
variable (c : Dev nD) (t : Fin cfg0.N) (p : Fin 1024) (k : Fin 384) (r : Fin 4) (e : Fin 256)

theorem head_lt : t.val / 8 * 4 + r.val < 8 := by
  have ht : t.val < 16 := t.isLt
  omega

/-- The row of an entry of point `t`'s block, and the head of its `r`-th 256 columns. -/
abbrev rowOf : Fin 8192 := ⟨t.val % 8 * 1024 + p.val, by omega⟩
abbrev headOf : Fin 8 := ⟨t.val / 8 * 4 + r.val, head_lt t r⟩

theorem blk_x : iblk m c 0 t (ix2 p k) = X m c (ix2 (rowOf t p) k) := by
  obtain ⟨⟨h0, h1⟩, -⟩ := idx t
  refine Eq.trans (congrArg (V m c main_v4) (ext2 ?_ ?_)) (host_x m c (rowOf t p) k)
  · show win0_0.index t 0 * 1024 + 1 * p.val = t.val % 8 * 1024 + p.val; omega
  · show win0_0.index t 1 * 384 + 1 * k.val = k.val; omega

theorem blk_g : iblk m c 1 t (ix2 p ⟨r.val * 256 + e.val, by omega⟩) = row (fun e => CT m c (ix3 (rowOf t p) (headOf t r) e)) e.val := by
  obtain ⟨-, ⟨h0, h1⟩, -⟩ := idx t
  have := head_lt t r
  refine Eq.trans (congrArg (V m c main_v3) (ext2 ?_ ?_)) (host_g m c (rowOf t p) (headOf t r) e (by dsimp only; omega))
  · show win0_1.index t 0 * 1024 + 1 * p.val = t.val % 8 * 1024 + p.val; omega
  · show win0_1.index t 1 * 1024 + 1 * (r.val * 256 + e.val) = (t.val / 8 * 4 + r.val) * 256 + e.val; omega

theorem blk_cos : iblk m c 2 t (ix2 p ⟨r.val * 256 + e.val, by omega⟩) = table 1 (row fun j => COS m c (ix2 (rowOf t p) j)) e.val := by
  obtain ⟨-, -, ⟨h0, h1⟩, -⟩ := idx t
  refine Eq.trans (congrArg (V m c main_v12) (ext2 ?_ ?_)) (host_cos m c (rowOf t p) r e (by omega))
  · show win0_2.index t 0 * 1024 + 1 * p.val = t.val % 8 * 1024 + p.val; omega
  · show win0_2.index t 1 * 1024 + 1 * (r.val * 256 + e.val) = r.val * 256 + e.val; omega

theorem blk_sin : iblk m c 3 t (ix2 p ⟨r.val * 256 + e.val, by omega⟩) = table 0 (row fun j => SIN m c (ix2 (rowOf t p) j)) e.val := by
  obtain ⟨-, -, -, ⟨h0, h1⟩, -⟩ := idx t
  refine Eq.trans (congrArg (V m c main_v15) (ext2 ?_ ?_)) (host_sin m c (rowOf t p) r e (by omega))
  · show win0_3.index t 0 * 1024 + 1 * p.val = t.val % 8 * 1024 + p.val; omega
  · show win0_3.index t 1 * 1024 + 1 * (r.val * 256 + e.val) = r.val * 256 + e.val; omega
end

/-! ## The sums over the blocks of rows, for real arguments -/

section
variable (x : S8192x384.Idx → ℝ) (ct : S8192x8x192.Idx → ℝ) (σ : ℝ)

/-- A row's term of a product with a table, and a block's. -/
def term (z : ℝ) (tab : S8192x32.Idx → ℝ) (k : Fin 384) (h : Fin 8) (e : ℕ) (s : Fin 8192) : ℝ :=
  x (ix2 s k) * (row (fun e => ct (ix3 s h e)) e * σ * table z (row fun j => tab (ix2 s j)) e)

def block (f : Fin 8192 → ℝ) (n : ℕ) : ℝ := ∑ p : Fin 1024, f ⟨n % 8 * 1024 + p.val, by omega⟩

theorem sum_blocks (f : Fin 8192 → ℝ) : ∑ j ∈ Finset.range 8, block f j = ∑ s, f s := by
  rw [sum_heads (p := 8) (k := 1024) rfl f, Finset.sum_range]
  refine Finset.sum_congr rfl fun j _ => Finset.sum_congr rfl fun p _ => congrArg f (Fin.ext ?_)
  dsimp only
  omega

/-- A sum that a grid's points add up, one block after another. -/
theorem fold_real {N : ℕ} (S P : ∀ n, n < N → EReal) (B : ℕ → ℝ) (a : ℕ) (ha : a + 7 < N) (hP : ∀ j (hj : j < 8), P (a + j) (by omega) = (B j : EReal))
    (h0 : S a (by omega) = P a (by omega))
    (hs : ∀ j (hj : j + 1 < 7), S (a + (j + 1)) (by omega) = S (a + j) (by omega) + P (a + (j + 1)) (by omega)) (T : EReal)
    (hT : T = S (a + 6) (by omega) + P (a + 7) ha) : T = ((∑ j ∈ Finset.range 8, B j : ℝ) : EReal) := by
  have h : ∀ j (hj : j < 7), S (a + j) (by omega) = ((∑ i ∈ Finset.range (j + 1), B i : ℝ) : EReal) := by
    intro j
    induction j with
    | zero => intro _; rw [Finset.sum_range_one, ← hP 0 (by omega)]; exact h0
    | succ j ih => intro hj; rw [hs j hj, ih (by omega), hP (j + 1) (by omega), Finset.sum_range_succ _ (j + 1), EReal.coe_add]
  rw [hT, h 6 (by omega), hP 7 (by omega), Finset.sum_range_succ _ 7, EReal.coe_add]

variable (cos sin : S8192x32.Idx → ℝ) (c : Dev nD) (hx : X m c = fun i => (x i : EReal)) (hcos : COS m c = fun i => (cos i : EReal))
  (hsin : SIN m c = fun i => (sin i : EReal)) (hct : CT m c = fun i => (ct i : EReal)) (hσ : scale = (σ : EReal))
include hx hct hσ

theorem part_real (z : ℝ) (tab : S8192x32.Idx → ℝ) (t : Fin cfg0.N) (w : Vec Ideal S1024x1024 .f32) (k : Fin 384) (r : Fin 4) (e : Fin 256)
    (hw : ∀ p, w (ix2 p ⟨r.val * 256 + e.val, by omega⟩) = (table z (row fun j => tab (ix2 (rowOf t p) j)) e.val : ℝ)) :
    k0_pay3 (iblk m c 1 t) w (iblk m c 0 t) (ix2 k ⟨r.val * 256 + e.val, by omega⟩) = (block (term x ct σ z tab k (headOf t r) e.val) t.val : ℝ) := by
  rw [prod_apply]
  unfold block term
  rw [← Cert.Reals.coe_sum]
  refine Finset.sum_congr rfl fun p _ => ?_
  rw [blk_x, blk_g, hw, hσ, hx, hct]
  refine (congrArg (_ * ·) (congrArg (· * _) (congrArg (· * (σ : EReal)) (row_coe (fun e => ct (ix3 _ _ e)) e.val)))).trans ?_
  simp only [EReal.coe_mul]

include hcos in
theorem sum_a (t : Fin cfg0.N) (h : t.val % 8 = 7) (k : Fin 384) (r : Fin 4) (e : Fin 256) :
    (outsAt0 m c t.val t.isLt).1 (ix2 k ⟨r.val * 256 + e.val, by omega⟩) = ((∑ s, term x ct σ 1 cos k (headOf t r) e.val s : ℝ) : EReal) := by
  have ht : t.val < 16 := t.isLt
  rw [← sum_blocks]
  refine fold_real (N := cfg0.N) (fun n hn => (outsAt0 m c n hn).2.2.1 (ix2 k ⟨r.val * 256 + e.val, by omega⟩))
    (fun n hn => partA m c ⟨n, hn⟩ (ix2 k ⟨r.val * 256 + e.val, by omega⟩)) _ (t.val - 7) (by show _ < 16; omega) (fun j hj => ?_) ?_ (fun j hj => ?_) _ ?_
  · refine (part_real m x ct σ c hx hct hσ 1 cos ⟨t.val - 7 + j, by show _ < 16; omega⟩ _ k r e (fun p => ?_)).trans ?_
    · rw [blk_cos, hcos]
      exact table_row 1 (fun j => cos (ix2 _ j)) e.val
    · have e1 : headOf (⟨t.val - 7 + j, by show _ < 16; omega⟩ : Fin cfg0.N) r = headOf t r := Fin.ext (by dsimp only; omega)
      rw [e1]
      unfold block
      have e2 : (t.val - 7 + j) % 8 = j % 8 := by omega
      simp only [e2]
  · exact first_a m c ⟨t.val - 7, by show _ < 16; omega⟩ (by dsimp only; omega) _
  · exact next_a m c ⟨t.val - 7 + (j + 1), by show _ < 16; omega⟩ (by dsimp only; omega) (by dsimp only; omega) _
  · have e1 : t.val - 7 + 6 = t.val - 1 := by omega
    have e2 : t.val - 7 + 7 = t.val := by omega
    simp only [e1, e2]
    exact last_a m c t h _

include hsin in
theorem sum_b (t : Fin cfg0.N) (h : t.val % 8 = 7) (k : Fin 384) (r : Fin 4) (e : Fin 256) :
    (outsAt0 m c t.val t.isLt).2.1 (ix2 k ⟨r.val * 256 + e.val, by omega⟩) = ((∑ s, term x ct σ 0 sin k (headOf t r) e.val s : ℝ) : EReal) := by
  have ht : t.val < 16 := t.isLt
  rw [← sum_blocks]
  refine fold_real (N := cfg0.N) (fun n hn => (outsAt0 m c n hn).2.2.2 (ix2 k ⟨r.val * 256 + e.val, by omega⟩))
    (fun n hn => partB m c ⟨n, hn⟩ (ix2 k ⟨r.val * 256 + e.val, by omega⟩)) _ (t.val - 7) (by show _ < 16; omega) (fun j hj => ?_) ?_ (fun j hj => ?_) _ ?_
  · refine (part_real m x ct σ c hx hct hσ 0 sin ⟨t.val - 7 + j, by show _ < 16; omega⟩ _ k r e (fun p => ?_)).trans ?_
    · rw [blk_sin, hsin]
      exact table_row 0 (fun j => sin (ix2 _ j)) e.val
    · have e1 : headOf (⟨t.val - 7 + j, by show _ < 16; omega⟩ : Fin cfg0.N) r = headOf t r := Fin.ext (by dsimp only; omega)
      rw [e1]
      unfold block
      have e2 : (t.val - 7 + j) % 8 = j % 8 := by omega
      simp only [e2]
  · exact first_b m c ⟨t.val - 7, by show _ < 16; omega⟩ (by dsimp only; omega) _
  · exact next_b m c ⟨t.val - 7 + (j + 1), by show _ < 16; omega⟩ (by dsimp only; omega) (by dsimp only; omega) _
  · have e1 : t.val - 7 + 6 = t.val - 1 := by omega
    have e2 : t.val - 7 + 7 = t.val := by omega
    simp only [e1, e2]
    exact last_b m c t h _

/-! ## The arrays after the region -/

/-- A product over all rows, in its padded columns. -/
def whole (z : ℝ) (tab : S8192x32.Idx → ℝ) : S384x2048.Idx → EReal := fun i =>
  ((∑ s, term x ct σ z tab (i 0) ⟨(i 1).val / 256, by have h : (i 1).val < 2048 := (i 1).isLt; omega⟩ ((i 1).val % 256) s : ℝ) : EReal)

omit hx hct hσ in
theorem whole_apply (z : ℝ) (tab : S8192x32.Idx → ℝ) (k : Fin 384) (h : Fin 8) (e : ℕ) (he : e < 256) (hc : h.val * 256 + e < 2048) :
    whole x ct σ z tab (ix2 k ⟨h.val * 256 + e, hc⟩) = ((∑ s, term x ct σ z tab k h e s : ℝ) : EReal) := by
  have e1 : (⟨(h.val * 256 + e) / 256, by omega⟩ : Fin 8) = h := Fin.ext (by dsimp only; omega)
  have e2 : (h.val * 256 + e) % 256 = e := by omega
  show ((∑ s, term x ct σ z tab k ⟨(h.val * 256 + e) / 256, _⟩ ((h.val * 256 + e) % 256) s : ℝ) : EReal) = _
  rw [e1, e2]

include hcos in
set_option maxHeartbeats 2000000 in
theorem final_a : (dats m 0 c).arrAt 4 (cfgs 0).N = whole x ct σ 1 cos :=
  (dats m 0 c).arrAt_eq_of_cover 4 (whole x ct σ 1 cos)
    (fun t hf => by
      have h7 := (flush0_4 t).mp hf
      obtain ⟨-, -, -, -, ⟨h0, h1⟩, -⟩ := idx t
      show (cfg0.win 4).cut (grid0.coords t) ((dats m 0 c).after 4 t) = _
      rw [after0_4]
      funext j
      obtain ⟨k, r, e, rfl⟩ : ∃ (k : Fin 384) (r : Fin 4) (e : Fin 256), j = ix2 k ⟨r.val * 256 + e.val, by omega⟩ :=
        ⟨j 0, ⟨(j 1).val / 256, by have h : (j 1).val < 1024 := (j 1).isLt; omega⟩, ⟨(j 1).val % 256, by omega⟩,
          ext2 rfl (by show (j 1).val = (j 1).val / 256 * 256 + (j 1).val % 256; omega)⟩
      refine (sum_a m x ct σ cos c hx hcos hct hσ t h7 k r e).trans ?_
      have := head_lt t r
      refine (whole_apply x ct σ 1 cos k (headOf t r) e.val e.isLt (by dsimp only; omega)).symm.trans (congrArg (whole x ct σ 1 cos) (ext2 ?_ ?_))
      · show k.val = win0_4.index t 0 * 384 + 1 * k.val; omega
      · show (t.val / 8 * 4 + r.val) * 256 + e.val = win0_4.index t 1 * 1024 + 1 * (r.val * 256 + e.val); omega)
    (fun i => ⟨⟨(i 1).val / 1024 * 8 + 7, by have h : (i 1).val < 2048 := (i 1).isLt; show _ < 16; omega⟩, (flush0_4 _).mpr (by dsimp only; omega), by
      have hi0 : (i 0).val < 384 := (i 0).isLt
      have hi1 : (i 1).val < 2048 := (i 1).isLt
      generalize ht : (⟨(i 1).val / 1024 * 8 + 7, _⟩ : Fin cfg0.N) = t
      have hv : t.val = (i 1).val / 1024 * 8 + 7 := by rw [← ht]
      obtain ⟨-, -, -, -, ⟨h0, h1⟩, -⟩ := idx t
      show i ∈ ((View.whole main_v16_0).slice (win0_4.rect t)).set
      rw [View.set_slice_whole, Rect.mem_set_unit]
      intro a
      match a with
      | ⟨0, _⟩ => show win0_4.index t 0 * 384 ≤ (i 0 : Nat) ∧ (i 0 : Nat) < win0_4.index t 0 * 384 + 384; omega
      | ⟨1, _⟩ => show win0_4.index t 1 * 1024 ≤ (i 1 : Nat) ∧ (i 1 : Nat) < win0_4.index t 1 * 1024 + 1024; omega⟩)

include hsin in
set_option maxHeartbeats 2000000 in
theorem final_b : (dats m 0 c).arrAt 5 (cfgs 0).N = whole x ct σ 0 sin :=
  (dats m 0 c).arrAt_eq_of_cover 5 (whole x ct σ 0 sin)
    (fun t hf => by
      have h7 := (flush0_5 t).mp hf
      obtain ⟨-, -, -, -, -, h0, h1⟩ := idx t
      show (cfg0.win 5).cut (grid0.coords t) ((dats m 0 c).after 5 t) = _
      rw [after0_5]
      funext j
      obtain ⟨k, r, e, rfl⟩ : ∃ (k : Fin 384) (r : Fin 4) (e : Fin 256), j = ix2 k ⟨r.val * 256 + e.val, by omega⟩ :=
        ⟨j 0, ⟨(j 1).val / 256, by have h : (j 1).val < 1024 := (j 1).isLt; omega⟩, ⟨(j 1).val % 256, by omega⟩,
          ext2 rfl (by show (j 1).val = (j 1).val / 256 * 256 + (j 1).val % 256; omega)⟩
      refine (sum_b m x ct σ sin c hx hsin hct hσ t h7 k r e).trans ?_
      have := head_lt t r
      refine (whole_apply x ct σ 0 sin k (headOf t r) e.val e.isLt (by dsimp only; omega)).symm.trans (congrArg (whole x ct σ 0 sin) (ext2 ?_ ?_))
      · show k.val = win0_5.index t 0 * 384 + 1 * k.val; omega
      · show (t.val / 8 * 4 + r.val) * 256 + e.val = win0_5.index t 1 * 1024 + 1 * (r.val * 256 + e.val); omega)
    (fun i => ⟨⟨(i 1).val / 1024 * 8 + 7, by have h : (i 1).val < 2048 := (i 1).isLt; show _ < 16; omega⟩, (flush0_5 _).mpr (by dsimp only; omega), by
      have hi0 : (i 0).val < 384 := (i 0).isLt
      have hi1 : (i 1).val < 2048 := (i 1).isLt
      generalize ht : (⟨(i 1).val / 1024 * 8 + 7, _⟩ : Fin cfg0.N) = t
      have hv : t.val = (i 1).val / 1024 * 8 + 7 := by rw [← ht]
      obtain ⟨-, -, -, -, -, h0, h1⟩ := idx t
      show i ∈ ((View.whole main_v16_1).slice (win0_5.rect t)).set
      rw [View.set_slice_whole, Rect.mem_set_unit]
      intro a
      match a with
      | ⟨0, _⟩ => show win0_5.index t 0 * 384 ≤ (i 0 : Nat) ∧ (i 0 : Nat) < win0_5.index t 0 * 384 + 384; omega
      | ⟨1, _⟩ => show win0_5.index t 1 * 1024 ≤ (i 1 : Nat) ∧ (i 1 : Nat) < win0_5.index t 1 * 1024 + 1024; omega⟩)

/-- The two arrays after the region. -/
abbrev Wend : Valuation τ sig (Elt Ideal) :=
  Pipeline.withArrays (cfgs 0).spec c (V0 m c) (fun w => (dats m 0 c).arrAt w (cfgs 0).N)

/-- The weight's gradient: a product with the cotangent rotated back. -/
def dw : S384x8x192.Idx → ℝ := fun i => ∑ s, x (ix2 s (i 0)) * turned cos sin ct σ s (i 1) (i 2).val

omit hx hct hσ in
theorem dw_join (k : Fin 384) (h : Fin 8) (e : Fin 192) :
    dw x ct σ cos sin (ix3 k h e) = join (fun e => ∑ s, term x ct σ 1 cos k h e s) (fun e => ∑ s, term x ct σ 0 sin k h e s) e.val := by
  have hd := head_dw Finset.univ (fun s => x (ix2 s k)) (fun s e => row (fun e => ct (ix3 s h e)) e * σ) (fun s => row fun j => cos (ix2 s j))
      (fun s => row fun j => sin (ix2 s j)) e.val e.isLt
  unfold dw turned term
  exact hd.symm

omit hx hct hσ in
theorem parts (k : Fin 384) (h : Fin 8) (e : Fin 192) (A B : S384x2048.Idx → EReal) (a b : ℕ → ℝ)
    (hA : ∀ e (he : e < 256) hc, A (ix2 k ⟨h.val * 256 + e, hc⟩) = (a e : EReal)) (hB : ∀ e (he : e < 256) hc, B (ix2 k ⟨h.val * 256 + e, hc⟩) = (b e : EReal)) :
    (if h_1 : e.val < 128 then A (ix2 k ⟨h.val * 256 + e.val, by omega⟩)
      else if h_2 : e.val - 128 < 32 then A (ix2 k ⟨h.val * 256 + (128 + (e.val - 128)), by omega⟩) + B (ix2 k ⟨h.val * 256 + (160 + (e.val - 128)), by omega⟩)
      else A (ix2 k ⟨h.val * 256 + (160 + (e.val - 128 - 32)), by omega⟩) - B (ix2 k ⟨h.val * 256 + (128 + (e.val - 128 - 32)), by omega⟩))
      = (join a b e.val : EReal) := by
  have he := e.isLt
  unfold join
  by_cases h1 : e.val < 128
  · rw [dif_pos h1, if_pos h1]
    exact hA e.val (by omega) _
  by_cases h2 : e.val < 160
  · rw [dif_neg h1, dif_pos (show e.val - 128 < 32 by omega), if_neg h1, if_pos h2, hA _ (by omega),
      hB _ (by omega), show 128 + (e.val - 128) = e.val by omega, show 160 + (e.val - 128) = e.val + 32 by omega, EReal.coe_add]
  · rw [dif_neg h1, dif_neg (show ¬e.val - 128 < 32 by omega), if_neg h1, if_neg h2, hA _ (by omega),
      hB _ (by omega), show 160 + (e.val - 128 - 32) = e.val by omega,
      show 128 + (e.val - 128 - 32) = e.val - 32 by omega, EReal.coe_sub]

include hcos hsin in
theorem res : StableHlo.after hostOps1 (Wend m c) (Proc.devRef .tc main_v32) = fun i => (dw x ct σ cos sin i : EReal) := by
  have ea : Wend m c (Proc.devRef .tc main_v16_0) = whole x ct σ 1 cos :=
    (Pipeline.withArrays_arr (cfgs 0).spec launch0.win.arr_inj c (V0 m c) (fun w => (dats m 0 c).arrAt w (cfgs 0).N) (4 : Fin 6)).trans
      (final_a m x ct σ cos c hx hcos hct hσ)
  have eb : Wend m c (Proc.devRef .tc main_v16_1) = whole x ct σ 0 sin :=
    (Pipeline.withArrays_arr (cfgs 0).spec launch0.win.arr_inj c (V0 m c) (fun w => (dats m 0 c).arrAt w (cfgs 0).N) (5 : Fin 6)).trans
      (final_b m x ct σ sin c hx hsin hct hσ)
  generalize Wend m c = W at ea eb
  funext i
  obtain ⟨k, h, e, rfl⟩ : ∃ (k : Fin 384) (h : Fin 8) (e : Fin 192), i = ix3 k h e := ⟨i 0, i 1, i 2, eq_ix3 i⟩
  after_results_simp
  pointwise
  after_results_simp
  rw [ea, eb]
  pointwise
  have hp := parts k h e (whole x ct σ 1 cos) (whole x ct σ 0 sin) (fun e => ∑ s, term x ct σ 1 cos k h e s) (fun e => ∑ s, term x ct σ 0 sin k h e s) (fun e he hc => whole_apply x ct σ 1 cos k h e he hc) (fun e he hc => whole_apply x ct σ 0 sin k h e he hc)
  rw [← dw_join] at hp
  exact hp
end

/-- What the program leaves, where its arguments are real. -/
theorem run (G : Dev nD → S384x8x192.Idx → EReal) (hG : ∀ c, StableHlo.after hostOps1 (Wend m c) (Proc.devRef .tc main_v32) = G c) :
    θ_run (defs (F := Ideal)) (onTc (τ := τ) (main (F := Ideal))) ⟨m, fun _ => 0, ρ⟩ (fun r => ∀ c : Dev nD,
      r.2.mem ((c.tc : Thread nD τ).loc main_v32) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono ?_ (θ_run_and (unchanged m ρ) (run_main m ρ))
  intro r h c
  exact ⟨((h.2 c).2 main_v32 (Pipeline.mem_restRefs_of main_v32 (by decide) (by decide))).trans (hG c), h.1 c⟩

end Cert.RopeQWPf

end
-- ==== Proof.RopeQWClaims.lean ====
/- The claims about the gradient of the rotated queries' projection to its weight. -/
module

public import proofs.«01_k».proof.Defs
public import proofs.«01_k».proof.Proof.Gen.RopeQW.Frame
public import proofs.«01_k».proof.Proof.Gen.RopeQWIdeal.Frame
public import proofs.«01_k».proof.Proof.Gen.RopeQWRefIdeal.Run
public import proofs.«01_k».proof.Proof.Gen.Pre_ropeq_finite
public import proofs.«01_k».proof.Proof.MlaClaims
public import proofs.«01_k».proof.Proof.RopeQWValue

@[expose] public section

set_option maxRecDepth 16384

noncomputable section

namespace Cert.RopeQWPf

open Idealize.ShloMosaic Idealize.SL.Sem

theorem frame : Cert.quiescent_RopeQW := fun m ρ _ => Cert.RopeQW.Gen.frame m ρ

theorem frame_ideal : Cert.quiescent_RopeQWIdeal := fun m ρ _ => Cert.RopeQWIdeal.Gen.frame m ρ

theorem frame_ref : Cert.quiescent_RopeQWRefIdeal := fun m ρ _ =>
  (θ_run Cert.RopeQWRefIdeal.defs _ _).mono (fun r h => ⟨fun c => (h c).2, sem_eq_zero_of_no_sems (by decide) r.2⟩)
    (Cert.RopeQWRefIdeal.Value.run (F := Ideal) m ρ)

theorem frame_ideal_pre : Cert.quiescent_RopeQWIdeal_pre_ropeq_finite := fun m ρ _ => Cert.RopeQWIdeal.Gen.frame m ρ
theorem frame_ref_pre : Cert.quiescent_RopeQWRefIdeal_pre_ropeq_finite := fun m ρ _ => frame_ref m ρ trivial

theorem preserves : Cert.preserves_RopeQW_RopeQWIdeal := trivial

section
open Cert.RopeQWRefIdeal Cert.RopeQWRefIdeal.Read Cert.RopeQPf
variable (x : S8192x384.Idx → ℝ) (cos sin : S8192x32.Idx → ℝ) (ct : S8192x8x192.Idx → ℝ) (σ : ℝ)

/-- The derivative of real arguments. -/
theorem ref_real (hσ : Ideal.ofBits .f32 0x3D93CD3A#32 = (σ : EReal)) (k : Fin 384) (h : Fin 8) (e : Fin 192) :
    val_main_v48 (F := Ideal) (fun i => (x i : EReal)) (fun i => (cos i : EReal)) (fun i => (sin i : EReal)) (fun i => (ct i : EReal)) (ix3 k h e)
      = ((∑ s, x (ix2 s k) * turned cos sin ct σ s h e.val : ℝ) : EReal) := by
  have e1 : val_main_v48 (F := Ideal) (fun i => (x i : EReal)) (fun i => (cos i : EReal)) (fun i => (sin i : EReal)) (fun i => (ct i : EReal)) (ix3 k h e)
      = ∑ s, val_main_v44 (F := Ideal) (fun i => (cos i : EReal)) (fun i => (sin i : EReal)) (fun i => (ct i : EReal)) (ix3 s h e) * (x (ix2 s k) : EReal) := by
    unfold val_main_v48 val_main_v47 val_main_v46 val_main_v45
    generalize val_main_v44 (F := Ideal) _ _ _ = T
    pointwise
  rw [e1, same, ← Cert.Reals.coe_sum]
  refine Finset.sum_congr rfl fun s _ => ?_
  rw [mul_comm (x (ix2 s k)), EReal.coe_mul, ← turned_at cos sin ct σ s h e hσ]
end

open Cert.NormClaims (finite)
open MlaClaims (real_array)

theorem value : Cert.algebraic_RopeQWIdeal_RopeQWRefIdeal_pre_ropeq_finite := by
  intro m ρ m' ρ' hpre hag
  have hreal (c) : ∃ (x : Cert.RopeQWIdeal.S8192x384.Idx → ℝ) (cos sin : Cert.RopeQWIdeal.S8192x32.Idx → ℝ) (ct : Cert.RopeQWIdeal.S8192x8x192.Idx → ℝ),
      (X m c = fun i => (x i : EReal)) ∧ (COS m c = fun i => (cos i : EReal)) ∧ (SIN m c = fun i => (sin i : EReal)) ∧ (CT m c = fun i => (ct i : EReal)) := by
    obtain ⟨x, hx⟩ := real_array (finite (s := ⟨2, ![8192, 384]⟩) (X m c) _ (fun _ => rfl) (hpre c).1)
    obtain ⟨cos, hcos⟩ := real_array (finite (s := ⟨2, ![8192, 32]⟩) (COS m c) _ (fun _ => rfl) (hpre c).2.2.1)
    obtain ⟨sin, hsin⟩ := real_array (finite (s := ⟨2, ![8192, 32]⟩) (SIN m c) _ (fun _ => rfl) (hpre c).2.2.2.1)
    obtain ⟨ct, hct⟩ := real_array (finite (s := ⟨3, ![8192, 8, 192]⟩) (CT m c) _ (fun _ => rfl) (hpre c).2.2.2.2)
    exact ⟨x, cos, sin, ct, hx, hcos, hsin, hct⟩
  choose x cos sin ct hx hcos hsin hct using hreal
  obtain ⟨σ, hσ⟩ := Mla.scale_real
  refine ⟨fun c i => (dw (x c) (ct c) σ (cos c) (sin c) i : EReal),
    run m ρ _ (fun c => res m (x c) (ct c) σ (cos c) (sin c) c (hx c) (hcos c) (hsin c) (hct c) hσ),
    (θ_run _ _ _).mono (fun _ h c => ⟨(h c).1.trans ?_, (h c).2⟩) (Cert.RopeQWRefIdeal.Value.run m' ρ')⟩
  obtain ⟨a0, -, a2, a3, a4⟩ := hag c
  refine (Cert.RopeQWRefIdeal.Read.val_main_v48_eq ..).trans ?_
  rw [a0, a2, a3, a4]
  refine Eq.trans (congr (congr (congr (congrArg _ (hx c)) (hcos c)) (hsin c)) (hct c)) ?_
  funext i
  obtain ⟨k, h, e, rfl⟩ : ∃ (k : Fin 384) (h : Fin 8) (e : Fin 192), i = ix3 k h e := ⟨i 0, i 1, i 2, eq_ix3 i⟩
  exact ref_real (x c) (cos c) (sin c) (ct c) σ hσ k h e

end Cert.RopeQWPf

end
-- ==== Proof.lean ====
module

public import proofs.«01_k».proof.Defs
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Pre_norm_finite
public import proofs.«01_k».proof.Proof.Gen.NormIdeal.Value
public import proofs.«01_k».proof.Proof.Gen.NormRefIdeal.Run
public import proofs.«01_k».proof.Proof.Gen.NormRefIdeal.Read
public import proofs.«01_k».proof.Proof.Gen.MlaBwd
public import proofs.«01_k».proof.Proof.Gen.MlaBwdIdeal
public import proofs.«01_k».proof.Proof.Gen.MlaBwdIdeal.Skeleton
public import proofs.«01_k».proof.Proof.Gen.MlaBwdIdeal.Launch
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Pre_mla_finite
public import proofs.«01_k».proof.Proof.Gen.FoxBwd
public import proofs.«01_k».proof.Proof.Gen.FoxBwdIdeal
public import proofs.«01_k».proof.Proof.Gen.FoxBwdIdeal.Skeleton
public import proofs.«01_k».proof.Proof.Gen.FoxBwdIdeal.Launch
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.Pre_fox_finite
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.Norm2
public import proofs.«01_k».proof.Proof.Gen.Norm2.Skeleton
public import proofs.«01_k».proof.Proof.Gen.Norm2.Launch
public import proofs.«01_k».proof.Proof.Gen.Norm2.Points
public import proofs.«01_k».proof.Proof.Gen.Norm2.Frame
public import proofs.«01_k».proof.Proof.Gen.Norm2Ideal
public import proofs.«01_k».proof.Proof.Gen.Norm2Ideal.Skeleton
public import proofs.«01_k».proof.Proof.Gen.Norm2Ideal.Launch
public import proofs.«01_k».proof.Proof.Gen.Norm2Ideal.Points
public import proofs.«01_k».proof.Proof.Gen.Norm2Ideal.Frame
public import proofs.«01_k».proof.Proof.Gen.Norm2Ideal.Value
public import proofs.«01_k».proof.Proof.Gen.Norm2RefIdeal
public import proofs.«01_k».proof.Proof.Gen.Norm2RefIdeal.Run
public import proofs.«01_k».proof.Proof.Gen.Norm2RefIdeal.Read
public import proofs.«01_k».proof.Proof.Gen.Pre_norm2_finite
public import proofs.«01_k».proof.Proof.Gen.FoxCtx
public import proofs.«01_k».proof.Proof.Gen.FoxCtx.Skeleton
public import proofs.«01_k».proof.Proof.Gen.FoxCtx.Launch
public import proofs.«01_k».proof.Proof.Gen.FoxCtx.Points
public import proofs.«01_k».proof.Proof.Gen.FoxCtx.Frame
public import proofs.«01_k».proof.Proof.Gen.FoxCtxIdeal
public import proofs.«01_k».proof.Proof.Gen.FoxCtxIdeal.Skeleton
public import proofs.«01_k».proof.Proof.Gen.FoxCtxIdeal.Launch
public import proofs.«01_k».proof.Proof.Gen.FoxCtxIdeal.Points
public import proofs.«01_k».proof.Proof.Gen.FoxCtxIdeal.Frame
public import proofs.«01_k».proof.Proof.Gen.FoxCtxRefIdeal
public import proofs.«01_k».proof.Proof.Gen.FoxCtxRefIdeal.Run
public import proofs.«01_k».proof.Proof.Gen.FoxCtxRefIdeal.Read
public import proofs.«01_k».proof.Proof.Gen.Pre_foxctx_finite
public import proofs.«01_k».proof.Proof.Gen.NormQ
public import proofs.«01_k».proof.Proof.Gen.NormQ.Skeleton
public import proofs.«01_k».proof.Proof.Gen.NormQ.Launch
public import proofs.«01_k».proof.Proof.Gen.NormQ.Points
public import proofs.«01_k».proof.Proof.Gen.NormQ.Frame
public import proofs.«01_k».proof.Proof.Gen.NormQIdeal
public import proofs.«01_k».proof.Proof.Gen.NormQIdeal.Skeleton
public import proofs.«01_k».proof.Proof.Gen.NormQIdeal.Launch
public import proofs.«01_k».proof.Proof.Gen.NormQIdeal.Points
public import proofs.«01_k».proof.Proof.Gen.NormQIdeal.Frame
public import proofs.«01_k».proof.Proof.Gen.NormQIdeal.Value
public import proofs.«01_k».proof.Proof.Gen.NormQRefIdeal
public import proofs.«01_k».proof.Proof.Gen.NormQRefIdeal.Run
public import proofs.«01_k».proof.Proof.Gen.NormQRefIdeal.Read
public import proofs.«01_k».proof.Proof.Gen.Pre_normq_finite
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.LatentIdeal.Value
public import proofs.«01_k».proof.Proof.Gen.LatentRefIdeal
public import proofs.«01_k».proof.Proof.Gen.LatentRefIdeal.Run
public import proofs.«01_k».proof.Proof.Gen.LatentRefIdeal.Read
public import proofs.«01_k».proof.Proof.Gen.Pre_latent_finite
public import proofs.«01_k».proof.Proof.Gen.RopeK
public import proofs.«01_k».proof.Proof.Gen.RopeK.Skeleton
public import proofs.«01_k».proof.Proof.Gen.RopeK.Launch
public import proofs.«01_k».proof.Proof.Gen.RopeK.Points
public import proofs.«01_k».proof.Proof.Gen.RopeK.Frame
public import proofs.«01_k».proof.Proof.Gen.RopeKIdeal
public import proofs.«01_k».proof.Proof.Gen.RopeKIdeal.Skeleton
public import proofs.«01_k».proof.Proof.Gen.RopeKIdeal.Launch
public import proofs.«01_k».proof.Proof.Gen.RopeKIdeal.Points
public import proofs.«01_k».proof.Proof.Gen.RopeKIdeal.Frame
public import proofs.«01_k».proof.Proof.Gen.RopeKRefIdeal
public import proofs.«01_k».proof.Proof.Gen.RopeKRefIdeal.Run
public import proofs.«01_k».proof.Proof.Gen.RopeKRefIdeal.Read
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxRefIdeal
public import proofs.«01_k».proof.Proof.Gen.CtxRefIdeal.Run
public import proofs.«01_k».proof.Proof.Gen.CtxRefIdeal.Read
public import proofs.«01_k».proof.Proof.Gen.Pre_ctx_finite
public import proofs.«01_k».proof.Proof.Gen.RopeQX.Frame
public import proofs.«01_k».proof.Proof.Gen.RopeQXIdeal.Frame
public import proofs.«01_k».proof.Proof.Gen.RopeQXIdeal.Value
public import proofs.«01_k».proof.Proof.Gen.RopeQXRefIdeal.Run
public import proofs.«01_k».proof.Proof.Gen.RopeQXRefIdeal.Read
public import proofs.«01_k».proof.Proof.Gen.RopeQW.Frame
public import proofs.«01_k».proof.Proof.Gen.RopeQWIdeal.Frame
public import proofs.«01_k».proof.Proof.Gen.RopeQWRefIdeal.Run
public import proofs.«01_k».proof.Proof.Gen.RopeQWRefIdeal.Read
public import proofs.«01_k».proof.Proof.Gen.Pre_ropeq_finite
public import proofs.«01_k».proof.Proof.NormClaims
public import proofs.«01_k».proof.Proof.MlaClaims
public import proofs.«01_k».proof.Proof.FoxClaims
public import proofs.«01_k».proof.Proof.LossClaims
public import proofs.«01_k».proof.Proof.ActClaims
public import proofs.«01_k».proof.Proof.Norm2Claims
public import proofs.«01_k».proof.Proof.LatentClaims
public import proofs.«01_k».proof.Proof.NormQClaims
public import proofs.«01_k».proof.Proof.FoxCtxClaims
public import proofs.«01_k».proof.Proof.RopeKClaims
public import proofs.«01_k».proof.Proof.CtxClaims
public import proofs.«01_k».proof.Proof.RopeQXClaims
public import proofs.«01_k».proof.Proof.RopeQWClaims
public import Idealize.ShloMosaic.Adequacy
public import Idealize.ShloMosaic.Init

@[expose] public section

noncomputable section

namespace Cert.Proof

open Idealize.ShloMosaic Idealize.SL.Sem Cert.Norm

theorem claim : Cert.Claim := ⟨
    Cert.Norm.Gen.facts, Cert.NormIdeal.Gen.facts, Cert.NormRefIdeal.Gen.facts, Cert.MlaBwd.Gen.facts, Cert.MlaBwdIdeal.Gen.facts,
    Cert.MlaRefIdeal.Gen.facts, Cert.FoxBwd.Gen.facts, Cert.FoxBwdIdeal.Gen.facts, Cert.FoxRefIdeal.Gen.facts, Cert.Loss.Gen.facts,
    Cert.LossIdeal.Gen.facts, Cert.LossRefIdeal.Gen.facts, Cert.Act.Gen.facts, Cert.ActIdeal.Gen.facts, Cert.ActRefIdeal.Gen.facts,
    Cert.Ctx.Gen.facts, Cert.CtxIdeal.Gen.facts, Cert.CtxRefIdeal.Gen.facts,
    Cert.Norm2.Gen.facts, Cert.Norm2Ideal.Gen.facts, Cert.Norm2RefIdeal.Gen.facts, Cert.Latent.Gen.facts, Cert.LatentIdeal.Gen.facts,
    Cert.LatentRefIdeal.Gen.facts, Cert.RopeK.Gen.facts, Cert.RopeKIdeal.Gen.facts, Cert.RopeKRefIdeal.Gen.facts,
    Cert.RopeQX.Gen.facts, Cert.RopeQXIdeal.Gen.facts, Cert.RopeQXRefIdeal.Gen.facts,
    Cert.RopeQW.Gen.facts, Cert.RopeQWIdeal.Gen.facts, Cert.RopeQWRefIdeal.Gen.facts,
    Cert.NormQ.Gen.facts, Cert.NormQIdeal.Gen.facts, Cert.NormQRefIdeal.Gen.facts,
    Cert.FoxCtx.Gen.facts, Cert.FoxCtxIdeal.Gen.facts, Cert.FoxCtxRefIdeal.Gen.facts,
    Cert.Pre_norm_finite.Gen.facts, Cert.Pre_mla_finite.Gen.facts, Cert.Pre_fox_finite.Gen.facts, Cert.Pre_loss_finite.Gen.facts, Cert.Pre_ctx_finite.Gen.facts,
    Cert.Pre_norm2_finite.Gen.facts, Cert.Pre_latent_finite.Gen.facts, Cert.Pre_ropeq_finite.Gen.facts, Cert.Pre_normq_finite.Gen.facts, Cert.Pre_foxctx_finite.Gen.facts,
    NormClaims.frame, NormClaims.frame_ideal, NormClaims.frame_ideal_pre, NormClaims.frame_ref, NormClaims.frame_ref_pre,
    MlaClaims.frame, MlaClaims.frame_ideal, MlaClaims.frame_ideal_pre, MlaClaims.frame_ref, MlaClaims.frame_ref_pre,
    FoxClaims.frame, FoxClaims.frame_ideal, FoxClaims.frame_ideal_pre, FoxClaims.frame_ref, FoxClaims.frame_ref_pre,
    LossPf.frame, LossPf.frame_ideal, LossPf.frame_ideal_pre, LossPf.frame_ref, LossPf.frame_ref_pre,
    ActPf.frame, ActPf.frame_ideal, ActPf.frame_ref,
    CtxPf.frame, CtxPf.frame_ideal, CtxPf.frame_ideal_pre, CtxPf.frame_ref, CtxPf.frame_ref_pre,
    Norm2Pf.frame, Norm2Pf.frame_ideal, Norm2Pf.frame_ideal_pre, Norm2Pf.frame_ref, Norm2Pf.frame_ref_pre,
    LatentPf.frame, LatentPf.frame_ideal, LatentPf.frame_ideal_pre, LatentPf.frame_ref, LatentPf.frame_ref_pre,
    RopeKPf.frame, RopeKPf.frame_ideal, RopeKPf.frame_ref,
    RopeQXPf.frame, RopeQXPf.frame_ideal, RopeQXPf.frame_ideal_pre, RopeQXPf.frame_ref, RopeQXPf.frame_ref_pre,
    RopeQWPf.frame, RopeQWPf.frame_ideal, RopeQWPf.frame_ideal_pre, RopeQWPf.frame_ref, RopeQWPf.frame_ref_pre,
    NormQPf.frame, NormQPf.frame_ideal, NormQPf.frame_ideal_pre, NormQPf.frame_ref, NormQPf.frame_ref_pre,
    FoxCtxPf.frame, FoxCtxPf.frame_ideal, FoxCtxPf.frame_ideal_pre, FoxCtxPf.frame_ref, FoxCtxPf.frame_ref_pre,
    trivial, NormClaims.value, MlaClaims.preserves, MlaClaims.value, FoxClaims.preserves, FoxClaims.value, trivial, LossPf.value,
    trivial, ActPf.value, trivial, CtxPf.value, trivial, Norm2Pf.value, trivial, LatentPf.value, trivial, RopeKPf.value, RopeQXPf.preserves, RopeQXPf.value, RopeQWPf.preserves, RopeQWPf.value, trivial, NormQPf.value, FoxCtxPf.preserves, FoxCtxPf.value⟩

end Cert.Proof

end
